-- ==== Defs.lean ====
def Pre_Swap (m : (ℓ : Loc Cert.Swap.nD Cert.Swap.τ Cert.Swap.sig) → Buf (Elt Bits) ℓ) : Prop :=
  True

def Pre_SwapIdeal (m : (ℓ : Loc Cert.SwapIdeal.nD Cert.SwapIdeal.τ Cert.SwapIdeal.sig) → Buf (Elt Ideal) ℓ) : Prop :=
  True

def Pre_SwapRefIdeal (m : (ℓ : Loc Cert.SwapRefIdeal.nD Cert.SwapRefIdeal.τ Cert.SwapRefIdeal.sig) → Buf (Elt Ideal) ℓ) : Prop :=
  True

def Pre_SwapRef (m : (ℓ : Loc Cert.SwapRef.nD Cert.SwapRef.τ Cert.SwapRef.sig) → Buf (Elt Bits) ℓ) : Prop :=
  True

def Pre_Exchange (m : (ℓ : Loc Cert.Exchange.nD Cert.Exchange.τ Cert.Exchange.sig) → Buf (Elt Bits) ℓ) : Prop :=
  True

def Pre_ExchangeIdeal (m : (ℓ : Loc Cert.ExchangeIdeal.nD Cert.ExchangeIdeal.τ Cert.ExchangeIdeal.sig) → Buf (Elt Ideal) ℓ) : Prop :=
  True

def Pre_ExchangeRefIdeal (m : (ℓ : Loc Cert.ExchangeRefIdeal.nD Cert.ExchangeRefIdeal.τ Cert.ExchangeRefIdeal.sig) → Buf (Elt Ideal) ℓ) : Prop :=
  True

def Pre_ExchangeRef (m : (ℓ : Loc Cert.ExchangeRef.nD Cert.ExchangeRef.τ Cert.ExchangeRef.sig) → Buf (Elt Bits) ℓ) : Prop :=
  True

def Pre_Join (m : (ℓ : Loc Cert.Join.nD Cert.Join.τ Cert.Join.sig) → Buf (Elt Bits) ℓ) : Prop :=
  True

def Pre_JoinIdeal (m : (ℓ : Loc Cert.JoinIdeal.nD Cert.JoinIdeal.τ Cert.JoinIdeal.sig) → Buf (Elt Ideal) ℓ) : Prop :=
  True

def Pre_JoinRefIdeal (m : (ℓ : Loc Cert.JoinRefIdeal.nD Cert.JoinRefIdeal.τ Cert.JoinRefIdeal.sig) → Buf (Elt Ideal) ℓ) : Prop :=
  True

def Pre_JoinRef (m : (ℓ : Loc Cert.JoinRef.nD Cert.JoinRef.τ Cert.JoinRef.sig) → Buf (Elt Bits) ℓ) : Prop :=
  True

def Pre_Gather (m : (ℓ : Loc Cert.Gather.nD Cert.Gather.τ Cert.Gather.sig) → Buf (Elt Bits) ℓ) : Prop :=
  True

def Pre_GatherIdeal (m : (ℓ : Loc Cert.GatherIdeal.nD Cert.GatherIdeal.τ Cert.GatherIdeal.sig) → Buf (Elt Ideal) ℓ) : Prop :=
  True

def Pre_GatherRefIdeal (m : (ℓ : Loc Cert.GatherRefIdeal.nD Cert.GatherRefIdeal.τ Cert.GatherRefIdeal.sig) → Buf (Elt Ideal) ℓ) : Prop :=
  True

def Pre_GatherRef (m : (ℓ : Loc Cert.GatherRef.nD Cert.GatherRef.τ Cert.GatherRef.sig) → Buf (Elt Bits) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamBranch (m : (ℓ : Loc Cert.AdamBranch.nD Cert.AdamBranch.τ Cert.AdamBranch.sig) → Buf (Elt Bits) ℓ) : Prop :=
  True

def Pre_AdamBranchIdeal (m : (ℓ : Loc Cert.AdamBranchIdeal.nD Cert.AdamBranchIdeal.τ Cert.AdamBranchIdeal.sig) → Buf (Elt Ideal) ℓ) : Prop :=
  True

def Pre_AdamBranchRefIdeal (m : (ℓ : Loc Cert.AdamBranchRefIdeal.nD Cert.AdamBranchRefIdeal.τ Cert.AdamBranchRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamGateUp (m : (ℓ : Loc Cert.AdamGateUp.nD Cert.AdamGateUp.τ Cert.AdamGateUp.sig) → Buf (Elt Bits) ℓ) : Prop :=
  True

def Pre_AdamGateUpIdeal (m : (ℓ : Loc Cert.AdamGateUpIdeal.nD Cert.AdamGateUpIdeal.τ Cert.AdamGateUpIdeal.sig) → Buf (Elt Ideal) ℓ) : Prop :=
  True

def Pre_AdamGateUpRefIdeal (m : (ℓ : Loc Cert.AdamGateUpRefIdeal.nD Cert.AdamGateUpRefIdeal.τ Cert.AdamGateUpRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamProj (m : (ℓ : Loc Cert.AdamProj.nD Cert.AdamProj.τ Cert.AdamProj.sig) → Buf (Elt Bits) ℓ) : Prop :=
  True

def Pre_AdamProjIdeal (m : (ℓ : Loc Cert.AdamProjIdeal.nD Cert.AdamProjIdeal.τ Cert.AdamProjIdeal.sig) → Buf (Elt Ideal) ℓ) : Prop :=
  True

def Pre_AdamProjRefIdeal (m : (ℓ : Loc Cert.AdamProjRefIdeal.nD Cert.AdamProjRefIdeal.τ Cert.AdamProjRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_Sum (m : (ℓ : Loc Cert.Sum.nD Cert.Sum.τ Cert.Sum.sig) → Buf (Elt Bits) ℓ) : Prop :=
  True

def Pre_SumIdeal (m : (ℓ : Loc Cert.SumIdeal.nD Cert.SumIdeal.τ Cert.SumIdeal.sig) → Buf (Elt Ideal) ℓ) : Prop :=
  True

def Pre_SumRefIdeal (m : (ℓ : Loc Cert.SumRefIdeal.nD Cert.SumRefIdeal.τ Cert.SumRefIdeal.sig) → Buf (Elt Ideal) ℓ) : Prop :=
  True

def Pre_SumRef (m : (ℓ : Loc Cert.SumRef.nD Cert.SumRef.τ Cert.SumRef.sig) → Buf (Elt Bits) ℓ) : Prop :=
  True

def Pre_Input (m : (ℓ : Loc Cert.Input.nD Cert.Input.τ Cert.Input.sig) → Buf (Elt Bits) ℓ) : Prop :=
  True

def Pre_InputIdeal (m : (ℓ : Loc Cert.InputIdeal.nD Cert.InputIdeal.τ Cert.InputIdeal.sig) → Buf (Elt Ideal) ℓ) : Prop :=
  True

def Pre_InputRefIdeal (m : (ℓ : Loc Cert.InputRefIdeal.nD Cert.InputRefIdeal.τ Cert.InputRefIdeal.sig) → Buf (Elt Ideal) ℓ) : Prop :=
  True

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_DwDownRefIdeal (m : (ℓ : Loc Cert.DwDownRefIdeal.nD Cert.DwDownRefIdeal.τ Cert.DwDownRefIdeal.sig) → Buf (Elt Ideal) ℓ) : Prop :=
  True

def Pre_Head (m : (ℓ : Loc Cert.Head.nD Cert.Head.τ Cert.Head.sig) → Buf (Elt Bits) ℓ) : Prop :=
  True

def Pre_HeadIdeal (m : (ℓ : Loc Cert.HeadIdeal.nD Cert.HeadIdeal.τ Cert.HeadIdeal.sig) → Buf (Elt Ideal) ℓ) : Prop :=
  True

def Pre_HeadRefIdeal (m : (ℓ : Loc Cert.HeadRefIdeal.nD Cert.HeadRefIdeal.τ Cert.HeadRefIdeal.sig) → Buf (Elt Ideal) ℓ) : Prop :=
  True

def Pre_FfnBack (m : (ℓ : Loc Cert.FfnBack.nD Cert.FfnBack.τ Cert.FfnBack.sig) → Buf (Elt Bits) ℓ) : Prop :=
  True

def Pre_FfnBackIdeal (m : (ℓ : Loc Cert.FfnBackIdeal.nD Cert.FfnBackIdeal.τ Cert.FfnBackIdeal.sig) → Buf (Elt Ideal) ℓ) : Prop :=
  True

def Pre_FfnBackRefIdeal (m : (ℓ : Loc Cert.FfnBackRefIdeal.nD Cert.FfnBackRefIdeal.τ Cert.FfnBackRefIdeal.sig) → Buf (Elt Ideal) ℓ) : Prop :=
  True

def Pre_Mid (m : (ℓ : Loc Cert.Mid.nD Cert.Mid.τ Cert.Mid.sig) → Buf (Elt Bits) ℓ) : Prop :=
  True

def Pre_MidIdeal (m : (ℓ : Loc Cert.MidIdeal.nD Cert.MidIdeal.τ Cert.MidIdeal.sig) → Buf (Elt Ideal) ℓ) : Prop :=
  True

def Pre_MidRefIdeal (m : (ℓ : Loc Cert.MidRefIdeal.nD Cert.MidRefIdeal.τ Cert.MidRefIdeal.sig) → Buf (Elt Ideal) ℓ) : Prop :=
  True

def Pre_MidBack (m : (ℓ : Loc Cert.MidBack.nD Cert.MidBack.τ Cert.MidBack.sig) → Buf (Elt Bits) ℓ) : Prop :=
  True

def Pre_MidBackIdeal (m : (ℓ : Loc Cert.MidBackIdeal.nD Cert.MidBackIdeal.τ Cert.MidBackIdeal.sig) → Buf (Elt Ideal) ℓ) : Prop :=
  True

def Pre_MidBackRefIdeal (m : (ℓ : Loc Cert.MidBackRefIdeal.nD Cert.MidBackRefIdeal.τ Cert.MidBackRefIdeal.sig) → Buf (Elt Ideal) ℓ) : Prop :=
  True

def Pre_DwGate (m : (ℓ : Loc Cert.DwGate.nD Cert.DwGate.τ Cert.DwGate.sig) → Buf (Elt Bits) ℓ) : Prop :=
  True

def Pre_DwGateIdeal (m : (ℓ : Loc Cert.DwGateIdeal.nD Cert.DwGateIdeal.τ Cert.DwGateIdeal.sig) → Buf (Elt Ideal) ℓ) : Prop :=
  True

def Pre_DwGateRefIdeal (m : (ℓ : Loc Cert.DwGateRefIdeal.nD Cert.DwGateRefIdeal.τ Cert.DwGateRefIdeal.sig) → Buf (Elt Ideal) ℓ) : Prop :=
  True

def Pre_DwIn2048 (m : (ℓ : Loc Cert.DwIn2048.nD Cert.DwIn2048.τ Cert.DwIn2048.sig) → Buf (Elt Bits) ℓ) : Prop :=
  True

def Pre_DwIn2048Ideal (m : (ℓ : Loc Cert.DwIn2048Ideal.nD Cert.DwIn2048Ideal.τ Cert.DwIn2048Ideal.sig) → Buf (Elt Ideal) ℓ) : Prop :=
  True

def Pre_DwIn2048RefIdeal (m : (ℓ : Loc Cert.DwIn2048RefIdeal.nD Cert.DwIn2048RefIdeal.τ Cert.DwIn2048RefIdeal.sig) → Buf (Elt Ideal) ℓ) : Prop :=
  True

def Pre_DwIn1536 (m : (ℓ : Loc Cert.DwIn1536.nD Cert.DwIn1536.τ Cert.DwIn1536.sig) → Buf (Elt Bits) ℓ) : Prop :=
  True

def Pre_DwIn1536Ideal (m : (ℓ : Loc Cert.DwIn1536Ideal.nD Cert.DwIn1536Ideal.τ Cert.DwIn1536Ideal.sig) → Buf (Elt Ideal) ℓ) : Prop :=
  True

def Pre_DwIn1536RefIdeal (m : (ℓ : Loc Cert.DwIn1536RefIdeal.nD Cert.DwIn1536RefIdeal.τ Cert.DwIn1536RefIdeal.sig) → Buf (Elt Ideal) ℓ) : Prop :=
  True

def Pre_DwIn512 (m : (ℓ : Loc Cert.DwIn512.nD Cert.DwIn512.τ Cert.DwIn512.sig) → Buf (Elt Bits) ℓ) : Prop :=
  True

def Pre_DwIn512Ideal (m : (ℓ : Loc Cert.DwIn512Ideal.nD Cert.DwIn512Ideal.τ Cert.DwIn512Ideal.sig) → Buf (Elt Ideal) ℓ) : Prop :=
  True

def Pre_DwIn512RefIdeal (m : (ℓ : Loc Cert.DwIn512RefIdeal.nD Cert.DwIn512RefIdeal.τ Cert.DwIn512RefIdeal.sig) → Buf (Elt Ideal) ℓ) : Prop :=
  True

def Pre_DwIn128 (m : (ℓ : Loc Cert.DwIn128.nD Cert.DwIn128.τ Cert.DwIn128.sig) → Buf (Elt Bits) ℓ) : Prop :=
  True

def Pre_DwIn128Ideal (m : (ℓ : Loc Cert.DwIn128Ideal.nD Cert.DwIn128Ideal.τ Cert.DwIn128Ideal.sig) → Buf (Elt Ideal) ℓ) : Prop :=
  True

def Pre_DwIn128RefIdeal (m : (ℓ : Loc Cert.DwIn128RefIdeal.nD Cert.DwIn128RefIdeal.τ Cert.DwIn128RefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_ConvBack (m : (ℓ : Loc Cert.ConvBack.nD Cert.ConvBack.τ Cert.ConvBack.sig) → Buf (Elt Bits) ℓ) : Prop :=
  True

def Pre_ConvBackIdeal (m : (ℓ : Loc Cert.ConvBackIdeal.nD Cert.ConvBackIdeal.τ Cert.ConvBackIdeal.sig) → Buf (Elt Ideal) ℓ) : Prop :=
  True

def Pre_ConvBackRefIdeal (m : (ℓ : Loc Cert.ConvBackRefIdeal.nD Cert.ConvBackRefIdeal.τ Cert.ConvBackRefIdeal.sig) → Buf (Elt Ideal) ℓ) : Prop :=
  True

def Pre_Att (m : (ℓ : Loc Cert.Att.nD Cert.Att.τ Cert.Att.sig) → Buf (Elt Bits) ℓ) : Prop :=
  True

def Pre_AttIdeal (m : (ℓ : Loc Cert.AttIdeal.nD Cert.AttIdeal.τ Cert.AttIdeal.sig) → Buf (Elt Ideal) ℓ) : Prop :=
  True

def Pre_AttRefIdeal (m : (ℓ : Loc Cert.AttRefIdeal.nD Cert.AttRefIdeal.τ Cert.AttRefIdeal.sig) → Buf (Elt Ideal) ℓ) : Prop :=
  True

def quiescent_Swap [hSwap : Cert.Swap.Facts] : Prop :=
  ∀ (m : (ℓ : Loc Cert.Swap.nD Cert.Swap.τ Cert.Swap.sig) → Buf (Elt Bits) ℓ) (g : Dev Cert.Swap.nD → PrngReg), Pre_Swap m →
    θ_run (Cert.Swap.defs (F := Bits)) (onTc (τ := Cert.Swap.τ) (Cert.Swap.main (F := Bits))) ⟨m, fun _ => 0, g⟩ (fun r => (∀ c : Dev Cert.Swap.nD,
      r.2.mem ((c.tc : Thread Cert.Swap.nD Cert.Swap.τ).loc Cert.Swap.main_arg0) = m ((c.tc : Thread Cert.Swap.nD Cert.Swap.τ).loc Cert.Swap.main_arg0))
      ∧ r.2.sem = fun _ => 0)

def quiescent_SwapIdeal [hSwapIdeal : Cert.SwapIdeal.Facts] : Prop :=
  ∀ (m : (ℓ : Loc Cert.SwapIdeal.nD Cert.SwapIdeal.τ Cert.SwapIdeal.sig) → Buf (Elt Ideal) ℓ) (g : Dev Cert.SwapIdeal.nD → PrngReg), Pre_SwapIdeal m →
    θ_run (Cert.SwapIdeal.defs (F := Ideal)) (onTc (τ := Cert.SwapIdeal.τ) (Cert.SwapIdeal.main (F := Ideal))) ⟨m, fun _ => 0, g⟩ (fun r => (∀ c : Dev Cert.SwapIdeal.nD,
      r.2.mem ((c.tc : Thread Cert.SwapIdeal.nD Cert.SwapIdeal.τ).loc Cert.SwapIdeal.main_arg0) = m ((c.tc : Thread Cert.SwapIdeal.nD Cert.SwapIdeal.τ).loc Cert.SwapIdeal.main_arg0))
      ∧ r.2.sem = fun _ => 0)

def quiescent_SwapRefIdeal [hSwapRefIdeal : Cert.SwapRefIdeal.Facts] : Prop :=
  ∀ (m : (ℓ : Loc Cert.SwapRefIdeal.nD Cert.SwapRefIdeal.τ Cert.SwapRefIdeal.sig) → Buf (Elt Ideal) ℓ) (g : Dev Cert.SwapRefIdeal.nD → PrngReg), Pre_SwapRefIdeal m →
    θ_run (Cert.SwapRefIdeal.defs (F := Ideal)) (onTc (τ := Cert.SwapRefIdeal.τ) (Cert.SwapRefIdeal.main (F := Ideal))) ⟨m, fun _ => 0, g⟩ (fun r => (∀ c : Dev Cert.SwapRefIdeal.nD,
      r.2.mem ((c.tc : Thread Cert.SwapRefIdeal.nD Cert.SwapRefIdeal.τ).loc Cert.SwapRefIdeal.main_arg0) = m ((c.tc : Thread Cert.SwapRefIdeal.nD Cert.SwapRefIdeal.τ).loc Cert.SwapRefIdeal.main_arg0))
      ∧ r.2.sem = fun _ => 0)

def quiescent_SwapRef [hSwapRef : Cert.SwapRef.Facts] : Prop :=
  ∀ (m : (ℓ : Loc Cert.SwapRef.nD Cert.SwapRef.τ Cert.SwapRef.sig) → Buf (Elt Bits) ℓ) (g : Dev Cert.SwapRef.nD → PrngReg), Pre_SwapRef m →
    θ_run (Cert.SwapRef.defs (F := Bits)) (onTc (τ := Cert.SwapRef.τ) (Cert.SwapRef.main (F := Bits))) ⟨m, fun _ => 0, g⟩ (fun r => (∀ c : Dev Cert.SwapRef.nD,
      r.2.mem ((c.tc : Thread Cert.SwapRef.nD Cert.SwapRef.τ).loc Cert.SwapRef.main_arg0) = m ((c.tc : Thread Cert.SwapRef.nD Cert.SwapRef.τ).loc Cert.SwapRef.main_arg0))
      ∧ r.2.sem = fun _ => 0)

def quiescent_Exchange [hExchange : Cert.Exchange.Facts] : Prop :=
  ∀ (m : (ℓ : Loc Cert.Exchange.nD Cert.Exchange.τ Cert.Exchange.sig) → Buf (Elt Bits) ℓ) (g : Dev Cert.Exchange.nD → PrngReg), Pre_Exchange m →
    θ_run (Cert.Exchange.defs (F := Bits)) (onTc (τ := Cert.Exchange.τ) (Cert.Exchange.main (F := Bits))) ⟨m, fun _ => 0, g⟩ (fun r => (∀ c : Dev Cert.Exchange.nD,
      r.2.mem ((c.tc : Thread Cert.Exchange.nD Cert.Exchange.τ).loc Cert.Exchange.main_arg0) = m ((c.tc : Thread Cert.Exchange.nD Cert.Exchange.τ).loc Cert.Exchange.main_arg0))
      ∧ r.2.sem = fun _ => 0)

def quiescent_ExchangeIdeal [hExchangeIdeal : Cert.ExchangeIdeal.Facts] : Prop :=
  ∀ (m : (ℓ : Loc Cert.ExchangeIdeal.nD Cert.ExchangeIdeal.τ Cert.ExchangeIdeal.sig) → Buf (Elt Ideal) ℓ) (g : Dev Cert.ExchangeIdeal.nD → PrngReg), Pre_ExchangeIdeal m →
    θ_run (Cert.ExchangeIdeal.defs (F := Ideal)) (onTc (τ := Cert.ExchangeIdeal.τ) (Cert.ExchangeIdeal.main (F := Ideal))) ⟨m, fun _ => 0, g⟩ (fun r => (∀ c : Dev Cert.ExchangeIdeal.nD,
      r.2.mem ((c.tc : Thread Cert.ExchangeIdeal.nD Cert.ExchangeIdeal.τ).loc Cert.ExchangeIdeal.main_arg0) = m ((c.tc : Thread Cert.ExchangeIdeal.nD Cert.ExchangeIdeal.τ).loc Cert.ExchangeIdeal.main_arg0))
      ∧ r.2.sem = fun _ => 0)

def quiescent_ExchangeRefIdeal [hExchangeRefIdeal : Cert.ExchangeRefIdeal.Facts] : Prop :=
  ∀ (m : (ℓ : Loc Cert.ExchangeRefIdeal.nD Cert.ExchangeRefIdeal.τ Cert.ExchangeRefIdeal.sig) → Buf (Elt Ideal) ℓ) (g : Dev Cert.ExchangeRefIdeal.nD → PrngReg), Pre_ExchangeRefIdeal m →
    θ_run (Cert.ExchangeRefIdeal.defs (F := Ideal)) (onTc (τ := Cert.ExchangeRefIdeal.τ) (Cert.ExchangeRefIdeal.main (F := Ideal))) ⟨m, fun _ => 0, g⟩ (fun r => (∀ c : Dev Cert.ExchangeRefIdeal.nD,
      r.2.mem ((c.tc : Thread Cert.ExchangeRefIdeal.nD Cert.ExchangeRefIdeal.τ).loc Cert.ExchangeRefIdeal.main_arg0) = m ((c.tc : Thread Cert.ExchangeRefIdeal.nD Cert.ExchangeRefIdeal.τ).loc Cert.ExchangeRefIdeal.main_arg0))
      ∧ r.2.sem = fun _ => 0)

def quiescent_ExchangeRef [hExchangeRef : Cert.ExchangeRef.Facts] : Prop :=
  ∀ (m : (ℓ : Loc Cert.ExchangeRef.nD Cert.ExchangeRef.τ Cert.ExchangeRef.sig) → Buf (Elt Bits) ℓ) (g : Dev Cert.ExchangeRef.nD → PrngReg), Pre_ExchangeRef m →
    θ_run (Cert.ExchangeRef.defs (F := Bits)) (onTc (τ := Cert.ExchangeRef.τ) (Cert.ExchangeRef.main (F := Bits))) ⟨m, fun _ => 0, g⟩ (fun r => (∀ c : Dev Cert.ExchangeRef.nD,
      r.2.mem ((c.tc : Thread Cert.ExchangeRef.nD Cert.ExchangeRef.τ).loc Cert.ExchangeRef.main_arg0) = m ((c.tc : Thread Cert.ExchangeRef.nD Cert.ExchangeRef.τ).loc Cert.ExchangeRef.main_arg0))
      ∧ r.2.sem = fun _ => 0)

def quiescent_Join [hJoin : Cert.Join.Facts] : Prop :=
  ∀ (m : (ℓ : Loc Cert.Join.nD Cert.Join.τ Cert.Join.sig) → Buf (Elt Bits) ℓ) (g : Dev Cert.Join.nD → PrngReg), Pre_Join m →
    θ_run (Cert.Join.defs (F := Bits)) (onTc (τ := Cert.Join.τ) (Cert.Join.main (F := Bits))) ⟨m, fun _ => 0, g⟩ (fun r => (∀ c : Dev Cert.Join.nD,
      r.2.mem ((c.tc : Thread Cert.Join.nD Cert.Join.τ).loc Cert.Join.main_arg0) = m ((c.tc : Thread Cert.Join.nD Cert.Join.τ).loc Cert.Join.main_arg0))
      ∧ r.2.sem = fun _ => 0)

def quiescent_JoinIdeal [hJoinIdeal : Cert.JoinIdeal.Facts] : Prop :=
  ∀ (m : (ℓ : Loc Cert.JoinIdeal.nD Cert.JoinIdeal.τ Cert.JoinIdeal.sig) → Buf (Elt Ideal) ℓ) (g : Dev Cert.JoinIdeal.nD → PrngReg), Pre_JoinIdeal m →
    θ_run (Cert.JoinIdeal.defs (F := Ideal)) (onTc (τ := Cert.JoinIdeal.τ) (Cert.JoinIdeal.main (F := Ideal))) ⟨m, fun _ => 0, g⟩ (fun r => (∀ c : Dev Cert.JoinIdeal.nD,
      r.2.mem ((c.tc : Thread Cert.JoinIdeal.nD Cert.JoinIdeal.τ).loc Cert.JoinIdeal.main_arg0) = m ((c.tc : Thread Cert.JoinIdeal.nD Cert.JoinIdeal.τ).loc Cert.JoinIdeal.main_arg0))
      ∧ r.2.sem = fun _ => 0)

def quiescent_JoinRefIdeal [hJoinRefIdeal : Cert.JoinRefIdeal.Facts] : Prop :=
  ∀ (m : (ℓ : Loc Cert.JoinRefIdeal.nD Cert.JoinRefIdeal.τ Cert.JoinRefIdeal.sig) → Buf (Elt Ideal) ℓ) (g : Dev Cert.JoinRefIdeal.nD → PrngReg), Pre_JoinRefIdeal m →
    θ_run (Cert.JoinRefIdeal.defs (F := Ideal)) (onTc (τ := Cert.JoinRefIdeal.τ) (Cert.JoinRefIdeal.main (F := Ideal))) ⟨m, fun _ => 0, g⟩ (fun r => (∀ c : Dev Cert.JoinRefIdeal.nD,
      r.2.mem ((c.tc : Thread Cert.JoinRefIdeal.nD Cert.JoinRefIdeal.τ).loc Cert.JoinRefIdeal.main_arg0) = m ((c.tc : Thread Cert.JoinRefIdeal.nD Cert.JoinRefIdeal.τ).loc Cert.JoinRefIdeal.main_arg0))
      ∧ r.2.sem = fun _ => 0)

def quiescent_JoinRef [hJoinRef : Cert.JoinRef.Facts] : Prop :=
  ∀ (m : (ℓ : Loc Cert.JoinRef.nD Cert.JoinRef.τ Cert.JoinRef.sig) → Buf (Elt Bits) ℓ) (g : Dev Cert.JoinRef.nD → PrngReg), Pre_JoinRef m →
    θ_run (Cert.JoinRef.defs (F := Bits)) (onTc (τ := Cert.JoinRef.τ) (Cert.JoinRef.main (F := Bits))) ⟨m, fun _ => 0, g⟩ (fun r => (∀ c : Dev Cert.JoinRef.nD,
      r.2.mem ((c.tc : Thread Cert.JoinRef.nD Cert.JoinRef.τ).loc Cert.JoinRef.main_arg0) = m ((c.tc : Thread Cert.JoinRef.nD Cert.JoinRef.τ).loc Cert.JoinRef.main_arg0))
      ∧ r.2.sem = fun _ => 0)

def quiescent_Gather [hGather : Cert.Gather.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (onTc (τ := Cert.Gather.τ) (Cert.Gather.main (F := Bits))) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0))
      ∧ r.2.sem = fun _ => 0)

def quiescent_GatherIdeal [hGatherIdeal : Cert.GatherIdeal.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (onTc (τ := Cert.GatherIdeal.τ) (Cert.GatherIdeal.main (F := Ideal))) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0))
      ∧ r.2.sem = fun _ => 0)

def quiescent_GatherRefIdeal [hGatherRefIdeal : Cert.GatherRefIdeal.Facts] : Prop :=
  ∀ (m : (ℓ : Loc Cert.GatherRefIdeal.nD Cert.GatherRefIdeal.τ Cert.GatherRefIdeal.sig) → Buf (Elt Ideal) ℓ) (g : Dev Cert.GatherRefIdeal.nD → PrngReg), Pre_GatherRefIdeal m →
    θ_run (Cert.GatherRefIdeal.defs (F := Ideal)) (onTc (τ := Cert.GatherRefIdeal.τ) (Cert.GatherRefIdeal.main (F := Ideal))) ⟨m, fun _ => 0, g⟩ (fun r => (∀ c : Dev Cert.GatherRefIdeal.nD,
      r.2.mem ((c.tc : Thread Cert.GatherRefIdeal.nD Cert.GatherRefIdeal.τ).loc Cert.GatherRefIdeal.main_arg0) = m ((c.tc : Thread Cert.GatherRefIdeal.nD Cert.GatherRefIdeal.τ).loc Cert.GatherRefIdeal.main_arg0))
      ∧ r.2.sem = fun _ => 0)

def quiescent_GatherRef [hGatherRef : Cert.GatherRef.Facts] : Prop :=
  ∀ (m : (ℓ : Loc Cert.GatherRef.nD Cert.GatherRef.τ Cert.GatherRef.sig) → Buf (Elt Bits) ℓ) (g : Dev Cert.GatherRef.nD → PrngReg), Pre_GatherRef m →
    θ_run (Cert.GatherRef.defs (F := Bits)) (onTc (τ := Cert.GatherRef.τ) (Cert.GatherRef.main (F := Bits))) ⟨m, fun _ => 0, g⟩ (fun r => (∀ c : Dev Cert.GatherRef.nD,
      r.2.mem ((c.tc : Thread Cert.GatherRef.nD Cert.GatherRef.τ).loc Cert.GatherRef.main_arg0) = m ((c.tc : Thread Cert.GatherRef.nD Cert.GatherRef.τ).loc Cert.GatherRef.main_arg0))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamBranch [hAdamBranch : Cert.AdamBranch.Facts] : Prop :=
  ∀ (m : (ℓ : Loc Cert.AdamBranch.nD Cert.AdamBranch.τ Cert.AdamBranch.sig) → Buf (Elt Bits) ℓ) (g : Dev Cert.AdamBranch.nD → PrngReg), Pre_AdamBranch m →
    θ_run (Cert.AdamBranch.defs (F := Bits)) (onTc (τ := Cert.AdamBranch.τ) (Cert.AdamBranch.main (F := Bits))) ⟨m, fun _ => 0, g⟩ (fun r => (∀ c : Dev Cert.AdamBranch.nD,
      r.2.mem ((c.tc : Thread Cert.AdamBranch.nD Cert.AdamBranch.τ).loc Cert.AdamBranch.main_arg0) = m ((c.tc : Thread Cert.AdamBranch.nD Cert.AdamBranch.τ).loc Cert.AdamBranch.main_arg0)
      ∧ r.2.mem ((c.tc : Thread Cert.AdamBranch.nD Cert.AdamBranch.τ).loc Cert.AdamBranch.main_arg1) = m ((c.tc : Thread Cert.AdamBranch.nD Cert.AdamBranch.τ).loc Cert.AdamBranch.main_arg1)
      ∧ r.2.mem ((c.tc : Thread Cert.AdamBranch.nD Cert.AdamBranch.τ).loc Cert.AdamBranch.main_arg2) = m ((c.tc : Thread Cert.AdamBranch.nD Cert.AdamBranch.τ).loc Cert.AdamBranch.main_arg2)
      ∧ r.2.mem ((c.tc : Thread Cert.AdamBranch.nD Cert.AdamBranch.τ).loc Cert.AdamBranch.main_arg3) = m ((c.tc : Thread Cert.AdamBranch.nD Cert.AdamBranch.τ).loc Cert.AdamBranch.main_arg3))
      ∧ r.2.sem = fun _ => 0)

def quiescent_AdamBranchIdeal [hAdamBranchIdeal : Cert.AdamBranchIdeal.Facts] : Prop :=
  ∀ (m : (ℓ : Loc Cert.AdamBranchIdeal.nD Cert.AdamBranchIdeal.τ Cert.AdamBranchIdeal.sig) → Buf (Elt Ideal) ℓ) (g : Dev Cert.AdamBranchIdeal.nD → PrngReg), Pre_AdamBranchIdeal m →
    θ_run (Cert.AdamBranchIdeal.defs (F := Ideal)) (onTc (τ := Cert.AdamBranchIdeal.τ) (Cert.AdamBranchIdeal.main (F := Ideal))) ⟨m, fun _ => 0, g⟩ (fun r => (∀ c : Dev Cert.AdamBranchIdeal.nD,
      r.2.mem ((c.tc : Thread Cert.AdamBranchIdeal.nD Cert.AdamBranchIdeal.τ).loc Cert.AdamBranchIdeal.main_arg0) = m ((c.tc : Thread Cert.AdamBranchIdeal.nD Cert.AdamBranchIdeal.τ).loc Cert.AdamBranchIdeal.main_arg0)
      ∧ r.2.mem ((c.tc : Thread Cert.AdamBranchIdeal.nD Cert.AdamBranchIdeal.τ).loc Cert.AdamBranchIdeal.main_arg1) = m ((c.tc : Thread Cert.AdamBranchIdeal.nD Cert.AdamBranchIdeal.τ).loc Cert.AdamBranchIdeal.main_arg1)
      ∧ r.2.mem ((c.tc : Thread Cert.AdamBranchIdeal.nD Cert.AdamBranchIdeal.τ).loc Cert.AdamBranchIdeal.main_arg2) = m ((c.tc : Thread Cert.AdamBranchIdeal.nD Cert.AdamBranchIdeal.τ).loc Cert.AdamBranchIdeal.main_arg2)
      ∧ r.2.mem ((c.tc : Thread Cert.AdamBranchIdeal.nD Cert.AdamBranchIdeal.τ).loc Cert.AdamBranchIdeal.main_arg3) = m ((c.tc : Thread Cert.AdamBranchIdeal.nD Cert.AdamBranchIdeal.τ).loc Cert.AdamBranchIdeal.main_arg3))
      ∧ r.2.sem = fun _ => 0)

def quiescent_AdamBranchRefIdeal [hAdamBranchRefIdeal : Cert.AdamBranchRefIdeal.Facts] : Prop :=
  ∀ (m : (ℓ : Loc Cert.AdamBranchRefIdeal.nD Cert.AdamBranchRefIdeal.τ Cert.AdamBranchRefIdeal.sig) → Buf (Elt Ideal) ℓ) (g : Dev Cert.AdamBranchRefIdeal.nD → PrngReg), Pre_AdamBranchRefIdeal m →
    θ_run (Cert.AdamBranchRefIdeal.defs (F := Ideal)) (onTc (τ := Cert.AdamBranchRefIdeal.τ) (Cert.AdamBranchRefIdeal.main (F := Ideal))) ⟨m, fun _ => 0, g⟩ (fun r => (∀ c : Dev Cert.AdamBranchRefIdeal.nD,
      r.2.mem ((c.tc : Thread Cert.AdamBranchRefIdeal.nD Cert.AdamBranchRefIdeal.τ).loc Cert.AdamBranchRefIdeal.main_arg0) = m ((c.tc : Thread Cert.AdamBranchRefIdeal.nD Cert.AdamBranchRefIdeal.τ).loc Cert.AdamBranchRefIdeal.main_arg0)
      ∧ r.2.mem ((c.tc : Thread Cert.AdamBranchRefIdeal.nD Cert.AdamBranchRefIdeal.τ).loc Cert.AdamBranchRefIdeal.main_arg1) = m ((c.tc : Thread Cert.AdamBranchRefIdeal.nD Cert.AdamBranchRefIdeal.τ).loc Cert.AdamBranchRefIdeal.main_arg1)
      ∧ r.2.mem ((c.tc : Thread Cert.AdamBranchRefIdeal.nD Cert.AdamBranchRefIdeal.τ).loc Cert.AdamBranchRefIdeal.main_arg2) = m ((c.tc : Thread Cert.AdamBranchRefIdeal.nD Cert.AdamBranchRefIdeal.τ).loc Cert.AdamBranchRefIdeal.main_arg2)
      ∧ r.2.mem ((c.tc : Thread Cert.AdamBranchRefIdeal.nD Cert.AdamBranchRefIdeal.τ).loc Cert.AdamBranchRefIdeal.main_arg3) = m ((c.tc : Thread Cert.AdamBranchRefIdeal.nD Cert.AdamBranchRefIdeal.τ).loc Cert.AdamBranchRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamGateUp [hAdamGateUp : Cert.AdamGateUp.Facts] : Prop :=
  ∀ (m : (ℓ : Loc Cert.AdamGateUp.nD Cert.AdamGateUp.τ Cert.AdamGateUp.sig) → Buf (Elt Bits) ℓ) (g : Dev Cert.AdamGateUp.nD → PrngReg), Pre_AdamGateUp m →
    θ_run (Cert.AdamGateUp.defs (F := Bits)) (onTc (τ := Cert.AdamGateUp.τ) (Cert.AdamGateUp.main (F := Bits))) ⟨m, fun _ => 0, g⟩ (fun r => (∀ c : Dev Cert.AdamGateUp.nD,
      r.2.mem ((c.tc : Thread Cert.AdamGateUp.nD Cert.AdamGateUp.τ).loc Cert.AdamGateUp.main_arg0) = m ((c.tc : Thread Cert.AdamGateUp.nD Cert.AdamGateUp.τ).loc Cert.AdamGateUp.main_arg0)
      ∧ r.2.mem ((c.tc : Thread Cert.AdamGateUp.nD Cert.AdamGateUp.τ).loc Cert.AdamGateUp.main_arg1) = m ((c.tc : Thread Cert.AdamGateUp.nD Cert.AdamGateUp.τ).loc Cert.AdamGateUp.main_arg1)
      ∧ r.2.mem ((c.tc : Thread Cert.AdamGateUp.nD Cert.AdamGateUp.τ).loc Cert.AdamGateUp.main_arg2) = m ((c.tc : Thread Cert.AdamGateUp.nD Cert.AdamGateUp.τ).loc Cert.AdamGateUp.main_arg2)
      ∧ r.2.mem ((c.tc : Thread Cert.AdamGateUp.nD Cert.AdamGateUp.τ).loc Cert.AdamGateUp.main_arg3) = m ((c.tc : Thread Cert.AdamGateUp.nD Cert.AdamGateUp.τ).loc Cert.AdamGateUp.main_arg3))
      ∧ r.2.sem = fun _ => 0)

def quiescent_AdamGateUpIdeal [hAdamGateUpIdeal : Cert.AdamGateUpIdeal.Facts] : Prop :=
  ∀ (m : (ℓ : Loc Cert.AdamGateUpIdeal.nD Cert.AdamGateUpIdeal.τ Cert.AdamGateUpIdeal.sig) → Buf (Elt Ideal) ℓ) (g : Dev Cert.AdamGateUpIdeal.nD → PrngReg), Pre_AdamGateUpIdeal m →
    θ_run (Cert.AdamGateUpIdeal.defs (F := Ideal)) (onTc (τ := Cert.AdamGateUpIdeal.τ) (Cert.AdamGateUpIdeal.main (F := Ideal))) ⟨m, fun _ => 0, g⟩ (fun r => (∀ c : Dev Cert.AdamGateUpIdeal.nD,
      r.2.mem ((c.tc : Thread Cert.AdamGateUpIdeal.nD Cert.AdamGateUpIdeal.τ).loc Cert.AdamGateUpIdeal.main_arg0) = m ((c.tc : Thread Cert.AdamGateUpIdeal.nD Cert.AdamGateUpIdeal.τ).loc Cert.AdamGateUpIdeal.main_arg0)
      ∧ r.2.mem ((c.tc : Thread Cert.AdamGateUpIdeal.nD Cert.AdamGateUpIdeal.τ).loc Cert.AdamGateUpIdeal.main_arg1) = m ((c.tc : Thread Cert.AdamGateUpIdeal.nD Cert.AdamGateUpIdeal.τ).loc Cert.AdamGateUpIdeal.main_arg1)
      ∧ r.2.mem ((c.tc : Thread Cert.AdamGateUpIdeal.nD Cert.AdamGateUpIdeal.τ).loc Cert.AdamGateUpIdeal.main_arg2) = m ((c.tc : Thread Cert.AdamGateUpIdeal.nD Cert.AdamGateUpIdeal.τ).loc Cert.AdamGateUpIdeal.main_arg2)
      ∧ r.2.mem ((c.tc : Thread Cert.AdamGateUpIdeal.nD Cert.AdamGateUpIdeal.τ).loc Cert.AdamGateUpIdeal.main_arg3) = m ((c.tc : Thread Cert.AdamGateUpIdeal.nD Cert.AdamGateUpIdeal.τ).loc Cert.AdamGateUpIdeal.main_arg3))
      ∧ r.2.sem = fun _ => 0)

def quiescent_AdamGateUpRefIdeal [hAdamGateUpRefIdeal : Cert.AdamGateUpRefIdeal.Facts] : Prop :=
  ∀ (m : (ℓ : Loc Cert.AdamGateUpRefIdeal.nD Cert.AdamGateUpRefIdeal.τ Cert.AdamGateUpRefIdeal.sig) → Buf (Elt Ideal) ℓ) (g : Dev Cert.AdamGateUpRefIdeal.nD → PrngReg), Pre_AdamGateUpRefIdeal m →
    θ_run (Cert.AdamGateUpRefIdeal.defs (F := Ideal)) (onTc (τ := Cert.AdamGateUpRefIdeal.τ) (Cert.AdamGateUpRefIdeal.main (F := Ideal))) ⟨m, fun _ => 0, g⟩ (fun r => (∀ c : Dev Cert.AdamGateUpRefIdeal.nD,
      r.2.mem ((c.tc : Thread Cert.AdamGateUpRefIdeal.nD Cert.AdamGateUpRefIdeal.τ).loc Cert.AdamGateUpRefIdeal.main_arg0) = m ((c.tc : Thread Cert.AdamGateUpRefIdeal.nD Cert.AdamGateUpRefIdeal.τ).loc Cert.AdamGateUpRefIdeal.main_arg0)
      ∧ r.2.mem ((c.tc : Thread Cert.AdamGateUpRefIdeal.nD Cert.AdamGateUpRefIdeal.τ).loc Cert.AdamGateUpRefIdeal.main_arg1) = m ((c.tc : Thread Cert.AdamGateUpRefIdeal.nD Cert.AdamGateUpRefIdeal.τ).loc Cert.AdamGateUpRefIdeal.main_arg1)
      ∧ r.2.mem ((c.tc : Thread Cert.AdamGateUpRefIdeal.nD Cert.AdamGateUpRefIdeal.τ).loc Cert.AdamGateUpRefIdeal.main_arg2) = m ((c.tc : Thread Cert.AdamGateUpRefIdeal.nD Cert.AdamGateUpRefIdeal.τ).loc Cert.AdamGateUpRefIdeal.main_arg2)
      ∧ r.2.mem ((c.tc : Thread Cert.AdamGateUpRefIdeal.nD Cert.AdamGateUpRefIdeal.τ).loc Cert.AdamGateUpRefIdeal.main_arg3) = m ((c.tc : Thread Cert.AdamGateUpRefIdeal.nD Cert.AdamGateUpRefIdeal.τ).loc Cert.AdamGateUpRefIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3))
      ∧ r.2.sem = fun _ => 0)

def quiescent_AdamProj [hAdamProj : Cert.AdamProj.Facts] : Prop :=
  ∀ (m : (ℓ : Loc Cert.AdamProj.nD Cert.AdamProj.τ Cert.AdamProj.sig) → Buf (Elt Bits) ℓ) (g : Dev Cert.AdamProj.nD → PrngReg), Pre_AdamProj m →
    θ_run (Cert.AdamProj.defs (F := Bits)) (onTc (τ := Cert.AdamProj.τ) (Cert.AdamProj.main (F := Bits))) ⟨m, fun _ => 0, g⟩ (fun r => (∀ c : Dev Cert.AdamProj.nD,
      r.2.mem ((c.tc : Thread Cert.AdamProj.nD Cert.AdamProj.τ).loc Cert.AdamProj.main_arg0) = m ((c.tc : Thread Cert.AdamProj.nD Cert.AdamProj.τ).loc Cert.AdamProj.main_arg0)
      ∧ r.2.mem ((c.tc : Thread Cert.AdamProj.nD Cert.AdamProj.τ).loc Cert.AdamProj.main_arg1) = m ((c.tc : Thread Cert.AdamProj.nD Cert.AdamProj.τ).loc Cert.AdamProj.main_arg1)
      ∧ r.2.mem ((c.tc : Thread Cert.AdamProj.nD Cert.AdamProj.τ).loc Cert.AdamProj.main_arg2) = m ((c.tc : Thread Cert.AdamProj.nD Cert.AdamProj.τ).loc Cert.AdamProj.main_arg2)
      ∧ r.2.mem ((c.tc : Thread Cert.AdamProj.nD Cert.AdamProj.τ).loc Cert.AdamProj.main_arg3) = m ((c.tc : Thread Cert.AdamProj.nD Cert.AdamProj.τ).loc Cert.AdamProj.main_arg3))
      ∧ r.2.sem = fun _ => 0)

def quiescent_AdamProjIdeal [hAdamProjIdeal : Cert.AdamProjIdeal.Facts] : Prop :=
  ∀ (m : (ℓ : Loc Cert.AdamProjIdeal.nD Cert.AdamProjIdeal.τ Cert.AdamProjIdeal.sig) → Buf (Elt Ideal) ℓ) (g : Dev Cert.AdamProjIdeal.nD → PrngReg), Pre_AdamProjIdeal m →
    θ_run (Cert.AdamProjIdeal.defs (F := Ideal)) (onTc (τ := Cert.AdamProjIdeal.τ) (Cert.AdamProjIdeal.main (F := Ideal))) ⟨m, fun _ => 0, g⟩ (fun r => (∀ c : Dev Cert.AdamProjIdeal.nD,
      r.2.mem ((c.tc : Thread Cert.AdamProjIdeal.nD Cert.AdamProjIdeal.τ).loc Cert.AdamProjIdeal.main_arg0) = m ((c.tc : Thread Cert.AdamProjIdeal.nD Cert.AdamProjIdeal.τ).loc Cert.AdamProjIdeal.main_arg0)
      ∧ r.2.mem ((c.tc : Thread Cert.AdamProjIdeal.nD Cert.AdamProjIdeal.τ).loc Cert.AdamProjIdeal.main_arg1) = m ((c.tc : Thread Cert.AdamProjIdeal.nD Cert.AdamProjIdeal.τ).loc Cert.AdamProjIdeal.main_arg1)
      ∧ r.2.mem ((c.tc : Thread Cert.AdamProjIdeal.nD Cert.AdamProjIdeal.τ).loc Cert.AdamProjIdeal.main_arg2) = m ((c.tc : Thread Cert.AdamProjIdeal.nD Cert.AdamProjIdeal.τ).loc Cert.AdamProjIdeal.main_arg2)
      ∧ r.2.mem ((c.tc : Thread Cert.AdamProjIdeal.nD Cert.AdamProjIdeal.τ).loc Cert.AdamProjIdeal.main_arg3) = m ((c.tc : Thread Cert.AdamProjIdeal.nD Cert.AdamProjIdeal.τ).loc Cert.AdamProjIdeal.main_arg3))
      ∧ r.2.sem = fun _ => 0)

def quiescent_AdamProjRefIdeal [hAdamProjRefIdeal : Cert.AdamProjRefIdeal.Facts] : Prop :=
  ∀ (m : (ℓ : Loc Cert.AdamProjRefIdeal.nD Cert.AdamProjRefIdeal.τ Cert.AdamProjRefIdeal.sig) → Buf (Elt Ideal) ℓ) (g : Dev Cert.AdamProjRefIdeal.nD → PrngReg), Pre_AdamProjRefIdeal m →
    θ_run (Cert.AdamProjRefIdeal.defs (F := Ideal)) (onTc (τ := Cert.AdamProjRefIdeal.τ) (Cert.AdamProjRefIdeal.main (F := Ideal))) ⟨m, fun _ => 0, g⟩ (fun r => (∀ c : Dev Cert.AdamProjRefIdeal.nD,
      r.2.mem ((c.tc : Thread Cert.AdamProjRefIdeal.nD Cert.AdamProjRefIdeal.τ).loc Cert.AdamProjRefIdeal.main_arg0) = m ((c.tc : Thread Cert.AdamProjRefIdeal.nD Cert.AdamProjRefIdeal.τ).loc Cert.AdamProjRefIdeal.main_arg0)
      ∧ r.2.mem ((c.tc : Thread Cert.AdamProjRefIdeal.nD Cert.AdamProjRefIdeal.τ).loc Cert.AdamProjRefIdeal.main_arg1) = m ((c.tc : Thread Cert.AdamProjRefIdeal.nD Cert.AdamProjRefIdeal.τ).loc Cert.AdamProjRefIdeal.main_arg1)
      ∧ r.2.mem ((c.tc : Thread Cert.AdamProjRefIdeal.nD Cert.AdamProjRefIdeal.τ).loc Cert.AdamProjRefIdeal.main_arg2) = m ((c.tc : Thread Cert.AdamProjRefIdeal.nD Cert.AdamProjRefIdeal.τ).loc Cert.AdamProjRefIdeal.main_arg2)
      ∧ r.2.mem ((c.tc : Thread Cert.AdamProjRefIdeal.nD Cert.AdamProjRefIdeal.τ).loc Cert.AdamProjRefIdeal.main_arg3) = m ((c.tc : Thread Cert.AdamProjRefIdeal.nD Cert.AdamProjRefIdeal.τ).loc Cert.AdamProjRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_Sum [hSum : Cert.Sum.Facts] : Prop :=
  ∀ (m : (ℓ : Loc Cert.Sum.nD Cert.Sum.τ Cert.Sum.sig) → Buf (Elt Bits) ℓ) (g : Dev Cert.Sum.nD → PrngReg), Pre_Sum m →
    θ_run (Cert.Sum.defs (F := Bits)) (onTc (τ := Cert.Sum.τ) (Cert.Sum.main (F := Bits))) ⟨m, fun _ => 0, g⟩ (fun r => (∀ c : Dev Cert.Sum.nD,
      r.2.mem ((c.tc : Thread Cert.Sum.nD Cert.Sum.τ).loc Cert.Sum.main_arg0) = m ((c.tc : Thread Cert.Sum.nD Cert.Sum.τ).loc Cert.Sum.main_arg0)
      ∧ r.2.mem ((c.tc : Thread Cert.Sum.nD Cert.Sum.τ).loc Cert.Sum.main_arg1) = m ((c.tc : Thread Cert.Sum.nD Cert.Sum.τ).loc Cert.Sum.main_arg1))
      ∧ r.2.sem = fun _ => 0)

def quiescent_SumIdeal [hSumIdeal : Cert.SumIdeal.Facts] : Prop :=
  ∀ (m : (ℓ : Loc Cert.SumIdeal.nD Cert.SumIdeal.τ Cert.SumIdeal.sig) → Buf (Elt Ideal) ℓ) (g : Dev Cert.SumIdeal.nD → PrngReg), Pre_SumIdeal m →
    θ_run (Cert.SumIdeal.defs (F := Ideal)) (onTc (τ := Cert.SumIdeal.τ) (Cert.SumIdeal.main (F := Ideal))) ⟨m, fun _ => 0, g⟩ (fun r => (∀ c : Dev Cert.SumIdeal.nD,
      r.2.mem ((c.tc : Thread Cert.SumIdeal.nD Cert.SumIdeal.τ).loc Cert.SumIdeal.main_arg0) = m ((c.tc : Thread Cert.SumIdeal.nD Cert.SumIdeal.τ).loc Cert.SumIdeal.main_arg0)
      ∧ r.2.mem ((c.tc : Thread Cert.SumIdeal.nD Cert.SumIdeal.τ).loc Cert.SumIdeal.main_arg1) = m ((c.tc : Thread Cert.SumIdeal.nD Cert.SumIdeal.τ).loc Cert.SumIdeal.main_arg1))
      ∧ r.2.sem = fun _ => 0)

def quiescent_SumRefIdeal [hSumRefIdeal : Cert.SumRefIdeal.Facts] : Prop :=
  ∀ (m : (ℓ : Loc Cert.SumRefIdeal.nD Cert.SumRefIdeal.τ Cert.SumRefIdeal.sig) → Buf (Elt Ideal) ℓ) (g : Dev Cert.SumRefIdeal.nD → PrngReg), Pre_SumRefIdeal m →
    θ_run (Cert.SumRefIdeal.defs (F := Ideal)) (onTc (τ := Cert.SumRefIdeal.τ) (Cert.SumRefIdeal.main (F := Ideal))) ⟨m, fun _ => 0, g⟩ (fun r => (∀ c : Dev Cert.SumRefIdeal.nD,
      r.2.mem ((c.tc : Thread Cert.SumRefIdeal.nD Cert.SumRefIdeal.τ).loc Cert.SumRefIdeal.main_arg0) = m ((c.tc : Thread Cert.SumRefIdeal.nD Cert.SumRefIdeal.τ).loc Cert.SumRefIdeal.main_arg0)
      ∧ r.2.mem ((c.tc : Thread Cert.SumRefIdeal.nD Cert.SumRefIdeal.τ).loc Cert.SumRefIdeal.main_arg1) = m ((c.tc : Thread Cert.SumRefIdeal.nD Cert.SumRefIdeal.τ).loc Cert.SumRefIdeal.main_arg1))
      ∧ r.2.sem = fun _ => 0)

def quiescent_SumRef [hSumRef : Cert.SumRef.Facts] : Prop :=
  ∀ (m : (ℓ : Loc Cert.SumRef.nD Cert.SumRef.τ Cert.SumRef.sig) → Buf (Elt Bits) ℓ) (g : Dev Cert.SumRef.nD → PrngReg), Pre_SumRef m →
    θ_run (Cert.SumRef.defs (F := Bits)) (onTc (τ := Cert.SumRef.τ) (Cert.SumRef.main (F := Bits))) ⟨m, fun _ => 0, g⟩ (fun r => (∀ c : Dev Cert.SumRef.nD,
      r.2.mem ((c.tc : Thread Cert.SumRef.nD Cert.SumRef.τ).loc Cert.SumRef.main_arg0) = m ((c.tc : Thread Cert.SumRef.nD Cert.SumRef.τ).loc Cert.SumRef.main_arg0)
      ∧ r.2.mem ((c.tc : Thread Cert.SumRef.nD Cert.SumRef.τ).loc Cert.SumRef.main_arg1) = m ((c.tc : Thread Cert.SumRef.nD Cert.SumRef.τ).loc Cert.SumRef.main_arg1))
      ∧ r.2.sem = fun _ => 0)

def quiescent_Input [hInput : Cert.Input.Facts] : Prop :=
  ∀ (m : (ℓ : Loc Cert.Input.nD Cert.Input.τ Cert.Input.sig) → Buf (Elt Bits) ℓ) (g : Dev Cert.Input.nD → PrngReg), Pre_Input m →
    θ_run (Cert.Input.defs (F := Bits)) (onTc (τ := Cert.Input.τ) (Cert.Input.main (F := Bits))) ⟨m, fun _ => 0, g⟩ (fun r => (∀ c : Dev Cert.Input.nD,
      r.2.mem ((c.tc : Thread Cert.Input.nD Cert.Input.τ).loc Cert.Input.main_arg0) = m ((c.tc : Thread Cert.Input.nD Cert.Input.τ).loc Cert.Input.main_arg0)
      ∧ r.2.mem ((c.tc : Thread Cert.Input.nD Cert.Input.τ).loc Cert.Input.main_arg1) = m ((c.tc : Thread Cert.Input.nD Cert.Input.τ).loc Cert.Input.main_arg1)
      ∧ r.2.mem ((c.tc : Thread Cert.Input.nD Cert.Input.τ).loc Cert.Input.main_arg2) = m ((c.tc : Thread Cert.Input.nD Cert.Input.τ).loc Cert.Input.main_arg2)
      ∧ r.2.mem ((c.tc : Thread Cert.Input.nD Cert.Input.τ).loc Cert.Input.main_arg3) = m ((c.tc : Thread Cert.Input.nD Cert.Input.τ).loc Cert.Input.main_arg3)
      ∧ r.2.mem ((c.tc : Thread Cert.Input.nD Cert.Input.τ).loc Cert.Input.main_arg4) = m ((c.tc : Thread Cert.Input.nD Cert.Input.τ).loc Cert.Input.main_arg4)
      ∧ r.2.mem ((c.tc : Thread Cert.Input.nD Cert.Input.τ).loc Cert.Input.main_arg5) = m ((c.tc : Thread Cert.Input.nD Cert.Input.τ).loc Cert.Input.main_arg5)
      ∧ r.2.mem ((c.tc : Thread Cert.Input.nD Cert.Input.τ).loc Cert.Input.main_arg6) = m ((c.tc : Thread Cert.Input.nD Cert.Input.τ).loc Cert.Input.main_arg6)
      ∧ r.2.mem ((c.tc : Thread Cert.Input.nD Cert.Input.τ).loc Cert.Input.main_arg7) = m ((c.tc : Thread Cert.Input.nD Cert.Input.τ).loc Cert.Input.main_arg7)
      ∧ r.2.mem ((c.tc : Thread Cert.Input.nD Cert.Input.τ).loc Cert.Input.main_arg8) = m ((c.tc : Thread Cert.Input.nD Cert.Input.τ).loc Cert.Input.main_arg8)
      ∧ r.2.mem ((c.tc : Thread Cert.Input.nD Cert.Input.τ).loc Cert.Input.main_arg9) = m ((c.tc : Thread Cert.Input.nD Cert.Input.τ).loc Cert.Input.main_arg9)
      ∧ r.2.mem ((c.tc : Thread Cert.Input.nD Cert.Input.τ).loc Cert.Input.main_arg10) = m ((c.tc : Thread Cert.Input.nD Cert.Input.τ).loc Cert.Input.main_arg10)
      ∧ r.2.mem ((c.tc : Thread Cert.Input.nD Cert.Input.τ).loc Cert.Input.main_arg11) = m ((c.tc : Thread Cert.Input.nD Cert.Input.τ).loc Cert.Input.main_arg11)
      ∧ r.2.mem ((c.tc : Thread Cert.Input.nD Cert.Input.τ).loc Cert.Input.main_arg12) = m ((c.tc : Thread Cert.Input.nD Cert.Input.τ).loc Cert.Input.main_arg12)
      ∧ r.2.mem ((c.tc : Thread Cert.Input.nD Cert.Input.τ).loc Cert.Input.main_arg13) = m ((c.tc : Thread Cert.Input.nD Cert.Input.τ).loc Cert.Input.main_arg13)
      ∧ r.2.mem ((c.tc : Thread Cert.Input.nD Cert.Input.τ).loc Cert.Input.main_arg14) = m ((c.tc : Thread Cert.Input.nD Cert.Input.τ).loc Cert.Input.main_arg14)
      ∧ r.2.mem ((c.tc : Thread Cert.Input.nD Cert.Input.τ).loc Cert.Input.main_arg15) = m ((c.tc : Thread Cert.Input.nD Cert.Input.τ).loc Cert.Input.main_arg15)
      ∧ r.2.mem ((c.tc : Thread Cert.Input.nD Cert.Input.τ).loc Cert.Input.main_arg16) = m ((c.tc : Thread Cert.Input.nD Cert.Input.τ).loc Cert.Input.main_arg16))
      ∧ r.2.sem = fun _ => 0)

def quiescent_InputIdeal [hInputIdeal : Cert.InputIdeal.Facts] : Prop :=
  ∀ (m : (ℓ : Loc Cert.InputIdeal.nD Cert.InputIdeal.τ Cert.InputIdeal.sig) → Buf (Elt Ideal) ℓ) (g : Dev Cert.InputIdeal.nD → PrngReg), Pre_InputIdeal m →
    θ_run (Cert.InputIdeal.defs (F := Ideal)) (onTc (τ := Cert.InputIdeal.τ) (Cert.InputIdeal.main (F := Ideal))) ⟨m, fun _ => 0, g⟩ (fun r => (∀ c : Dev Cert.InputIdeal.nD,
      r.2.mem ((c.tc : Thread Cert.InputIdeal.nD Cert.InputIdeal.τ).loc Cert.InputIdeal.main_arg0) = m ((c.tc : Thread Cert.InputIdeal.nD Cert.InputIdeal.τ).loc Cert.InputIdeal.main_arg0)
      ∧ r.2.mem ((c.tc : Thread Cert.InputIdeal.nD Cert.InputIdeal.τ).loc Cert.InputIdeal.main_arg1) = m ((c.tc : Thread Cert.InputIdeal.nD Cert.InputIdeal.τ).loc Cert.InputIdeal.main_arg1)
      ∧ r.2.mem ((c.tc : Thread Cert.InputIdeal.nD Cert.InputIdeal.τ).loc Cert.InputIdeal.main_arg2) = m ((c.tc : Thread Cert.InputIdeal.nD Cert.InputIdeal.τ).loc Cert.InputIdeal.main_arg2)
      ∧ r.2.mem ((c.tc : Thread Cert.InputIdeal.nD Cert.InputIdeal.τ).loc Cert.InputIdeal.main_arg3) = m ((c.tc : Thread Cert.InputIdeal.nD Cert.InputIdeal.τ).loc Cert.InputIdeal.main_arg3)
      ∧ r.2.mem ((c.tc : Thread Cert.InputIdeal.nD Cert.InputIdeal.τ).loc Cert.InputIdeal.main_arg4) = m ((c.tc : Thread Cert.InputIdeal.nD Cert.InputIdeal.τ).loc Cert.InputIdeal.main_arg4)
      ∧ r.2.mem ((c.tc : Thread Cert.InputIdeal.nD Cert.InputIdeal.τ).loc Cert.InputIdeal.main_arg5) = m ((c.tc : Thread Cert.InputIdeal.nD Cert.InputIdeal.τ).loc Cert.InputIdeal.main_arg5)
      ∧ r.2.mem ((c.tc : Thread Cert.InputIdeal.nD Cert.InputIdeal.τ).loc Cert.InputIdeal.main_arg6) = m ((c.tc : Thread Cert.InputIdeal.nD Cert.InputIdeal.τ).loc Cert.InputIdeal.main_arg6)
      ∧ r.2.mem ((c.tc : Thread Cert.InputIdeal.nD Cert.InputIdeal.τ).loc Cert.InputIdeal.main_arg7) = m ((c.tc : Thread Cert.InputIdeal.nD Cert.InputIdeal.τ).loc Cert.InputIdeal.main_arg7)
      ∧ r.2.mem ((c.tc : Thread Cert.InputIdeal.nD Cert.InputIdeal.τ).loc Cert.InputIdeal.main_arg8) = m ((c.tc : Thread Cert.InputIdeal.nD Cert.InputIdeal.τ).loc Cert.InputIdeal.main_arg8)
      ∧ r.2.mem ((c.tc : Thread Cert.InputIdeal.nD Cert.InputIdeal.τ).loc Cert.InputIdeal.main_arg9) = m ((c.tc : Thread Cert.InputIdeal.nD Cert.InputIdeal.τ).loc Cert.InputIdeal.main_arg9)
      ∧ r.2.mem ((c.tc : Thread Cert.InputIdeal.nD Cert.InputIdeal.τ).loc Cert.InputIdeal.main_arg10) = m ((c.tc : Thread Cert.InputIdeal.nD Cert.InputIdeal.τ).loc Cert.InputIdeal.main_arg10)
      ∧ r.2.mem ((c.tc : Thread Cert.InputIdeal.nD Cert.InputIdeal.τ).loc Cert.InputIdeal.main_arg11) = m ((c.tc : Thread Cert.InputIdeal.nD Cert.InputIdeal.τ).loc Cert.InputIdeal.main_arg11)
      ∧ r.2.mem ((c.tc : Thread Cert.InputIdeal.nD Cert.InputIdeal.τ).loc Cert.InputIdeal.main_arg12) = m ((c.tc : Thread Cert.InputIdeal.nD Cert.InputIdeal.τ).loc Cert.InputIdeal.main_arg12)
      ∧ r.2.mem ((c.tc : Thread Cert.InputIdeal.nD Cert.InputIdeal.τ).loc Cert.InputIdeal.main_arg13) = m ((c.tc : Thread Cert.InputIdeal.nD Cert.InputIdeal.τ).loc Cert.InputIdeal.main_arg13)
      ∧ r.2.mem ((c.tc : Thread Cert.InputIdeal.nD Cert.InputIdeal.τ).loc Cert.InputIdeal.main_arg14) = m ((c.tc : Thread Cert.InputIdeal.nD Cert.InputIdeal.τ).loc Cert.InputIdeal.main_arg14)
      ∧ r.2.mem ((c.tc : Thread Cert.InputIdeal.nD Cert.InputIdeal.τ).loc Cert.InputIdeal.main_arg15) = m ((c.tc : Thread Cert.InputIdeal.nD Cert.InputIdeal.τ).loc Cert.InputIdeal.main_arg15)
      ∧ r.2.mem ((c.tc : Thread Cert.InputIdeal.nD Cert.InputIdeal.τ).loc Cert.InputIdeal.main_arg16) = m ((c.tc : Thread Cert.InputIdeal.nD Cert.InputIdeal.τ).loc Cert.InputIdeal.main_arg16))
      ∧ r.2.sem = fun _ => 0)

def quiescent_InputRefIdeal [hInputRefIdeal : Cert.InputRefIdeal.Facts] : Prop :=
  ∀ (m : (ℓ : Loc Cert.InputRefIdeal.nD Cert.InputRefIdeal.τ Cert.InputRefIdeal.sig) → Buf (Elt Ideal) ℓ) (g : Dev Cert.InputRefIdeal.nD → PrngReg), Pre_InputRefIdeal m →
    θ_run (Cert.InputRefIdeal.defs (F := Ideal)) (onTc (τ := Cert.InputRefIdeal.τ) (Cert.InputRefIdeal.main (F := Ideal))) ⟨m, fun _ => 0, g⟩ (fun r => (∀ c : Dev Cert.InputRefIdeal.nD,
      r.2.mem ((c.tc : Thread Cert.InputRefIdeal.nD Cert.InputRefIdeal.τ).loc Cert.InputRefIdeal.main_arg0) = m ((c.tc : Thread Cert.InputRefIdeal.nD Cert.InputRefIdeal.τ).loc Cert.InputRefIdeal.main_arg0)
      ∧ r.2.mem ((c.tc : Thread Cert.InputRefIdeal.nD Cert.InputRefIdeal.τ).loc Cert.InputRefIdeal.main_arg1) = m ((c.tc : Thread Cert.InputRefIdeal.nD Cert.InputRefIdeal.τ).loc Cert.InputRefIdeal.main_arg1)
      ∧ r.2.mem ((c.tc : Thread Cert.InputRefIdeal.nD Cert.InputRefIdeal.τ).loc Cert.InputRefIdeal.main_arg2) = m ((c.tc : Thread Cert.InputRefIdeal.nD Cert.InputRefIdeal.τ).loc Cert.InputRefIdeal.main_arg2)
      ∧ r.2.mem ((c.tc : Thread Cert.InputRefIdeal.nD Cert.InputRefIdeal.τ).loc Cert.InputRefIdeal.main_arg3) = m ((c.tc : Thread Cert.InputRefIdeal.nD Cert.InputRefIdeal.τ).loc Cert.InputRefIdeal.main_arg3)
      ∧ r.2.mem ((c.tc : Thread Cert.InputRefIdeal.nD Cert.InputRefIdeal.τ).loc Cert.InputRefIdeal.main_arg4) = m ((c.tc : Thread Cert.InputRefIdeal.nD Cert.InputRefIdeal.τ).loc Cert.InputRefIdeal.main_arg4)
      ∧ r.2.mem ((c.tc : Thread Cert.InputRefIdeal.nD Cert.InputRefIdeal.τ).loc Cert.InputRefIdeal.main_arg5) = m ((c.tc : Thread Cert.InputRefIdeal.nD Cert.InputRefIdeal.τ).loc Cert.InputRefIdeal.main_arg5)
      ∧ r.2.mem ((c.tc : Thread Cert.InputRefIdeal.nD Cert.InputRefIdeal.τ).loc Cert.InputRefIdeal.main_arg6) = m ((c.tc : Thread Cert.InputRefIdeal.nD Cert.InputRefIdeal.τ).loc Cert.InputRefIdeal.main_arg6)
      ∧ r.2.mem ((c.tc : Thread Cert.InputRefIdeal.nD Cert.InputRefIdeal.τ).loc Cert.InputRefIdeal.main_arg7) = m ((c.tc : Thread Cert.InputRefIdeal.nD Cert.InputRefIdeal.τ).loc Cert.InputRefIdeal.main_arg7)
      ∧ r.2.mem ((c.tc : Thread Cert.InputRefIdeal.nD Cert.InputRefIdeal.τ).loc Cert.InputRefIdeal.main_arg8) = m ((c.tc : Thread Cert.InputRefIdeal.nD Cert.InputRefIdeal.τ).loc Cert.InputRefIdeal.main_arg8)
      ∧ r.2.mem ((c.tc : Thread Cert.InputRefIdeal.nD Cert.InputRefIdeal.τ).loc Cert.InputRefIdeal.main_arg9) = m ((c.tc : Thread Cert.InputRefIdeal.nD Cert.InputRefIdeal.τ).loc Cert.InputRefIdeal.main_arg9)
      ∧ r.2.mem ((c.tc : Thread Cert.InputRefIdeal.nD Cert.InputRefIdeal.τ).loc Cert.InputRefIdeal.main_arg10) = m ((c.tc : Thread Cert.InputRefIdeal.nD Cert.InputRefIdeal.τ).loc Cert.InputRefIdeal.main_arg10)
      ∧ r.2.mem ((c.tc : Thread Cert.InputRefIdeal.nD Cert.InputRefIdeal.τ).loc Cert.InputRefIdeal.main_arg11) = m ((c.tc : Thread Cert.InputRefIdeal.nD Cert.InputRefIdeal.τ).loc Cert.InputRefIdeal.main_arg11)
      ∧ r.2.mem ((c.tc : Thread Cert.InputRefIdeal.nD Cert.InputRefIdeal.τ).loc Cert.InputRefIdeal.main_arg12) = m ((c.tc : Thread Cert.InputRefIdeal.nD Cert.InputRefIdeal.τ).loc Cert.InputRefIdeal.main_arg12)
      ∧ r.2.mem ((c.tc : Thread Cert.InputRefIdeal.nD Cert.InputRefIdeal.τ).loc Cert.InputRefIdeal.main_arg13) = m ((c.tc : Thread Cert.InputRefIdeal.nD Cert.InputRefIdeal.τ).loc Cert.InputRefIdeal.main_arg13)
      ∧ r.2.mem ((c.tc : Thread Cert.InputRefIdeal.nD Cert.InputRefIdeal.τ).loc Cert.InputRefIdeal.main_arg14) = m ((c.tc : Thread Cert.InputRefIdeal.nD Cert.InputRefIdeal.τ).loc Cert.InputRefIdeal.main_arg14)
      ∧ r.2.mem ((c.tc : Thread Cert.InputRefIdeal.nD Cert.InputRefIdeal.τ).loc Cert.InputRefIdeal.main_arg15) = m ((c.tc : Thread Cert.InputRefIdeal.nD Cert.InputRefIdeal.τ).loc Cert.InputRefIdeal.main_arg15)
      ∧ r.2.mem ((c.tc : Thread Cert.InputRefIdeal.nD Cert.InputRefIdeal.τ).loc Cert.InputRefIdeal.main_arg16) = m ((c.tc : Thread Cert.InputRefIdeal.nD Cert.InputRefIdeal.τ).loc Cert.InputRefIdeal.main_arg16))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ r.2.sem = fun _ => 0)

def quiescent_DwDownRefIdeal [hDwDownRefIdeal : Cert.DwDownRefIdeal.Facts] : Prop :=
  ∀ (m : (ℓ : Loc Cert.DwDownRefIdeal.nD Cert.DwDownRefIdeal.τ Cert.DwDownRefIdeal.sig) → Buf (Elt Ideal) ℓ) (g : Dev Cert.DwDownRefIdeal.nD → PrngReg), Pre_DwDownRefIdeal m →
    θ_run (Cert.DwDownRefIdeal.defs (F := Ideal)) (onTc (τ := Cert.DwDownRefIdeal.τ) (Cert.DwDownRefIdeal.main (F := Ideal))) ⟨m, fun _ => 0, g⟩ (fun r => (∀ c : Dev Cert.DwDownRefIdeal.nD,
      r.2.mem ((c.tc : Thread Cert.DwDownRefIdeal.nD Cert.DwDownRefIdeal.τ).loc Cert.DwDownRefIdeal.main_arg0) = m ((c.tc : Thread Cert.DwDownRefIdeal.nD Cert.DwDownRefIdeal.τ).loc Cert.DwDownRefIdeal.main_arg0)
      ∧ r.2.mem ((c.tc : Thread Cert.DwDownRefIdeal.nD Cert.DwDownRefIdeal.τ).loc Cert.DwDownRefIdeal.main_arg1) = m ((c.tc : Thread Cert.DwDownRefIdeal.nD Cert.DwDownRefIdeal.τ).loc Cert.DwDownRefIdeal.main_arg1))
      ∧ r.2.sem = fun _ => 0)

def quiescent_Head [hHead : Cert.Head.Facts] : Prop :=
  ∀ (m : (ℓ : Loc Cert.Head.nD Cert.Head.τ Cert.Head.sig) → Buf (Elt Bits) ℓ) (g : Dev Cert.Head.nD → PrngReg), Pre_Head m →
    θ_run (Cert.Head.defs (F := Bits)) (onTc (τ := Cert.Head.τ) (Cert.Head.main (F := Bits))) ⟨m, fun _ => 0, g⟩ (fun r => (∀ c : Dev Cert.Head.nD,
      r.2.mem ((c.tc : Thread Cert.Head.nD Cert.Head.τ).loc Cert.Head.main_arg0) = m ((c.tc : Thread Cert.Head.nD Cert.Head.τ).loc Cert.Head.main_arg0)
      ∧ r.2.mem ((c.tc : Thread Cert.Head.nD Cert.Head.τ).loc Cert.Head.main_arg1) = m ((c.tc : Thread Cert.Head.nD Cert.Head.τ).loc Cert.Head.main_arg1)
      ∧ r.2.mem ((c.tc : Thread Cert.Head.nD Cert.Head.τ).loc Cert.Head.main_arg2) = m ((c.tc : Thread Cert.Head.nD Cert.Head.τ).loc Cert.Head.main_arg2)
      ∧ r.2.mem ((c.tc : Thread Cert.Head.nD Cert.Head.τ).loc Cert.Head.main_arg3) = m ((c.tc : Thread Cert.Head.nD Cert.Head.τ).loc Cert.Head.main_arg3)
      ∧ r.2.mem ((c.tc : Thread Cert.Head.nD Cert.Head.τ).loc Cert.Head.main_arg4) = m ((c.tc : Thread Cert.Head.nD Cert.Head.τ).loc Cert.Head.main_arg4)
      ∧ r.2.mem ((c.tc : Thread Cert.Head.nD Cert.Head.τ).loc Cert.Head.main_arg5) = m ((c.tc : Thread Cert.Head.nD Cert.Head.τ).loc Cert.Head.main_arg5)
      ∧ r.2.mem ((c.tc : Thread Cert.Head.nD Cert.Head.τ).loc Cert.Head.main_arg6) = m ((c.tc : Thread Cert.Head.nD Cert.Head.τ).loc Cert.Head.main_arg6))
      ∧ r.2.sem = fun _ => 0)

def quiescent_HeadIdeal [hHeadIdeal : Cert.HeadIdeal.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
      ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
      ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
      ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6))
      ∧ r.2.sem = fun _ => 0)

def quiescent_HeadRefIdeal [hHeadRefIdeal : Cert.HeadRefIdeal.Facts] : Prop :=
  ∀ (m : (ℓ : Loc Cert.HeadRefIdeal.nD Cert.HeadRefIdeal.τ Cert.HeadRefIdeal.sig) → Buf (Elt Ideal) ℓ) (g : Dev Cert.HeadRefIdeal.nD → PrngReg), Pre_HeadRefIdeal m →
    θ_run (Cert.HeadRefIdeal.defs (F := Ideal)) (onTc (τ := Cert.HeadRefIdeal.τ) (Cert.HeadRefIdeal.main (F := Ideal))) ⟨m, fun _ => 0, g⟩ (fun r => (∀ c : Dev Cert.HeadRefIdeal.nD,
      r.2.mem ((c.tc : Thread Cert.HeadRefIdeal.nD Cert.HeadRefIdeal.τ).loc Cert.HeadRefIdeal.main_arg0) = m ((c.tc : Thread Cert.HeadRefIdeal.nD Cert.HeadRefIdeal.τ).loc Cert.HeadRefIdeal.main_arg0)
      ∧ r.2.mem ((c.tc : Thread Cert.HeadRefIdeal.nD Cert.HeadRefIdeal.τ).loc Cert.HeadRefIdeal.main_arg1) = m ((c.tc : Thread Cert.HeadRefIdeal.nD Cert.HeadRefIdeal.τ).loc Cert.HeadRefIdeal.main_arg1)
      ∧ r.2.mem ((c.tc : Thread Cert.HeadRefIdeal.nD Cert.HeadRefIdeal.τ).loc Cert.HeadRefIdeal.main_arg2) = m ((c.tc : Thread Cert.HeadRefIdeal.nD Cert.HeadRefIdeal.τ).loc Cert.HeadRefIdeal.main_arg2)
      ∧ r.2.mem ((c.tc : Thread Cert.HeadRefIdeal.nD Cert.HeadRefIdeal.τ).loc Cert.HeadRefIdeal.main_arg3) = m ((c.tc : Thread Cert.HeadRefIdeal.nD Cert.HeadRefIdeal.τ).loc Cert.HeadRefIdeal.main_arg3)
      ∧ r.2.mem ((c.tc : Thread Cert.HeadRefIdeal.nD Cert.HeadRefIdeal.τ).loc Cert.HeadRefIdeal.main_arg4) = m ((c.tc : Thread Cert.HeadRefIdeal.nD Cert.HeadRefIdeal.τ).loc Cert.HeadRefIdeal.main_arg4)
      ∧ r.2.mem ((c.tc : Thread Cert.HeadRefIdeal.nD Cert.HeadRefIdeal.τ).loc Cert.HeadRefIdeal.main_arg5) = m ((c.tc : Thread Cert.HeadRefIdeal.nD Cert.HeadRefIdeal.τ).loc Cert.HeadRefIdeal.main_arg5)
      ∧ r.2.mem ((c.tc : Thread Cert.HeadRefIdeal.nD Cert.HeadRefIdeal.τ).loc Cert.HeadRefIdeal.main_arg6) = m ((c.tc : Thread Cert.HeadRefIdeal.nD Cert.HeadRefIdeal.τ).loc Cert.HeadRefIdeal.main_arg6))
      ∧ r.2.sem = fun _ => 0)

def quiescent_FfnBack [hFfnBack : Cert.FfnBack.Facts] : Prop :=
  ∀ (m : (ℓ : Loc Cert.FfnBack.nD Cert.FfnBack.τ Cert.FfnBack.sig) → Buf (Elt Bits) ℓ) (g : Dev Cert.FfnBack.nD → PrngReg), Pre_FfnBack m →
    θ_run (Cert.FfnBack.defs (F := Bits)) (onTc (τ := Cert.FfnBack.τ) (Cert.FfnBack.main (F := Bits))) ⟨m, fun _ => 0, g⟩ (fun r => (∀ c : Dev Cert.FfnBack.nD,
      r.2.mem ((c.tc : Thread Cert.FfnBack.nD Cert.FfnBack.τ).loc Cert.FfnBack.main_arg0) = m ((c.tc : Thread Cert.FfnBack.nD Cert.FfnBack.τ).loc Cert.FfnBack.main_arg0)
      ∧ r.2.mem ((c.tc : Thread Cert.FfnBack.nD Cert.FfnBack.τ).loc Cert.FfnBack.main_arg1) = m ((c.tc : Thread Cert.FfnBack.nD Cert.FfnBack.τ).loc Cert.FfnBack.main_arg1)
      ∧ r.2.mem ((c.tc : Thread Cert.FfnBack.nD Cert.FfnBack.τ).loc Cert.FfnBack.main_arg2) = m ((c.tc : Thread Cert.FfnBack.nD Cert.FfnBack.τ).loc Cert.FfnBack.main_arg2)
      ∧ r.2.mem ((c.tc : Thread Cert.FfnBack.nD Cert.FfnBack.τ).loc Cert.FfnBack.main_arg3) = m ((c.tc : Thread Cert.FfnBack.nD Cert.FfnBack.τ).loc Cert.FfnBack.main_arg3)
      ∧ r.2.mem ((c.tc : Thread Cert.FfnBack.nD Cert.FfnBack.τ).loc Cert.FfnBack.main_arg4) = m ((c.tc : Thread Cert.FfnBack.nD Cert.FfnBack.τ).loc Cert.FfnBack.main_arg4)
      ∧ r.2.mem ((c.tc : Thread Cert.FfnBack.nD Cert.FfnBack.τ).loc Cert.FfnBack.main_arg5) = m ((c.tc : Thread Cert.FfnBack.nD Cert.FfnBack.τ).loc Cert.FfnBack.main_arg5)
      ∧ r.2.mem ((c.tc : Thread Cert.FfnBack.nD Cert.FfnBack.τ).loc Cert.FfnBack.main_arg6) = m ((c.tc : Thread Cert.FfnBack.nD Cert.FfnBack.τ).loc Cert.FfnBack.main_arg6))
      ∧ r.2.sem = fun _ => 0)

def quiescent_FfnBackIdeal [hFfnBackIdeal : Cert.FfnBackIdeal.Facts] : Prop :=
  ∀ (m : (ℓ : Loc Cert.FfnBackIdeal.nD Cert.FfnBackIdeal.τ Cert.FfnBackIdeal.sig) → Buf (Elt Ideal) ℓ) (g : Dev Cert.FfnBackIdeal.nD → PrngReg), Pre_FfnBackIdeal m →
    θ_run (Cert.FfnBackIdeal.defs (F := Ideal)) (onTc (τ := Cert.FfnBackIdeal.τ) (Cert.FfnBackIdeal.main (F := Ideal))) ⟨m, fun _ => 0, g⟩ (fun r => (∀ c : Dev Cert.FfnBackIdeal.nD,
      r.2.mem ((c.tc : Thread Cert.FfnBackIdeal.nD Cert.FfnBackIdeal.τ).loc Cert.FfnBackIdeal.main_arg0) = m ((c.tc : Thread Cert.FfnBackIdeal.nD Cert.FfnBackIdeal.τ).loc Cert.FfnBackIdeal.main_arg0)
      ∧ r.2.mem ((c.tc : Thread Cert.FfnBackIdeal.nD Cert.FfnBackIdeal.τ).loc Cert.FfnBackIdeal.main_arg1) = m ((c.tc : Thread Cert.FfnBackIdeal.nD Cert.FfnBackIdeal.τ).loc Cert.FfnBackIdeal.main_arg1)
      ∧ r.2.mem ((c.tc : Thread Cert.FfnBackIdeal.nD Cert.FfnBackIdeal.τ).loc Cert.FfnBackIdeal.main_arg2) = m ((c.tc : Thread Cert.FfnBackIdeal.nD Cert.FfnBackIdeal.τ).loc Cert.FfnBackIdeal.main_arg2)
      ∧ r.2.mem ((c.tc : Thread Cert.FfnBackIdeal.nD Cert.FfnBackIdeal.τ).loc Cert.FfnBackIdeal.main_arg3) = m ((c.tc : Thread Cert.FfnBackIdeal.nD Cert.FfnBackIdeal.τ).loc Cert.FfnBackIdeal.main_arg3)
      ∧ r.2.mem ((c.tc : Thread Cert.FfnBackIdeal.nD Cert.FfnBackIdeal.τ).loc Cert.FfnBackIdeal.main_arg4) = m ((c.tc : Thread Cert.FfnBackIdeal.nD Cert.FfnBackIdeal.τ).loc Cert.FfnBackIdeal.main_arg4)
      ∧ r.2.mem ((c.tc : Thread Cert.FfnBackIdeal.nD Cert.FfnBackIdeal.τ).loc Cert.FfnBackIdeal.main_arg5) = m ((c.tc : Thread Cert.FfnBackIdeal.nD Cert.FfnBackIdeal.τ).loc Cert.FfnBackIdeal.main_arg5)
      ∧ r.2.mem ((c.tc : Thread Cert.FfnBackIdeal.nD Cert.FfnBackIdeal.τ).loc Cert.FfnBackIdeal.main_arg6) = m ((c.tc : Thread Cert.FfnBackIdeal.nD Cert.FfnBackIdeal.τ).loc Cert.FfnBackIdeal.main_arg6))
      ∧ r.2.sem = fun _ => 0)

def quiescent_FfnBackRefIdeal [hFfnBackRefIdeal : Cert.FfnBackRefIdeal.Facts] : Prop :=
  ∀ (m : (ℓ : Loc Cert.FfnBackRefIdeal.nD Cert.FfnBackRefIdeal.τ Cert.FfnBackRefIdeal.sig) → Buf (Elt Ideal) ℓ) (g : Dev Cert.FfnBackRefIdeal.nD → PrngReg), Pre_FfnBackRefIdeal m →
    θ_run (Cert.FfnBackRefIdeal.defs (F := Ideal)) (onTc (τ := Cert.FfnBackRefIdeal.τ) (Cert.FfnBackRefIdeal.main (F := Ideal))) ⟨m, fun _ => 0, g⟩ (fun r => (∀ c : Dev Cert.FfnBackRefIdeal.nD,
      r.2.mem ((c.tc : Thread Cert.FfnBackRefIdeal.nD Cert.FfnBackRefIdeal.τ).loc Cert.FfnBackRefIdeal.main_arg0) = m ((c.tc : Thread Cert.FfnBackRefIdeal.nD Cert.FfnBackRefIdeal.τ).loc Cert.FfnBackRefIdeal.main_arg0)
      ∧ r.2.mem ((c.tc : Thread Cert.FfnBackRefIdeal.nD Cert.FfnBackRefIdeal.τ).loc Cert.FfnBackRefIdeal.main_arg1) = m ((c.tc : Thread Cert.FfnBackRefIdeal.nD Cert.FfnBackRefIdeal.τ).loc Cert.FfnBackRefIdeal.main_arg1)
      ∧ r.2.mem ((c.tc : Thread Cert.FfnBackRefIdeal.nD Cert.FfnBackRefIdeal.τ).loc Cert.FfnBackRefIdeal.main_arg2) = m ((c.tc : Thread Cert.FfnBackRefIdeal.nD Cert.FfnBackRefIdeal.τ).loc Cert.FfnBackRefIdeal.main_arg2)
      ∧ r.2.mem ((c.tc : Thread Cert.FfnBackRefIdeal.nD Cert.FfnBackRefIdeal.τ).loc Cert.FfnBackRefIdeal.main_arg3) = m ((c.tc : Thread Cert.FfnBackRefIdeal.nD Cert.FfnBackRefIdeal.τ).loc Cert.FfnBackRefIdeal.main_arg3)
      ∧ r.2.mem ((c.tc : Thread Cert.FfnBackRefIdeal.nD Cert.FfnBackRefIdeal.τ).loc Cert.FfnBackRefIdeal.main_arg4) = m ((c.tc : Thread Cert.FfnBackRefIdeal.nD Cert.FfnBackRefIdeal.τ).loc Cert.FfnBackRefIdeal.main_arg4)
      ∧ r.2.mem ((c.tc : Thread Cert.FfnBackRefIdeal.nD Cert.FfnBackRefIdeal.τ).loc Cert.FfnBackRefIdeal.main_arg5) = m ((c.tc : Thread Cert.FfnBackRefIdeal.nD Cert.FfnBackRefIdeal.τ).loc Cert.FfnBackRefIdeal.main_arg5)
      ∧ r.2.mem ((c.tc : Thread Cert.FfnBackRefIdeal.nD Cert.FfnBackRefIdeal.τ).loc Cert.FfnBackRefIdeal.main_arg6) = m ((c.tc : Thread Cert.FfnBackRefIdeal.nD Cert.FfnBackRefIdeal.τ).loc Cert.FfnBackRefIdeal.main_arg6))
      ∧ r.2.sem = fun _ => 0)

def quiescent_Mid [hMid : Cert.Mid.Facts] : Prop :=
  ∀ (m : (ℓ : Loc Cert.Mid.nD Cert.Mid.τ Cert.Mid.sig) → Buf (Elt Bits) ℓ) (g : Dev Cert.Mid.nD → PrngReg), Pre_Mid m →
    θ_run (Cert.Mid.defs (F := Bits)) (onTc (τ := Cert.Mid.τ) (Cert.Mid.main (F := Bits))) ⟨m, fun _ => 0, g⟩ (fun r => (∀ c : Dev Cert.Mid.nD,
      r.2.mem ((c.tc : Thread Cert.Mid.nD Cert.Mid.τ).loc Cert.Mid.main_arg0) = m ((c.tc : Thread Cert.Mid.nD Cert.Mid.τ).loc Cert.Mid.main_arg0)
      ∧ r.2.mem ((c.tc : Thread Cert.Mid.nD Cert.Mid.τ).loc Cert.Mid.main_arg1) = m ((c.tc : Thread Cert.Mid.nD Cert.Mid.τ).loc Cert.Mid.main_arg1)
      ∧ r.2.mem ((c.tc : Thread Cert.Mid.nD Cert.Mid.τ).loc Cert.Mid.main_arg2) = m ((c.tc : Thread Cert.Mid.nD Cert.Mid.τ).loc Cert.Mid.main_arg2)
      ∧ r.2.mem ((c.tc : Thread Cert.Mid.nD Cert.Mid.τ).loc Cert.Mid.main_arg3) = m ((c.tc : Thread Cert.Mid.nD Cert.Mid.τ).loc Cert.Mid.main_arg3)
      ∧ r.2.mem ((c.tc : Thread Cert.Mid.nD Cert.Mid.τ).loc Cert.Mid.main_arg4) = m ((c.tc : Thread Cert.Mid.nD Cert.Mid.τ).loc Cert.Mid.main_arg4)
      ∧ r.2.mem ((c.tc : Thread Cert.Mid.nD Cert.Mid.τ).loc Cert.Mid.main_arg5) = m ((c.tc : Thread Cert.Mid.nD Cert.Mid.τ).loc Cert.Mid.main_arg5)
      ∧ r.2.mem ((c.tc : Thread Cert.Mid.nD Cert.Mid.τ).loc Cert.Mid.main_arg6) = m ((c.tc : Thread Cert.Mid.nD Cert.Mid.τ).loc Cert.Mid.main_arg6)
      ∧ r.2.mem ((c.tc : Thread Cert.Mid.nD Cert.Mid.τ).loc Cert.Mid.main_arg7) = m ((c.tc : Thread Cert.Mid.nD Cert.Mid.τ).loc Cert.Mid.main_arg7))
      ∧ r.2.sem = fun _ => 0)

def quiescent_MidIdeal [hMidIdeal : Cert.MidIdeal.Facts] : Prop :=
  ∀ (m : (ℓ : Loc Cert.MidIdeal.nD Cert.MidIdeal.τ Cert.MidIdeal.sig) → Buf (Elt Ideal) ℓ) (g : Dev Cert.MidIdeal.nD → PrngReg), Pre_MidIdeal m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
      ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
      ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
      ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
      ∧ r.2.mem ((c.tc : Thread Cert.MidIdeal.nD Cert.MidIdeal.τ).loc Cert.MidIdeal.main_arg7) = m ((c.tc : Thread Cert.MidIdeal.nD Cert.MidIdeal.τ).loc Cert.MidIdeal.main_arg7))
      ∧ r.2.sem = fun _ => 0)

def quiescent_MidRefIdeal [hMidRefIdeal : Cert.MidRefIdeal.Facts] : Prop :=
  ∀ (m : (ℓ : Loc Cert.MidRefIdeal.nD Cert.MidRefIdeal.τ Cert.MidRefIdeal.sig) → Buf (Elt Ideal) ℓ) (g : Dev Cert.MidRefIdeal.nD → PrngReg), Pre_MidRefIdeal m →
    θ_run (Cert.MidRefIdeal.defs (F := Ideal)) (onTc (τ := Cert.MidRefIdeal.τ) (Cert.MidRefIdeal.main (F := Ideal))) ⟨m, fun _ => 0, g⟩ (fun r => (∀ c : Dev Cert.MidRefIdeal.nD,
      r.2.mem ((c.tc : Thread Cert.MidRefIdeal.nD Cert.MidRefIdeal.τ).loc Cert.MidRefIdeal.main_arg0) = m ((c.tc : Thread Cert.MidRefIdeal.nD Cert.MidRefIdeal.τ).loc Cert.MidRefIdeal.main_arg0)
      ∧ r.2.mem ((c.tc : Thread Cert.MidRefIdeal.nD Cert.MidRefIdeal.τ).loc Cert.MidRefIdeal.main_arg1) = m ((c.tc : Thread Cert.MidRefIdeal.nD Cert.MidRefIdeal.τ).loc Cert.MidRefIdeal.main_arg1)
      ∧ r.2.mem ((c.tc : Thread Cert.MidRefIdeal.nD Cert.MidRefIdeal.τ).loc Cert.MidRefIdeal.main_arg2) = m ((c.tc : Thread Cert.MidRefIdeal.nD Cert.MidRefIdeal.τ).loc Cert.MidRefIdeal.main_arg2)
      ∧ r.2.mem ((c.tc : Thread Cert.MidRefIdeal.nD Cert.MidRefIdeal.τ).loc Cert.MidRefIdeal.main_arg3) = m ((c.tc : Thread Cert.MidRefIdeal.nD Cert.MidRefIdeal.τ).loc Cert.MidRefIdeal.main_arg3)
      ∧ r.2.mem ((c.tc : Thread Cert.MidRefIdeal.nD Cert.MidRefIdeal.τ).loc Cert.MidRefIdeal.main_arg4) = m ((c.tc : Thread Cert.MidRefIdeal.nD Cert.MidRefIdeal.τ).loc Cert.MidRefIdeal.main_arg4)
      ∧ r.2.mem ((c.tc : Thread Cert.MidRefIdeal.nD Cert.MidRefIdeal.τ).loc Cert.MidRefIdeal.main_arg5) = m ((c.tc : Thread Cert.MidRefIdeal.nD Cert.MidRefIdeal.τ).loc Cert.MidRefIdeal.main_arg5)
      ∧ r.2.mem ((c.tc : Thread Cert.MidRefIdeal.nD Cert.MidRefIdeal.τ).loc Cert.MidRefIdeal.main_arg6) = m ((c.tc : Thread Cert.MidRefIdeal.nD Cert.MidRefIdeal.τ).loc Cert.MidRefIdeal.main_arg6)
      ∧ r.2.mem ((c.tc : Thread Cert.MidRefIdeal.nD Cert.MidRefIdeal.τ).loc Cert.MidRefIdeal.main_arg7) = m ((c.tc : Thread Cert.MidRefIdeal.nD Cert.MidRefIdeal.τ).loc Cert.MidRefIdeal.main_arg7))
      ∧ r.2.sem = fun _ => 0)

def quiescent_MidBack [hMidBack : Cert.MidBack.Facts] : Prop :=
  ∀ (m : (ℓ : Loc Cert.MidBack.nD Cert.MidBack.τ Cert.MidBack.sig) → Buf (Elt Bits) ℓ) (g : Dev Cert.MidBack.nD → PrngReg), Pre_MidBack m →
    θ_run (Cert.MidBack.defs (F := Bits)) (onTc (τ := Cert.MidBack.τ) (Cert.MidBack.main (F := Bits))) ⟨m, fun _ => 0, g⟩ (fun r => (∀ c : Dev Cert.MidBack.nD,
      r.2.mem ((c.tc : Thread Cert.MidBack.nD Cert.MidBack.τ).loc Cert.MidBack.main_arg0) = m ((c.tc : Thread Cert.MidBack.nD Cert.MidBack.τ).loc Cert.MidBack.main_arg0)
      ∧ r.2.mem ((c.tc : Thread Cert.MidBack.nD Cert.MidBack.τ).loc Cert.MidBack.main_arg1) = m ((c.tc : Thread Cert.MidBack.nD Cert.MidBack.τ).loc Cert.MidBack.main_arg1)
      ∧ r.2.mem ((c.tc : Thread Cert.MidBack.nD Cert.MidBack.τ).loc Cert.MidBack.main_arg2) = m ((c.tc : Thread Cert.MidBack.nD Cert.MidBack.τ).loc Cert.MidBack.main_arg2)
      ∧ r.2.mem ((c.tc : Thread Cert.MidBack.nD Cert.MidBack.τ).loc Cert.MidBack.main_arg3) = m ((c.tc : Thread Cert.MidBack.nD Cert.MidBack.τ).loc Cert.MidBack.main_arg3)
      ∧ r.2.mem ((c.tc : Thread Cert.MidBack.nD Cert.MidBack.τ).loc Cert.MidBack.main_arg4) = m ((c.tc : Thread Cert.MidBack.nD Cert.MidBack.τ).loc Cert.MidBack.main_arg4)
      ∧ r.2.mem ((c.tc : Thread Cert.MidBack.nD Cert.MidBack.τ).loc Cert.MidBack.main_arg5) = m ((c.tc : Thread Cert.MidBack.nD Cert.MidBack.τ).loc Cert.MidBack.main_arg5)
      ∧ r.2.mem ((c.tc : Thread Cert.MidBack.nD Cert.MidBack.τ).loc Cert.MidBack.main_arg6) = m ((c.tc : Thread Cert.MidBack.nD Cert.MidBack.τ).loc Cert.MidBack.main_arg6)
      ∧ r.2.mem ((c.tc : Thread Cert.MidBack.nD Cert.MidBack.τ).loc Cert.MidBack.main_arg7) = m ((c.tc : Thread Cert.MidBack.nD Cert.MidBack.τ).loc Cert.MidBack.main_arg7)
      ∧ r.2.mem ((c.tc : Thread Cert.MidBack.nD Cert.MidBack.τ).loc Cert.MidBack.main_arg8) = m ((c.tc : Thread Cert.MidBack.nD Cert.MidBack.τ).loc Cert.MidBack.main_arg8))
      ∧ r.2.sem = fun _ => 0)

def quiescent_MidBackIdeal [hMidBackIdeal : Cert.MidBackIdeal.Facts] : Prop :=
  ∀ (m : (ℓ : Loc Cert.MidBackIdeal.nD Cert.MidBackIdeal.τ Cert.MidBackIdeal.sig) → Buf (Elt Ideal) ℓ) (g : Dev Cert.MidBackIdeal.nD → PrngReg), Pre_MidBackIdeal m →
    θ_run (Cert.MidBackIdeal.defs (F := Ideal)) (onTc (τ := Cert.MidBackIdeal.τ) (Cert.MidBackIdeal.main (F := Ideal))) ⟨m, fun _ => 0, g⟩ (fun r => (∀ c : Dev Cert.MidBackIdeal.nD,
      r.2.mem ((c.tc : Thread Cert.MidBackIdeal.nD Cert.MidBackIdeal.τ).loc Cert.MidBackIdeal.main_arg0) = m ((c.tc : Thread Cert.MidBackIdeal.nD Cert.MidBackIdeal.τ).loc Cert.MidBackIdeal.main_arg0)
      ∧ r.2.mem ((c.tc : Thread Cert.MidBackIdeal.nD Cert.MidBackIdeal.τ).loc Cert.MidBackIdeal.main_arg1) = m ((c.tc : Thread Cert.MidBackIdeal.nD Cert.MidBackIdeal.τ).loc Cert.MidBackIdeal.main_arg1)
      ∧ r.2.mem ((c.tc : Thread Cert.MidBackIdeal.nD Cert.MidBackIdeal.τ).loc Cert.MidBackIdeal.main_arg2) = m ((c.tc : Thread Cert.MidBackIdeal.nD Cert.MidBackIdeal.τ).loc Cert.MidBackIdeal.main_arg2)
      ∧ r.2.mem ((c.tc : Thread Cert.MidBackIdeal.nD Cert.MidBackIdeal.τ).loc Cert.MidBackIdeal.main_arg3) = m ((c.tc : Thread Cert.MidBackIdeal.nD Cert.MidBackIdeal.τ).loc Cert.MidBackIdeal.main_arg3)
      ∧ r.2.mem ((c.tc : Thread Cert.MidBackIdeal.nD Cert.MidBackIdeal.τ).loc Cert.MidBackIdeal.main_arg4) = m ((c.tc : Thread Cert.MidBackIdeal.nD Cert.MidBackIdeal.τ).loc Cert.MidBackIdeal.main_arg4)
      ∧ r.2.mem ((c.tc : Thread Cert.MidBackIdeal.nD Cert.MidBackIdeal.τ).loc Cert.MidBackIdeal.main_arg5) = m ((c.tc : Thread Cert.MidBackIdeal.nD Cert.MidBackIdeal.τ).loc Cert.MidBackIdeal.main_arg5)
      ∧ r.2.mem ((c.tc : Thread Cert.MidBackIdeal.nD Cert.MidBackIdeal.τ).loc Cert.MidBackIdeal.main_arg6) = m ((c.tc : Thread Cert.MidBackIdeal.nD Cert.MidBackIdeal.τ).loc Cert.MidBackIdeal.main_arg6)
      ∧ r.2.mem ((c.tc : Thread Cert.MidBackIdeal.nD Cert.MidBackIdeal.τ).loc Cert.MidBackIdeal.main_arg7) = m ((c.tc : Thread Cert.MidBackIdeal.nD Cert.MidBackIdeal.τ).loc Cert.MidBackIdeal.main_arg7)
      ∧ r.2.mem ((c.tc : Thread Cert.MidBackIdeal.nD Cert.MidBackIdeal.τ).loc Cert.MidBackIdeal.main_arg8) = m ((c.tc : Thread Cert.MidBackIdeal.nD Cert.MidBackIdeal.τ).loc Cert.MidBackIdeal.main_arg8))
      ∧ r.2.sem = fun _ => 0)

def quiescent_MidBackRefIdeal [hMidBackRefIdeal : Cert.MidBackRefIdeal.Facts] : Prop :=
  ∀ (m : (ℓ : Loc Cert.MidBackRefIdeal.nD Cert.MidBackRefIdeal.τ Cert.MidBackRefIdeal.sig) → Buf (Elt Ideal) ℓ) (g : Dev Cert.MidBackRefIdeal.nD → PrngReg), Pre_MidBackRefIdeal m →
    θ_run (Cert.MidBackRefIdeal.defs (F := Ideal)) (onTc (τ := Cert.MidBackRefIdeal.τ) (Cert.MidBackRefIdeal.main (F := Ideal))) ⟨m, fun _ => 0, g⟩ (fun r => (∀ c : Dev Cert.MidBackRefIdeal.nD,
      r.2.mem ((c.tc : Thread Cert.MidBackRefIdeal.nD Cert.MidBackRefIdeal.τ).loc Cert.MidBackRefIdeal.main_arg0) = m ((c.tc : Thread Cert.MidBackRefIdeal.nD Cert.MidBackRefIdeal.τ).loc Cert.MidBackRefIdeal.main_arg0)
      ∧ r.2.mem ((c.tc : Thread Cert.MidBackRefIdeal.nD Cert.MidBackRefIdeal.τ).loc Cert.MidBackRefIdeal.main_arg1) = m ((c.tc : Thread Cert.MidBackRefIdeal.nD Cert.MidBackRefIdeal.τ).loc Cert.MidBackRefIdeal.main_arg1)
      ∧ r.2.mem ((c.tc : Thread Cert.MidBackRefIdeal.nD Cert.MidBackRefIdeal.τ).loc Cert.MidBackRefIdeal.main_arg2) = m ((c.tc : Thread Cert.MidBackRefIdeal.nD Cert.MidBackRefIdeal.τ).loc Cert.MidBackRefIdeal.main_arg2)
      ∧ r.2.mem ((c.tc : Thread Cert.MidBackRefIdeal.nD Cert.MidBackRefIdeal.τ).loc Cert.MidBackRefIdeal.main_arg3) = m ((c.tc : Thread Cert.MidBackRefIdeal.nD Cert.MidBackRefIdeal.τ).loc Cert.MidBackRefIdeal.main_arg3)
      ∧ r.2.mem ((c.tc : Thread Cert.MidBackRefIdeal.nD Cert.MidBackRefIdeal.τ).loc Cert.MidBackRefIdeal.main_arg4) = m ((c.tc : Thread Cert.MidBackRefIdeal.nD Cert.MidBackRefIdeal.τ).loc Cert.MidBackRefIdeal.main_arg4)
      ∧ r.2.mem ((c.tc : Thread Cert.MidBackRefIdeal.nD Cert.MidBackRefIdeal.τ).loc Cert.MidBackRefIdeal.main_arg5) = m ((c.tc : Thread Cert.MidBackRefIdeal.nD Cert.MidBackRefIdeal.τ).loc Cert.MidBackRefIdeal.main_arg5)
      ∧ r.2.mem ((c.tc : Thread Cert.MidBackRefIdeal.nD Cert.MidBackRefIdeal.τ).loc Cert.MidBackRefIdeal.main_arg6) = m ((c.tc : Thread Cert.MidBackRefIdeal.nD Cert.MidBackRefIdeal.τ).loc Cert.MidBackRefIdeal.main_arg6)
      ∧ r.2.mem ((c.tc : Thread Cert.MidBackRefIdeal.nD Cert.MidBackRefIdeal.τ).loc Cert.MidBackRefIdeal.main_arg7) = m ((c.tc : Thread Cert.MidBackRefIdeal.nD Cert.MidBackRefIdeal.τ).loc Cert.MidBackRefIdeal.main_arg7)
      ∧ r.2.mem ((c.tc : Thread Cert.MidBackRefIdeal.nD Cert.MidBackRefIdeal.τ).loc Cert.MidBackRefIdeal.main_arg8) = m ((c.tc : Thread Cert.MidBackRefIdeal.nD Cert.MidBackRefIdeal.τ).loc Cert.MidBackRefIdeal.main_arg8))
      ∧ r.2.sem = fun _ => 0)

def quiescent_DwGate [hDwGate : Cert.DwGate.Facts] : Prop :=
  ∀ (m : (ℓ : Loc Cert.DwGate.nD Cert.DwGate.τ Cert.DwGate.sig) → Buf (Elt Bits) ℓ) (g : Dev Cert.DwGate.nD → PrngReg), Pre_DwGate m →
    θ_run (Cert.DwGate.defs (F := Bits)) (onTc (τ := Cert.DwGate.τ) (Cert.DwGate.main (F := Bits))) ⟨m, fun _ => 0, g⟩ (fun r => (∀ c : Dev Cert.DwGate.nD,
      r.2.mem ((c.tc : Thread Cert.DwGate.nD Cert.DwGate.τ).loc Cert.DwGate.main_arg0) = m ((c.tc : Thread Cert.DwGate.nD Cert.DwGate.τ).loc Cert.DwGate.main_arg0)
      ∧ r.2.mem ((c.tc : Thread Cert.DwGate.nD Cert.DwGate.τ).loc Cert.DwGate.main_arg1) = m ((c.tc : Thread Cert.DwGate.nD Cert.DwGate.τ).loc Cert.DwGate.main_arg1))
      ∧ r.2.sem = fun _ => 0)

def quiescent_DwGateIdeal [hDwGateIdeal : Cert.DwGateIdeal.Facts] : Prop :=
  ∀ (m : (ℓ : Loc Cert.DwGateIdeal.nD Cert.DwGateIdeal.τ Cert.DwGateIdeal.sig) → Buf (Elt Ideal) ℓ) (g : Dev Cert.DwGateIdeal.nD → PrngReg), Pre_DwGateIdeal m →
    θ_run (Cert.DwGateIdeal.defs (F := Ideal)) (onTc (τ := Cert.DwGateIdeal.τ) (Cert.DwGateIdeal.main (F := Ideal))) ⟨m, fun _ => 0, g⟩ (fun r => (∀ c : Dev Cert.DwGateIdeal.nD,
      r.2.mem ((c.tc : Thread Cert.DwGateIdeal.nD Cert.DwGateIdeal.τ).loc Cert.DwGateIdeal.main_arg0) = m ((c.tc : Thread Cert.DwGateIdeal.nD Cert.DwGateIdeal.τ).loc Cert.DwGateIdeal.main_arg0)
      ∧ r.2.mem ((c.tc : Thread Cert.DwGateIdeal.nD Cert.DwGateIdeal.τ).loc Cert.DwGateIdeal.main_arg1) = m ((c.tc : Thread Cert.DwGateIdeal.nD Cert.DwGateIdeal.τ).loc Cert.DwGateIdeal.main_arg1))
      ∧ r.2.sem = fun _ => 0)

def quiescent_DwGateRefIdeal [hDwGateRefIdeal : Cert.DwGateRefIdeal.Facts] : Prop :=
  ∀ (m : (ℓ : Loc Cert.DwGateRefIdeal.nD Cert.DwGateRefIdeal.τ Cert.DwGateRefIdeal.sig) → Buf (Elt Ideal) ℓ) (g : Dev Cert.DwGateRefIdeal.nD → PrngReg), Pre_DwGateRefIdeal m →
    θ_run (Cert.DwGateRefIdeal.defs (F := Ideal)) (onTc (τ := Cert.DwGateRefIdeal.τ) (Cert.DwGateRefIdeal.main (F := Ideal))) ⟨m, fun _ => 0, g⟩ (fun r => (∀ c : Dev Cert.DwGateRefIdeal.nD,
      r.2.mem ((c.tc : Thread Cert.DwGateRefIdeal.nD Cert.DwGateRefIdeal.τ).loc Cert.DwGateRefIdeal.main_arg0) = m ((c.tc : Thread Cert.DwGateRefIdeal.nD Cert.DwGateRefIdeal.τ).loc Cert.DwGateRefIdeal.main_arg0)
      ∧ r.2.mem ((c.tc : Thread Cert.DwGateRefIdeal.nD Cert.DwGateRefIdeal.τ).loc Cert.DwGateRefIdeal.main_arg1) = m ((c.tc : Thread Cert.DwGateRefIdeal.nD Cert.DwGateRefIdeal.τ).loc Cert.DwGateRefIdeal.main_arg1))
      ∧ r.2.sem = fun _ => 0)

def quiescent_DwIn2048 [hDwIn2048 : Cert.DwIn2048.Facts] : Prop :=
  ∀ (m : (ℓ : Loc Cert.DwIn2048.nD Cert.DwIn2048.τ Cert.DwIn2048.sig) → Buf (Elt Bits) ℓ) (g : Dev Cert.DwIn2048.nD → PrngReg), Pre_DwIn2048 m →
    θ_run (Cert.DwIn2048.defs (F := Bits)) (onTc (τ := Cert.DwIn2048.τ) (Cert.DwIn2048.main (F := Bits))) ⟨m, fun _ => 0, g⟩ (fun r => (∀ c : Dev Cert.DwIn2048.nD,
      r.2.mem ((c.tc : Thread Cert.DwIn2048.nD Cert.DwIn2048.τ).loc Cert.DwIn2048.main_arg0) = m ((c.tc : Thread Cert.DwIn2048.nD Cert.DwIn2048.τ).loc Cert.DwIn2048.main_arg0)
      ∧ r.2.mem ((c.tc : Thread Cert.DwIn2048.nD Cert.DwIn2048.τ).loc Cert.DwIn2048.main_arg1) = m ((c.tc : Thread Cert.DwIn2048.nD Cert.DwIn2048.τ).loc Cert.DwIn2048.main_arg1))
      ∧ r.2.sem = fun _ => 0)

def quiescent_DwIn2048Ideal [hDwIn2048Ideal : Cert.DwIn2048Ideal.Facts] : Prop :=
  ∀ (m : (ℓ : Loc Cert.DwIn2048Ideal.nD Cert.DwIn2048Ideal.τ Cert.DwIn2048Ideal.sig) → Buf (Elt Ideal) ℓ) (g : Dev Cert.DwIn2048Ideal.nD → PrngReg), Pre_DwIn2048Ideal m →
    θ_run (Cert.DwIn2048Ideal.defs (F := Ideal)) (onTc (τ := Cert.DwIn2048Ideal.τ) (Cert.DwIn2048Ideal.main (F := Ideal))) ⟨m, fun _ => 0, g⟩ (fun r => (∀ c : Dev Cert.DwIn2048Ideal.nD,
      r.2.mem ((c.tc : Thread Cert.DwIn2048Ideal.nD Cert.DwIn2048Ideal.τ).loc Cert.DwIn2048Ideal.main_arg0) = m ((c.tc : Thread Cert.DwIn2048Ideal.nD Cert.DwIn2048Ideal.τ).loc Cert.DwIn2048Ideal.main_arg0)
      ∧ r.2.mem ((c.tc : Thread Cert.DwIn2048Ideal.nD Cert.DwIn2048Ideal.τ).loc Cert.DwIn2048Ideal.main_arg1) = m ((c.tc : Thread Cert.DwIn2048Ideal.nD Cert.DwIn2048Ideal.τ).loc Cert.DwIn2048Ideal.main_arg1))
      ∧ r.2.sem = fun _ => 0)

def quiescent_DwIn2048RefIdeal [hDwIn2048RefIdeal : Cert.DwIn2048RefIdeal.Facts] : Prop :=
  ∀ (m : (ℓ : Loc Cert.DwIn2048RefIdeal.nD Cert.DwIn2048RefIdeal.τ Cert.DwIn2048RefIdeal.sig) → Buf (Elt Ideal) ℓ) (g : Dev Cert.DwIn2048RefIdeal.nD → PrngReg), Pre_DwIn2048RefIdeal m →
    θ_run (Cert.DwIn2048RefIdeal.defs (F := Ideal)) (onTc (τ := Cert.DwIn2048RefIdeal.τ) (Cert.DwIn2048RefIdeal.main (F := Ideal))) ⟨m, fun _ => 0, g⟩ (fun r => (∀ c : Dev Cert.DwIn2048RefIdeal.nD,
      r.2.mem ((c.tc : Thread Cert.DwIn2048RefIdeal.nD Cert.DwIn2048RefIdeal.τ).loc Cert.DwIn2048RefIdeal.main_arg0) = m ((c.tc : Thread Cert.DwIn2048RefIdeal.nD Cert.DwIn2048RefIdeal.τ).loc Cert.DwIn2048RefIdeal.main_arg0)
      ∧ r.2.mem ((c.tc : Thread Cert.DwIn2048RefIdeal.nD Cert.DwIn2048RefIdeal.τ).loc Cert.DwIn2048RefIdeal.main_arg1) = m ((c.tc : Thread Cert.DwIn2048RefIdeal.nD Cert.DwIn2048RefIdeal.τ).loc Cert.DwIn2048RefIdeal.main_arg1))
      ∧ r.2.sem = fun _ => 0)

def quiescent_DwIn1536 [hDwIn1536 : Cert.DwIn1536.Facts] : Prop :=
  ∀ (m : (ℓ : Loc Cert.DwIn1536.nD Cert.DwIn1536.τ Cert.DwIn1536.sig) → Buf (Elt Bits) ℓ) (g : Dev Cert.DwIn1536.nD → PrngReg), Pre_DwIn1536 m →
    θ_run (Cert.DwIn1536.defs (F := Bits)) (onTc (τ := Cert.DwIn1536.τ) (Cert.DwIn1536.main (F := Bits))) ⟨m, fun _ => 0, g⟩ (fun r => (∀ c : Dev Cert.DwIn1536.nD,
      r.2.mem ((c.tc : Thread Cert.DwIn1536.nD Cert.DwIn1536.τ).loc Cert.DwIn1536.main_arg0) = m ((c.tc : Thread Cert.DwIn1536.nD Cert.DwIn1536.τ).loc Cert.DwIn1536.main_arg0)
      ∧ r.2.mem ((c.tc : Thread Cert.DwIn1536.nD Cert.DwIn1536.τ).loc Cert.DwIn1536.main_arg1) = m ((c.tc : Thread Cert.DwIn1536.nD Cert.DwIn1536.τ).loc Cert.DwIn1536.main_arg1))
      ∧ r.2.sem = fun _ => 0)

def quiescent_DwIn1536Ideal [hDwIn1536Ideal : Cert.DwIn1536Ideal.Facts] : Prop :=
  ∀ (m : (ℓ : Loc Cert.DwIn1536Ideal.nD Cert.DwIn1536Ideal.τ Cert.DwIn1536Ideal.sig) → Buf (Elt Ideal) ℓ) (g : Dev Cert.DwIn1536Ideal.nD → PrngReg), Pre_DwIn1536Ideal m →
    θ_run (Cert.DwIn1536Ideal.defs (F := Ideal)) (onTc (τ := Cert.DwIn1536Ideal.τ) (Cert.DwIn1536Ideal.main (F := Ideal))) ⟨m, fun _ => 0, g⟩ (fun r => (∀ c : Dev Cert.DwIn1536Ideal.nD,
      r.2.mem ((c.tc : Thread Cert.DwIn1536Ideal.nD Cert.DwIn1536Ideal.τ).loc Cert.DwIn1536Ideal.main_arg0) = m ((c.tc : Thread Cert.DwIn1536Ideal.nD Cert.DwIn1536Ideal.τ).loc Cert.DwIn1536Ideal.main_arg0)
      ∧ r.2.mem ((c.tc : Thread Cert.DwIn1536Ideal.nD Cert.DwIn1536Ideal.τ).loc Cert.DwIn1536Ideal.main_arg1) = m ((c.tc : Thread Cert.DwIn1536Ideal.nD Cert.DwIn1536Ideal.τ).loc Cert.DwIn1536Ideal.main_arg1))
      ∧ r.2.sem = fun _ => 0)

def quiescent_DwIn1536RefIdeal [hDwIn1536RefIdeal : Cert.DwIn1536RefIdeal.Facts] : Prop :=
  ∀ (m : (ℓ : Loc Cert.DwIn1536RefIdeal.nD Cert.DwIn1536RefIdeal.τ Cert.DwIn1536RefIdeal.sig) → Buf (Elt Ideal) ℓ) (g : Dev Cert.DwIn1536RefIdeal.nD → PrngReg), Pre_DwIn1536RefIdeal m →
    θ_run (Cert.DwIn1536RefIdeal.defs (F := Ideal)) (onTc (τ := Cert.DwIn1536RefIdeal.τ) (Cert.DwIn1536RefIdeal.main (F := Ideal))) ⟨m, fun _ => 0, g⟩ (fun r => (∀ c : Dev Cert.DwIn1536RefIdeal.nD,
      r.2.mem ((c.tc : Thread Cert.DwIn1536RefIdeal.nD Cert.DwIn1536RefIdeal.τ).loc Cert.DwIn1536RefIdeal.main_arg0) = m ((c.tc : Thread Cert.DwIn1536RefIdeal.nD Cert.DwIn1536RefIdeal.τ).loc Cert.DwIn1536RefIdeal.main_arg0)
      ∧ r.2.mem ((c.tc : Thread Cert.DwIn1536RefIdeal.nD Cert.DwIn1536RefIdeal.τ).loc Cert.DwIn1536RefIdeal.main_arg1) = m ((c.tc : Thread Cert.DwIn1536RefIdeal.nD Cert.DwIn1536RefIdeal.τ).loc Cert.DwIn1536RefIdeal.main_arg1))
      ∧ r.2.sem = fun _ => 0)

def quiescent_DwIn512 [hDwIn512 : Cert.DwIn512.Facts] : Prop :=
  ∀ (m : (ℓ : Loc Cert.DwIn512.nD Cert.DwIn512.τ Cert.DwIn512.sig) → Buf (Elt Bits) ℓ) (g : Dev Cert.DwIn512.nD → PrngReg), Pre_DwIn512 m →
    θ_run (Cert.DwIn512.defs (F := Bits)) (onTc (τ := Cert.DwIn512.τ) (Cert.DwIn512.main (F := Bits))) ⟨m, fun _ => 0, g⟩ (fun r => (∀ c : Dev Cert.DwIn512.nD,
      r.2.mem ((c.tc : Thread Cert.DwIn512.nD Cert.DwIn512.τ).loc Cert.DwIn512.main_arg0) = m ((c.tc : Thread Cert.DwIn512.nD Cert.DwIn512.τ).loc Cert.DwIn512.main_arg0)
      ∧ r.2.mem ((c.tc : Thread Cert.DwIn512.nD Cert.DwIn512.τ).loc Cert.DwIn512.main_arg1) = m ((c.tc : Thread Cert.DwIn512.nD Cert.DwIn512.τ).loc Cert.DwIn512.main_arg1))
      ∧ r.2.sem = fun _ => 0)

def quiescent_DwIn512Ideal [hDwIn512Ideal : Cert.DwIn512Ideal.Facts] : Prop :=
  ∀ (m : (ℓ : Loc Cert.DwIn512Ideal.nD Cert.DwIn512Ideal.τ Cert.DwIn512Ideal.sig) → Buf (Elt Ideal) ℓ) (g : Dev Cert.DwIn512Ideal.nD → PrngReg), Pre_DwIn512Ideal m →
    θ_run (Cert.DwIn512Ideal.defs (F := Ideal)) (onTc (τ := Cert.DwIn512Ideal.τ) (Cert.DwIn512Ideal.main (F := Ideal))) ⟨m, fun _ => 0, g⟩ (fun r => (∀ c : Dev Cert.DwIn512Ideal.nD,
      r.2.mem ((c.tc : Thread Cert.DwIn512Ideal.nD Cert.DwIn512Ideal.τ).loc Cert.DwIn512Ideal.main_arg0) = m ((c.tc : Thread Cert.DwIn512Ideal.nD Cert.DwIn512Ideal.τ).loc Cert.DwIn512Ideal.main_arg0)
      ∧ r.2.mem ((c.tc : Thread Cert.DwIn512Ideal.nD Cert.DwIn512Ideal.τ).loc Cert.DwIn512Ideal.main_arg1) = m ((c.tc : Thread Cert.DwIn512Ideal.nD Cert.DwIn512Ideal.τ).loc Cert.DwIn512Ideal.main_arg1))
      ∧ r.2.sem = fun _ => 0)

def quiescent_DwIn512RefIdeal [hDwIn512RefIdeal : Cert.DwIn512RefIdeal.Facts] : Prop :=
  ∀ (m : (ℓ : Loc Cert.DwIn512RefIdeal.nD Cert.DwIn512RefIdeal.τ Cert.DwIn512RefIdeal.sig) → Buf (Elt Ideal) ℓ) (g : Dev Cert.DwIn512RefIdeal.nD → PrngReg), Pre_DwIn512RefIdeal m →
    θ_run (Cert.DwIn512RefIdeal.defs (F := Ideal)) (onTc (τ := Cert.DwIn512RefIdeal.τ) (Cert.DwIn512RefIdeal.main (F := Ideal))) ⟨m, fun _ => 0, g⟩ (fun r => (∀ c : Dev Cert.DwIn512RefIdeal.nD,
      r.2.mem ((c.tc : Thread Cert.DwIn512RefIdeal.nD Cert.DwIn512RefIdeal.τ).loc Cert.DwIn512RefIdeal.main_arg0) = m ((c.tc : Thread Cert.DwIn512RefIdeal.nD Cert.DwIn512RefIdeal.τ).loc Cert.DwIn512RefIdeal.main_arg0)
      ∧ r.2.mem ((c.tc : Thread Cert.DwIn512RefIdeal.nD Cert.DwIn512RefIdeal.τ).loc Cert.DwIn512RefIdeal.main_arg1) = m ((c.tc : Thread Cert.DwIn512RefIdeal.nD Cert.DwIn512RefIdeal.τ).loc Cert.DwIn512RefIdeal.main_arg1))
      ∧ r.2.sem = fun _ => 0)

def quiescent_DwIn128 [hDwIn128 : Cert.DwIn128.Facts] : Prop :=
  ∀ (m : (ℓ : Loc Cert.DwIn128.nD Cert.DwIn128.τ Cert.DwIn128.sig) → Buf (Elt Bits) ℓ) (g : Dev Cert.DwIn128.nD → PrngReg), Pre_DwIn128 m →
    θ_run (Cert.DwIn128.defs (F := Bits)) (onTc (τ := Cert.DwIn128.τ) (Cert.DwIn128.main (F := Bits))) ⟨m, fun _ => 0, g⟩ (fun r => (∀ c : Dev Cert.DwIn128.nD,
      r.2.mem ((c.tc : Thread Cert.DwIn128.nD Cert.DwIn128.τ).loc Cert.DwIn128.main_arg0) = m ((c.tc : Thread Cert.DwIn128.nD Cert.DwIn128.τ).loc Cert.DwIn128.main_arg0)
      ∧ r.2.mem ((c.tc : Thread Cert.DwIn128.nD Cert.DwIn128.τ).loc Cert.DwIn128.main_arg1) = m ((c.tc : Thread Cert.DwIn128.nD Cert.DwIn128.τ).loc Cert.DwIn128.main_arg1))
      ∧ r.2.sem = fun _ => 0)

def quiescent_DwIn128Ideal [hDwIn128Ideal : Cert.DwIn128Ideal.Facts] : Prop :=
  ∀ (m : (ℓ : Loc Cert.DwIn128Ideal.nD Cert.DwIn128Ideal.τ Cert.DwIn128Ideal.sig) → Buf (Elt Ideal) ℓ) (g : Dev Cert.DwIn128Ideal.nD → PrngReg), Pre_DwIn128Ideal m →
    θ_run (Cert.DwIn128Ideal.defs (F := Ideal)) (onTc (τ := Cert.DwIn128Ideal.τ) (Cert.DwIn128Ideal.main (F := Ideal))) ⟨m, fun _ => 0, g⟩ (fun r => (∀ c : Dev Cert.DwIn128Ideal.nD,
      r.2.mem ((c.tc : Thread Cert.DwIn128Ideal.nD Cert.DwIn128Ideal.τ).loc Cert.DwIn128Ideal.main_arg0) = m ((c.tc : Thread Cert.DwIn128Ideal.nD Cert.DwIn128Ideal.τ).loc Cert.DwIn128Ideal.main_arg0)
      ∧ r.2.mem ((c.tc : Thread Cert.DwIn128Ideal.nD Cert.DwIn128Ideal.τ).loc Cert.DwIn128Ideal.main_arg1) = m ((c.tc : Thread Cert.DwIn128Ideal.nD Cert.DwIn128Ideal.τ).loc Cert.DwIn128Ideal.main_arg1))
      ∧ r.2.sem = fun _ => 0)

def quiescent_DwIn128RefIdeal [hDwIn128RefIdeal : Cert.DwIn128RefIdeal.Facts] : Prop :=
  ∀ (m : (ℓ : Loc Cert.DwIn128RefIdeal.nD Cert.DwIn128RefIdeal.τ Cert.DwIn128RefIdeal.sig) → Buf (Elt Ideal) ℓ) (g : Dev Cert.DwIn128RefIdeal.nD → PrngReg), Pre_DwIn128RefIdeal m →
    θ_run (Cert.DwIn128RefIdeal.defs (F := Ideal)) (onTc (τ := Cert.DwIn128RefIdeal.τ) (Cert.DwIn128RefIdeal.main (F := Ideal))) ⟨m, fun _ => 0, g⟩ (fun r => (∀ c : Dev Cert.DwIn128RefIdeal.nD,
      r.2.mem ((c.tc : Thread Cert.DwIn128RefIdeal.nD Cert.DwIn128RefIdeal.τ).loc Cert.DwIn128RefIdeal.main_arg0) = m ((c.tc : Thread Cert.DwIn128RefIdeal.nD Cert.DwIn128RefIdeal.τ).loc Cert.DwIn128RefIdeal.main_arg0)
      ∧ r.2.mem ((c.tc : Thread Cert.DwIn128RefIdeal.nD Cert.DwIn128RefIdeal.τ).loc Cert.DwIn128RefIdeal.main_arg1) = m ((c.tc : Thread Cert.DwIn128RefIdeal.nD Cert.DwIn128RefIdeal.τ).loc Cert.DwIn128RefIdeal.main_arg1))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1))
      ∧ r.2.sem = fun _ => 0)

def quiescent_ConvBack [hConvBack : Cert.ConvBack.Facts] : Prop :=
  ∀ (m : (ℓ : Loc Cert.ConvBack.nD Cert.ConvBack.τ Cert.ConvBack.sig) → Buf (Elt Bits) ℓ) (g : Dev Cert.ConvBack.nD → PrngReg), Pre_ConvBack m →
    θ_run (Cert.ConvBack.defs (F := Bits)) (onTc (τ := Cert.ConvBack.τ) (Cert.ConvBack.main (F := Bits))) ⟨m, fun _ => 0, g⟩ (fun r => (∀ c : Dev Cert.ConvBack.nD,
      r.2.mem ((c.tc : Thread Cert.ConvBack.nD Cert.ConvBack.τ).loc Cert.ConvBack.main_arg0) = m ((c.tc : Thread Cert.ConvBack.nD Cert.ConvBack.τ).loc Cert.ConvBack.main_arg0)
      ∧ r.2.mem ((c.tc : Thread Cert.ConvBack.nD Cert.ConvBack.τ).loc Cert.ConvBack.main_arg1) = m ((c.tc : Thread Cert.ConvBack.nD Cert.ConvBack.τ).loc Cert.ConvBack.main_arg1)
      ∧ r.2.mem ((c.tc : Thread Cert.ConvBack.nD Cert.ConvBack.τ).loc Cert.ConvBack.main_arg2) = m ((c.tc : Thread Cert.ConvBack.nD Cert.ConvBack.τ).loc Cert.ConvBack.main_arg2))
      ∧ r.2.sem = fun _ => 0)

def quiescent_ConvBackIdeal [hConvBackIdeal : Cert.ConvBackIdeal.Facts] : Prop :=
  ∀ (m : (ℓ : Loc Cert.ConvBackIdeal.nD Cert.ConvBackIdeal.τ Cert.ConvBackIdeal.sig) → Buf (Elt Ideal) ℓ) (g : Dev Cert.ConvBackIdeal.nD → PrngReg), Pre_ConvBackIdeal m →
    θ_run (Cert.ConvBackIdeal.defs (F := Ideal)) (onTc (τ := Cert.ConvBackIdeal.τ) (Cert.ConvBackIdeal.main (F := Ideal))) ⟨m, fun _ => 0, g⟩ (fun r => (∀ c : Dev Cert.ConvBackIdeal.nD,
      r.2.mem ((c.tc : Thread Cert.ConvBackIdeal.nD Cert.ConvBackIdeal.τ).loc Cert.ConvBackIdeal.main_arg0) = m ((c.tc : Thread Cert.ConvBackIdeal.nD Cert.ConvBackIdeal.τ).loc Cert.ConvBackIdeal.main_arg0)
      ∧ r.2.mem ((c.tc : Thread Cert.ConvBackIdeal.nD Cert.ConvBackIdeal.τ).loc Cert.ConvBackIdeal.main_arg1) = m ((c.tc : Thread Cert.ConvBackIdeal.nD Cert.ConvBackIdeal.τ).loc Cert.ConvBackIdeal.main_arg1)
      ∧ r.2.mem ((c.tc : Thread Cert.ConvBackIdeal.nD Cert.ConvBackIdeal.τ).loc Cert.ConvBackIdeal.main_arg2) = m ((c.tc : Thread Cert.ConvBackIdeal.nD Cert.ConvBackIdeal.τ).loc Cert.ConvBackIdeal.main_arg2))
      ∧ r.2.sem = fun _ => 0)

def quiescent_ConvBackRefIdeal [hConvBackRefIdeal : Cert.ConvBackRefIdeal.Facts] : Prop :=
  ∀ (m : (ℓ : Loc Cert.ConvBackRefIdeal.nD Cert.ConvBackRefIdeal.τ Cert.ConvBackRefIdeal.sig) → Buf (Elt Ideal) ℓ) (g : Dev Cert.ConvBackRefIdeal.nD → PrngReg), Pre_ConvBackRefIdeal m →
    θ_run (Cert.ConvBackRefIdeal.defs (F := Ideal)) (onTc (τ := Cert.ConvBackRefIdeal.τ) (Cert.ConvBackRefIdeal.main (F := Ideal))) ⟨m, fun _ => 0, g⟩ (fun r => (∀ c : Dev Cert.ConvBackRefIdeal.nD,
      r.2.mem ((c.tc : Thread Cert.ConvBackRefIdeal.nD Cert.ConvBackRefIdeal.τ).loc Cert.ConvBackRefIdeal.main_arg0) = m ((c.tc : Thread Cert.ConvBackRefIdeal.nD Cert.ConvBackRefIdeal.τ).loc Cert.ConvBackRefIdeal.main_arg0)
      ∧ r.2.mem ((c.tc : Thread Cert.ConvBackRefIdeal.nD Cert.ConvBackRefIdeal.τ).loc Cert.ConvBackRefIdeal.main_arg1) = m ((c.tc : Thread Cert.ConvBackRefIdeal.nD Cert.ConvBackRefIdeal.τ).loc Cert.ConvBackRefIdeal.main_arg1)
      ∧ r.2.mem ((c.tc : Thread Cert.ConvBackRefIdeal.nD Cert.ConvBackRefIdeal.τ).loc Cert.ConvBackRefIdeal.main_arg2) = m ((c.tc : Thread Cert.ConvBackRefIdeal.nD Cert.ConvBackRefIdeal.τ).loc Cert.ConvBackRefIdeal.main_arg2))
      ∧ r.2.sem = fun _ => 0)

def quiescent_Att [hAtt : Cert.Att.Facts] : Prop :=
  ∀ (m : (ℓ : Loc Cert.Att.nD Cert.Att.τ Cert.Att.sig) → Buf (Elt Bits) ℓ) (g : Dev Cert.Att.nD → PrngReg), Pre_Att m →
    θ_run (Cert.Att.defs (F := Bits)) (onTc (τ := Cert.Att.τ) (Cert.Att.main (F := Bits))) ⟨m, fun _ => 0, g⟩ (fun r => (∀ c : Dev Cert.Att.nD,
      r.2.mem ((c.tc : Thread Cert.Att.nD Cert.Att.τ).loc Cert.Att.main_arg0) = m ((c.tc : Thread Cert.Att.nD Cert.Att.τ).loc Cert.Att.main_arg0)
      ∧ r.2.mem ((c.tc : Thread Cert.Att.nD Cert.Att.τ).loc Cert.Att.main_arg1) = m ((c.tc : Thread Cert.Att.nD Cert.Att.τ).loc Cert.Att.main_arg1))
      ∧ r.2.sem = fun _ => 0)

def quiescent_AttIdeal [hAttIdeal : Cert.AttIdeal.Facts] : Prop :=
  ∀ (m : (ℓ : Loc Cert.AttIdeal.nD Cert.AttIdeal.τ Cert.AttIdeal.sig) → Buf (Elt Ideal) ℓ) (g : Dev Cert.AttIdeal.nD → PrngReg), Pre_AttIdeal m →
    θ_run (Cert.AttIdeal.defs (F := Ideal)) (onTc (τ := Cert.AttIdeal.τ) (Cert.AttIdeal.main (F := Ideal))) ⟨m, fun _ => 0, g⟩ (fun r => (∀ c : Dev Cert.AttIdeal.nD,
      r.2.mem ((c.tc : Thread Cert.AttIdeal.nD Cert.AttIdeal.τ).loc Cert.AttIdeal.main_arg0) = m ((c.tc : Thread Cert.AttIdeal.nD Cert.AttIdeal.τ).loc Cert.AttIdeal.main_arg0)
      ∧ r.2.mem ((c.tc : Thread Cert.AttIdeal.nD Cert.AttIdeal.τ).loc Cert.AttIdeal.main_arg1) = m ((c.tc : Thread Cert.AttIdeal.nD Cert.AttIdeal.τ).loc Cert.AttIdeal.main_arg1))
      ∧ r.2.sem = fun _ => 0)

def quiescent_AttRefIdeal [hAttRefIdeal : Cert.AttRefIdeal.Facts] : Prop :=
  ∀ (m : (ℓ : Loc Cert.AttRefIdeal.nD Cert.AttRefIdeal.τ Cert.AttRefIdeal.sig) → Buf (Elt Ideal) ℓ) (g : Dev Cert.AttRefIdeal.nD → PrngReg), Pre_AttRefIdeal m →
    θ_run (Cert.AttRefIdeal.defs (F := Ideal)) (onTc (τ := Cert.AttRefIdeal.τ) (Cert.AttRefIdeal.main (F := Ideal))) ⟨m, fun _ => 0, g⟩ (fun r => (∀ c : Dev Cert.AttRefIdeal.nD,
      r.2.mem ((c.tc : Thread Cert.AttRefIdeal.nD Cert.AttRefIdeal.τ).loc Cert.AttRefIdeal.main_arg0) = m ((c.tc : Thread Cert.AttRefIdeal.nD Cert.AttRefIdeal.τ).loc Cert.AttRefIdeal.main_arg0)
      ∧ r.2.mem ((c.tc : Thread Cert.AttRefIdeal.nD Cert.AttRefIdeal.τ).loc Cert.AttRefIdeal.main_arg1) = m ((c.tc : Thread Cert.AttRefIdeal.nD Cert.AttRefIdeal.τ).loc Cert.AttRefIdeal.main_arg1))
      ∧ r.2.sem = fun _ => 0)

def preserves_Swap_SwapIdeal : Prop :=
  True

def algebraic_SwapIdeal_SwapRefIdeal [hSwapIdeal : Cert.SwapIdeal.Facts] [hSwapRefIdeal : Cert.SwapRefIdeal.Facts] : Prop :=
  ∀ (m : (ℓ : Loc Cert.SwapIdeal.nD Cert.SwapIdeal.τ Cert.SwapIdeal.sig) → Buf (Elt Ideal) ℓ) (g : Dev Cert.SwapIdeal.nD → PrngReg)
    (m' : (ℓ : Loc Cert.SwapRefIdeal.nD Cert.SwapRefIdeal.τ Cert.SwapRefIdeal.sig) → Buf (Elt Ideal) ℓ) (g' : Dev Cert.SwapRefIdeal.nD → PrngReg), Pre_SwapIdeal m →
    (∀ c : Dev Cert.SwapIdeal.nD,
      m ((c.tc : Thread Cert.SwapIdeal.nD Cert.SwapIdeal.τ).loc Cert.SwapIdeal.main_arg0) = Layout.block ⟨3, ![4, 34880, 128]⟩ ⟨3, ![32, 34880, 128]⟩ 0 8 c (m' (((0 : Dev Cert.SwapRefIdeal.nD).tc : Thread Cert.SwapRefIdeal.nD Cert.SwapRefIdeal.τ).loc Cert.SwapRefIdeal.main_arg0))) →
    ∃ (v0 : Buf (Elt Ideal) (((0 : Dev Cert.SwapRefIdeal.nD).tc : Thread Cert.SwapRefIdeal.nD Cert.SwapRefIdeal.τ).loc Cert.SwapRefIdeal.main_v8)),
      θ_run (Cert.SwapIdeal.defs (F := Ideal)) (onTc (τ := Cert.SwapIdeal.τ) (Cert.SwapIdeal.main (F := Ideal))) ⟨m, fun _ => 0, g⟩ (fun r => ∀ c : Dev Cert.SwapIdeal.nD,
          r.2.mem ((c.tc : Thread Cert.SwapIdeal.nD Cert.SwapIdeal.τ).loc Cert.SwapIdeal.main_v1) = Layout.block ⟨3, ![4, 17440, 128]⟩ ⟨3, ![32, 17440, 128]⟩ 0 8 c v0
          ∧ r.2.mem ((c.tc : Thread Cert.SwapIdeal.nD Cert.SwapIdeal.τ).loc Cert.SwapIdeal.main_arg0) = m ((c.tc : Thread Cert.SwapIdeal.nD Cert.SwapIdeal.τ).loc Cert.SwapIdeal.main_arg0))
      ∧ θ_run (Cert.SwapRefIdeal.defs (F := Ideal)) (onTc (τ := Cert.SwapRefIdeal.τ) (Cert.SwapRefIdeal.main (F := Ideal))) ⟨m', fun _ => 0, g'⟩ (fun r =>
          r.2.mem (((0 : Dev Cert.SwapRefIdeal.nD).tc : Thread Cert.SwapRefIdeal.nD Cert.SwapRefIdeal.τ).loc Cert.SwapRefIdeal.main_v8) = v0
          ∧ r.2.mem (((0 : Dev Cert.SwapRefIdeal.nD).tc : Thread Cert.SwapRefIdeal.nD Cert.SwapRefIdeal.τ).loc Cert.SwapRefIdeal.main_arg0) = m' (((0 : Dev Cert.SwapRefIdeal.nD).tc : Thread Cert.SwapRefIdeal.nD Cert.SwapRefIdeal.τ).loc Cert.SwapRefIdeal.main_arg0))

def bitexact_Swap_SwapRef [hSwap : Cert.Swap.Facts] [hSwapRef : Cert.SwapRef.Facts] : Prop :=
  ∀ (m : (ℓ : Loc Cert.Swap.nD Cert.Swap.τ Cert.Swap.sig) → Buf (Elt Bits) ℓ) (g : Dev Cert.Swap.nD → PrngReg)
    (m' : (ℓ : Loc Cert.SwapRef.nD Cert.SwapRef.τ Cert.SwapRef.sig) → Buf (Elt Bits) ℓ) (g' : Dev Cert.SwapRef.nD → PrngReg), Pre_Swap m →
    (∀ c : Dev Cert.Swap.nD,
      m ((c.tc : Thread Cert.Swap.nD Cert.Swap.τ).loc Cert.Swap.main_arg0) = Layout.block ⟨3, ![4, 34880, 128]⟩ ⟨3, ![32, 34880, 128]⟩ 0 8 c (m' (((0 : Dev Cert.SwapRef.nD).tc : Thread Cert.SwapRef.nD Cert.SwapRef.τ).loc Cert.SwapRef.main_arg0))) →
    ∃ (v0 : Buf (Elt Bits) (((0 : Dev Cert.SwapRef.nD).tc : Thread Cert.SwapRef.nD Cert.SwapRef.τ).loc Cert.SwapRef.main_v8)),
      θ_run (Cert.Swap.defs (F := Bits)) (onTc (τ := Cert.Swap.τ) (Cert.Swap.main (F := Bits))) ⟨m, fun _ => 0, g⟩ (fun r => ∀ c : Dev Cert.Swap.nD,
          r.2.mem ((c.tc : Thread Cert.Swap.nD Cert.Swap.τ).loc Cert.Swap.main_v1) = Layout.block ⟨3, ![4, 17440, 128]⟩ ⟨3, ![32, 17440, 128]⟩ 0 8 c v0
          ∧ r.2.mem ((c.tc : Thread Cert.Swap.nD Cert.Swap.τ).loc Cert.Swap.main_arg0) = m ((c.tc : Thread Cert.Swap.nD Cert.Swap.τ).loc Cert.Swap.main_arg0))
      ∧ θ_run (Cert.SwapRef.defs (F := Bits)) (onTc (τ := Cert.SwapRef.τ) (Cert.SwapRef.main (F := Bits))) ⟨m', fun _ => 0, g'⟩ (fun r =>
          r.2.mem (((0 : Dev Cert.SwapRef.nD).tc : Thread Cert.SwapRef.nD Cert.SwapRef.τ).loc Cert.SwapRef.main_v8) = v0
          ∧ r.2.mem (((0 : Dev Cert.SwapRef.nD).tc : Thread Cert.SwapRef.nD Cert.SwapRef.τ).loc Cert.SwapRef.main_arg0) = m' (((0 : Dev Cert.SwapRef.nD).tc : Thread Cert.SwapRef.nD Cert.SwapRef.τ).loc Cert.SwapRef.main_arg0))

def preserves_Exchange_ExchangeIdeal : Prop :=
  True

def algebraic_ExchangeIdeal_ExchangeRefIdeal [hExchangeIdeal : Cert.ExchangeIdeal.Facts] [hExchangeRefIdeal : Cert.ExchangeRefIdeal.Facts] : Prop :=
  ∀ (m : (ℓ : Loc Cert.ExchangeIdeal.nD Cert.ExchangeIdeal.τ Cert.ExchangeIdeal.sig) → Buf (Elt Ideal) ℓ) (g : Dev Cert.ExchangeIdeal.nD → PrngReg)
    (m' : (ℓ : Loc Cert.ExchangeRefIdeal.nD Cert.ExchangeRefIdeal.τ Cert.ExchangeRefIdeal.sig) → Buf (Elt Ideal) ℓ) (g' : Dev Cert.ExchangeRefIdeal.nD → PrngReg), Pre_ExchangeIdeal m →
    (∀ c : Dev Cert.ExchangeIdeal.nD,
      m ((c.tc : Thread Cert.ExchangeIdeal.nD Cert.ExchangeIdeal.τ).loc Cert.ExchangeIdeal.main_arg0) = Layout.block ⟨3, ![3, 17440, 128]⟩ ⟨3, ![24, 17440, 128]⟩ 0 8 c (m' (((0 : Dev Cert.ExchangeRefIdeal.nD).tc : Thread Cert.ExchangeRefIdeal.nD Cert.ExchangeRefIdeal.τ).loc Cert.ExchangeRefIdeal.main_arg0))) →
    ∃ (v0 : Buf (Elt Ideal) (((0 : Dev Cert.ExchangeRefIdeal.nD).tc : Thread Cert.ExchangeRefIdeal.nD Cert.ExchangeRefIdeal.τ).loc Cert.ExchangeRefIdeal.main_v14)),
      θ_run (Cert.ExchangeIdeal.defs (F := Ideal)) (onTc (τ := Cert.ExchangeIdeal.τ) (Cert.ExchangeIdeal.main (F := Ideal))) ⟨m, fun _ => 0, g⟩ (fun r => ∀ c : Dev Cert.ExchangeIdeal.nD,
          r.2.mem ((c.tc : Thread Cert.ExchangeIdeal.nD Cert.ExchangeIdeal.τ).loc Cert.ExchangeIdeal.main_v1) = Layout.block ⟨3, ![3, 17440, 128]⟩ ⟨3, ![24, 17440, 128]⟩ 0 8 c v0
          ∧ r.2.mem ((c.tc : Thread Cert.ExchangeIdeal.nD Cert.ExchangeIdeal.τ).loc Cert.ExchangeIdeal.main_arg0) = m ((c.tc : Thread Cert.ExchangeIdeal.nD Cert.ExchangeIdeal.τ).loc Cert.ExchangeIdeal.main_arg0))
      ∧ θ_run (Cert.ExchangeRefIdeal.defs (F := Ideal)) (onTc (τ := Cert.ExchangeRefIdeal.τ) (Cert.ExchangeRefIdeal.main (F := Ideal))) ⟨m', fun _ => 0, g'⟩ (fun r =>
          r.2.mem (((0 : Dev Cert.ExchangeRefIdeal.nD).tc : Thread Cert.ExchangeRefIdeal.nD Cert.ExchangeRefIdeal.τ).loc Cert.ExchangeRefIdeal.main_v14) = v0
          ∧ r.2.mem (((0 : Dev Cert.ExchangeRefIdeal.nD).tc : Thread Cert.ExchangeRefIdeal.nD Cert.ExchangeRefIdeal.τ).loc Cert.ExchangeRefIdeal.main_arg0) = m' (((0 : Dev Cert.ExchangeRefIdeal.nD).tc : Thread Cert.ExchangeRefIdeal.nD Cert.ExchangeRefIdeal.τ).loc Cert.ExchangeRefIdeal.main_arg0))

def bitexact_Exchange_ExchangeRef [hExchange : Cert.Exchange.Facts] [hExchangeRef : Cert.ExchangeRef.Facts] : Prop :=
  ∀ (m : (ℓ : Loc Cert.Exchange.nD Cert.Exchange.τ Cert.Exchange.sig) → Buf (Elt Bits) ℓ) (g : Dev Cert.Exchange.nD → PrngReg)
    (m' : (ℓ : Loc Cert.ExchangeRef.nD Cert.ExchangeRef.τ Cert.ExchangeRef.sig) → Buf (Elt Bits) ℓ) (g' : Dev Cert.ExchangeRef.nD → PrngReg), Pre_Exchange m →
    (∀ c : Dev Cert.Exchange.nD,
      m ((c.tc : Thread Cert.Exchange.nD Cert.Exchange.τ).loc Cert.Exchange.main_arg0) = Layout.block ⟨3, ![3, 17440, 128]⟩ ⟨3, ![24, 17440, 128]⟩ 0 8 c (m' (((0 : Dev Cert.ExchangeRef.nD).tc : Thread Cert.ExchangeRef.nD Cert.ExchangeRef.τ).loc Cert.ExchangeRef.main_arg0))) →
    ∃ (v0 : Buf (Elt Bits) (((0 : Dev Cert.ExchangeRef.nD).tc : Thread Cert.ExchangeRef.nD Cert.ExchangeRef.τ).loc Cert.ExchangeRef.main_v14)),
      θ_run (Cert.Exchange.defs (F := Bits)) (onTc (τ := Cert.Exchange.τ) (Cert.Exchange.main (F := Bits))) ⟨m, fun _ => 0, g⟩ (fun r => ∀ c : Dev Cert.Exchange.nD,
          r.2.mem ((c.tc : Thread Cert.Exchange.nD Cert.Exchange.τ).loc Cert.Exchange.main_v1) = Layout.block ⟨3, ![3, 17440, 128]⟩ ⟨3, ![24, 17440, 128]⟩ 0 8 c v0
          ∧ r.2.mem ((c.tc : Thread Cert.Exchange.nD Cert.Exchange.τ).loc Cert.Exchange.main_arg0) = m ((c.tc : Thread Cert.Exchange.nD Cert.Exchange.τ).loc Cert.Exchange.main_arg0))
      ∧ θ_run (Cert.ExchangeRef.defs (F := Bits)) (onTc (τ := Cert.ExchangeRef.τ) (Cert.ExchangeRef.main (F := Bits))) ⟨m', fun _ => 0, g'⟩ (fun r =>
          r.2.mem (((0 : Dev Cert.ExchangeRef.nD).tc : Thread Cert.ExchangeRef.nD Cert.ExchangeRef.τ).loc Cert.ExchangeRef.main_v14) = v0
          ∧ r.2.mem (((0 : Dev Cert.ExchangeRef.nD).tc : Thread Cert.ExchangeRef.nD Cert.ExchangeRef.τ).loc Cert.ExchangeRef.main_arg0) = m' (((0 : Dev Cert.ExchangeRef.nD).tc : Thread Cert.ExchangeRef.nD Cert.ExchangeRef.τ).loc Cert.ExchangeRef.main_arg0))

def preserves_Join_JoinIdeal : Prop :=
  True

def algebraic_JoinIdeal_JoinRefIdeal [hJoinIdeal : Cert.JoinIdeal.Facts] [hJoinRefIdeal : Cert.JoinRefIdeal.Facts] : Prop :=
  ∀ (m : (ℓ : Loc Cert.JoinIdeal.nD Cert.JoinIdeal.τ Cert.JoinIdeal.sig) → Buf (Elt Ideal) ℓ) (g : Dev Cert.JoinIdeal.nD → PrngReg)
    (m' : (ℓ : Loc Cert.JoinRefIdeal.nD Cert.JoinRefIdeal.τ Cert.JoinRefIdeal.sig) → Buf (Elt Ideal) ℓ) (g' : Dev Cert.JoinRefIdeal.nD → PrngReg), Pre_JoinIdeal m →
    (∀ c : Dev Cert.JoinIdeal.nD,
      m ((c.tc : Thread Cert.JoinIdeal.nD Cert.JoinIdeal.τ).loc Cert.JoinIdeal.main_arg0) = Layout.block ⟨2, ![17440, 128]⟩ ⟨2, ![139520, 128]⟩ 0 8 c (m' (((0 : Dev Cert.JoinRefIdeal.nD).tc : Thread Cert.JoinRefIdeal.nD Cert.JoinRefIdeal.τ).loc Cert.JoinRefIdeal.main_arg0))) →
    ∃ (v0 : Buf (Elt Ideal) (((0 : Dev Cert.JoinRefIdeal.nD).tc : Thread Cert.JoinRefIdeal.nD Cert.JoinRefIdeal.τ).loc Cert.JoinRefIdeal.main_v0)),
      θ_run (Cert.JoinIdeal.defs (F := Ideal)) (onTc (τ := Cert.JoinIdeal.τ) (Cert.JoinIdeal.main (F := Ideal))) ⟨m, fun _ => 0, g⟩ (fun r => ∀ c : Dev Cert.JoinIdeal.nD,
          r.2.mem ((c.tc : Thread Cert.JoinIdeal.nD Cert.JoinIdeal.τ).loc Cert.JoinIdeal.main_v1) = Layout.blockN ⟨3, ![2, 17440, 128]⟩ ⟨3, ![8, 17440, 128]⟩ (Layout.meshBlock [2, 2, 2] ![[0, 1], [], []] c) v0
          ∧ r.2.mem ((c.tc : Thread Cert.JoinIdeal.nD Cert.JoinIdeal.τ).loc Cert.JoinIdeal.main_arg0) = m ((c.tc : Thread Cert.JoinIdeal.nD Cert.JoinIdeal.τ).loc Cert.JoinIdeal.main_arg0))
      ∧ θ_run (Cert.JoinRefIdeal.defs (F := Ideal)) (onTc (τ := Cert.JoinRefIdeal.τ) (Cert.JoinRefIdeal.main (F := Ideal))) ⟨m', fun _ => 0, g'⟩ (fun r =>
          r.2.mem (((0 : Dev Cert.JoinRefIdeal.nD).tc : Thread Cert.JoinRefIdeal.nD Cert.JoinRefIdeal.τ).loc Cert.JoinRefIdeal.main_v0) = v0
          ∧ r.2.mem (((0 : Dev Cert.JoinRefIdeal.nD).tc : Thread Cert.JoinRefIdeal.nD Cert.JoinRefIdeal.τ).loc Cert.JoinRefIdeal.main_arg0) = m' (((0 : Dev Cert.JoinRefIdeal.nD).tc : Thread Cert.JoinRefIdeal.nD Cert.JoinRefIdeal.τ).loc Cert.JoinRefIdeal.main_arg0))

def bitexact_Join_JoinRef [hJoin : Cert.Join.Facts] [hJoinRef : Cert.JoinRef.Facts] : Prop :=
  ∀ (m : (ℓ : Loc Cert.Join.nD Cert.Join.τ Cert.Join.sig) → Buf (Elt Bits) ℓ) (g : Dev Cert.Join.nD → PrngReg)
    (m' : (ℓ : Loc Cert.JoinRef.nD Cert.JoinRef.τ Cert.JoinRef.sig) → Buf (Elt Bits) ℓ) (g' : Dev Cert.JoinRef.nD → PrngReg), Pre_Join m →
    (∀ c : Dev Cert.Join.nD,
      m ((c.tc : Thread Cert.Join.nD Cert.Join.τ).loc Cert.Join.main_arg0) = Layout.block ⟨2, ![17440, 128]⟩ ⟨2, ![139520, 128]⟩ 0 8 c (m' (((0 : Dev Cert.JoinRef.nD).tc : Thread Cert.JoinRef.nD Cert.JoinRef.τ).loc Cert.JoinRef.main_arg0))) →
    ∃ (v0 : Buf (Elt Bits) (((0 : Dev Cert.JoinRef.nD).tc : Thread Cert.JoinRef.nD Cert.JoinRef.τ).loc Cert.JoinRef.main_v0)),
      θ_run (Cert.Join.defs (F := Bits)) (onTc (τ := Cert.Join.τ) (Cert.Join.main (F := Bits))) ⟨m, fun _ => 0, g⟩ (fun r => ∀ c : Dev Cert.Join.nD,
          r.2.mem ((c.tc : Thread Cert.Join.nD Cert.Join.τ).loc Cert.Join.main_v1) = Layout.blockN ⟨3, ![2, 17440, 128]⟩ ⟨3, ![8, 17440, 128]⟩ (Layout.meshBlock [2, 2, 2] ![[0, 1], [], []] c) v0
          ∧ r.2.mem ((c.tc : Thread Cert.Join.nD Cert.Join.τ).loc Cert.Join.main_arg0) = m ((c.tc : Thread Cert.Join.nD Cert.Join.τ).loc Cert.Join.main_arg0))
      ∧ θ_run (Cert.JoinRef.defs (F := Bits)) (onTc (τ := Cert.JoinRef.τ) (Cert.JoinRef.main (F := Bits))) ⟨m', fun _ => 0, g'⟩ (fun r =>
          r.2.mem (((0 : Dev Cert.JoinRef.nD).tc : Thread Cert.JoinRef.nD Cert.JoinRef.τ).loc Cert.JoinRef.main_v0) = v0
          ∧ r.2.mem (((0 : Dev Cert.JoinRef.nD).tc : Thread Cert.JoinRef.nD Cert.JoinRef.τ).loc Cert.JoinRef.main_arg0) = m' (((0 : Dev Cert.JoinRef.nD).tc : Thread Cert.JoinRef.nD Cert.JoinRef.τ).loc Cert.JoinRef.main_arg0))

def preserves_Gather_GatherIdeal : Prop :=
  True

def algebraic_GatherIdeal_GatherRefIdeal [hGatherIdeal : Cert.GatherIdeal.Facts] [hGatherRefIdeal : Cert.GatherRefIdeal.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherRefIdeal.nD Cert.GatherRefIdeal.τ Cert.GatherRefIdeal.sig) → Buf (Elt Ideal) ℓ) (g' : Dev Cert.GatherRefIdeal.nD → PrngReg), Pre_GatherIdeal m →
    (∀ c : Dev Cert.GatherIdeal.nD,
      m ((c.tc : Thread Cert.GatherIdeal.nD Cert.GatherIdeal.τ).loc Cert.GatherIdeal.main_arg0) = Layout.blockN ⟨2, ![34880, 128]⟩ ⟨2, ![139520, 128]⟩ (Layout.meshBlock [2, 2, 2] ![[0, 1], []] c) (m' (((0 : Dev Cert.GatherRefIdeal.nD).tc : Thread Cert.GatherRefIdeal.nD Cert.GatherRefIdeal.τ).loc Cert.GatherRefIdeal.main_arg0))) →
    ∃ (v0 : Buf (Elt Ideal) (((0 : Dev Cert.GatherRefIdeal.nD).tc : Thread Cert.GatherRefIdeal.nD Cert.GatherRefIdeal.τ).loc Cert.GatherRefIdeal.main_v0)),
      θ_run (Cert.GatherIdeal.defs (F := Ideal)) (onTc (τ := Cert.GatherIdeal.τ) (Cert.GatherIdeal.main (F := Ideal))) ⟨m, fun _ => 0, g⟩ (fun r => ∀ c : Dev Cert.GatherIdeal.nD,
          r.2.mem ((c.tc : Thread Cert.GatherIdeal.nD Cert.GatherIdeal.τ).loc Cert.GatherIdeal.main_v1) = v0
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0))
      ∧ θ_run (Cert.GatherRefIdeal.defs (F := Ideal)) (onTc (τ := Cert.GatherRefIdeal.τ) (Cert.GatherRefIdeal.main (F := Ideal))) ⟨m', fun _ => 0, g'⟩ (fun r =>
          r.2.mem (((0 : Dev Cert.GatherRefIdeal.nD).tc : Thread Cert.GatherRefIdeal.nD Cert.GatherRefIdeal.τ).loc Cert.GatherRefIdeal.main_v0) = v0
          ∧ r.2.mem (((0 : Dev Cert.GatherRefIdeal.nD).tc : Thread Cert.GatherRefIdeal.nD Cert.GatherRefIdeal.τ).loc Cert.GatherRefIdeal.main_arg0) = m' (((0 : Dev Cert.GatherRefIdeal.nD).tc : Thread Cert.GatherRefIdeal.nD Cert.GatherRefIdeal.τ).loc Cert.GatherRefIdeal.main_arg0))

def bitexact_Gather_GatherRef [hGather : Cert.Gather.Facts] [hGatherRef : Cert.GatherRef.Facts] : Prop :=
  ∀ (m : (ℓ : Loc Cert.Gather.nD Cert.Gather.τ Cert.Gather.sig) → Buf (Elt Bits) ℓ) (g : Dev Cert.Gather.nD → PrngReg)
    (m' : (ℓ : Loc Cert.GatherRef.nD Cert.GatherRef.τ Cert.GatherRef.sig) → Buf (Elt Bits) ℓ) (g' : Dev Cert.GatherRef.nD → PrngReg), Pre_Gather m →
    (∀ c : Dev Cert.Gather.nD,
      m ((c.tc : Thread Cert.Gather.nD Cert.Gather.τ).loc Cert.Gather.main_arg0) = Layout.blockN ⟨2, ![34880, 128]⟩ ⟨2, ![139520, 128]⟩ (Layout.meshBlock [2, 2, 2] ![[0, 1], []] c) (m' (((0 : Dev Cert.GatherRef.nD).tc : Thread Cert.GatherRef.nD Cert.GatherRef.τ).loc Cert.GatherRef.main_arg0))) →
    ∃ (v0 : Buf (Elt Bits) (((0 : Dev Cert.GatherRef.nD).tc : Thread Cert.GatherRef.nD Cert.GatherRef.τ).loc Cert.GatherRef.main_v0)),
      θ_run (Cert.Gather.defs (F := Bits)) (onTc (τ := Cert.Gather.τ) (Cert.Gather.main (F := Bits))) ⟨m, fun _ => 0, g⟩ (fun r => ∀ c : Dev Cert.Gather.nD,
          r.2.mem ((c.tc : Thread Cert.Gather.nD Cert.Gather.τ).loc Cert.Gather.main_v1) = v0
          ∧ r.2.mem ((c.tc : Thread Cert.Gather.nD Cert.Gather.τ).loc Cert.Gather.main_arg0) = m ((c.tc : Thread Cert.Gather.nD Cert.Gather.τ).loc Cert.Gather.main_arg0))
      ∧ θ_run (Cert.GatherRef.defs (F := Bits)) (onTc (τ := Cert.GatherRef.τ) (Cert.GatherRef.main (F := Bits))) ⟨m', fun _ => 0, g'⟩ (fun r =>
          r.2.mem (((0 : Dev Cert.GatherRef.nD).tc : Thread Cert.GatherRef.nD Cert.GatherRef.τ).loc Cert.GatherRef.main_v0) = v0
          ∧ r.2.mem (((0 : Dev Cert.GatherRef.nD).tc : Thread Cert.GatherRef.nD Cert.GatherRef.τ).loc Cert.GatherRef.main_arg0) = m' (((0 : Dev Cert.GatherRef.nD).tc : Thread Cert.GatherRef.nD Cert.GatherRef.τ).loc Cert.GatherRef.main_arg0))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v23) = v0 c
          ∧ r.2.mem ((c.tc : Thread Cert.AdamInRefIdeal.nD Cert.AdamInRefIdeal.τ).loc Cert.AdamInRefIdeal.main_v4) = v1 c
          ∧ r.2.mem ((c.tc : Thread Cert.AdamInRefIdeal.nD Cert.AdamInRefIdeal.τ).loc Cert.AdamInRefIdeal.main_v10) = v2 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamBranch_AdamBranchIdeal : Prop :=
  True

def algebraic_AdamBranchIdeal_AdamBranchRefIdeal [hAdamBranchIdeal : Cert.AdamBranchIdeal.Facts] [hAdamBranchRefIdeal : Cert.AdamBranchRefIdeal.Facts] : Prop :=
  ∀ (m : (ℓ : Loc Cert.AdamBranchIdeal.nD Cert.AdamBranchIdeal.τ Cert.AdamBranchIdeal.sig) → Buf (Elt Ideal) ℓ) (g : Dev Cert.AdamBranchIdeal.nD → PrngReg)
    (m' : (ℓ : Loc Cert.AdamBranchRefIdeal.nD Cert.AdamBranchRefIdeal.τ Cert.AdamBranchRefIdeal.sig) → Buf (Elt Ideal) ℓ) (g' : Dev Cert.AdamBranchRefIdeal.nD → PrngReg), Pre_AdamBranchIdeal m →
    (∀ c : Dev Cert.AdamBranchIdeal.nD,
      m' ((c.tc : Thread Cert.AdamBranchRefIdeal.nD Cert.AdamBranchRefIdeal.τ).loc Cert.AdamBranchRefIdeal.main_arg0) = m ((c.tc : Thread Cert.AdamBranchIdeal.nD Cert.AdamBranchIdeal.τ).loc Cert.AdamBranchIdeal.main_arg0)
      ∧ m' ((c.tc : Thread Cert.AdamBranchRefIdeal.nD Cert.AdamBranchRefIdeal.τ).loc Cert.AdamBranchRefIdeal.main_arg1) = m ((c.tc : Thread Cert.AdamBranchIdeal.nD Cert.AdamBranchIdeal.τ).loc Cert.AdamBranchIdeal.main_arg1)
      ∧ m' ((c.tc : Thread Cert.AdamBranchRefIdeal.nD Cert.AdamBranchRefIdeal.τ).loc Cert.AdamBranchRefIdeal.main_arg2) = m ((c.tc : Thread Cert.AdamBranchIdeal.nD Cert.AdamBranchIdeal.τ).loc Cert.AdamBranchIdeal.main_arg2)
      ∧ m' ((c.tc : Thread Cert.AdamBranchRefIdeal.nD Cert.AdamBranchRefIdeal.τ).loc Cert.AdamBranchRefIdeal.main_arg3) = m ((c.tc : Thread Cert.AdamBranchIdeal.nD Cert.AdamBranchIdeal.τ).loc Cert.AdamBranchIdeal.main_arg3)) →
    ∃ (v0 : (c : Dev Cert.AdamBranchIdeal.nD) → Buf (Elt Ideal) ((c.tc : Thread Cert.AdamBranchIdeal.nD Cert.AdamBranchIdeal.τ).loc Cert.AdamBranchIdeal.main_v0_0)) (v1 : (c : Dev Cert.AdamBranchIdeal.nD) → Buf (Elt Ideal) ((c.tc : Thread Cert.AdamBranchIdeal.nD Cert.AdamBranchIdeal.τ).loc Cert.AdamBranchIdeal.main_v0_1)) (v2 : (c : Dev Cert.AdamBranchIdeal.nD) → Buf (Elt Ideal) ((c.tc : Thread Cert.AdamBranchIdeal.nD Cert.AdamBranchIdeal.τ).loc Cert.AdamBranchIdeal.main_v0_2)),
      θ_run (Cert.AdamBranchIdeal.defs (F := Ideal)) (onTc (τ := Cert.AdamBranchIdeal.τ) (Cert.AdamBranchIdeal.main (F := Ideal))) ⟨m, fun _ => 0, g⟩ (fun r => ∀ c : Dev Cert.AdamBranchIdeal.nD,
          r.2.mem ((c.tc : Thread Cert.AdamBranchIdeal.nD Cert.AdamBranchIdeal.τ).loc Cert.AdamBranchIdeal.main_v0_0) = v0 c
          ∧ r.2.mem ((c.tc : Thread Cert.AdamBranchIdeal.nD Cert.AdamBranchIdeal.τ).loc Cert.AdamBranchIdeal.main_v0_1) = v1 c
          ∧ r.2.mem ((c.tc : Thread Cert.AdamBranchIdeal.nD Cert.AdamBranchIdeal.τ).loc Cert.AdamBranchIdeal.main_v0_2) = v2 c
          ∧ r.2.mem ((c.tc : Thread Cert.AdamBranchIdeal.nD Cert.AdamBranchIdeal.τ).loc Cert.AdamBranchIdeal.main_arg0) = m ((c.tc : Thread Cert.AdamBranchIdeal.nD Cert.AdamBranchIdeal.τ).loc Cert.AdamBranchIdeal.main_arg0)
          ∧ r.2.mem ((c.tc : Thread Cert.AdamBranchIdeal.nD Cert.AdamBranchIdeal.τ).loc Cert.AdamBranchIdeal.main_arg1) = m ((c.tc : Thread Cert.AdamBranchIdeal.nD Cert.AdamBranchIdeal.τ).loc Cert.AdamBranchIdeal.main_arg1)
          ∧ r.2.mem ((c.tc : Thread Cert.AdamBranchIdeal.nD Cert.AdamBranchIdeal.τ).loc Cert.AdamBranchIdeal.main_arg2) = m ((c.tc : Thread Cert.AdamBranchIdeal.nD Cert.AdamBranchIdeal.τ).loc Cert.AdamBranchIdeal.main_arg2)
          ∧ r.2.mem ((c.tc : Thread Cert.AdamBranchIdeal.nD Cert.AdamBranchIdeal.τ).loc Cert.AdamBranchIdeal.main_arg3) = m ((c.tc : Thread Cert.AdamBranchIdeal.nD Cert.AdamBranchIdeal.τ).loc Cert.AdamBranchIdeal.main_arg3))
      ∧ θ_run (Cert.AdamBranchRefIdeal.defs (F := Ideal)) (onTc (τ := Cert.AdamBranchRefIdeal.τ) (Cert.AdamBranchRefIdeal.main (F := Ideal))) ⟨m', fun _ => 0, g'⟩ (fun r => ∀ c : Dev Cert.AdamBranchRefIdeal.nD,
          r.2.mem ((c.tc : Thread Cert.AdamBranchRefIdeal.nD Cert.AdamBranchRefIdeal.τ).loc Cert.AdamBranchRefIdeal.main_v23) = v0 c
          ∧ r.2.mem ((c.tc : Thread Cert.AdamBranchRefIdeal.nD Cert.AdamBranchRefIdeal.τ).loc Cert.AdamBranchRefIdeal.main_v4) = v1 c
          ∧ r.2.mem ((c.tc : Thread Cert.AdamBranchRefIdeal.nD Cert.AdamBranchRefIdeal.τ).loc Cert.AdamBranchRefIdeal.main_v10) = v2 c
          ∧ r.2.mem ((c.tc : Thread Cert.AdamBranchRefIdeal.nD Cert.AdamBranchRefIdeal.τ).loc Cert.AdamBranchRefIdeal.main_arg0) = m' ((c.tc : Thread Cert.AdamBranchRefIdeal.nD Cert.AdamBranchRefIdeal.τ).loc Cert.AdamBranchRefIdeal.main_arg0)
          ∧ r.2.mem ((c.tc : Thread Cert.AdamBranchRefIdeal.nD Cert.AdamBranchRefIdeal.τ).loc Cert.AdamBranchRefIdeal.main_arg1) = m' ((c.tc : Thread Cert.AdamBranchRefIdeal.nD Cert.AdamBranchRefIdeal.τ).loc Cert.AdamBranchRefIdeal.main_arg1)
          ∧ r.2.mem ((c.tc : Thread Cert.AdamBranchRefIdeal.nD Cert.AdamBranchRefIdeal.τ).loc Cert.AdamBranchRefIdeal.main_arg2) = m' ((c.tc : Thread Cert.AdamBranchRefIdeal.nD Cert.AdamBranchRefIdeal.τ).loc Cert.AdamBranchRefIdeal.main_arg2)
          ∧ r.2.mem ((c.tc : Thread Cert.AdamBranchRefIdeal.nD Cert.AdamBranchRefIdeal.τ).loc Cert.AdamBranchRefIdeal.main_arg3) = m' ((c.tc : Thread Cert.AdamBranchRefIdeal.nD Cert.AdamBranchRefIdeal.τ).loc Cert.AdamBranchRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v23) = v0 c
          ∧ r.2.mem ((c.tc : Thread Cert.AdamOutRefIdeal.nD Cert.AdamOutRefIdeal.τ).loc Cert.AdamOutRefIdeal.main_v4) = v1 c
          ∧ r.2.mem ((c.tc : Thread Cert.AdamOutRefIdeal.nD Cert.AdamOutRefIdeal.τ).loc Cert.AdamOutRefIdeal.main_v10) = v2 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamGateUp_AdamGateUpIdeal : Prop :=
  True

def algebraic_AdamGateUpIdeal_AdamGateUpRefIdeal [hAdamGateUpIdeal : Cert.AdamGateUpIdeal.Facts] [hAdamGateUpRefIdeal : Cert.AdamGateUpRefIdeal.Facts] : Prop :=
  ∀ (m : (ℓ : Loc Cert.AdamGateUpIdeal.nD Cert.AdamGateUpIdeal.τ Cert.AdamGateUpIdeal.sig) → Buf (Elt Ideal) ℓ) (g : Dev Cert.AdamGateUpIdeal.nD → PrngReg)
    (m' : (ℓ : Loc Cert.AdamGateUpRefIdeal.nD Cert.AdamGateUpRefIdeal.τ Cert.AdamGateUpRefIdeal.sig) → Buf (Elt Ideal) ℓ) (g' : Dev Cert.AdamGateUpRefIdeal.nD → PrngReg), Pre_AdamGateUpIdeal m →
    (∀ c : Dev Cert.AdamGateUpIdeal.nD,
      m' ((c.tc : Thread Cert.AdamGateUpRefIdeal.nD Cert.AdamGateUpRefIdeal.τ).loc Cert.AdamGateUpRefIdeal.main_arg0) = m ((c.tc : Thread Cert.AdamGateUpIdeal.nD Cert.AdamGateUpIdeal.τ).loc Cert.AdamGateUpIdeal.main_arg0)
      ∧ m' ((c.tc : Thread Cert.AdamGateUpRefIdeal.nD Cert.AdamGateUpRefIdeal.τ).loc Cert.AdamGateUpRefIdeal.main_arg1) = m ((c.tc : Thread Cert.AdamGateUpIdeal.nD Cert.AdamGateUpIdeal.τ).loc Cert.AdamGateUpIdeal.main_arg1)
      ∧ m' ((c.tc : Thread Cert.AdamGateUpRefIdeal.nD Cert.AdamGateUpRefIdeal.τ).loc Cert.AdamGateUpRefIdeal.main_arg2) = m ((c.tc : Thread Cert.AdamGateUpIdeal.nD Cert.AdamGateUpIdeal.τ).loc Cert.AdamGateUpIdeal.main_arg2)
      ∧ m' ((c.tc : Thread Cert.AdamGateUpRefIdeal.nD Cert.AdamGateUpRefIdeal.τ).loc Cert.AdamGateUpRefIdeal.main_arg3) = m ((c.tc : Thread Cert.AdamGateUpIdeal.nD Cert.AdamGateUpIdeal.τ).loc Cert.AdamGateUpIdeal.main_arg3)) →
    ∃ (v0 : (c : Dev Cert.AdamGateUpIdeal.nD) → Buf (Elt Ideal) ((c.tc : Thread Cert.AdamGateUpIdeal.nD Cert.AdamGateUpIdeal.τ).loc Cert.AdamGateUpIdeal.main_v0_0)) (v1 : (c : Dev Cert.AdamGateUpIdeal.nD) → Buf (Elt Ideal) ((c.tc : Thread Cert.AdamGateUpIdeal.nD Cert.AdamGateUpIdeal.τ).loc Cert.AdamGateUpIdeal.main_v0_1)) (v2 : (c : Dev Cert.AdamGateUpIdeal.nD) → Buf (Elt Ideal) ((c.tc : Thread Cert.AdamGateUpIdeal.nD Cert.AdamGateUpIdeal.τ).loc Cert.AdamGateUpIdeal.main_v0_2)),
      θ_run (Cert.AdamGateUpIdeal.defs (F := Ideal)) (onTc (τ := Cert.AdamGateUpIdeal.τ) (Cert.AdamGateUpIdeal.main (F := Ideal))) ⟨m, fun _ => 0, g⟩ (fun r => ∀ c : Dev Cert.AdamGateUpIdeal.nD,
          r.2.mem ((c.tc : Thread Cert.AdamGateUpIdeal.nD Cert.AdamGateUpIdeal.τ).loc Cert.AdamGateUpIdeal.main_v0_0) = v0 c
          ∧ r.2.mem ((c.tc : Thread Cert.AdamGateUpIdeal.nD Cert.AdamGateUpIdeal.τ).loc Cert.AdamGateUpIdeal.main_v0_1) = v1 c
          ∧ r.2.mem ((c.tc : Thread Cert.AdamGateUpIdeal.nD Cert.AdamGateUpIdeal.τ).loc Cert.AdamGateUpIdeal.main_v0_2) = v2 c
          ∧ r.2.mem ((c.tc : Thread Cert.AdamGateUpIdeal.nD Cert.AdamGateUpIdeal.τ).loc Cert.AdamGateUpIdeal.main_arg0) = m ((c.tc : Thread Cert.AdamGateUpIdeal.nD Cert.AdamGateUpIdeal.τ).loc Cert.AdamGateUpIdeal.main_arg0)
          ∧ r.2.mem ((c.tc : Thread Cert.AdamGateUpIdeal.nD Cert.AdamGateUpIdeal.τ).loc Cert.AdamGateUpIdeal.main_arg1) = m ((c.tc : Thread Cert.AdamGateUpIdeal.nD Cert.AdamGateUpIdeal.τ).loc Cert.AdamGateUpIdeal.main_arg1)
          ∧ r.2.mem ((c.tc : Thread Cert.AdamGateUpIdeal.nD Cert.AdamGateUpIdeal.τ).loc Cert.AdamGateUpIdeal.main_arg2) = m ((c.tc : Thread Cert.AdamGateUpIdeal.nD Cert.AdamGateUpIdeal.τ).loc Cert.AdamGateUpIdeal.main_arg2)
          ∧ r.2.mem ((c.tc : Thread Cert.AdamGateUpIdeal.nD Cert.AdamGateUpIdeal.τ).loc Cert.AdamGateUpIdeal.main_arg3) = m ((c.tc : Thread Cert.AdamGateUpIdeal.nD Cert.AdamGateUpIdeal.τ).loc Cert.AdamGateUpIdeal.main_arg3))
      ∧ θ_run (Cert.AdamGateUpRefIdeal.defs (F := Ideal)) (onTc (τ := Cert.AdamGateUpRefIdeal.τ) (Cert.AdamGateUpRefIdeal.main (F := Ideal))) ⟨m', fun _ => 0, g'⟩ (fun r => ∀ c : Dev Cert.AdamGateUpRefIdeal.nD,
          r.2.mem ((c.tc : Thread Cert.AdamGateUpRefIdeal.nD Cert.AdamGateUpRefIdeal.τ).loc Cert.AdamGateUpRefIdeal.main_v23) = v0 c
          ∧ r.2.mem ((c.tc : Thread Cert.AdamGateUpRefIdeal.nD Cert.AdamGateUpRefIdeal.τ).loc Cert.AdamGateUpRefIdeal.main_v4) = v1 c
          ∧ r.2.mem ((c.tc : Thread Cert.AdamGateUpRefIdeal.nD Cert.AdamGateUpRefIdeal.τ).loc Cert.AdamGateUpRefIdeal.main_v10) = v2 c
          ∧ r.2.mem ((c.tc : Thread Cert.AdamGateUpRefIdeal.nD Cert.AdamGateUpRefIdeal.τ).loc Cert.AdamGateUpRefIdeal.main_arg0) = m' ((c.tc : Thread Cert.AdamGateUpRefIdeal.nD Cert.AdamGateUpRefIdeal.τ).loc Cert.AdamGateUpRefIdeal.main_arg0)
          ∧ r.2.mem ((c.tc : Thread Cert.AdamGateUpRefIdeal.nD Cert.AdamGateUpRefIdeal.τ).loc Cert.AdamGateUpRefIdeal.main_arg1) = m' ((c.tc : Thread Cert.AdamGateUpRefIdeal.nD Cert.AdamGateUpRefIdeal.τ).loc Cert.AdamGateUpRefIdeal.main_arg1)
          ∧ r.2.mem ((c.tc : Thread Cert.AdamGateUpRefIdeal.nD Cert.AdamGateUpRefIdeal.τ).loc Cert.AdamGateUpRefIdeal.main_arg2) = m' ((c.tc : Thread Cert.AdamGateUpRefIdeal.nD Cert.AdamGateUpRefIdeal.τ).loc Cert.AdamGateUpRefIdeal.main_arg2)
          ∧ r.2.mem ((c.tc : Thread Cert.AdamGateUpRefIdeal.nD Cert.AdamGateUpRefIdeal.τ).loc Cert.AdamGateUpRefIdeal.main_arg3) = m' ((c.tc : Thread Cert.AdamGateUpRefIdeal.nD Cert.AdamGateUpRefIdeal.τ).loc Cert.AdamGateUpRefIdeal.main_arg3))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v23) = v0 c
          ∧ r.2.mem ((c.tc : Thread Cert.AdamDownRefIdeal.nD Cert.AdamDownRefIdeal.τ).loc Cert.AdamDownRefIdeal.main_v4) = v1 c
          ∧ r.2.mem ((c.tc : Thread Cert.AdamDownRefIdeal.nD Cert.AdamDownRefIdeal.τ).loc Cert.AdamDownRefIdeal.main_v10) = v2 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3))

def preserves_AdamProj_AdamProjIdeal : Prop :=
  True

def algebraic_AdamProjIdeal_AdamProjRefIdeal [hAdamProjIdeal : Cert.AdamProjIdeal.Facts] [hAdamProjRefIdeal : Cert.AdamProjRefIdeal.Facts] : Prop :=
  ∀ (m : (ℓ : Loc Cert.AdamProjIdeal.nD Cert.AdamProjIdeal.τ Cert.AdamProjIdeal.sig) → Buf (Elt Ideal) ℓ) (g : Dev Cert.AdamProjIdeal.nD → PrngReg)
    (m' : (ℓ : Loc Cert.AdamProjRefIdeal.nD Cert.AdamProjRefIdeal.τ Cert.AdamProjRefIdeal.sig) → Buf (Elt Ideal) ℓ) (g' : Dev Cert.AdamProjRefIdeal.nD → PrngReg), Pre_AdamProjIdeal m →
    (∀ c : Dev Cert.AdamProjIdeal.nD,
      m' ((c.tc : Thread Cert.AdamProjRefIdeal.nD Cert.AdamProjRefIdeal.τ).loc Cert.AdamProjRefIdeal.main_arg0) = m ((c.tc : Thread Cert.AdamProjIdeal.nD Cert.AdamProjIdeal.τ).loc Cert.AdamProjIdeal.main_arg0)
      ∧ m' ((c.tc : Thread Cert.AdamProjRefIdeal.nD Cert.AdamProjRefIdeal.τ).loc Cert.AdamProjRefIdeal.main_arg1) = m ((c.tc : Thread Cert.AdamProjIdeal.nD Cert.AdamProjIdeal.τ).loc Cert.AdamProjIdeal.main_arg1)
      ∧ m' ((c.tc : Thread Cert.AdamProjRefIdeal.nD Cert.AdamProjRefIdeal.τ).loc Cert.AdamProjRefIdeal.main_arg2) = m ((c.tc : Thread Cert.AdamProjIdeal.nD Cert.AdamProjIdeal.τ).loc Cert.AdamProjIdeal.main_arg2)
      ∧ m' ((c.tc : Thread Cert.AdamProjRefIdeal.nD Cert.AdamProjRefIdeal.τ).loc Cert.AdamProjRefIdeal.main_arg3) = m ((c.tc : Thread Cert.AdamProjIdeal.nD Cert.AdamProjIdeal.τ).loc Cert.AdamProjIdeal.main_arg3)) →
    ∃ (v0 : (c : Dev Cert.AdamProjIdeal.nD) → Buf (Elt Ideal) ((c.tc : Thread Cert.AdamProjIdeal.nD Cert.AdamProjIdeal.τ).loc Cert.AdamProjIdeal.main_v0_0)) (v1 : (c : Dev Cert.AdamProjIdeal.nD) → Buf (Elt Ideal) ((c.tc : Thread Cert.AdamProjIdeal.nD Cert.AdamProjIdeal.τ).loc Cert.AdamProjIdeal.main_v0_1)) (v2 : (c : Dev Cert.AdamProjIdeal.nD) → Buf (Elt Ideal) ((c.tc : Thread Cert.AdamProjIdeal.nD Cert.AdamProjIdeal.τ).loc Cert.AdamProjIdeal.main_v0_2)),
      θ_run (Cert.AdamProjIdeal.defs (F := Ideal)) (onTc (τ := Cert.AdamProjIdeal.τ) (Cert.AdamProjIdeal.main (F := Ideal))) ⟨m, fun _ => 0, g⟩ (fun r => ∀ c : Dev Cert.AdamProjIdeal.nD,
          r.2.mem ((c.tc : Thread Cert.AdamProjIdeal.nD Cert.AdamProjIdeal.τ).loc Cert.AdamProjIdeal.main_v0_0) = v0 c
          ∧ r.2.mem ((c.tc : Thread Cert.AdamProjIdeal.nD Cert.AdamProjIdeal.τ).loc Cert.AdamProjIdeal.main_v0_1) = v1 c
          ∧ r.2.mem ((c.tc : Thread Cert.AdamProjIdeal.nD Cert.AdamProjIdeal.τ).loc Cert.AdamProjIdeal.main_v0_2) = v2 c
          ∧ r.2.mem ((c.tc : Thread Cert.AdamProjIdeal.nD Cert.AdamProjIdeal.τ).loc Cert.AdamProjIdeal.main_arg0) = m ((c.tc : Thread Cert.AdamProjIdeal.nD Cert.AdamProjIdeal.τ).loc Cert.AdamProjIdeal.main_arg0)
          ∧ r.2.mem ((c.tc : Thread Cert.AdamProjIdeal.nD Cert.AdamProjIdeal.τ).loc Cert.AdamProjIdeal.main_arg1) = m ((c.tc : Thread Cert.AdamProjIdeal.nD Cert.AdamProjIdeal.τ).loc Cert.AdamProjIdeal.main_arg1)
          ∧ r.2.mem ((c.tc : Thread Cert.AdamProjIdeal.nD Cert.AdamProjIdeal.τ).loc Cert.AdamProjIdeal.main_arg2) = m ((c.tc : Thread Cert.AdamProjIdeal.nD Cert.AdamProjIdeal.τ).loc Cert.AdamProjIdeal.main_arg2)
          ∧ r.2.mem ((c.tc : Thread Cert.AdamProjIdeal.nD Cert.AdamProjIdeal.τ).loc Cert.AdamProjIdeal.main_arg3) = m ((c.tc : Thread Cert.AdamProjIdeal.nD Cert.AdamProjIdeal.τ).loc Cert.AdamProjIdeal.main_arg3))
      ∧ θ_run (Cert.AdamProjRefIdeal.defs (F := Ideal)) (onTc (τ := Cert.AdamProjRefIdeal.τ) (Cert.AdamProjRefIdeal.main (F := Ideal))) ⟨m', fun _ => 0, g'⟩ (fun r => ∀ c : Dev Cert.AdamProjRefIdeal.nD,
          r.2.mem ((c.tc : Thread Cert.AdamProjRefIdeal.nD Cert.AdamProjRefIdeal.τ).loc Cert.AdamProjRefIdeal.main_v23) = v0 c
          ∧ r.2.mem ((c.tc : Thread Cert.AdamProjRefIdeal.nD Cert.AdamProjRefIdeal.τ).loc Cert.AdamProjRefIdeal.main_v4) = v1 c
          ∧ r.2.mem ((c.tc : Thread Cert.AdamProjRefIdeal.nD Cert.AdamProjRefIdeal.τ).loc Cert.AdamProjRefIdeal.main_v10) = v2 c
          ∧ r.2.mem ((c.tc : Thread Cert.AdamProjRefIdeal.nD Cert.AdamProjRefIdeal.τ).loc Cert.AdamProjRefIdeal.main_arg0) = m' ((c.tc : Thread Cert.AdamProjRefIdeal.nD Cert.AdamProjRefIdeal.τ).loc Cert.AdamProjRefIdeal.main_arg0)
          ∧ r.2.mem ((c.tc : Thread Cert.AdamProjRefIdeal.nD Cert.AdamProjRefIdeal.τ).loc Cert.AdamProjRefIdeal.main_arg1) = m' ((c.tc : Thread Cert.AdamProjRefIdeal.nD Cert.AdamProjRefIdeal.τ).loc Cert.AdamProjRefIdeal.main_arg1)
          ∧ r.2.mem ((c.tc : Thread Cert.AdamProjRefIdeal.nD Cert.AdamProjRefIdeal.τ).loc Cert.AdamProjRefIdeal.main_arg2) = m' ((c.tc : Thread Cert.AdamProjRefIdeal.nD Cert.AdamProjRefIdeal.τ).loc Cert.AdamProjRefIdeal.main_arg2)
          ∧ r.2.mem ((c.tc : Thread Cert.AdamProjRefIdeal.nD Cert.AdamProjRefIdeal.τ).loc Cert.AdamProjRefIdeal.main_arg3) = m' ((c.tc : Thread Cert.AdamProjRefIdeal.nD Cert.AdamProjRefIdeal.τ).loc Cert.AdamProjRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v23) = v0 c
          ∧ r.2.mem ((c.tc : Thread Cert.AdamSmallRefIdeal.nD Cert.AdamSmallRefIdeal.τ).loc Cert.AdamSmallRefIdeal.main_v4) = v1 c
          ∧ r.2.mem ((c.tc : Thread Cert.AdamSmallRefIdeal.nD Cert.AdamSmallRefIdeal.τ).loc Cert.AdamSmallRefIdeal.main_v10) = v2 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_Sum_SumIdeal : Prop :=
  True

def algebraic_SumIdeal_SumRefIdeal [hSumIdeal : Cert.SumIdeal.Facts] [hSumRefIdeal : Cert.SumRefIdeal.Facts] : Prop :=
  ∀ (m : (ℓ : Loc Cert.SumIdeal.nD Cert.SumIdeal.τ Cert.SumIdeal.sig) → Buf (Elt Ideal) ℓ) (g : Dev Cert.SumIdeal.nD → PrngReg)
    (m' : (ℓ : Loc Cert.SumRefIdeal.nD Cert.SumRefIdeal.τ Cert.SumRefIdeal.sig) → Buf (Elt Ideal) ℓ) (g' : Dev Cert.SumRefIdeal.nD → PrngReg), Pre_SumIdeal m →
    (∀ c : Dev Cert.SumIdeal.nD,
      m' ((c.tc : Thread Cert.SumRefIdeal.nD Cert.SumRefIdeal.τ).loc Cert.SumRefIdeal.main_arg0) = m ((c.tc : Thread Cert.SumIdeal.nD Cert.SumIdeal.τ).loc Cert.SumIdeal.main_arg0)
      ∧ m' ((c.tc : Thread Cert.SumRefIdeal.nD Cert.SumRefIdeal.τ).loc Cert.SumRefIdeal.main_arg1) = m ((c.tc : Thread Cert.SumIdeal.nD Cert.SumIdeal.τ).loc Cert.SumIdeal.main_arg1)) →
    ∃ (v0 : (c : Dev Cert.SumIdeal.nD) → Buf (Elt Ideal) ((c.tc : Thread Cert.SumIdeal.nD Cert.SumIdeal.τ).loc Cert.SumIdeal.main_v0)),
      θ_run (Cert.SumIdeal.defs (F := Ideal)) (onTc (τ := Cert.SumIdeal.τ) (Cert.SumIdeal.main (F := Ideal))) ⟨m, fun _ => 0, g⟩ (fun r => ∀ c : Dev Cert.SumIdeal.nD,
          r.2.mem ((c.tc : Thread Cert.SumIdeal.nD Cert.SumIdeal.τ).loc Cert.SumIdeal.main_v0) = v0 c
          ∧ r.2.mem ((c.tc : Thread Cert.SumIdeal.nD Cert.SumIdeal.τ).loc Cert.SumIdeal.main_arg0) = m ((c.tc : Thread Cert.SumIdeal.nD Cert.SumIdeal.τ).loc Cert.SumIdeal.main_arg0)
          ∧ r.2.mem ((c.tc : Thread Cert.SumIdeal.nD Cert.SumIdeal.τ).loc Cert.SumIdeal.main_arg1) = m ((c.tc : Thread Cert.SumIdeal.nD Cert.SumIdeal.τ).loc Cert.SumIdeal.main_arg1))
      ∧ θ_run (Cert.SumRefIdeal.defs (F := Ideal)) (onTc (τ := Cert.SumRefIdeal.τ) (Cert.SumRefIdeal.main (F := Ideal))) ⟨m', fun _ => 0, g'⟩ (fun r => ∀ c : Dev Cert.SumRefIdeal.nD,
          r.2.mem ((c.tc : Thread Cert.SumRefIdeal.nD Cert.SumRefIdeal.τ).loc Cert.SumRefIdeal.main_v11) = v0 c
          ∧ r.2.mem ((c.tc : Thread Cert.SumRefIdeal.nD Cert.SumRefIdeal.τ).loc Cert.SumRefIdeal.main_arg0) = m' ((c.tc : Thread Cert.SumRefIdeal.nD Cert.SumRefIdeal.τ).loc Cert.SumRefIdeal.main_arg0)
          ∧ r.2.mem ((c.tc : Thread Cert.SumRefIdeal.nD Cert.SumRefIdeal.τ).loc Cert.SumRefIdeal.main_arg1) = m' ((c.tc : Thread Cert.SumRefIdeal.nD Cert.SumRefIdeal.τ).loc Cert.SumRefIdeal.main_arg1))

def bitexact_Sum_SumRef [hSum : Cert.Sum.Facts] [hSumRef : Cert.SumRef.Facts] : Prop :=
  ∀ (m : (ℓ : Loc Cert.Sum.nD Cert.Sum.τ Cert.Sum.sig) → Buf (Elt Bits) ℓ) (g : Dev Cert.Sum.nD → PrngReg)
    (m' : (ℓ : Loc Cert.SumRef.nD Cert.SumRef.τ Cert.SumRef.sig) → Buf (Elt Bits) ℓ) (g' : Dev Cert.SumRef.nD → PrngReg), Pre_Sum m →
    (∀ c : Dev Cert.Sum.nD,
      m' ((c.tc : Thread Cert.SumRef.nD Cert.SumRef.τ).loc Cert.SumRef.main_arg0) = m ((c.tc : Thread Cert.Sum.nD Cert.Sum.τ).loc Cert.Sum.main_arg0)
      ∧ m' ((c.tc : Thread Cert.SumRef.nD Cert.SumRef.τ).loc Cert.SumRef.main_arg1) = m ((c.tc : Thread Cert.Sum.nD Cert.Sum.τ).loc Cert.Sum.main_arg1)) →
    ∃ (v0 : (c : Dev Cert.Sum.nD) → Buf (Elt Bits) ((c.tc : Thread Cert.Sum.nD Cert.Sum.τ).loc Cert.Sum.main_v0)),
      θ_run (Cert.Sum.defs (F := Bits)) (onTc (τ := Cert.Sum.τ) (Cert.Sum.main (F := Bits))) ⟨m, fun _ => 0, g⟩ (fun r => ∀ c : Dev Cert.Sum.nD,
          r.2.mem ((c.tc : Thread Cert.Sum.nD Cert.Sum.τ).loc Cert.Sum.main_v0) = v0 c
          ∧ r.2.mem ((c.tc : Thread Cert.Sum.nD Cert.Sum.τ).loc Cert.Sum.main_arg0) = m ((c.tc : Thread Cert.Sum.nD Cert.Sum.τ).loc Cert.Sum.main_arg0)
          ∧ r.2.mem ((c.tc : Thread Cert.Sum.nD Cert.Sum.τ).loc Cert.Sum.main_arg1) = m ((c.tc : Thread Cert.Sum.nD Cert.Sum.τ).loc Cert.Sum.main_arg1))
      ∧ θ_run (Cert.SumRef.defs (F := Bits)) (onTc (τ := Cert.SumRef.τ) (Cert.SumRef.main (F := Bits))) ⟨m', fun _ => 0, g'⟩ (fun r => ∀ c : Dev Cert.SumRef.nD,
          r.2.mem ((c.tc : Thread Cert.SumRef.nD Cert.SumRef.τ).loc Cert.SumRef.main_v11) = v0 c
          ∧ r.2.mem ((c.tc : Thread Cert.SumRef.nD Cert.SumRef.τ).loc Cert.SumRef.main_arg0) = m' ((c.tc : Thread Cert.SumRef.nD Cert.SumRef.τ).loc Cert.SumRef.main_arg0)
          ∧ r.2.mem ((c.tc : Thread Cert.SumRef.nD Cert.SumRef.τ).loc Cert.SumRef.main_arg1) = m' ((c.tc : Thread Cert.SumRef.nD Cert.SumRef.τ).loc Cert.SumRef.main_arg1))

def preserves_Input_InputIdeal : Prop :=
  True

def algebraic_InputIdeal_InputRefIdeal [hInputIdeal : Cert.InputIdeal.Facts] [hInputRefIdeal : Cert.InputRefIdeal.Facts] : Prop :=
  ∀ (m : (ℓ : Loc Cert.InputIdeal.nD Cert.InputIdeal.τ Cert.InputIdeal.sig) → Buf (Elt Ideal) ℓ) (g : Dev Cert.InputIdeal.nD → PrngReg)
    (m' : (ℓ : Loc Cert.InputRefIdeal.nD Cert.InputRefIdeal.τ Cert.InputRefIdeal.sig) → Buf (Elt Ideal) ℓ) (g' : Dev Cert.InputRefIdeal.nD → PrngReg), Pre_InputIdeal m →
    (∀ c : Dev Cert.InputIdeal.nD,
      m' ((c.tc : Thread Cert.InputRefIdeal.nD Cert.InputRefIdeal.τ).loc Cert.InputRefIdeal.main_arg0) = m ((c.tc : Thread Cert.InputIdeal.nD Cert.InputIdeal.τ).loc Cert.InputIdeal.main_arg0)
      ∧ m' ((c.tc : Thread Cert.InputRefIdeal.nD Cert.InputRefIdeal.τ).loc Cert.InputRefIdeal.main_arg1) = m ((c.tc : Thread Cert.InputIdeal.nD Cert.InputIdeal.τ).loc Cert.InputIdeal.main_arg1)
      ∧ m' ((c.tc : Thread Cert.InputRefIdeal.nD Cert.InputRefIdeal.τ).loc Cert.InputRefIdeal.main_arg2) = m ((c.tc : Thread Cert.InputIdeal.nD Cert.InputIdeal.τ).loc Cert.InputIdeal.main_arg2)
      ∧ m' ((c.tc : Thread Cert.InputRefIdeal.nD Cert.InputRefIdeal.τ).loc Cert.InputRefIdeal.main_arg3) = m ((c.tc : Thread Cert.InputIdeal.nD Cert.InputIdeal.τ).loc Cert.InputIdeal.main_arg3)
      ∧ m' ((c.tc : Thread Cert.InputRefIdeal.nD Cert.InputRefIdeal.τ).loc Cert.InputRefIdeal.main_arg4) = m ((c.tc : Thread Cert.InputIdeal.nD Cert.InputIdeal.τ).loc Cert.InputIdeal.main_arg4)
      ∧ m' ((c.tc : Thread Cert.InputRefIdeal.nD Cert.InputRefIdeal.τ).loc Cert.InputRefIdeal.main_arg5) = m ((c.tc : Thread Cert.InputIdeal.nD Cert.InputIdeal.τ).loc Cert.InputIdeal.main_arg5)
      ∧ m' ((c.tc : Thread Cert.InputRefIdeal.nD Cert.InputRefIdeal.τ).loc Cert.InputRefIdeal.main_arg6) = m ((c.tc : Thread Cert.InputIdeal.nD Cert.InputIdeal.τ).loc Cert.InputIdeal.main_arg6)
      ∧ m' ((c.tc : Thread Cert.InputRefIdeal.nD Cert.InputRefIdeal.τ).loc Cert.InputRefIdeal.main_arg7) = m ((c.tc : Thread Cert.InputIdeal.nD Cert.InputIdeal.τ).loc Cert.InputIdeal.main_arg7)
      ∧ m' ((c.tc : Thread Cert.InputRefIdeal.nD Cert.InputRefIdeal.τ).loc Cert.InputRefIdeal.main_arg8) = m ((c.tc : Thread Cert.InputIdeal.nD Cert.InputIdeal.τ).loc Cert.InputIdeal.main_arg8)
      ∧ m' ((c.tc : Thread Cert.InputRefIdeal.nD Cert.InputRefIdeal.τ).loc Cert.InputRefIdeal.main_arg9) = m ((c.tc : Thread Cert.InputIdeal.nD Cert.InputIdeal.τ).loc Cert.InputIdeal.main_arg9)
      ∧ m' ((c.tc : Thread Cert.InputRefIdeal.nD Cert.InputRefIdeal.τ).loc Cert.InputRefIdeal.main_arg10) = m ((c.tc : Thread Cert.InputIdeal.nD Cert.InputIdeal.τ).loc Cert.InputIdeal.main_arg10)
      ∧ m' ((c.tc : Thread Cert.InputRefIdeal.nD Cert.InputRefIdeal.τ).loc Cert.InputRefIdeal.main_arg11) = m ((c.tc : Thread Cert.InputIdeal.nD Cert.InputIdeal.τ).loc Cert.InputIdeal.main_arg11)
      ∧ m' ((c.tc : Thread Cert.InputRefIdeal.nD Cert.InputRefIdeal.τ).loc Cert.InputRefIdeal.main_arg12) = m ((c.tc : Thread Cert.InputIdeal.nD Cert.InputIdeal.τ).loc Cert.InputIdeal.main_arg12)
      ∧ m' ((c.tc : Thread Cert.InputRefIdeal.nD Cert.InputRefIdeal.τ).loc Cert.InputRefIdeal.main_arg13) = m ((c.tc : Thread Cert.InputIdeal.nD Cert.InputIdeal.τ).loc Cert.InputIdeal.main_arg13)
      ∧ m' ((c.tc : Thread Cert.InputRefIdeal.nD Cert.InputRefIdeal.τ).loc Cert.InputRefIdeal.main_arg14) = m ((c.tc : Thread Cert.InputIdeal.nD Cert.InputIdeal.τ).loc Cert.InputIdeal.main_arg14)
      ∧ m' ((c.tc : Thread Cert.InputRefIdeal.nD Cert.InputRefIdeal.τ).loc Cert.InputRefIdeal.main_arg15) = m ((c.tc : Thread Cert.InputIdeal.nD Cert.InputIdeal.τ).loc Cert.InputIdeal.main_arg15)
      ∧ m' ((c.tc : Thread Cert.InputRefIdeal.nD Cert.InputRefIdeal.τ).loc Cert.InputRefIdeal.main_arg16) = m ((c.tc : Thread Cert.InputIdeal.nD Cert.InputIdeal.τ).loc Cert.InputIdeal.main_arg16)) →
    ∃ (v0 : (c : Dev Cert.InputIdeal.nD) → Buf (Elt Ideal) ((c.tc : Thread Cert.InputIdeal.nD Cert.InputIdeal.τ).loc Cert.InputIdeal.main_v0_0)) (v1 : (c : Dev Cert.InputIdeal.nD) → Buf (Elt Ideal) ((c.tc : Thread Cert.InputIdeal.nD Cert.InputIdeal.τ).loc Cert.InputIdeal.main_v0_1)),
      θ_run (Cert.InputIdeal.defs (F := Ideal)) (onTc (τ := Cert.InputIdeal.τ) (Cert.InputIdeal.main (F := Ideal))) ⟨m, fun _ => 0, g⟩ (fun r => ∀ c : Dev Cert.InputIdeal.nD,
          r.2.mem ((c.tc : Thread Cert.InputIdeal.nD Cert.InputIdeal.τ).loc Cert.InputIdeal.main_v0_0) = v0 c
          ∧ r.2.mem ((c.tc : Thread Cert.InputIdeal.nD Cert.InputIdeal.τ).loc Cert.InputIdeal.main_v0_1) = v1 c
          ∧ r.2.mem ((c.tc : Thread Cert.InputIdeal.nD Cert.InputIdeal.τ).loc Cert.InputIdeal.main_arg0) = m ((c.tc : Thread Cert.InputIdeal.nD Cert.InputIdeal.τ).loc Cert.InputIdeal.main_arg0)
          ∧ r.2.mem ((c.tc : Thread Cert.InputIdeal.nD Cert.InputIdeal.τ).loc Cert.InputIdeal.main_arg1) = m ((c.tc : Thread Cert.InputIdeal.nD Cert.InputIdeal.τ).loc Cert.InputIdeal.main_arg1)
          ∧ r.2.mem ((c.tc : Thread Cert.InputIdeal.nD Cert.InputIdeal.τ).loc Cert.InputIdeal.main_arg2) = m ((c.tc : Thread Cert.InputIdeal.nD Cert.InputIdeal.τ).loc Cert.InputIdeal.main_arg2)
          ∧ r.2.mem ((c.tc : Thread Cert.InputIdeal.nD Cert.InputIdeal.τ).loc Cert.InputIdeal.main_arg3) = m ((c.tc : Thread Cert.InputIdeal.nD Cert.InputIdeal.τ).loc Cert.InputIdeal.main_arg3)
          ∧ r.2.mem ((c.tc : Thread Cert.InputIdeal.nD Cert.InputIdeal.τ).loc Cert.InputIdeal.main_arg4) = m ((c.tc : Thread Cert.InputIdeal.nD Cert.InputIdeal.τ).loc Cert.InputIdeal.main_arg4)
          ∧ r.2.mem ((c.tc : Thread Cert.InputIdeal.nD Cert.InputIdeal.τ).loc Cert.InputIdeal.main_arg5) = m ((c.tc : Thread Cert.InputIdeal.nD Cert.InputIdeal.τ).loc Cert.InputIdeal.main_arg5)
          ∧ r.2.mem ((c.tc : Thread Cert.InputIdeal.nD Cert.InputIdeal.τ).loc Cert.InputIdeal.main_arg6) = m ((c.tc : Thread Cert.InputIdeal.nD Cert.InputIdeal.τ).loc Cert.InputIdeal.main_arg6)
          ∧ r.2.mem ((c.tc : Thread Cert.InputIdeal.nD Cert.InputIdeal.τ).loc Cert.InputIdeal.main_arg7) = m ((c.tc : Thread Cert.InputIdeal.nD Cert.InputIdeal.τ).loc Cert.InputIdeal.main_arg7)
          ∧ r.2.mem ((c.tc : Thread Cert.InputIdeal.nD Cert.InputIdeal.τ).loc Cert.InputIdeal.main_arg8) = m ((c.tc : Thread Cert.InputIdeal.nD Cert.InputIdeal.τ).loc Cert.InputIdeal.main_arg8)
          ∧ r.2.mem ((c.tc : Thread Cert.InputIdeal.nD Cert.InputIdeal.τ).loc Cert.InputIdeal.main_arg9) = m ((c.tc : Thread Cert.InputIdeal.nD Cert.InputIdeal.τ).loc Cert.InputIdeal.main_arg9)
          ∧ r.2.mem ((c.tc : Thread Cert.InputIdeal.nD Cert.InputIdeal.τ).loc Cert.InputIdeal.main_arg10) = m ((c.tc : Thread Cert.InputIdeal.nD Cert.InputIdeal.τ).loc Cert.InputIdeal.main_arg10)
          ∧ r.2.mem ((c.tc : Thread Cert.InputIdeal.nD Cert.InputIdeal.τ).loc Cert.InputIdeal.main_arg11) = m ((c.tc : Thread Cert.InputIdeal.nD Cert.InputIdeal.τ).loc Cert.InputIdeal.main_arg11)
          ∧ r.2.mem ((c.tc : Thread Cert.InputIdeal.nD Cert.InputIdeal.τ).loc Cert.InputIdeal.main_arg12) = m ((c.tc : Thread Cert.InputIdeal.nD Cert.InputIdeal.τ).loc Cert.InputIdeal.main_arg12)
          ∧ r.2.mem ((c.tc : Thread Cert.InputIdeal.nD Cert.InputIdeal.τ).loc Cert.InputIdeal.main_arg13) = m ((c.tc : Thread Cert.InputIdeal.nD Cert.InputIdeal.τ).loc Cert.InputIdeal.main_arg13)
          ∧ r.2.mem ((c.tc : Thread Cert.InputIdeal.nD Cert.InputIdeal.τ).loc Cert.InputIdeal.main_arg14) = m ((c.tc : Thread Cert.InputIdeal.nD Cert.InputIdeal.τ).loc Cert.InputIdeal.main_arg14)
          ∧ r.2.mem ((c.tc : Thread Cert.InputIdeal.nD Cert.InputIdeal.τ).loc Cert.InputIdeal.main_arg15) = m ((c.tc : Thread Cert.InputIdeal.nD Cert.InputIdeal.τ).loc Cert.InputIdeal.main_arg15)
          ∧ r.2.mem ((c.tc : Thread Cert.InputIdeal.nD Cert.InputIdeal.τ).loc Cert.InputIdeal.main_arg16) = m ((c.tc : Thread Cert.InputIdeal.nD Cert.InputIdeal.τ).loc Cert.InputIdeal.main_arg16))
      ∧ θ_run (Cert.InputRefIdeal.defs (F := Ideal)) (onTc (τ := Cert.InputRefIdeal.τ) (Cert.InputRefIdeal.main (F := Ideal))) ⟨m', fun _ => 0, g'⟩ (fun r => ∀ c : Dev Cert.InputRefIdeal.nD,
          r.2.mem ((c.tc : Thread Cert.InputRefIdeal.nD Cert.InputRefIdeal.τ).loc Cert.InputRefIdeal.main_v29) = v0 c
          ∧ r.2.mem ((c.tc : Thread Cert.InputRefIdeal.nD Cert.InputRefIdeal.τ).loc Cert.InputRefIdeal.main_v34) = v1 c
          ∧ r.2.mem ((c.tc : Thread Cert.InputRefIdeal.nD Cert.InputRefIdeal.τ).loc Cert.InputRefIdeal.main_arg0) = m' ((c.tc : Thread Cert.InputRefIdeal.nD Cert.InputRefIdeal.τ).loc Cert.InputRefIdeal.main_arg0)
          ∧ r.2.mem ((c.tc : Thread Cert.InputRefIdeal.nD Cert.InputRefIdeal.τ).loc Cert.InputRefIdeal.main_arg1) = m' ((c.tc : Thread Cert.InputRefIdeal.nD Cert.InputRefIdeal.τ).loc Cert.InputRefIdeal.main_arg1)
          ∧ r.2.mem ((c.tc : Thread Cert.InputRefIdeal.nD Cert.InputRefIdeal.τ).loc Cert.InputRefIdeal.main_arg2) = m' ((c.tc : Thread Cert.InputRefIdeal.nD Cert.InputRefIdeal.τ).loc Cert.InputRefIdeal.main_arg2)
          ∧ r.2.mem ((c.tc : Thread Cert.InputRefIdeal.nD Cert.InputRefIdeal.τ).loc Cert.InputRefIdeal.main_arg3) = m' ((c.tc : Thread Cert.InputRefIdeal.nD Cert.InputRefIdeal.τ).loc Cert.InputRefIdeal.main_arg3)
          ∧ r.2.mem ((c.tc : Thread Cert.InputRefIdeal.nD Cert.InputRefIdeal.τ).loc Cert.InputRefIdeal.main_arg4) = m' ((c.tc : Thread Cert.InputRefIdeal.nD Cert.InputRefIdeal.τ).loc Cert.InputRefIdeal.main_arg4)
          ∧ r.2.mem ((c.tc : Thread Cert.InputRefIdeal.nD Cert.InputRefIdeal.τ).loc Cert.InputRefIdeal.main_arg5) = m' ((c.tc : Thread Cert.InputRefIdeal.nD Cert.InputRefIdeal.τ).loc Cert.InputRefIdeal.main_arg5)
          ∧ r.2.mem ((c.tc : Thread Cert.InputRefIdeal.nD Cert.InputRefIdeal.τ).loc Cert.InputRefIdeal.main_arg6) = m' ((c.tc : Thread Cert.InputRefIdeal.nD Cert.InputRefIdeal.τ).loc Cert.InputRefIdeal.main_arg6)
          ∧ r.2.mem ((c.tc : Thread Cert.InputRefIdeal.nD Cert.InputRefIdeal.τ).loc Cert.InputRefIdeal.main_arg7) = m' ((c.tc : Thread Cert.InputRefIdeal.nD Cert.InputRefIdeal.τ).loc Cert.InputRefIdeal.main_arg7)
          ∧ r.2.mem ((c.tc : Thread Cert.InputRefIdeal.nD Cert.InputRefIdeal.τ).loc Cert.InputRefIdeal.main_arg8) = m' ((c.tc : Thread Cert.InputRefIdeal.nD Cert.InputRefIdeal.τ).loc Cert.InputRefIdeal.main_arg8)
          ∧ r.2.mem ((c.tc : Thread Cert.InputRefIdeal.nD Cert.InputRefIdeal.τ).loc Cert.InputRefIdeal.main_arg9) = m' ((c.tc : Thread Cert.InputRefIdeal.nD Cert.InputRefIdeal.τ).loc Cert.InputRefIdeal.main_arg9)
          ∧ r.2.mem ((c.tc : Thread Cert.InputRefIdeal.nD Cert.InputRefIdeal.τ).loc Cert.InputRefIdeal.main_arg10) = m' ((c.tc : Thread Cert.InputRefIdeal.nD Cert.InputRefIdeal.τ).loc Cert.InputRefIdeal.main_arg10)
          ∧ r.2.mem ((c.tc : Thread Cert.InputRefIdeal.nD Cert.InputRefIdeal.τ).loc Cert.InputRefIdeal.main_arg11) = m' ((c.tc : Thread Cert.InputRefIdeal.nD Cert.InputRefIdeal.τ).loc Cert.InputRefIdeal.main_arg11)
          ∧ r.2.mem ((c.tc : Thread Cert.InputRefIdeal.nD Cert.InputRefIdeal.τ).loc Cert.InputRefIdeal.main_arg12) = m' ((c.tc : Thread Cert.InputRefIdeal.nD Cert.InputRefIdeal.τ).loc Cert.InputRefIdeal.main_arg12)
          ∧ r.2.mem ((c.tc : Thread Cert.InputRefIdeal.nD Cert.InputRefIdeal.τ).loc Cert.InputRefIdeal.main_arg13) = m' ((c.tc : Thread Cert.InputRefIdeal.nD Cert.InputRefIdeal.τ).loc Cert.InputRefIdeal.main_arg13)
          ∧ r.2.mem ((c.tc : Thread Cert.InputRefIdeal.nD Cert.InputRefIdeal.τ).loc Cert.InputRefIdeal.main_arg14) = m' ((c.tc : Thread Cert.InputRefIdeal.nD Cert.InputRefIdeal.τ).loc Cert.InputRefIdeal.main_arg14)
          ∧ r.2.mem ((c.tc : Thread Cert.InputRefIdeal.nD Cert.InputRefIdeal.τ).loc Cert.InputRefIdeal.main_arg15) = m' ((c.tc : Thread Cert.InputRefIdeal.nD Cert.InputRefIdeal.τ).loc Cert.InputRefIdeal.main_arg15)
          ∧ r.2.mem ((c.tc : Thread Cert.InputRefIdeal.nD Cert.InputRefIdeal.τ).loc Cert.InputRefIdeal.main_arg16) = m' ((c.tc : Thread Cert.InputRefIdeal.nD Cert.InputRefIdeal.τ).loc Cert.InputRefIdeal.main_arg16))

def preserves_DwDown_DwDownIdeal : Prop :=
  True

def algebraic_DwDownIdeal_DwDownRefIdeal [hDwDownIdeal : Cert.DwDownIdeal.Facts] [hDwDownRefIdeal : Cert.DwDownRefIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.DwDownRefIdeal.nD Cert.DwDownRefIdeal.τ Cert.DwDownRefIdeal.sig) → Buf (Elt Ideal) ℓ) (g' : Dev Cert.DwDownRefIdeal.nD → PrngReg), Pre_DwDownIdeal m →
    (∀ c : Dev Cert.DwDownIdeal.nD,
      m' ((c.tc : Thread Cert.DwDownRefIdeal.nD Cert.DwDownRefIdeal.τ).loc Cert.DwDownRefIdeal.main_arg0) = m ((c.tc : Thread Cert.DwDownIdeal.nD Cert.DwDownIdeal.τ).loc Cert.DwDownIdeal.main_arg0)
      ∧ m' ((c.tc : Thread Cert.DwDownRefIdeal.nD Cert.DwDownRefIdeal.τ).loc Cert.DwDownRefIdeal.main_arg1) = m ((c.tc : Thread Cert.DwDownIdeal.nD Cert.DwDownIdeal.τ).loc Cert.DwDownIdeal.main_arg1)) →
    ∃ (v0 : (c : Dev Cert.DwDownIdeal.nD) → Buf (Elt Ideal) ((c.tc : Thread Cert.DwDownIdeal.nD Cert.DwDownIdeal.τ).loc Cert.DwDownIdeal.main_v0)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v0) = v0 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ θ_run (Cert.DwDownRefIdeal.defs (F := Ideal)) (onTc (τ := Cert.DwDownRefIdeal.τ) (Cert.DwDownRefIdeal.main (F := Ideal))) ⟨m', fun _ => 0, g'⟩ (fun r => ∀ c : Dev Cert.DwDownRefIdeal.nD,
          r.2.mem ((c.tc : Thread Cert.DwDownRefIdeal.nD Cert.DwDownRefIdeal.τ).loc Cert.DwDownRefIdeal.main_v2) = v0 c
          ∧ r.2.mem ((c.tc : Thread Cert.DwDownRefIdeal.nD Cert.DwDownRefIdeal.τ).loc Cert.DwDownRefIdeal.main_arg0) = m' ((c.tc : Thread Cert.DwDownRefIdeal.nD Cert.DwDownRefIdeal.τ).loc Cert.DwDownRefIdeal.main_arg0)
          ∧ r.2.mem ((c.tc : Thread Cert.DwDownRefIdeal.nD Cert.DwDownRefIdeal.τ).loc Cert.DwDownRefIdeal.main_arg1) = m' ((c.tc : Thread Cert.DwDownRefIdeal.nD Cert.DwDownRefIdeal.τ).loc Cert.DwDownRefIdeal.main_arg1))

def preserves_Head_HeadIdeal : Prop :=
  True

def algebraic_HeadIdeal_HeadRefIdeal [hHeadIdeal : Cert.HeadIdeal.Facts] [hHeadRefIdeal : Cert.HeadRefIdeal.Facts] : Prop :=
  ∀ (m : (ℓ : Loc Cert.HeadIdeal.nD Cert.HeadIdeal.τ Cert.HeadIdeal.sig) → Buf (Elt Ideal) ℓ) (g : Dev Cert.HeadIdeal.nD → PrngReg)
    (m' : (ℓ : Loc Cert.HeadRefIdeal.nD Cert.HeadRefIdeal.τ Cert.HeadRefIdeal.sig) → Buf (Elt Ideal) ℓ) (g' : Dev Cert.HeadRefIdeal.nD → PrngReg), Pre_HeadIdeal m →
    (∀ c : Dev Cert.HeadIdeal.nD,
      m' ((c.tc : Thread Cert.HeadRefIdeal.nD Cert.HeadRefIdeal.τ).loc Cert.HeadRefIdeal.main_arg0) = m ((c.tc : Thread Cert.HeadIdeal.nD Cert.HeadIdeal.τ).loc Cert.HeadIdeal.main_arg0)
      ∧ m' ((c.tc : Thread Cert.HeadRefIdeal.nD Cert.HeadRefIdeal.τ).loc Cert.HeadRefIdeal.main_arg1) = m ((c.tc : Thread Cert.HeadIdeal.nD Cert.HeadIdeal.τ).loc Cert.HeadIdeal.main_arg1)
      ∧ m' ((c.tc : Thread Cert.HeadRefIdeal.nD Cert.HeadRefIdeal.τ).loc Cert.HeadRefIdeal.main_arg2) = m ((c.tc : Thread Cert.HeadIdeal.nD Cert.HeadIdeal.τ).loc Cert.HeadIdeal.main_arg2)
      ∧ m' ((c.tc : Thread Cert.HeadRefIdeal.nD Cert.HeadRefIdeal.τ).loc Cert.HeadRefIdeal.main_arg3) = m ((c.tc : Thread Cert.HeadIdeal.nD Cert.HeadIdeal.τ).loc Cert.HeadIdeal.main_arg3)
      ∧ m' ((c.tc : Thread Cert.HeadRefIdeal.nD Cert.HeadRefIdeal.τ).loc Cert.HeadRefIdeal.main_arg4) = m ((c.tc : Thread Cert.HeadIdeal.nD Cert.HeadIdeal.τ).loc Cert.HeadIdeal.main_arg4)
      ∧ m' ((c.tc : Thread Cert.HeadRefIdeal.nD Cert.HeadRefIdeal.τ).loc Cert.HeadRefIdeal.main_arg5) = m ((c.tc : Thread Cert.HeadIdeal.nD Cert.HeadIdeal.τ).loc Cert.HeadIdeal.main_arg5)
      ∧ m' ((c.tc : Thread Cert.HeadRefIdeal.nD Cert.HeadRefIdeal.τ).loc Cert.HeadRefIdeal.main_arg6) = m ((c.tc : Thread Cert.HeadIdeal.nD Cert.HeadIdeal.τ).loc Cert.HeadIdeal.main_arg6)) →
    ∃ (v0 : (c : Dev Cert.HeadIdeal.nD) → Buf (Elt Ideal) ((c.tc : Thread Cert.HeadIdeal.nD Cert.HeadIdeal.τ).loc Cert.HeadIdeal.main_v0_0)) (v1 : (c : Dev Cert.HeadIdeal.nD) → Buf (Elt Ideal) ((c.tc : Thread Cert.HeadIdeal.nD Cert.HeadIdeal.τ).loc Cert.HeadIdeal.main_v0_1)) (v2 : (c : Dev Cert.HeadIdeal.nD) → Buf (Elt Ideal) ((c.tc : Thread Cert.HeadIdeal.nD Cert.HeadIdeal.τ).loc Cert.HeadIdeal.main_v0_2)) (v3 : (c : Dev Cert.HeadIdeal.nD) → Buf (Elt Ideal) ((c.tc : Thread Cert.HeadIdeal.nD Cert.HeadIdeal.τ).loc Cert.HeadIdeal.main_v0_3)) (v4 : (c : Dev Cert.HeadIdeal.nD) → Buf (Elt Ideal) ((c.tc : Thread Cert.HeadIdeal.nD Cert.HeadIdeal.τ).loc Cert.HeadIdeal.main_v0_4)) (v5 : (c : Dev Cert.HeadIdeal.nD) → Buf (Elt Ideal) ((c.tc : Thread Cert.HeadIdeal.nD Cert.HeadIdeal.τ).loc Cert.HeadIdeal.main_v0_5)),
      θ_run (Cert.HeadIdeal.defs (F := Ideal)) (onTc (τ := Cert.HeadIdeal.τ) (Cert.HeadIdeal.main (F := Ideal))) ⟨m, fun _ => 0, g⟩ (fun r => ∀ c : Dev Cert.HeadIdeal.nD,
          r.2.mem ((c.tc : Thread Cert.HeadIdeal.nD Cert.HeadIdeal.τ).loc Cert.HeadIdeal.main_v0_0) = v0 c
          ∧ r.2.mem ((c.tc : Thread Cert.HeadIdeal.nD Cert.HeadIdeal.τ).loc Cert.HeadIdeal.main_v0_1) = v1 c
          ∧ r.2.mem ((c.tc : Thread Cert.HeadIdeal.nD Cert.HeadIdeal.τ).loc Cert.HeadIdeal.main_v0_2) = v2 c
          ∧ r.2.mem ((c.tc : Thread Cert.HeadIdeal.nD Cert.HeadIdeal.τ).loc Cert.HeadIdeal.main_v0_3) = v3 c
          ∧ r.2.mem ((c.tc : Thread Cert.HeadIdeal.nD Cert.HeadIdeal.τ).loc Cert.HeadIdeal.main_v0_4) = v4 c
          ∧ r.2.mem ((c.tc : Thread Cert.HeadIdeal.nD Cert.HeadIdeal.τ).loc Cert.HeadIdeal.main_v0_5) = v5 c
          ∧ r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
          ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
          ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
          ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
          ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
          ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
          ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6))
      ∧ θ_run (Cert.HeadRefIdeal.defs (F := Ideal)) (onTc (τ := Cert.HeadRefIdeal.τ) (Cert.HeadRefIdeal.main (F := Ideal))) ⟨m', fun _ => 0, g'⟩ (fun r => ∀ c : Dev Cert.HeadRefIdeal.nD,
          r.2.mem ((c.tc : Thread Cert.HeadRefIdeal.nD Cert.HeadRefIdeal.τ).loc Cert.HeadRefIdeal.main_v108) = v0 c
          ∧ r.2.mem ((c.tc : Thread Cert.HeadRefIdeal.nD Cert.HeadRefIdeal.τ).loc Cert.HeadRefIdeal.main_v110) = v1 c
          ∧ r.2.mem ((c.tc : Thread Cert.HeadRefIdeal.nD Cert.HeadRefIdeal.τ).loc Cert.HeadRefIdeal.main_v113) = v2 c
          ∧ r.2.mem ((c.tc : Thread Cert.HeadRefIdeal.nD Cert.HeadRefIdeal.τ).loc Cert.HeadRefIdeal.main_v114) = v3 c
          ∧ r.2.mem ((c.tc : Thread Cert.HeadRefIdeal.nD Cert.HeadRefIdeal.τ).loc Cert.HeadRefIdeal.main_v115) = v4 c
          ∧ r.2.mem ((c.tc : Thread Cert.HeadRefIdeal.nD Cert.HeadRefIdeal.τ).loc Cert.HeadRefIdeal.main_v116) = v5 c
          ∧ r.2.mem ((c.tc : Thread Cert.HeadRefIdeal.nD Cert.HeadRefIdeal.τ).loc Cert.HeadRefIdeal.main_arg0) = m' ((c.tc : Thread Cert.HeadRefIdeal.nD Cert.HeadRefIdeal.τ).loc Cert.HeadRefIdeal.main_arg0)
          ∧ r.2.mem ((c.tc : Thread Cert.HeadRefIdeal.nD Cert.HeadRefIdeal.τ).loc Cert.HeadRefIdeal.main_arg1) = m' ((c.tc : Thread Cert.HeadRefIdeal.nD Cert.HeadRefIdeal.τ).loc Cert.HeadRefIdeal.main_arg1)
          ∧ r.2.mem ((c.tc : Thread Cert.HeadRefIdeal.nD Cert.HeadRefIdeal.τ).loc Cert.HeadRefIdeal.main_arg2) = m' ((c.tc : Thread Cert.HeadRefIdeal.nD Cert.HeadRefIdeal.τ).loc Cert.HeadRefIdeal.main_arg2)
          ∧ r.2.mem ((c.tc : Thread Cert.HeadRefIdeal.nD Cert.HeadRefIdeal.τ).loc Cert.HeadRefIdeal.main_arg3) = m' ((c.tc : Thread Cert.HeadRefIdeal.nD Cert.HeadRefIdeal.τ).loc Cert.HeadRefIdeal.main_arg3)
          ∧ r.2.mem ((c.tc : Thread Cert.HeadRefIdeal.nD Cert.HeadRefIdeal.τ).loc Cert.HeadRefIdeal.main_arg4) = m' ((c.tc : Thread Cert.HeadRefIdeal.nD Cert.HeadRefIdeal.τ).loc Cert.HeadRefIdeal.main_arg4)
          ∧ r.2.mem ((c.tc : Thread Cert.HeadRefIdeal.nD Cert.HeadRefIdeal.τ).loc Cert.HeadRefIdeal.main_arg5) = m' ((c.tc : Thread Cert.HeadRefIdeal.nD Cert.HeadRefIdeal.τ).loc Cert.HeadRefIdeal.main_arg5)
          ∧ r.2.mem ((c.tc : Thread Cert.HeadRefIdeal.nD Cert.HeadRefIdeal.τ).loc Cert.HeadRefIdeal.main_arg6) = m' ((c.tc : Thread Cert.HeadRefIdeal.nD Cert.HeadRefIdeal.τ).loc Cert.HeadRefIdeal.main_arg6))

def preserves_FfnBack_FfnBackIdeal : Prop :=
  True

def algebraic_FfnBackIdeal_FfnBackRefIdeal [hFfnBackIdeal : Cert.FfnBackIdeal.Facts] [hFfnBackRefIdeal : Cert.FfnBackRefIdeal.Facts] : Prop :=
  ∀ (m : (ℓ : Loc Cert.FfnBackIdeal.nD Cert.FfnBackIdeal.τ Cert.FfnBackIdeal.sig) → Buf (Elt Ideal) ℓ) (g : Dev Cert.FfnBackIdeal.nD → PrngReg)
    (m' : (ℓ : Loc Cert.FfnBackRefIdeal.nD Cert.FfnBackRefIdeal.τ Cert.FfnBackRefIdeal.sig) → Buf (Elt Ideal) ℓ) (g' : Dev Cert.FfnBackRefIdeal.nD → PrngReg), Pre_FfnBackIdeal m →
    (∀ c : Dev Cert.FfnBackIdeal.nD,
      m' ((c.tc : Thread Cert.FfnBackRefIdeal.nD Cert.FfnBackRefIdeal.τ).loc Cert.FfnBackRefIdeal.main_arg0) = m ((c.tc : Thread Cert.FfnBackIdeal.nD Cert.FfnBackIdeal.τ).loc Cert.FfnBackIdeal.main_arg0)
      ∧ m' ((c.tc : Thread Cert.FfnBackRefIdeal.nD Cert.FfnBackRefIdeal.τ).loc Cert.FfnBackRefIdeal.main_arg1) = m ((c.tc : Thread Cert.FfnBackIdeal.nD Cert.FfnBackIdeal.τ).loc Cert.FfnBackIdeal.main_arg1)
      ∧ m' ((c.tc : Thread Cert.FfnBackRefIdeal.nD Cert.FfnBackRefIdeal.τ).loc Cert.FfnBackRefIdeal.main_arg2) = m ((c.tc : Thread Cert.FfnBackIdeal.nD Cert.FfnBackIdeal.τ).loc Cert.FfnBackIdeal.main_arg2)
      ∧ m' ((c.tc : Thread Cert.FfnBackRefIdeal.nD Cert.FfnBackRefIdeal.τ).loc Cert.FfnBackRefIdeal.main_arg3) = m ((c.tc : Thread Cert.FfnBackIdeal.nD Cert.FfnBackIdeal.τ).loc Cert.FfnBackIdeal.main_arg3)
      ∧ m' ((c.tc : Thread Cert.FfnBackRefIdeal.nD Cert.FfnBackRefIdeal.τ).loc Cert.FfnBackRefIdeal.main_arg4) = m ((c.tc : Thread Cert.FfnBackIdeal.nD Cert.FfnBackIdeal.τ).loc Cert.FfnBackIdeal.main_arg4)
      ∧ m' ((c.tc : Thread Cert.FfnBackRefIdeal.nD Cert.FfnBackRefIdeal.τ).loc Cert.FfnBackRefIdeal.main_arg5) = m ((c.tc : Thread Cert.FfnBackIdeal.nD Cert.FfnBackIdeal.τ).loc Cert.FfnBackIdeal.main_arg5)
      ∧ m' ((c.tc : Thread Cert.FfnBackRefIdeal.nD Cert.FfnBackRefIdeal.τ).loc Cert.FfnBackRefIdeal.main_arg6) = m ((c.tc : Thread Cert.FfnBackIdeal.nD Cert.FfnBackIdeal.τ).loc Cert.FfnBackIdeal.main_arg6)) →
    ∃ (v0 : (c : Dev Cert.FfnBackIdeal.nD) → Buf (Elt Ideal) ((c.tc : Thread Cert.FfnBackIdeal.nD Cert.FfnBackIdeal.τ).loc Cert.FfnBackIdeal.main_v0_0)) (v1 : (c : Dev Cert.FfnBackIdeal.nD) → Buf (Elt Ideal) ((c.tc : Thread Cert.FfnBackIdeal.nD Cert.FfnBackIdeal.τ).loc Cert.FfnBackIdeal.main_v0_1)) (v2 : (c : Dev Cert.FfnBackIdeal.nD) → Buf (Elt Ideal) ((c.tc : Thread Cert.FfnBackIdeal.nD Cert.FfnBackIdeal.τ).loc Cert.FfnBackIdeal.main_v0_2)) (v3 : (c : Dev Cert.FfnBackIdeal.nD) → Buf (Elt Ideal) ((c.tc : Thread Cert.FfnBackIdeal.nD Cert.FfnBackIdeal.τ).loc Cert.FfnBackIdeal.main_v0_3)) (v4 : (c : Dev Cert.FfnBackIdeal.nD) → Buf (Elt Ideal) ((c.tc : Thread Cert.FfnBackIdeal.nD Cert.FfnBackIdeal.τ).loc Cert.FfnBackIdeal.main_v0_4)),
      θ_run (Cert.FfnBackIdeal.defs (F := Ideal)) (onTc (τ := Cert.FfnBackIdeal.τ) (Cert.FfnBackIdeal.main (F := Ideal))) ⟨m, fun _ => 0, g⟩ (fun r => ∀ c : Dev Cert.FfnBackIdeal.nD,
          r.2.mem ((c.tc : Thread Cert.FfnBackIdeal.nD Cert.FfnBackIdeal.τ).loc Cert.FfnBackIdeal.main_v0_0) = v0 c
          ∧ r.2.mem ((c.tc : Thread Cert.FfnBackIdeal.nD Cert.FfnBackIdeal.τ).loc Cert.FfnBackIdeal.main_v0_1) = v1 c
          ∧ r.2.mem ((c.tc : Thread Cert.FfnBackIdeal.nD Cert.FfnBackIdeal.τ).loc Cert.FfnBackIdeal.main_v0_2) = v2 c
          ∧ r.2.mem ((c.tc : Thread Cert.FfnBackIdeal.nD Cert.FfnBackIdeal.τ).loc Cert.FfnBackIdeal.main_v0_3) = v3 c
          ∧ r.2.mem ((c.tc : Thread Cert.FfnBackIdeal.nD Cert.FfnBackIdeal.τ).loc Cert.FfnBackIdeal.main_v0_4) = v4 c
          ∧ r.2.mem ((c.tc : Thread Cert.FfnBackIdeal.nD Cert.FfnBackIdeal.τ).loc Cert.FfnBackIdeal.main_arg0) = m ((c.tc : Thread Cert.FfnBackIdeal.nD Cert.FfnBackIdeal.τ).loc Cert.FfnBackIdeal.main_arg0)
          ∧ r.2.mem ((c.tc : Thread Cert.FfnBackIdeal.nD Cert.FfnBackIdeal.τ).loc Cert.FfnBackIdeal.main_arg1) = m ((c.tc : Thread Cert.FfnBackIdeal.nD Cert.FfnBackIdeal.τ).loc Cert.FfnBackIdeal.main_arg1)
          ∧ r.2.mem ((c.tc : Thread Cert.FfnBackIdeal.nD Cert.FfnBackIdeal.τ).loc Cert.FfnBackIdeal.main_arg2) = m ((c.tc : Thread Cert.FfnBackIdeal.nD Cert.FfnBackIdeal.τ).loc Cert.FfnBackIdeal.main_arg2)
          ∧ r.2.mem ((c.tc : Thread Cert.FfnBackIdeal.nD Cert.FfnBackIdeal.τ).loc Cert.FfnBackIdeal.main_arg3) = m ((c.tc : Thread Cert.FfnBackIdeal.nD Cert.FfnBackIdeal.τ).loc Cert.FfnBackIdeal.main_arg3)
          ∧ r.2.mem ((c.tc : Thread Cert.FfnBackIdeal.nD Cert.FfnBackIdeal.τ).loc Cert.FfnBackIdeal.main_arg4) = m ((c.tc : Thread Cert.FfnBackIdeal.nD Cert.FfnBackIdeal.τ).loc Cert.FfnBackIdeal.main_arg4)
          ∧ r.2.mem ((c.tc : Thread Cert.FfnBackIdeal.nD Cert.FfnBackIdeal.τ).loc Cert.FfnBackIdeal.main_arg5) = m ((c.tc : Thread Cert.FfnBackIdeal.nD Cert.FfnBackIdeal.τ).loc Cert.FfnBackIdeal.main_arg5)
          ∧ r.2.mem ((c.tc : Thread Cert.FfnBackIdeal.nD Cert.FfnBackIdeal.τ).loc Cert.FfnBackIdeal.main_arg6) = m ((c.tc : Thread Cert.FfnBackIdeal.nD Cert.FfnBackIdeal.τ).loc Cert.FfnBackIdeal.main_arg6))
      ∧ θ_run (Cert.FfnBackRefIdeal.defs (F := Ideal)) (onTc (τ := Cert.FfnBackRefIdeal.τ) (Cert.FfnBackRefIdeal.main (F := Ideal))) ⟨m', fun _ => 0, g'⟩ (fun r => ∀ c : Dev Cert.FfnBackRefIdeal.nD,
          r.2.mem ((c.tc : Thread Cert.FfnBackRefIdeal.nD Cert.FfnBackRefIdeal.τ).loc Cert.FfnBackRefIdeal.main_v51) = v0 c
          ∧ r.2.mem ((c.tc : Thread Cert.FfnBackRefIdeal.nD Cert.FfnBackRefIdeal.τ).loc Cert.FfnBackRefIdeal.main_v54) = v1 c
          ∧ r.2.mem ((c.tc : Thread Cert.FfnBackRefIdeal.nD Cert.FfnBackRefIdeal.τ).loc Cert.FfnBackRefIdeal.main_v55) = v2 c
          ∧ r.2.mem ((c.tc : Thread Cert.FfnBackRefIdeal.nD Cert.FfnBackRefIdeal.τ).loc Cert.FfnBackRefIdeal.main_v56) = v3 c
          ∧ r.2.mem ((c.tc : Thread Cert.FfnBackRefIdeal.nD Cert.FfnBackRefIdeal.τ).loc Cert.FfnBackRefIdeal.main_v57) = v4 c
          ∧ r.2.mem ((c.tc : Thread Cert.FfnBackRefIdeal.nD Cert.FfnBackRefIdeal.τ).loc Cert.FfnBackRefIdeal.main_arg0) = m' ((c.tc : Thread Cert.FfnBackRefIdeal.nD Cert.FfnBackRefIdeal.τ).loc Cert.FfnBackRefIdeal.main_arg0)
          ∧ r.2.mem ((c.tc : Thread Cert.FfnBackRefIdeal.nD Cert.FfnBackRefIdeal.τ).loc Cert.FfnBackRefIdeal.main_arg1) = m' ((c.tc : Thread Cert.FfnBackRefIdeal.nD Cert.FfnBackRefIdeal.τ).loc Cert.FfnBackRefIdeal.main_arg1)
          ∧ r.2.mem ((c.tc : Thread Cert.FfnBackRefIdeal.nD Cert.FfnBackRefIdeal.τ).loc Cert.FfnBackRefIdeal.main_arg2) = m' ((c.tc : Thread Cert.FfnBackRefIdeal.nD Cert.FfnBackRefIdeal.τ).loc Cert.FfnBackRefIdeal.main_arg2)
          ∧ r.2.mem ((c.tc : Thread Cert.FfnBackRefIdeal.nD Cert.FfnBackRefIdeal.τ).loc Cert.FfnBackRefIdeal.main_arg3) = m' ((c.tc : Thread Cert.FfnBackRefIdeal.nD Cert.FfnBackRefIdeal.τ).loc Cert.FfnBackRefIdeal.main_arg3)
          ∧ r.2.mem ((c.tc : Thread Cert.FfnBackRefIdeal.nD Cert.FfnBackRefIdeal.τ).loc Cert.FfnBackRefIdeal.main_arg4) = m' ((c.tc : Thread Cert.FfnBackRefIdeal.nD Cert.FfnBackRefIdeal.τ).loc Cert.FfnBackRefIdeal.main_arg4)
          ∧ r.2.mem ((c.tc : Thread Cert.FfnBackRefIdeal.nD Cert.FfnBackRefIdeal.τ).loc Cert.FfnBackRefIdeal.main_arg5) = m' ((c.tc : Thread Cert.FfnBackRefIdeal.nD Cert.FfnBackRefIdeal.τ).loc Cert.FfnBackRefIdeal.main_arg5)
          ∧ r.2.mem ((c.tc : Thread Cert.FfnBackRefIdeal.nD Cert.FfnBackRefIdeal.τ).loc Cert.FfnBackRefIdeal.main_arg6) = m' ((c.tc : Thread Cert.FfnBackRefIdeal.nD Cert.FfnBackRefIdeal.τ).loc Cert.FfnBackRefIdeal.main_arg6))

def preserves_Mid_MidIdeal : Prop :=
  True

def algebraic_MidIdeal_MidRefIdeal [hMidIdeal : Cert.MidIdeal.Facts] [hMidRefIdeal : Cert.MidRefIdeal.Facts] : Prop :=
  ∀ (m : (ℓ : Loc Cert.MidIdeal.nD Cert.MidIdeal.τ Cert.MidIdeal.sig) → Buf (Elt Ideal) ℓ) (g : Dev Cert.MidIdeal.nD → PrngReg)
    (m' : (ℓ : Loc Cert.MidRefIdeal.nD Cert.MidRefIdeal.τ Cert.MidRefIdeal.sig) → Buf (Elt Ideal) ℓ) (g' : Dev Cert.MidRefIdeal.nD → PrngReg), Pre_MidIdeal m →
    (∀ c : Dev Cert.MidIdeal.nD,
      m' ((c.tc : Thread Cert.MidRefIdeal.nD Cert.MidRefIdeal.τ).loc Cert.MidRefIdeal.main_arg0) = m ((c.tc : Thread Cert.MidIdeal.nD Cert.MidIdeal.τ).loc Cert.MidIdeal.main_arg0)
      ∧ m' ((c.tc : Thread Cert.MidRefIdeal.nD Cert.MidRefIdeal.τ).loc Cert.MidRefIdeal.main_arg1) = m ((c.tc : Thread Cert.MidIdeal.nD Cert.MidIdeal.τ).loc Cert.MidIdeal.main_arg1)
      ∧ m' ((c.tc : Thread Cert.MidRefIdeal.nD Cert.MidRefIdeal.τ).loc Cert.MidRefIdeal.main_arg2) = m ((c.tc : Thread Cert.MidIdeal.nD Cert.MidIdeal.τ).loc Cert.MidIdeal.main_arg2)
      ∧ m' ((c.tc : Thread Cert.MidRefIdeal.nD Cert.MidRefIdeal.τ).loc Cert.MidRefIdeal.main_arg3) = m ((c.tc : Thread Cert.MidIdeal.nD Cert.MidIdeal.τ).loc Cert.MidIdeal.main_arg3)
      ∧ m' ((c.tc : Thread Cert.MidRefIdeal.nD Cert.MidRefIdeal.τ).loc Cert.MidRefIdeal.main_arg4) = m ((c.tc : Thread Cert.MidIdeal.nD Cert.MidIdeal.τ).loc Cert.MidIdeal.main_arg4)
      ∧ m' ((c.tc : Thread Cert.MidRefIdeal.nD Cert.MidRefIdeal.τ).loc Cert.MidRefIdeal.main_arg5) = m ((c.tc : Thread Cert.MidIdeal.nD Cert.MidIdeal.τ).loc Cert.MidIdeal.main_arg5)
      ∧ m' ((c.tc : Thread Cert.MidRefIdeal.nD Cert.MidRefIdeal.τ).loc Cert.MidRefIdeal.main_arg6) = m ((c.tc : Thread Cert.MidIdeal.nD Cert.MidIdeal.τ).loc Cert.MidIdeal.main_arg6)
      ∧ m' ((c.tc : Thread Cert.MidRefIdeal.nD Cert.MidRefIdeal.τ).loc Cert.MidRefIdeal.main_arg7) = m ((c.tc : Thread Cert.MidIdeal.nD Cert.MidIdeal.τ).loc Cert.MidIdeal.main_arg7)) →
    ∃ (v0 : (c : Dev Cert.MidIdeal.nD) → Buf (Elt Ideal) ((c.tc : Thread Cert.MidIdeal.nD Cert.MidIdeal.τ).loc Cert.MidIdeal.main_v0_0)) (v1 : (c : Dev Cert.MidIdeal.nD) → Buf (Elt Ideal) ((c.tc : Thread Cert.MidIdeal.nD Cert.MidIdeal.τ).loc Cert.MidIdeal.main_v0_1)),
      θ_run (Cert.MidIdeal.defs (F := Ideal)) (onTc (τ := Cert.MidIdeal.τ) (Cert.MidIdeal.main (F := Ideal))) ⟨m, fun _ => 0, g⟩ (fun r => ∀ c : Dev Cert.MidIdeal.nD,
          r.2.mem ((c.tc : Thread Cert.MidIdeal.nD Cert.MidIdeal.τ).loc Cert.MidIdeal.main_v0_0) = v0 c
          ∧ r.2.mem ((c.tc : Thread Cert.MidIdeal.nD Cert.MidIdeal.τ).loc Cert.MidIdeal.main_v0_1) = v1 c
          ∧ r.2.mem ((c.tc : Thread Cert.MidIdeal.nD Cert.MidIdeal.τ).loc Cert.MidIdeal.main_arg0) = m ((c.tc : Thread Cert.MidIdeal.nD Cert.MidIdeal.τ).loc Cert.MidIdeal.main_arg0)
          ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
          ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
          ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
          ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
          ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
          ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
          ∧ r.2.mem ((c.tc : Thread Cert.MidIdeal.nD Cert.MidIdeal.τ).loc Cert.MidIdeal.main_arg7) = m ((c.tc : Thread Cert.MidIdeal.nD Cert.MidIdeal.τ).loc Cert.MidIdeal.main_arg7))
      ∧ θ_run (Cert.MidRefIdeal.defs (F := Ideal)) (onTc (τ := Cert.MidRefIdeal.τ) (Cert.MidRefIdeal.main (F := Ideal))) ⟨m', fun _ => 0, g'⟩ (fun r => ∀ c : Dev Cert.MidRefIdeal.nD,
          r.2.mem ((c.tc : Thread Cert.MidRefIdeal.nD Cert.MidRefIdeal.τ).loc Cert.MidRefIdeal.main_v41) = v0 c
          ∧ r.2.mem ((c.tc : Thread Cert.MidRefIdeal.nD Cert.MidRefIdeal.τ).loc Cert.MidRefIdeal.main_v42) = v1 c
          ∧ r.2.mem ((c.tc : Thread Cert.MidRefIdeal.nD Cert.MidRefIdeal.τ).loc Cert.MidRefIdeal.main_arg0) = m' ((c.tc : Thread Cert.MidRefIdeal.nD Cert.MidRefIdeal.τ).loc Cert.MidRefIdeal.main_arg0)
          ∧ r.2.mem ((c.tc : Thread Cert.MidRefIdeal.nD Cert.MidRefIdeal.τ).loc Cert.MidRefIdeal.main_arg1) = m' ((c.tc : Thread Cert.MidRefIdeal.nD Cert.MidRefIdeal.τ).loc Cert.MidRefIdeal.main_arg1)
          ∧ r.2.mem ((c.tc : Thread Cert.MidRefIdeal.nD Cert.MidRefIdeal.τ).loc Cert.MidRefIdeal.main_arg2) = m' ((c.tc : Thread Cert.MidRefIdeal.nD Cert.MidRefIdeal.τ).loc Cert.MidRefIdeal.main_arg2)
          ∧ r.2.mem ((c.tc : Thread Cert.MidRefIdeal.nD Cert.MidRefIdeal.τ).loc Cert.MidRefIdeal.main_arg3) = m' ((c.tc : Thread Cert.MidRefIdeal.nD Cert.MidRefIdeal.τ).loc Cert.MidRefIdeal.main_arg3)
          ∧ r.2.mem ((c.tc : Thread Cert.MidRefIdeal.nD Cert.MidRefIdeal.τ).loc Cert.MidRefIdeal.main_arg4) = m' ((c.tc : Thread Cert.MidRefIdeal.nD Cert.MidRefIdeal.τ).loc Cert.MidRefIdeal.main_arg4)
          ∧ r.2.mem ((c.tc : Thread Cert.MidRefIdeal.nD Cert.MidRefIdeal.τ).loc Cert.MidRefIdeal.main_arg5) = m' ((c.tc : Thread Cert.MidRefIdeal.nD Cert.MidRefIdeal.τ).loc Cert.MidRefIdeal.main_arg5)
          ∧ r.2.mem ((c.tc : Thread Cert.MidRefIdeal.nD Cert.MidRefIdeal.τ).loc Cert.MidRefIdeal.main_arg6) = m' ((c.tc : Thread Cert.MidRefIdeal.nD Cert.MidRefIdeal.τ).loc Cert.MidRefIdeal.main_arg6)
          ∧ r.2.mem ((c.tc : Thread Cert.MidRefIdeal.nD Cert.MidRefIdeal.τ).loc Cert.MidRefIdeal.main_arg7) = m' ((c.tc : Thread Cert.MidRefIdeal.nD Cert.MidRefIdeal.τ).loc Cert.MidRefIdeal.main_arg7))

def preserves_MidBack_MidBackIdeal : Prop :=
  True

def algebraic_MidBackIdeal_MidBackRefIdeal [hMidBackIdeal : Cert.MidBackIdeal.Facts] [hMidBackRefIdeal : Cert.MidBackRefIdeal.Facts] : Prop :=
  ∀ (m : (ℓ : Loc Cert.MidBackIdeal.nD Cert.MidBackIdeal.τ Cert.MidBackIdeal.sig) → Buf (Elt Ideal) ℓ) (g : Dev Cert.MidBackIdeal.nD → PrngReg)
    (m' : (ℓ : Loc Cert.MidBackRefIdeal.nD Cert.MidBackRefIdeal.τ Cert.MidBackRefIdeal.sig) → Buf (Elt Ideal) ℓ) (g' : Dev Cert.MidBackRefIdeal.nD → PrngReg), Pre_MidBackIdeal m →
    (∀ c : Dev Cert.MidBackIdeal.nD,
      m' ((c.tc : Thread Cert.MidBackRefIdeal.nD Cert.MidBackRefIdeal.τ).loc Cert.MidBackRefIdeal.main_arg0) = m ((c.tc : Thread Cert.MidBackIdeal.nD Cert.MidBackIdeal.τ).loc Cert.MidBackIdeal.main_arg0)
      ∧ m' ((c.tc : Thread Cert.MidBackRefIdeal.nD Cert.MidBackRefIdeal.τ).loc Cert.MidBackRefIdeal.main_arg1) = m ((c.tc : Thread Cert.MidBackIdeal.nD Cert.MidBackIdeal.τ).loc Cert.MidBackIdeal.main_arg1)
      ∧ m' ((c.tc : Thread Cert.MidBackRefIdeal.nD Cert.MidBackRefIdeal.τ).loc Cert.MidBackRefIdeal.main_arg2) = m ((c.tc : Thread Cert.MidBackIdeal.nD Cert.MidBackIdeal.τ).loc Cert.MidBackIdeal.main_arg2)
      ∧ m' ((c.tc : Thread Cert.MidBackRefIdeal.nD Cert.MidBackRefIdeal.τ).loc Cert.MidBackRefIdeal.main_arg3) = m ((c.tc : Thread Cert.MidBackIdeal.nD Cert.MidBackIdeal.τ).loc Cert.MidBackIdeal.main_arg3)
      ∧ m' ((c.tc : Thread Cert.MidBackRefIdeal.nD Cert.MidBackRefIdeal.τ).loc Cert.MidBackRefIdeal.main_arg4) = m ((c.tc : Thread Cert.MidBackIdeal.nD Cert.MidBackIdeal.τ).loc Cert.MidBackIdeal.main_arg4)
      ∧ m' ((c.tc : Thread Cert.MidBackRefIdeal.nD Cert.MidBackRefIdeal.τ).loc Cert.MidBackRefIdeal.main_arg5) = m ((c.tc : Thread Cert.MidBackIdeal.nD Cert.MidBackIdeal.τ).loc Cert.MidBackIdeal.main_arg5)
      ∧ m' ((c.tc : Thread Cert.MidBackRefIdeal.nD Cert.MidBackRefIdeal.τ).loc Cert.MidBackRefIdeal.main_arg6) = m ((c.tc : Thread Cert.MidBackIdeal.nD Cert.MidBackIdeal.τ).loc Cert.MidBackIdeal.main_arg6)
      ∧ m' ((c.tc : Thread Cert.MidBackRefIdeal.nD Cert.MidBackRefIdeal.τ).loc Cert.MidBackRefIdeal.main_arg7) = m ((c.tc : Thread Cert.MidBackIdeal.nD Cert.MidBackIdeal.τ).loc Cert.MidBackIdeal.main_arg7)
      ∧ m' ((c.tc : Thread Cert.MidBackRefIdeal.nD Cert.MidBackRefIdeal.τ).loc Cert.MidBackRefIdeal.main_arg8) = m ((c.tc : Thread Cert.MidBackIdeal.nD Cert.MidBackIdeal.τ).loc Cert.MidBackIdeal.main_arg8)) →
    ∃ (v0 : (c : Dev Cert.MidBackIdeal.nD) → Buf (Elt Ideal) ((c.tc : Thread Cert.MidBackIdeal.nD Cert.MidBackIdeal.τ).loc Cert.MidBackIdeal.main_v0_0)) (v1 : (c : Dev Cert.MidBackIdeal.nD) → Buf (Elt Ideal) ((c.tc : Thread Cert.MidBackIdeal.nD Cert.MidBackIdeal.τ).loc Cert.MidBackIdeal.main_v0_1)) (v2 : (c : Dev Cert.MidBackIdeal.nD) → Buf (Elt Ideal) ((c.tc : Thread Cert.MidBackIdeal.nD Cert.MidBackIdeal.τ).loc Cert.MidBackIdeal.main_v0_2)) (v3 : (c : Dev Cert.MidBackIdeal.nD) → Buf (Elt Ideal) ((c.tc : Thread Cert.MidBackIdeal.nD Cert.MidBackIdeal.τ).loc Cert.MidBackIdeal.main_v0_3)) (v4 : (c : Dev Cert.MidBackIdeal.nD) → Buf (Elt Ideal) ((c.tc : Thread Cert.MidBackIdeal.nD Cert.MidBackIdeal.τ).loc Cert.MidBackIdeal.main_v0_4)) (v5 : (c : Dev Cert.MidBackIdeal.nD) → Buf (Elt Ideal) ((c.tc : Thread Cert.MidBackIdeal.nD Cert.MidBackIdeal.τ).loc Cert.MidBackIdeal.main_v0_5)) (v6 : (c : Dev Cert.MidBackIdeal.nD) → Buf (Elt Ideal) ((c.tc : Thread Cert.MidBackIdeal.nD Cert.MidBackIdeal.τ).loc Cert.MidBackIdeal.main_v0_6)) (v7 : (c : Dev Cert.MidBackIdeal.nD) → Buf (Elt Ideal) ((c.tc : Thread Cert.MidBackIdeal.nD Cert.MidBackIdeal.τ).loc Cert.MidBackIdeal.main_v0_7)),
      θ_run (Cert.MidBackIdeal.defs (F := Ideal)) (onTc (τ := Cert.MidBackIdeal.τ) (Cert.MidBackIdeal.main (F := Ideal))) ⟨m, fun _ => 0, g⟩ (fun r => ∀ c : Dev Cert.MidBackIdeal.nD,
          r.2.mem ((c.tc : Thread Cert.MidBackIdeal.nD Cert.MidBackIdeal.τ).loc Cert.MidBackIdeal.main_v0_0) = v0 c
          ∧ r.2.mem ((c.tc : Thread Cert.MidBackIdeal.nD Cert.MidBackIdeal.τ).loc Cert.MidBackIdeal.main_v0_1) = v1 c
          ∧ r.2.mem ((c.tc : Thread Cert.MidBackIdeal.nD Cert.MidBackIdeal.τ).loc Cert.MidBackIdeal.main_v0_2) = v2 c
          ∧ r.2.mem ((c.tc : Thread Cert.MidBackIdeal.nD Cert.MidBackIdeal.τ).loc Cert.MidBackIdeal.main_v0_3) = v3 c
          ∧ r.2.mem ((c.tc : Thread Cert.MidBackIdeal.nD Cert.MidBackIdeal.τ).loc Cert.MidBackIdeal.main_v0_4) = v4 c
          ∧ r.2.mem ((c.tc : Thread Cert.MidBackIdeal.nD Cert.MidBackIdeal.τ).loc Cert.MidBackIdeal.main_v0_5) = v5 c
          ∧ r.2.mem ((c.tc : Thread Cert.MidBackIdeal.nD Cert.MidBackIdeal.τ).loc Cert.MidBackIdeal.main_v0_6) = v6 c
          ∧ r.2.mem ((c.tc : Thread Cert.MidBackIdeal.nD Cert.MidBackIdeal.τ).loc Cert.MidBackIdeal.main_v0_7) = v7 c
          ∧ r.2.mem ((c.tc : Thread Cert.MidBackIdeal.nD Cert.MidBackIdeal.τ).loc Cert.MidBackIdeal.main_arg0) = m ((c.tc : Thread Cert.MidBackIdeal.nD Cert.MidBackIdeal.τ).loc Cert.MidBackIdeal.main_arg0)
          ∧ r.2.mem ((c.tc : Thread Cert.MidBackIdeal.nD Cert.MidBackIdeal.τ).loc Cert.MidBackIdeal.main_arg1) = m ((c.tc : Thread Cert.MidBackIdeal.nD Cert.MidBackIdeal.τ).loc Cert.MidBackIdeal.main_arg1)
          ∧ r.2.mem ((c.tc : Thread Cert.MidBackIdeal.nD Cert.MidBackIdeal.τ).loc Cert.MidBackIdeal.main_arg2) = m ((c.tc : Thread Cert.MidBackIdeal.nD Cert.MidBackIdeal.τ).loc Cert.MidBackIdeal.main_arg2)
          ∧ r.2.mem ((c.tc : Thread Cert.MidBackIdeal.nD Cert.MidBackIdeal.τ).loc Cert.MidBackIdeal.main_arg3) = m ((c.tc : Thread Cert.MidBackIdeal.nD Cert.MidBackIdeal.τ).loc Cert.MidBackIdeal.main_arg3)
          ∧ r.2.mem ((c.tc : Thread Cert.MidBackIdeal.nD Cert.MidBackIdeal.τ).loc Cert.MidBackIdeal.main_arg4) = m ((c.tc : Thread Cert.MidBackIdeal.nD Cert.MidBackIdeal.τ).loc Cert.MidBackIdeal.main_arg4)
          ∧ r.2.mem ((c.tc : Thread Cert.MidBackIdeal.nD Cert.MidBackIdeal.τ).loc Cert.MidBackIdeal.main_arg5) = m ((c.tc : Thread Cert.MidBackIdeal.nD Cert.MidBackIdeal.τ).loc Cert.MidBackIdeal.main_arg5)
          ∧ r.2.mem ((c.tc : Thread Cert.MidBackIdeal.nD Cert.MidBackIdeal.τ).loc Cert.MidBackIdeal.main_arg6) = m ((c.tc : Thread Cert.MidBackIdeal.nD Cert.MidBackIdeal.τ).loc Cert.MidBackIdeal.main_arg6)
          ∧ r.2.mem ((c.tc : Thread Cert.MidBackIdeal.nD Cert.MidBackIdeal.τ).loc Cert.MidBackIdeal.main_arg7) = m ((c.tc : Thread Cert.MidBackIdeal.nD Cert.MidBackIdeal.τ).loc Cert.MidBackIdeal.main_arg7)
          ∧ r.2.mem ((c.tc : Thread Cert.MidBackIdeal.nD Cert.MidBackIdeal.τ).loc Cert.MidBackIdeal.main_arg8) = m ((c.tc : Thread Cert.MidBackIdeal.nD Cert.MidBackIdeal.τ).loc Cert.MidBackIdeal.main_arg8))
      ∧ θ_run (Cert.MidBackRefIdeal.defs (F := Ideal)) (onTc (τ := Cert.MidBackRefIdeal.τ) (Cert.MidBackRefIdeal.main (F := Ideal))) ⟨m', fun _ => 0, g'⟩ (fun r => ∀ c : Dev Cert.MidBackRefIdeal.nD,
          r.2.mem ((c.tc : Thread Cert.MidBackRefIdeal.nD Cert.MidBackRefIdeal.τ).loc Cert.MidBackRefIdeal.main_v93) = v0 c
          ∧ r.2.mem ((c.tc : Thread Cert.MidBackRefIdeal.nD Cert.MidBackRefIdeal.τ).loc Cert.MidBackRefIdeal.main_v94) = v1 c
          ∧ r.2.mem ((c.tc : Thread Cert.MidBackRefIdeal.nD Cert.MidBackRefIdeal.τ).loc Cert.MidBackRefIdeal.main_v67) = v2 c
          ∧ r.2.mem ((c.tc : Thread Cert.MidBackRefIdeal.nD Cert.MidBackRefIdeal.τ).loc Cert.MidBackRefIdeal.main_v57) = v3 c
          ∧ r.2.mem ((c.tc : Thread Cert.MidBackRefIdeal.nD Cert.MidBackRefIdeal.τ).loc Cert.MidBackRefIdeal.main_v97) = v4 c
          ∧ r.2.mem ((c.tc : Thread Cert.MidBackRefIdeal.nD Cert.MidBackRefIdeal.τ).loc Cert.MidBackRefIdeal.main_v99) = v5 c
          ∧ r.2.mem ((c.tc : Thread Cert.MidBackRefIdeal.nD Cert.MidBackRefIdeal.τ).loc Cert.MidBackRefIdeal.main_v101) = v6 c
          ∧ r.2.mem ((c.tc : Thread Cert.MidBackRefIdeal.nD Cert.MidBackRefIdeal.τ).loc Cert.MidBackRefIdeal.main_v102) = v7 c
          ∧ r.2.mem ((c.tc : Thread Cert.MidBackRefIdeal.nD Cert.MidBackRefIdeal.τ).loc Cert.MidBackRefIdeal.main_arg0) = m' ((c.tc : Thread Cert.MidBackRefIdeal.nD Cert.MidBackRefIdeal.τ).loc Cert.MidBackRefIdeal.main_arg0)
          ∧ r.2.mem ((c.tc : Thread Cert.MidBackRefIdeal.nD Cert.MidBackRefIdeal.τ).loc Cert.MidBackRefIdeal.main_arg1) = m' ((c.tc : Thread Cert.MidBackRefIdeal.nD Cert.MidBackRefIdeal.τ).loc Cert.MidBackRefIdeal.main_arg1)
          ∧ r.2.mem ((c.tc : Thread Cert.MidBackRefIdeal.nD Cert.MidBackRefIdeal.τ).loc Cert.MidBackRefIdeal.main_arg2) = m' ((c.tc : Thread Cert.MidBackRefIdeal.nD Cert.MidBackRefIdeal.τ).loc Cert.MidBackRefIdeal.main_arg2)
          ∧ r.2.mem ((c.tc : Thread Cert.MidBackRefIdeal.nD Cert.MidBackRefIdeal.τ).loc Cert.MidBackRefIdeal.main_arg3) = m' ((c.tc : Thread Cert.MidBackRefIdeal.nD Cert.MidBackRefIdeal.τ).loc Cert.MidBackRefIdeal.main_arg3)
          ∧ r.2.mem ((c.tc : Thread Cert.MidBackRefIdeal.nD Cert.MidBackRefIdeal.τ).loc Cert.MidBackRefIdeal.main_arg4) = m' ((c.tc : Thread Cert.MidBackRefIdeal.nD Cert.MidBackRefIdeal.τ).loc Cert.MidBackRefIdeal.main_arg4)
          ∧ r.2.mem ((c.tc : Thread Cert.MidBackRefIdeal.nD Cert.MidBackRefIdeal.τ).loc Cert.MidBackRefIdeal.main_arg5) = m' ((c.tc : Thread Cert.MidBackRefIdeal.nD Cert.MidBackRefIdeal.τ).loc Cert.MidBackRefIdeal.main_arg5)
          ∧ r.2.mem ((c.tc : Thread Cert.MidBackRefIdeal.nD Cert.MidBackRefIdeal.τ).loc Cert.MidBackRefIdeal.main_arg6) = m' ((c.tc : Thread Cert.MidBackRefIdeal.nD Cert.MidBackRefIdeal.τ).loc Cert.MidBackRefIdeal.main_arg6)
          ∧ r.2.mem ((c.tc : Thread Cert.MidBackRefIdeal.nD Cert.MidBackRefIdeal.τ).loc Cert.MidBackRefIdeal.main_arg7) = m' ((c.tc : Thread Cert.MidBackRefIdeal.nD Cert.MidBackRefIdeal.τ).loc Cert.MidBackRefIdeal.main_arg7)
          ∧ r.2.mem ((c.tc : Thread Cert.MidBackRefIdeal.nD Cert.MidBackRefIdeal.τ).loc Cert.MidBackRefIdeal.main_arg8) = m' ((c.tc : Thread Cert.MidBackRefIdeal.nD Cert.MidBackRefIdeal.τ).loc Cert.MidBackRefIdeal.main_arg8))

def preserves_DwGate_DwGateIdeal : Prop :=
  True

def algebraic_DwGateIdeal_DwGateRefIdeal [hDwGateIdeal : Cert.DwGateIdeal.Facts] [hDwGateRefIdeal : Cert.DwGateRefIdeal.Facts] : Prop :=
  ∀ (m : (ℓ : Loc Cert.DwGateIdeal.nD Cert.DwGateIdeal.τ Cert.DwGateIdeal.sig) → Buf (Elt Ideal) ℓ) (g : Dev Cert.DwGateIdeal.nD → PrngReg)
    (m' : (ℓ : Loc Cert.DwGateRefIdeal.nD Cert.DwGateRefIdeal.τ Cert.DwGateRefIdeal.sig) → Buf (Elt Ideal) ℓ) (g' : Dev Cert.DwGateRefIdeal.nD → PrngReg), Pre_DwGateIdeal m →
    (∀ c : Dev Cert.DwGateIdeal.nD,
      m' ((c.tc : Thread Cert.DwGateRefIdeal.nD Cert.DwGateRefIdeal.τ).loc Cert.DwGateRefIdeal.main_arg0) = m ((c.tc : Thread Cert.DwGateIdeal.nD Cert.DwGateIdeal.τ).loc Cert.DwGateIdeal.main_arg0)
      ∧ m' ((c.tc : Thread Cert.DwGateRefIdeal.nD Cert.DwGateRefIdeal.τ).loc Cert.DwGateRefIdeal.main_arg1) = m ((c.tc : Thread Cert.DwGateIdeal.nD Cert.DwGateIdeal.τ).loc Cert.DwGateIdeal.main_arg1)) →
    ∃ (v0 : (c : Dev Cert.DwGateIdeal.nD) → Buf (Elt Ideal) ((c.tc : Thread Cert.DwGateIdeal.nD Cert.DwGateIdeal.τ).loc Cert.DwGateIdeal.main_v0)),
      θ_run (Cert.DwGateIdeal.defs (F := Ideal)) (onTc (τ := Cert.DwGateIdeal.τ) (Cert.DwGateIdeal.main (F := Ideal))) ⟨m, fun _ => 0, g⟩ (fun r => ∀ c : Dev Cert.DwGateIdeal.nD,
          r.2.mem ((c.tc : Thread Cert.DwGateIdeal.nD Cert.DwGateIdeal.τ).loc Cert.DwGateIdeal.main_v0) = v0 c
          ∧ r.2.mem ((c.tc : Thread Cert.DwGateIdeal.nD Cert.DwGateIdeal.τ).loc Cert.DwGateIdeal.main_arg0) = m ((c.tc : Thread Cert.DwGateIdeal.nD Cert.DwGateIdeal.τ).loc Cert.DwGateIdeal.main_arg0)
          ∧ r.2.mem ((c.tc : Thread Cert.DwGateIdeal.nD Cert.DwGateIdeal.τ).loc Cert.DwGateIdeal.main_arg1) = m ((c.tc : Thread Cert.DwGateIdeal.nD Cert.DwGateIdeal.τ).loc Cert.DwGateIdeal.main_arg1))
      ∧ θ_run (Cert.DwGateRefIdeal.defs (F := Ideal)) (onTc (τ := Cert.DwGateRefIdeal.τ) (Cert.DwGateRefIdeal.main (F := Ideal))) ⟨m', fun _ => 0, g'⟩ (fun r => ∀ c : Dev Cert.DwGateRefIdeal.nD,
          r.2.mem ((c.tc : Thread Cert.DwGateRefIdeal.nD Cert.DwGateRefIdeal.τ).loc Cert.DwGateRefIdeal.main_v3) = v0 c
          ∧ r.2.mem ((c.tc : Thread Cert.DwGateRefIdeal.nD Cert.DwGateRefIdeal.τ).loc Cert.DwGateRefIdeal.main_arg0) = m' ((c.tc : Thread Cert.DwGateRefIdeal.nD Cert.DwGateRefIdeal.τ).loc Cert.DwGateRefIdeal.main_arg0)
          ∧ r.2.mem ((c.tc : Thread Cert.DwGateRefIdeal.nD Cert.DwGateRefIdeal.τ).loc Cert.DwGateRefIdeal.main_arg1) = m' ((c.tc : Thread Cert.DwGateRefIdeal.nD Cert.DwGateRefIdeal.τ).loc Cert.DwGateRefIdeal.main_arg1))

def preserves_DwIn2048_DwIn2048Ideal : Prop :=
  True

def algebraic_DwIn2048Ideal_DwIn2048RefIdeal [hDwIn2048Ideal : Cert.DwIn2048Ideal.Facts] [hDwIn2048RefIdeal : Cert.DwIn2048RefIdeal.Facts] : Prop :=
  ∀ (m : (ℓ : Loc Cert.DwIn2048Ideal.nD Cert.DwIn2048Ideal.τ Cert.DwIn2048Ideal.sig) → Buf (Elt Ideal) ℓ) (g : Dev Cert.DwIn2048Ideal.nD → PrngReg)
    (m' : (ℓ : Loc Cert.DwIn2048RefIdeal.nD Cert.DwIn2048RefIdeal.τ Cert.DwIn2048RefIdeal.sig) → Buf (Elt Ideal) ℓ) (g' : Dev Cert.DwIn2048RefIdeal.nD → PrngReg), Pre_DwIn2048Ideal m →
    (∀ c : Dev Cert.DwIn2048Ideal.nD,
      m' ((c.tc : Thread Cert.DwIn2048RefIdeal.nD Cert.DwIn2048RefIdeal.τ).loc Cert.DwIn2048RefIdeal.main_arg0) = m ((c.tc : Thread Cert.DwIn2048Ideal.nD Cert.DwIn2048Ideal.τ).loc Cert.DwIn2048Ideal.main_arg0)
      ∧ m' ((c.tc : Thread Cert.DwIn2048RefIdeal.nD Cert.DwIn2048RefIdeal.τ).loc Cert.DwIn2048RefIdeal.main_arg1) = m ((c.tc : Thread Cert.DwIn2048Ideal.nD Cert.DwIn2048Ideal.τ).loc Cert.DwIn2048Ideal.main_arg1)) →
    ∃ (v0 : (c : Dev Cert.DwIn2048Ideal.nD) → Buf (Elt Ideal) ((c.tc : Thread Cert.DwIn2048Ideal.nD Cert.DwIn2048Ideal.τ).loc Cert.DwIn2048Ideal.main_v0)),
      θ_run (Cert.DwIn2048Ideal.defs (F := Ideal)) (onTc (τ := Cert.DwIn2048Ideal.τ) (Cert.DwIn2048Ideal.main (F := Ideal))) ⟨m, fun _ => 0, g⟩ (fun r => ∀ c : Dev Cert.DwIn2048Ideal.nD,
          r.2.mem ((c.tc : Thread Cert.DwIn2048Ideal.nD Cert.DwIn2048Ideal.τ).loc Cert.DwIn2048Ideal.main_v0) = v0 c
          ∧ r.2.mem ((c.tc : Thread Cert.DwIn2048Ideal.nD Cert.DwIn2048Ideal.τ).loc Cert.DwIn2048Ideal.main_arg0) = m ((c.tc : Thread Cert.DwIn2048Ideal.nD Cert.DwIn2048Ideal.τ).loc Cert.DwIn2048Ideal.main_arg0)
          ∧ r.2.mem ((c.tc : Thread Cert.DwIn2048Ideal.nD Cert.DwIn2048Ideal.τ).loc Cert.DwIn2048Ideal.main_arg1) = m ((c.tc : Thread Cert.DwIn2048Ideal.nD Cert.DwIn2048Ideal.τ).loc Cert.DwIn2048Ideal.main_arg1))
      ∧ θ_run (Cert.DwIn2048RefIdeal.defs (F := Ideal)) (onTc (τ := Cert.DwIn2048RefIdeal.τ) (Cert.DwIn2048RefIdeal.main (F := Ideal))) ⟨m', fun _ => 0, g'⟩ (fun r => ∀ c : Dev Cert.DwIn2048RefIdeal.nD,
          r.2.mem ((c.tc : Thread Cert.DwIn2048RefIdeal.nD Cert.DwIn2048RefIdeal.τ).loc Cert.DwIn2048RefIdeal.main_v2) = v0 c
          ∧ r.2.mem ((c.tc : Thread Cert.DwIn2048RefIdeal.nD Cert.DwIn2048RefIdeal.τ).loc Cert.DwIn2048RefIdeal.main_arg0) = m' ((c.tc : Thread Cert.DwIn2048RefIdeal.nD Cert.DwIn2048RefIdeal.τ).loc Cert.DwIn2048RefIdeal.main_arg0)
          ∧ r.2.mem ((c.tc : Thread Cert.DwIn2048RefIdeal.nD Cert.DwIn2048RefIdeal.τ).loc Cert.DwIn2048RefIdeal.main_arg1) = m' ((c.tc : Thread Cert.DwIn2048RefIdeal.nD Cert.DwIn2048RefIdeal.τ).loc Cert.DwIn2048RefIdeal.main_arg1))

def preserves_DwIn1536_DwIn1536Ideal : Prop :=
  True

def algebraic_DwIn1536Ideal_DwIn1536RefIdeal [hDwIn1536Ideal : Cert.DwIn1536Ideal.Facts] [hDwIn1536RefIdeal : Cert.DwIn1536RefIdeal.Facts] : Prop :=
  ∀ (m : (ℓ : Loc Cert.DwIn1536Ideal.nD Cert.DwIn1536Ideal.τ Cert.DwIn1536Ideal.sig) → Buf (Elt Ideal) ℓ) (g : Dev Cert.DwIn1536Ideal.nD → PrngReg)
    (m' : (ℓ : Loc Cert.DwIn1536RefIdeal.nD Cert.DwIn1536RefIdeal.τ Cert.DwIn1536RefIdeal.sig) → Buf (Elt Ideal) ℓ) (g' : Dev Cert.DwIn1536RefIdeal.nD → PrngReg), Pre_DwIn1536Ideal m →
    (∀ c : Dev Cert.DwIn1536Ideal.nD,
      m' ((c.tc : Thread Cert.DwIn1536RefIdeal.nD Cert.DwIn1536RefIdeal.τ).loc Cert.DwIn1536RefIdeal.main_arg0) = m ((c.tc : Thread Cert.DwIn1536Ideal.nD Cert.DwIn1536Ideal.τ).loc Cert.DwIn1536Ideal.main_arg0)
      ∧ m' ((c.tc : Thread Cert.DwIn1536RefIdeal.nD Cert.DwIn1536RefIdeal.τ).loc Cert.DwIn1536RefIdeal.main_arg1) = m ((c.tc : Thread Cert.DwIn1536Ideal.nD Cert.DwIn1536Ideal.τ).loc Cert.DwIn1536Ideal.main_arg1)) →
    ∃ (v0 : (c : Dev Cert.DwIn1536Ideal.nD) → Buf (Elt Ideal) ((c.tc : Thread Cert.DwIn1536Ideal.nD Cert.DwIn1536Ideal.τ).loc Cert.DwIn1536Ideal.main_v0)),
      θ_run (Cert.DwIn1536Ideal.defs (F := Ideal)) (onTc (τ := Cert.DwIn1536Ideal.τ) (Cert.DwIn1536Ideal.main (F := Ideal))) ⟨m, fun _ => 0, g⟩ (fun r => ∀ c : Dev Cert.DwIn1536Ideal.nD,
          r.2.mem ((c.tc : Thread Cert.DwIn1536Ideal.nD Cert.DwIn1536Ideal.τ).loc Cert.DwIn1536Ideal.main_v0) = v0 c
          ∧ r.2.mem ((c.tc : Thread Cert.DwIn1536Ideal.nD Cert.DwIn1536Ideal.τ).loc Cert.DwIn1536Ideal.main_arg0) = m ((c.tc : Thread Cert.DwIn1536Ideal.nD Cert.DwIn1536Ideal.τ).loc Cert.DwIn1536Ideal.main_arg0)
          ∧ r.2.mem ((c.tc : Thread Cert.DwIn1536Ideal.nD Cert.DwIn1536Ideal.τ).loc Cert.DwIn1536Ideal.main_arg1) = m ((c.tc : Thread Cert.DwIn1536Ideal.nD Cert.DwIn1536Ideal.τ).loc Cert.DwIn1536Ideal.main_arg1))
      ∧ θ_run (Cert.DwIn1536RefIdeal.defs (F := Ideal)) (onTc (τ := Cert.DwIn1536RefIdeal.τ) (Cert.DwIn1536RefIdeal.main (F := Ideal))) ⟨m', fun _ => 0, g'⟩ (fun r => ∀ c : Dev Cert.DwIn1536RefIdeal.nD,
          r.2.mem ((c.tc : Thread Cert.DwIn1536RefIdeal.nD Cert.DwIn1536RefIdeal.τ).loc Cert.DwIn1536RefIdeal.main_v2) = v0 c
          ∧ r.2.mem ((c.tc : Thread Cert.DwIn1536RefIdeal.nD Cert.DwIn1536RefIdeal.τ).loc Cert.DwIn1536RefIdeal.main_arg0) = m' ((c.tc : Thread Cert.DwIn1536RefIdeal.nD Cert.DwIn1536RefIdeal.τ).loc Cert.DwIn1536RefIdeal.main_arg0)
          ∧ r.2.mem ((c.tc : Thread Cert.DwIn1536RefIdeal.nD Cert.DwIn1536RefIdeal.τ).loc Cert.DwIn1536RefIdeal.main_arg1) = m' ((c.tc : Thread Cert.DwIn1536RefIdeal.nD Cert.DwIn1536RefIdeal.τ).loc Cert.DwIn1536RefIdeal.main_arg1))

def preserves_DwIn512_DwIn512Ideal : Prop :=
  True

def algebraic_DwIn512Ideal_DwIn512RefIdeal [hDwIn512Ideal : Cert.DwIn512Ideal.Facts] [hDwIn512RefIdeal : Cert.DwIn512RefIdeal.Facts] : Prop :=
  ∀ (m : (ℓ : Loc Cert.DwIn512Ideal.nD Cert.DwIn512Ideal.τ Cert.DwIn512Ideal.sig) → Buf (Elt Ideal) ℓ) (g : Dev Cert.DwIn512Ideal.nD → PrngReg)
    (m' : (ℓ : Loc Cert.DwIn512RefIdeal.nD Cert.DwIn512RefIdeal.τ Cert.DwIn512RefIdeal.sig) → Buf (Elt Ideal) ℓ) (g' : Dev Cert.DwIn512RefIdeal.nD → PrngReg), Pre_DwIn512Ideal m →
    (∀ c : Dev Cert.DwIn512Ideal.nD,
      m' ((c.tc : Thread Cert.DwIn512RefIdeal.nD Cert.DwIn512RefIdeal.τ).loc Cert.DwIn512RefIdeal.main_arg0) = m ((c.tc : Thread Cert.DwIn512Ideal.nD Cert.DwIn512Ideal.τ).loc Cert.DwIn512Ideal.main_arg0)
      ∧ m' ((c.tc : Thread Cert.DwIn512RefIdeal.nD Cert.DwIn512RefIdeal.τ).loc Cert.DwIn512RefIdeal.main_arg1) = m ((c.tc : Thread Cert.DwIn512Ideal.nD Cert.DwIn512Ideal.τ).loc Cert.DwIn512Ideal.main_arg1)) →
    ∃ (v0 : (c : Dev Cert.DwIn512Ideal.nD) → Buf (Elt Ideal) ((c.tc : Thread Cert.DwIn512Ideal.nD Cert.DwIn512Ideal.τ).loc Cert.DwIn512Ideal.main_v0)),
      θ_run (Cert.DwIn512Ideal.defs (F := Ideal)) (onTc (τ := Cert.DwIn512Ideal.τ) (Cert.DwIn512Ideal.main (F := Ideal))) ⟨m, fun _ => 0, g⟩ (fun r => ∀ c : Dev Cert.DwIn512Ideal.nD,
          r.2.mem ((c.tc : Thread Cert.DwIn512Ideal.nD Cert.DwIn512Ideal.τ).loc Cert.DwIn512Ideal.main_v0) = v0 c
          ∧ r.2.mem ((c.tc : Thread Cert.DwIn512Ideal.nD Cert.DwIn512Ideal.τ).loc Cert.DwIn512Ideal.main_arg0) = m ((c.tc : Thread Cert.DwIn512Ideal.nD Cert.DwIn512Ideal.τ).loc Cert.DwIn512Ideal.main_arg0)
          ∧ r.2.mem ((c.tc : Thread Cert.DwIn512Ideal.nD Cert.DwIn512Ideal.τ).loc Cert.DwIn512Ideal.main_arg1) = m ((c.tc : Thread Cert.DwIn512Ideal.nD Cert.DwIn512Ideal.τ).loc Cert.DwIn512Ideal.main_arg1))
      ∧ θ_run (Cert.DwIn512RefIdeal.defs (F := Ideal)) (onTc (τ := Cert.DwIn512RefIdeal.τ) (Cert.DwIn512RefIdeal.main (F := Ideal))) ⟨m', fun _ => 0, g'⟩ (fun r => ∀ c : Dev Cert.DwIn512RefIdeal.nD,
          r.2.mem ((c.tc : Thread Cert.DwIn512RefIdeal.nD Cert.DwIn512RefIdeal.τ).loc Cert.DwIn512RefIdeal.main_v2) = v0 c
          ∧ r.2.mem ((c.tc : Thread Cert.DwIn512RefIdeal.nD Cert.DwIn512RefIdeal.τ).loc Cert.DwIn512RefIdeal.main_arg0) = m' ((c.tc : Thread Cert.DwIn512RefIdeal.nD Cert.DwIn512RefIdeal.τ).loc Cert.DwIn512RefIdeal.main_arg0)
          ∧ r.2.mem ((c.tc : Thread Cert.DwIn512RefIdeal.nD Cert.DwIn512RefIdeal.τ).loc Cert.DwIn512RefIdeal.main_arg1) = m' ((c.tc : Thread Cert.DwIn512RefIdeal.nD Cert.DwIn512RefIdeal.τ).loc Cert.DwIn512RefIdeal.main_arg1))

def preserves_DwIn128_DwIn128Ideal : Prop :=
  True

def algebraic_DwIn128Ideal_DwIn128RefIdeal [hDwIn128Ideal : Cert.DwIn128Ideal.Facts] [hDwIn128RefIdeal : Cert.DwIn128RefIdeal.Facts] : Prop :=
  ∀ (m : (ℓ : Loc Cert.DwIn128Ideal.nD Cert.DwIn128Ideal.τ Cert.DwIn128Ideal.sig) → Buf (Elt Ideal) ℓ) (g : Dev Cert.DwIn128Ideal.nD → PrngReg)
    (m' : (ℓ : Loc Cert.DwIn128RefIdeal.nD Cert.DwIn128RefIdeal.τ Cert.DwIn128RefIdeal.sig) → Buf (Elt Ideal) ℓ) (g' : Dev Cert.DwIn128RefIdeal.nD → PrngReg), Pre_DwIn128Ideal m →
    (∀ c : Dev Cert.DwIn128Ideal.nD,
      m' ((c.tc : Thread Cert.DwIn128RefIdeal.nD Cert.DwIn128RefIdeal.τ).loc Cert.DwIn128RefIdeal.main_arg0) = m ((c.tc : Thread Cert.DwIn128Ideal.nD Cert.DwIn128Ideal.τ).loc Cert.DwIn128Ideal.main_arg0)
      ∧ m' ((c.tc : Thread Cert.DwIn128RefIdeal.nD Cert.DwIn128RefIdeal.τ).loc Cert.DwIn128RefIdeal.main_arg1) = m ((c.tc : Thread Cert.DwIn128Ideal.nD Cert.DwIn128Ideal.τ).loc Cert.DwIn128Ideal.main_arg1)) →
    ∃ (v0 : (c : Dev Cert.DwIn128Ideal.nD) → Buf (Elt Ideal) ((c.tc : Thread Cert.DwIn128Ideal.nD Cert.DwIn128Ideal.τ).loc Cert.DwIn128Ideal.main_v0)),
      θ_run (Cert.DwIn128Ideal.defs (F := Ideal)) (onTc (τ := Cert.DwIn128Ideal.τ) (Cert.DwIn128Ideal.main (F := Ideal))) ⟨m, fun _ => 0, g⟩ (fun r => ∀ c : Dev Cert.DwIn128Ideal.nD,
          r.2.mem ((c.tc : Thread Cert.DwIn128Ideal.nD Cert.DwIn128Ideal.τ).loc Cert.DwIn128Ideal.main_v0) = v0 c
          ∧ r.2.mem ((c.tc : Thread Cert.DwIn128Ideal.nD Cert.DwIn128Ideal.τ).loc Cert.DwIn128Ideal.main_arg0) = m ((c.tc : Thread Cert.DwIn128Ideal.nD Cert.DwIn128Ideal.τ).loc Cert.DwIn128Ideal.main_arg0)
          ∧ r.2.mem ((c.tc : Thread Cert.DwIn128Ideal.nD Cert.DwIn128Ideal.τ).loc Cert.DwIn128Ideal.main_arg1) = m ((c.tc : Thread Cert.DwIn128Ideal.nD Cert.DwIn128Ideal.τ).loc Cert.DwIn128Ideal.main_arg1))
      ∧ θ_run (Cert.DwIn128RefIdeal.defs (F := Ideal)) (onTc (τ := Cert.DwIn128RefIdeal.τ) (Cert.DwIn128RefIdeal.main (F := Ideal))) ⟨m', fun _ => 0, g'⟩ (fun r => ∀ c : Dev Cert.DwIn128RefIdeal.nD,
          r.2.mem ((c.tc : Thread Cert.DwIn128RefIdeal.nD Cert.DwIn128RefIdeal.τ).loc Cert.DwIn128RefIdeal.main_v2) = v0 c
          ∧ r.2.mem ((c.tc : Thread Cert.DwIn128RefIdeal.nD Cert.DwIn128RefIdeal.τ).loc Cert.DwIn128RefIdeal.main_arg0) = m' ((c.tc : Thread Cert.DwIn128RefIdeal.nD Cert.DwIn128RefIdeal.τ).loc Cert.DwIn128RefIdeal.main_arg0)
          ∧ r.2.mem ((c.tc : Thread Cert.DwIn128RefIdeal.nD Cert.DwIn128RefIdeal.τ).loc Cert.DwIn128RefIdeal.main_arg1) = m' ((c.tc : Thread Cert.DwIn128RefIdeal.nD Cert.DwIn128RefIdeal.τ).loc Cert.DwIn128RefIdeal.main_arg1))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)) →
    ∃ (v0 : (c : Dev Cert.ConvIdeal.nD) → Buf (Elt Ideal) ((c.tc : Thread Cert.ConvIdeal.nD Cert.ConvIdeal.τ).loc Cert.ConvIdeal.main_v0)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v0) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v31) = v0 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1))

def preserves_ConvBack_ConvBackIdeal : Prop :=
  True

def algebraic_ConvBackIdeal_ConvBackRefIdeal [hConvBackIdeal : Cert.ConvBackIdeal.Facts] [hConvBackRefIdeal : Cert.ConvBackRefIdeal.Facts] : Prop :=
  ∀ (m : (ℓ : Loc Cert.ConvBackIdeal.nD Cert.ConvBackIdeal.τ Cert.ConvBackIdeal.sig) → Buf (Elt Ideal) ℓ) (g : Dev Cert.ConvBackIdeal.nD → PrngReg)
    (m' : (ℓ : Loc Cert.ConvBackRefIdeal.nD Cert.ConvBackRefIdeal.τ Cert.ConvBackRefIdeal.sig) → Buf (Elt Ideal) ℓ) (g' : Dev Cert.ConvBackRefIdeal.nD → PrngReg), Pre_ConvBackIdeal m →
    (∀ c : Dev Cert.ConvBackIdeal.nD,
      m' ((c.tc : Thread Cert.ConvBackRefIdeal.nD Cert.ConvBackRefIdeal.τ).loc Cert.ConvBackRefIdeal.main_arg0) = m ((c.tc : Thread Cert.ConvBackIdeal.nD Cert.ConvBackIdeal.τ).loc Cert.ConvBackIdeal.main_arg0)
      ∧ m' ((c.tc : Thread Cert.ConvBackRefIdeal.nD Cert.ConvBackRefIdeal.τ).loc Cert.ConvBackRefIdeal.main_arg1) = m ((c.tc : Thread Cert.ConvBackIdeal.nD Cert.ConvBackIdeal.τ).loc Cert.ConvBackIdeal.main_arg1)
      ∧ m' ((c.tc : Thread Cert.ConvBackRefIdeal.nD Cert.ConvBackRefIdeal.τ).loc Cert.ConvBackRefIdeal.main_arg2) = m ((c.tc : Thread Cert.ConvBackIdeal.nD Cert.ConvBackIdeal.τ).loc Cert.ConvBackIdeal.main_arg2)) →
    ∃ (v0 : (c : Dev Cert.ConvBackIdeal.nD) → Buf (Elt Ideal) ((c.tc : Thread Cert.ConvBackIdeal.nD Cert.ConvBackIdeal.τ).loc Cert.ConvBackIdeal.main_v0_0)) (v1 : (c : Dev Cert.ConvBackIdeal.nD) → Buf (Elt Ideal) ((c.tc : Thread Cert.ConvBackIdeal.nD Cert.ConvBackIdeal.τ).loc Cert.ConvBackIdeal.main_v0_1)),
      θ_run (Cert.ConvBackIdeal.defs (F := Ideal)) (onTc (τ := Cert.ConvBackIdeal.τ) (Cert.ConvBackIdeal.main (F := Ideal))) ⟨m, fun _ => 0, g⟩ (fun r => ∀ c : Dev Cert.ConvBackIdeal.nD,
          r.2.mem ((c.tc : Thread Cert.ConvBackIdeal.nD Cert.ConvBackIdeal.τ).loc Cert.ConvBackIdeal.main_v0_0) = v0 c
          ∧ r.2.mem ((c.tc : Thread Cert.ConvBackIdeal.nD Cert.ConvBackIdeal.τ).loc Cert.ConvBackIdeal.main_v0_1) = v1 c
          ∧ r.2.mem ((c.tc : Thread Cert.ConvBackIdeal.nD Cert.ConvBackIdeal.τ).loc Cert.ConvBackIdeal.main_arg0) = m ((c.tc : Thread Cert.ConvBackIdeal.nD Cert.ConvBackIdeal.τ).loc Cert.ConvBackIdeal.main_arg0)
          ∧ r.2.mem ((c.tc : Thread Cert.ConvBackIdeal.nD Cert.ConvBackIdeal.τ).loc Cert.ConvBackIdeal.main_arg1) = m ((c.tc : Thread Cert.ConvBackIdeal.nD Cert.ConvBackIdeal.τ).loc Cert.ConvBackIdeal.main_arg1)
          ∧ r.2.mem ((c.tc : Thread Cert.ConvBackIdeal.nD Cert.ConvBackIdeal.τ).loc Cert.ConvBackIdeal.main_arg2) = m ((c.tc : Thread Cert.ConvBackIdeal.nD Cert.ConvBackIdeal.τ).loc Cert.ConvBackIdeal.main_arg2))
      ∧ θ_run (Cert.ConvBackRefIdeal.defs (F := Ideal)) (onTc (τ := Cert.ConvBackRefIdeal.τ) (Cert.ConvBackRefIdeal.main (F := Ideal))) ⟨m', fun _ => 0, g'⟩ (fun r => ∀ c : Dev Cert.ConvBackRefIdeal.nD,
          r.2.mem ((c.tc : Thread Cert.ConvBackRefIdeal.nD Cert.ConvBackRefIdeal.τ).loc Cert.ConvBackRefIdeal.main_v93) = v0 c
          ∧ r.2.mem ((c.tc : Thread Cert.ConvBackRefIdeal.nD Cert.ConvBackRefIdeal.τ).loc Cert.ConvBackRefIdeal.main_v95) = v1 c
          ∧ r.2.mem ((c.tc : Thread Cert.ConvBackRefIdeal.nD Cert.ConvBackRefIdeal.τ).loc Cert.ConvBackRefIdeal.main_arg0) = m' ((c.tc : Thread Cert.ConvBackRefIdeal.nD Cert.ConvBackRefIdeal.τ).loc Cert.ConvBackRefIdeal.main_arg0)
          ∧ r.2.mem ((c.tc : Thread Cert.ConvBackRefIdeal.nD Cert.ConvBackRefIdeal.τ).loc Cert.ConvBackRefIdeal.main_arg1) = m' ((c.tc : Thread Cert.ConvBackRefIdeal.nD Cert.ConvBackRefIdeal.τ).loc Cert.ConvBackRefIdeal.main_arg1)
          ∧ r.2.mem ((c.tc : Thread Cert.ConvBackRefIdeal.nD Cert.ConvBackRefIdeal.τ).loc Cert.ConvBackRefIdeal.main_arg2) = m' ((c.tc : Thread Cert.ConvBackRefIdeal.nD Cert.ConvBackRefIdeal.τ).loc Cert.ConvBackRefIdeal.main_arg2))

def preserves_Att_AttIdeal : Prop :=
  True

def algebraic_AttIdeal_AttRefIdeal [hAttIdeal : Cert.AttIdeal.Facts] [hAttRefIdeal : Cert.AttRefIdeal.Facts] : Prop :=
  ∀ (m : (ℓ : Loc Cert.AttIdeal.nD Cert.AttIdeal.τ Cert.AttIdeal.sig) → Buf (Elt Ideal) ℓ) (g : Dev Cert.AttIdeal.nD → PrngReg)
    (m' : (ℓ : Loc Cert.AttRefIdeal.nD Cert.AttRefIdeal.τ Cert.AttRefIdeal.sig) → Buf (Elt Ideal) ℓ) (g' : Dev Cert.AttRefIdeal.nD → PrngReg), Pre_AttIdeal m →
    (∀ c : Dev Cert.AttIdeal.nD,
      m' ((c.tc : Thread Cert.AttRefIdeal.nD Cert.AttRefIdeal.τ).loc Cert.AttRefIdeal.main_arg0) = m ((c.tc : Thread Cert.AttIdeal.nD Cert.AttIdeal.τ).loc Cert.AttIdeal.main_arg0)
      ∧ m' ((c.tc : Thread Cert.AttRefIdeal.nD Cert.AttRefIdeal.τ).loc Cert.AttRefIdeal.main_arg1) = m ((c.tc : Thread Cert.AttIdeal.nD Cert.AttIdeal.τ).loc Cert.AttIdeal.main_arg1)) →
    ∃ (v0 : (c : Dev Cert.AttIdeal.nD) → Buf (Elt Ideal) ((c.tc : Thread Cert.AttIdeal.nD Cert.AttIdeal.τ).loc Cert.AttIdeal.main_v0_0)) (v1 : (c : Dev Cert.AttIdeal.nD) → Buf (Elt Ideal) ((c.tc : Thread Cert.AttIdeal.nD Cert.AttIdeal.τ).loc Cert.AttIdeal.main_v0_1)),
      θ_run (Cert.AttIdeal.defs (F := Ideal)) (onTc (τ := Cert.AttIdeal.τ) (Cert.AttIdeal.main (F := Ideal))) ⟨m, fun _ => 0, g⟩ (fun r => ∀ c : Dev Cert.AttIdeal.nD,
          r.2.mem ((c.tc : Thread Cert.AttIdeal.nD Cert.AttIdeal.τ).loc Cert.AttIdeal.main_v0_0) = v0 c
          ∧ r.2.mem ((c.tc : Thread Cert.AttIdeal.nD Cert.AttIdeal.τ).loc Cert.AttIdeal.main_v0_1) = v1 c
          ∧ r.2.mem ((c.tc : Thread Cert.AttIdeal.nD Cert.AttIdeal.τ).loc Cert.AttIdeal.main_arg0) = m ((c.tc : Thread Cert.AttIdeal.nD Cert.AttIdeal.τ).loc Cert.AttIdeal.main_arg0)
          ∧ r.2.mem ((c.tc : Thread Cert.AttIdeal.nD Cert.AttIdeal.τ).loc Cert.AttIdeal.main_arg1) = m ((c.tc : Thread Cert.AttIdeal.nD Cert.AttIdeal.τ).loc Cert.AttIdeal.main_arg1))
      ∧ θ_run (Cert.AttRefIdeal.defs (F := Ideal)) (onTc (τ := Cert.AttRefIdeal.τ) (Cert.AttRefIdeal.main (F := Ideal))) ⟨m', fun _ => 0, g'⟩ (fun r => ∀ c : Dev Cert.AttRefIdeal.nD,
          r.2.mem ((c.tc : Thread Cert.AttRefIdeal.nD Cert.AttRefIdeal.τ).loc Cert.AttRefIdeal.main_v52) = v0 c
          ∧ r.2.mem ((c.tc : Thread Cert.AttRefIdeal.nD Cert.AttRefIdeal.τ).loc Cert.AttRefIdeal.main_v54) = v1 c
          ∧ r.2.mem ((c.tc : Thread Cert.AttRefIdeal.nD Cert.AttRefIdeal.τ).loc Cert.AttRefIdeal.main_arg0) = m' ((c.tc : Thread Cert.AttRefIdeal.nD Cert.AttRefIdeal.τ).loc Cert.AttRefIdeal.main_arg0)
          ∧ r.2.mem ((c.tc : Thread Cert.AttRefIdeal.nD Cert.AttRefIdeal.τ).loc Cert.AttRefIdeal.main_arg1) = m' ((c.tc : Thread Cert.AttRefIdeal.nD Cert.AttRefIdeal.τ).loc Cert.AttRefIdeal.main_arg1))

def Claim : Prop :=
  ∃ (hSwap : Cert.Swap.Facts) (hSwapIdeal : Cert.SwapIdeal.Facts) (hSwapRefIdeal : Cert.SwapRefIdeal.Facts) (hSwapRef : Cert.SwapRef.Facts) (hExchange : Cert.Exchange.Facts) (hExchangeIdeal : Cert.ExchangeIdeal.Facts) (hExchangeRefIdeal : Cert.ExchangeRefIdeal.Facts) (hExchangeRef : Cert.ExchangeRef.Facts) (hJoin : Cert.Join.Facts) (hJoinIdeal : Cert.JoinIdeal.Facts) (hJoinRefIdeal : Cert.JoinRefIdeal.Facts) (hJoinRef : Cert.JoinRef.Facts) (hGather : Cert.Gather.Facts) (hGatherIdeal : Cert.GatherIdeal.Facts) (hGatherRefIdeal : Cert.GatherRefIdeal.Facts) (hGatherRef : Cert.GatherRef.Facts) (hAdamIn : Cert.AdamIn.Facts) (hAdamInIdeal : Cert.AdamInIdeal.Facts) (hAdamInRefIdeal : Cert.AdamInRefIdeal.Facts) (hAdamBranch : Cert.AdamBranch.Facts) (hAdamBranchIdeal : Cert.AdamBranchIdeal.Facts) (hAdamBranchRefIdeal : Cert.AdamBranchRefIdeal.Facts) (hAdamOut : Cert.AdamOut.Facts) (hAdamOutIdeal : Cert.AdamOutIdeal.Facts) (hAdamOutRefIdeal : Cert.AdamOutRefIdeal.Facts) (hAdamGateUp : Cert.AdamGateUp.Facts) (hAdamGateUpIdeal : Cert.AdamGateUpIdeal.Facts) (hAdamGateUpRefIdeal : Cert.AdamGateUpRefIdeal.Facts) (hAdamDown : Cert.AdamDown.Facts) (hAdamDownIdeal : Cert.AdamDownIdeal.Facts) (hAdamDownRefIdeal : Cert.AdamDownRefIdeal.Facts) (hAdamProj : Cert.AdamProj.Facts) (hAdamProjIdeal : Cert.AdamProjIdeal.Facts) (hAdamProjRefIdeal : Cert.AdamProjRefIdeal.Facts) (hAdamSmall : Cert.AdamSmall.Facts) (hAdamSmallIdeal : Cert.AdamSmallIdeal.Facts) (hAdamSmallRefIdeal : Cert.AdamSmallRefIdeal.Facts) (hSum : Cert.Sum.Facts) (hSumIdeal : Cert.SumIdeal.Facts) (hSumRefIdeal : Cert.SumRefIdeal.Facts) (hSumRef : Cert.SumRef.Facts) (hInput : Cert.Input.Facts) (hInputIdeal : Cert.InputIdeal.Facts) (hInputRefIdeal : Cert.InputRefIdeal.Facts) (hDwDown : Cert.DwDown.Facts) (hDwDownIdeal : Cert.DwDownIdeal.Facts) (hDwDownRefIdeal : Cert.DwDownRefIdeal.Facts) (hHead : Cert.Head.Facts) (hHeadIdeal : Cert.HeadIdeal.Facts) (hHeadRefIdeal : Cert.HeadRefIdeal.Facts) (hFfnBack : Cert.FfnBack.Facts) (hFfnBackIdeal : Cert.FfnBackIdeal.Facts) (hFfnBackRefIdeal : Cert.FfnBackRefIdeal.Facts) (hMid : Cert.Mid.Facts) (hMidIdeal : Cert.MidIdeal.Facts) (hMidRefIdeal : Cert.MidRefIdeal.Facts) (hMidBack : Cert.MidBack.Facts) (hMidBackIdeal : Cert.MidBackIdeal.Facts) (hMidBackRefIdeal : Cert.MidBackRefIdeal.Facts) (hDwGate : Cert.DwGate.Facts) (hDwGateIdeal : Cert.DwGateIdeal.Facts) (hDwGateRefIdeal : Cert.DwGateRefIdeal.Facts) (hDwIn2048 : Cert.DwIn2048.Facts) (hDwIn2048Ideal : Cert.DwIn2048Ideal.Facts) (hDwIn2048RefIdeal : Cert.DwIn2048RefIdeal.Facts) (hDwIn1536 : Cert.DwIn1536.Facts) (hDwIn1536Ideal : Cert.DwIn1536Ideal.Facts) (hDwIn1536RefIdeal : Cert.DwIn1536RefIdeal.Facts) (hDwIn512 : Cert.DwIn512.Facts) (hDwIn512Ideal : Cert.DwIn512Ideal.Facts) (hDwIn512RefIdeal : Cert.DwIn512RefIdeal.Facts) (hDwIn128 : Cert.DwIn128.Facts) (hDwIn128Ideal : Cert.DwIn128Ideal.Facts) (hDwIn128RefIdeal : Cert.DwIn128RefIdeal.Facts) (hConv : Cert.Conv.Facts) (hConvIdeal : Cert.ConvIdeal.Facts) (hConvRefIdeal : Cert.ConvRefIdeal.Facts) (hConvBack : Cert.ConvBack.Facts) (hConvBackIdeal : Cert.ConvBackIdeal.Facts) (hConvBackRefIdeal : Cert.ConvBackRefIdeal.Facts) (hAtt : Cert.Att.Facts) (hAttIdeal : Cert.AttIdeal.Facts) (hAttRefIdeal : Cert.AttRefIdeal.Facts),
    quiescent_Swap (hSwap := hSwap)
    ∧ quiescent_SwapIdeal (hSwapIdeal := hSwapIdeal)
    ∧ quiescent_SwapRefIdeal (hSwapRefIdeal := hSwapRefIdeal)
    ∧ quiescent_SwapRef (hSwapRef := hSwapRef)
    ∧ quiescent_Exchange (hExchange := hExchange)
    ∧ quiescent_ExchangeIdeal (hExchangeIdeal := hExchangeIdeal)
    ∧ quiescent_ExchangeRefIdeal (hExchangeRefIdeal := hExchangeRefIdeal)
    ∧ quiescent_ExchangeRef (hExchangeRef := hExchangeRef)
    ∧ quiescent_Join (hJoin := hJoin)
    ∧ quiescent_JoinIdeal (hJoinIdeal := hJoinIdeal)
    ∧ quiescent_JoinRefIdeal (hJoinRefIdeal := hJoinRefIdeal)
    ∧ quiescent_JoinRef (hJoinRef := hJoinRef)
    ∧ quiescent_Gather (hGather := hGather)
    ∧ quiescent_GatherIdeal (hGatherIdeal := hGatherIdeal)
    ∧ quiescent_GatherRefIdeal (hGatherRefIdeal := hGatherRefIdeal)
    ∧ quiescent_GatherRef (hGatherRef := hGatherRef)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamBranch (hAdamBranch := hAdamBranch)
    ∧ quiescent_AdamBranchIdeal (hAdamBranchIdeal := hAdamBranchIdeal)
    ∧ quiescent_AdamBranchRefIdeal (hAdamBranchRefIdeal := hAdamBranchRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamGateUp (hAdamGateUp := hAdamGateUp)
    ∧ quiescent_AdamGateUpIdeal (hAdamGateUpIdeal := hAdamGateUpIdeal)
    ∧ quiescent_AdamGateUpRefIdeal (hAdamGateUpRefIdeal := hAdamGateUpRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamProj (hAdamProj := hAdamProj)
    ∧ quiescent_AdamProjIdeal (hAdamProjIdeal := hAdamProjIdeal)
    ∧ quiescent_AdamProjRefIdeal (hAdamProjRefIdeal := hAdamProjRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_Sum (hSum := hSum)
    ∧ quiescent_SumIdeal (hSumIdeal := hSumIdeal)
    ∧ quiescent_SumRefIdeal (hSumRefIdeal := hSumRefIdeal)
    ∧ quiescent_SumRef (hSumRef := hSumRef)
    ∧ quiescent_Input (hInput := hInput)
    ∧ quiescent_InputIdeal (hInputIdeal := hInputIdeal)
    ∧ quiescent_InputRefIdeal (hInputRefIdeal := hInputRefIdeal)
    ∧ quiescent_DwDown (hDwDown := hDwDown)
    ∧ quiescent_DwDownIdeal (hDwDownIdeal := hDwDownIdeal)
    ∧ quiescent_DwDownRefIdeal (hDwDownRefIdeal := hDwDownRefIdeal)
    ∧ quiescent_Head (hHead := hHead)
    ∧ quiescent_HeadIdeal (hHeadIdeal := hHeadIdeal)
    ∧ quiescent_HeadRefIdeal (hHeadRefIdeal := hHeadRefIdeal)
    ∧ quiescent_FfnBack (hFfnBack := hFfnBack)
    ∧ quiescent_FfnBackIdeal (hFfnBackIdeal := hFfnBackIdeal)
    ∧ quiescent_FfnBackRefIdeal (hFfnBackRefIdeal := hFfnBackRefIdeal)
    ∧ quiescent_Mid (hMid := hMid)
    ∧ quiescent_MidIdeal (hMidIdeal := hMidIdeal)
    ∧ quiescent_MidRefIdeal (hMidRefIdeal := hMidRefIdeal)
    ∧ quiescent_MidBack (hMidBack := hMidBack)
    ∧ quiescent_MidBackIdeal (hMidBackIdeal := hMidBackIdeal)
    ∧ quiescent_MidBackRefIdeal (hMidBackRefIdeal := hMidBackRefIdeal)
    ∧ quiescent_DwGate (hDwGate := hDwGate)
    ∧ quiescent_DwGateIdeal (hDwGateIdeal := hDwGateIdeal)
    ∧ quiescent_DwGateRefIdeal (hDwGateRefIdeal := hDwGateRefIdeal)
    ∧ quiescent_DwIn2048 (hDwIn2048 := hDwIn2048)
    ∧ quiescent_DwIn2048Ideal (hDwIn2048Ideal := hDwIn2048Ideal)
    ∧ quiescent_DwIn2048RefIdeal (hDwIn2048RefIdeal := hDwIn2048RefIdeal)
    ∧ quiescent_DwIn1536 (hDwIn1536 := hDwIn1536)
    ∧ quiescent_DwIn1536Ideal (hDwIn1536Ideal := hDwIn1536Ideal)
    ∧ quiescent_DwIn1536RefIdeal (hDwIn1536RefIdeal := hDwIn1536RefIdeal)
    ∧ quiescent_DwIn512 (hDwIn512 := hDwIn512)
    ∧ quiescent_DwIn512Ideal (hDwIn512Ideal := hDwIn512Ideal)
    ∧ quiescent_DwIn512RefIdeal (hDwIn512RefIdeal := hDwIn512RefIdeal)
    ∧ quiescent_DwIn128 (hDwIn128 := hDwIn128)
    ∧ quiescent_DwIn128Ideal (hDwIn128Ideal := hDwIn128Ideal)
    ∧ quiescent_DwIn128RefIdeal (hDwIn128RefIdeal := hDwIn128RefIdeal)
    ∧ quiescent_Conv (hConv := hConv)
    ∧ quiescent_ConvIdeal (hConvIdeal := hConvIdeal)
    ∧ quiescent_ConvRefIdeal (hConvRefIdeal := hConvRefIdeal)
    ∧ quiescent_ConvBack (hConvBack := hConvBack)
    ∧ quiescent_ConvBackIdeal (hConvBackIdeal := hConvBackIdeal)
    ∧ quiescent_ConvBackRefIdeal (hConvBackRefIdeal := hConvBackRefIdeal)
    ∧ quiescent_Att (hAtt := hAtt)
    ∧ quiescent_AttIdeal (hAttIdeal := hAttIdeal)
    ∧ quiescent_AttRefIdeal (hAttRefIdeal := hAttRefIdeal)
    ∧ preserves_Swap_SwapIdeal
    ∧ algebraic_SwapIdeal_SwapRefIdeal (hSwapIdeal := hSwapIdeal) (hSwapRefIdeal := hSwapRefIdeal)
    ∧ bitexact_Swap_SwapRef (hSwap := hSwap) (hSwapRef := hSwapRef)
    ∧ preserves_Exchange_ExchangeIdeal
    ∧ algebraic_ExchangeIdeal_ExchangeRefIdeal (hExchangeIdeal := hExchangeIdeal) (hExchangeRefIdeal := hExchangeRefIdeal)
    ∧ bitexact_Exchange_ExchangeRef (hExchange := hExchange) (hExchangeRef := hExchangeRef)
    ∧ preserves_Join_JoinIdeal
    ∧ algebraic_JoinIdeal_JoinRefIdeal (hJoinIdeal := hJoinIdeal) (hJoinRefIdeal := hJoinRefIdeal)
    ∧ bitexact_Join_JoinRef (hJoin := hJoin) (hJoinRef := hJoinRef)
    ∧ preserves_Gather_GatherIdeal
    ∧ algebraic_GatherIdeal_GatherRefIdeal (hGatherIdeal := hGatherIdeal) (hGatherRefIdeal := hGatherRefIdeal)
    ∧ bitexact_Gather_GatherRef (hGather := hGather) (hGatherRef := hGatherRef)
    ∧ preserves_AdamIn_AdamInIdeal
    ∧ algebraic_AdamInIdeal_AdamInRefIdeal (hAdamInIdeal := hAdamInIdeal) (hAdamInRefIdeal := hAdamInRefIdeal)
    ∧ preserves_AdamBranch_AdamBranchIdeal
    ∧ algebraic_AdamBranchIdeal_AdamBranchRefIdeal (hAdamBranchIdeal := hAdamBranchIdeal) (hAdamBranchRefIdeal := hAdamBranchRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamGateUp_AdamGateUpIdeal
    ∧ algebraic_AdamGateUpIdeal_AdamGateUpRefIdeal (hAdamGateUpIdeal := hAdamGateUpIdeal) (hAdamGateUpRefIdeal := hAdamGateUpRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamProj_AdamProjIdeal
    ∧ algebraic_AdamProjIdeal_AdamProjRefIdeal (hAdamProjIdeal := hAdamProjIdeal) (hAdamProjRefIdeal := hAdamProjRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_Sum_SumIdeal
    ∧ algebraic_SumIdeal_SumRefIdeal (hSumIdeal := hSumIdeal) (hSumRefIdeal := hSumRefIdeal)
    ∧ bitexact_Sum_SumRef (hSum := hSum) (hSumRef := hSumRef)
    ∧ preserves_Input_InputIdeal
    ∧ algebraic_InputIdeal_InputRefIdeal (hInputIdeal := hInputIdeal) (hInputRefIdeal := hInputRefIdeal)
    ∧ preserves_DwDown_DwDownIdeal
    ∧ algebraic_DwDownIdeal_DwDownRefIdeal (hDwDownIdeal := hDwDownIdeal) (hDwDownRefIdeal := hDwDownRefIdeal)
    ∧ preserves_Head_HeadIdeal
    ∧ algebraic_HeadIdeal_HeadRefIdeal (hHeadIdeal := hHeadIdeal) (hHeadRefIdeal := hHeadRefIdeal)
    ∧ preserves_FfnBack_FfnBackIdeal
    ∧ algebraic_FfnBackIdeal_FfnBackRefIdeal (hFfnBackIdeal := hFfnBackIdeal) (hFfnBackRefIdeal := hFfnBackRefIdeal)
    ∧ preserves_Mid_MidIdeal
    ∧ algebraic_MidIdeal_MidRefIdeal (hMidIdeal := hMidIdeal) (hMidRefIdeal := hMidRefIdeal)
    ∧ preserves_MidBack_MidBackIdeal
    ∧ algebraic_MidBackIdeal_MidBackRefIdeal (hMidBackIdeal := hMidBackIdeal) (hMidBackRefIdeal := hMidBackRefIdeal)
    ∧ preserves_DwGate_DwGateIdeal
    ∧ algebraic_DwGateIdeal_DwGateRefIdeal (hDwGateIdeal := hDwGateIdeal) (hDwGateRefIdeal := hDwGateRefIdeal)
    ∧ preserves_DwIn2048_DwIn2048Ideal
    ∧ algebraic_DwIn2048Ideal_DwIn2048RefIdeal (hDwIn2048Ideal := hDwIn2048Ideal) (hDwIn2048RefIdeal := hDwIn2048RefIdeal)
    ∧ preserves_DwIn1536_DwIn1536Ideal
    ∧ algebraic_DwIn1536Ideal_DwIn1536RefIdeal (hDwIn1536Ideal := hDwIn1536Ideal) (hDwIn1536RefIdeal := hDwIn1536RefIdeal)
    ∧ preserves_DwIn512_DwIn512Ideal
    ∧ algebraic_DwIn512Ideal_DwIn512RefIdeal (hDwIn512Ideal := hDwIn512Ideal) (hDwIn512RefIdeal := hDwIn512RefIdeal)
    ∧ preserves_DwIn128_DwIn128Ideal
    ∧ algebraic_DwIn128Ideal_DwIn128RefIdeal (hDwIn128Ideal := hDwIn128Ideal) (hDwIn128RefIdeal := hDwIn128RefIdeal)
    ∧ preserves_Conv_ConvIdeal
    ∧ algebraic_ConvIdeal_ConvRefIdeal (hConvIdeal := hConvIdeal) (hConvRefIdeal := hConvRefIdeal)
    ∧ preserves_ConvBack_ConvBackIdeal
    ∧ algebraic_ConvBackIdeal_ConvBackRefIdeal (hConvBackIdeal := hConvBackIdeal) (hConvBackRefIdeal := hConvBackRefIdeal)
    ∧ preserves_Att_AttIdeal
    ∧ algebraic_AttIdeal_AttRefIdeal (hAttIdeal := hAttIdeal) (hAttRefIdeal := hAttRefIdeal)
-- ==== Swap.lean ====
abbrev S4x34880x128 : Shape := ⟨3, ![4, 34880, 128]⟩
abbrev S4x17440x128 : Shape := ⟨3, ![4, 17440, 128]⟩
abbrev S_ : Shape := ⟨0, ![]⟩

abbrev nBuf : Space → Nat
  | .hbm => 2
  | .vmem => 0
  | .smem => 0
  | _ => 0

abbrev bufTy : (tb : Table) → Fin (tcTables nBuf tb) → BufTy
  | .hbm, ⟨0, _⟩ => ⟨S4x34880x128, .f32⟩
  | .hbm, ⟨1, _⟩ => ⟨S4x17440x128, .f32⟩
  | _, _ => ⟨S4x34880x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c0_i32_8 : BitVec 32 := 0#32
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c17440_i32 : BitVec 32 := 17440#32
  let v10 : BitVec 32 := Scalar.muli v9 c17440_i32
  let c0_i32_9 : BitVec 32 := 0#32
  ![0, v10.toNat, 0]
def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v12 : BitVec 32 := Scalar.muli v2 c4_i32_5
  let v13 : BitVec 32 := Scalar.addi c0_i32 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_6 : BitVec 32 := 2#32
  let v14 : BitVec 32 := Scalar.muli v5 c2_i32_6
  let v15 : BitVec 32 := Scalar.addi v13 v14
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_7 : BitVec 32 := 1#32
  let v16 : BitVec 32 := Scalar.muli v11 c1_i32_7
  let v17 : BitVec 32 := Scalar.addi v15 v16
  v17.toNat
-- ==== SwapRef.lean ====
abbrev S32x34880x128 : Shape := ⟨3, ![32, 34880, 128]⟩
abbrev S4x2x4x2x17440x128 : Shape := ⟨6, ![4, 2, 4, 2, 17440, 128]⟩
abbrev S4x1x4x1x17440x128 : Shape := ⟨6, ![4, 1, 4, 1, 17440, 128]⟩
abbrev S4x4x17440x128 : Shape := ⟨4, ![4, 4, 17440, 128]⟩
abbrev S4x1x4x17440x128 : Shape := ⟨5, ![4, 1, 4, 17440, 128]⟩
abbrev S4x2x4x17440x128 : Shape := ⟨5, ![4, 2, 4, 17440, 128]⟩
abbrev S32x17440x128 : Shape := ⟨3, ![32, 17440, 128]⟩

abbrev nBuf : Space → Nat
  | .hbm => 10
  | .vmem => 0
  | .smem => 0
  | _ => 0

abbrev bufTy : (tb : Table) → Fin (tcTables nBuf tb) → BufTy
  | .hbm, ⟨0, _⟩ => ⟨S32x34880x128, .f32⟩
  | .hbm, ⟨1, _⟩ => ⟨S4x2x4x2x17440x128, .f32⟩
  | .hbm, ⟨2, _⟩ => ⟨S4x1x4x1x17440x128, .f32⟩
  | .hbm, ⟨3, _⟩ => ⟨S4x4x17440x128, .f32⟩
  | .hbm, ⟨4, _⟩ => ⟨S4x1x4x1x17440x128, .f32⟩
  | .hbm, ⟨5, _⟩ => ⟨S4x4x17440x128, .f32⟩
  | .hbm, ⟨6, _⟩ => ⟨S4x1x4x17440x128, .f32⟩
  | .hbm, ⟨7, _⟩ => ⟨S4x1x4x17440x128, .f32⟩
  | .hbm, ⟨8, _⟩ => ⟨S4x2x4x17440x128, .f32⟩
  | .hbm, ⟨9, _⟩ => ⟨S32x17440x128, .f32⟩
  | _, _ => ⟨S32x34880x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩

abbrev nD : Nat := 1
abbrev τ : Topo := Topo.v7x

variable {F : FTy → Type} [FloatOps F]
-- ==== Exchange.lean ====
abbrev S3x17440x128 : Shape := ⟨3, ![3, 17440, 128]⟩
abbrev S3 : Shape := ⟨1, ![3]⟩
abbrev S1 : Shape := ⟨1, ![1]⟩
abbrev S_ : Shape := ⟨0, ![]⟩
abbrev S1x17440x128 : Shape := ⟨3, ![1, 17440, 128]⟩
abbrev S17440x128 : Shape := ⟨2, ![17440, 128]⟩

abbrev nBuf : Space → Nat
  | .hbm => 2
  | .vmem => 0
  | .smem => 0
  | _ => 0

abbrev bufTy : (tb : Table) → Fin (tcTables nBuf tb) → BufTy
  | .hbm, ⟨0, _⟩ => ⟨S3x17440x128, .bf16⟩
  | .hbm, ⟨1, _⟩ => ⟨S3x17440x128, .bf16⟩
  | _, _ => ⟨S3x17440x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_dev1 (d0 : Dev nD) : Nat :=
  let c0_i32_67 : BitVec 32 := 0#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c1_i32_4 : BitVec 32 := 1#32
  let v11 : BitVec 32 := Scalar.addi v10 c1_i32_4
  let c4_i32_5 : BitVec 32 := 4#32
  let c0_i32 : BitVec 32 := 0#32
  let v12 : BitVec 1 := Scalar.cmpi .eq c4_i32_5 c0_i32
  let c1_i32_6 : BitVec 32 := 1#32
  let v13 : BitVec 32 := Scalar.select v12 c1_i32_6 c4_i32_5
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c0_i32_11 : BitVec 32 := 0#32
  let v23 : BitVec 1 := Scalar.cmpi .sgt v21 c0_i32_11
  let v24 : BitVec 32 := Scalar.extui v23
  let c0_i32_12 : BitVec 32 := 0#32
  let v25 : BitVec 1 := Scalar.cmpi .slt v21 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi v21 c2_i32_10
  let c0_i32_15 : BitVec 32 := 0#32
  let v35 : BitVec 1 := Scalar.cmpi .ne v34 c0_i32_15
  let v36 : BitVec 1 := Scalar.andi v33 v35
  let v22 : BitVec 32 := Scalar.divsi v21 c2_i32_10
  let c1_i32_16 : BitVec 32 := 1#32
  let v37 : BitVec 32 := Scalar.subi v22 c1_i32_16
  let v38 : BitVec 32 := Scalar.select v36 v37 v22
  let c4_i32_66 : BitVec 32 := 4#32
  let v125 : BitVec 32 := Scalar.muli v38 c4_i32_66
  let v126 : BitVec 32 := Scalar.addi c0_i32_67 v125
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi v21 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c2_i32_68 : BitVec 32 := 2#32
  let v127 : BitVec 32 := Scalar.muli v48 c2_i32_68
  let v128 : BitVec 32 := Scalar.addi v126 v127
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_69 : BitVec 32 := 1#32
  let v129 : BitVec 32 := Scalar.muli v8 c1_i32_69
  let v130 : BitVec 32 := Scalar.addi v128 v129
  v130.toNat
def k0_dev2 (d0 : Dev nD) : Nat :=
  let c0_i32_79 : BitVec 32 := 0#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c2_i32_23 : BitVec 32 := 2#32
  let v49 : BitVec 32 := Scalar.addi v10 c2_i32_23
  let c4_i32_24 : BitVec 32 := 4#32
  let c0_i32_25 : BitVec 32 := 0#32
  let v50 : BitVec 1 := Scalar.cmpi .eq c4_i32_24 c0_i32_25
  let c1_i32_26 : BitVec 32 := 1#32
  let v51 : BitVec 32 := Scalar.select v50 c1_i32_26 c4_i32_24
  let v52 : BitVec 32 := Scalar.remsi v49 v51
  let c0_i32_28 : BitVec 32 := 0#32
  let v54 : BitVec 1 := Scalar.cmpi .slt v52 c0_i32_28
  let c0_i32_29 : BitVec 32 := 0#32
  let v55 : BitVec 1 := Scalar.cmpi .slt v51 c0_i32_29
  let v56 : BitVec 1 := Scalar.xori v54 v55
  let c0_i32_27 : BitVec 32 := 0#32
  let v53 : BitVec 1 := Scalar.cmpi .ne v52 c0_i32_27
  let v57 : BitVec 1 := Scalar.andi v56 v53
  let v58 : BitVec 32 := Scalar.addi v52 v51
  let v59 : BitVec 32 := Scalar.select v57 v58 v52
  let c0_i32_31 : BitVec 32 := 0#32
  let v61 : BitVec 1 := Scalar.cmpi .sgt v59 c0_i32_31
  let v62 : BitVec 32 := Scalar.extui v61
  let c0_i32_32 : BitVec 32 := 0#32
  let v63 : BitVec 1 := Scalar.cmpi .slt v59 c0_i32_32
  let v64 : BitVec 32 := Scalar.extui v63
  let v65 : BitVec 32 := Scalar.subi v62 v64
  let c2_i32_30 : BitVec 32 := 2#32
  let c0_i32_33 : BitVec 32 := 0#32
  let v66 : BitVec 1 := Scalar.cmpi .sgt c2_i32_30 c0_i32_33
  let v67 : BitVec 32 := Scalar.extui v66
  let c0_i32_34 : BitVec 32 := 0#32
  let v68 : BitVec 1 := Scalar.cmpi .slt c2_i32_30 c0_i32_34
  let v69 : BitVec 32 := Scalar.extui v68
  let v70 : BitVec 32 := Scalar.subi v67 v69
  let v71 : BitVec 1 := Scalar.cmpi .ne v65 v70
  let v72 : BitVec 32 := Scalar.remsi v59 c2_i32_30
  let c0_i32_35 : BitVec 32 := 0#32
  let v73 : BitVec 1 := Scalar.cmpi .ne v72 c0_i32_35
  let v74 : BitVec 1 := Scalar.andi v71 v73
  let v60 : BitVec 32 := Scalar.divsi v59 c2_i32_30
  let c1_i32_36 : BitVec 32 := 1#32
  let v75 : BitVec 32 := Scalar.subi v60 c1_i32_36
  let v76 : BitVec 32 := Scalar.select v74 v75 v60
  let c4_i32_78 : BitVec 32 := 4#32
  let v139 : BitVec 32 := Scalar.muli v76 c4_i32_78
  let v140 : BitVec 32 := Scalar.addi c0_i32_79 v139
  let c2_i32_37 : BitVec 32 := 2#32
  let c0_i32_38 : BitVec 32 := 0#32
  let v77 : BitVec 1 := Scalar.cmpi .eq c2_i32_37 c0_i32_38
  let c1_i32_39 : BitVec 32 := 1#32
  let v78 : BitVec 32 := Scalar.select v77 c1_i32_39 c2_i32_37
  let v79 : BitVec 32 := Scalar.remsi v59 v78
  let c0_i32_41 : BitVec 32 := 0#32
  let v81 : BitVec 1 := Scalar.cmpi .slt v79 c0_i32_41
  let c0_i32_42 : BitVec 32 := 0#32
  let v82 : BitVec 1 := Scalar.cmpi .slt v78 c0_i32_42
  let v83 : BitVec 1 := Scalar.xori v81 v82
  let c0_i32_40 : BitVec 32 := 0#32
  let v80 : BitVec 1 := Scalar.cmpi .ne v79 c0_i32_40
  let v84 : BitVec 1 := Scalar.andi v83 v80
  let v85 : BitVec 32 := Scalar.addi v79 v78
  let v86 : BitVec 32 := Scalar.select v84 v85 v79
  let c2_i32_80 : BitVec 32 := 2#32
  let v141 : BitVec 32 := Scalar.muli v86 c2_i32_80
  let v142 : BitVec 32 := Scalar.addi v140 v141
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_81 : BitVec 32 := 1#32
  let v143 : BitVec 32 := Scalar.muli v8 c1_i32_81
  let v144 : BitVec 32 := Scalar.addi v142 v143
  v144.toNat
def k0_dev3 (d0 : Dev nD) : Nat :=
  let c0_i32_91 : BitVec 32 := 0#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c3_i32 : BitVec 32 := 3#32
  let v87 : BitVec 32 := Scalar.addi v10 c3_i32
  let c4_i32_43 : BitVec 32 := 4#32
  let c0_i32_44 : BitVec 32 := 0#32
  let v88 : BitVec 1 := Scalar.cmpi .eq c4_i32_43 c0_i32_44
  let c1_i32_45 : BitVec 32 := 1#32
  let v89 : BitVec 32 := Scalar.select v88 c1_i32_45 c4_i32_43
  let v90 : BitVec 32 := Scalar.remsi v87 v89
  let c0_i32_47 : BitVec 32 := 0#32
  let v92 : BitVec 1 := Scalar.cmpi .slt v90 c0_i32_47
  let c0_i32_48 : BitVec 32 := 0#32
  let v93 : BitVec 1 := Scalar.cmpi .slt v89 c0_i32_48
  let v94 : BitVec 1 := Scalar.xori v92 v93
  let c0_i32_46 : BitVec 32 := 0#32
  let v91 : BitVec 1 := Scalar.cmpi .ne v90 c0_i32_46
  let v95 : BitVec 1 := Scalar.andi v94 v91
  let v96 : BitVec 32 := Scalar.addi v90 v89
  let v97 : BitVec 32 := Scalar.select v95 v96 v90
  let c0_i32_50 : BitVec 32 := 0#32
  let v99 : BitVec 1 := Scalar.cmpi .sgt v97 c0_i32_50
  let v100 : BitVec 32 := Scalar.extui v99
  let c0_i32_51 : BitVec 32 := 0#32
  let v101 : BitVec 1 := Scalar.cmpi .slt v97 c0_i32_51
  let v102 : BitVec 32 := Scalar.extui v101
  let v103 : BitVec 32 := Scalar.subi v100 v102
  let c2_i32_49 : BitVec 32 := 2#32
  let c0_i32_52 : BitVec 32 := 0#32
  let v104 : BitVec 1 := Scalar.cmpi .sgt c2_i32_49 c0_i32_52
  let v105 : BitVec 32 := Scalar.extui v104
  let c0_i32_53 : BitVec 32 := 0#32
  let v106 : BitVec 1 := Scalar.cmpi .slt c2_i32_49 c0_i32_53
  let v107 : BitVec 32 := Scalar.extui v106
  let v108 : BitVec 32 := Scalar.subi v105 v107
  let v109 : BitVec 1 := Scalar.cmpi .ne v103 v108
  let v110 : BitVec 32 := Scalar.remsi v97 c2_i32_49
  let c0_i32_54 : BitVec 32 := 0#32
  let v111 : BitVec 1 := Scalar.cmpi .ne v110 c0_i32_54
  let v112 : BitVec 1 := Scalar.andi v109 v111
  let v98 : BitVec 32 := Scalar.divsi v97 c2_i32_49
  let c1_i32_55 : BitVec 32 := 1#32
  let v113 : BitVec 32 := Scalar.subi v98 c1_i32_55
  let v114 : BitVec 32 := Scalar.select v112 v113 v98
  let c4_i32_90 : BitVec 32 := 4#32
  let v153 : BitVec 32 := Scalar.muli v114 c4_i32_90
  let v154 : BitVec 32 := Scalar.addi c0_i32_91 v153
  let c2_i32_56 : BitVec 32 := 2#32
  let c0_i32_57 : BitVec 32 := 0#32
  let v115 : BitVec 1 := Scalar.cmpi .eq c2_i32_56 c0_i32_57
  let c1_i32_58 : BitVec 32 := 1#32
  let v116 : BitVec 32 := Scalar.select v115 c1_i32_58 c2_i32_56
  let v117 : BitVec 32 := Scalar.remsi v97 v116
  let c0_i32_60 : BitVec 32 := 0#32
  let v119 : BitVec 1 := Scalar.cmpi .slt v117 c0_i32_60
  let c0_i32_61 : BitVec 32 := 0#32
  let v120 : BitVec 1 := Scalar.cmpi .slt v116 c0_i32_61
  let v121 : BitVec 1 := Scalar.xori v119 v120
  let c0_i32_59 : BitVec 32 := 0#32
  let v118 : BitVec 1 := Scalar.cmpi .ne v117 c0_i32_59
  let v122 : BitVec 1 := Scalar.andi v121 v118
  let v123 : BitVec 32 := Scalar.addi v117 v116
  let v124 : BitVec 32 := Scalar.select v122 v123 v117
  let c2_i32_92 : BitVec 32 := 2#32
  let v155 : BitVec 32 := Scalar.muli v124 c2_i32_92
  let v156 : BitVec 32 := Scalar.addi v154 v155
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_93 : BitVec 32 := 1#32
  let v157 : BitVec 32 := Scalar.muli v8 c1_i32_93
  let v158 : BitVec 32 := Scalar.addi v156 v157
  v158.toNat
-- ==== ExchangeRef.lean ====
abbrev S24x17440x128 : Shape := ⟨3, ![24, 17440, 128]⟩
abbrev S4x2x3x17440x128 : Shape := ⟨5, ![4, 2, 3, 17440, 128]⟩
abbrev S4x2x1x17440x128 : Shape := ⟨5, ![4, 2, 1, 17440, 128]⟩
abbrev S4x2x17440x128 : Shape := ⟨4, ![4, 2, 17440, 128]⟩
abbrev S1x2x17440x128 : Shape := ⟨4, ![1, 2, 17440, 128]⟩
abbrev S3x2x17440x128 : Shape := ⟨4, ![3, 2, 17440, 128]⟩
abbrev S2x2x17440x128 : Shape := ⟨4, ![2, 2, 17440, 128]⟩

abbrev nBuf : Space → Nat
  | .hbm => 22
  | .vmem => 0
  | .smem => 0
  | _ => 0

abbrev bufTy : (tb : Table) → Fin (tcTables nBuf tb) → BufTy
  | .hbm, ⟨0, _⟩ => ⟨S24x17440x128, .bf16⟩
  | .hbm, ⟨1, _⟩ => ⟨S4x2x3x17440x128, .bf16⟩
  | .hbm, ⟨2, _⟩ => ⟨S4x2x1x17440x128, .bf16⟩
  | .hbm, ⟨3, _⟩ => ⟨S4x2x17440x128, .bf16⟩
  | .hbm, ⟨4, _⟩ => ⟨S1x2x17440x128, .bf16⟩
  | .hbm, ⟨5, _⟩ => ⟨S3x2x17440x128, .bf16⟩
  | .hbm, ⟨6, _⟩ => ⟨S4x2x17440x128, .bf16⟩
  | .hbm, ⟨7, _⟩ => ⟨S4x2x1x17440x128, .bf16⟩
  | .hbm, ⟨8, _⟩ => ⟨S4x2x17440x128, .bf16⟩
  | .hbm, ⟨9, _⟩ => ⟨S2x2x17440x128, .bf16⟩
  | .hbm, ⟨10, _⟩ => ⟨S2x2x17440x128, .bf16⟩
  | .hbm, ⟨11, _⟩ => ⟨S4x2x17440x128, .bf16⟩
  | .hbm, ⟨12, _⟩ => ⟨S4x2x1x17440x128, .bf16⟩
  | .hbm, ⟨13, _⟩ => ⟨S4x2x17440x128, .bf16⟩
  | .hbm, ⟨14, _⟩ => ⟨S3x2x17440x128, .bf16⟩
  | .hbm, ⟨15, _⟩ => ⟨S1x2x17440x128, .bf16⟩
  | .hbm, ⟨16, _⟩ => ⟨S4x2x17440x128, .bf16⟩
  | .hbm, ⟨17, _⟩ => ⟨S4x2x1x17440x128, .bf16⟩
  | .hbm, ⟨18, _⟩ => ⟨S4x2x1x17440x128, .bf16⟩
  | .hbm, ⟨19, _⟩ => ⟨S4x2x1x17440x128, .bf16⟩
  | .hbm, ⟨20, _⟩ => ⟨S4x2x3x17440x128, .bf16⟩
  | .hbm, ⟨21, _⟩ => ⟨S24x17440x128, .bf16⟩
  | _, _ => ⟨S24x17440x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_call0_v0 : Ref sig .tc := ⟨.hbm, 4, rfl⟩
abbrev main_call0_v1 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call1_v0 : Ref sig .tc := ⟨.hbm, 9, rfl⟩
abbrev main_call1_v1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_call2_v0 : Ref sig .tc := ⟨.hbm, 14, rfl⟩
abbrev main_call2_v1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Join.lean ====
abbrev S17440x128 : Shape := ⟨2, ![17440, 128]⟩
abbrev S2x17440x128 : Shape := ⟨3, ![2, 17440, 128]⟩
abbrev S_ : Shape := ⟨0, ![]⟩
abbrev S1x17440x128 : Shape := ⟨3, ![1, 17440, 128]⟩

abbrev nBuf : Space → Nat
  | .hbm => 2
  | .vmem => 0
  | .smem => 0
  | _ => 0

abbrev bufTy : (tb : Table) → Fin (tcTables nBuf tb) → BufTy
  | .hbm, ⟨0, _⟩ => ⟨S17440x128, .f32⟩
  | .hbm, ⟨1, _⟩ => ⟨S2x17440x128, .f32⟩
  | _, _ => ⟨S17440x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32 : BitVec 32 := 0#32
  let c0_i32_3 : BitVec 32 := 0#32
  ![v8.toNat, 0, 0]
def k0_dev1 (d0 : Dev nD) : Nat :=
  let c0_i32_6 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v12 : BitVec 32 := Scalar.muli v2 c4_i32_5
  let v13 : BitVec 32 := Scalar.addi c0_i32_6 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_7 : BitVec 32 := 2#32
  let v14 : BitVec 32 := Scalar.muli v5 c2_i32_7
  let v15 : BitVec 32 := Scalar.addi v13 v14
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_8 : BitVec 32 := 1#32
  let v16 : BitVec 32 := Scalar.muli v11 c1_i32_8
  let v17 : BitVec 32 := Scalar.addi v15 v16
  v17.toNat
def k0_off2 (d0 : Dev nD) : Fin 3 → Nat :=
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_11 v8
  let c0_i32_17 : BitVec 32 := 0#32
  let c0_i32_18 : BitVec 32 := 0#32
  ![v20.toNat, 0, 0]
-- ==== JoinRef.lean ====
abbrev S139520x128 : Shape := ⟨2, ![139520, 128]⟩
abbrev S8x17440x128 : Shape := ⟨3, ![8, 17440, 128]⟩

abbrev nBuf : Space → Nat
  | .hbm => 2
  | .vmem => 0
  | .smem => 0
  | _ => 0

abbrev bufTy : (tb : Table) → Fin (tcTables nBuf tb) → BufTy
  | .hbm, ⟨0, _⟩ => ⟨S139520x128, .f32⟩
  | .hbm, ⟨1, _⟩ => ⟨S8x17440x128, .f32⟩
  | _, _ => ⟨S139520x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Gather.lean ====
abbrev S34880x128 : Shape := ⟨2, ![34880, 128]⟩
abbrev S4x34880x128 : Shape := ⟨3, ![4, 34880, 128]⟩
abbrev S6 : Shape := ⟨1, ![6]⟩
abbrev S_ : Shape := ⟨0, ![]⟩
abbrev S1x34880x128 : Shape := ⟨3, ![1, 34880, 128]⟩
abbrev S1 : Shape := ⟨1, ![1]⟩
abbrev S1x17440x128 : Shape := ⟨3, ![1, 17440, 128]⟩
abbrev S17440x128 : Shape := ⟨2, ![17440, 128]⟩

abbrev nBuf : Space → Nat
  | .hbm => 2
  | .vmem => 0
  | .smem => 0
  | _ => 0

abbrev bufTy : (tb : Table) → Fin (tcTables nBuf tb) → BufTy
  | .hbm, ⟨0, _⟩ => ⟨S34880x128, .bf16⟩
  | .hbm, ⟨1, _⟩ => ⟨S4x34880x128, .bf16⟩
  | _, _ => ⟨S34880x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c2_i32_8 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c2_i32_8 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.addi v14 v5
  let c0_i32 : BitVec 32 := 0#32
  let c0_i32_9 : BitVec 32 := 0#32
  ![v15.toNat, 0, 0]
def k0_off2 (d0 : Dev nD) : Fin 3 → Nat :=
  let c2_i32_10 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.muli c2_i32_10 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.addi v19 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c17440_i32_11 : BitVec 32 := 17440#32
  let v21 : BitVec 32 := Scalar.muli v8 c17440_i32_11
  let c0_i32_22 : BitVec 32 := 0#32
  ![v20.toNat, v21.toNat, 0]
def k0_off3 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c17440_i32 : BitVec 32 := 17440#32
  let v18 : BitVec 32 := Scalar.muli v8 c17440_i32
  let c0_i32_23 : BitVec 32 := 0#32
  ![v18.toNat, 0]
def k0_dev1 (d0 : Dev nD) : Nat :=
  let c0_i32_19 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_18 : BitVec 32 := 4#32
  let v28 : BitVec 32 := Scalar.muli v10 c4_i32_18
  let v29 : BitVec 32 := Scalar.addi c0_i32_19 v28
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_20 : BitVec 32 := 2#32
  let v30 : BitVec 32 := Scalar.muli v5 c2_i32_20
  let v31 : BitVec 32 := Scalar.addi v29 v30
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_21 : BitVec 32 := 1#32
  let v32 : BitVec 32 := Scalar.muli v8 c1_i32_21
  let v33 : BitVec 32 := Scalar.addi v31 v32
  v33.toNat
def k0_dev2 (d0 : Dev nD) : Nat :=
  let c0_i32_27 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_26 : BitVec 32 := 4#32
  let v41 : BitVec 32 := Scalar.muli v2 c4_i32_26
  let v42 : BitVec 32 := Scalar.addi c0_i32_27 v41
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_28 : BitVec 32 := 2#32
  let v43 : BitVec 32 := Scalar.muli v11 c2_i32_28
  let v44 : BitVec 32 := Scalar.addi v42 v43
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_29 : BitVec 32 := 1#32
  let v45 : BitVec 32 := Scalar.muli v8 c1_i32_29
  let v46 : BitVec 32 := Scalar.addi v44 v45
  v46.toNat
def k0_dev3 (d0 : Dev nD) : Nat :=
  let c0_i32_35 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_34 : BitVec 32 := 4#32
  let v54 : BitVec 32 := Scalar.muli v12 c4_i32_34
  let v55 : BitVec 32 := Scalar.addi c0_i32_35 v54
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_36 : BitVec 32 := 2#32
  let v56 : BitVec 32 := Scalar.muli v13 c2_i32_36
  let v57 : BitVec 32 := Scalar.addi v55 v56
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_37 : BitVec 32 := 1#32
  let v58 : BitVec 32 := Scalar.muli v8 c1_i32_37
  let v59 : BitVec 32 := Scalar.addi v57 v58
  v59.toNat
def k0_off4 (d0 : Dev nD) : Fin 3 → Nat :=
  let c2_i32_52 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v85 : BitVec 32 := Scalar.muli c2_i32_52 v10
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v86 : BitVec 32 := Scalar.addi v85 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c17440_i32_53 : BitVec 32 := 17440#32
  let v87 : BitVec 32 := Scalar.muli v8 c17440_i32_53
  let c0_i32_60 : BitVec 32 := 0#32
  ![v86.toNat, v87.toNat, 0]
def k0_dev4 (d0 : Dev nD) : Nat :=
  let c0_i32_64 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_63 : BitVec 32 := 4#32
  let v99 : BitVec 32 := Scalar.muli v2 c4_i32_63
  let v100 : BitVec 32 := Scalar.addi c0_i32_64 v99
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_65 : BitVec 32 := 2#32
  let v101 : BitVec 32 := Scalar.muli v5 c2_i32_65
  let v102 : BitVec 32 := Scalar.addi v100 v101
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_66 : BitVec 32 := 1#32
  let v103 : BitVec 32 := Scalar.muli v9 c1_i32_66
  let v104 : BitVec 32 := Scalar.addi v102 v103
  v104.toNat
def k0_off5 (d0 : Dev nD) : Fin 3 → Nat :=
  let c2_i32_69 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v113 : BitVec 32 := Scalar.muli c2_i32_69 v2
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v114 : BitVec 32 := Scalar.addi v113 v11
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c17440_i32_70 : BitVec 32 := 17440#32
  let v115 : BitVec 32 := Scalar.muli v8 c17440_i32_70
  let c0_i32_77 : BitVec 32 := 0#32
  ![v114.toNat, v115.toNat, 0]
def k0_dev5 (d0 : Dev nD) : Nat :=
  let c0_i32_82 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_81 : BitVec 32 := 4#32
  let v127 : BitVec 32 := Scalar.muli v2 c4_i32_81
  let v128 : BitVec 32 := Scalar.addi c0_i32_82 v127
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_83 : BitVec 32 := 2#32
  let v129 : BitVec 32 := Scalar.muli v5 c2_i32_83
  let v130 : BitVec 32 := Scalar.addi v128 v129
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_84 : BitVec 32 := 1#32
  let v131 : BitVec 32 := Scalar.muli v9 c1_i32_84
  let v132 : BitVec 32 := Scalar.addi v130 v131
  v132.toNat
def k0_off6 (d0 : Dev nD) : Fin 3 → Nat :=
  let c2_i32_87 : BitVec 32 := 2#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v141 : BitVec 32 := Scalar.muli c2_i32_87 v12
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v142 : BitVec 32 := Scalar.addi v141 v13
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c17440_i32_88 : BitVec 32 := 17440#32
  let v143 : BitVec 32 := Scalar.muli v8 c17440_i32_88
  let c0_i32_95 : BitVec 32 := 0#32
  ![v142.toNat, v143.toNat, 0]
def k0_dev6 (d0 : Dev nD) : Nat :=
  let c0_i32_99 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_98 : BitVec 32 := 4#32
  let v155 : BitVec 32 := Scalar.muli v2 c4_i32_98
  let v156 : BitVec 32 := Scalar.addi c0_i32_99 v155
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_100 : BitVec 32 := 2#32
  let v157 : BitVec 32 := Scalar.muli v5 c2_i32_100
  let v158 : BitVec 32 := Scalar.addi v156 v157
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_101 : BitVec 32 := 1#32
  let v159 : BitVec 32 := Scalar.muli v9 c1_i32_101
  let v160 : BitVec 32 := Scalar.addi v158 v159
  v160.toNat
def k0_off7 (d0 : Dev nD) : Fin 3 → Nat :=
  let c2_i32_105 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v170 : BitVec 32 := Scalar.muli c2_i32_105 v10
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v171 : BitVec 32 := Scalar.addi v170 v5
  let c1_i32_104 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v169 : BitVec 32 := Scalar.subi c1_i32_104 v8
  let c17440_i32_106 : BitVec 32 := 17440#32
  let v172 : BitVec 32 := Scalar.muli v169 c17440_i32_106
  let c0_i32_113 : BitVec 32 := 0#32
  ![v171.toNat, v172.toNat, 0]
def k0_off8 (d0 : Dev nD) : Fin 3 → Nat :=
  let c2_i32_116 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v185 : BitVec 32 := Scalar.muli c2_i32_116 v2
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v186 : BitVec 32 := Scalar.addi v185 v11
  let c1_i32_115 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v184 : BitVec 32 := Scalar.subi c1_i32_115 v8
  let c17440_i32_117 : BitVec 32 := 17440#32
  let v187 : BitVec 32 := Scalar.muli v184 c17440_i32_117
  let c0_i32_124 : BitVec 32 := 0#32
  ![v186.toNat, v187.toNat, 0]
def k0_off9 (d0 : Dev nD) : Fin 3 → Nat :=
  let c2_i32_127 : BitVec 32 := 2#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v200 : BitVec 32 := Scalar.muli c2_i32_127 v12
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v201 : BitVec 32 := Scalar.addi v200 v13
  let c1_i32_126 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v199 : BitVec 32 := Scalar.subi c1_i32_126 v8
  let c17440_i32_128 : BitVec 32 := 17440#32
  let v202 : BitVec 32 := Scalar.muli v199 c17440_i32_128
  let c0_i32_135 : BitVec 32 := 0#32
  ![v201.toNat, v202.toNat, 0]
-- ==== GatherRef.lean ====
abbrev S139520x128 : Shape := ⟨2, ![139520, 128]⟩
abbrev S4x34880x128 : Shape := ⟨3, ![4, 34880, 128]⟩

abbrev nBuf : Space → Nat
  | .hbm => 2
  | .vmem => 0
  | .smem => 0
  | _ => 0

abbrev bufTy : (tb : Table) → Fin (tcTables nBuf tb) → BufTy
  | .hbm, ⟨0, _⟩ => ⟨S139520x128, .bf16⟩
  | .hbm, ⟨1, _⟩ => ⟨S4x34880x128, .bf16⟩
  | _, _ => ⟨S139520x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== AdamIn.lean ====
abbrev S1024x1410 : Shape := ⟨2, ![1024, 1410]⟩
abbrev S256x1410 : Shape := ⟨2, ![256, 1410]⟩

abbrev nBuf : Space → Nat
  | .hbm => 7
  | .vmem => 14
  | .smem => 0
  | _ => 0

abbrev bufTy : (tb : Table) → Fin (tcTables nBuf tb) → BufTy
  | .hbm, ⟨0, _⟩ => ⟨S1024x1410, .f32⟩
  | .hbm, ⟨1, _⟩ => ⟨S1024x1410, .f32⟩
  | .hbm, ⟨2, _⟩ => ⟨S1024x1410, .f32⟩
  | .hbm, ⟨3, _⟩ => ⟨S1024x1410, .f32⟩
  | .hbm, ⟨4, _⟩ => ⟨S1024x1410, .f32⟩
  | .hbm, ⟨5, _⟩ => ⟨S1024x1410, .f32⟩
  | .hbm, ⟨6, _⟩ => ⟨S1024x1410, .f32⟩
  | .local _ .vmem, ⟨0, _⟩ => ⟨S256x1410, .f32⟩
  | .local _ .vmem, ⟨1, _⟩ => ⟨S256x1410, .f32⟩
  | .local _ .vmem, ⟨2, _⟩ => ⟨S256x1410, .f32⟩
  | .local _ .vmem, ⟨3, _⟩ => ⟨S256x1410, .f32⟩
  | .local _ .vmem, ⟨4, _⟩ => ⟨S256x1410, .f32⟩
  | .local _ .vmem, ⟨5, _⟩ => ⟨S256x1410, .f32⟩
  | .local _ .vmem, ⟨6, _⟩ => ⟨S256x1410, .f32⟩
  | .local _ .vmem, ⟨7, _⟩ => ⟨S256x1410, .f32⟩
  | .local _ .vmem, ⟨8, _⟩ => ⟨S256x1410, .f32⟩
  | .local _ .vmem, ⟨9, _⟩ => ⟨S256x1410, .f32⟩
  | .local _ .vmem, ⟨10, _⟩ => ⟨S256x1410, .f32⟩
  | .local _ .vmem, ⟨11, _⟩ => ⟨S256x1410, .f32⟩
  | .local _ .vmem, ⟨12, _⟩ => ⟨S256x1410, .f32⟩
  | .local _ .vmem, ⟨13, _⟩ => ⟨S256x1410, .f32⟩
  | _, _ => ⟨S1024x1410, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1410 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1410 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1410 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1410 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1410 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1410 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1410 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInRefIdeal.lean ====
abbrev S1024x1410 : Shape := ⟨2, ![1024, 1410]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1410, .f32⟩
  | .hbm, ⟨1, _⟩ => ⟨S1024x1410, .f32⟩
  | .hbm, ⟨2, _⟩ => ⟨S1024x1410, .f32⟩
  | .hbm, ⟨3, _⟩ => ⟨S1024x1410, .f32⟩
  | .hbm, ⟨4, _⟩ => ⟨S_, .f32⟩
  | .hbm, ⟨5, _⟩ => ⟨S1024x1410, .f32⟩
  | .hbm, ⟨6, _⟩ => ⟨S1024x1410, .f32⟩
  | .hbm, ⟨7, _⟩ => ⟨S_, .f32⟩
  | .hbm, ⟨8, _⟩ => ⟨S1024x1410, .f32⟩
  | .hbm, ⟨9, _⟩ => ⟨S1024x1410, .f32⟩
  | .hbm, ⟨10, _⟩ => ⟨S1024x1410, .f32⟩
  | .hbm, ⟨11, _⟩ => ⟨S_, .f32⟩
  | .hbm, ⟨12, _⟩ => ⟨S1024x1410, .f32⟩
  | .hbm, ⟨13, _⟩ => ⟨S1024x1410, .f32⟩
  | .hbm, ⟨14, _⟩ => ⟨S1024x1410, .f32⟩
  | .hbm, ⟨15, _⟩ => ⟨S_, .f32⟩
  | .hbm, ⟨16, _⟩ => ⟨S1024x1410, .f32⟩
  | .hbm, ⟨17, _⟩ => ⟨S1024x1410, .f32⟩
  | .hbm, ⟨18, _⟩ => ⟨S1024x1410, .f32⟩
  | .hbm, ⟨19, _⟩ => ⟨S_, .f32⟩
  | .hbm, ⟨20, _⟩ => ⟨S1024x1410, .f32⟩
  | .hbm, ⟨21, _⟩ => ⟨S1024x1410, .f32⟩
  | .hbm, ⟨22, _⟩ => ⟨S_, .f32⟩
  | .hbm, ⟨23, _⟩ => ⟨S1024x1410, .f32⟩
  | .hbm, ⟨24, _⟩ => ⟨S1024x1410, .f32⟩
  | .hbm, ⟨25, _⟩ => ⟨S1024x1410, .f32⟩
  | .hbm, ⟨26, _⟩ => ⟨S_, .f32⟩
  | .hbm, ⟨27, _⟩ => ⟨S1024x1410, .f32⟩
  | .hbm, ⟨28, _⟩ => ⟨S1024x1410, .f32⟩
  | .hbm, ⟨29, _⟩ => ⟨S1024x1410, .f32⟩
  | .hbm, ⟨30, _⟩ => ⟨S_, .f32⟩
  | .hbm, ⟨31, _⟩ => ⟨S1024x1410, .f32⟩
  | .hbm, ⟨32, _⟩ => ⟨S1024x1410, .f32⟩
  | .hbm, ⟨33, _⟩ => ⟨S1024x1410, .f32⟩
  | .hbm, ⟨34, _⟩ => ⟨S_, .f32⟩
  | .hbm, ⟨35, _⟩ => ⟨S1024x1410, .f32⟩
  | .hbm, ⟨36, _⟩ => ⟨S1024x1410, .f32⟩
  | _, _ => ⟨S1024x1410, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamBranch.lean ====
abbrev S512x256 : Shape := ⟨2, ![512, 256]⟩
abbrev S256x256 : Shape := ⟨2, ![256, 256]⟩

abbrev nBuf : Space → Nat
  | .hbm => 7
  | .vmem => 14
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S512x256, .f32⟩
  | .hbm, ⟨5, _⟩ => ⟨S512x256, .f32⟩
  | .hbm, ⟨6, _⟩ => ⟨S512x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamBranchRefIdeal.lean ====
abbrev S512x256 : Shape := ⟨2, ![512, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S_, .f32⟩
  | .hbm, ⟨5, _⟩ => ⟨S512x256, .f32⟩
  | .hbm, ⟨6, _⟩ => ⟨S512x256, .f32⟩
  | .hbm, ⟨7, _⟩ => ⟨S_, .f32⟩
  | .hbm, ⟨8, _⟩ => ⟨S512x256, .f32⟩
  | .hbm, ⟨9, _⟩ => ⟨S512x256, .f32⟩
  | .hbm, ⟨10, _⟩ => ⟨S512x256, .f32⟩
  | .hbm, ⟨11, _⟩ => ⟨S_, .f32⟩
  | .hbm, ⟨12, _⟩ => ⟨S512x256, .f32⟩
  | .hbm, ⟨13, _⟩ => ⟨S512x256, .f32⟩
  | .hbm, ⟨14, _⟩ => ⟨S512x256, .f32⟩
  | .hbm, ⟨15, _⟩ => ⟨S_, .f32⟩
  | .hbm, ⟨16, _⟩ => ⟨S512x256, .f32⟩
  | .hbm, ⟨17, _⟩ => ⟨S512x256, .f32⟩
  | .hbm, ⟨18, _⟩ => ⟨S512x256, .f32⟩
  | .hbm, ⟨19, _⟩ => ⟨S_, .f32⟩
  | .hbm, ⟨20, _⟩ => ⟨S512x256, .f32⟩
  | .hbm, ⟨21, _⟩ => ⟨S512x256, .f32⟩
  | .hbm, ⟨22, _⟩ => ⟨S_, .f32⟩
  | .hbm, ⟨23, _⟩ => ⟨S512x256, .f32⟩
  | .hbm, ⟨24, _⟩ => ⟨S512x256, .f32⟩
  | .hbm, ⟨25, _⟩ => ⟨S512x256, .f32⟩
  | .hbm, ⟨26, _⟩ => ⟨S_, .f32⟩
  | .hbm, ⟨27, _⟩ => ⟨S512x256, .f32⟩
  | .hbm, ⟨28, _⟩ => ⟨S512x256, .f32⟩
  | .hbm, ⟨29, _⟩ => ⟨S512x256, .f32⟩
  | .hbm, ⟨30, _⟩ => ⟨S_, .f32⟩
  | .hbm, ⟨31, _⟩ => ⟨S512x256, .f32⟩
  | .hbm, ⟨32, _⟩ => ⟨S512x256, .f32⟩
  | .hbm, ⟨33, _⟩ => ⟨S512x256, .f32⟩
  | .hbm, ⟨34, _⟩ => ⟨S_, .f32⟩
  | .hbm, ⟨35, _⟩ => ⟨S512x256, .f32⟩
  | .hbm, ⟨36, _⟩ => ⟨S512x256, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamOut.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamOutRefIdeal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamGateUp.lean ====
abbrev S1024x1408 : Shape := ⟨2, ![1024, 1408]⟩
abbrev S256x1408 : Shape := ⟨2, ![256, 1408]⟩

abbrev nBuf : Space → Nat
  | .hbm => 7
  | .vmem => 14
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S1024x1408, .f32⟩
  | .hbm, ⟨5, _⟩ => ⟨S1024x1408, .f32⟩
  | .hbm, ⟨6, _⟩ => ⟨S1024x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamGateUpRefIdeal.lean ====
abbrev S1024x1408 : Shape := ⟨2, ![1024, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S_, .f32⟩
  | .hbm, ⟨5, _⟩ => ⟨S1024x1408, .f32⟩
  | .hbm, ⟨6, _⟩ => ⟨S1024x1408, .f32⟩
  | .hbm, ⟨7, _⟩ => ⟨S_, .f32⟩
  | .hbm, ⟨8, _⟩ => ⟨S1024x1408, .f32⟩
  | .hbm, ⟨9, _⟩ => ⟨S1024x1408, .f32⟩
  | .hbm, ⟨10, _⟩ => ⟨S1024x1408, .f32⟩
  | .hbm, ⟨11, _⟩ => ⟨S_, .f32⟩
  | .hbm, ⟨12, _⟩ => ⟨S1024x1408, .f32⟩
  | .hbm, ⟨13, _⟩ => ⟨S1024x1408, .f32⟩
  | .hbm, ⟨14, _⟩ => ⟨S1024x1408, .f32⟩
  | .hbm, ⟨15, _⟩ => ⟨S_, .f32⟩
  | .hbm, ⟨16, _⟩ => ⟨S1024x1408, .f32⟩
  | .hbm, ⟨17, _⟩ => ⟨S1024x1408, .f32⟩
  | .hbm, ⟨18, _⟩ => ⟨S1024x1408, .f32⟩
  | .hbm, ⟨19, _⟩ => ⟨S_, .f32⟩
  | .hbm, ⟨20, _⟩ => ⟨S1024x1408, .f32⟩
  | .hbm, ⟨21, _⟩ => ⟨S1024x1408, .f32⟩
  | .hbm, ⟨22, _⟩ => ⟨S_, .f32⟩
  | .hbm, ⟨23, _⟩ => ⟨S1024x1408, .f32⟩
  | .hbm, ⟨24, _⟩ => ⟨S1024x1408, .f32⟩
  | .hbm, ⟨25, _⟩ => ⟨S1024x1408, .f32⟩
  | .hbm, ⟨26, _⟩ => ⟨S_, .f32⟩
  | .hbm, ⟨27, _⟩ => ⟨S1024x1408, .f32⟩
  | .hbm, ⟨28, _⟩ => ⟨S1024x1408, .f32⟩
  | .hbm, ⟨29, _⟩ => ⟨S1024x1408, .f32⟩
  | .hbm, ⟨30, _⟩ => ⟨S_, .f32⟩
  | .hbm, ⟨31, _⟩ => ⟨S1024x1408, .f32⟩
  | .hbm, ⟨32, _⟩ => ⟨S1024x1408, .f32⟩
  | .hbm, ⟨33, _⟩ => ⟨S1024x1408, .f32⟩
  | .hbm, ⟨34, _⟩ => ⟨S_, .f32⟩
  | .hbm, ⟨35, _⟩ => ⟨S1024x1408, .f32⟩
  | .hbm, ⟨36, _⟩ => ⟨S1024x1408, .f32⟩
  | _, _ => ⟨S1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamDown.lean ====
abbrev S704x1024 : Shape := ⟨2, ![704, 1024]⟩
abbrev S176x1024 : Shape := ⟨2, ![176, 1024]⟩

abbrev nBuf : Space → Nat
  | .hbm => 7
  | .vmem => 14
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamDownRefIdeal.lean ====
abbrev S704x1024 : Shape := ⟨2, ![704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S_, .f32⟩
  | .hbm, ⟨5, _⟩ => ⟨S704x1024, .f32⟩
  | .hbm, ⟨6, _⟩ => ⟨S704x1024, .f32⟩
  | .hbm, ⟨7, _⟩ => ⟨S_, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S_, .f32⟩
  | .hbm, ⟨12, _⟩ => ⟨S704x1024, .f32⟩
  | .hbm, ⟨13, _⟩ => ⟨S704x1024, .f32⟩
  | .hbm, ⟨14, _⟩ => ⟨S704x1024, .f32⟩
  | .hbm, ⟨15, _⟩ => ⟨S_, .f32⟩
  | .hbm, ⟨16, _⟩ => ⟨S704x1024, .f32⟩
  | .hbm, ⟨17, _⟩ => ⟨S704x1024, .f32⟩
  | .hbm, ⟨18, _⟩ => ⟨S704x1024, .f32⟩
  | .hbm, ⟨19, _⟩ => ⟨S_, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S704x1024, .f32⟩
  | .hbm, ⟨26, _⟩ => ⟨S_, .f32⟩
  | .hbm, ⟨27, _⟩ => ⟨S704x1024, .f32⟩
  | .hbm, ⟨28, _⟩ => ⟨S704x1024, .f32⟩
  | .hbm, ⟨29, _⟩ => ⟨S704x1024, .f32⟩
  | .hbm, ⟨30, _⟩ => ⟨S_, .f32⟩
  | .hbm, ⟨31, _⟩ => ⟨S704x1024, .f32⟩
  | .hbm, ⟨32, _⟩ => ⟨S704x1024, .f32⟩
  | .hbm, ⟨33, _⟩ => ⟨S704x1024, .f32⟩
  | .hbm, ⟨34, _⟩ => ⟨S_, .f32⟩
  | .hbm, ⟨35, _⟩ => ⟨S704x1024, .f32⟩
  | .hbm, ⟨36, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamProj.lean ====
abbrev S256x256 : Shape := ⟨2, ![256, 256]⟩

abbrev nBuf : Space → Nat
  | .hbm => 7
  | .vmem => 7
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S256x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamProjRefIdeal.lean ====
abbrev S256x256 : Shape := ⟨2, ![256, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S_, .f32⟩
  | .hbm, ⟨5, _⟩ => ⟨S256x256, .f32⟩
  | .hbm, ⟨6, _⟩ => ⟨S256x256, .f32⟩
  | .hbm, ⟨7, _⟩ => ⟨S_, .f32⟩
  | .hbm, ⟨8, _⟩ => ⟨S256x256, .f32⟩
  | .hbm, ⟨9, _⟩ => ⟨S256x256, .f32⟩
  | .hbm, ⟨10, _⟩ => ⟨S256x256, .f32⟩
  | .hbm, ⟨11, _⟩ => ⟨S_, .f32⟩
  | .hbm, ⟨12, _⟩ => ⟨S256x256, .f32⟩
  | .hbm, ⟨13, _⟩ => ⟨S256x256, .f32⟩
  | .hbm, ⟨14, _⟩ => ⟨S256x256, .f32⟩
  | .hbm, ⟨15, _⟩ => ⟨S_, .f32⟩
  | .hbm, ⟨16, _⟩ => ⟨S256x256, .f32⟩
  | .hbm, ⟨17, _⟩ => ⟨S256x256, .f32⟩
  | .hbm, ⟨18, _⟩ => ⟨S256x256, .f32⟩
  | .hbm, ⟨19, _⟩ => ⟨S_, .f32⟩
  | .hbm, ⟨20, _⟩ => ⟨S256x256, .f32⟩
  | .hbm, ⟨21, _⟩ => ⟨S256x256, .f32⟩
  | .hbm, ⟨22, _⟩ => ⟨S_, .f32⟩
  | .hbm, ⟨23, _⟩ => ⟨S256x256, .f32⟩
  | .hbm, ⟨24, _⟩ => ⟨S256x256, .f32⟩
  | .hbm, ⟨25, _⟩ => ⟨S256x256, .f32⟩
  | .hbm, ⟨26, _⟩ => ⟨S_, .f32⟩
  | .hbm, ⟨27, _⟩ => ⟨S256x256, .f32⟩
  | .hbm, ⟨28, _⟩ => ⟨S256x256, .f32⟩
  | .hbm, ⟨29, _⟩ => ⟨S256x256, .f32⟩
  | .hbm, ⟨30, _⟩ => ⟨S_, .f32⟩
  | .hbm, ⟨31, _⟩ => ⟨S256x256, .f32⟩
  | .hbm, ⟨32, _⟩ => ⟨S256x256, .f32⟩
  | .hbm, ⟨33, _⟩ => ⟨S256x256, .f32⟩
  | .hbm, ⟨34, _⟩ => ⟨S_, .f32⟩
  | .hbm, ⟨35, _⟩ => ⟨S256x256, .f32⟩
  | .hbm, ⟨36, _⟩ => ⟨S256x256, .f32⟩
  | _, _ => ⟨S256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSmall.lean ====
abbrev S64x128 : Shape := ⟨2, ![64, 128]⟩

abbrev nBuf : Space → Nat
  | .hbm => 7
  | .vmem => 7
  | .smem => 0
  | _ => 0

abbrev bufTy : (tb : Table) → Fin (tcTables nBuf tb) → BufTy
  | .hbm, ⟨0, _⟩ => ⟨S64x128, .f32⟩
  | .hbm, ⟨1, _⟩ => ⟨S64x128, .f32⟩
  | .hbm, ⟨2, _⟩ => ⟨S64x128, .f32⟩
  | .hbm, ⟨3, _⟩ => ⟨S64x128, .f32⟩
  | .hbm, ⟨4, _⟩ => ⟨S64x128, .f32⟩
  | .hbm, ⟨5, _⟩ => ⟨S64x128, .f32⟩
  | .hbm, ⟨6, _⟩ => ⟨S64x128, .f32⟩
  | .local _ .vmem, ⟨0, _⟩ => ⟨S64x128, .f32⟩
  | .local _ .vmem, ⟨1, _⟩ => ⟨S64x128, .f32⟩
  | .local _ .vmem, ⟨2, _⟩ => ⟨S64x128, .f32⟩
  | .local _ .vmem, ⟨3, _⟩ => ⟨S64x128, .f32⟩
  | .local _ .vmem, ⟨4, _⟩ => ⟨S64x128, .f32⟩
  | .local _ .vmem, ⟨5, _⟩ => ⟨S64x128, .f32⟩
  | .local _ .vmem, ⟨6, _⟩ => ⟨S64x128, .f32⟩
  | _, _ => ⟨S64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S64x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSmallRefIdeal.lean ====
abbrev S64x128 : Shape := ⟨2, ![64, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S64x128, .f32⟩
  | .hbm, ⟨1, _⟩ => ⟨S64x128, .f32⟩
  | .hbm, ⟨2, _⟩ => ⟨S64x128, .f32⟩
  | .hbm, ⟨3, _⟩ => ⟨S64x128, .f32⟩
  | .hbm, ⟨4, _⟩ => ⟨S_, .f32⟩
  | .hbm, ⟨5, _⟩ => ⟨S64x128, .f32⟩
  | .hbm, ⟨6, _⟩ => ⟨S64x128, .f32⟩
  | .hbm, ⟨7, _⟩ => ⟨S_, .f32⟩
  | .hbm, ⟨8, _⟩ => ⟨S64x128, .f32⟩
  | .hbm, ⟨9, _⟩ => ⟨S64x128, .f32⟩
  | .hbm, ⟨10, _⟩ => ⟨S64x128, .f32⟩
  | .hbm, ⟨11, _⟩ => ⟨S_, .f32⟩
  | .hbm, ⟨12, _⟩ => ⟨S64x128, .f32⟩
  | .hbm, ⟨13, _⟩ => ⟨S64x128, .f32⟩
  | .hbm, ⟨14, _⟩ => ⟨S64x128, .f32⟩
  | .hbm, ⟨15, _⟩ => ⟨S_, .f32⟩
  | .hbm, ⟨16, _⟩ => ⟨S64x128, .f32⟩
  | .hbm, ⟨17, _⟩ => ⟨S64x128, .f32⟩
  | .hbm, ⟨18, _⟩ => ⟨S64x128, .f32⟩
  | .hbm, ⟨19, _⟩ => ⟨S_, .f32⟩
  | .hbm, ⟨20, _⟩ => ⟨S64x128, .f32⟩
  | .hbm, ⟨21, _⟩ => ⟨S64x128, .f32⟩
  | .hbm, ⟨22, _⟩ => ⟨S_, .f32⟩
  | .hbm, ⟨23, _⟩ => ⟨S64x128, .f32⟩
  | .hbm, ⟨24, _⟩ => ⟨S64x128, .f32⟩
  | .hbm, ⟨25, _⟩ => ⟨S64x128, .f32⟩
  | .hbm, ⟨26, _⟩ => ⟨S_, .f32⟩
  | .hbm, ⟨27, _⟩ => ⟨S64x128, .f32⟩
  | .hbm, ⟨28, _⟩ => ⟨S64x128, .f32⟩
  | .hbm, ⟨29, _⟩ => ⟨S64x128, .f32⟩
  | .hbm, ⟨30, _⟩ => ⟨S_, .f32⟩
  | .hbm, ⟨31, _⟩ => ⟨S64x128, .f32⟩
  | .hbm, ⟨32, _⟩ => ⟨S64x128, .f32⟩
  | .hbm, ⟨33, _⟩ => ⟨S64x128, .f32⟩
  | .hbm, ⟨34, _⟩ => ⟨S_, .f32⟩
  | .hbm, ⟨35, _⟩ => ⟨S64x128, .f32⟩
  | .hbm, ⟨36, _⟩ => ⟨S64x128, .f32⟩
  | _, _ => ⟨S64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Sum.lean ====
abbrev S17440x128 : Shape := ⟨2, ![17440, 128]⟩
abbrev S3x17440x128 : Shape := ⟨3, ![3, 17440, 128]⟩
abbrev S1744x128 : Shape := ⟨2, ![1744, 128]⟩
abbrev S3x1744x128 : Shape := ⟨3, ![3, 1744, 128]⟩
abbrev S1x1744x128 : Shape := ⟨3, ![1, 1744, 128]⟩

abbrev nBuf : Space → Nat
  | .hbm => 3
  | .vmem => 6
  | .smem => 0
  | _ => 0

abbrev bufTy : (tb : Table) → Fin (tcTables nBuf tb) → BufTy
  | .hbm, ⟨0, _⟩ => ⟨S17440x128, .f32⟩
  | .hbm, ⟨1, _⟩ => ⟨S3x17440x128, .bf16⟩
  | .hbm, ⟨2, _⟩ => ⟨S17440x128, .f32⟩
  | .local _ .vmem, ⟨0, _⟩ => ⟨S1744x128, .f32⟩
  | .local _ .vmem, ⟨1, _⟩ => ⟨S1744x128, .f32⟩
  | .local _ .vmem, ⟨2, _⟩ => ⟨S3x1744x128, .bf16⟩
  | .local _ .vmem, ⟨3, _⟩ => ⟨S3x1744x128, .bf16⟩
  | .local _ .vmem, ⟨4, _⟩ => ⟨S1744x128, .f32⟩
  | .local _ .vmem, ⟨5, _⟩ => ⟨S1744x128, .f32⟩
  | _, _ => ⟨S17440x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1744x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x1744x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1744x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SumRef.lean ====
abbrev S17440x128 : Shape := ⟨2, ![17440, 128]⟩
abbrev S3x17440x128 : Shape := ⟨3, ![3, 17440, 128]⟩
abbrev S1x17440x128 : Shape := ⟨3, ![1, 17440, 128]⟩

abbrev nBuf : Space → Nat
  | .hbm => 14
  | .vmem => 0
  | .smem => 0
  | _ => 0

abbrev bufTy : (tb : Table) → Fin (tcTables nBuf tb) → BufTy
  | .hbm, ⟨0, _⟩ => ⟨S17440x128, .f32⟩
  | .hbm, ⟨1, _⟩ => ⟨S3x17440x128, .bf16⟩
  | .hbm, ⟨2, _⟩ => ⟨S1x17440x128, .bf16⟩
  | .hbm, ⟨3, _⟩ => ⟨S17440x128, .bf16⟩
  | .hbm, ⟨4, _⟩ => ⟨S17440x128, .f32⟩
  | .hbm, ⟨5, _⟩ => ⟨S17440x128, .f32⟩
  | .hbm, ⟨6, _⟩ => ⟨S1x17440x128, .bf16⟩
  | .hbm, ⟨7, _⟩ => ⟨S17440x128, .bf16⟩
  | .hbm, ⟨8, _⟩ => ⟨S17440x128, .f32⟩
  | .hbm, ⟨9, _⟩ => ⟨S17440x128, .f32⟩
  | .hbm, ⟨10, _⟩ => ⟨S1x17440x128, .bf16⟩
  | .hbm, ⟨11, _⟩ => ⟨S17440x128, .bf16⟩
  | .hbm, ⟨12, _⟩ => ⟨S17440x128, .f32⟩
  | .hbm, ⟨13, _⟩ => ⟨S17440x128, .f32⟩
  | _, _ => ⟨S17440x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩

abbrev nD : Nat := 1
abbrev τ : Topo := Topo.v7x

variable {F : FTy → Type} [FloatOps F]
-- ==== Input.lean ====
abbrev S4096x2048 : Shape := ⟨2, ![4096, 2048]⟩
abbrev S4096x512 : Shape := ⟨2, ![4096, 512]⟩
abbrev S4096x1536 : Shape := ⟨2, ![4096, 1536]⟩
abbrev S4096x128 : Shape := ⟨2, ![4096, 128]⟩
abbrev S1024x2048 : Shape := ⟨2, ![1024, 2048]⟩
abbrev S1024x512 : Shape := ⟨2, ![1024, 512]⟩
abbrev S1024x1536 : Shape := ⟨2, ![1024, 1536]⟩
abbrev S1024x128 : Shape := ⟨2, ![1024, 128]⟩
abbrev S4096x1024 : Shape := ⟨2, ![4096, 1024]⟩
abbrev S1x1024 : Shape := ⟨2, ![1, 1024]⟩
abbrev S8x1024 : Shape := ⟨2, ![8, 1024]⟩
abbrev S256x2048 : Shape := ⟨2, ![256, 2048]⟩
abbrev S256x512 : Shape := ⟨2, ![256, 512]⟩
abbrev S256x1536 : Shape := ⟨2, ![256, 1536]⟩
abbrev S256x128 : Shape := ⟨2, ![256, 128]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 19
  | .vmem => 29
  | .smem => 0
  | _ => 0

abbrev bufTy : (tb : Table) → Fin (tcTables nBuf tb) → BufTy
  | .hbm, ⟨0, _⟩ => ⟨S4096x2048, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x1536, .f32⟩
  | .hbm, ⟨5, _⟩ => ⟨S4096x512, .f32⟩
  | .hbm, ⟨6, _⟩ => ⟨S4096x128, .f32⟩
  | .hbm, ⟨7, _⟩ => ⟨S1024x2048, .bf16⟩
  | .hbm, ⟨8, _⟩ => ⟨S1024x512, .bf16⟩
  | .hbm, ⟨9, _⟩ => ⟨S1024x512, .bf16⟩
  | .hbm, ⟨10, _⟩ => ⟨S1024x512, .bf16⟩
  | .hbm, ⟨11, _⟩ => ⟨S1024x1536, .bf16⟩
  | .hbm, ⟨12, _⟩ => ⟨S1024x512, .bf16⟩
  | .hbm, ⟨13, _⟩ => ⟨S1024x128, .bf16⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S8x1024, .f32⟩
  | .local _ .vmem, ⟨0, _⟩ => ⟨S256x2048, .f32⟩
  | .local _ .vmem, ⟨1, _⟩ => ⟨S256x2048, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x1536, .f32⟩
  | .local _ .vmem, ⟨9, _⟩ => ⟨S256x1536, .f32⟩
  | .local _ .vmem, ⟨10, _⟩ => ⟨S256x512, .f32⟩
  | .local _ .vmem, ⟨11, _⟩ => ⟨S256x512, .f32⟩
  | .local _ .vmem, ⟨12, _⟩ => ⟨S256x128, .f32⟩
  | .local _ .vmem, ⟨13, _⟩ => ⟨S256x128, .f32⟩
  | .local _ .vmem, ⟨14, _⟩ => ⟨S1024x2048, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x1536, .bf16⟩
  | .local _ .vmem, ⟨19, _⟩ => ⟨S1024x512, .bf16⟩
  | .local _ .vmem, ⟨20, _⟩ => ⟨S1024x128, .bf16⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | .local _ .vmem, ⟨25, _⟩ => ⟨S1x1024, .f32⟩
  | .local _ .vmem, ⟨26, _⟩ => ⟨S256x1024, .f32⟩
  | .local _ .vmem, ⟨27, _⟩ => ⟨S256x1024, .f32⟩
  | .local _ .vmem, ⟨28, _⟩ => ⟨S8x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0_0 : Ref sig .tc := ⟨.hbm, 17, rfl⟩
abbrev main_v0_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem17_0 : DmaSem sig := 26
abbrev cc0_sem17_1 : DmaSem sig := 27
abbrev cc0_sem18_0 : DmaSem sig := 28

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1536 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S8x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== InputRefIdeal.lean ====
abbrev S4096x2048 : Shape := ⟨2, ![4096, 2048]⟩
abbrev S4096x512 : Shape := ⟨2, ![4096, 512]⟩
abbrev S4096x1536 : Shape := ⟨2, ![4096, 1536]⟩
abbrev S4096x128 : Shape := ⟨2, ![4096, 128]⟩
abbrev S1024x2048 : Shape := ⟨2, ![1024, 2048]⟩
abbrev S1024x512 : Shape := ⟨2, ![1024, 512]⟩
abbrev S1024x1536 : Shape := ⟨2, ![1024, 1536]⟩
abbrev S1024x128 : Shape := ⟨2, ![1024, 128]⟩
abbrev S4096x1024 : Shape := ⟨2, ![4096, 1024]⟩
abbrev S1x1024 : Shape := ⟨2, ![1, 1024]⟩
abbrev S4096x5760 : Shape := ⟨2, ![4096, 5760]⟩
abbrev S1024x5760 : Shape := ⟨2, ![1024, 5760]⟩
abbrev S5760x1024 : Shape := ⟨2, ![5760, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S8x1024 : Shape := ⟨2, ![8, 1024]⟩

abbrev nBuf : Space → Nat
  | .hbm => 58
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x1536, .f32⟩
  | .hbm, ⟨5, _⟩ => ⟨S4096x512, .f32⟩
  | .hbm, ⟨6, _⟩ => ⟨S4096x128, .f32⟩
  | .hbm, ⟨7, _⟩ => ⟨S1024x2048, .bf16⟩
  | .hbm, ⟨8, _⟩ => ⟨S1024x512, .bf16⟩
  | .hbm, ⟨9, _⟩ => ⟨S1024x512, .bf16⟩
  | .hbm, ⟨10, _⟩ => ⟨S1024x512, .bf16⟩
  | .hbm, ⟨11, _⟩ => ⟨S1024x1536, .bf16⟩
  | .hbm, ⟨12, _⟩ => ⟨S1024x512, .bf16⟩
  | .hbm, ⟨13, _⟩ => ⟨S1024x128, .bf16⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x5760, .f32⟩
  | .hbm, ⟨18, _⟩ => ⟨S1024x5760, .bf16⟩
  | .hbm, ⟨19, _⟩ => ⟨S1024x5760, .f32⟩
  | .hbm, ⟨20, _⟩ => ⟨S5760x1024, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S_, .f32⟩
  | .hbm, ⟨56, _⟩ => ⟨S1024, .f32⟩
  | .hbm, ⟨57, _⟩ => ⟨S8x1024, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_cst : Ref sig .tc := ⟨.hbm, 23, rfl⟩
abbrev main_v6 : Ref sig .tc := ⟨.hbm, 24, rfl⟩
abbrev main_v7 : Ref sig .tc := ⟨.hbm, 25, rfl⟩
abbrev main_cst_0 : Ref sig .tc := ⟨.hbm, 26, rfl⟩
abbrev main_v8 : Ref sig .tc := ⟨.hbm, 27, rfl⟩
abbrev main_v9 : Ref sig .tc := ⟨.hbm, 28, rfl⟩
abbrev main_cst_1 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_2 : Ref sig .tc := ⟨.hbm, 40, rfl⟩
abbrev main_v20 : Ref sig .tc := ⟨.hbm, 41, rfl⟩
abbrev main_v21 : Ref sig .tc := ⟨.hbm, 42, rfl⟩
abbrev main_cst_3 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_4 : Ref sig .tc := ⟨.hbm, 55, rfl⟩
abbrev main_v33 : Ref sig .tc := ⟨.hbm, 56, rfl⟩
abbrev main_v34 : Ref sig .tc := ⟨.hbm, 57, rfl⟩

abbrev nD : Nat := 1
abbrev τ : Topo := Topo.v7x

variable {F : FTy → Type} [FloatOps F]
-- ==== DwDown.lean ====
abbrev S4096x2816 : Shape := ⟨2, ![4096, 2816]⟩
abbrev S4096x1024 : Shape := ⟨2, ![4096, 1024]⟩
abbrev S2816x1024 : Shape := ⟨2, ![2816, 1024]⟩
abbrev S512x256 : Shape := ⟨2, ![512, 256]⟩
abbrev S512x512 : Shape := ⟨2, ![512, 512]⟩
abbrev S256x512 : Shape := ⟨2, ![256, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S2816x1024, .f32⟩
  | .local _ .vmem, ⟨0, _⟩ => ⟨S512x256, .bf16⟩
  | .local _ .vmem, ⟨1, _⟩ => ⟨S512x256, .bf16⟩
  | .local _ .vmem, ⟨2, _⟩ => ⟨S512x512, .f32⟩
  | .local _ .vmem, ⟨3, _⟩ => ⟨S512x512, .f32⟩
  | .local _ .vmem, ⟨4, _⟩ => ⟨S256x512, .f32⟩
  | .local _ .vmem, ⟨5, _⟩ => ⟨S256x512, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwDownRefIdeal.lean ====
abbrev S4096x2816 : Shape := ⟨2, ![4096, 2816]⟩
abbrev S4096x1024 : Shape := ⟨2, ![4096, 1024]⟩
abbrev S2816x4096 : Shape := ⟨2, ![2816, 4096]⟩
abbrev S2816x1024 : Shape := ⟨2, ![2816, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S4096x2816, .f32⟩
  | .hbm, ⟨3, _⟩ => ⟨S2816x4096, .f32⟩
  | .hbm, ⟨4, _⟩ => ⟨S2816x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Head.lean ====
abbrev S4096x1024 : Shape := ⟨2, ![4096, 1024]⟩
abbrev S4096x256 : Shape := ⟨2, ![4096, 256]⟩
abbrev S1x1024 : Shape := ⟨2, ![1, 1024]⟩
abbrev S1024x1024 : Shape := ⟨2, ![1024, 1024]⟩
abbrev S256x1024 : Shape := ⟨2, ![256, 1024]⟩
abbrev S8x1024 : Shape := ⟨2, ![8, 1024]⟩
abbrev S8x128 : Shape := ⟨2, ![8, 128]⟩
abbrev S256x256 : Shape := ⟨2, ![256, 256]⟩
abbrev S256 : Shape := ⟨1, ![256]⟩
abbrev S256x1 : Shape := ⟨2, ![256, 1]⟩
abbrev S1 : Shape := ⟨1, ![1]⟩
abbrev S1x1 : Shape := ⟨2, ![1, 1]⟩
abbrev S1024 : Shape := ⟨1, ![1024]⟩

abbrev nBuf : Space → Nat
  | .hbm => 13
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S4096x256, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S1024x1024, .bf16⟩
  | .hbm, ⟨6, _⟩ => ⟨S256x1024, .bf16⟩
  | .hbm, ⟨7, _⟩ => ⟨S4096x1024, .f32⟩
  | .hbm, ⟨8, _⟩ => ⟨S1024x1024, .f32⟩
  | .hbm, ⟨9, _⟩ => ⟨S256x1024, .f32⟩
  | .hbm, ⟨10, _⟩ => ⟨S8x1024, .f32⟩
  | .hbm, ⟨11, _⟩ => ⟨S8x1024, .f32⟩
  | .hbm, ⟨12, _⟩ => ⟨S8x128, .f32⟩
  | .local _ .vmem, ⟨0, _⟩ => ⟨S256x1024, .f32⟩
  | .local _ .vmem, ⟨1, _⟩ => ⟨S256x1024, .f32⟩
  | .local _ .vmem, ⟨2, _⟩ => ⟨S256x256, .f32⟩
  | .local _ .vmem, ⟨3, _⟩ => ⟨S256x256, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .bf16⟩
  | .local _ .vmem, ⟨9, _⟩ => ⟨S256x1024, .bf16⟩
  | .local _ .vmem, ⟨10, _⟩ => ⟨S256x1024, .f32⟩
  | .local _ .vmem, ⟨11, _⟩ => ⟨S256x1024, .f32⟩
  | .local _ .vmem, ⟨12, _⟩ => ⟨S1024x1024, .f32⟩
  | .local _ .vmem, ⟨13, _⟩ => ⟨S256x1024, .f32⟩
  | .local _ .vmem, ⟨14, _⟩ => ⟨S8x1024, .f32⟩
  | .local _ .vmem, ⟨15, _⟩ => ⟨S8x1024, .f32⟩
  | .local _ .vmem, ⟨16, _⟩ => ⟨S8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== HeadRefIdeal.lean ====
abbrev S4096x1024 : Shape := ⟨2, ![4096, 1024]⟩
abbrev S4096x256 : Shape := ⟨2, ![4096, 256]⟩
abbrev S1x1024 : Shape := ⟨2, ![1, 1024]⟩
abbrev S1024x1024 : Shape := ⟨2, ![1024, 1024]⟩
abbrev S256x1024 : Shape := ⟨2, ![256, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S1024x4096 : Shape := ⟨2, ![1024, 4096]⟩
abbrev S256x4096 : Shape := ⟨2, ![256, 4096]⟩
abbrev S8x1024 : Shape := ⟨2, ![8, 1024]⟩
abbrev S8x128 : Shape := ⟨2, ![8, 128]⟩

abbrev nBuf : Space → Nat
  | .hbm => 150
  | .vmem => 0
  | .smem => 0
  | _ => 0

abbrev hbmTy0_0 (i : Nat) : BufTy := match i % 128 with
  | 0 => ⟨S4096x1024, .f32⟩
  | 1 => ⟨S4096x256, .f32⟩
  | 2 => ⟨S4096x1024, .f32⟩
  | 3 => ⟨S1x1024, .f32⟩
  | 4 => ⟨S1x1024, .f32⟩
  | 5 => ⟨S1024x1024, .bf16⟩
  | 6 => ⟨S256x1024, .bf16⟩
  | 7 => ⟨S1024x1024, .f32⟩
  | 8 => ⟨S256x1024, .f32⟩
  | 9 => ⟨S4096x1024, .f32⟩
  | 10 => ⟨S_, .f32⟩
  | 11 => ⟨S4096, .f32⟩
  | 12 => ⟨S4096x1, .f32⟩
  | 13 => ⟨S_, .f32⟩
  | 14 => ⟨S4096x1, .f32⟩
  | 15 => ⟨S4096x1, .f32⟩
  | 16 => ⟨S_, .f32⟩
  | 17 => ⟨S4096x1, .f32⟩
  | 18 => ⟨S4096x1, .f32⟩
  | 19 => ⟨S4096x1, .f32⟩
  | 20 => ⟨S4096x1024, .f32⟩
  | 21 => ⟨S4096x1024, .f32⟩
  | 22 => ⟨S4096x1024, .f32⟩
  | 23 => ⟨S4096x1024, .f32⟩
  | 24 => ⟨S4096x1024, .f32⟩
  | 25 => ⟨S4096x1024, .f32⟩
  | 26 => ⟨S4096x1024, .f32⟩
  | 27 => ⟨S_, .f32⟩
  | 28 => ⟨S4096x1024, .f32⟩
  | 29 => ⟨S4096x1024, .f32⟩
  | 30 => ⟨S_, .f32⟩
  | 31 => ⟨S4096x1024, .f32⟩
  | 32 => ⟨S4096x1024, .f32⟩
  | 33 => ⟨S4096x1024, .f32⟩
  | 34 => ⟨S4096x1024, .f32⟩
  | 35 => ⟨S4096x1024, .f32⟩
  | 36 => ⟨S4096x1024, .f32⟩
  | 37 => ⟨S_, .f32⟩
  | 38 => ⟨S4096, .f32⟩
  | 39 => ⟨S4096x1, .f32⟩
  | 40 => ⟨S_, .f32⟩
  | 41 => ⟨S4096x1, .f32⟩
  | 42 => ⟨S4096x1, .f32⟩
  | 43 => ⟨S_, .f32⟩
  | 44 => ⟨S4096x1, .f32⟩
  | 45 => ⟨S4096x1, .f32⟩
  | 46 => ⟨S4096x1, .f32⟩
  | 47 => ⟨S4096x1024, .f32⟩
  | 48 => ⟨S4096x1024, .f32⟩
  | 49 => ⟨S4096x1024, .f32⟩
  | 50 => ⟨S4096x1024, .f32⟩
  | 51 => ⟨S4096x1024, .f32⟩
  | 52 => ⟨S4096x1024, .f32⟩
  | 53 => ⟨S_, .f32⟩
  | 54 => ⟨S4096, .f32⟩
  | 55 => ⟨S_, .f32⟩
  | 56 => ⟨S4096, .f32⟩
  | 57 => ⟨S4096, .f32⟩
  | 58 => ⟨S_, .f32⟩
  | 59 => ⟨S_, .f32⟩
  | 60 => ⟨S_, .f32⟩
  | 61 => ⟨S_, .f32⟩
  | 62 => ⟨S_, .f32⟩
  | 63 => ⟨S4096x1024, .f32⟩
  | 64 => ⟨S4096x1024, .f32⟩
  | 65 => ⟨S4096x1024, .f32⟩
  | 66 => ⟨S_, .f32⟩
  | 67 => ⟨S4096, .f32⟩
  | 68 => ⟨S4096x1, .f32⟩
  | 69 => ⟨S_, .f32⟩
  | 70 => ⟨S4096x1, .f32⟩
  | 71 => ⟨S4096x1, .f32⟩
  | 72 => ⟨S_, .f32⟩
  | 73 => ⟨S4096x1, .f32⟩
  | 74 => ⟨S4096x1, .f32⟩
  | 75 => ⟨S4096x1, .f32⟩
  | 76 => ⟨S4096x1024, .f32⟩
  | 77 => ⟨S4096x1024, .f32⟩
  | 78 => ⟨S4096x1024, .f32⟩
  | 79 => ⟨S4096x1024, .f32⟩
  | 80 => ⟨S4096x1024, .f32⟩
  | 81 => ⟨S4096x1024, .f32⟩
  | 82 => ⟨S4096x1024, .f32⟩
  | 83 => ⟨S_, .f32⟩
  | 84 => ⟨S4096, .f32⟩
  | 85 => ⟨S4096x1, .f32⟩
  | 86 => ⟨S_, .f32⟩
  | 87 => ⟨S4096x1, .f32⟩
  | 88 => ⟨S4096x1, .f32⟩
  | 89 => ⟨S4096x1024, .f32⟩
  | 90 => ⟨S4096x1024, .f32⟩
  | 91 => ⟨S4096x1024, .f32⟩
  | 92 => ⟨S4096x1024, .f32⟩
  | 93 => ⟨S4096x1024, .f32⟩
  | 94 => ⟨S4096x1024, .f32⟩
  | 95 => ⟨S4096x1024, .f32⟩
  | 96 => ⟨S4096x1024, .f32⟩
  | 97 => ⟨S_, .f32⟩
  | 98 => ⟨S1024, .f32⟩
  | 99 => ⟨S4096x1024, .f32⟩
  | 100 => ⟨S4096x1024, .f32⟩
  | 101 => ⟨S_, .f32⟩
  | 102 => ⟨S4096x1024, .f32⟩
  | 103 => ⟨S4096x1024, .f32⟩
  | 104 => ⟨S4096x1024, .f32⟩
  | 105 => ⟨S1024x1024, .f32⟩
  | 106 => ⟨S4096x1024, .f32⟩
  | 107 => ⟨S4096x1024, .f32⟩
  | 108 => ⟨S_, .f32⟩
  | 109 => ⟨S4096, .f32⟩
  | 110 => ⟨S4096x1, .f32⟩
  | 111 => ⟨S_, .f32⟩
  | 112 => ⟨S4096x1, .f32⟩
  | 113 => ⟨S4096x1, .f32⟩
  | 114 => ⟨S_, .f32⟩
  | 115 => ⟨S4096x1, .f32⟩
  | 116 => ⟨S4096x1, .f32⟩
  | 117 => ⟨S4096x1, .f32⟩
  | 118 => ⟨S4096x1024, .f32⟩
  | 119 => ⟨S4096x1024, .f32⟩
  | 120 => ⟨S4096x1024, .f32⟩
  | 121 => ⟨S4096x1024, .f32⟩
  | 122 => ⟨S4096x1024, .f32⟩
  | 123 => ⟨S4096x1024, .f32⟩
  | 124 => ⟨S4096x1024, .f32⟩
  | 125 => ⟨S_, .f32⟩
  | 126 => ⟨S4096, .f32⟩
  | 127 => ⟨S4096x1, .f32⟩
  | _ => ⟨S4096x1024, .f32⟩

abbrev hbmTy0_1 (i : Nat) : BufTy := match i % 128 with
  | 0 => ⟨S_, .f32⟩
  | 1 => ⟨S4096x1, .f32⟩
  | 2 => ⟨S4096x1, .f32⟩
  | 3 => ⟨S4096x1024, .f32⟩
  | 4 => ⟨S4096x1024, .f32⟩
  | 5 => ⟨S4096x1024, .f32⟩
  | 6 => ⟨S4096x1024, .f32⟩
  | 7 => ⟨S4096x1024, .f32⟩
  | 8 => ⟨S4096x1024, .f32⟩
  | 9 => ⟨S4096x1024, .f32⟩
  | 10 => ⟨S4096x1024, .f32⟩
  | 11 => ⟨S_, .f32⟩
  | 12 => ⟨S1024, .f32⟩
  | 13 => ⟨S4096x1024, .f32⟩
  | 14 => ⟨S1024x4096, .f32⟩
  | 15 => ⟨S1024x1024, .f32⟩
  | 16 => ⟨S256x4096, .f32⟩
  | 17 => ⟨S4096x1024, .f32⟩
  | 18 => ⟨S256x1024, .f32⟩
  | 19 => ⟨S8x1024, .f32⟩
  | 20 => ⟨S8x1024, .f32⟩
  | 21 => ⟨S8x128, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_cst_9 : Ref sig .tc := ⟨.hbm, 58, rfl⟩
abbrev main_v41 : Ref sig .tc := ⟨.hbm, 59, rfl⟩
abbrev main_cst_10 : Ref sig .tc := ⟨.hbm, 60, rfl⟩
abbrev main_v42 : Ref sig .tc := ⟨.hbm, 61, rfl⟩
abbrev main_cst_11 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_12 : Ref sig .tc := ⟨.hbm, 66, rfl⟩
abbrev main_v46 : Ref sig .tc := ⟨.hbm, 67, rfl⟩
abbrev main_v47 : Ref sig .tc := ⟨.hbm, 68, rfl⟩
abbrev main_cst_13 : Ref sig .tc := ⟨.hbm, 69, rfl⟩
abbrev main_v48 : Ref sig .tc := ⟨.hbm, 70, rfl⟩
abbrev main_v49 : Ref sig .tc := ⟨.hbm, 71, rfl⟩
abbrev main_cst_14 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_15 : Ref sig .tc := ⟨.hbm, 83, rfl⟩
abbrev main_v60 : Ref sig .tc := ⟨.hbm, 84, rfl⟩
abbrev main_v61 : Ref sig .tc := ⟨.hbm, 85, rfl⟩
abbrev main_cst_16 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_17 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst_18 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_cst_19 : Ref sig .tc := ⟨.hbm, 108, rfl⟩
abbrev main_v81 : Ref sig .tc := ⟨.hbm, 109, rfl⟩
abbrev main_v82 : Ref sig .tc := ⟨.hbm, 110, rfl⟩
abbrev main_cst_20 : Ref sig .tc := ⟨.hbm, 111, rfl⟩
abbrev main_v83 : Ref sig .tc := ⟨.hbm, 112, rfl⟩
abbrev main_v84 : Ref sig .tc := ⟨.hbm, 113, rfl⟩
abbrev main_cst_21 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_cst_22 : Ref sig .tc := ⟨.hbm, 125, rfl⟩
abbrev main_v95 : Ref sig .tc := ⟨.hbm, 126, rfl⟩
abbrev main_v96 : Ref sig .tc := ⟨.hbm, 127, rfl⟩
abbrev main_cst_23 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_cst_24 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩

abbrev nD : Nat := 1
abbrev τ : Topo := Topo.v7x

variable {F : FTy → Type} [FloatOps F]
-- ==== FfnBack.lean ====
abbrev S4096x1024 : Shape := ⟨2, ![4096, 1024]⟩
abbrev S1x1024 : Shape := ⟨2, ![1, 1024]⟩
abbrev S4096x2816 : Shape := ⟨2, ![4096, 2816]⟩
abbrev S1024x5632 : Shape := ⟨2, ![1024, 5632]⟩
abbrev S2816x1024 : Shape := ⟨2, ![2816, 1024]⟩
abbrev S8x1024 : Shape := ⟨2, ![8, 1024]⟩
abbrev S512x1024 : Shape := ⟨2, ![512, 1024]⟩
abbrev S512x256 : Shape := ⟨2, ![512, 256]⟩
abbrev S1024x256 : Shape := ⟨2, ![1024, 256]⟩
abbrev S256x1024 : Shape := ⟨2, ![256, 1024]⟩
abbrev S512 : Shape := ⟨1, ![512]⟩
abbrev S512x1 : Shape := ⟨2, ![512, 1]⟩
abbrev S1024 : Shape := ⟨1, ![1024]⟩

abbrev nBuf : Space → Nat
  | .hbm => 12
  | .vmem => 26
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x2816, .f32⟩
  | .hbm, ⟨4, _⟩ => ⟨S4096x2816, .f32⟩
  | .hbm, ⟨5, _⟩ => ⟨S1024x5632, .bf16⟩
  | .hbm, ⟨6, _⟩ => ⟨S2816x1024, .bf16⟩
  | .hbm, ⟨7, _⟩ => ⟨S4096x1024, .f32⟩
  | .hbm, ⟨8, _⟩ => ⟨S4096x2816, .bf16⟩
  | .hbm, ⟨9, _⟩ => ⟨S4096x2816, .bf16⟩
  | .hbm, ⟨10, _⟩ => ⟨S4096x2816, .bf16⟩
  | .hbm, ⟨11, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S1024x256, .bf16⟩
  | .local _ .vmem, ⟨10, _⟩ => ⟨S1024x256, .bf16⟩
  | .local _ .vmem, ⟨11, _⟩ => ⟨S1024x256, .bf16⟩
  | .local _ .vmem, ⟨12, _⟩ => ⟨S1024x256, .bf16⟩
  | .local _ .vmem, ⟨13, _⟩ => ⟨S256x1024, .bf16⟩
  | .local _ .vmem, ⟨14, _⟩ => ⟨S256x1024, .bf16⟩
  | .local _ .vmem, ⟨15, _⟩ => ⟨S512x1024, .f32⟩
  | .local _ .vmem, ⟨16, _⟩ => ⟨S512x1024, .f32⟩
  | .local _ .vmem, ⟨17, _⟩ => ⟨S512x256, .bf16⟩
  | .local _ .vmem, ⟨18, _⟩ => ⟨S512x256, .bf16⟩
  | .local _ .vmem, ⟨19, _⟩ => ⟨S512x256, .bf16⟩
  | .local _ .vmem, ⟨20, _⟩ => ⟨S512x256, .bf16⟩
  | .local _ .vmem, ⟨21, _⟩ => ⟨S512x256, .bf16⟩
  | .local _ .vmem, ⟨22, _⟩ => ⟨S512x256, .bf16⟩
  | .local _ .vmem, ⟨23, _⟩ => ⟨S8x1024, .f32⟩
  | .local _ .vmem, ⟨24, _⟩ => ⟨S512x1024, .f32⟩
  | .local _ .vmem, ⟨25, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23

abbrev nD : Nat := 1
abbrev τ : Topo := Topo.v7x

variable {F : FTy → Type} [FloatOps F]

abbrev grid0 : Pipeline.Grid := ⟨2, ![8, 11], ![false, false]⟩

def k0_cond3 (i : grid0.Coords) : BitVec 1 :=
  let arg1 : BitVec 32 := BitVec.ofNat 32 (i 1).val
  let c10_i32 : BitVec 32 := 10#32
  let v47 : BitVec 1 := Scalar.cmpi .eq arg1 c10_i32
  let v48 : BitVec 32 := Scalar.extui v47
  let c0_i32_32 : BitVec 32 := 0#32
  let v49 : BitVec 1 := Scalar.cmpi .ne v48 c0_i32_32
  v49

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]
-- ==== FfnBackRefIdeal.lean ====
abbrev S4096x1024 : Shape := ⟨2, ![4096, 1024]⟩
abbrev S1x1024 : Shape := ⟨2, ![1, 1024]⟩
abbrev S4096x2816 : Shape := ⟨2, ![4096, 2816]⟩
abbrev S1024x5632 : Shape := ⟨2, ![1024, 5632]⟩
abbrev S2816x1024 : Shape := ⟨2, ![2816, 1024]⟩
abbrev S1024x2816 : Shape := ⟨2, ![1024, 2816]⟩
abbrev S_ : Shape := ⟨0, ![]⟩
abbrev S4096x5632 : Shape := ⟨2, ![4096, 5632]⟩
abbrev S5632x1024 : Shape := ⟨2, ![5632, 1024]⟩
abbrev S4096 : Shape := ⟨1, ![4096]⟩
abbrev S4096x1 : Shape := ⟨2, ![4096, 1]⟩
abbrev S1024 : Shape := ⟨1, ![1024]⟩
abbrev S8x1024 : Shape := ⟨2, ![8, 1024]⟩

abbrev nBuf : Space → Nat
  | .hbm => 75
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x2816, .f32⟩
  | .hbm, ⟨4, _⟩ => ⟨S4096x2816, .f32⟩
  | .hbm, ⟨5, _⟩ => ⟨S1024x5632, .bf16⟩
  | .hbm, ⟨6, _⟩ => ⟨S2816x1024, .bf16⟩
  | .hbm, ⟨7, _⟩ => ⟨S2816x1024, .f32⟩
  | .hbm, ⟨8, _⟩ => ⟨S1024x2816, .f32⟩
  | .hbm, ⟨9, _⟩ => ⟨S4096x2816, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S_, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S_, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x5632, .f32⟩
  | .hbm, ⟨31, _⟩ => ⟨S1024x5632, .f32⟩
  | .hbm, ⟨32, _⟩ => ⟨S5632x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S4096x1, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S4096, .f32⟩
  | .hbm, ⟨54, _⟩ => ⟨S4096x1, .f32⟩
  | .hbm, ⟨55, _⟩ => ⟨S_, .f32⟩
  | .hbm, ⟨56, _⟩ => ⟨S4096x1, .f32⟩
  | .hbm, ⟨57, _⟩ => ⟨S4096x1, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S_, .f32⟩
  | .hbm, ⟨67, _⟩ => ⟨S1024, .f32⟩
  | .hbm, ⟨68, _⟩ => ⟨S4096x1024, .f32⟩
  | .hbm, ⟨69, _⟩ => ⟨S4096x2816, .f32⟩
  | .hbm, ⟨70, _⟩ => ⟨S4096x2816, .f32⟩
  | .hbm, ⟨71, _⟩ => ⟨S4096x2816, .bf16⟩
  | .hbm, ⟨72, _⟩ => ⟨S4096x2816, .bf16⟩
  | .hbm, ⟨73, _⟩ => ⟨S4096x2816, .bf16⟩
  | .hbm, ⟨74, _⟩ => ⟨S8x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_8 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩

abbrev nD : Nat := 1
abbrev τ : Topo := Topo.v7x

variable {F : FTy → Type} [FloatOps F]
-- ==== Mid.lean ====
abbrev S4096x1024 : Shape := ⟨2, ![4096, 1024]⟩
abbrev S4096x512 : Shape := ⟨2, ![4096, 512]⟩
abbrev S4096x5760 : Shape := ⟨2, ![4096, 5760]⟩
abbrev S1x128 : Shape := ⟨2, ![1, 128]⟩
abbrev S512x1024 : Shape := ⟨2, ![512, 1024]⟩
abbrev S1024x1024 : Shape := ⟨2, ![1024, 1024]⟩
abbrev S256x1024 : Shape := ⟨2, ![256, 1024]⟩
abbrev S256x512 : Shape := ⟨2, ![256, 512]⟩
abbrev S256x128 : Shape := ⟨2, ![256, 128]⟩
abbrev S256 : Shape := ⟨1, ![256]⟩
abbrev S256x1 : Shape := ⟨2, ![256, 1]⟩
abbrev S1x512 : Shape := ⟨2, ![1, 512]⟩

abbrev nBuf : Space → Nat
  | .hbm => 10
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S4096x5760, .f32⟩
  | .hbm, ⟨4, _⟩ => ⟨S1x128, .f32⟩
  | .hbm, ⟨5, _⟩ => ⟨S512x1024, .bf16⟩
  | .hbm, ⟨6, _⟩ => ⟨S512x1024, .bf16⟩
  | .hbm, ⟨7, _⟩ => ⟨S1024x1024, .bf16⟩
  | .hbm, ⟨8, _⟩ => ⟨S4096x1024, .f32⟩
  | .hbm, ⟨9, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S1x128, .f32⟩
  | .local _ .vmem, ⟨13, _⟩ => ⟨S512x1024, .bf16⟩
  | .local _ .vmem, ⟨14, _⟩ => ⟨S512x1024, .bf16⟩
  | .local _ .vmem, ⟨15, _⟩ => ⟨S1024x1024, .bf16⟩
  | .local _ .vmem, ⟨16, _⟩ => ⟨S256x1024, .f32⟩
  | .local _ .vmem, ⟨17, _⟩ => ⟨S256x1024, .f32⟩
  | .local _ .vmem, ⟨18, _⟩ => ⟨S256x1024, .bf16⟩
  | .local _ .vmem, ⟨19, _⟩ => ⟨S256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MidRefIdeal.lean ====
abbrev S4096x1024 : Shape := ⟨2, ![4096, 1024]⟩
abbrev S4096x512 : Shape := ⟨2, ![4096, 512]⟩
abbrev S4096x5760 : Shape := ⟨2, ![4096, 5760]⟩
abbrev S1x128 : Shape := ⟨2, ![1, 128]⟩
abbrev S512x1024 : Shape := ⟨2, ![512, 1024]⟩
abbrev S1024x1024 : Shape := ⟨2, ![1024, 1024]⟩
abbrev S4096x4x128 : Shape := ⟨3, ![4096, 4, 128]⟩
abbrev S_ : Shape := ⟨0, ![]⟩
abbrev S4096x4 : Shape := ⟨2, ![4096, 4]⟩
abbrev S4096x4x1 : Shape := ⟨3, ![4096, 4, 1]⟩
abbrev S1x1x128 : Shape := ⟨3, ![1, 1, 128]⟩

abbrev nBuf : Space → Nat
  | .hbm => 66
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S4096x5760, .f32⟩
  | .hbm, ⟨4, _⟩ => ⟨S1x128, .f32⟩
  | .hbm, ⟨5, _⟩ => ⟨S512x1024, .bf16⟩
  | .hbm, ⟨6, _⟩ => ⟨S512x1024, .bf16⟩
  | .hbm, ⟨7, _⟩ => ⟨S1024x1024, .bf16⟩
  | .hbm, ⟨8, _⟩ => ⟨S4096x4x128, .f32⟩
  | .hbm, ⟨9, _⟩ => ⟨S4096x4x128, .f32⟩
  | .hbm, ⟨10, _⟩ => ⟨S_, .f32⟩
  | .hbm, ⟨11, _⟩ => ⟨S4096x4, .f32⟩
  | .hbm, ⟨12, _⟩ => ⟨S4096x4x1, .f32⟩
  | .hbm, ⟨13, _⟩ => ⟨S_, .f32⟩
  | .hbm, ⟨14, _⟩ => ⟨S4096x4x1, .f32⟩
  | .hbm, ⟨15, _⟩ => ⟨S4096x4x1, .f32⟩
  | .hbm, ⟨16, _⟩ => ⟨S_, .f32⟩
  | .hbm, ⟨17, _⟩ => ⟨S4096x4x1, .f32⟩
  | .hbm, ⟨18, _⟩ => ⟨S4096x4x1, .f32⟩
  | .hbm, ⟨19, _⟩ => ⟨S4096x4x1, .f32⟩
  | .hbm, ⟨20, _⟩ => ⟨S4096x4x128, .f32⟩
  | .hbm, ⟨21, _⟩ => ⟨S4096x4x128, .f32⟩
  | .hbm, ⟨22, _⟩ => ⟨S1x1x128, .f32⟩
  | .hbm, ⟨23, _⟩ => ⟨S4096x4x128, .f32⟩
  | .hbm, ⟨24, _⟩ => ⟨S4096x4x128, .f32⟩
  | .hbm, ⟨25, _⟩ => ⟨S4096x512, .f32⟩
  | .hbm, ⟨26, _⟩ => ⟨S4096x512, .f32⟩
  | .hbm, ⟨27, _⟩ => ⟨S4096x512, .f32⟩
  | .hbm, ⟨28, _⟩ => ⟨S4096x512, .f32⟩
  | .hbm, ⟨29, _⟩ => ⟨S_, .f32⟩
  | .hbm, ⟨30, _⟩ => ⟨S4096x512, .f32⟩
  | .hbm, ⟨31, _⟩ => ⟨S4096x512, .f32⟩
  | .hbm, ⟨32, _⟩ => ⟨S_, .f32⟩
  | .hbm, ⟨33, _⟩ => ⟨S4096x512, .f32⟩
  | .hbm, ⟨34, _⟩ => ⟨S4096x512, .f32⟩
  | .hbm, ⟨35, _⟩ => ⟨S4096x512, .f32⟩
  | .hbm, ⟨36, _⟩ => ⟨S4096x512, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S4096x1024, .f32⟩
  | .hbm, ⟨54, _⟩ => ⟨S4096x1024, .f32⟩
  | .hbm, ⟨55, _⟩ => ⟨S512x1024, .f32⟩
  | .hbm, ⟨56, _⟩ => ⟨S4096x1024, .f32⟩
  | .hbm, ⟨57, _⟩ => ⟨S4096x1024, .f32⟩
  | .hbm, ⟨58, _⟩ => ⟨S512x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S1024x1024, .f32⟩
  | .hbm, ⟨63, _⟩ => ⟨S4096x1024, .f32⟩
  | .hbm, ⟨64, _⟩ => ⟨S4096x1024, .f32⟩
  | .hbm, ⟨65, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_2 : Ref sig .tc := ⟨.hbm, 40, rfl⟩
abbrev main_v21 : Ref sig .tc := ⟨.hbm, 41, rfl⟩
abbrev main_v22 : Ref sig .tc := ⟨.hbm, 42, rfl⟩
abbrev main_cst_3 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_4 : Ref sig .tc := ⟨.hbm, 49, rfl⟩
abbrev main_v28 : Ref sig .tc := ⟨.hbm, 50, rfl⟩
abbrev main_v29 : Ref sig .tc := ⟨.hbm, 51, rfl⟩
abbrev main_cst_5 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩

abbrev nD : Nat := 1
abbrev τ : Topo := Topo.v7x

variable {F : FTy → Type} [FloatOps F]
-- ==== MidBack.lean ====
abbrev S4096x1024 : Shape := ⟨2, ![4096, 1024]⟩
abbrev S4096x512 : Shape := ⟨2, ![4096, 512]⟩
abbrev S4096x5760 : Shape := ⟨2, ![4096, 5760]⟩
abbrev S1x128 : Shape := ⟨2, ![1, 128]⟩
abbrev S512x1024 : Shape := ⟨2, ![512, 1024]⟩
abbrev S1024x1024 : Shape := ⟨2, ![1024, 1024]⟩
abbrev S4096x2048 : Shape := ⟨2, ![4096, 2048]⟩
abbrev S8x128 : Shape := ⟨2, ![8, 128]⟩
abbrev S256x1024 : Shape := ⟨2, ![256, 1024]⟩
abbrev S256x512 : Shape := ⟨2, ![256, 512]⟩
abbrev S256x2048 : Shape := ⟨2, ![256, 2048]⟩
abbrev S256x128 : Shape := ⟨2, ![256, 128]⟩
abbrev S256 : Shape := ⟨1, ![256]⟩
abbrev S256x1 : Shape := ⟨2, ![256, 1]⟩
abbrev S1x512 : Shape := ⟨2, ![1, 512]⟩
abbrev S128 : Shape := ⟨1, ![128]⟩

abbrev nBuf : Space → Nat
  | .hbm => 17
  | .vmem => 30
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S4096x512, .f32⟩
  | .hbm, ⟨3, _⟩ => ⟨S4096x512, .f32⟩
  | .hbm, ⟨4, _⟩ => ⟨S4096x5760, .f32⟩
  | .hbm, ⟨5, _⟩ => ⟨S1x128, .f32⟩
  | .hbm, ⟨6, _⟩ => ⟨S512x1024, .bf16⟩
  | .hbm, ⟨7, _⟩ => ⟨S512x1024, .bf16⟩
  | .hbm, ⟨8, _⟩ => ⟨S1024x1024, .bf16⟩
  | .hbm, ⟨9, _⟩ => ⟨S4096x512, .f32⟩
  | .hbm, ⟨10, _⟩ => ⟨S4096x512, .f32⟩
  | .hbm, ⟨11, _⟩ => ⟨S4096x512, .f32⟩
  | .hbm, ⟨12, _⟩ => ⟨S4096x2048, .f32⟩
  | .hbm, ⟨13, _⟩ => ⟨S1024x1024, .f32⟩
  | .hbm, ⟨14, _⟩ => ⟨S512x1024, .f32⟩
  | .hbm, ⟨15, _⟩ => ⟨S512x1024, .f32⟩
  | .hbm, ⟨16, _⟩ => ⟨S8x128, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S1x128, .f32⟩
  | .local _ .vmem, ⟨15, _⟩ => ⟨S512x1024, .bf16⟩
  | .local _ .vmem, ⟨16, _⟩ => ⟨S512x1024, .bf16⟩
  | .local _ .vmem, ⟨17, _⟩ => ⟨S1024x1024, .bf16⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .vmem, ⟨21, _⟩ => ⟨S256x512, .f32⟩
  | .local _ .vmem, ⟨22, _⟩ => ⟨S256x512, .f32⟩
  | .local _ .vmem, ⟨23, _⟩ => ⟨S256x512, .f32⟩
  | .local _ .vmem, ⟨24, _⟩ => ⟨S256x2048, .f32⟩
  | .local _ .vmem, ⟨25, _⟩ => ⟨S256x2048, .f32⟩
  | .local _ .vmem, ⟨26, _⟩ => ⟨S1024x1024, .f32⟩
  | .local _ .vmem, ⟨27, _⟩ => ⟨S512x1024, .f32⟩
  | .local _ .vmem, ⟨28, _⟩ => ⟨S512x1024, .f32⟩
  | .local _ .vmem, ⟨29, _⟩ => ⟨S8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v0_5 : Ref sig .tc := ⟨.hbm, 14, rfl⟩
abbrev main_v0_6 : Ref sig .tc := ⟨.hbm, 15, rfl⟩
abbrev main_v0_7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg17_0 : Ref sig .tc := ⟨.vmem, 28, rfl⟩
abbrev cc0_stg18_0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem16_0 : DmaSem sig := 27
abbrev cc0_sem17_0 : DmaSem sig := 28
abbrev cc0_sem18_0 : DmaSem sig := 29

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1024x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S512x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S512x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S8x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== MidBackRefIdeal.lean ====
abbrev S4096x1024 : Shape := ⟨2, ![4096, 1024]⟩
abbrev S4096x512 : Shape := ⟨2, ![4096, 512]⟩
abbrev S4096x5760 : Shape := ⟨2, ![4096, 5760]⟩
abbrev S1x128 : Shape := ⟨2, ![1, 128]⟩
abbrev S512x1024 : Shape := ⟨2, ![512, 1024]⟩
abbrev S1024x1024 : Shape := ⟨2, ![1024, 1024]⟩
abbrev S4096x4x128 : Shape := ⟨3, ![4096, 4, 128]⟩
abbrev S_ : Shape := ⟨0, ![]⟩
abbrev S4096x4 : Shape := ⟨2, ![4096, 4]⟩
abbrev S4096x4x1 : Shape := ⟨3, ![4096, 4, 1]⟩
abbrev S1x1x128 : Shape := ⟨3, ![1, 1, 128]⟩
abbrev S4096x2048 : Shape := ⟨2, ![4096, 2048]⟩
abbrev S1024x512 : Shape := ⟨2, ![1024, 512]⟩
abbrev S128 : Shape := ⟨1, ![128]⟩
abbrev S1024x4096 : Shape := ⟨2, ![1024, 4096]⟩
abbrev S512x4096 : Shape := ⟨2, ![512, 4096]⟩
abbrev S8x128 : Shape := ⟨2, ![8, 128]⟩

abbrev nBuf : Space → Nat
  | .hbm => 128
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S4096x512, .f32⟩
  | .hbm, ⟨3, _⟩ => ⟨S4096x512, .f32⟩
  | .hbm, ⟨4, _⟩ => ⟨S4096x5760, .f32⟩
  | .hbm, ⟨5, _⟩ => ⟨S1x128, .f32⟩
  | .hbm, ⟨6, _⟩ => ⟨S512x1024, .bf16⟩
  | .hbm, ⟨7, _⟩ => ⟨S512x1024, .bf16⟩
  | .hbm, ⟨8, _⟩ => ⟨S1024x1024, .bf16⟩
  | .hbm, ⟨9, _⟩ => ⟨S512x1024, .f32⟩
  | .hbm, ⟨10, _⟩ => ⟨S512x1024, .f32⟩
  | .hbm, ⟨11, _⟩ => ⟨S4096x4x128, .f32⟩
  | .hbm, ⟨12, _⟩ => ⟨S4096x512, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S4096x4x128, .f32⟩
  | .hbm, ⟨32, _⟩ => ⟨S_, .f32⟩
  | .hbm, ⟨33, _⟩ => ⟨S4096x4, .f32⟩
  | .hbm, ⟨34, _⟩ => ⟨S4096x4x1, .f32⟩
  | .hbm, ⟨35, _⟩ => ⟨S_, .f32⟩
  | .hbm, ⟨36, _⟩ => ⟨S4096x4x1, .f32⟩
  | .hbm, ⟨37, _⟩ => ⟨S4096x4x1, .f32⟩
  | .hbm, ⟨38, _⟩ => ⟨S_, .f32⟩
  | .hbm, ⟨39, _⟩ => ⟨S4096x4x1, .f32⟩
  | .hbm, ⟨40, _⟩ => ⟨S4096x4x1, .f32⟩
  | .hbm, ⟨41, _⟩ => ⟨S4096x4x1, .f32⟩
  | .hbm, ⟨42, _⟩ => ⟨S4096x4x128, .f32⟩
  | .hbm, ⟨43, _⟩ => ⟨S4096x4x128, .f32⟩
  | .hbm, ⟨44, _⟩ => ⟨S1x1x128, .f32⟩
  | .hbm, ⟨45, _⟩ => ⟨S4096x4x128, .f32⟩
  | .hbm, ⟨46, _⟩ => ⟨S4096x4x128, .f32⟩
  | .hbm, ⟨47, _⟩ => ⟨S4096x512, .f32⟩
  | .hbm, ⟨48, _⟩ => ⟨S4096x512, .f32⟩
  | .hbm, ⟨49, _⟩ => ⟨S4096x512, .f32⟩
  | .hbm, ⟨50, _⟩ => ⟨S_, .f32⟩
  | .hbm, ⟨51, _⟩ => ⟨S4096x512, .f32⟩
  | .hbm, ⟨52, _⟩ => ⟨S4096x512, .f32⟩
  | .hbm, ⟨53, _⟩ => ⟨S_, .f32⟩
  | .hbm, ⟨54, _⟩ => ⟨S4096x512, .f32⟩
  | .hbm, ⟨55, _⟩ => ⟨S4096x512, .f32⟩
  | .hbm, ⟨56, _⟩ => ⟨S4096x512, .f32⟩
  | .hbm, ⟨57, _⟩ => ⟨S4096x512, .f32⟩
  | .hbm, ⟨58, _⟩ => ⟨S1024x1024, .f32⟩
  | .hbm, ⟨59, _⟩ => ⟨S1024x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S_, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S_, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x2048, .f32⟩
  | .hbm, ⟨78, _⟩ => ⟨S1024x512, .f32⟩
  | .hbm, ⟨79, _⟩ => ⟨S4096x512, .f32⟩
  | .hbm, ⟨80, _⟩ => ⟨S4096x512, .f32⟩
  | .hbm, ⟨81, _⟩ => ⟨S_, .f32⟩
  | .hbm, ⟨82, _⟩ => ⟨S4096x512, .f32⟩
  | .hbm, ⟨83, _⟩ => ⟨S4096x512, .f32⟩
  | .hbm, ⟨84, _⟩ => ⟨S4096x512, .f32⟩
  | .hbm, ⟨85, _⟩ => ⟨S_, .f32⟩
  | .hbm, ⟨86, _⟩ => ⟨S4096x512, .f32⟩
  | .hbm, ⟨87, _⟩ => ⟨S4096x512, .f32⟩
  | .hbm, ⟨88, _⟩ => ⟨S4096x512, .f32⟩
  | .hbm, ⟨89, _⟩ => ⟨S4096x512, .f32⟩
  | .hbm, ⟨90, _⟩ => ⟨S4096x512, .f32⟩
  | .hbm, ⟨91, _⟩ => ⟨S4096x512, .f32⟩
  | .hbm, ⟨92, _⟩ => ⟨S4096x4x128, .f32⟩
  | .hbm, ⟨93, _⟩ => ⟨S1x1x128, .f32⟩
  | .hbm, ⟨94, _⟩ => ⟨S4096x4x128, .f32⟩
  | .hbm, ⟨95, _⟩ => ⟨S4096x4x128, .f32⟩
  | .hbm, ⟨96, _⟩ => ⟨S4096x4x128, .f32⟩
  | .hbm, ⟨97, _⟩ => ⟨S4096x4x128, .f32⟩
  | .hbm, ⟨98, _⟩ => ⟨S4096x4x128, .f32⟩
  | .hbm, ⟨99, _⟩ => ⟨S4096x4x128, .f32⟩
  | .hbm, ⟨100, _⟩ => ⟨S4096x4x128, .f32⟩
  | .hbm, ⟨101, _⟩ => ⟨S_, .f32⟩
  | .hbm, ⟨102, _⟩ => ⟨S4096x4, .f32⟩
  | .hbm, ⟨103, _⟩ => ⟨S4096x4x1, .f32⟩
  | .hbm, ⟨104, _⟩ => ⟨S_, .f32⟩
  | .hbm, ⟨105, _⟩ => ⟨S4096x4x1, .f32⟩
  | .hbm, ⟨106, _⟩ => ⟨S4096x4x1, .f32⟩
  | .hbm, ⟨107, _⟩ => ⟨S4096x4x128, .f32⟩
  | .hbm, ⟨108, _⟩ => ⟨S4096x4x128, .f32⟩
  | .hbm, ⟨109, _⟩ => ⟨S4096x4x128, .f32⟩
  | .hbm, ⟨110, _⟩ => ⟨S4096x4x128, .f32⟩
  | .hbm, ⟨111, _⟩ => ⟨S4096x4x128, .f32⟩
  | .hbm, ⟨112, _⟩ => ⟨S4096x4x128, .f32⟩
  | .hbm, ⟨113, _⟩ => ⟨S4096x4x128, .f32⟩
  | .hbm, ⟨114, _⟩ => ⟨S4096x4x128, .f32⟩
  | .hbm, ⟨115, _⟩ => ⟨S_, .f32⟩
  | .hbm, ⟨116, _⟩ => ⟨S128, .f32⟩
  | .hbm, ⟨117, _⟩ => ⟨S1024x512, .f32⟩
  | .hbm, ⟨118, _⟩ => ⟨S4096x512, .f32⟩
  | .hbm, ⟨119, _⟩ => ⟨S4096x512, .f32⟩
  | .hbm, ⟨120, _⟩ => ⟨S4096x1024, .f32⟩
  | .hbm, ⟨121, _⟩ => ⟨S1024x4096, .f32⟩
  | .hbm, ⟨122, _⟩ => ⟨S1024x1024, .f32⟩
  | .hbm, ⟨123, _⟩ => ⟨S512x4096, .f32⟩
  | .hbm, ⟨124, _⟩ => ⟨S512x1024, .f32⟩
  | .hbm, ⟨125, _⟩ => ⟨S512x4096, .f32⟩
  | .hbm, ⟨126, _⟩ => ⟨S512x1024, .f32⟩
  | .hbm, ⟨127, _⟩ => ⟨S8x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_8 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_9 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_10 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_11 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_cst_12 : Ref sig .tc := ⟨.hbm, 101, rfl⟩
abbrev main_v79 : Ref sig .tc := ⟨.hbm, 102, rfl⟩
abbrev main_v80 : Ref sig .tc := ⟨.hbm, 103, rfl⟩
abbrev main_cst_13 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_cst_14 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩

abbrev nD : Nat := 1
abbrev τ : Topo := Topo.v7x

variable {F : FTy → Type} [FloatOps F]
-- ==== DwGate.lean ====
abbrev S4096x1024 : Shape := ⟨2, ![4096, 1024]⟩
abbrev S4096x2816 : Shape := ⟨2, ![4096, 2816]⟩
abbrev S1024x2816 : Shape := ⟨2, ![1024, 2816]⟩
abbrev S512x1024 : Shape := ⟨2, ![512, 1024]⟩
abbrev S512x256 : Shape := ⟨2, ![512, 256]⟩
abbrev S1024x256 : Shape := ⟨2, ![1024, 256]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S1024x2816, .f32⟩
  | .local _ .vmem, ⟨0, _⟩ => ⟨S512x1024, .bf16⟩
  | .local _ .vmem, ⟨1, _⟩ => ⟨S512x1024, .bf16⟩
  | .local _ .vmem, ⟨2, _⟩ => ⟨S512x256, .bf16⟩
  | .local _ .vmem, ⟨3, _⟩ => ⟨S512x256, .bf16⟩
  | .local _ .vmem, ⟨4, _⟩ => ⟨S1024x256, .f32⟩
  | .local _ .vmem, ⟨5, _⟩ => ⟨S1024x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 11, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwGateRefIdeal.lean ====
abbrev S4096x1024 : Shape := ⟨2, ![4096, 1024]⟩
abbrev S4096x2816 : Shape := ⟨2, ![4096, 2816]⟩
abbrev S1024x4096 : Shape := ⟨2, ![1024, 4096]⟩
abbrev S1024x2816 : Shape := ⟨2, ![1024, 2816]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S4096x1024, .f32⟩
  | .hbm, ⟨3, _⟩ => ⟨S1024x4096, .f32⟩
  | .hbm, ⟨4, _⟩ => ⟨S4096x2816, .f32⟩
  | .hbm, ⟨5, _⟩ => ⟨S1024x2816, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== DwIn2048.lean ====
abbrev S4096x1024 : Shape := ⟨2, ![4096, 1024]⟩
abbrev S4096x2048 : Shape := ⟨2, ![4096, 2048]⟩
abbrev S1024x2048 : Shape := ⟨2, ![1024, 2048]⟩
abbrev S512x1024 : Shape := ⟨2, ![512, 1024]⟩
abbrev S512x512 : Shape := ⟨2, ![512, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .f32⟩
  | .hbm, ⟨2, _⟩ => ⟨S1024x2048, .f32⟩
  | .local _ .vmem, ⟨0, _⟩ => ⟨S512x1024, .bf16⟩
  | .local _ .vmem, ⟨1, _⟩ => ⟨S512x1024, .bf16⟩
  | .local _ .vmem, ⟨2, _⟩ => ⟨S512x512, .f32⟩
  | .local _ .vmem, ⟨3, _⟩ => ⟨S512x512, .f32⟩
  | .local _ .vmem, ⟨4, _⟩ => ⟨S1024x512, .f32⟩
  | .local _ .vmem, ⟨5, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwIn2048Ideal.lean ====
abbrev S4096x1024 : Shape := ⟨2, ![4096, 1024]⟩
abbrev S4096x2048 : Shape := ⟨2, ![4096, 2048]⟩
abbrev S1024x2048 : Shape := ⟨2, ![1024, 2048]⟩
abbrev S512x1024 : Shape := ⟨2, ![512, 1024]⟩
abbrev S512x512 : Shape := ⟨2, ![512, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .f32⟩
  | .hbm, ⟨2, _⟩ => ⟨S1024x2048, .f32⟩
  | .local _ .vmem, ⟨0, _⟩ => ⟨S512x1024, .bf16⟩
  | .local _ .vmem, ⟨1, _⟩ => ⟨S512x1024, .bf16⟩
  | .local _ .vmem, ⟨2, _⟩ => ⟨S512x512, .f32⟩
  | .local _ .vmem, ⟨3, _⟩ => ⟨S512x512, .f32⟩
  | .local _ .vmem, ⟨4, _⟩ => ⟨S1024x512, .f32⟩
  | .local _ .vmem, ⟨5, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwIn2048RefIdeal.lean ====
abbrev S4096x1024 : Shape := ⟨2, ![4096, 1024]⟩
abbrev S4096x2048 : Shape := ⟨2, ![4096, 2048]⟩
abbrev S1024x4096 : Shape := ⟨2, ![1024, 4096]⟩
abbrev S1024x2048 : Shape := ⟨2, ![1024, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .f32⟩
  | .hbm, ⟨2, _⟩ => ⟨S4096x1024, .f32⟩
  | .hbm, ⟨3, _⟩ => ⟨S1024x4096, .f32⟩
  | .hbm, ⟨4, _⟩ => ⟨S1024x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DwIn1536.lean ====
abbrev S4096x1024 : Shape := ⟨2, ![4096, 1024]⟩
abbrev S4096x1536 : Shape := ⟨2, ![4096, 1536]⟩
abbrev S1024x1536 : Shape := ⟨2, ![1024, 1536]⟩
abbrev S512x1024 : Shape := ⟨2, ![512, 1024]⟩
abbrev S512x512 : Shape := ⟨2, ![512, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1536, .f32⟩
  | .hbm, ⟨2, _⟩ => ⟨S1024x1536, .f32⟩
  | .local _ .vmem, ⟨0, _⟩ => ⟨S512x1024, .bf16⟩
  | .local _ .vmem, ⟨1, _⟩ => ⟨S512x1024, .bf16⟩
  | .local _ .vmem, ⟨2, _⟩ => ⟨S512x512, .f32⟩
  | .local _ .vmem, ⟨3, _⟩ => ⟨S512x512, .f32⟩
  | .local _ .vmem, ⟨4, _⟩ => ⟨S1024x512, .f32⟩
  | .local _ .vmem, ⟨5, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwIn1536Ideal.lean ====
abbrev S4096x1024 : Shape := ⟨2, ![4096, 1024]⟩
abbrev S4096x1536 : Shape := ⟨2, ![4096, 1536]⟩
abbrev S1024x1536 : Shape := ⟨2, ![1024, 1536]⟩
abbrev S512x1024 : Shape := ⟨2, ![512, 1024]⟩
abbrev S512x512 : Shape := ⟨2, ![512, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1536, .f32⟩
  | .hbm, ⟨2, _⟩ => ⟨S1024x1536, .f32⟩
  | .local _ .vmem, ⟨0, _⟩ => ⟨S512x1024, .bf16⟩
  | .local _ .vmem, ⟨1, _⟩ => ⟨S512x1024, .bf16⟩
  | .local _ .vmem, ⟨2, _⟩ => ⟨S512x512, .f32⟩
  | .local _ .vmem, ⟨3, _⟩ => ⟨S512x512, .f32⟩
  | .local _ .vmem, ⟨4, _⟩ => ⟨S1024x512, .f32⟩
  | .local _ .vmem, ⟨5, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwIn1536RefIdeal.lean ====
abbrev S4096x1024 : Shape := ⟨2, ![4096, 1024]⟩
abbrev S4096x1536 : Shape := ⟨2, ![4096, 1536]⟩
abbrev S1024x4096 : Shape := ⟨2, ![1024, 4096]⟩
abbrev S1024x1536 : Shape := ⟨2, ![1024, 1536]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1536, .f32⟩
  | .hbm, ⟨2, _⟩ => ⟨S4096x1024, .f32⟩
  | .hbm, ⟨3, _⟩ => ⟨S1024x4096, .f32⟩
  | .hbm, ⟨4, _⟩ => ⟨S1024x1536, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DwIn512.lean ====
abbrev S4096x1024 : Shape := ⟨2, ![4096, 1024]⟩
abbrev S4096x512 : Shape := ⟨2, ![4096, 512]⟩
abbrev S1024x512 : Shape := ⟨2, ![1024, 512]⟩
abbrev S512x1024 : Shape := ⟨2, ![512, 1024]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x512, .f32⟩
  | .hbm, ⟨2, _⟩ => ⟨S1024x512, .f32⟩
  | .local _ .vmem, ⟨0, _⟩ => ⟨S512x1024, .bf16⟩
  | .local _ .vmem, ⟨1, _⟩ => ⟨S512x1024, .bf16⟩
  | .local _ .vmem, ⟨2, _⟩ => ⟨S512x512, .f32⟩
  | .local _ .vmem, ⟨3, _⟩ => ⟨S512x512, .f32⟩
  | .local _ .vmem, ⟨4, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwIn512Ideal.lean ====
abbrev S4096x1024 : Shape := ⟨2, ![4096, 1024]⟩
abbrev S4096x512 : Shape := ⟨2, ![4096, 512]⟩
abbrev S1024x512 : Shape := ⟨2, ![1024, 512]⟩
abbrev S512x1024 : Shape := ⟨2, ![512, 1024]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x512, .f32⟩
  | .hbm, ⟨2, _⟩ => ⟨S1024x512, .f32⟩
  | .local _ .vmem, ⟨0, _⟩ => ⟨S512x1024, .bf16⟩
  | .local _ .vmem, ⟨1, _⟩ => ⟨S512x1024, .bf16⟩
  | .local _ .vmem, ⟨2, _⟩ => ⟨S512x512, .f32⟩
  | .local _ .vmem, ⟨3, _⟩ => ⟨S512x512, .f32⟩
  | .local _ .vmem, ⟨4, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwIn512RefIdeal.lean ====
abbrev S4096x1024 : Shape := ⟨2, ![4096, 1024]⟩
abbrev S4096x512 : Shape := ⟨2, ![4096, 512]⟩
abbrev S1024x4096 : Shape := ⟨2, ![1024, 4096]⟩
abbrev S1024x512 : Shape := ⟨2, ![1024, 512]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x512, .f32⟩
  | .hbm, ⟨2, _⟩ => ⟨S4096x1024, .f32⟩
  | .hbm, ⟨3, _⟩ => ⟨S1024x4096, .f32⟩
  | .hbm, ⟨4, _⟩ => ⟨S1024x512, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DwIn128.lean ====
abbrev S4096x1024 : Shape := ⟨2, ![4096, 1024]⟩
abbrev S4096x128 : Shape := ⟨2, ![4096, 128]⟩
abbrev S1024x128 : Shape := ⟨2, ![1024, 128]⟩
abbrev S512x1024 : Shape := ⟨2, ![512, 1024]⟩
abbrev S512x128 : Shape := ⟨2, ![512, 128]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x128, .f32⟩
  | .hbm, ⟨2, _⟩ => ⟨S1024x128, .f32⟩
  | .local _ .vmem, ⟨0, _⟩ => ⟨S512x1024, .bf16⟩
  | .local _ .vmem, ⟨1, _⟩ => ⟨S512x1024, .bf16⟩
  | .local _ .vmem, ⟨2, _⟩ => ⟨S512x128, .f32⟩
  | .local _ .vmem, ⟨3, _⟩ => ⟨S512x128, .f32⟩
  | .local _ .vmem, ⟨4, _⟩ => ⟨S1024x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwIn128RefIdeal.lean ====
abbrev S4096x1024 : Shape := ⟨2, ![4096, 1024]⟩
abbrev S4096x128 : Shape := ⟨2, ![4096, 128]⟩
abbrev S1024x4096 : Shape := ⟨2, ![1024, 4096]⟩
abbrev S1024x128 : Shape := ⟨2, ![1024, 128]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x128, .f32⟩
  | .hbm, ⟨2, _⟩ => ⟨S4096x1024, .f32⟩
  | .hbm, ⟨3, _⟩ => ⟨S1024x4096, .f32⟩
  | .hbm, ⟨4, _⟩ => ⟨S1024x128, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Conv.lean ====
abbrev S4096x5760 : Shape := ⟨2, ![4096, 5760]⟩
abbrev S8x1536 : Shape := ⟨2, ![8, 1536]⟩
abbrev S4096x1536 : Shape := ⟨2, ![4096, 1536]⟩
abbrev S2048x512 : Shape := ⟨2, ![2048, 512]⟩
abbrev S8x512 : Shape := ⟨2, ![8, 512]⟩
abbrev S1x512 : Shape := ⟨2, ![1, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x5760, .f32⟩
  | .hbm, ⟨1, _⟩ => ⟨S8x1536, .f32⟩
  | .hbm, ⟨2, _⟩ => ⟨S4096x1536, .f32⟩
  | .local _ .vmem, ⟨0, _⟩ => ⟨S2048x512, .f32⟩
  | .local _ .vmem, ⟨1, _⟩ => ⟨S2048x512, .f32⟩
  | .local _ .vmem, ⟨2, _⟩ => ⟨S8x512, .f32⟩
  | .local _ .vmem, ⟨3, _⟩ => ⟨S8x512, .f32⟩
  | .local _ .vmem, ⟨4, _⟩ => ⟨S2048x512, .f32⟩
  | .local _ .vmem, ⟨5, _⟩ => ⟨S2048x512, .f32⟩
  | _, _ => ⟨S4096x5760, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 3], ![false, false]⟩

def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi c7_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ConvRefIdeal.lean ====
abbrev S4096x5760 : Shape := ⟨2, ![4096, 5760]⟩
abbrev S8x1536 : Shape := ⟨2, ![8, 1536]⟩
abbrev S4096x1536 : Shape := ⟨2, ![4096, 1536]⟩
abbrev S2x2048x1536 : Shape := ⟨3, ![2, 2048, 1536]⟩
abbrev S_ : Shape := ⟨0, ![]⟩
abbrev S2x2051x1536 : Shape := ⟨3, ![2, 2051, 1536]⟩
abbrev S1x1536 : Shape := ⟨2, ![1, 1536]⟩
abbrev S1536 : Shape := ⟨1, ![1536]⟩
abbrev S1x1x1536 : Shape := ⟨3, ![1, 1, 1536]⟩

abbrev nBuf : Space → Nat
  | .hbm => 44
  | .vmem => 0
  | .smem => 0
  | _ => 0

abbrev bufTy : (tb : Table) → Fin (tcTables nBuf tb) → BufTy
  | .hbm, ⟨0, _⟩ => ⟨S4096x5760, .f32⟩
  | .hbm, ⟨1, _⟩ => ⟨S8x1536, .f32⟩
  | .hbm, ⟨2, _⟩ => ⟨S4096x1536, .f32⟩
  | .hbm, ⟨3, _⟩ => ⟨S2x2048x1536, .f32⟩
  | .hbm, ⟨4, _⟩ => ⟨S_, .i32⟩
  | .hbm, ⟨5, _⟩ => ⟨S_, .f32⟩
  | .hbm, ⟨6, _⟩ => ⟨S2x2051x1536, .f32⟩
  | .hbm, ⟨7, _⟩ => ⟨S2x2048x1536, .f32⟩
  | .hbm, ⟨8, _⟩ => ⟨S1x1536, .f32⟩
  | .hbm, ⟨9, _⟩ => ⟨S1536, .f32⟩
  | .hbm, ⟨10, _⟩ => ⟨S1x1x1536, .f32⟩
  | .hbm, ⟨11, _⟩ => ⟨S2x2048x1536, .f32⟩
  | .hbm, ⟨12, _⟩ => ⟨S2x2048x1536, .f32⟩
  | .hbm, ⟨13, _⟩ => ⟨S2x2048x1536, .f32⟩
  | .hbm, ⟨14, _⟩ => ⟨S1x1536, .f32⟩
  | .hbm, ⟨15, _⟩ => ⟨S1536, .f32⟩
  | .hbm, ⟨16, _⟩ => ⟨S1x1x1536, .f32⟩
  | .hbm, ⟨17, _⟩ => ⟨S2x2048x1536, .f32⟩
  | .hbm, ⟨18, _⟩ => ⟨S2x2048x1536, .f32⟩
  | .hbm, ⟨19, _⟩ => ⟨S2x2048x1536, .f32⟩
  | .hbm, ⟨20, _⟩ => ⟨S2x2048x1536, .f32⟩
  | .hbm, ⟨21, _⟩ => ⟨S1x1536, .f32⟩
  | .hbm, ⟨22, _⟩ => ⟨S1536, .f32⟩
  | .hbm, ⟨23, _⟩ => ⟨S1x1x1536, .f32⟩
  | .hbm, ⟨24, _⟩ => ⟨S2x2048x1536, .f32⟩
  | .hbm, ⟨25, _⟩ => ⟨S2x2048x1536, .f32⟩
  | .hbm, ⟨26, _⟩ => ⟨S2x2048x1536, .f32⟩
  | .hbm, ⟨27, _⟩ => ⟨S2x2048x1536, .f32⟩
  | .hbm, ⟨28, _⟩ => ⟨S1x1536, .f32⟩
  | .hbm, ⟨29, _⟩ => ⟨S1536, .f32⟩
  | .hbm, ⟨30, _⟩ => ⟨S1x1x1536, .f32⟩
  | .hbm, ⟨31, _⟩ => ⟨S2x2048x1536, .f32⟩
  | .hbm, ⟨32, _⟩ => ⟨S2x2048x1536, .f32⟩
  | .hbm, ⟨33, _⟩ => ⟨S2x2048x1536, .f32⟩
  | .hbm, ⟨34, _⟩ => ⟨S2x2048x1536, .f32⟩
  | .hbm, ⟨35, _⟩ => ⟨S2x2048x1536, .f32⟩
  | .hbm, ⟨36, _⟩ => ⟨S_, .f32⟩
  | .hbm, ⟨37, _⟩ => ⟨S2x2048x1536, .f32⟩
  | .hbm, ⟨38, _⟩ => ⟨S2x2048x1536, .f32⟩
  | .hbm, ⟨39, _⟩ => ⟨S_, .f32⟩
  | .hbm, ⟨40, _⟩ => ⟨S2x2048x1536, .f32⟩
  | .hbm, ⟨41, _⟩ => ⟨S2x2048x1536, .f32⟩
  | .hbm, ⟨42, _⟩ => ⟨S2x2048x1536, .f32⟩
  | .hbm, ⟨43, _⟩ => ⟨S4096x1536, .f32⟩
  | _, _ => ⟨S4096x5760, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_call1_v0 : Ref sig .tc := ⟨.hbm, 34, rfl⟩
abbrev main_call1_v1 : Ref sig .tc := ⟨.hbm, 35, rfl⟩
abbrev main_call1_cst : Ref sig .tc := ⟨.hbm, 36, rfl⟩
abbrev main_call1_v2 : Ref sig .tc := ⟨.hbm, 37, rfl⟩
abbrev main_call1_v3 : Ref sig .tc := ⟨.hbm, 38, rfl⟩
abbrev main_call1_cst_0 : Ref sig .tc := ⟨.hbm, 39, rfl⟩
abbrev main_call1_v4 : Ref sig .tc := ⟨.hbm, 40, rfl⟩
abbrev main_call1_v5 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]
-- ==== ConvBack.lean ====
abbrev S4096x5760 : Shape := ⟨2, ![4096, 5760]⟩
abbrev S8x1536 : Shape := ⟨2, ![8, 1536]⟩
abbrev S3x4096x512 : Shape := ⟨3, ![3, 4096, 512]⟩
abbrev S4096x1536 : Shape := ⟨2, ![4096, 1536]⟩
abbrev S2048x512 : Shape := ⟨2, ![2048, 512]⟩
abbrev S8x512 : Shape := ⟨2, ![8, 512]⟩
abbrev S1x2048x512 : Shape := ⟨3, ![1, 2048, 512]⟩
abbrev S1x512 : Shape := ⟨2, ![1, 512]⟩
abbrev S512 : Shape := ⟨1, ![512]⟩

abbrev nBuf : Space → Nat
  | .hbm => 5
  | .vmem => 10
  | .smem => 0
  | _ => 0

abbrev bufTy : (tb : Table) → Fin (tcTables nBuf tb) → BufTy
  | .hbm, ⟨0, _⟩ => ⟨S4096x5760, .f32⟩
  | .hbm, ⟨1, _⟩ => ⟨S8x1536, .f32⟩
  | .hbm, ⟨2, _⟩ => ⟨S3x4096x512, .f32⟩
  | .hbm, ⟨3, _⟩ => ⟨S4096x1536, .f32⟩
  | .hbm, ⟨4, _⟩ => ⟨S8x1536, .f32⟩
  | .local _ .vmem, ⟨0, _⟩ => ⟨S2048x512, .f32⟩
  | .local _ .vmem, ⟨1, _⟩ => ⟨S2048x512, .f32⟩
  | .local _ .vmem, ⟨2, _⟩ => ⟨S8x512, .f32⟩
  | .local _ .vmem, ⟨3, _⟩ => ⟨S8x512, .f32⟩
  | .local _ .vmem, ⟨4, _⟩ => ⟨S1x2048x512, .f32⟩
  | .local _ .vmem, ⟨5, _⟩ => ⟨S1x2048x512, .f32⟩
  | .local _ .vmem, ⟨6, _⟩ => ⟨S2048x512, .f32⟩
  | .local _ .vmem, ⟨7, _⟩ => ⟨S2048x512, .f32⟩
  | .local _ .vmem, ⟨8, _⟩ => ⟨S8x512, .f32⟩
  | .local _ .vmem, ⟨9, _⟩ => ⟨S8x512, .f32⟩
  | _, _ => ⟨S4096x5760, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![3, 2], ![false, false]⟩

def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi c7_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ConvBackRefIdeal.lean ====
abbrev S4096x5760 : Shape := ⟨2, ![4096, 5760]⟩
abbrev S8x1536 : Shape := ⟨2, ![8, 1536]⟩
abbrev S3x4096x512 : Shape := ⟨3, ![3, 4096, 512]⟩
abbrev S4096x1536 : Shape := ⟨2, ![4096, 1536]⟩
abbrev S2x2048x1536 : Shape := ⟨3, ![2, 2048, 1536]⟩
abbrev S_ : Shape := ⟨0, ![]⟩
abbrev S2x2051x1536 : Shape := ⟨3, ![2, 2051, 1536]⟩
abbrev S1x1536 : Shape := ⟨2, ![1, 1536]⟩
abbrev S1536 : Shape := ⟨1, ![1536]⟩
abbrev S1x1x1536 : Shape := ⟨3, ![1, 1, 1536]⟩
abbrev S4096x3x512 : Shape := ⟨3, ![4096, 3, 512]⟩
abbrev S2x1536 : Shape := ⟨2, ![2, 1536]⟩
abbrev S4x1536 : Shape := ⟨2, ![4, 1536]⟩

abbrev nBuf : Space → Nat
  | .hbm => 116
  | .vmem => 0
  | .smem => 0
  | _ => 0

abbrev bufTy : (tb : Table) → Fin (tcTables nBuf tb) → BufTy
  | .hbm, ⟨0, _⟩ => ⟨S4096x5760, .f32⟩
  | .hbm, ⟨1, _⟩ => ⟨S8x1536, .f32⟩
  | .hbm, ⟨2, _⟩ => ⟨S3x4096x512, .f32⟩
  | .hbm, ⟨3, _⟩ => ⟨S4096x1536, .f32⟩
  | .hbm, ⟨4, _⟩ => ⟨S2x2048x1536, .f32⟩
  | .hbm, ⟨5, _⟩ => ⟨S_, .i32⟩
  | .hbm, ⟨6, _⟩ => ⟨S_, .f32⟩
  | .hbm, ⟨7, _⟩ => ⟨S2x2051x1536, .f32⟩
  | .hbm, ⟨8, _⟩ => ⟨S2x2048x1536, .f32⟩
  | .hbm, ⟨9, _⟩ => ⟨S1x1536, .f32⟩
  | .hbm, ⟨10, _⟩ => ⟨S1536, .f32⟩
  | .hbm, ⟨11, _⟩ => ⟨S1x1x1536, .f32⟩
  | .hbm, ⟨12, _⟩ => ⟨S2x2048x1536, .f32⟩
  | .hbm, ⟨13, _⟩ => ⟨S2x2048x1536, .f32⟩
  | .hbm, ⟨14, _⟩ => ⟨S2x2048x1536, .f32⟩
  | .hbm, ⟨15, _⟩ => ⟨S1x1536, .f32⟩
  | .hbm, ⟨16, _⟩ => ⟨S1536, .f32⟩
  | .hbm, ⟨17, _⟩ => ⟨S1x1x1536, .f32⟩
  | .hbm, ⟨18, _⟩ => ⟨S2x2048x1536, .f32⟩
  | .hbm, ⟨19, _⟩ => ⟨S2x2048x1536, .f32⟩
  | .hbm, ⟨20, _⟩ => ⟨S2x2048x1536, .f32⟩
  | .hbm, ⟨21, _⟩ => ⟨S2x2048x1536, .f32⟩
  | .hbm, ⟨22, _⟩ => ⟨S1x1536, .f32⟩
  | .hbm, ⟨23, _⟩ => ⟨S1536, .f32⟩
  | .hbm, ⟨24, _⟩ => ⟨S1x1x1536, .f32⟩
  | .hbm, ⟨25, _⟩ => ⟨S2x2048x1536, .f32⟩
  | .hbm, ⟨26, _⟩ => ⟨S2x2048x1536, .f32⟩
  | .hbm, ⟨27, _⟩ => ⟨S2x2048x1536, .f32⟩
  | .hbm, ⟨28, _⟩ => ⟨S2x2048x1536, .f32⟩
  | .hbm, ⟨29, _⟩ => ⟨S1x1536, .f32⟩
  | .hbm, ⟨30, _⟩ => ⟨S1536, .f32⟩
  | .hbm, ⟨31, _⟩ => ⟨S1x1x1536, .f32⟩
  | .hbm, ⟨32, _⟩ => ⟨S2x2048x1536, .f32⟩
  | .hbm, ⟨33, _⟩ => ⟨S2x2048x1536, .f32⟩
  | .hbm, ⟨34, _⟩ => ⟨S2x2048x1536, .f32⟩
  | .hbm, ⟨35, _⟩ => ⟨S4096x3x512, .f32⟩
  | .hbm, ⟨36, _⟩ => ⟨S2x2048x1536, .f32⟩
  | .hbm, ⟨37, _⟩ => ⟨S2x2048x1536, .f32⟩
  | .hbm, ⟨38, _⟩ => ⟨S2x2048x1536, .f32⟩
  | .hbm, ⟨39, _⟩ => ⟨S_, .f32⟩
  | .hbm, ⟨40, _⟩ => ⟨S2x2048x1536, .f32⟩
  | .hbm, ⟨41, _⟩ => ⟨S2x2048x1536, .f32⟩
  | .hbm, ⟨42, _⟩ => ⟨S_, .f32⟩
  | .hbm, ⟨43, _⟩ => ⟨S2x2048x1536, .f32⟩
  | .hbm, ⟨44, _⟩ => ⟨S2x2048x1536, .f32⟩
  | .hbm, ⟨45, _⟩ => ⟨S_, .f32⟩
  | .hbm, ⟨46, _⟩ => ⟨S2x2048x1536, .f32⟩
  | .hbm, ⟨47, _⟩ => ⟨S2x2048x1536, .f32⟩
  | .hbm, ⟨48, _⟩ => ⟨S2x2048x1536, .f32⟩
  | .hbm, ⟨49, _⟩ => ⟨S_, .f32⟩
  | .hbm, ⟨50, _⟩ => ⟨S2x2048x1536, .f32⟩
  | .hbm, ⟨51, _⟩ => ⟨S2x2048x1536, .f32⟩
  | .hbm, ⟨52, _⟩ => ⟨S2x2048x1536, .f32⟩
  | .hbm, ⟨53, _⟩ => ⟨S2x2048x1536, .f32⟩
  | .hbm, ⟨54, _⟩ => ⟨S_, .i32⟩
  | .hbm, ⟨55, _⟩ => ⟨S_, .f32⟩
  | .hbm, ⟨56, _⟩ => ⟨S2x2051x1536, .f32⟩
  | .hbm, ⟨57, _⟩ => ⟨S2x2048x1536, .f32⟩
  | .hbm, ⟨58, _⟩ => ⟨S1x1536, .f32⟩
  | .hbm, ⟨59, _⟩ => ⟨S1536, .f32⟩
  | .hbm, ⟨60, _⟩ => ⟨S1x1x1536, .f32⟩
  | .hbm, ⟨61, _⟩ => ⟨S2x2048x1536, .f32⟩
  | .hbm, ⟨62, _⟩ => ⟨S2x2048x1536, .f32⟩
  | .hbm, ⟨63, _⟩ => ⟨S2x2048x1536, .f32⟩
  | .hbm, ⟨64, _⟩ => ⟨S1x1536, .f32⟩
  | .hbm, ⟨65, _⟩ => ⟨S1536, .f32⟩
  | .hbm, ⟨66, _⟩ => ⟨S1x1x1536, .f32⟩
  | .hbm, ⟨67, _⟩ => ⟨S2x2048x1536, .f32⟩
  | .hbm, ⟨68, _⟩ => ⟨S2x2048x1536, .f32⟩
  | .hbm, ⟨69, _⟩ => ⟨S2x2048x1536, .f32⟩
  | .hbm, ⟨70, _⟩ => ⟨S2x2048x1536, .f32⟩
  | .hbm, ⟨71, _⟩ => ⟨S1x1536, .f32⟩
  | .hbm, ⟨72, _⟩ => ⟨S1536, .f32⟩
  | .hbm, ⟨73, _⟩ => ⟨S1x1x1536, .f32⟩
  | .hbm, ⟨74, _⟩ => ⟨S2x2048x1536, .f32⟩
  | .hbm, ⟨75, _⟩ => ⟨S2x2048x1536, .f32⟩
  | .hbm, ⟨76, _⟩ => ⟨S2x2048x1536, .f32⟩
  | .hbm, ⟨77, _⟩ => ⟨S2x2048x1536, .f32⟩
  | .hbm, ⟨78, _⟩ => ⟨S1x1536, .f32⟩
  | .hbm, ⟨79, _⟩ => ⟨S1536, .f32⟩
  | .hbm, ⟨80, _⟩ => ⟨S1x1x1536, .f32⟩
  | .hbm, ⟨81, _⟩ => ⟨S2x2048x1536, .f32⟩
  | .hbm, ⟨82, _⟩ => ⟨S2x2048x1536, .f32⟩
  | .hbm, ⟨83, _⟩ => ⟨S2x2048x1536, .f32⟩
  | .hbm, ⟨84, _⟩ => ⟨S2x2048x1536, .f32⟩
  | .hbm, ⟨85, _⟩ => ⟨S2x2048x1536, .f32⟩
  | .hbm, ⟨86, _⟩ => ⟨S_, .f32⟩
  | .hbm, ⟨87, _⟩ => ⟨S2x1536, .f32⟩
  | .hbm, ⟨88, _⟩ => ⟨S_, .f32⟩
  | .hbm, ⟨89, _⟩ => ⟨S1536, .f32⟩
  | .hbm, ⟨90, _⟩ => ⟨S1x1536, .f32⟩
  | .hbm, ⟨91, _⟩ => ⟨S2x2048x1536, .f32⟩
  | .hbm, ⟨92, _⟩ => ⟨S2x2048x1536, .f32⟩
  | .hbm, ⟨93, _⟩ => ⟨S_, .f32⟩
  | .hbm, ⟨94, _⟩ => ⟨S2x1536, .f32⟩
  | .hbm, ⟨95, _⟩ => ⟨S_, .f32⟩
  | .hbm, ⟨96, _⟩ => ⟨S1536, .f32⟩
  | .hbm, ⟨97, _⟩ => ⟨S1x1536, .f32⟩
  | .hbm, ⟨98, _⟩ => ⟨S2x2048x1536, .f32⟩
  | .hbm, ⟨99, _⟩ => ⟨S2x2048x1536, .f32⟩
  | .hbm, ⟨100, _⟩ => ⟨S_, .f32⟩
  | .hbm, ⟨101, _⟩ => ⟨S2x1536, .f32⟩
  | .hbm, ⟨102, _⟩ => ⟨S_, .f32⟩
  | .hbm, ⟨103, _⟩ => ⟨S1536, .f32⟩
  | .hbm, ⟨104, _⟩ => ⟨S1x1536, .f32⟩
  | .hbm, ⟨105, _⟩ => ⟨S2x2048x1536, .f32⟩
  | .hbm, ⟨106, _⟩ => ⟨S2x2048x1536, .f32⟩
  | .hbm, ⟨107, _⟩ => ⟨S_, .f32⟩
  | .hbm, ⟨108, _⟩ => ⟨S2x1536, .f32⟩
  | .hbm, ⟨109, _⟩ => ⟨S_, .f32⟩
  | .hbm, ⟨110, _⟩ => ⟨S1536, .f32⟩
  | .hbm, ⟨111, _⟩ => ⟨S1x1536, .f32⟩
  | .hbm, ⟨112, _⟩ => ⟨S4096x1536, .f32⟩
  | .hbm, ⟨113, _⟩ => ⟨S_, .f32⟩
  | .hbm, ⟨114, _⟩ => ⟨S4x1536, .f32⟩
  | .hbm, ⟨115, _⟩ => ⟨S8x1536, .f32⟩
  | _, _ => ⟨S4096x5760, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_cst : Ref sig .tc := ⟨.hbm, 39, rfl⟩
abbrev main_v34 : Ref sig .tc := ⟨.hbm, 40, rfl⟩
abbrev main_v35 : Ref sig .tc := ⟨.hbm, 41, rfl⟩
abbrev main_cst_0 : Ref sig .tc := ⟨.hbm, 42, rfl⟩
abbrev main_v36 : Ref sig .tc := ⟨.hbm, 43, rfl⟩
abbrev main_v37 : Ref sig .tc := ⟨.hbm, 44, rfl⟩
abbrev main_cst_1 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_cst_2 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_c_3 : Ref sig .tc := ⟨.hbm, 54, rfl⟩
abbrev main_call1_v0 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_cst_4 : Ref sig .tc := ⟨.hbm, 86, rfl⟩
abbrev main_v75 : Ref sig .tc := ⟨.hbm, 87, rfl⟩
abbrev main_cst_5 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_cst_6 : Ref sig .tc := ⟨.hbm, 93, rfl⟩
abbrev main_v80 : Ref sig .tc := ⟨.hbm, 94, rfl⟩
abbrev main_cst_7 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_cst_8 : Ref sig .tc := ⟨.hbm, 100, rfl⟩
abbrev main_v85 : Ref sig .tc := ⟨.hbm, 101, rfl⟩
abbrev main_cst_9 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_cst_10 : Ref sig .tc := ⟨.hbm, 107, rfl⟩
abbrev main_v90 : Ref sig .tc := ⟨.hbm, 108, rfl⟩
abbrev main_cst_11 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_cst_12 : Ref sig .tc := ⟨.hbm, 113, rfl⟩
abbrev main_v94 : Ref sig .tc := ⟨.hbm, 114, rfl⟩
abbrev main_v95 : Ref sig .tc := ⟨.hbm, 115, rfl⟩

abbrev nD : Nat := 1
abbrev τ : Topo := Topo.v7x

variable {F : FTy → Type} [FloatOps F]
-- ==== Att.lean ====
abbrev S4096x5760 : Shape := ⟨2, ![4096, 5760]⟩
abbrev S8x64x576 : Shape := ⟨3, ![8, 64, 576]⟩
abbrev S4096x512 : Shape := ⟨2, ![4096, 512]⟩
abbrev S64x128 : Shape := ⟨2, ![64, 128]⟩
abbrev S2048x128 : Shape := ⟨2, ![2048, 128]⟩
abbrev S2x64x576 : Shape := ⟨3, ![2, 64, 576]⟩
abbrev S2560x128 : Shape := ⟨2, ![2560, 128]⟩
abbrev S512x128 : Shape := ⟨2, ![512, 128]⟩
abbrev S576x128 : Shape := ⟨2, ![576, 128]⟩
abbrev S64x576 : Shape := ⟨2, ![64, 576]⟩
abbrev S1x64x576 : Shape := ⟨3, ![1, 64, 576]⟩
abbrev S64 : Shape := ⟨1, ![64]⟩
abbrev S64x1 : Shape := ⟨2, ![64, 1]⟩

abbrev nBuf : Space → Nat
  | .hbm => 4
  | .vmem => 14
  | .smem => 0
  | _ => 0

abbrev bufTy : (tb : Table) → Fin (tcTables nBuf tb) → BufTy
  | .hbm, ⟨0, _⟩ => ⟨S4096x5760, .f32⟩
  | .hbm, ⟨1, _⟩ => ⟨S8x64x576, .f32⟩
  | .hbm, ⟨2, _⟩ => ⟨S4096x512, .f32⟩
  | .hbm, ⟨3, _⟩ => ⟨S4096x512, .f32⟩
  | .local _ .vmem, ⟨0, _⟩ => ⟨S64x128, .f32⟩
  | .local _ .vmem, ⟨1, _⟩ => ⟨S64x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2x64x576, .f32⟩
  | .local _ .vmem, ⟨7, _⟩ => ⟨S2x64x576, .f32⟩
  | .local _ .vmem, ⟨8, _⟩ => ⟨S64x128, .f32⟩
  | .local _ .vmem, ⟨9, _⟩ => ⟨S64x128, .f32⟩
  | .local _ .vmem, ⟨10, _⟩ => ⟨S64x128, .f32⟩
  | .local _ .vmem, ⟨11, _⟩ => ⟨S64x128, .f32⟩
  | .local _ .vmem, ⟨12, _⟩ => ⟨S2560x128, .bf16⟩
  | .local _ .vmem, ⟨13, _⟩ => ⟨S2560x128, .bf16⟩
  | _, _ => ⟨S4096x5760, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 4, 32], ![false, false, false]⟩

def k0_mult1 (i : grid0.Coords) : BitVec 32 :=
  let arg2 : BitVec 32 := BitVec.ofNat 32 (i 2).val
  let c64_i32 : BitVec 32 := 64#32
  let v3 : BitVec 32 := Scalar.muli arg2 c64_i32
  v3
def k0_off1 (i : grid0.Coords) : Fin 2 → Nat :=
  let arg2 : BitVec 32 := BitVec.ofNat 32 (i 2).val
  let c64_i32 : BitVec 32 := 64#32
  let v3 : BitVec 32 := Scalar.muli arg2 c64_i32
  let v4 : BitVec 32 := v3
  let v5 : Index := Scalar.indexCast v4
  let c0 : Index := 0#32
  ![v5.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c16_i32 : BitVec 32 := 16#32
  let v2 : BitVec 32 := Scalar.addi c16_i32 arg1
  let c0_i32 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.addi c20_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c24_i32 : BitVec 32 := 24#32
  let v0 : BitVec 32 := Scalar.addi c24_i32 arg1
  let c0_i32 : BitVec 32 := 0#32
  ![arg0.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

abbrev stage0_0 : Fin 2 → Memref sig .tc .vmem S64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2x64x576 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== AttRefIdeal.lean ====
abbrev S4096x5760 : Shape := ⟨2, ![4096, 5760]⟩
abbrev S8x64x576 : Shape := ⟨3, ![8, 64, 576]⟩
abbrev S4096x512 : Shape := ⟨2, ![4096, 512]⟩
abbrev S2x32x64x8x64 : Shape := ⟨5, ![2, 32, 64, 8, 64]⟩
abbrev S2x8x32x64x64 : Shape := ⟨5, ![2, 8, 32, 64, 64]⟩
abbrev S_ : Shape := ⟨0, ![]⟩
abbrev S4096x1024 : Shape := ⟨2, ![4096, 1024]⟩
abbrev S2x32x64x16x64 : Shape := ⟨5, ![2, 32, 64, 16, 64]⟩
abbrev S2x16x32x64x64 : Shape := ⟨5, ![2, 16, 32, 64, 64]⟩
abbrev S2x16x40x64x64 : Shape := ⟨5, ![2, 16, 40, 64, 64]⟩
abbrev S2x16x32x576x64 : Shape := ⟨5, ![2, 16, 32, 576, 64]⟩
abbrev S2x8x32x576x64 : Shape := ⟨5, ![2, 8, 32, 576, 64]⟩
abbrev S2x8x32x64x576 : Shape := ⟨5, ![2, 8, 32, 64, 576]⟩
abbrev S1x8x1x64x576 : Shape := ⟨5, ![1, 8, 1, 64, 576]⟩
abbrev S576 : Shape := ⟨1, ![576]⟩
abbrev S1x576 : Shape := ⟨2, ![1, 576]⟩
abbrev S32 : Shape := ⟨1, ![32]⟩
abbrev S32x1 : Shape := ⟨2, ![32, 1]⟩
abbrev S32x576 : Shape := ⟨2, ![32, 576]⟩
abbrev S1x1x32x1x576 : Shape := ⟨5, ![1, 1, 32, 1, 576]⟩
abbrev S2x8x32x64 : Shape := ⟨4, ![2, 8, 32, 64]⟩
abbrev S2x8x32x64x1 : Shape := ⟨5, ![2, 8, 32, 64, 1]⟩

abbrev nBuf : Space → Nat
  | .hbm => 68
  | .vmem => 0
  | .smem => 0
  | _ => 0

abbrev bufTy : (tb : Table) → Fin (tcTables nBuf tb) → BufTy
  | .hbm, ⟨0, _⟩ => ⟨S4096x5760, .f32⟩
  | .hbm, ⟨1, _⟩ => ⟨S8x64x576, .f32⟩
  | .hbm, ⟨2, _⟩ => ⟨S4096x512, .f32⟩
  | .hbm, ⟨3, _⟩ => ⟨S2x32x64x8x64, .f32⟩
  | .hbm, ⟨4, _⟩ => ⟨S2x8x32x64x64, .f32⟩
  | .hbm, ⟨5, _⟩ => ⟨S_, .f32⟩
  | .hbm, ⟨6, _⟩ => ⟨S2x8x32x64x64, .f32⟩
  | .hbm, ⟨7, _⟩ => ⟨S2x8x32x64x64, .f32⟩
  | .hbm, ⟨8, _⟩ => ⟨S4096x1024, .f32⟩
  | .hbm, ⟨9, _⟩ => ⟨S2x32x64x16x64, .f32⟩
  | .hbm, ⟨10, _⟩ => ⟨S2x16x32x64x64, .f32⟩
  | .hbm, ⟨11, _⟩ => ⟨S_, .i32⟩
  | .hbm, ⟨12, _⟩ => ⟨S_, .f32⟩
  | .hbm, ⟨13, _⟩ => ⟨S2x16x40x64x64, .f32⟩
  | .hbm, ⟨14, _⟩ => ⟨S2x16x32x64x64, .f32⟩
  | .hbm, ⟨15, _⟩ => ⟨S2x16x32x64x64, .f32⟩
  | .hbm, ⟨16, _⟩ => ⟨S2x16x32x64x64, .f32⟩
  | .hbm, ⟨17, _⟩ => ⟨S2x16x32x64x64, .f32⟩
  | .hbm, ⟨18, _⟩ => ⟨S2x16x32x64x64, .f32⟩
  | .hbm, ⟨19, _⟩ => ⟨S2x16x32x64x64, .f32⟩
  | .hbm, ⟨20, _⟩ => ⟨S2x16x32x64x64, .f32⟩
  | .hbm, ⟨21, _⟩ => ⟨S2x16x32x64x64, .f32⟩
  | .hbm, ⟨22, _⟩ => ⟨S2x16x32x64x64, .f32⟩
  | .hbm, ⟨23, _⟩ => ⟨S2x16x32x576x64, .f32⟩
  | .hbm, ⟨24, _⟩ => ⟨S2x8x32x576x64, .f32⟩
  | .hbm, ⟨25, _⟩ => ⟨S2x8x32x576x64, .f32⟩
  | .hbm, ⟨26, _⟩ => ⟨S2x8x32x64x576, .f32⟩
  | .hbm, ⟨27, _⟩ => ⟨S1x8x1x64x576, .f32⟩
  | .hbm, ⟨28, _⟩ => ⟨S2x8x32x64x576, .f32⟩
  | .hbm, ⟨29, _⟩ => ⟨S2x8x32x64x576, .f32⟩
  | .hbm, ⟨30, _⟩ => ⟨S576, .i32⟩
  | .hbm, ⟨31, _⟩ => ⟨S1x576, .i32⟩
  | .hbm, ⟨32, _⟩ => ⟨S32, .i32⟩
  | .hbm, ⟨33, _⟩ => ⟨S32x1, .i32⟩
  | .hbm, ⟨34, _⟩ => ⟨S_, .i32⟩
  | .hbm, ⟨35, _⟩ => ⟨S32x1, .i32⟩
  | .hbm, ⟨36, _⟩ => ⟨S32x1, .i32⟩
  | .hbm, ⟨37, _⟩ => ⟨S_, .i32⟩
  | .hbm, ⟨38, _⟩ => ⟨S32x1, .i32⟩
  | .hbm, ⟨39, _⟩ => ⟨S32x1, .i32⟩
  | .hbm, ⟨40, _⟩ => ⟨S32x576, .i32⟩
  | .hbm, ⟨41, _⟩ => ⟨S32x576, .i32⟩
  | .hbm, ⟨42, _⟩ => ⟨S32x576, .i1⟩
  | .hbm, ⟨43, _⟩ => ⟨S1x1x32x1x576, .i1⟩
  | .hbm, ⟨44, _⟩ => ⟨S_, .f32⟩
  | .hbm, ⟨45, _⟩ => ⟨S_, .f32⟩
  | .hbm, ⟨46, _⟩ => ⟨S2x8x32x64x576, .i1⟩
  | .hbm, ⟨47, _⟩ => ⟨S2x8x32x64x576, .f32⟩
  | .hbm, ⟨48, _⟩ => ⟨S2x8x32x64x576, .f32⟩
  | .hbm, ⟨49, _⟩ => ⟨S_, .f32⟩
  | .hbm, ⟨50, _⟩ => ⟨S2x8x32x64, .f32⟩
  | .hbm, ⟨51, _⟩ => ⟨S2x8x32x64x1, .f32⟩
  | .hbm, ⟨52, _⟩ => ⟨S2x8x32x64x576, .f32⟩
  | .hbm, ⟨53, _⟩ => ⟨S2x8x32x64x576, .f32⟩
  | .hbm, ⟨54, _⟩ => ⟨S2x8x32x64x576, .f32⟩
  | .hbm, ⟨55, _⟩ => ⟨S_, .f32⟩
  | .hbm, ⟨56, _⟩ => ⟨S2x8x32x64, .f32⟩
  | .hbm, ⟨57, _⟩ => ⟨S2x8x32x64x1, .f32⟩
  | .hbm, ⟨58, _⟩ => ⟨S2x8x32x64x64, .f32⟩
  | .hbm, ⟨59, _⟩ => ⟨S2x8x32x64x64, .f32⟩
  | .hbm, ⟨60, _⟩ => ⟨S2x8x32x64x64, .f32⟩
  | .hbm, ⟨61, _⟩ => ⟨S2x8x32x64x1, .f32⟩
  | .hbm, ⟨62, _⟩ => ⟨S2x8x32x64x1, .f32⟩
  | .hbm, ⟨63, _⟩ => ⟨S2x8x32x64x64, .f32⟩
  | .hbm, ⟨64, _⟩ => ⟨S2x32x64x8x64, .f32⟩
  | .hbm, ⟨65, _⟩ => ⟨S4096x512, .f32⟩
  | .hbm, ⟨66, _⟩ => ⟨S2x32x64x8x64, .f32⟩
  | .hbm, ⟨67, _⟩ => ⟨S4096x512, .f32⟩
  | _, _ => ⟨S4096x5760, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_call0_v0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_c_0 : Ref sig .tc := ⟨.hbm, 34, rfl⟩
abbrev main_v29 : Ref sig .tc := ⟨.hbm, 35, rfl⟩
abbrev main_v30 : Ref sig .tc := ⟨.hbm, 36, rfl⟩
abbrev main_c_1 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_cst_2 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v37 : Ref sig .tc := ⟨.hbm, 48, rfl⟩
abbrev main_cst_3 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_4 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩

abbrev nD : Nat := 1
abbrev τ : Topo := Topo.v7x

variable {F : FTy → Type} [FloatOps F]
-- ==== Proof.Mail.lean ====
/-
A kernel that only moves data: a plan of one-shot deliveries.

Every device runs the same kernel, which owns a finite family of semaphores. Each of them is credited exactly once, by
exactly one transfer, and its owner waits for it exactly once. A `Plan` says, per semaphore, how many units the transfer
credits, which device's semaphore a device's own transfer credits, and what the owner holds after the wait. From a plan
come the rounds (`Plan.sched`: one round, one duty per cell) and the three steps a kernel body takes: start a copy on the
device itself, start a copy to another device, wait.
-/
module

public import Idealize.ShloMosaic.Lib.Pipeline.Launch
public import Idealize.ShloMosaic.Lib.Pipeline.Kit
public import Idealize.ShloMosaic.Lib.Tactic

@[expose] public section

noncomputable section

namespace Cert.Mail

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

set_option Elab.async false

/-- The ghost state of one copy of the rounds library over the machine's semaphores. -/
abbrev UR (nD : ℕ) (τ : Topo) (sig : RefSig) : Type := URounds (GSem nD τ sig) Unit

/-- Two copies: the launch's own, and the plan's. -/
abbrev UU (nD : ℕ) (τ : Topo) (sig : RefSig) : Type := UR nD τ sig × UR nD τ sig

/-- The logic's resources for a program over these devices and buffers. -/
abbrev MM (nD : ℕ) (τ : Topo) (sig : RefSig) (Val : EltTy → Type) : Type := MT nD τ sig Unit Val ℕ (UU nD τ sig) ℕ

variable {nD : ℕ} {τ : Topo} {sig : RefSig} {Val : EltTy → Type}

local notation "𝕄" => MM nD τ sig Val

/-- The launch's copy. -/
abbrev EP : Emb (UR nD τ sig) (MM nD τ sig Val) := embL
/-- The plan's copy. -/
abbrev ER : Emb (UR nD τ sig) (MM nD τ sig Val) := embR

/-- A plan of one-shot deliveries over the semaphores `K`. -/
structure Plan (nD : ℕ) (τ : Topo) (sig : RefSig) (Val : EltTy → Type) (K : Type) where
  /-- The semaphore of each name. -/
  sem : K → SemLoc sig
  /-- The units its one transfer credits. -/
  units : K → ℕ
  /-- The device whose semaphore `k` is credited by device `c`'s transfer. -/
  dest : K → Equiv.Perm (Dev nD)
  /-- Whether the credit is owed from the launch on (it comes from another device). -/
  far : K → Bool
  /-- The level of a semaphore: a device waits only below everything it still owes. -/
  lvl : SemLoc sig → ℕ
  /-- What device `c` holds after waiting for `k`. -/
  pay : Dev nD → K → sProp (MM nD τ sig Val)
  sem_inj : Function.Injective sem
  units_pos : ∀ k, 0 < units k
  pay_storable : ∀ c k, BI.Storable (upEmb : UEmb _ (MM nD τ sig Val)) (pay c k)

namespace Plan

variable {K : Type} [Fintype K] [DecidableEq K] (P : Plan nD τ sig Val K)

/-- Device `c`'s cell of semaphore `k`. -/
abbrev cell (c : Dev nD) (k : K) : GSem nD τ sig := ((c.tc : Thread nD τ), P.sem k)

theorem cell_injective : Function.Injective fun ck : Dev nD × K => P.cell ck.1 ck.2 := by
  rintro ⟨c, k⟩ ⟨c', k'⟩ h
  have h1 : c = c' := congrArg (fun g : GSem nD τ sig => g.1.1) h
  have h2 : k = k' := P.sem_inj (congrArg Prod.snd h)
  rw [h1, h2]

/-- The cells of the plan among all semaphores. -/
def IsCell (g : GSem nD τ sig) : Prop := g.1.2 = .tc ∧ ∃ k, P.sem k = g.2

theorem isCell (c : Dev nD) (k : K) : P.IsCell (P.cell c k) := ⟨rfl, k, rfl⟩

theorem choose_sem (k : K) (h : ∃ k', P.sem k' = P.sem k) : h.choose = k := P.sem_inj h.choose_spec

open scoped Classical in
/-- The rounds of the plan: round 0 of each cell has one duty, later rounds none. -/
def sched : Schedule (GSem nD τ sig) Unit 𝕄 where
  duties g r := if r = 0 ∧ P.IsCell g then {()} else ∅
  unitless _ := False
  amount g _ _ := if h : ∃ k, P.sem k = g.2 then P.units h.choose else 1
  payload g _ _ := if h : ∃ k, P.sem k = g.2 then P.pay g.1.1 h.choose else iprop(emp)
  amount_pos g _ _ _ := by
    by_cases h : ∃ k, P.sem k = g.2
    · rw [dif_pos h]; exact P.units_pos _
    · rw [dif_neg h]; exact Nat.one_pos

instance sched_storable (g : GSem nD τ sig) (r : ℕ) (d : Unit) : BI.Storable (upEmb : UEmb _ 𝕄) (P.sched.payload g r d) := by
  dsimp only [sched]
  split
  · exact P.pay_storable _ _
  · infer_instance

theorem duties_cell (c : Dev nD) (k : K) : P.sched.duties (P.cell c k) 0 = {()} := by
  dsimp only [sched]; exact if_pos ⟨rfl, P.isCell c k⟩

theorem mem_duties (c : Dev nD) (k : K) : () ∈ P.sched.duties (P.cell c k) 0 := by
  rw [duties_cell]; exact Finset.mem_singleton_self _

theorem duties_later (g : GSem nD τ sig) : ∀ r, 1 ≤ r → P.sched.duties g r = ∅ := fun r hr => by
  dsimp only [sched]; exact if_neg fun h => by omega

theorem amount_cell (c : Dev nD) (k : K) (u : Unit) : P.sched.amount (P.cell c k) 0 u = P.units k := by
  have h : ∃ k', P.sem k' = (P.cell c k).2 := ⟨k, rfl⟩
  dsimp only [sched]
  rw [dif_pos h, P.choose_sem k h]

theorem payload_cell (c : Dev nD) (k : K) (u : Unit) : P.sched.payload (P.cell c k) 0 u = P.pay c k := by
  have h : ∃ k', P.sem k' = (P.cell c k).2 := ⟨k, rfl⟩
  dsimp only [sched]
  rw [dif_pos h, P.choose_sem k h]

theorem expect_cell (c : Dev nD) (k : K) : P.sched.expect (P.cell c k) 0 = P.units k := by
  unfold Schedule.expect Schedule.amountOf; rw [duties_cell, Finset.sum_singleton, amount_cell]

theorem rest_cell (c : Dev nD) (k : K) :
    bigSep (P.sched.duties (P.cell c k) 0 \ ∅) (fun u => P.sched.payload (P.cell c k) 0 u) = P.pay c k := by
  rw [Finset.sdiff_empty, duties_cell, bigSep_singleton, payload_cell]

/-- What every device knows from the launch on: every cell follows the plan and is in round 0. -/
def records (κ : Dev nD × K → ℕ) : sProp 𝕄 :=
  iprop((bigSep Finset.univ fun ck : Dev nD × K => cellInv ER P.sched (κ ck) (P.cell ck.1 ck.2))
    ∗ bigSep Finset.univ fun ck : Dev nD × K => reached ER (P.cell ck.1 ck.2) 0)

instance records_persistent (κ : Dev nD × K → ℕ) : BI.Persistent (P.records κ) := by unfold records; infer_instance

theorem records_inv (κ : Dev nD × K → ℕ) (c : Dev nD) (k : K) :
    P.records κ ⊢ cellInv ER P.sched (κ (c, k)) (P.cell c k) := by
  unfold records
  exact Laws.sep_elim_left.trans (bigSep_elim (Finset.mem_univ (c, k)))

theorem records_reached (κ : Dev nD × K → ℕ) (c : Dev nD) (k : K) :
    P.records κ ⊢ reached ER (P.cell c k) 0 := by
  unfold records
  exact Laws.sep_elim_right.trans (bigSep_elim (Finset.mem_univ (c, k)))

/-- The right to make device `c`'s one transfer that credits `k` (on whichever device that cell lies). -/
def tok (c : Dev nD) (k : K) : sProp 𝕄 := dutyTok ER (P.cell (P.dest k c) k) 0 ()

/-- The right to wait for `k` on device `c`. -/
def seat (c : Dev nD) (k : K) : sProp 𝕄 := atPos ER (P.cell c k) 0 ∅ 0

/-- The credit that a wait for `k` spends. -/
def coin (c : Dev nD) (k : K) : sProp 𝕄 := cred (tallyAt (P.cell c k) () (P.units k))

/-- The units device `c` owes for its transfer that credits `k`. -/
def due (c : Dev nD) (k : K) : CellTallies nD τ sig Unit := tallyAt (P.cell (P.dest k c) k) () (P.units k)

/-! ## The steps -/

section Steps

variable {Λ : Labels} {defs : Defs nD τ sig Val Λ} (𝒱 : Variants) (κ : Dev nD × K → ℕ)
variable {α : Type} {Q : α → sProp (MM nD τ sig Val)}

/-- A copy on the device itself, crediting its own cell `k`: spends the right to it, gives the credit. -/
theorem wp_copy (c : Dev nD) (k : K) {sm : SemLoc sig} (hsm : sm = P.sem k) (hto : P.dest k c = c) {sp sp' : Space} {s : Shape} {e : EltTy}
    {src : Memref sig .tc sp s e} {dst : Memref sig .tc sp' s e}
    {hsrc : src.view.WordExact} {hdst : dst.view.WordExact} {hsem : DmaTarget.Typed (nD := nD) (τ := τ) (p := .tc) sp sm (.here dst)}
    {kt : PUnit → Prog (TpuEff nD τ sig Val Λ .tc) α} {q : PosShare TreeShare}
    {fs : Buf Val (src.view.loc (c : Thread nD τ))} {fd : Buf Val (dst.view.loc (c : Thread nD τ))}
    (hN : dst.view.amount sm = P.units k)
    (hpay : iprop((dst.view.loc (c : Thread nD τ) ↦[dst.view.set]{fullShare} (dst.view.write Val fd (src.view.read Val fs) Finset.univ))
        ∗ (src.view.loc (c : Thread nD τ) ↦[src.view.set]{q} fs)) ⊢ P.pay c k) :
    iprop(P.records κ ∗ (src.view.loc (c : Thread nD τ) ↦[src.view.set]{q} fs)
        ∗ (dst.view.loc (c : Thread nD τ) ↦[dst.view.set]{fullShare} fd) ∗ P.tok c k)
      ⊢ iprop((P.coin c k -∗ wp frame (wpE defs 𝒱 (c : Thread nD τ) none) Set.univ (kt ⟨⟩) Q)
          -∗ wp frame (wpE defs 𝒱 (c : Thread nD τ) none) Set.univ (.op (.enqueueDma src (.here dst) sm hsrc hdst hsem) kt) Q) := by
  subst hsm
  unfold tok coin
  rw [hto]
  iintro ⟨#HR, Hs, Hd, Ht⟩ Hk
  iapply (Rounds.wp_copy_pointsTo 𝒱 ER P.sched (c : Thread nD τ) none (κ := κ (c, k)) (r := 0) (d := ()) (P.mem_duties c k) () (P.units k) hN
    (P.amount_cell c k ()) (by rw [P.payload_cell]; exact hpay)) $$ [Hs Hd Ht]
  · isplitr; · iapply (P.records_inv κ c k); iexact HR
    isplitl [Hs]; · iexact Hs
    isplitl [Hd]; · iexact Hd
    isplitl [Ht]; · iexact Ht
    iapply (P.records_reached κ c k); iexact HR
  iexact Hk

/-- A copy to device `n` (the program may name it by another expression, `n'`), crediting the sender's own cell `ks` and cell `kr` of `n`: spends the two rights, pays what the
    sender owed for `kr`, gives the credit on `ks`. -/
theorem wp_send (c n : Dev nD) {n' : Dev nD} (hn : n' = n) (ks kr : K) {ss sr : SemLoc sig} (hss : ss = P.sem ks) (hsr : sr = P.sem kr) (hs : P.dest ks c = c) (hr : P.dest kr c = n) {sp sp' : Space} {s : Shape} {e : EltTy}
    {src : Memref sig .tc sp s e} {dst : Memref sig .tc sp' s e} {hsc : dst.view.ref.isScScratch = false}
    {hsrc : src.view.WordExact} {hdst : dst.view.WordExact}
    {hsem : DmaTarget.Typed sp sr (.remote (Dev.tc n' : Thread nD τ) dst ss hsc)}
    {kt : PUnit → Prog (TpuEff nD τ sig Val Λ .tc) α} {q : PosShare TreeShare}
    {fs : Buf Val (src.view.loc (c : Thread nD τ))} {fd : Buf Val (dst.view.loc (n : Thread nD τ))}
    (hN : dst.view.amount sr = P.units kr) (hu : P.units ks = P.units kr)
    {O₀ : CellTallies nD τ sig Unit} (O : CellTallies nD τ sig Unit) (hO : O₀ = O + P.due c kr) {W : Waits sig Unit}
    (hpay₁ : (src.view.loc (c : Thread nD τ) ↦[src.view.set]{q} fs) ⊢ P.pay c ks)
    (hpay₂ : (dst.view.loc (n : Thread nD τ) ↦[dst.view.set]{fullShare} (dst.view.write Val fd (src.view.read Val fs) Finset.univ)) ⊢ P.pay n kr)
    (hroute : τ.routes (c : Thread nD τ) (n : Thread nD τ) = true := by routes) :
    iprop(P.records κ ∗ (src.view.loc (c : Thread nD τ) ↦[src.view.set]{q} fs)
        ∗ (dst.view.loc (n : Thread nD τ) ↦[dst.view.set]{fullShare} fd) ∗ owes (c : Thread nD τ) O₀ W ∗ P.tok c ks ∗ P.tok c kr)
      ⊢ iprop(((P.coin c ks ∗ owes (c : Thread nD τ) O W) -∗ wp frame (wpE defs 𝒱 (c : Thread nD τ) none) Set.univ (kt ⟨⟩) Q)
          -∗ wp frame (wpE defs 𝒱 (c : Thread nD τ) none) Set.univ
              (.op (.enqueueDma src (.remote (Dev.tc n' : Thread nD τ) dst ss hsc) sr hsrc hdst hsem) kt) Q) := by
  subst hn hr hss hsr
  unfold tok coin
  rw [hs, hu]
  iintro ⟨#HR, Hs, Hd, HO, Hts, Htr⟩ Hk
  iapply (Rounds.wp_send_pointsTo 𝒱 ER P.sched (c : Thread nD τ) none (κ₁ := κ (c, ks)) (κ₂ := κ (P.dest kr c, kr)) (r₁ := 0) (r₂ := 0)
    (d₁ := ()) (d₂ := ()) (P.mem_duties c ks) (P.mem_duties (P.dest kr c) kr) () () (P.units kr) hN
    ((P.amount_cell c ks ()).trans hu) (P.amount_cell (P.dest kr c) kr ()) O hO (W := W)
    (by rw [P.payload_cell]; exact hpay₁) (by rw [P.payload_cell]; exact hpay₂) (hr := hroute)) $$ [Hs Hd HO Hts Htr]
  · isplitr; · iapply (P.records_inv κ c ks); iexact HR
    isplitr; · iapply (P.records_inv κ (P.dest kr c) kr); iexact HR
    isplitl [Hs]; · iexact Hs
    isplitl [Hd]; · iexact Hd
    isplitl [HO]; · iexact HO
    isplitl [Hts]; · iexact Hts
    isplitr; · iapply (P.records_reached κ c ks); iexact HR
    isplitl [Htr]; · iexact Htr
    iapply (P.records_reached κ (P.dest kr c) kr); iexact HR
  iexact Hk

/-- The wait for `k`: spends the credit and the seat; gives what the transfer delivers and the counter, at zero for good. -/
theorem wp_wait (c : Dev nD) (k : K) {sm : SemLoc sig} (hsm : sm = P.sem k) {N : ℕ} (hN : N = P.units k) {w : TpuEff nD τ sig Val Λ .tc PUnit}
    (hw : ∀ Kt : PUnit → sProp 𝕄, wpE defs 𝒱 (c : Thread nD τ) none Set.univ w Kt = waitSpec (c : Thread nD τ) Set.univ sm N Kt)
    {kt : PUnit → Prog (TpuEff nD τ sig Val Λ .tc) α} {O : CellTallies nD τ sig Unit} {W : Waits sig Unit} {L : sProp 𝕄}
    (hmay : L ⊢ MayWait (c : Thread nD τ) sm () O) :
    iprop(P.records κ ∗ P.coin c k ∗ owes (c : Thread nD τ) O W ∗ L ∗ P.seat c k)
      ⊢ iprop(((owes (c : Thread nD τ) O (insert (sm, ()) W) ∗ P.pay c k ∗ semVal (P.cell c k) 0)
            -∗ wp frame (wpE defs 𝒱 (c : Thread nD τ) none) Set.univ (kt ⟨⟩) Q)
          -∗ wp frame (wpE defs 𝒱 (c : Thread nD τ) none) Set.univ (.op w kt) Q) := by
  subst hsm hN
  unfold coin seat
  iintro ⟨#HR, Hc, HO, HL, Hat⟩ Hk
  iapply (Rounds.wp_wait_rest_token 𝒱 ER P.sched (c : Thread nD τ) none (κ := κ (c, k)) hw (Set.mem_univ _) () (O := O) (W := W)
    (R := 0) (m := 0) (T := ∅) (by rw [Nat.zero_add, P.expect_cell])) $$ [Hc HO HL Hat]
  · isplitr; · iapply (P.records_inv κ c k); iexact HR
    isplitl [Hc]; · iexact Hc
    isplitl [HO]; · iexact HO
    isplitl [HL]; · iapply hmay; iexact HL
    iexact Hat
  iintro ⟨HO, Hat, -, Hpay⟩
  ihave Hp := (Entails.of_eq (P.rest_cell c k)) $$ Hpay
  ihave #HI := (P.records_inv κ c k) $$ HR
  iapply (fupd_wp frame (wpE defs 𝒱 (c : Thread nD τ) none) Set.univ _ _)
  imod (Rounds.cell_close ER P.sched (Set.mem_univ (κ (c, k))) (fun h => h) (R := 0 + 1) (P.duties_later (P.cell c k))) $$ [Hat] with Hz
  · isplitr; · iexact HI
    iexact Hat
  imodintro
  iapply Hk
  isplitl [HO]; · iexact HO
  isplitl [Hp]; · iexact Hp
  iexact Hz

/-- The wait named by a destination of the transfer's size, owing nothing. -/
theorem wp_waitDma (c : Dev nD) (k : K) {sm : DmaSem sig} (hsm : SemLoc.dma sm = P.sem k) {sp sp' : Space} {s s' : Shape} {e e' : EltTy}
    {src : Memref sig .tc sp' s' e'} {dst : Memref sig .tc sp s e} {hsrc : src.view.WordExact} {hdst : dst.view.WordExact}
    (hN : dst.view.dmaCredit = P.units k) {kt : PUnit → Prog (TpuEff nD τ sig Val Λ .tc) α} {W : Waits sig Unit} :
    iprop(P.records κ ∗ P.coin c k ∗ owes (c : Thread nD τ) 0 W ∗ P.seat c k)
      ⊢ iprop(((owes (c : Thread nD τ) 0 (insert (SemLoc.dma sm, ()) W) ∗ P.pay c k ∗ semVal (P.cell c k) 0)
            -∗ wp frame (wpE defs 𝒱 (c : Thread nD τ) none) Set.univ (kt ⟨⟩) Q)
          -∗ wp frame (wpE defs 𝒱 (c : Thread nD τ) none) Set.univ (.op (.waitDma2 sm src dst hsrc hdst) kt) Q) := by
  iintro ⟨#HR, Hc, HO, Hat⟩ Hk
  iapply (P.wp_wait 𝒱 κ c k hsm hN (wpE_waitDma2_eq 𝒱 (c : Thread nD τ) none Set.univ) (O := 0) (W := W) (L := iprop(emp))
    (by rw [MayWait_zero]; exact BI.Entails.refl (M := 𝕄) _)) $$ [Hc HO Hat]
  · isplitr; · iexact HR
    isplitl [Hc]; · iexact Hc
    isplitl [HO]; · iexact HO
    isplitr; · iempintro
    iexact Hat
  iexact Hk

/-- The same while still owing cells of higher levels. -/
theorem wp_waitDma_owing (c : Dev nD) (k : K) {sm : DmaSem sig} (hsm : SemLoc.dma sm = P.sem k) {sp sp' : Space} {s s' : Shape} {e e' : EltTy}
    {src : Memref sig .tc sp' s' e'} {dst : Memref sig .tc sp s e} {hsrc : src.view.WordExact} {hdst : dst.view.WordExact}
    (hN : dst.view.dmaCredit = P.units k) {kt : PUnit → Prog (TpuEff nD τ sig Val Λ .tc) α} {O : CellTallies nD τ sig Unit} {W : Waits sig Unit}
    {L : sProp 𝕄} [BI.Persistent L] (hmay : L ⊢ MayWait (c : Thread nD τ) (SemLoc.dma sm) () O) :
    iprop(P.records κ ∗ L ∗ P.coin c k ∗ owes (c : Thread nD τ) O W ∗ P.seat c k)
      ⊢ iprop(((owes (c : Thread nD τ) O (insert (SemLoc.dma sm, ()) W) ∗ P.pay c k ∗ semVal (P.cell c k) 0)
            -∗ wp frame (wpE defs 𝒱 (c : Thread nD τ) none) Set.univ (kt ⟨⟩) Q)
          -∗ wp frame (wpE defs 𝒱 (c : Thread nD τ) none) Set.univ (.op (.waitDma2 sm src dst hsrc hdst) kt) Q) := by
  iintro ⟨#HR, #HL, Hc, HO, Hat⟩ Hk
  iapply (P.wp_wait 𝒱 κ c k hsm hN (wpE_waitDma2_eq 𝒱 (c : Thread nD τ) none Set.univ) (O := O) (W := W) (L := L) hmay) $$ [Hc HO Hat]
  · isplitr; · iexact HR
    isplitl [Hc]; · iexact Hc
    isplitl [HO]; · iexact HO
    isplitr; · iexact HL
    iexact Hat
  iexact Hk

end Steps

end Plan

end Cert.Mail

end
-- ==== Proof.Start.lean ====
/-
The launch of a kernel that follows a plan of one-shot deliveries (`Mail.Plan`).

A device's copies land in the other devices' arrays, which the kernel allocates nothing for and signals nothing about: the
array has to be the sender's to write from the launch on. So the launch deals the arrays of ALL devices at once, in whatever
way the kernel needs them (`hbufs`), together with each device's seats, rights and credits of the plan, and asks of the
kernel one run of its body from that to the state where all its semaphores are at rest.
-/
module

public import proofs.«01_k».proof.Proof.Mail

@[expose] public section

noncomputable section

namespace Cert.Mail

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf entry scopedRest unscopedRest ownSems0 launchCred)

set_option Elab.async false

variable {nD : ℕ} {τ : Topo} {sig : RefSig} {Val : EltTy → Type}

local notation "𝕄" => MM nD τ sig Val

namespace Plan

variable {K : Type} [Fintype K] [DecidableEq K] (P : Plan nD τ sig Val K)

/-! ## What the launch deals of a plan -/

/-- All the units device `c` owes at the launch: those of its transfers to other devices. -/
def owed (c : Dev nD) : CellTallies nD τ sig Unit := ∑ k, if P.far k then P.due c k else 0

/-- The credit for `k` a device holds from the launch on: of the cells another device pays. -/
def coin0 (c : Dev nD) (k : K) : sProp 𝕄 := if P.far k then P.coin c k else iprop(emp)

/-- What device `c` holds of the plan at the launch. -/
def start (c : Dev nD) : sProp 𝕄 :=
  iprop((bigSep Finset.univ fun k => P.seat c k) ∗ (bigSep Finset.univ fun k => P.tok c k) ∗ (bigSep Finset.univ fun k => P.coin0 c k))

/-- All semaphores of the plan at zero on device `c`. -/
def rest (c : Dev nD) : sProp 𝕄 := bigSep Finset.univ fun k => semVal (P.cell c k) 0

/-- Every TensorCore semaphore has a level. -/
def L (g : GSem nD τ sig) : Finset Unit := if g.1.2 = .tc then {()} else ∅
def lv (g : GSem nD τ sig) (_ : Unit) : ℕ := P.lvl g.2

/-- The plan's cells, and its rights (one per cell, listed by the device that holds it). -/
def cellEmb : Dev nD × K ↪ GSem nD τ sig := ⟨fun ck => P.cell ck.1 ck.2, P.cell_injective⟩
def tokEmb : Dev nD × K ↪ GSem nD τ sig × ℕ × Unit :=
  ⟨fun ck => (P.cell (P.dest ck.2 ck.1) ck.2, 0, ()), by
    rintro ⟨c, k⟩ ⟨c', k'⟩ h
    have h := P.cell_injective (a₁ := (P.dest k c, k)) (a₂ := (P.dest k' c', k')) (congrArg Prod.fst h)
    have hk : k = k' := congrArg Prod.snd h
    subst hk
    have hc : c = c' := (P.dest k).injective (congrArg Prod.fst h)
    rw [hc]⟩

/-- The ghost state of the plan at the launch. -/
def ghost : UR nD τ sig := initOf (Finset.univ.map P.cellEmb) (Finset.univ.map P.tokEmb)

/-- From every plan semaphore at zero and the plan's ghost state: all cells' records, every device's seats and rights. -/
theorem open_cells :
    iprop((bigSep Finset.univ fun c => ownSems0 P.sem c) ∗ BI.own ((ER : Emb (UR nD τ sig) 𝕄) P.ghost))
      ⊢ |={Set.univ}=> iprop((∃ κ, P.records κ)
          ∗ (bigSep Finset.univ fun c => bigSep Finset.univ fun k => P.seat c k)
          ∗ (bigSep Finset.univ fun c => bigSep Finset.univ fun k => P.tok c k)) := by
  classical
  have hsem : (bigSep Finset.univ fun c : Dev nD => (ownSems0 P.sem c : sProp 𝕄))
      = bigSep Finset.univ fun ck : Dev nD × K => semVal (P.cell ck.1 ck.2) 0 := by
    rw [bigSep_univ_prod]; rfl
  rw [hsem]
  unfold ghost
  have hfund := Rounds.fund (ER : Emb (UR nD τ sig) 𝕄) P.sched (Finset.univ.map P.cellEmb) (Finset.univ.map P.tokEmb)
  rw [bigSep_map, bigSep_map, bigSep_map, bigSep_map] at hfund
  have halloc : iprop((bigSep Finset.univ fun ck : Dev nD × K => semVal (P.cell ck.1 ck.2) 0)
        ∗ bigSep Finset.univ fun ck : Dev nD × K => roundState ER P.sched (P.cellEmb ck) 0)
      ⊢ |={Set.univ}=> iprop(∃ κ : Dev nD × K → ℕ, bigSep Finset.univ fun ck : Dev nD × K => cellInv ER P.sched (κ ck) (P.cell ck.1 ck.2)) := by
    rw [← bigSep_sep']
    refine (bigSep_mono fun ck _ => show _ ⊢ iprop(|={Set.univ}=> ∃ κ, cellInv ER P.sched κ (P.cell ck.1 ck.2)) from
      (Rounds.body_intro ER P.sched (P.cell ck.1 ck.2)).trans ?_).trans ((bigSep_fupd _ _).trans (fupd_mono (BI.bigSep_exists_pi _ _)))
    refine (inv_alloc_fresh (∅ : Finset ℕ)).trans (fupd_mono ?_)
    iintro ⟨%κ, -, H⟩
    iexists κ
    iexact H
  iintro ⟨Hv, Hg⟩
  imod hfund $$ Hg with ⟨Hst, Hr, Hat, Ht⟩
  imod halloc $$ [Hv Hst] with ⟨%κ, #HI⟩
  · isplitl [Hv]; · iexact Hv
    iexact Hst
  imodintro
  isplitl [Hr]
  · iexists κ
    unfold records
    isplitr; · iexact HI
    iexact Hr
  isplitl [Hat]
  · unfold seat
    iapply (Entails.of_eq (bigSep_univ_prod fun ck : Dev nD × K => (atPos ER (P.cell ck.1 ck.2) 0 ∅ 0 : sProp 𝕄)))
    iexact Hat
  · unfold tok
    iapply (Entails.of_eq (bigSep_univ_prod fun ck : Dev nD × K => (dutyTok ER (P.cell (P.dest ck.2 ck.1) ck.2) 0 () : sProp 𝕄)))
    iexact Ht

/-- What all devices owe at the launch is, per device, the credits of the cells the others pay. -/
theorem open_coins (c : Dev nD) : (launchCred P.owed c : sProp 𝕄) ⊢ bigSep Finset.univ fun k => P.coin0 c k := by
  rw [show P.owed = fun d => ∑ k ∈ Finset.univ, (fun k d => if P.far k then P.due d k else 0) k d from rfl, Pipeline.launchCred_sum]
  refine bigSep_mono fun k _ => ?_
  unfold coin0
  cases hk : P.far k
  · simp only [Bool.false_eq_true, if_false]
    exact Entails.of_eq (Pipeline.launchCred_zero c)
  · simp only [if_true]
    unfold due coin
    exact Pipeline.launchCred_tallyAt (P.sem k) (P.dest k) (P.dest k).symm (fun d => (P.dest k).apply_symm_apply d)
      (fun d => (P.dest k).symm_apply_apply d) () (P.units k) c

end Plan

/-! ## The launch -/

section Launch

variable {Λ₀ : Labels} {K : Type} [Fintype K] [DecidableEq K] [∀ e, Nonempty (Val e)]
variable (cfgs : Fin 1 → Cfg sig Λ₀) (P : Plan nD τ sig Val K)

/-- The pipelines of a program with no prefetched table, as the region rule takes them. -/
local notation "pcs" => (fun q => Cfg.toPCfg (Val := Val) (cfgs q))
local notation "adm" => (fun q => Cfg.toPCfg_adm (Val := Val) (cfgs q))

/-- The region's data: no window; before its one point `A c`, owing what the plan owes; after it `B c`, owing nothing. -/
def dats (hW : ∀ p, IsEmpty (Fin (cfgs p).W)) (A B : Dev nD → sProp 𝕄) (p : Fin 1) (c : Dev nD) :
    Dat τ Val Unit ℕ (UU nD τ sig) ℕ (cfgs p) c where
  A w := ((hW p).false w).elim
  after w := ((hW p).false w).elim
  Φ t := if t.val = 0 then A c else B c
  q w := fullShare
  owed t := if t.val = 0 then P.owed c else 0

/-- The levels of a plan, assigned once for the whole machine. -/
theorem assign_levels :
    (bigSep Finset.univ fun c : Dev nD => levels0 (Ix := Unit) (Val := Val) (Name := ℕ) (U := UU nD τ sig) (Lvl := ℕ) (τ := τ) (sig := sig) c)
      ⊢ (|==> levAts Plan.L P.lv : sProp 𝕄) := by
  have hempty : ∀ (d : Dev nD) (p : Proc τ), p ≠ Proc.tc → (coreLevAts ((d, p) : Thread nD τ) Plan.L P.lv : sProp 𝕄) = BI.emp := fun d p hp => by
    unfold coreLevAts
    refine (bigSep_congr fun sm _ => ?_).trans (BI.bigSep_emp_const (Finset.univ : Finset (SemLoc sig)))
    rw [show Plan.L (((d, p) : Thread nD τ), sm) = ∅ from if_neg hp, BI.bigSep_empty]
  have hall : (levAts Plan.L P.lv : sProp 𝕄) = iprop((bigSep Finset.univ fun d : Dev nD => coreLevAts (d.tc : Thread nD τ) Plan.L P.lv) ∗ emp) := by
    rw [show (levAts Plan.L P.lv : sProp 𝕄) = bigSep Finset.univ fun c : Thread nD τ => coreLevAts c Plan.L P.lv
      from bigSep_univ_prod fun g : GSem nD τ sig => bigSep (Plan.L g) fun ι => levAt g ι (P.lv g ι), bigSep_threads]
    congr 1
    refine (bigSep_congr fun d _ => ?_).trans (BI.bigSep_emp_const (Finset.univ : Finset (Dev nD)))
    refine (bigSep_congr fun p hp => hempty d p (Finset.ne_of_mem_erase hp)).trans (BI.bigSep_emp_const _)
  have hdrop : (bigSep Finset.univ fun c : Dev nD =>
        iprop((bigSep Finset.univ fun sm : SemLoc sig => levels ((c.tc : Thread nD τ), sm) (Plan.L ((c.tc : Thread nD τ), sm)))
          ∗ coreLevAts (c.tc : Thread nD τ) Plan.L P.lv))
      ⊢ iprop((bigSep Finset.univ fun d : Dev nD => coreLevAts (d.tc : Thread nD τ) Plan.L P.lv) ∗ (emp : sProp 𝕄)) := by
    rw [bigSep_sep']
    iintro ⟨-, H⟩
    isplitl [H]; · iexact H
    iempintro
  rw [hall]
  exact (bigSep_mono fun c _ => lev_assign_cells (c.tc : Thread nD τ) Plan.L P.lv).trans ((BI.bigSep_bupd _ _).trans (BI.bupd_mono hdrop))

variable (defs₀ : Defs nD τ sig Val Λ₀) (𝒱₀ : Variants)

/-- THE LAUNCH. The program is one call of the kernel; all buffers are arrays of the whole program (`hW`, `hbufs`), dealt to
    the devices as `T`; each device's run of the body, from its part of the plan and of the arrays, ends with the plan's
    semaphores at zero and the device holding `Y` (`hbody`), which tells the final memory (`hY`). Then every run of the
    program ends, in a memory of which all that is told, and with every semaphore a kernel may use at zero. -/
theorem launch (kit : Pipeline.LaunchFacts (nD := nD) (τ := τ) cfgs 0) (ho : Pipeline.OwnSemFacts (cfgs 0).spec P.sem)
    (hW : ∀ p, IsEmpty (Fin (cfgs p).W)) (hN : (cfgs 0).N = 1)
    (main : Dev nD → Prog (TpuEff nD τ sig Val (Pipeline.Sig Λ₀ (Fin 1) fun p => (Cfg.toPCfg (Val := Val) (cfgs p)).Adm) .tc) PUnit)
    (hmain : ∀ c, main c = .op (.customCall (entry 0) ()) fun _ => .ret ⟨⟩)
    (m : (ℓ : Loc nD τ sig) → Buf Val ℓ) (ρ : Dev nD → PrngReg)
    (T Y : Dev nD → sProp 𝕄)
    (hbufs : (bigSep Finset.univ fun c : Dev nD => (unscopedRest (cfgs 0).spec c (fun b => m ((c.tc : Thread nD τ).loc b)) : sProp 𝕄))
      ⊢ bigSep Finset.univ T)
    (hbody : ∀ (t : Fin (cfgs 0).N) (κ : Dev nD × K → ℕ) (c : Dev nD) (W : Waits sig Unit),
      iprop(P.records κ ∗ levAts Plan.L P.lv ∗ P.start c ∗ T c ∗ owes (c.tc : Thread nD τ) (P.owed c) W)
        ⊢ wp frame (wpE defs₀ 𝒱₀ (c.tc : Thread nD τ) none) Set.univ (defs₀ .tc (cfgs 0).body ((cfgs 0).bodyArgs t ((cfgs 0).slots t)))
            fun _ => iprop(P.rest c ∗ Y c ∗ ∃ W', owes (c.tc : Thread nD τ) 0 W'))
    (QY : Dev nD → MemSt nD τ sig Val → Prop)
    (hY : ∀ c (s' : Phys nD τ sig Val), iprop(Y c ∗ SI s') ⊢ |={Set.univ}=> iprop(⌜QY c s'.mem⌝ ∗ SI s'))
    {Q : PUnit × MemSt nD τ sig Val → Prop}
    (hQ : ∀ s : MemSt nD τ sig Val, (∀ c, QY c s) →
      (∀ g' : GSem nD τ sig, (g'.1.2 ≠ .tc ∨ g'.2.isScoped .tc = true) → s.sem g' = 0) → Q (⟨⟩, s)) :
    θ_run (Pipeline.defs (fun q => Cfg.toPCfg (Val := Val) (cfgs q)) defs₀) (onTc main) ⟨m, fun _ => 0, ρ⟩ Q := by
  classical
  -- the region's data: before, between and after
  let A : Dev nD → sProp 𝕄 := fun c => iprop((∃ κ, P.records κ) ∗ levAts Plan.L P.lv ∗ P.start c ∗ T c ∗ scopedRest (cfgs 0).spec c)
  let B : Dev nD → sProp 𝕄 := fun c => iprop(P.rest c ∗ Y c ∗ scopedRest (cfgs 0).spec c)
  let dd := dats cfgs P hW A B
  have hΦ0 : ∀ c, (dd 0 c).Φ 0 = A c := fun c => rfl
  have hΦN : ∀ c, (dd 0 c).Φ (Fin.last (cfgs 0).N) = B c := fun c => by
    show (if (Fin.last (cfgs 0).N).val = 0 then A c else B c) = B c
    rw [if_neg]; rw [Fin.val_last, hN]; decide
  have hO0 : ∀ c, (dd 0 c).owed 0 = P.owed c := fun c => rfl
  have hON : ∀ c, (dd 0 c).owed (Fin.last (cfgs 0).N) = 0 := fun c => by
    show (if (Fin.last (cfgs 0).N).val = 0 then P.owed c else 0) = 0
    rw [if_neg]; rw [Fin.val_last, hN]; decide
  have hpt : ∀ t : Fin (cfgs 0).N, t.val = 0 := fun t => by have := t.isLt; omega
  have hwin : ∀ (c : Dev nD) (Ψ : Fin (cfgs 0).W → sProp 𝕄), bigSep Finset.univ Ψ = BI.emp := fun c Ψ => by
    haveI := hW 0
    rw [Finset.univ_eq_empty, BI.bigSep_empty]
  have hob : ∀ c, Pipeline.BodyObligationLoose (dd 0 c) defs₀ 𝒱₀ () Set.univ := fun c t => by
    rw [hwin c, hwin c]
    have hs : (dd 0 c).Φ t.castSucc = A c := by
      show (if t.castSucc.val = 0 then A c else B c) = A c
      rw [if_pos]; exact hpt t
    have hs' : (dd 0 c).Φ t.succ = B c := by
      show (if t.succ.val = 0 then A c else B c) = B c
      rw [if_neg]; rw [Fin.val_succ]; omega
    have ho1 : (dd 0 c).owed t.castSucc = P.owed c := by
      show (if t.castSucc.val = 0 then P.owed c else 0) = P.owed c
      rw [if_pos]; exact hpt t
    have ho2 : (dd 0 c).owed t.succ = 0 := by
      show (if t.succ.val = 0 then P.owed c else 0) = 0
      rw [if_neg]; rw [Fin.val_succ]; omega
    unfold Pipeline.Dat.owesAt Pipeline.owesWithin
    rw [hs, hs', ho1, ho2]
    simp only [A, B]
    iintro ⟨⟨⟨%κ, HR⟩, Hl, Hs, HT, Hsc⟩, ⟨%W, -, HO⟩, -⟩
    iapply (wp_wand frame (wpE defs₀ 𝒱₀ (c.tc : Thread nD τ) none) Set.univ) $$ [HR Hl Hs HT HO]
    · iapply (hbody t κ c W)
      isplitl [HR]; · iexact HR
      isplitl [Hl]; · iexact Hl
      isplitl [Hs]; · iexact Hs
      isplitl [HT]; · iexact HT
      iexact HO
    iintro %u ⟨Hr, HY, ⟨%W', HO⟩⟩
    isplitl [Hr HY Hsc]
    · isplitl [Hr]; · iexact Hr
      isplitl [HY]; · iexact HY
      iexact Hsc
    isplitl [HO]
    · iexists W'
      isplitr; · ipureintro; exact fun x _ => Or.inl (Set.mem_univ x)
      iexact HO
    iempintro
  have hw₀ : Pipeline.WinFacts₀ (cfgs 0).spec := ⟨kit.win.arr_unscoped, kit.win.stage_scoped, kit.win.stage_inj, kit.win.sem_scoped⟩
  have hss := fun c : Dev nD => Pipeline.scopedSems0_split (Ix := Unit) (Val := Val) (Name := ℕ) (U := UU nD τ sig) (Lvl := ℕ) cfgs kit.cellOf_inj 0 hw₀ ho c
  have hsb := fun c : Dev nD => Pipeline.scopedBufs_split (nD := nD) (τ := τ) (Ix := Unit) (Val := Val) (Name := ℕ) (U := UU nD τ sig) (Lvl := ℕ) cfgs 0 kit.win.stage_scoped kit.win.stage_inj kit.stage_whole c
  have hub := fun c : Dev nD => Pipeline.unscopedBufs_split₀ (nD := nD) (τ := τ) (Ix := Unit) (Val := Val) (Name := ℕ) (U := UU nD τ sig) (Lvl := ℕ) cfgs 0 kit.win.arr_unscoped c (fun b => m ((c.tc : Thread nD τ).loc b))
  -- what a device holds before the call and after it
  let pre : Dev nD → sProp 𝕄 := fun c => iprop(scopedBufs (c.tc : Thread nD τ) ∗ Pipeline.cellsSems0 cfgs 0 c ∗ Pipeline.idleSems0 cfgs kit.cellOf_inj 0 ho c
    ∗ owes (c.tc : Thread nD τ) (P.owed c) ∅ ∗ Pipeline.cellsGhost cfgs EP 0 c ∗ Pipeline.toksInit cfgs EP 0 c
    ∗ (∃ κ, P.records κ) ∗ levAts Plan.L P.lv ∗ P.start c ∗ T c)
  let fin : Dev nD → sProp 𝕄 := fun c => iprop(Y c ∗ scopedSems0 (c.tc : Thread nD τ))
  let u₀ : UU nD τ sig := (initOf (Pipeline.cells cfgs kit.cellOf_inj) (Pipeline.launchToks cfgs kit.cellOf_inj), P.ghost)
  refine (θ_run _ _ _).mono (Q := fun r => (∀ c : Dev nD, QY c r.2 ∧ ∀ sm : SemLoc sig, sm.isScoped .tc = true → r.2.sem ((c.tc : Thread nD τ), sm) = 0)
      ∧ ∀ g' : GSem nD τ sig, g'.1.2 ≠ .tc → r.2.sem g' = 0)
    (fun r hr => hQ r.2 (fun c => (hr.1 c).1) (sems_of_reads (fun c => (hr.1 c).2) hr.2)) (adequate_tpu _ _ _ _
    (reflect_intro_fupd_tc_sems (X := Unit) (Variants.lift 𝒱₀) (Pipeline.owing P.owed) 0 (noBookings fun _ => le_rfl) (Pipeline.owing_of_ne P.owed) u₀
      (fun _ => pre) (fun _ => fin) (fun _ => iprop(emp)) Set.univ ?_ (fun _ c => ?_) fun _ => ?_))
  · have hdeal (c : Dev nD) :
        coreInit (Ix := Unit) (Name := ℕ) (U := UU nD τ sig) (Lvl := ℕ) (Pipeline.owing P.owed) 0 (⟨m, fun _ => 0, ρ⟩ : MemSt nD τ sig Val) (c.tc : Thread nD τ)
          ⊢ iprop((scopedBufs (c.tc : Thread nD τ) ∗ Pipeline.cellsSems0 cfgs 0 c ∗ Pipeline.idleSems0 cfgs kit.cellOf_inj 0 ho c
                ∗ owes (c.tc : Thread nD τ) (P.owed c) ∅)
              ∗ ownSems0 P.sem c ∗ unscopedRest (cfgs 0).spec c (fun b => m ((c.tc : Thread nD τ).loc b)) ∗ levels0 c ∗ launchCred P.owed c) := by
      refine (Pipeline.coreInit_boundary_owing P.owed m ρ c).trans ?_
      unfold boundary
      rw [hss c, hub c]
      iintro ⟨⟨Hsc, ⟨⟨Hcells, Hos⟩, Hidle⟩, -⟩, ⟨-, Hub⟩, -, HO, Hlv, -, Hcr⟩
      isplitl [Hsc Hcells Hidle HO]
      · isplitl [Hsc]; · iexact Hsc
        isplitl [Hcells]; · iexact Hcells
        isplitl [Hidle] <;> iassumption
      isplitl [Hos]; · iexact Hos
      isplitl [Hub]; · iexact Hub
      isplitl [Hlv] <;> iassumption
    have hcores : (bigSep Finset.univ fun c : Dev nD =>
          (coreInit (Ix := Unit) (Name := ℕ) (U := UU nD τ sig) (Lvl := ℕ) (Pipeline.owing P.owed) 0 (⟨m, fun _ => 0, ρ⟩ : MemSt nD τ sig Val) (c.tc : Thread nD τ) : sProp 𝕄))
        ⊢ iprop((bigSep Finset.univ fun c : Dev nD => iprop(scopedBufs (c.tc : Thread nD τ) ∗ Pipeline.cellsSems0 cfgs 0 c ∗ Pipeline.idleSems0 cfgs kit.cellOf_inj 0 ho c
                ∗ owes (c.tc : Thread nD τ) (P.owed c) ∅))
            ∗ (bigSep Finset.univ fun c : Dev nD => (ownSems0 P.sem c : sProp 𝕄))
            ∗ (bigSep Finset.univ fun c : Dev nD => unscopedRest (cfgs 0).spec c (fun b => m ((c.tc : Thread nD τ).loc b)))
            ∗ (bigSep Finset.univ fun c : Dev nD => levels0 c)
            ∗ (bigSep Finset.univ fun c : Dev nD => (launchCred P.owed c : sProp 𝕄))) := by
      refine (bigSep_mono fun c _ => hdeal c).trans ?_
      simp only [bigSep_sep']
      exact BI.Entails.refl (M := 𝕄) _
    have hcoins : (bigSep Finset.univ fun c : Dev nD => (launchCred P.owed c : sProp 𝕄)) ⊢ bigSep Finset.univ fun c : Dev nD => bigSep Finset.univ fun k => P.coin0 c k :=
      bigSep_mono fun c _ => P.open_coins c
    have hone (Φ : Fin 1 → Dev nD → sProp 𝕄) :
        (bigSep Finset.univ fun c : Dev nD => bigSep Finset.univ fun p' => Φ p' c) ⊢ bigSep Finset.univ fun c : Dev nD => Φ 0 c :=
      bigSep_mono fun c _ => bigSep_elim (Finset.mem_univ (0 : Fin 1))
    iintro ⟨Hcores, Hu⟩
    ihave Hc := hcores $$ Hcores
    icases Hc with ⟨Hb, Hos, Hub, Hlv, Hcr⟩
    imod (assign_levels P) $$ Hlv with #Hla
    ihave Hu' := (ownU_pair (initOf (Pipeline.cells cfgs kit.cellOf_inj) (Pipeline.launchToks cfgs kit.cellOf_inj)) P.ghost) $$ Hu
    icases Hu' with ⟨HP, HG⟩
    imod (Pipeline.fund_ghost cfgs EP kit.cellOf_inj) $$ HP with ⟨Hg, Ht⟩
    imod (P.open_cells) $$ [Hos HG] with ⟨⟨%κ, #HR⟩, Hseat, Htok⟩
    · isplitl [Hos] <;> iassumption
    ihave Hcoin := hcoins $$ Hcr
    ihave HT := hbufs $$ Hub
    imodintro
    iexists ()
    isplitr []
    · simp only [pre, Plan.start, bigSep_sep']
      icases Hb with ⟨Hsc, Hcells, Hidle, HO⟩
      isplitl [Hsc]; · iexact Hsc
      isplitl [Hcells]; · iexact Hcells
      isplitl [Hidle]; · iexact Hidle
      isplitl [HO]; · iexact HO
      isplitl [Hg]; · iapply (hone fun p' c => Pipeline.cellsGhost cfgs EP p' c); iexact Hg
      isplitl [Ht]; · iapply (hone fun p' c => Pipeline.toksInit cfgs EP p' c); iexact Ht
      isplitr
      · iapply (BI.bigSep_intro_persistent (S := Finset.univ) fun (c : Dev nD) _ => (show P.records κ ⊢ iprop(∃ κ, P.records κ) from by
          iintro H; iexists κ; iexact H))
        iexact HR
      isplitr
      · iapply (BI.bigSep_intro_persistent (S := Finset.univ) fun (c : Dev nD) _ => (BI.Entails.refl (levAts Plan.L P.lv : sProp 𝕄))); iexact Hla
      isplitl [Hseat Htok Hcoin]
      · isplitl [Hseat]; · iexact Hseat
        isplitl [Htok]; · iexact Htok
        iexact Hcoin
      iexact HT
    · iempintro
  · have hout : iprop((dd 0 c).Φ (Fin.last (cfgs 0).N) ∗ Pipeline.cellsSems0 cfgs 0 c ∗ Pipeline.Dat.staging (cfgs 0) c ∗ Pipeline.idleSems0 cfgs kit.cellOf_inj 0 ho c)
        ⊢ iprop(Y c ∗ scopedSems0 (c.tc : Thread nD τ) ∗ scopedBufs (c.tc : Thread nD τ)) := by
      rw [hΦN, hss c, hsb c]
      simp only [B]
      iintro ⟨⟨Hr, HY, Hrest⟩, Hcells, Hst, Hidle⟩
      isplitl [HY]; · iexact HY
      isplitl [Hcells Hr Hidle]
      · isplitl [Hcells Hr]
        · isplitl [Hcells]; · iexact Hcells
          iapply (Entails.of_eq (show P.rest c = ownSems0 P.sem c from rfl)); iexact Hr
        iexact Hidle
      isplitl [Hst] <;> iassumption
    have hin : iprop((iprop((∃ κ, P.records κ) ∗ levAts Plan.L P.lv ∗ P.start c ∗ T c) : sProp 𝕄)
          ∗ Pipeline.prefHeld (Cfg.toPCfg (Val := Val) (cfgs 0)).pre c (fun _ => fullShare.right) (Cfg.toPCfg_adm (Val := Val) (cfgs 0)).1 ∗ scopedRest (cfgs 0).spec c)
        ⊢ (dd 0 c).Φ 0 := by
      rw [hΦ0]
      simp only [A]
      iintro ⟨⟨HR, Hl, Hs, HT⟩, -, Hsc⟩
      isplitl [HR]; · iexact HR
      isplitl [Hl]; · iexact Hl
      isplitl [Hs]; · iexact Hs
      isplitl [HT] <;> iassumption
    have hpost : Pipeline.EntryPost cfgs dd () 0 c ⊢ iprop(∃ W, owes (c.tc : Thread nD τ) (0 : CellTallies nD τ sig Unit) W) := by
      unfold Pipeline.EntryPost Pipeline.PerCore.EntryPost Pipeline.Dat.owesAt Pipeline.owesWithin
      rw [hON c]
      iintro ⟨-, ⟨%W, -, HW⟩⟩
      iexists W; iexact HW
    have hwaits : (emp : sProp 𝕄) ⊢ Pipeline.cellsWaits cfgs dd () 0 c := by
      unfold Pipeline.cellsWaits Pipeline.PerCore.cellsWaits Pipeline.PerCore.RDat.cellsWaits
      rw [hwin c]
      exact BI.Entails.refl _
    simp only [pre]
    rw [hmain c]
    iintro ⟨Hsc, Hcells, Hidle, HO, Hg, Ht, HR, Hl, Hs, HT⟩
    iapply (fupd_wp frame (wpE (Pipeline.defs (fun q => Cfg.toPCfg (Val := Val) (cfgs q)) defs₀) (Variants.lift 𝒱₀) (c.tc : Thread nD τ) none) Set.univ _ _)
    imod (Pipeline.cellsInit_alloc cfgs dd EP kit.cellOf_inj 0 c) $$ [Hcells Hg] with ⟨%κ', -, Hinit⟩
    · isplitl [Hcells] <;> iassumption
    imodintro
    iapply (Pipeline.wp_customCall_entry_frame (fun q => Cfg.toPCfg (Val := Val) (cfgs q)) (fun q => Cfg.toPCfg_adm (Val := Val) (cfgs q)) dd () EP κ'
        kit.cellOf_inj 0 defs₀ 𝒱₀ (fun _ => fullShare.right) c Set.univ (fun _ _ => Set.mem_univ _)
        (hob c) kit.block_pos none (fun u h => nomatch h) (R := scopedRest (cfgs 0).spec c)
        (Entails.of_eq (hsb c)) hin hout
        (k := fun _ => .ret ⟨⟩) (Q := fun _ => post (liftTc fin BI.emp) (c.tc : Thread nD τ))) $$ [HO Hinit Ht HR Hl Hs HT Hidle Hsc]
    · isplitl [HO Hinit Ht]
      · unfold Pipeline.EntryPre Pipeline.PerCore.EntryPre Pipeline.Dat.owesAt Pipeline.owesWithin Pipeline.Dat.arrays
        rw [hO0 c, hwin c]
        isplitr; · iempintro
        isplitl [HO]
        · iexists ∅; isplitr; · ipureintro; rw [Finset.coe_empty]; exact Set.empty_subset _
          iexact HO
        isplitr; · iapply hwaits; iempintro
        isplitl [Hinit] <;> iassumption
      isplitr
      · unfold Pipeline.prefHeld; iapply (Entails.of_eq (show (BI.emp : sProp 𝕄) = _ from (BI.bigSep_empty (M := 𝕄)).symm)); iempintro
      isplitl [HR Hl Hs HT]
      · isplitl [HR]; · iexact HR
        isplitl [Hl]; · iexact Hl
        isplitl [Hs] <;> iassumption
      isplitl [Hidle] <;> iassumption
    iintro ⟨Hpost, HY, Hss2, -⟩
    rw [wp_ret]; imodintro
    unfold post; simp only [liftTc_tc, fin]
    isplitr [Hpost]
    · isplitl [HY] <;> iassumption
    · iapply hpost; iexact Hpost
  · have hread (c : Dev nD) (s' : Phys nD τ sig Val) : iprop(fin c ∗ SI s') ⊢ |={Set.univ}=>
        iprop(⌜QY c s'.mem ∧ ∀ sm : SemLoc sig, sm.isScoped .tc = true → s'.mem.sem ((c.tc : Thread nD τ), sm) = 0⌝ ∗ SI s') := by
      simp only [fin]
      iintro ⟨⟨HY, Hss⟩, HSI⟩
      ihave %hz := (tcScoped_read_pers c s') $$ [Hss HSI]
      · isplitl [Hss] <;> iassumption
      imod (hY c s') $$ [HY HSI] with ⟨%hy, HSI⟩
      · isplitl [HY] <;> iassumption
      imodintro
      isplitr
      · ipureintro; exact ⟨hy, hz⟩
      · iexact HSI
    iintro ⟨H, -, Hsc⟩ %s' HSI
    ihave %hsc := (scSems_read_zero m ρ s') $$ [Hsc HSI]
    · isplitl [Hsc] <;> iassumption
    imod (posts_fupd Finset.univ hread s') $$ [H HSI] with %h
    · isplitl [H] <;> iassumption
    imodintro
    ipureintro
    exact ⟨fun c => h c (Finset.mem_univ c), hsc⟩

end Launch

end Cert.Mail

end
-- ==== Proof.Parcel.lean ====
/-
What a transfer leaves behind, in the terms the deliveries are stated in: the elements it wrote, at the contents the whole
array has in the end; and the eight devices' neighbours.
-/
module

public import proofs.«01_k».proof.Proof.Start

@[expose] public section

noncomputable section

namespace Cert.Mail

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

set_option Elab.async false

variable {nD : ℕ} {τ : Topo} {sig : RefSig} {Val : EltTy → Type}

local notation "𝕄" => MM nD τ sig Val

/-- Elements written by a transfer are at the contents `g` the array has in the end, when what was written is what `g` has
    there. -/
theorem landed {c : Thread nD τ} {sp : Space} {s : Shape} {e : EltTy} (M : Memref sig c.2.kind sp s e)
    (f g : Buf Val (M.view.loc c)) (w : s.Idx → Val e) {q : PosShare TreeShare} (h : ∀ i, w i = M.view.read Val g i) :
    (M.view.loc c ↦[M.view.set]{q} M.view.write Val f w Finset.univ : sProp 𝕄) = M.view.loc c ↦[M.view.set]{q} g := by
  refine pointsTo_congr fun j hj => ?_
  obtain ⟨i, -, rfl⟩ := Finset.mem_map.mp hj
  rw [View.write_emb_of_mem _ _ (Finset.mem_univ _), h i, View.read_apply]
  simp

/-- A whole array held, named by its memref. -/
theorem whole_pts (c : Dev nD) (b : Ref sig .tc) {q : PosShare TreeShare} (f : Buf Val ((c.tc : Thread nD τ).loc b)) :
    ((Memref.whole b).view.loc (c : Thread nD τ) ↦[(Memref.whole b).view.set]{q} f : sProp 𝕄) = ((c.tc : Thread nD τ).loc b ↦{q} f) := by
  rw [View.set_whole]

/-- A whole array is the pieces `K` a classification `key` of its indices makes. -/
theorem pieces {T : Type} [Fintype T] {ℓ : Loc nD τ sig} (key : Idx ℓ → T) (K : T → Finset (Idx ℓ)) (hK : ∀ t i, i ∈ K t ↔ key i = t)
    {q : PosShare TreeShare} (f : Buf Val ℓ) : (ℓ ↦{q} f : sProp 𝕄) = bigSep Finset.univ fun t => ℓ ↦[K t]{q} f := by
  rw [← pointsTo_biUnion]
  · congr 1
    ext i
    simp [hK]
  · intro t _ t' _ hne
    exact Finset.disjoint_left.mpr fun i hi hi' => hne (((hK t i).mp hi).symm.trans ((hK t' i).mp hi'))

/-- A whole array is some of its elements and the others. -/
theorem split {ℓ : Loc nD τ sig} (S : Finset (Idx ℓ)) {q : PosShare TreeShare} (f : Buf Val ℓ) :
    (ℓ ↦{q} f : sProp 𝕄) = iprop((ℓ ↦[S]{q} f) ∗ (ℓ ↦[Finset.univ \ S]{q} f)) := by
  rw [pieces (T := Bool) (fun i => decide (i ∈ S)) (fun t => if t then S else Finset.univ \ S) (fun t i => by cases t <;> simp) f,
    bigSep_univ_eq_bigSepL [true, false] (by decide) (by decide)]
  rfl

/-- Two whole arrays held: their contents in memory. -/
theorem read_two {ℓ₁ ℓ₂ : Loc nD τ sig} (f₁ : Buf Val ℓ₁) (f₂ : Buf Val ℓ₂) (s' : Phys nD τ sig Val) :
    iprop(((ℓ₁ ↦{fullShare} f₁) ∗ (ℓ₂ ↦{fullShare} f₂) : sProp 𝕄) ∗ SI s')
      ⊢ |={Set.univ}=> iprop(⌜s'.mem.mem ℓ₁ = f₁ ∧ s'.mem.mem ℓ₂ = f₂⌝ ∗ SI s') := by
  iintro ⟨⟨H1, H2⟩, HSI⟩
  icombine HSI H1 gives %h1
  icombine HSI H2 gives %h2
  imodintro
  isplitr
  · ipureintro
    exact ⟨Buf.eq_of_forall_mem_univ h1, Buf.eq_of_forall_mem_univ h2⟩
  iexact HSI

/-- A core's sibling on its chip. -/
def sib : Equiv.Perm (Fin 8) where
  toFun c := ⟨(4 * (c.val / 4) + 2 * ((c.val / 2) % 2) + 1) - c.val % 2, by omega⟩
  invFun c := ⟨(4 * (c.val / 4) + 2 * ((c.val / 2) % 2) + 1) - c.val % 2, by omega⟩
  left_inv := by decide
  right_inv := by decide

theorem sib_sib : ∀ c, sib (sib c) = c := by decide

end Cert.Mail

end
-- ==== Proof.Swap.lean ====
/-
The exchange of halves between the two cores of a chip: every device sends the other core's half of its array to that core,
and waits for its own. For any float values: the run of the eight devices, and what each result array holds in the end.
-/
module

public import proofs.«01_k».proof.Proof.Parcel
public import proofs.«01_k».proof.Proof.Gen.SwapIdeal
public import proofs.«01_k».proof.Proof.Gen.SwapIdeal.Skeleton
public import proofs.«01_k».proof.Proof.Gen.SwapIdeal.Launch
public import proofs.«01_k».proof.Proof.Gen.SwapIdeal.Points

@[expose] public section

noncomputable section

namespace Cert.Swapping

open Cert.SwapIdeal Cert.SwapIdeal.Gen Cert.Mail
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

set_option Elab.async false

variable {F : FTy → Type} [FloatOps F]

local notation "𝕄" => MM nD τ sig (Elt F)

variable (m : (ℓ : Loc nD τ sig) → Buf (Elt F) ℓ) (ρ : Dev nD → PrngReg)

abbrev arg : Memref sig .tc .hbm S4x34880x128 .f32 := Memref.whole main_arg0
abbrev out : Memref sig .tc .hbm S4x17440x128 .f32 := Memref.whole main_v1

/-- The half device `c` sends away. -/
abbrev half (c : Dev nD) : Memref sig .tc .hbm S4x17440x128 .f32 :=
  arg.slice (Rect.unit (s := S4x34880x128) (k0_off1 c) S4x17440x128.size (k0_off1_inb c)) (fun _ => rfl)

/-- The device's argument at the launch, and what its result array holds in the end: the half its sibling sent. -/
abbrev given (c : Dev nD) : Buf (Elt F) ((c.tc : Thread nD τ).loc main_arg0) := m ((c.tc : Thread nD τ).loc main_arg0)
def final (c : Dev nD) : Buf (Elt F) ((c.tc : Thread nD τ).loc main_v1) := (half (sib c)).view.read (Elt F) (given m (sib c))

theorem dev1_eq (c : Dev nD) : (⟨k0_dev1 c, k0_dev1_lt c⟩ : Dev nD) = sib c := Fin.ext (k0_dev1_eq c)

theorem half_sub (c : Dev nD) : (half c).view.set ⊆ arg.view.set := View.set_slice_subset _ _

/-- The two deliveries: `0`, the half sent is free again; `1`, the sibling's half has come. -/
def plan : Plan nD τ sig (Elt F) (Fin 2) where
  sem := ![.dma cc0_scratch0.sem, .dma cc0_scratch1.sem]
  units := fun _ => RefSig.tileCredit S4x17440x128 .f32
  dest := ![Equiv.refl _, sib]
  far := ![false, true]
  lvl := fun _ => 0
  pay c k := match k with
    | 0 => (half c).view.loc (c : Thread nD τ) ↦[(half c).view.set]{fullShare} given m c
    | 1 => out.view.loc (c : Thread nD τ) ↦[out.view.set]{fullShare} final m c
  sem_inj := by decide
  units_pos := fun _ => RefSig.tileCredit_pos _ _ (by decide)
  pay_storable c k := by fin_cases k <;> dsimp only <;> infer_instance

theorem sem_send : SemLoc.dma cc0_scratch0.sem = (plan m).sem 0 := rfl
theorem sem_recv : SemLoc.dma cc0_scratch1.sem = (plan m).sem 1 := rfl
theorem dest_send (c : Dev nD) : (plan m).dest 0 c = c := rfl
theorem dest_recv (c : Dev nD) : (plan m).dest 1 c = sib c := rfl
theorem units_out (k : Fin 2) : out.view.dmaCredit = (plan m).units k := rfl
theorem units_half (k : Fin 2) (c : Dev nD) : (half c).view.dmaCredit = (plan m).units k := rfl
theorem units_eq : (plan m).units 0 = (plan m).units 1 := rfl
theorem pay_send (c : Dev nD) : (plan m).pay c 0 = ((half c).view.loc (c : Thread nD τ) ↦[(half c).view.set]{fullShare} given m c) := rfl
theorem pay_recv (c : Dev nD) : (plan m).pay c 1 = (out.view.loc (c : Thread nD τ) ↦[out.view.set]{fullShare} final m c) := rfl
theorem coin_send (c : Dev nD) : (plan m).coin0 c 0 = iprop(emp) := rfl
theorem coin_recv (c : Dev nD) : (plan m).coin0 c 1 = (plan m).coin c 1 := rfl

/-- What the transfer of device `c` writes is what its sibling's result array holds in the end. -/
theorem arrives (c : Dev nD) (f : Buf (Elt F) (out.view.loc (sib c : Thread nD τ))) :
    (out.view.loc (sib c : Thread nD τ) ↦[out.view.set]{fullShare}
        out.view.write (Elt F) f ((half c).view.read (Elt F) (given m c)) Finset.univ : sProp 𝕄) ⊢ (plan m).pay (sib c) 1 := by
  have h : (out.view.write (Elt F) f ((half c).view.read (Elt F) (given m c)) Finset.univ : Buf (Elt F) (out.view.loc (sib c : Thread nD τ)))
      = final m (sib c) := by
    rw [View.write_whole_univ]
    unfold final
    rw [sib_sib]
  rw [h, pay_recv]

theorem owed_eq (c : Dev nD) : (plan m).owed c = 0 + (plan m).due c 1 := by
  unfold Plan.owed
  rw [Fin.sum_univ_two]
  rfl

theorem fin2 (Φ : Fin 2 → sProp 𝕄) : bigSep Finset.univ Φ = iprop(Φ 0 ∗ Φ 1) := bigSep_univ_eq_bigSepL [0, 1] (by decide) (by decide) Φ

/-- What device `c` starts with: its own argument, and its sibling's result array. -/
def held (c : Dev nD) : sProp 𝕄 :=
  iprop((arg.view.loc (c : Thread nD τ) ↦[arg.view.set]{fullShare} given m c)
    ∗ (out.view.loc (sib c : Thread nD τ) ↦[out.view.set]{fullShare} m ((sib c : Thread nD τ).loc main_v1)))
/-- What it ends with: the argument as it was, and its own result array filled. -/
def done (c : Dev nD) : sProp 𝕄 :=
  iprop((arg.view.loc (c : Thread nD τ) ↦[arg.view.set]{fullShare} given m c) ∗ (out.view.loc (c : Thread nD τ) ↦[out.view.set]{fullShare} final m c))

theorem held_eq (c : Dev nD) : held m c = iprop((((c : Thread nD τ).loc main_arg0) ↦{fullShare} given m c)
    ∗ (((sib c : Thread nD τ).loc main_v1) ↦{fullShare} m ((sib c : Thread nD τ).loc main_v1))) := by
  unfold held; rw [whole_pts, whole_pts]

theorem deal : (bigSep Finset.univ fun c : Dev nD => Pipeline.unscopedRest (Ix := Unit) (Name := ℕ) (U := UU nD τ sig) (Lvl := ℕ) cfg0.spec c
      (fun b => m ((c : Thread nD τ).loc b)) : sProp 𝕄) ⊢ bigSep Finset.univ (held m) := by
  rw [show held m = fun c => _ from funext (held_eq m)]
  simp only [unscopedRest0_eq, bigSep_sep']
  rw [bigSep_univ_equiv sib (fun c : Dev nD => (((c : Thread nD τ).loc main_v1) ↦{fullShare} m ((c : Thread nD τ).loc main_v1) : sProp 𝕄))]

theorem ownSemFacts : Pipeline.OwnSemFacts (cfgs 0).spec (plan m).sem :=
  show Pipeline.OwnSemFacts cfg0.spec ![.dma cc0_scratch0.sem, .dma cc0_scratch1.sem] by decide

attribute [local irreducible] plan

/-- One device's run of the kernel. -/
theorem body (κ : Dev nD × Fin 2 → ℕ) (c : Dev nD) (W : Waits sig Unit) :
    iprop((plan m).records κ ∗ levAts Plan.L (plan m).lv ∗ (plan m).start c ∗ held m c ∗ owes (c : Thread nD τ) ((plan m).owed c) W)
      ⊢ wp frame (wpE (defs₀ (F := F)) Variants.none (c : Thread nD τ) none) Set.univ
          (cc0_swap_halves arg (Memref.isWhole_whole _) out (Memref.isWhole_whole _) cc0_scratch0 cc0_scratch1)
          fun _ => iprop((plan m).rest c ∗ done m c ∗ ∃ W', owes (c : Thread nD τ) 0 W') := by
  rw [cc0_swap_halves_eq_skeleton]; unfold cc0_swap_halves_skel
  simp only [Prog.lift, Prog.bind_op, Prog.bind_ret, Prog.pure_eq_ret, wp_deviceId]
  unfold Plan.start held Plan.rest
  rw [owed_eq]
  simp only [fin2, coin_send, coin_recv]
  iintro ⟨#HR, -, ⟨⟨HatS, HatR⟩, ⟨HtS, HtR⟩, -, HcR⟩, ⟨Ha, Ho⟩, HO⟩
  icases (pointsTo_split_subset (half_sub c)).1 $$ Ha with ⟨Ha, Hrest⟩
  iapply ((plan m).wp_send Variants.none κ c (sib c) (dev1_eq c) 0 1 (sem_send m) (sem_recv m) (dest_send m c) (dest_recv m c) (src := half c) (dst := out) (units_out m 1) (units_eq m) 0 rfl (W := W)
    (q := fullShare) (fs := given m c) (fd := m ((sib c : Thread nD τ).loc main_v1))
    (Entails.of_eq (pay_send m c).symm) (arrives m c _) (hroute := by routes)) $$ [Ha Ho HO HtS HtR]
  · isplitr; · iexact HR
    isplitl [Ha]; · iexact Ha
    isplitl [Ho]; · iexact Ho
    isplitl [HO]; · iexact HO
    isplitl [HtS]; · iexact HtS
    iexact HtR
  iintro ⟨HcS, HO⟩
  iapply ((plan m).wp_waitDma Variants.none κ c 0 (sem_send m) (units_half m 0 c)) $$ [HcS HO HatS]
  · isplitr; · iexact HR
    isplitl [HcS]; · iexact HcS
    isplitl [HO]; · iexact HO
    iexact HatS
  iintro ⟨HO, Ha, HzS⟩
  ihave Ha := (Entails.of_eq (pay_send m c)) $$ Ha
  iapply ((plan m).wp_waitDma Variants.none κ c 1 (sem_recv m) (units_out m 1)) $$ [HcR HO HatR]
  · isplitr; · iexact HR
    isplitl [HcR]; · iexact HcR
    isplitl [HO]; · iexact HO
    iexact HatR
  iintro ⟨HO, Ho, HzR⟩
  ihave Ho := (Entails.of_eq (pay_recv m c)) $$ Ho
  rw [wp_ret]; imodintro
  unfold done
  isplitl [HzS HzR]
  · isplitl [HzS]; · iexact HzS
    iexact HzR
  isplitl [Ha Hrest Ho]
  · isplitl [Ha Hrest]
    · iapply (pointsTo_split_subset (half_sub c)).2
      isplitl [Ha]; · iexact Ha
      iexact Hrest
    iexact Ho
  iexists _
  iexact HO

/-- The run of the eight devices, from any memory, every counter at zero: every execution terminates with the arguments as
    they were, each result array holding the half the sibling sent, and every counter at zero. -/
theorem run_main : θ_run (defs (F := F)) (onTc (τ := τ) (main (F := F))) ⟨m, fun _ => 0, ρ⟩ fun r =>
    (∀ c : Dev nD, r.2.mem ((c.tc : Thread nD τ).loc main_arg0) = given m c ∧ r.2.mem ((c.tc : Thread nD τ).loc main_v1) = final m c)
      ∧ r.2.sem = fun _ => 0 :=
  launch cfgs (plan m) (defs₀ (F := F)) Variants.none launch0 (ownSemFacts m) (fun p => by fin_cases p; exact inferInstanceAs (IsEmpty (Fin 0))) N_0
    main (fun _ => rfl) m ρ (held m) (done m) (deal m)
    (fun t κ c W => body m κ c W)
    (fun c mem => mem.mem ((c.tc : Thread nD τ).loc main_arg0) = given m c ∧ mem.mem ((c.tc : Thread nD τ).loc main_v1) = final m c)
    (fun c s' => by unfold done; rw [whole_pts, whole_pts]; exact read_two _ _ s')
    (fun s h hs => ⟨h, sem_eq_zero_of_scoped (by decide) hs⟩)

end Cert.Swapping

end
-- ==== Proof.SwapRef.lean ====
/-
The reference of the exchange of halves: its run, for any float values, and what one device's block of its result is.
-/
module

public import proofs.«01_k».proof.Proof.Swap
public import proofs.«01_k».proof.Proof.Gen.SwapRefIdeal
public import Idealize.ShloMosaic.Lib.StableHlo.Run
public import Idealize.ShloMosaic.Lib.Pointwise
public import Idealize.ShloMosaic.Lib.Layout

@[expose] public section

noncomputable section

namespace Cert.Swapping.Ref

open Cert.SwapRefIdeal Cert.SwapRefIdeal.Gen
open Idealize.ShloMosaic Idealize.ShloMosaic.TcCoe Idealize.ShloMosaic.StableHlo Idealize.SL.Sem

variable {F : FTy → Type} [FloatOps F] {α : Type}

/-- The array cut into chips, cores, slots and halves. -/
def cut (x : S32x34880x128.Idx → α) : S4x2x4x2x17440x128.Idx → α := shapeCast S4x2x4x2x17440x128 x shapeCasts_S32x34880x128_S4x2x4x2x17440x128

/-- What core 0, and what core 1, of each chip receives. -/
def first (x : S32x34880x128.Idx → α) : S4x4x17440x128.Idx → α :=
  shapeCast S4x4x17440x128 (extractStridedSlice S4x1x4x1x17440x128 ![0, 1, 0, 0, 0, 0] (cut x) slices_S4x2x4x2x17440x128_S4x1x4x1x17440x128_0_1_0_0_0_0)
    shapeCasts_S4x1x4x1x17440x128_S4x4x17440x128
def second (x : S32x34880x128.Idx → α) : S4x4x17440x128.Idx → α :=
  shapeCast S4x4x17440x128 (extractStridedSlice S4x1x4x1x17440x128 ![0, 0, 0, 1, 0, 0] (cut x) slices_S4x2x4x2x17440x128_S4x1x4x1x17440x128_0_0_0_1_0_0)
    shapeCasts_S4x1x4x1x17440x128_S4x4x17440x128

/-- The reference's result from its argument. -/
def refOut (x : S32x34880x128.Idx → α) : S32x17440x128.Idx → α :=
  shapeCast S32x17440x128 (concatenate S4x2x4x17440x128 1
    [⟨S4x1x4x17440x128, broadcastInDim S4x1x4x17440x128 ![0, 2, 3, 4] bcast_S4x4x17440x128_S4x1x4x17440x128_0_2_3_4 (first x)⟩,
     ⟨S4x1x4x17440x128, broadcastInDim S4x1x4x17440x128 ![0, 2, 3, 4] bcast_S4x4x17440x128_S4x1x4x17440x128_0_2_3_4 (second x)⟩]
    concatenates_S4x1x4x17440x128_S4x1x4x17440x128_S4x2x4x17440x128_d1) shapeCasts_S4x2x4x17440x128_S32x17440x128

/-- @main's operations, in order. -/
abbrev ops : List (HloOp τ sig (Elt F)) :=
  [ StableHlo.reshape main_arg0 main_v0 (rfl : (.f32 : EltTy) = .f32) shapeCasts_S32x34880x128_S4x2x4x2x17440x128,
    unary main_v0 main_v1 (extractStridedSlice S4x1x4x1x17440x128 ![0, 1, 0, 0, 0, 0] · slices_S4x2x4x2x17440x128_S4x1x4x1x17440x128_0_1_0_0_0_0),
    StableHlo.reshape main_v1 main_v2 (rfl : (.f32 : EltTy) = .f32) shapeCasts_S4x1x4x1x17440x128_S4x4x17440x128,
    unary main_v0 main_v3 (extractStridedSlice S4x1x4x1x17440x128 ![0, 0, 0, 1, 0, 0] · slices_S4x2x4x2x17440x128_S4x1x4x1x17440x128_0_0_0_1_0_0),
    StableHlo.reshape main_v3 main_v4 (rfl : (.f32 : EltTy) = .f32) shapeCasts_S4x1x4x1x17440x128_S4x4x17440x128,
    unary main_v2 main_v5 (broadcastInDim S4x1x4x17440x128 ![0, 2, 3, 4] bcast_S4x4x17440x128_S4x1x4x17440x128_0_2_3_4),
    unary main_v4 main_v6 (broadcastInDim S4x1x4x17440x128 ![0, 2, 3, 4] bcast_S4x4x17440x128_S4x1x4x17440x128_0_2_3_4),
    binary main_v5 main_v6 main_v7 (fun a b => concatenate S4x2x4x17440x128 1 [⟨S4x1x4x17440x128, a⟩, ⟨S4x1x4x17440x128, b⟩] concatenates_S4x1x4x17440x128_S4x1x4x17440x128_S4x2x4x17440x128_d1),
    StableHlo.reshape main_v7 main_v8 (rfl : (.f32 : EltTy) = .f32) shapeCasts_S4x2x4x17440x128_S32x17440x128 ]

/-- @main is that straight line. -/
theorem main_eq (c : Dev nD) : main (F := F) c = seq ops := rfl

theorem out_eq (V : Valuation τ sig (Elt F)) : after ops V (main_v8 : DevRef τ sig) = refOut (V (main_arg0 : DevRef τ sig)) := by
  after_results
  rfl

theorem arg0_eq (V : Valuation τ sig (Elt F)) : after ops V (main_arg0 : DevRef τ sig) = V (main_arg0 : DevRef τ sig) := by
  after_results

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨reshape_bufs_sub .., unary_bufs_sub .., reshape_bufs_sub .., unary_bufs_sub .., reshape_bufs_sub .., unary_bufs_sub .., unary_bufs_sub ..,
    binary_bufs_sub .., reshape_bufs_sub ..⟩

/-- On its one device, from any memory: every execution terminates with the result array at `refOut` of the argument, the
    argument unchanged and every counter at zero. -/
theorem run_main (m : (ℓ : Loc nD τ sig) → Buf (Elt F) ℓ) (ρ : Dev nD → PrngReg) :
    θ_run defs (onTc (τ := τ) (main (F := F))) ⟨m, fun _ => 0, ρ⟩ fun r =>
      ∀ c : Dev nD, r.2.mem ((c.tc : Thread nD τ).loc main_v8) = refOut (m ((c.tc : Thread nD τ).loc main_arg0))
        ∧ r.2.mem ((c.tc : Thread nD τ).loc main_arg0) = m ((c.tc : Thread nD τ).loc main_arg0) :=
  (θ_run defs _ _).mono (fun _ h c => ⟨(h c main_v8).trans (out_eq _), (h c main_arg0).trans (arg0_eq _)⟩)
    (run_seq scopedRefs_eq scopedSems_eq defs main (fun _ => ops) main_eq (fun _ => ops_sub) m ρ)

/-- Block `c` of the result is the half device `c`'s sibling sends, of that device's block of the argument. -/
theorem block_refOut (c : Fin 8) (x : S32x34880x128.Idx → α) (h₁ : Layout.Tiles SwapIdeal.S4x17440x128 S32x17440x128 0 8)
    (h₂ : Layout.Tiles SwapIdeal.S4x34880x128 S32x34880x128 0 8) :
    Layout.block SwapIdeal.S4x17440x128 S32x17440x128 0 8 c (refOut x) h₁
      = fun i => Layout.block SwapIdeal.S4x34880x128 S32x34880x128 0 8 (Mail.sib c) x h₂ ((half (Mail.sib c)).view.emb i) := by
  funext i
  rw [Layout.block_apply, Layout.block_apply]
  unfold refOut first second cut
  idx_vars i
  have hs : (Mail.sib c).val = if c.val % 2 = 0 then c.val + 1 else c.val - 1 := by revert c; decide
  have e0 : (h₁.idx c (ix3 i0 i1 i2) 0).val = c.val * 4 + i0.val := rfl
  have e1 : (h₁.idx c (ix3 i0 i1 i2) 1).val = i1.val := rfl
  have e2 : (h₁.idx c (ix3 i0 i1 i2) 2).val = i2.val := rfl
  have f0 : (h₂.idx (Mail.sib c) ((half (Mail.sib c)).view.emb (ix3 i0 i1 i2)) 0).val
      = (Mail.sib c).val * 4 + (SwapIdeal.k0_off1 (Mail.sib c) 0 + i0.val) := congrArg ((Mail.sib c).val * 4 + ·) (congrArg (SwapIdeal.k0_off1 (Mail.sib c) 0 + ·) (Nat.one_mul _))
  have f1 : (h₂.idx (Mail.sib c) ((half (Mail.sib c)).view.emb (ix3 i0 i1 i2)) 1).val
      = SwapIdeal.k0_off1 (Mail.sib c) 1 + i1.val := congrArg (SwapIdeal.k0_off1 (Mail.sib c) 1 + ·) (Nat.one_mul _)
  have f2 : (h₂.idx (Mail.sib c) ((half (Mail.sib c)).view.emb (ix3 i0 i1 i2)) 2).val
      = SwapIdeal.k0_off1 (Mail.sib c) 2 + i2.val := congrArg (SwapIdeal.k0_off1 (Mail.sib c) 2 + ·) (Nat.one_mul _)
  rw [SwapIdeal.Gen.k0_off1_eq] at f0 f1 f2
  simp only [Matrix.cons_val] at f0 f1 f2
  have hi0 := i0.isLt
  generalize h₂.idx (Mail.sib c) ((half (Mail.sib c)).view.emb (ix3 i0 i1 i2)) = j at f0 f1 f2 ⊢
  pointwise
  simp only [e0]
  split_ifs with h
  all_goals
    refine congrArg x (funext fun a => Fin.ext ?_)
    fin_cases a
    · simp [f0, f1, f2, e0, e1, e2]; split_ifs at hs <;> omega
    · simp [f0, f1, f2, e0, e1, e2]; split_ifs at hs <;> omega
    · simp [f0, f1, f2, e0, e1, e2]

end Cert.Swapping.Ref

end
-- ==== Proof.SwapClaims.lean ====
/-
The claims about the exchange of halves, from the run of the eight devices and that of the reference.
-/
module

public import proofs.«01_k».proof.Defs
public import proofs.«01_k».proof.Proof.SwapRef
public import proofs.«01_k».proof.Proof.Gen.Swap
public import proofs.«01_k».proof.Proof.Gen.SwapRef

@[expose] public section

noncomputable section

namespace Cert.Swapping

open Idealize.ShloMosaic Idealize.ShloMosaic.TcCoe Idealize.SL.Sem

variable {F : FTy → Type} [FloatOps F]

/-- Where the devices' arguments are the blocks of `x`, what device `c` ends with is block `c` of the reference's result. -/
theorem final_block (m : (ℓ : Loc SwapIdeal.nD SwapIdeal.τ SwapIdeal.sig) → Buf (Elt F) ℓ) (x : SwapRefIdeal.S32x34880x128.Idx → F .f32)
    (h₁ : Layout.Tiles SwapIdeal.S4x17440x128 SwapRefIdeal.S32x17440x128 0 8)
    (h₂ : Layout.Tiles SwapIdeal.S4x34880x128 SwapRefIdeal.S32x34880x128 0 8)
    (h : ∀ c : Fin 8, (given m c : SwapIdeal.S4x34880x128.Idx → F .f32) = Layout.block SwapIdeal.S4x34880x128 SwapRefIdeal.S32x34880x128 0 8 c x h₂) (c : Fin 8) :
    (final m c : SwapIdeal.S4x17440x128.Idx → F .f32) = Layout.block SwapIdeal.S4x17440x128 SwapRefIdeal.S32x17440x128 0 8 c (Ref.refOut x) h₁ := by
  rw [Ref.block_refOut c x h₁ h₂, ← h (Mail.sib c)]
  rfl

/-- The kernel's call runs, over the device's own arithmetic and over exact arithmetic, its argument unchanged. -/
theorem frame_kernel : Cert.quiescent_Swap := fun m ρ _ =>
  (θ_run Cert.SwapIdeal.defs _ _).mono (fun _ h => ⟨fun c => (h.1 c).1, h.2⟩) (run_main (F := Bits) m ρ)
theorem frame_ideal : Cert.quiescent_SwapIdeal := fun m ρ _ =>
  (θ_run Cert.SwapIdeal.defs _ _).mono (fun _ h => ⟨fun c => (h.1 c).1, h.2⟩) (run_main (F := Ideal) m ρ)

/-- So does the reference. -/
theorem frame_ref_ideal : Cert.quiescent_SwapRefIdeal := fun m ρ _ =>
  (θ_run Cert.SwapRefIdeal.defs _ _).mono (fun r h => ⟨fun c => (h c).2, sem_eq_zero_of_no_sems (by decide) r.2⟩) (Ref.run_main (F := Ideal) m ρ)
theorem frame_ref : Cert.quiescent_SwapRef := fun m ρ _ =>
  (θ_run Cert.SwapRefIdeal.defs _ _).mono (fun r h => ⟨fun c => (h c).2, sem_eq_zero_of_no_sems (by decide) r.2⟩) (Ref.run_main (F := Bits) m ρ)

/-- In exact arithmetic, device `c`'s result is block `c` of the reference's. -/
theorem algebraic : Cert.algebraic_SwapIdeal_SwapRefIdeal := fun m g m' g' _ hag =>
  ⟨Ref.refOut (m' (((0 : Dev Cert.SwapRefIdeal.nD).tc : Thread Cert.SwapRefIdeal.nD Cert.SwapRefIdeal.τ).loc Cert.SwapRefIdeal.main_arg0)),
    (θ_run Cert.SwapIdeal.defs _ _).mono (fun _ h c => ⟨(h.1 c).2.trans (final_block m _ _ _ hag c), (h.1 c).1⟩) (run_main (F := Ideal) m g),
    (θ_run Cert.SwapRefIdeal.defs _ _).mono (fun _ h => h 0) (Ref.run_main (F := Ideal) m' g')⟩

/-- The same, bit for bit. -/
theorem bitexact : Cert.bitexact_Swap_SwapRef := fun m g m' g' _ hag =>
  ⟨Ref.refOut (m' (((0 : Dev Cert.SwapRef.nD).tc : Thread Cert.SwapRef.nD Cert.SwapRef.τ).loc Cert.SwapRef.main_arg0)),
    (θ_run Cert.SwapIdeal.defs _ _).mono (fun _ h c => ⟨(h.1 c).2.trans (final_block m _ _ _ hag c), (h.1 c).1⟩) (run_main (F := Bits) m g),
    (θ_run Cert.SwapRefIdeal.defs _ _).mono (fun _ h => h 0) (Ref.run_main (F := Bits) m' g')⟩

end Cert.Swapping

end
-- ==== Proof.GatherPlaces.lean ====
/-
The all-gather of the weights, where things lie: which elements of the argument and of the result array each transfer of the
kernel reads and writes, and what the result array holds in the end.
-/
module

public import proofs.«01_k».proof.Proof.Parcel
public import proofs.«01_k».proof.Proof.Gen.GatherIdeal
public import Idealize.ShloMosaic.Lib.PointwiseCore

@[expose] public section

noncomputable section

namespace Cert.Gathering

open Cert.GatherIdeal Cert.GatherIdeal.Gen Cert.Mail
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

set_option Elab.async false

variable {F : FTy → Type} [FloatOps F]

local notation "𝕄" => MM nD τ sig (Elt F)

variable (m : (ℓ : Loc nD τ sig) → Buf (Elt F) ℓ) (ρ : Dev nD → PrngReg)

abbrev arg : Memref sig .tc .hbm S34880x128 .bf16 := Memref.whole main_arg0
abbrev out : Memref sig .tc .hbm S4x34880x128 .bf16 := Memref.whole main_v1

/-- The half of a chip's block that begins at `o`, in the result array; the whole block of a device's own chip; the half of the
    argument the device sends. -/
abbrev blk (o : Fin 3 → ℕ) (h : ∀ a, o a + S1x17440x128.size a ≤ S4x34880x128.size a) : Memref sig .tc .hbm S17440x128 .bf16 :=
  (out.slice (Rect.unit (s := S4x34880x128) o S1x17440x128.size h) (fun _ => rfl)).squeeze S17440x128 squeezes_S1x17440x128_S17440x128
abbrev own (d : Dev nD) : Memref sig .tc .hbm S34880x128 .bf16 :=
  (out.slice (Rect.unit (s := S4x34880x128) (k0_off1 d) S1x34880x128.size (k0_off1_inb d)) (fun _ => rfl)).squeeze S34880x128 squeezes_S1x34880x128_S34880x128
abbrev argHalf (d : Dev nD) : Memref sig .tc .hbm S17440x128 .bf16 :=
  arg.slice (Rect.unit (s := S34880x128) (k0_off3 d) S17440x128.size (k0_off3_inb d)) (fun _ => rfl)

/-! ## Devices -/

/-- A device's chip, and its core on it. -/
def chip (d : Fin 8) : Fin 4 := ⟨d.val / 2, by omega⟩
def core (d : Fin 8) : Fin 2 := ⟨d.val % 2, by omega⟩

/-- The three other chips as seen from one: across the first axis, the second, both. -/
def across : Fin 3 → Fin 4 → Fin 4 := ![![2, 3, 0, 1], ![1, 0, 3, 2], ![3, 2, 1, 0]]

/-- The device of the same core on such a chip. -/
def peer (j : Fin 3) : Equiv.Perm (Fin 8) where
  toFun c := ⟨2 * (across j (chip c)).val + (core c).val, by have := (across j (chip c)).isLt; have := (core c).isLt; omega⟩
  invFun c := ⟨2 * (across j (chip c)).val + (core c).val, by have := (across j (chip c)).isLt; have := (core c).isLt; omega⟩
  left_inv := by revert j; decide
  right_inv := by revert j; decide

theorem peer_peer (j : Fin 3) (c : Fin 8) : peer j (peer j c) = c := (peer j).left_inv c

theorem dev1_eq (c : Dev nD) : (⟨k0_dev1 c, k0_dev1_lt c⟩ : Dev nD) = peer 0 c := by revert c; decide +kernel
theorem dev2_eq (c : Dev nD) : (⟨k0_dev2 c, k0_dev2_lt c⟩ : Dev nD) = peer 1 c := by revert c; decide +kernel
theorem dev3_eq (c : Dev nD) : (⟨k0_dev3 c, k0_dev3_lt c⟩ : Dev nD) = peer 2 c := by revert c; decide +kernel
theorem dev4_eq (c : Dev nD) : (⟨k0_dev4 c, k0_dev4_lt c⟩ : Dev nD) = sib c := by revert c; decide +kernel
theorem dev5_eq (c : Dev nD) : (⟨k0_dev5 c, k0_dev5_lt c⟩ : Dev nD) = sib c := by revert c; decide +kernel
theorem dev6_eq (c : Dev nD) : (⟨k0_dev6 c, k0_dev6_lt c⟩ : Dev nD) = sib c := by revert c; decide +kernel

/-! ## The result array in half blocks -/

/-- The chip and the half an element belongs to. -/
def place (i : S4x34880x128.Idx) : Fin 4 × Fin 2 := (i 0, ⟨(i 1).val / 17440, by have h : (i 1).val < 34880 := (i 1).isLt; omega⟩)

/-- The elements of some half blocks. -/
@[irreducible] def cells (s : Finset (Fin 4 × Fin 2)) : Finset S4x34880x128.Idx := Finset.univ.filter fun i => place i ∈ s

theorem mem_cells (s : Finset (Fin 4 × Fin 2)) (i : S4x34880x128.Idx) : i ∈ cells s ↔ place i ∈ s := by
  unfold cells; simp

/-- The seven parts of device `c`'s result array: its own chip's block, the three halves that come from its peers, and the three
    that its sibling passes on. -/
def zone (c : Fin 8) : Fin 7 → Finset (Fin 4 × Fin 2) :=
  ![{(chip c, 0), (chip c, 1)}, {(across 0 (chip c), core c)}, {(across 1 (chip c), core c)}, {(across 2 (chip c), core c)},
    {(across 0 (chip c), 1 - core c)}, {(across 1 (chip c), 1 - core c)}, {(across 2 (chip c), 1 - core c)}]

/-- The part that a half block is, or is in. -/
def part (c : Fin 8) (p : Fin 4 × Fin 2) : Fin 7 :=
  if p.1 = chip c then 0 else if p.1 = across 0 (chip c) then (if p.2 = core c then 1 else 4)
    else if p.1 = across 1 (chip c) then (if p.2 = core c then 2 else 5) else (if p.2 = core c then 3 else 6)

theorem mem_zone : ∀ (c : Fin 8) (t : Fin 7) (p : Fin 4 × Fin 2), p ∈ zone c t ↔ part c p = t := by decide +kernel

theorem part_zero : ∀ (c : Fin 8) (p : Fin 4 × Fin 2), part c p = 0 ↔ p.1 = chip c := by decide +kernel

/-- Half blocks of a device's result array in someone's hands. -/
def pts (d : Dev nD) (s : Finset (Fin 4 × Fin 2)) (f : Buf (Elt F) ((d.tc : Thread nD τ).loc main_v1)) : sProp 𝕄 :=
  (d.tc : Thread nD τ).loc main_v1 ↦[cells s]{fullShare} f

instance (d : Dev nD) (s : Finset (Fin 4 × Fin 2)) (f : Buf (Elt F) ((d.tc : Thread nD τ).loc main_v1)) : BI.Storable (upEmb : UEmb _ 𝕄) (pts d s f) := by
  unfold pts; infer_instance

theorem fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-- A whole result array is its seven parts. -/
theorem out_parts (c : Dev nD) (f : Buf (Elt F) ((c.tc : Thread nD τ).loc main_v1)) :
    ((c.tc : Thread nD τ).loc main_v1 ↦{fullShare} f : sProp 𝕄)
      = iprop(pts c (zone c 0) f ∗ pts c (zone c 1) f ∗ pts c (zone c 2) f ∗ pts c (zone c 3) f ∗ pts c (zone c 4) f ∗ pts c (zone c 5) f ∗ pts c (zone c 6) f) := by
  rw [pieces (T := Fin 7) (fun i : S4x34880x128.Idx => part c (place i)) (fun t => cells (zone c t)) (fun t i => (mem_cells _ _).trans (mem_zone _ _ _)) f, fin7]
  rfl

/-! ## What the transfers touch -/

/-- An element of a half block is the one of the same row and lane. -/
theorem lift_eq (h : S17440x128.numel = S1x17440x128.numel) (a : Fin 17440) (b : Fin 128) : Shape.reshapeEquiv h (ix2 a b) = (ix3 0 a b : S1x17440x128.Idx) := by
  have e : shapeCast S17440x128 (fun i : S1x17440x128.Idx => i) h (ix2 a b) = ix3 0 a b := by pointwise
  exact e
theorem lift_own_eq (h : S34880x128.numel = S1x34880x128.numel) (a : Fin 34880) (b : Fin 128) : Shape.reshapeEquiv h (ix2 a b) = (ix3 0 a b : S1x34880x128.Idx) := by
  have e : shapeCast S34880x128 (fun i : S1x34880x128.Idx => i) h (ix2 a b) = ix3 0 a b := by pointwise
  exact e

/-- Row `a` of a half. -/
def row (g : Fin 2) (a : Fin 17440) : Fin 34880 := ⟨17440 * g.val + a.val, by omega⟩

/-- Where an element of a half block lies in the result array. -/
theorem emb_blk (o : Fin 3 → ℕ) (h) (k : Fin 4) (g : Fin 2) (ho : o = ![k.val, 17440 * g.val, 0]) (a : Fin 17440) (b : Fin 128) :
    ((blk o h).view.emb (ix2 a b) : S4x34880x128.Idx) = ix3 k (row g a) b := by
  have e : ((blk o h).view.emb (ix2 a b) : S4x34880x128.Idx)
      = (Rect.unit (s := S4x34880x128) o S1x17440x128.size h).emb (Shape.reshapeEquiv (by decide) (ix2 a b) : S1x17440x128.Idx) := rfl
  rw [e, lift_eq]
  funext t
  apply Fin.ext
  rw [Rect.emb_apply, Rect.off_unit, Rect.stride_unit]
  subst ho
  fin_cases t
  · exact Nat.add_zero _
  · exact congrArg (17440 * g.val + ·) (Nat.one_mul _)
  · exact (Nat.zero_add _).trans (Nat.one_mul _)

theorem emb_own (d : Dev nD) (a : Fin 34880) (b : Fin 128) : ((own d).view.emb (ix2 a b) : S4x34880x128.Idx) = ix3 (chip d) a b := by
  have e : ((own d).view.emb (ix2 a b) : S4x34880x128.Idx)
      = (Rect.unit (s := S4x34880x128) (k0_off1 d) S1x34880x128.size (k0_off1_inb d)).emb (Shape.reshapeEquiv (by decide) (ix2 a b) : S1x34880x128.Idx) := rfl
  rw [e, lift_own_eq]
  funext t
  apply Fin.ext
  rw [Rect.emb_apply, Rect.off_unit, Rect.stride_unit]
  refine (congrArg (· + 1 * ((ix3 0 a b : S1x34880x128.Idx) t).val) (congrFun (k0_off1_eq d) t)).trans ?_
  fin_cases t
  · show 2 * (d.val / 4) + d.val / 2 % 2 + 1 * 0 = d.val / 2
    omega
  · exact (Nat.zero_add _).trans (Nat.one_mul _)
  · exact (Nat.zero_add _).trans (Nat.one_mul _)

theorem emb_argHalf (d : Dev nD) (a : Fin 17440) (b : Fin 128) : ((argHalf d).view.emb (ix2 a b) : S34880x128.Idx) = ix2 (row (core d) a) b := by
  have e : ((argHalf d).view.emb (ix2 a b) : S34880x128.Idx)
      = (Rect.unit (s := S34880x128) (k0_off3 d) S17440x128.size (k0_off3_inb d)).emb (ix2 a b : S17440x128.Idx) := rfl
  rw [e]
  funext t
  apply Fin.ext
  rw [Rect.emb_apply, Rect.off_unit, Rect.stride_unit]
  refine (congrArg (· + 1 * ((ix2 a b : S17440x128.Idx) t).val) (congrFun (k0_off3_eq d) t)).trans ?_
  fin_cases t
  · exact congrArg (17440 * (d.val % 2) + ·) (Nat.one_mul _)
  · exact (Nat.zero_add _).trans (Nat.one_mul _)

/-- The elements of a half block. -/
theorem set_blk (o : Fin 3 → ℕ) (h) (k : Fin 4) (g : Fin 2) (ho : o = ![k.val, 17440 * g.val, 0]) :
    ((blk o h).view.set : Finset S4x34880x128.Idx) = cells {(k, g)} := by
  ext i
  rw [show ((blk o h).view.set : Finset S4x34880x128.Idx) = (Rect.unit (s := S4x34880x128) o S1x17440x128.size h).set from
    (View.set_reshape ..).trans (View.set_slice_whole ..), Rect.mem_set_unit, mem_cells, Finset.mem_singleton]
  subst ho
  have h0 : (i 0).val < 4 := (i 0).isLt
  have h1 : (i 1).val < 34880 := (i 1).isLt
  have h2 : (i 2).val < 128 := (i 2).isLt
  have hg := g.isLt
  refine ⟨fun hi => ?_, fun hi a => ?_⟩
  · have a0 : k.val ≤ (i 0).val ∧ (i 0).val < k.val + 1 := hi 0
    have a1 : 17440 * g.val ≤ (i 1).val ∧ (i 1).val < 17440 * g.val + 17440 := hi 1
    refine Prod.ext (Fin.ext ?_) (Fin.ext ?_)
    · show (i 0).val = k.val
      omega
    · show (i 1).val / 17440 = g.val
      omega
  · have a0 : (i 0).val = k.val := congrArg (fun p : Fin 4 × Fin 2 => p.1.val) hi
    have a1 : (i 1).val / 17440 = g.val := congrArg (fun p : Fin 4 × Fin 2 => p.2.val) hi
    fin_cases a
    · show k.val ≤ (i 0).val ∧ (i 0).val < k.val + 1
      omega
    · show 17440 * g.val ≤ (i 1).val ∧ (i 1).val < 17440 * g.val + 17440
      omega
    · show 0 ≤ (i 2).val ∧ (i 2).val < 0 + 128
      omega

/-- The elements of a device's own chip's block. -/
theorem set_own (d : Dev nD) : ((own d).view.set : Finset S4x34880x128.Idx) = cells (zone d 0) := by
  ext i
  rw [show ((own d).view.set : Finset S4x34880x128.Idx) = (Rect.unit (s := S4x34880x128) (k0_off1 d) S1x34880x128.size (k0_off1_inb d)).set from
    (View.set_reshape ..).trans (View.set_slice_whole ..), Rect.mem_set_unit, mem_cells, k0_off1_eq]
  have h0 : (i 0).val < 4 := (i 0).isLt
  have h1 : (i 1).val < 34880 := (i 1).isLt
  have h2 : (i 2).val < 128 := (i 2).isLt
  have hz : place i ∈ zone d 0 ↔ (i 0).val = d.val / 2 := by
    rw [mem_zone, part_zero]
    exact Fin.ext_iff (a := i 0) (b := chip d)
  rw [hz]
  refine ⟨fun hi => ?_, fun hi a => ?_⟩
  · have a0 : 2 * (d.val / 4) + d.val / 2 % 2 ≤ (i 0).val ∧ (i 0).val < 2 * (d.val / 4) + d.val / 2 % 2 + 1 := hi 0
    omega
  · fin_cases a
    · show 2 * (d.val / 4) + d.val / 2 % 2 ≤ (i 0).val ∧ (i 0).val < 2 * (d.val / 4) + d.val / 2 % 2 + 1
      omega
    · show 0 ≤ (i 1).val ∧ (i 1).val < 0 + 34880
      omega
    · show 0 ≤ (i 2).val ∧ (i 2).val < 0 + 128
      omega

/-! ## The contents -/

/-- The device's argument at the launch. -/
abbrev given (c : Dev nD) : Buf (Elt F) ((c.tc : Thread nD τ).loc main_arg0) := m ((c.tc : Thread nD τ).loc main_arg0)

/-- Whose argument row `r` of chip `k`'s block is from, on device `c`: its own on its own chip, elsewhere that of the core the half
    belongs to. -/
def src (c : Fin 8) (k : Fin 4) (r : Fin 34880) : Fin 8 := if k = chip c then c else ⟨2 * k.val + r.val / 17440, by omega⟩

/-- What the result array holds in the end. -/
def final (c : Dev nD) : Buf (Elt F) ((c.tc : Thread nD τ).loc main_v1) :=
  fun i : S4x34880x128.Idx => (given m (src c (i 0) (i 1)) : S34880x128.Idx → F .bf16) (ix2 (i 1) (i 2))

theorem src_own (c : Fin 8) (r : Fin 34880) : src c (chip c) r = c := if_pos rfl

theorem src_row (c : Fin 8) (k : Fin 4) (hk : k ≠ chip c) (g : Fin 2) (a : Fin 17440) : src c k (row g a) = ⟨2 * k.val + g.val, by omega⟩ := by
  unfold src row
  rw [if_neg hk]
  have := a.isLt
  refine Fin.ext ?_
  show 2 * k.val + (17440 * g.val + a.val) / 17440 = 2 * k.val + g.val
  omega

theorem chip_peer : ∀ (j : Fin 3) (c : Fin 8), chip c ≠ chip (peer j c) := by decide
theorem chip_sib : ∀ c : Fin 8, chip (sib c) = chip c := by decide
theorem across_ne : ∀ (j : Fin 3) (k : Fin 4), across j k ≠ k := by decide
theorem dev_eq (c : Fin 8) (h) : (⟨2 * (chip c).val + (core c).val, h⟩ : Fin 8) = c := Fin.ext (by show 2 * (c.val / 2) + c.val % 2 = c.val; omega)

/-- The part of the result array a peer's half comes to, and the one its sibling passes. -/
def near : Fin 3 → Fin 7 := ![1, 2, 3]
def away : Fin 3 → Fin 7 := ![4, 5, 6]
theorem zone_near : ∀ (j : Fin 3) (c : Fin 8), zone c (near j) = {(across j (chip c), core c)} := by decide +kernel
theorem zone_peer : ∀ (j : Fin 3) (c : Fin 8), zone (peer j c) (near j) = {(chip c, core c)} := by decide +kernel
theorem zone_sib : ∀ (j : Fin 3) (c : Fin 8), zone (sib c) (away j) = {(across j (chip c), core c)} := by decide +kernel

/-- A half block held, named by its memref; and a device's own chip's block. -/
theorem blk_pts (d : Dev nD) (o : Fin 3 → ℕ) (h) (k : Fin 4) (g : Fin 2) (ho : o = ![k.val, 17440 * g.val, 0]) (f : Buf (Elt F) ((d.tc : Thread nD τ).loc main_v1)) :
    ((blk o h).view.loc (d : Thread nD τ) ↦[(blk o h).view.set]{fullShare} f : sProp 𝕄) = pts d {(k, g)} f :=
  congrArg (fun s => ((d.tc : Thread nD τ).loc main_v1 ↦[s]{fullShare} f : sProp 𝕄)) (set_blk o h k g ho)
theorem own_pts (d : Dev nD) (f : Buf (Elt F) ((d.tc : Thread nD τ).loc main_v1)) :
    ((own d).view.loc (d : Thread nD τ) ↦[(own d).view.set]{fullShare} f : sProp 𝕄) = pts d (zone d 0) f :=
  congrArg (fun s => ((d.tc : Thread nD τ).loc main_v1 ↦[s]{fullShare} f : sProp 𝕄)) (set_own d)

theorem off2_at : ∀ c : Dev nD, k0_off2 c = ![(chip c).val, 17440 * (core c).val, 0] := by decide +kernel
theorem off4_at : ∀ c : Dev nD, k0_off4 c = ![(across 0 (chip c)).val, 17440 * (core c).val, 0] := by decide +kernel
theorem off5_at : ∀ c : Dev nD, k0_off5 c = ![(across 1 (chip c)).val, 17440 * (core c).val, 0] := by decide +kernel
theorem off6_at : ∀ c : Dev nD, k0_off6 c = ![(across 2 (chip c)).val, 17440 * (core c).val, 0] := by decide +kernel

/-- The device's own copy puts there what the array holds in the end. -/
theorem copied (c : Dev nD) (f : Buf (Elt F) ((c.tc : Thread nD τ).loc main_v1)) :
    ((own c).view.loc (c : Thread nD τ) ↦[(own c).view.set]{fullShare} (own c).view.write (Elt F) f (arg.view.read (Elt F) (given m c)) Finset.univ : sProp 𝕄)
      = pts c (zone c 0) (final m c) := by
  rw [landed (c := (c : Thread nD τ)) (own c) f (final m c) _ fun i => ?_]
  · exact own_pts c _
  obtain ⟨a, b, rfl⟩ : ∃ (a : Fin 34880) (b : Fin 128), i = ix2 a b := ⟨i 0, i 1, eq_ix2 i⟩
  show (given m c : S34880x128.Idx → F .bf16) (ix2 a b) = (final m c : S4x34880x128.Idx → F .bf16) ((own c).view.emb (ix2 a b))
  rw [emb_own]
  exact congrArg (fun e : Fin 8 => (given m e : S34880x128.Idx → F .bf16) (ix2 a b)) (src_own c a).symm

/-- So does a half that comes from a peer. -/
theorem came (j : Fin 3) (c : Dev nD) (f : Buf (Elt F) ((Dev.tc (peer j c) : Thread nD τ).loc main_v1)) :
    ((blk (k0_off2 c) (k0_off2_inb c)).view.loc (peer j c : Thread nD τ) ↦[(blk (k0_off2 c) (k0_off2_inb c)).view.set]{fullShare}
        (blk (k0_off2 c) (k0_off2_inb c)).view.write (Elt F) f ((argHalf c).view.read (Elt F) (given m c)) Finset.univ : sProp 𝕄)
      = pts (peer j c) (zone (peer j c) (near j)) (final m (peer j c)) := by
  rw [landed (c := (peer j c : Thread nD τ)) (blk (k0_off2 c) (k0_off2_inb c)) f (final m (peer j c)) _ fun i => ?_]
  · rw [zone_peer]
    exact blk_pts (peer j c) _ _ _ _ (off2_at c) _
  obtain ⟨a, b, rfl⟩ : ∃ (a : Fin 17440) (b : Fin 128), i = ix2 a b := ⟨i 0, i 1, eq_ix2 i⟩
  show (given m c : S34880x128.Idx → F .bf16) ((argHalf c).view.emb (ix2 a b))
    = (final m (peer j c) : S4x34880x128.Idx → F .bf16) ((blk (k0_off2 c) (k0_off2_inb c)).view.emb (ix2 a b))
  rw [emb_argHalf, emb_blk _ _ _ _ (off2_at c)]
  exact congrArg (fun e : Fin 8 => (given m e : S34880x128.Idx → F .bf16) (ix2 (row (core c) a) b))
    ((src_row (peer j c) (chip c) (chip_peer j c) (core c) a).trans (dev_eq c _)).symm

/-- And a half the sibling passes on. -/
theorem passed (j : Fin 3) (c : Dev nD) (o : Fin 3 → ℕ) (h) (ho : o = ![(across j (chip c)).val, 17440 * (core c).val, 0])
    (f : Buf (Elt F) ((Dev.tc (sib c) : Thread nD τ).loc main_v1)) :
    ((blk o h).view.loc (sib c : Thread nD τ) ↦[(blk o h).view.set]{fullShare}
        (blk o h).view.write (Elt F) f ((blk o h).view.read (Elt F) (final m c)) Finset.univ : sProp 𝕄)
      = pts (sib c) (zone (sib c) (away j)) (final m (sib c)) := by
  rw [landed (c := (sib c : Thread nD τ)) (blk o h) f (final m (sib c)) _ fun i => ?_]
  · rw [zone_sib]
    exact blk_pts (sib c) _ _ _ _ ho _
  obtain ⟨a, b, rfl⟩ : ∃ (a : Fin 17440) (b : Fin 128), i = ix2 a b := ⟨i 0, i 1, eq_ix2 i⟩
  show (final m c : S4x34880x128.Idx → F .bf16) ((blk o h).view.emb (ix2 a b)) = (final m (sib c) : S4x34880x128.Idx → F .bf16) ((blk o h).view.emb (ix2 a b))
  rw [emb_blk _ _ _ _ ho]
  exact congrArg (fun e : Fin 8 => (given m e : S34880x128.Idx → F .bf16) (ix2 (row (core c) a) b))
    ((src_row c _ (across_ne j _) (core c) a).trans (src_row (sib c) _ (by rw [chip_sib]; exact across_ne j _) (core c) a).symm)

end Cert.Gathering

end
-- ==== Proof.Gather.lean ====
/-
The all-gather of the weights: every device copies its chip's block into its own result array, sends the half of it that its
core stands for to the same core of the three other chips, and passes each half it receives on to its sibling. For any float
values: the run of the eight devices, and what each result array holds.
-/
module

public import proofs.«01_k».proof.Proof.GatherPlaces
public import proofs.«01_k».proof.Proof.Gen.GatherIdeal.Skeleton
public import proofs.«01_k».proof.Proof.Gen.GatherIdeal.Launch
public import proofs.«01_k».proof.Proof.Gen.GatherIdeal.Points

@[expose] public section

noncomputable section

namespace Cert.Gathering

open Cert.GatherIdeal Cert.GatherIdeal.Gen Cert.Mail
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

set_option Elab.async false

variable {F : FTy → Type} [FloatOps F]

local notation "𝕄" => MM nD τ sig (Elt F)

variable (m : (ℓ : Loc nD τ sig) → Buf (Elt F) ℓ) (ρ : Dev nD → PrngReg)

/-- The counters of one transfer: at the sender, and at the receiver. -/
abbrev sndSem (j : ℕ) (h : ∀ a, (![j] : Fin 1 → ℕ) a + S1.size a ≤ S6.size a) :=
  ((cc0_scratch0.slice (Rect.unit (s := S6) ![j] S1.size h)).squeeze S_ squeezes_S1_S_).sem
abbrev rcvSem (j : ℕ) (h : ∀ a, (![j] : Fin 1 → ℕ) a + S1.size a ≤ S6.size a) :=
  ((cc0_scratch1.slice (Rect.unit (s := S6) ![j] S1.size h)).squeeze S_ squeezes_S1_S_).sem

/-- The shares of the argument: one for the device's own copy, and one for each of the three sends. -/
abbrev q0 : PosShare TreeShare := fullShare.right.left
abbrev q1 : PosShare TreeShare := fullShare.right.right.left
abbrev q2 : PosShare TreeShare := fullShare.right.right.right

/-- A share of the half of the argument that is sent, and of the other one. -/
def half (c : Dev nD) (q : PosShare TreeShare) : sProp 𝕄 := (argHalf c).view.loc (c : Thread nD τ) ↦[(argHalf c).view.set]{q} given m c
def others (c : Dev nD) : sProp 𝕄 := (c.tc : Thread nD τ).loc main_arg0 ↦[Finset.univ \ ((argHalf c).view.set : Finset (Idx ((c.tc : Thread nD τ).loc main_arg0)))]{fullShare.right} given m c
def whole (c : Dev nD) (q : PosShare TreeShare) : sProp 𝕄 := arg.view.loc (c : Thread nD τ) ↦[arg.view.set]{q} given m c

instance (c : Dev nD) (q : PosShare TreeShare) : BI.Storable (upEmb : UEmb _ 𝕄) (half m c q) := by unfold half; infer_instance
instance (c : Dev nD) (q : PosShare TreeShare) : BI.Storable (upEmb : UEmb _ 𝕄) (whole m c q) := by unfold whole; infer_instance

theorem whole_at (c : Dev nD) (q : PosShare TreeShare) : whole m c q = (arg.view.loc (c : Thread nD τ) ↦[arg.view.set]{q} given m c) := rfl
theorem half_at (c : Dev nD) (q : PosShare TreeShare) :
    half m c q = ((argHalf c).view.loc (c : Thread nD τ) ↦[(argHalf c).view.set]{q} given m c) := rfl

theorem whole_eq (c : Dev nD) (q : PosShare TreeShare) : whole m c q = ((c.tc : Thread nD τ).loc main_arg0 ↦{q} given m c) := by
  unfold whole; rw [whole_pts]

theorem whole_split (c : Dev nD) : whole m c fullShare.right = iprop(half m c fullShare.right ∗ others m c) := by
  unfold whole half others
  rw [whole_pts]
  exact split (ℓ := (c.tc : Thread nD τ).loc main_arg0) ((argHalf c).view.set) (given m c)

theorem arg_open (c : Dev nD) : whole m c fullShare ⊢ iprop(whole m c fullShare.left ∗ half m c q0 ∗ half m c q1 ∗ half m c q2 ∗ others m c) := by
  have h1 : whole m c fullShare ⊢ iprop(whole m c fullShare.left ∗ whole m c fullShare.right) := (pointsTo_share (PosShare.mem_left_op_right fullShare)).1
  rw [whole_split] at h1
  refine h1.trans ?_
  unfold half
  iintro ⟨HL, HR, Ho⟩
  icases (pointsTo_share (PosShare.mem_left_op_right fullShare.right)).1 $$ HR with ⟨H0, HR⟩
  icases (pointsTo_share (PosShare.mem_left_op_right fullShare.right.right)).1 $$ HR with ⟨H1, H2⟩
  isplitl [HL]; · iexact HL
  isplitl [H0]; · iexact H0
  isplitl [H1]; · iexact H1
  isplitl [H2]; · iexact H2
  iexact Ho

theorem arg_close (c : Dev nD) : iprop(whole m c fullShare.left ∗ half m c q0 ∗ half m c q1 ∗ half m c q2 ∗ others m c) ⊢ whole m c fullShare := by
  have h1 : iprop(whole m c fullShare.left ∗ whole m c fullShare.right) ⊢ whole m c fullShare := (pointsTo_share (PosShare.mem_left_op_right fullShare)).2
  rw [whole_split] at h1
  refine BIBase.Entails.trans ?_ h1
  unfold half
  iintro ⟨HL, H0, H1, H2, Ho⟩
  isplitl [HL]; · iexact HL
  isplitl [H0 H1 H2]
  · iapply (pointsTo_share (PosShare.mem_left_op_right fullShare.right)).2
    isplitl [H0]; · iexact H0
    iapply (pointsTo_share (PosShare.mem_left_op_right fullShare.right.right)).2
    isplitl [H1]; · iexact H1
    iexact H2
  iexact Ho

/-- The counters, and their levels: a device waits for its peers' halves while it still owes its sibling. -/
def sems : Fin 13 → SemLoc sig := ![.dma (sndSem 0 inb_S6_S1_0), .dma (sndSem 1 inb_S6_S1_1), .dma (sndSem 2 inb_S6_S1_2),
    .dma (sndSem 3 inb_S6_S1_3), .dma (sndSem 4 inb_S6_S1_4), .dma (sndSem 5 inb_S6_S1_5),
    .dma (rcvSem 0 inb_S6_S1_0), .dma (rcvSem 1 inb_S6_S1_1), .dma (rcvSem 2 inb_S6_S1_2),
    .dma (rcvSem 3 inb_S6_S1_3), .dma (rcvSem 4 inb_S6_S1_4), .dma (rcvSem 5 inb_S6_S1_5), .dma cc0_scratch2.sem]
def level (s : SemLoc sig) : ℕ := if s = sems 9 ∨ s = sems 10 ∨ s = sems 11 then 1 else 0

/-- The deliveries: `0` to `2`, the argument's half is free again; `3` to `5`, so is a half passed on; `6` to `8`, a peer's half
    has come; `9` to `11`, so has a half the sibling passed on; `12`, the device's own copy is made. -/
def plan : Plan nD τ sig (Elt F) (Fin 13) where
  sem := sems
  units := fun k => if k = 12 then RefSig.tileCredit S34880x128 .bf16 else RefSig.tileCredit S17440x128 .bf16
  dest := ![Equiv.refl _, Equiv.refl _, Equiv.refl _, Equiv.refl _, Equiv.refl _, Equiv.refl _, peer 0, peer 1, peer 2, sib, sib, sib, Equiv.refl _]
  far := ![false, false, false, false, false, false, true, true, true, true, true, true, false]
  lvl := level
  pay c k := match k with
    | 0 => half m c q0
    | 1 => half m c q1
    | 2 => half m c q2
    | 3 => pts c (zone c (near 0)) (final m c)
    | 4 => pts c (zone c (near 1)) (final m c)
    | 5 => pts c (zone c (near 2)) (final m c)
    | 6 => pts c (zone c (near 0)) (final m c)
    | 7 => pts c (zone c (near 1)) (final m c)
    | 8 => pts c (zone c (near 2)) (final m c)
    | 9 => pts c (zone c (away 0)) (final m c)
    | 10 => pts c (zone c (away 1)) (final m c)
    | 11 => pts c (zone c (away 2)) (final m c)
    | 12 => iprop(pts c (zone c 0) (final m c) ∗ whole m c fullShare.left)
  sem_inj := by decide
  units_pos := fun k => by
    split_ifs
    · exact RefSig.tileCredit_pos _ _ (by decide)
    · exact RefSig.tileCredit_pos _ _ (by decide)
  pay_storable c k := by fin_cases k <;> dsimp only <;> infer_instance

theorem sem_0 : SemLoc.dma (sndSem 0 inb_S6_S1_0) = (plan m).sem 0 := rfl
theorem dest_0 (c : Dev nD) : (plan m).dest 0 c = c := rfl
theorem pay_0 (c : Dev nD) : (plan m).pay c 0 = half m c q0 := rfl
theorem coin_0 (c : Dev nD) : (plan m).coin0 c 0 = iprop(emp) := rfl
theorem units_0 (c : Dev nD) : (argHalf c).view.dmaCredit = (plan m).units 0 := rfl
theorem even_0 : (plan m).units 0 = (plan m).units 6 := rfl
theorem sem_1 : SemLoc.dma (sndSem 1 inb_S6_S1_1) = (plan m).sem 1 := rfl
theorem dest_1 (c : Dev nD) : (plan m).dest 1 c = c := rfl
theorem pay_1 (c : Dev nD) : (plan m).pay c 1 = half m c q1 := rfl
theorem coin_1 (c : Dev nD) : (plan m).coin0 c 1 = iprop(emp) := rfl
theorem units_1 (c : Dev nD) : (argHalf c).view.dmaCredit = (plan m).units 1 := rfl
theorem even_1 : (plan m).units 1 = (plan m).units 7 := rfl
theorem sem_2 : SemLoc.dma (sndSem 2 inb_S6_S1_2) = (plan m).sem 2 := rfl
theorem dest_2 (c : Dev nD) : (plan m).dest 2 c = c := rfl
theorem pay_2 (c : Dev nD) : (plan m).pay c 2 = half m c q2 := rfl
theorem coin_2 (c : Dev nD) : (plan m).coin0 c 2 = iprop(emp) := rfl
theorem units_2 (c : Dev nD) : (argHalf c).view.dmaCredit = (plan m).units 2 := rfl
theorem even_2 : (plan m).units 2 = (plan m).units 8 := rfl
theorem sem_3 : SemLoc.dma (sndSem 3 inb_S6_S1_3) = (plan m).sem 3 := rfl
theorem dest_3 (c : Dev nD) : (plan m).dest 3 c = c := rfl
theorem pay_3 (c : Dev nD) : (plan m).pay c 3 = pts c (zone c (near 0)) (final m c) := rfl
theorem coin_3 (c : Dev nD) : (plan m).coin0 c 3 = iprop(emp) := rfl
theorem units_3 (o : Fin 3 → ℕ) (h) : (blk o h).view.dmaCredit = (plan m).units 3 := rfl
theorem even_3 : (plan m).units 3 = (plan m).units 9 := rfl
theorem sem_4 : SemLoc.dma (sndSem 4 inb_S6_S1_4) = (plan m).sem 4 := rfl
theorem dest_4 (c : Dev nD) : (plan m).dest 4 c = c := rfl
theorem pay_4 (c : Dev nD) : (plan m).pay c 4 = pts c (zone c (near 1)) (final m c) := rfl
theorem coin_4 (c : Dev nD) : (plan m).coin0 c 4 = iprop(emp) := rfl
theorem units_4 (o : Fin 3 → ℕ) (h) : (blk o h).view.dmaCredit = (plan m).units 4 := rfl
theorem even_4 : (plan m).units 4 = (plan m).units 10 := rfl
theorem sem_5 : SemLoc.dma (sndSem 5 inb_S6_S1_5) = (plan m).sem 5 := rfl
theorem dest_5 (c : Dev nD) : (plan m).dest 5 c = c := rfl
theorem pay_5 (c : Dev nD) : (plan m).pay c 5 = pts c (zone c (near 2)) (final m c) := rfl
theorem coin_5 (c : Dev nD) : (plan m).coin0 c 5 = iprop(emp) := rfl
theorem units_5 (o : Fin 3 → ℕ) (h) : (blk o h).view.dmaCredit = (plan m).units 5 := rfl
theorem even_5 : (plan m).units 5 = (plan m).units 11 := rfl
theorem sem_6 : SemLoc.dma (rcvSem 0 inb_S6_S1_0) = (plan m).sem 6 := rfl
theorem dest_6 (c : Dev nD) : (plan m).dest 6 c = peer 0 c := rfl
theorem pay_6 (c : Dev nD) : (plan m).pay c 6 = pts c (zone c (near 0)) (final m c) := rfl
theorem coin_6 (c : Dev nD) : (plan m).coin0 c 6 = (plan m).coin c 6 := rfl
theorem units_6 (o : Fin 3 → ℕ) (h) : (blk o h).view.dmaCredit = (plan m).units 6 := rfl
theorem low_6 : (plan m).lvl ((plan m).sem 6) = 0 := (by decide : level (sems 6) = 0)
theorem sem_7 : SemLoc.dma (rcvSem 1 inb_S6_S1_1) = (plan m).sem 7 := rfl
theorem dest_7 (c : Dev nD) : (plan m).dest 7 c = peer 1 c := rfl
theorem pay_7 (c : Dev nD) : (plan m).pay c 7 = pts c (zone c (near 1)) (final m c) := rfl
theorem coin_7 (c : Dev nD) : (plan m).coin0 c 7 = (plan m).coin c 7 := rfl
theorem units_7 (o : Fin 3 → ℕ) (h) : (blk o h).view.dmaCredit = (plan m).units 7 := rfl
theorem low_7 : (plan m).lvl ((plan m).sem 7) = 0 := (by decide : level (sems 7) = 0)
theorem sem_8 : SemLoc.dma (rcvSem 2 inb_S6_S1_2) = (plan m).sem 8 := rfl
theorem dest_8 (c : Dev nD) : (plan m).dest 8 c = peer 2 c := rfl
theorem pay_8 (c : Dev nD) : (plan m).pay c 8 = pts c (zone c (near 2)) (final m c) := rfl
theorem coin_8 (c : Dev nD) : (plan m).coin0 c 8 = (plan m).coin c 8 := rfl
theorem units_8 (o : Fin 3 → ℕ) (h) : (blk o h).view.dmaCredit = (plan m).units 8 := rfl
theorem low_8 : (plan m).lvl ((plan m).sem 8) = 0 := (by decide : level (sems 8) = 0)
theorem sem_9 : SemLoc.dma (rcvSem 3 inb_S6_S1_3) = (plan m).sem 9 := rfl
theorem dest_9 (c : Dev nD) : (plan m).dest 9 c = sib c := rfl
theorem pay_9 (c : Dev nD) : (plan m).pay c 9 = pts c (zone c (away 0)) (final m c) := rfl
theorem coin_9 (c : Dev nD) : (plan m).coin0 c 9 = (plan m).coin c 9 := rfl
theorem units_9 (o : Fin 3 → ℕ) (h) : (blk o h).view.dmaCredit = (plan m).units 9 := rfl
theorem high_9 : (plan m).lvl ((plan m).sem 9) = 1 := (by decide : level (sems 9) = 1)
theorem sem_10 : SemLoc.dma (rcvSem 4 inb_S6_S1_4) = (plan m).sem 10 := rfl
theorem dest_10 (c : Dev nD) : (plan m).dest 10 c = sib c := rfl
theorem pay_10 (c : Dev nD) : (plan m).pay c 10 = pts c (zone c (away 1)) (final m c) := rfl
theorem coin_10 (c : Dev nD) : (plan m).coin0 c 10 = (plan m).coin c 10 := rfl
theorem units_10 (o : Fin 3 → ℕ) (h) : (blk o h).view.dmaCredit = (plan m).units 10 := rfl
theorem high_10 : (plan m).lvl ((plan m).sem 10) = 1 := (by decide : level (sems 10) = 1)
theorem sem_11 : SemLoc.dma (rcvSem 5 inb_S6_S1_5) = (plan m).sem 11 := rfl
theorem dest_11 (c : Dev nD) : (plan m).dest 11 c = sib c := rfl
theorem pay_11 (c : Dev nD) : (plan m).pay c 11 = pts c (zone c (away 2)) (final m c) := rfl
theorem coin_11 (c : Dev nD) : (plan m).coin0 c 11 = (plan m).coin c 11 := rfl
theorem units_11 (o : Fin 3 → ℕ) (h) : (blk o h).view.dmaCredit = (plan m).units 11 := rfl
theorem high_11 : (plan m).lvl ((plan m).sem 11) = 1 := (by decide : level (sems 11) = 1)
theorem sem_12 : SemLoc.dma cc0_scratch2.sem = (plan m).sem 12 := rfl
theorem dest_12 (c : Dev nD) : (plan m).dest 12 c = c := rfl
theorem pay_12 (c : Dev nD) : (plan m).pay c 12 = iprop(pts c (zone c 0) (final m c) ∗ whole m c fullShare.left) := rfl
theorem coin_12 (c : Dev nD) : (plan m).coin0 c 12 = iprop(emp) := rfl
theorem units_12 (c : Dev nD) : (own c).view.dmaCredit = (plan m).units 12 := rfl

/-- What is owed is owed to counters of the higher level. -/
def Above (O : CellTallies nD τ sig Unit) : Prop := ∀ (g : GSem nD τ sig) (u : Unit), 0 < O g u → g.1.2 = .tc ∧ (plan m).lvl g.2 = 1

theorem above_zero : Above m 0 := fun g u h => absurd h (Nat.lt_irrefl 0)

theorem above_add (O : CellTallies nD τ sig Unit) (h : Above m O) (c : Dev nD) (k : Fin 13) (hk : (plan m).lvl ((plan m).sem k) = 1) :
    Above m (O + (plan m).due c k) := fun g u hp => by
  rw [Pi.add_apply, Finsupp.add_apply] at hp
  by_cases h0 : 0 < O g u
  · exact h g u h0
  have h1 : 0 < (plan m).due c k g u := by omega
  unfold Plan.due at h1
  rw [tallyAt_apply] at h1
  split_ifs at h1 with hg
  · rw [hg.1]; exact ⟨rfl, hk⟩
  · exact absurd h1 (Nat.lt_irrefl 0)

/-- While owing only such a device may wait at a counter of the lower one. -/
theorem mayWait (c : Dev nD) (k : Fin 13) {sm : SemLoc sig} (hs : sm = (plan m).sem k) (hk : (plan m).lvl ((plan m).sem k) = 0)
    (O : CellTallies nD τ sig Unit) (h : Above m O) :
    (levAts Plan.L (plan m).lv : sProp 𝕄) ⊢ MayWait (c : Thread nD τ) sm () O := by
  subst hs
  exact MayOwe.of_cut (L := Plan.L) (lev := (plan m).lv) 0
    (fun p hp => by rw [Finset.mem_singleton.mp hp]; exact Finset.mem_singleton_self _)
    (fun g u hg => by unfold Plan.L; rw [if_pos (h g u hg).1]; exact Finset.mem_singleton_self _)
    (fun p hp => by rw [Finset.mem_singleton.mp hp]; exact hk.le)
    (fun g u hg => by show 0 < (plan m).lvl g.2; rw [(h g u hg).2]; exact Nat.one_pos)

theorem owed_eq (c : Dev nD) : (plan m).owed c
    = 0 + (plan m).due c 11 + (plan m).due c 10 + (plan m).due c 9 + (plan m).due c 8 + (plan m).due c 7 + (plan m).due c 6 := by
  have e : (plan m).owed c = 0 + (0 + (0 + (0 + (0 + (0 + ((plan m).due c 6 + ((plan m).due c 7 + ((plan m).due c 8 + ((plan m).due c 9
      + ((plan m).due c 10 + ((plan m).due c 11 + (0 + 0)))))))))))) := by
    unfold Plan.owed
    simp only [Fin.sum_univ_succ, Fin.sum_univ_zero]
    rfl
  rw [e]
  simp only [zero_add, add_zero]
  ac_rfl

theorem fin13 (Φ : Fin 13 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12) :=
  bigSep_univ_eq_bigSepL [0, 1, 2, 3, 4, 5, 6, 7, 8, 9, 10, 11, 12] (by decide) (by decide) Φ

/-- What device `c` starts with: its own argument; of its own result array its chip's block; and of its peers' and its sibling's
    the parts that it fills. -/
def held (c : Dev nD) : sProp 𝕄 :=
  iprop(whole m c fullShare ∗ pts c (zone c 0) (m ((c.tc : Thread nD τ).loc main_v1))
    ∗ pts (peer 0 c) (zone (peer 0 c) (near 0)) (m ((Dev.tc (peer 0 c) : Thread nD τ).loc main_v1))
    ∗ pts (peer 1 c) (zone (peer 1 c) (near 1)) (m ((Dev.tc (peer 1 c) : Thread nD τ).loc main_v1))
    ∗ pts (peer 2 c) (zone (peer 2 c) (near 2)) (m ((Dev.tc (peer 2 c) : Thread nD τ).loc main_v1))
    ∗ pts (sib c) (zone (sib c) (away 0)) (m ((Dev.tc (sib c) : Thread nD τ).loc main_v1))
    ∗ pts (sib c) (zone (sib c) (away 1)) (m ((Dev.tc (sib c) : Thread nD τ).loc main_v1))
    ∗ pts (sib c) (zone (sib c) (away 2)) (m ((Dev.tc (sib c) : Thread nD τ).loc main_v1)))
/-- What it ends with: the argument as it was, and its own result array filled. -/
def done (c : Dev nD) : sProp 𝕄 :=
  iprop(whole m c fullShare ∗ pts c (zone c 0) (final m c)
    ∗ pts c (zone c (near 0)) (final m c) ∗ pts c (zone c (near 1)) (final m c) ∗ pts c (zone c (near 2)) (final m c)
    ∗ pts c (zone c (away 0)) (final m c) ∗ pts c (zone c (away 1)) (final m c) ∗ pts c (zone c (away 2)) (final m c))

theorem out_zones (c : Dev nD) (f : Buf (Elt F) ((c.tc : Thread nD τ).loc main_v1)) :
    ((c.tc : Thread nD τ).loc main_v1 ↦{fullShare} f : sProp 𝕄)
      = iprop(pts c (zone c 0) f ∗ pts c (zone c (near 0)) f ∗ pts c (zone c (near 1)) f ∗ pts c (zone c (near 2)) f
        ∗ pts c (zone c (away 0)) f ∗ pts c (zone c (away 1)) f ∗ pts c (zone c (away 2)) f) := out_parts c f

theorem done_eq (c : Dev nD) : done m c = iprop((((c : Thread nD τ).loc main_arg0) ↦{fullShare} given m c) ∗ (((c : Thread nD τ).loc main_v1) ↦{fullShare} final m c)) := by
  unfold done whole
  rw [whole_pts, out_zones]

theorem deal : (bigSep Finset.univ fun c : Dev nD => Pipeline.unscopedRest (Ix := Unit) (Name := ℕ) (U := UU nD τ sig) (Lvl := ℕ) cfg0.spec c
      (fun b => m ((c : Thread nD τ).loc b)) : sProp 𝕄) ⊢ bigSep Finset.univ (held m) := by
  unfold held
  simp only [unscopedRest0_eq, whole_eq, out_zones, bigSep_sep']
  rw [bigSep_univ_equiv (peer 0) (fun c : Dev nD => (pts c (zone c (near 0)) (m ((c.tc : Thread nD τ).loc main_v1)) : sProp 𝕄)),
    bigSep_univ_equiv (peer 1) (fun c : Dev nD => (pts c (zone c (near 1)) (m ((c.tc : Thread nD τ).loc main_v1)) : sProp 𝕄)),
    bigSep_univ_equiv (peer 2) (fun c : Dev nD => (pts c (zone c (near 2)) (m ((c.tc : Thread nD τ).loc main_v1)) : sProp 𝕄)),
    bigSep_univ_equiv sib (fun c : Dev nD => (pts c (zone c (away 0)) (m ((c.tc : Thread nD τ).loc main_v1)) : sProp 𝕄)),
    bigSep_univ_equiv sib (fun c : Dev nD => (pts c (zone c (away 1)) (m ((c.tc : Thread nD τ).loc main_v1)) : sProp 𝕄)),
    bigSep_univ_equiv sib (fun c : Dev nD => (pts c (zone c (away 2)) (m ((c.tc : Thread nD τ).loc main_v1)) : sProp 𝕄))]

/-- The parts by the names the kernel gives them. -/
theorem at_peer (j : Fin 3) (c : Dev nD) (f : Buf (Elt F) ((Dev.tc (peer j c) : Thread nD τ).loc main_v1)) :
    (pts (peer j c) (zone (peer j c) (near j)) f : sProp 𝕄)
      = ((blk (k0_off2 c) (k0_off2_inb c)).view.loc (peer j c : Thread nD τ) ↦[(blk (k0_off2 c) (k0_off2_inb c)).view.set]{fullShare} f) := by
  rw [zone_peer]; exact (blk_pts (peer j c) _ _ _ _ (off2_at c) f).symm
theorem at_sib (j : Fin 3) (c : Dev nD) (o : Fin 3 → ℕ) (h) (ho : o = ![(across j (chip c)).val, 17440 * (core c).val, 0])
    (f : Buf (Elt F) ((Dev.tc (sib c) : Thread nD τ).loc main_v1)) :
    (pts (sib c) (zone (sib c) (away j)) f : sProp 𝕄) = ((blk o h).view.loc (sib c : Thread nD τ) ↦[(blk o h).view.set]{fullShare} f) := by
  rw [zone_sib]; exact (blk_pts (sib c) _ _ _ _ ho f).symm
theorem at_self (j : Fin 3) (c : Dev nD) (o : Fin 3 → ℕ) (h) (ho : o = ![(across j (chip c)).val, 17440 * (core c).val, 0])
    (f : Buf (Elt F) ((c.tc : Thread nD τ).loc main_v1)) :
    (pts c (zone c (near j)) f : sProp 𝕄) = ((blk o h).view.loc (c : Thread nD τ) ↦[(blk o h).view.set]{fullShare} f) := by
  rw [zone_near]; exact (blk_pts c _ _ _ _ ho f).symm

theorem ownSemFacts : Pipeline.OwnSemFacts (cfgs 0).spec (plan m).sem :=
  show Pipeline.OwnSemFacts cfg0.spec ![.dma (sndSem 0 inb_S6_S1_0), .dma (sndSem 1 inb_S6_S1_1), .dma (sndSem 2 inb_S6_S1_2),
    .dma (sndSem 3 inb_S6_S1_3), .dma (sndSem 4 inb_S6_S1_4), .dma (sndSem 5 inb_S6_S1_5),
    .dma (rcvSem 0 inb_S6_S1_0), .dma (rcvSem 1 inb_S6_S1_1), .dma (rcvSem 2 inb_S6_S1_2),
    .dma (rcvSem 3 inb_S6_S1_3), .dma (rcvSem 4 inb_S6_S1_4), .dma (rcvSem 5 inb_S6_S1_5), .dma cc0_scratch2.sem] by decide

theorem copies (c : Dev nD) (f : Buf (Elt F) ((c.tc : Thread nD τ).loc main_v1)) :
    (iprop(((own c).view.loc (c : Thread nD τ) ↦[(own c).view.set]{fullShare} (own c).view.write (Elt F) f (arg.view.read (Elt F) (given m c)) Finset.univ)
      ∗ (arg.view.loc (c : Thread nD τ) ↦[arg.view.set]{fullShare.left} given m c)) : sProp 𝕄) ⊢ (plan m).pay c 12 := by
  rw [pay_12, copied]
  exact Entails.of_eq rfl

theorem comes0 (c : Dev nD) (f : Buf (Elt F) ((Dev.tc (peer 0 c) : Thread nD τ).loc main_v1)) :
    ((blk (k0_off2 c) (k0_off2_inb c)).view.loc (peer 0 c : Thread nD τ) ↦[(blk (k0_off2 c) (k0_off2_inb c)).view.set]{fullShare}
        (blk (k0_off2 c) (k0_off2_inb c)).view.write (Elt F) f ((argHalf c).view.read (Elt F) (given m c)) Finset.univ : sProp 𝕄) ⊢ (plan m).pay (peer 0 c) 6 := by
  rw [pay_6, came]
theorem passes0 (c : Dev nD) (f : Buf (Elt F) ((Dev.tc (sib c) : Thread nD τ).loc main_v1)) :
    ((blk (k0_off4 c) (k0_off4_inb c)).view.loc (sib c : Thread nD τ) ↦[(blk (k0_off4 c) (k0_off4_inb c)).view.set]{fullShare}
        (blk (k0_off4 c) (k0_off4_inb c)).view.write (Elt F) f ((blk (k0_off4 c) (k0_off4_inb c)).view.read (Elt F) (final m c)) Finset.univ : sProp 𝕄)
      ⊢ (plan m).pay (sib c) 9 := by
  rw [pay_9]
  exact Entails.of_eq (passed m 0 c _ _ (off4_at c) f)
theorem back0 (c : Dev nD) :
    ((blk (k0_off4 c) (k0_off4_inb c)).view.loc (c : Thread nD τ) ↦[(blk (k0_off4 c) (k0_off4_inb c)).view.set]{fullShare} final m c : sProp 𝕄)
      ⊢ (plan m).pay c 3 := by
  rw [pay_3]
  exact Entails.of_eq (at_self 0 c _ _ (off4_at c) _).symm

theorem comes1 (c : Dev nD) (f : Buf (Elt F) ((Dev.tc (peer 1 c) : Thread nD τ).loc main_v1)) :
    ((blk (k0_off2 c) (k0_off2_inb c)).view.loc (peer 1 c : Thread nD τ) ↦[(blk (k0_off2 c) (k0_off2_inb c)).view.set]{fullShare}
        (blk (k0_off2 c) (k0_off2_inb c)).view.write (Elt F) f ((argHalf c).view.read (Elt F) (given m c)) Finset.univ : sProp 𝕄) ⊢ (plan m).pay (peer 1 c) 7 := by
  rw [pay_7, came]
theorem passes1 (c : Dev nD) (f : Buf (Elt F) ((Dev.tc (sib c) : Thread nD τ).loc main_v1)) :
    ((blk (k0_off5 c) (k0_off5_inb c)).view.loc (sib c : Thread nD τ) ↦[(blk (k0_off5 c) (k0_off5_inb c)).view.set]{fullShare}
        (blk (k0_off5 c) (k0_off5_inb c)).view.write (Elt F) f ((blk (k0_off5 c) (k0_off5_inb c)).view.read (Elt F) (final m c)) Finset.univ : sProp 𝕄)
      ⊢ (plan m).pay (sib c) 10 := by
  rw [pay_10]
  exact Entails.of_eq (passed m 1 c _ _ (off5_at c) f)
theorem back1 (c : Dev nD) :
    ((blk (k0_off5 c) (k0_off5_inb c)).view.loc (c : Thread nD τ) ↦[(blk (k0_off5 c) (k0_off5_inb c)).view.set]{fullShare} final m c : sProp 𝕄)
      ⊢ (plan m).pay c 4 := by
  rw [pay_4]
  exact Entails.of_eq (at_self 1 c _ _ (off5_at c) _).symm

theorem comes2 (c : Dev nD) (f : Buf (Elt F) ((Dev.tc (peer 2 c) : Thread nD τ).loc main_v1)) :
    ((blk (k0_off2 c) (k0_off2_inb c)).view.loc (peer 2 c : Thread nD τ) ↦[(blk (k0_off2 c) (k0_off2_inb c)).view.set]{fullShare}
        (blk (k0_off2 c) (k0_off2_inb c)).view.write (Elt F) f ((argHalf c).view.read (Elt F) (given m c)) Finset.univ : sProp 𝕄) ⊢ (plan m).pay (peer 2 c) 8 := by
  rw [pay_8, came]
theorem passes2 (c : Dev nD) (f : Buf (Elt F) ((Dev.tc (sib c) : Thread nD τ).loc main_v1)) :
    ((blk (k0_off6 c) (k0_off6_inb c)).view.loc (sib c : Thread nD τ) ↦[(blk (k0_off6 c) (k0_off6_inb c)).view.set]{fullShare}
        (blk (k0_off6 c) (k0_off6_inb c)).view.write (Elt F) f ((blk (k0_off6 c) (k0_off6_inb c)).view.read (Elt F) (final m c)) Finset.univ : sProp 𝕄)
      ⊢ (plan m).pay (sib c) 11 := by
  rw [pay_11]
  exact Entails.of_eq (passed m 2 c _ _ (off6_at c) f)
theorem back2 (c : Dev nD) :
    ((blk (k0_off6 c) (k0_off6_inb c)).view.loc (c : Thread nD τ) ↦[(blk (k0_off6 c) (k0_off6_inb c)).view.set]{fullShare} final m c : sProp 𝕄)
      ⊢ (plan m).pay c 5 := by
  rw [pay_5]
  exact Entails.of_eq (at_self 2 c _ _ (off6_at c) _).symm

attribute [local irreducible] plan

/-- One device's run of the kernel. -/
theorem body (κ : Dev nD × Fin 13 → ℕ) (c : Dev nD) (W : Waits sig Unit) :
    iprop((plan m).records κ ∗ levAts Plan.L (plan m).lv ∗ (plan m).start c ∗ held m c ∗ owes (c : Thread nD τ) ((plan m).owed c) W)
      ⊢ wp frame (wpE (defs₀ (F := F)) Variants.none (c : Thread nD τ) none) Set.univ
          (cc0_allgather_weights arg (Memref.isWhole_whole _) out (Memref.isWhole_whole _) cc0_scratch0 cc0_scratch1 cc0_scratch2)
          fun _ => iprop((plan m).rest c ∗ done m c ∗ ∃ W', owes (c : Thread nD τ) 0 W') := by
  rw [cc0_allgather_weights_eq_skeleton]; unfold cc0_allgather_weights_skel
  simp only [k0_part1_eq_skeleton, k0_part2_eq_skeleton, k0_part3_eq_skeleton, k0_part4_eq_skeleton, k0_part5_eq_skeleton, k0_part6_eq_skeleton,
    k0_part7_eq_skeleton]
  unfold k0_part1_skel k0_part2_skel k0_part3_skel k0_part4_skel k0_part5_skel k0_part6_skel k0_part7_skel
  simp only [Prog.lift, Prog.bind_op, Prog.bind_ret, Prog.pure_eq_ret, wp_deviceId]
  unfold Plan.start held done Plan.rest
  rw [owed_eq]
  simp only [fin13, coin_0, coin_1, coin_2, coin_3, coin_4, coin_5, coin_6, coin_7, coin_8, coin_9, coin_10, coin_11, coin_12]
  iintro ⟨#HR, #HL, ⟨⟨Hat0, Hat1, Hat2, Hat3, Hat4, Hat5, Hat6, Hat7, Hat8, Hat9, Hat10, Hat11, Hat12⟩, ⟨Ht0, Ht1, Ht2, Ht3, Ht4, Ht5, Ht6, Ht7, Ht8, Ht9, Ht10, Ht11, Ht12⟩, -, -, -, -, -, -, Hc6, Hc7, Hc8, Hc9, Hc10, Hc11, -⟩, ⟨Ha, Hz, Hp0, Hp1, Hp2, Hs0, Hs1, Hs2⟩, HO⟩
  icases (arg_open m c) $$ Ha with ⟨Ha, Hh0, Hh1, Hh2, Hoth⟩
  ihave Hz := (Entails.of_eq (own_pts c _).symm) $$ Hz
  have close := arg_close m c
  unfold whole half at close ⊢
  iapply ((plan m).wp_copy Variants.none κ c 12 (sem_12 m) (dest_12 m c) (src := arg) (dst := own c) (units_12 m c)
    (q := fullShare.left) (fs := given m c) (fd := m ((c : Thread nD τ).loc main_v1)) (copies m c _)) $$ [Ha Hz Ht12]
  · isplitr; · iexact HR
    isplitl [Ha]; · iexact Ha
    isplitl [Hz]; · iexact Hz
    iexact Ht12
  iintro Hc12
  ihave Hp0 := (Entails.of_eq (at_peer 0 c _)) $$ Hp0
  iapply ((plan m).wp_send Variants.none κ c (peer 0 c) (dev1_eq c) 0 6 (sem_0 m) (sem_6 m) (dest_0 m c) (dest_6 m c)
    (src := argHalf c) (dst := blk (k0_off2 c) (k0_off2_inb c)) (units_6 m _ _) (even_0 m) (0 + (plan m).due c 11 + (plan m).due c 10 + (plan m).due c 9 + (plan m).due c 8 + (plan m).due c 7) rfl
    (q := q0) (fs := given m c) (fd := m ((Dev.tc (peer 0 c) : Thread nD τ).loc main_v1))
    (Entails.of_eq (pay_0 m c).symm) (comes0 m c _) (hroute := by routes)) $$ [Hh0 Hp0 HO Ht0 Ht6]
  · isplitr; · iexact HR
    isplitl [Hh0]; · iexact Hh0
    isplitl [Hp0]; · iexact Hp0
    isplitl [HO]; · iexact HO
    isplitl [Ht0]; · iexact Ht0
    iexact Ht6
  iintro ⟨Hc0, HO⟩
  ihave Hp1 := (Entails.of_eq (at_peer 1 c _)) $$ Hp1
  iapply ((plan m).wp_send Variants.none κ c (peer 1 c) (dev2_eq c) 1 7 (sem_1 m) (sem_7 m) (dest_1 m c) (dest_7 m c)
    (src := argHalf c) (dst := blk (k0_off2 c) (k0_off2_inb c)) (units_7 m _ _) (even_1 m) (0 + (plan m).due c 11 + (plan m).due c 10 + (plan m).due c 9 + (plan m).due c 8) rfl
    (q := q1) (fs := given m c) (fd := m ((Dev.tc (peer 1 c) : Thread nD τ).loc main_v1))
    (Entails.of_eq (pay_1 m c).symm) (comes1 m c _) (hroute := by routes)) $$ [Hh1 Hp1 HO Ht1 Ht7]
  · isplitr; · iexact HR
    isplitl [Hh1]; · iexact Hh1
    isplitl [Hp1]; · iexact Hp1
    isplitl [HO]; · iexact HO
    isplitl [Ht1]; · iexact Ht1
    iexact Ht7
  iintro ⟨Hc1, HO⟩
  ihave Hp2 := (Entails.of_eq (at_peer 2 c _)) $$ Hp2
  iapply ((plan m).wp_send Variants.none κ c (peer 2 c) (dev3_eq c) 2 8 (sem_2 m) (sem_8 m) (dest_2 m c) (dest_8 m c)
    (src := argHalf c) (dst := blk (k0_off2 c) (k0_off2_inb c)) (units_8 m _ _) (even_2 m) (0 + (plan m).due c 11 + (plan m).due c 10 + (plan m).due c 9) rfl
    (q := q2) (fs := given m c) (fd := m ((Dev.tc (peer 2 c) : Thread nD τ).loc main_v1))
    (Entails.of_eq (pay_2 m c).symm) (comes2 m c _) (hroute := by routes)) $$ [Hh2 Hp2 HO Ht2 Ht8]
  · isplitr; · iexact HR
    isplitl [Hh2]; · iexact Hh2
    isplitl [Hp2]; · iexact Hp2
    isplitl [HO]; · iexact HO
    isplitl [Ht2]; · iexact Ht2
    iexact Ht8
  iintro ⟨Hc2, HO⟩
  iapply ((plan m).wp_waitDma_owing Variants.none κ c 6 (sem_6 m) (units_6 m _ _)
    (O := 0 + (plan m).due c 11 + (plan m).due c 10 + (plan m).due c 9) (mayWait m c 6 (sem_6 m) (low_6 m) _ (above_add m _ (above_add m _ (above_add m _ (above_zero m) c 11 (high_11 m)) c 10 (high_10 m)) c 9 (high_9 m)))) $$ [Hc6 HO Hat6]
  · isplitr; · iexact HR
    isplitr; · iexact HL
    isplitl [Hc6]; · iexact Hc6
    isplitl [HO]; · iexact HO
    iexact Hat6
  iintro ⟨HO, Hn0, Hz6⟩
  ihave Hn0 := (Entails.of_eq (pay_6 m c)) $$ Hn0
  ihave Hn0 := (Entails.of_eq (at_self 0 c _ (k0_off4_inb c) (off4_at c) _)) $$ Hn0
  ihave Hs0 := (Entails.of_eq (at_sib 0 c _ (k0_off4_inb c) (off4_at c) _)) $$ Hs0
  iapply ((plan m).wp_send Variants.none κ c (sib c) (dev4_eq c) 3 9 (sem_3 m) (sem_9 m) (dest_3 m c) (dest_9 m c)
    (src := blk (k0_off4 c) (k0_off4_inb c)) (dst := blk (k0_off4 c) (k0_off4_inb c)) (units_9 m _ _) (even_3 m) (0 + (plan m).due c 11 + (plan m).due c 10) rfl
    (q := fullShare) (fs := final m c) (fd := m ((Dev.tc (sib c) : Thread nD τ).loc main_v1))
    (back0 m c) (passes0 m c _) (hroute := by routes)) $$ [Hn0 Hs0 HO Ht3 Ht9]
  · isplitr; · iexact HR
    isplitl [Hn0]; · iexact Hn0
    isplitl [Hs0]; · iexact Hs0
    isplitl [HO]; · iexact HO
    isplitl [Ht3]; · iexact Ht3
    iexact Ht9
  iintro ⟨Hc3, HO⟩
  iapply ((plan m).wp_waitDma_owing Variants.none κ c 7 (sem_7 m) (units_7 m _ _)
    (O := 0 + (plan m).due c 11 + (plan m).due c 10) (mayWait m c 7 (sem_7 m) (low_7 m) _ (above_add m _ (above_add m _ (above_zero m) c 11 (high_11 m)) c 10 (high_10 m)))) $$ [Hc7 HO Hat7]
  · isplitr; · iexact HR
    isplitr; · iexact HL
    isplitl [Hc7]; · iexact Hc7
    isplitl [HO]; · iexact HO
    iexact Hat7
  iintro ⟨HO, Hn1, Hz7⟩
  ihave Hn1 := (Entails.of_eq (pay_7 m c)) $$ Hn1
  ihave Hn1 := (Entails.of_eq (at_self 1 c _ (k0_off5_inb c) (off5_at c) _)) $$ Hn1
  ihave Hs1 := (Entails.of_eq (at_sib 1 c _ (k0_off5_inb c) (off5_at c) _)) $$ Hs1
  iapply ((plan m).wp_send Variants.none κ c (sib c) (dev5_eq c) 4 10 (sem_4 m) (sem_10 m) (dest_4 m c) (dest_10 m c)
    (src := blk (k0_off5 c) (k0_off5_inb c)) (dst := blk (k0_off5 c) (k0_off5_inb c)) (units_10 m _ _) (even_4 m) (0 + (plan m).due c 11) rfl
    (q := fullShare) (fs := final m c) (fd := m ((Dev.tc (sib c) : Thread nD τ).loc main_v1))
    (back1 m c) (passes1 m c _) (hroute := by routes)) $$ [Hn1 Hs1 HO Ht4 Ht10]
  · isplitr; · iexact HR
    isplitl [Hn1]; · iexact Hn1
    isplitl [Hs1]; · iexact Hs1
    isplitl [HO]; · iexact HO
    isplitl [Ht4]; · iexact Ht4
    iexact Ht10
  iintro ⟨Hc4, HO⟩
  iapply ((plan m).wp_waitDma_owing Variants.none κ c 8 (sem_8 m) (units_8 m _ _)
    (O := 0 + (plan m).due c 11) (mayWait m c 8 (sem_8 m) (low_8 m) _ (above_add m _ (above_zero m) c 11 (high_11 m)))) $$ [Hc8 HO Hat8]
  · isplitr; · iexact HR
    isplitr; · iexact HL
    isplitl [Hc8]; · iexact Hc8
    isplitl [HO]; · iexact HO
    iexact Hat8
  iintro ⟨HO, Hn2, Hz8⟩
  ihave Hn2 := (Entails.of_eq (pay_8 m c)) $$ Hn2
  ihave Hn2 := (Entails.of_eq (at_self 2 c _ (k0_off6_inb c) (off6_at c) _)) $$ Hn2
  ihave Hs2 := (Entails.of_eq (at_sib 2 c _ (k0_off6_inb c) (off6_at c) _)) $$ Hs2
  iapply ((plan m).wp_send Variants.none κ c (sib c) (dev6_eq c) 5 11 (sem_5 m) (sem_11 m) (dest_5 m c) (dest_11 m c)
    (src := blk (k0_off6 c) (k0_off6_inb c)) (dst := blk (k0_off6 c) (k0_off6_inb c)) (units_11 m _ _) (even_5 m) (0) rfl
    (q := fullShare) (fs := final m c) (fd := m ((Dev.tc (sib c) : Thread nD τ).loc main_v1))
    (back2 m c) (passes2 m c _) (hroute := by routes)) $$ [Hn2 Hs2 HO Ht5 Ht11]
  · isplitr; · iexact HR
    isplitl [Hn2]; · iexact Hn2
    isplitl [Hs2]; · iexact Hs2
    isplitl [HO]; · iexact HO
    isplitl [Ht5]; · iexact Ht5
    iexact Ht11
  iintro ⟨Hc5, HO⟩
  iapply ((plan m).wp_waitDma Variants.none κ c 9 (sem_9 m) (units_9 m _ _)) $$ [Hc9 HO Hat9]
  · isplitr; · iexact HR
    isplitl [Hc9]; · iexact Hc9
    isplitl [HO]; · iexact HO
    iexact Hat9
  iintro ⟨HO, Hw0, Hz9⟩
  ihave Hw0 := (Entails.of_eq (pay_9 m c)) $$ Hw0
  iapply ((plan m).wp_waitDma Variants.none κ c 10 (sem_10 m) (units_10 m _ _)) $$ [Hc10 HO Hat10]
  · isplitr; · iexact HR
    isplitl [Hc10]; · iexact Hc10
    isplitl [HO]; · iexact HO
    iexact Hat10
  iintro ⟨HO, Hw1, Hz10⟩
  ihave Hw1 := (Entails.of_eq (pay_10 m c)) $$ Hw1
  iapply ((plan m).wp_waitDma Variants.none κ c 11 (sem_11 m) (units_11 m _ _)) $$ [Hc11 HO Hat11]
  · isplitr; · iexact HR
    isplitl [Hc11]; · iexact Hc11
    isplitl [HO]; · iexact HO
    iexact Hat11
  iintro ⟨HO, Hw2, Hz11⟩
  ihave Hw2 := (Entails.of_eq (pay_11 m c)) $$ Hw2
  iapply ((plan m).wp_waitDma Variants.none κ c 0 (sem_0 m) (units_0 m c)) $$ [Hc0 HO Hat0]
  · isplitr; · iexact HR
    isplitl [Hc0]; · iexact Hc0
    isplitl [HO]; · iexact HO
    iexact Hat0
  iintro ⟨HO, Hh0, Hz0⟩
  ihave Hh0 := (Entails.of_eq (pay_0 m c)) $$ Hh0
  iapply ((plan m).wp_waitDma Variants.none κ c 1 (sem_1 m) (units_1 m c)) $$ [Hc1 HO Hat1]
  · isplitr; · iexact HR
    isplitl [Hc1]; · iexact Hc1
    isplitl [HO]; · iexact HO
    iexact Hat1
  iintro ⟨HO, Hh1, Hz1⟩
  ihave Hh1 := (Entails.of_eq (pay_1 m c)) $$ Hh1
  iapply ((plan m).wp_waitDma Variants.none κ c 2 (sem_2 m) (units_2 m c)) $$ [Hc2 HO Hat2]
  · isplitr; · iexact HR
    isplitl [Hc2]; · iexact Hc2
    isplitl [HO]; · iexact HO
    iexact Hat2
  iintro ⟨HO, Hh2, Hz2⟩
  ihave Hh2 := (Entails.of_eq (pay_2 m c)) $$ Hh2
  iapply ((plan m).wp_waitDma Variants.none κ c 3 (sem_3 m) (units_3 m _ _)) $$ [Hc3 HO Hat3]
  · isplitr; · iexact HR
    isplitl [Hc3]; · iexact Hc3
    isplitl [HO]; · iexact HO
    iexact Hat3
  iintro ⟨HO, Hn0, Hz3⟩
  ihave Hn0 := (Entails.of_eq (pay_3 m c)) $$ Hn0
  iapply ((plan m).wp_waitDma Variants.none κ c 4 (sem_4 m) (units_4 m _ _)) $$ [Hc4 HO Hat4]
  · isplitr; · iexact HR
    isplitl [Hc4]; · iexact Hc4
    isplitl [HO]; · iexact HO
    iexact Hat4
  iintro ⟨HO, Hn1, Hz4⟩
  ihave Hn1 := (Entails.of_eq (pay_4 m c)) $$ Hn1
  iapply ((plan m).wp_waitDma Variants.none κ c 5 (sem_5 m) (units_5 m _ _)) $$ [Hc5 HO Hat5]
  · isplitr; · iexact HR
    isplitl [Hc5]; · iexact Hc5
    isplitl [HO]; · iexact HO
    iexact Hat5
  iintro ⟨HO, Hn2, Hz5⟩
  ihave Hn2 := (Entails.of_eq (pay_5 m c)) $$ Hn2
  iapply ((plan m).wp_waitDma Variants.none κ c 12 (sem_12 m) (units_12 m c)) $$ [Hc12 HO Hat12]
  · isplitr; · iexact HR
    isplitl [Hc12]; · iexact Hc12
    isplitl [HO]; · iexact HO
    iexact Hat12
  iintro ⟨HO, Hz, Hz12⟩
  ihave Hz := (Entails.of_eq (pay_12 m c)) $$ Hz
  icases Hz with ⟨Hz, Ha⟩
  ihave Ha := (Entails.of_eq (whole_at m c _)) $$ Ha
  ihave Hh0 := (Entails.of_eq (half_at m c _)) $$ Hh0
  ihave Hh1 := (Entails.of_eq (half_at m c _)) $$ Hh1
  ihave Hh2 := (Entails.of_eq (half_at m c _)) $$ Hh2
  rw [wp_ret]; imodintro
  isplitl [Hz0 Hz1 Hz2 Hz3 Hz4 Hz5 Hz6 Hz7 Hz8 Hz9 Hz10 Hz11 Hz12]
  · isplitl [Hz0]; · iexact Hz0
    isplitl [Hz1]; · iexact Hz1
    isplitl [Hz2]; · iexact Hz2
    isplitl [Hz3]; · iexact Hz3
    isplitl [Hz4]; · iexact Hz4
    isplitl [Hz5]; · iexact Hz5
    isplitl [Hz6]; · iexact Hz6
    isplitl [Hz7]; · iexact Hz7
    isplitl [Hz8]; · iexact Hz8
    isplitl [Hz9]; · iexact Hz9
    isplitl [Hz10]; · iexact Hz10
    isplitl [Hz11]; · iexact Hz11
    iexact Hz12
  isplitl [Ha Hh0 Hh1 Hh2 Hoth Hz Hn0 Hn1 Hn2 Hw0 Hw1 Hw2]
  · isplitl [Ha Hh0 Hh1 Hh2 Hoth]
    · iapply close
      isplitl [Ha]; · iexact Ha
      isplitl [Hh0]; · iexact Hh0
      isplitl [Hh1]; · iexact Hh1
      isplitl [Hh2]; · iexact Hh2
      iexact Hoth
    isplitl [Hz]; · iexact Hz
    isplitl [Hn0]; · iexact Hn0
    isplitl [Hn1]; · iexact Hn1
    isplitl [Hn2]; · iexact Hn2
    isplitl [Hw0]; · iexact Hw0
    isplitl [Hw1]; · iexact Hw1
    iexact Hw2
  iexists _
  iexact HO

/-- The run of the eight devices, from any memory, every counter at zero: every execution terminates with the arguments as
    they were, each result array holding the four chips' blocks, and every counter at zero. -/
theorem run_main : θ_run (defs (F := F)) (onTc (τ := τ) (main (F := F))) ⟨m, fun _ => 0, ρ⟩ fun r =>
    (∀ c : Dev nD, r.2.mem ((c.tc : Thread nD τ).loc main_arg0) = given m c ∧ r.2.mem ((c.tc : Thread nD τ).loc main_v1) = final m c)
      ∧ r.2.sem = fun _ => 0 :=
  launch cfgs (plan m) (defs₀ (F := F)) Variants.none launch0 (ownSemFacts m) (fun p => by fin_cases p; exact inferInstanceAs (IsEmpty (Fin 0))) N_0
    main (fun _ => rfl) m ρ (held m) (done m) (deal m)
    (fun t κ c W => body m κ c W)
    (fun c mem => mem.mem ((c.tc : Thread nD τ).loc main_arg0) = given m c ∧ mem.mem ((c.tc : Thread nD τ).loc main_v1) = final m c)
    (fun c s' => by rw [done_eq]; exact read_two _ _ s')
    (fun s h hs => ⟨h, sem_eq_zero_of_scoped (by decide) hs⟩)

end Cert.Gathering

end
-- ==== Proof.GatherRef.lean ====
/-
The reference of the all-gather: its run, for any float values, and what its result is in terms of the chips' blocks.
-/
module

public import proofs.«01_k».proof.Proof.Gather
public import proofs.«01_k».proof.Proof.Gen.GatherRefIdeal
public import Idealize.ShloMosaic.Lib.StableHlo.Run
public import Idealize.ShloMosaic.Lib.PointwiseCore
public import Idealize.ShloMosaic.Lib.Layout

@[expose] public section

noncomputable section

namespace Cert.Gathering.Ref

open Cert.GatherRefIdeal Cert.GatherRefIdeal.Gen
open Idealize.ShloMosaic Idealize.ShloMosaic.TcCoe Idealize.ShloMosaic.StableHlo Idealize.SL.Sem

variable {F : FTy → Type} [FloatOps F] {α : Type}

/-- The reference's result from its argument. -/
def refOut (x : S139520x128.Idx → α) : S4x34880x128.Idx → α := shapeCast S4x34880x128 x shapeCasts_S139520x128_S4x34880x128

/-- @main's one operation. -/
abbrev ops : List (HloOp τ sig (Elt F)) :=
  [ StableHlo.reshape main_arg0 main_v0 (rfl : (.bf16 : EltTy) = .bf16) shapeCasts_S139520x128_S4x34880x128 ]

theorem main_eq (c : Dev nD) : main (F := F) c = seq ops := rfl

theorem out_eq (V : Valuation τ sig (Elt F)) : after ops V (main_v0 : DevRef τ sig) = refOut (V (main_arg0 : DevRef τ sig)) := by
  after_results
  rfl

theorem arg0_eq (V : Valuation τ sig (Elt F)) : after ops V (main_arg0 : DevRef τ sig) = V (main_arg0 : DevRef τ sig) := by
  after_results

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := reshape_bufs_sub ..

/-- On its one device, from any memory: every execution terminates with the result array at `refOut` of the argument, the
    argument unchanged and every counter at zero. -/
theorem run_main (m : (ℓ : Loc nD τ sig) → Buf (Elt F) ℓ) (ρ : Dev nD → PrngReg) :
    θ_run defs (onTc (τ := τ) (main (F := F))) ⟨m, fun _ => 0, ρ⟩ fun r =>
      ∀ c : Dev nD, r.2.mem ((c.tc : Thread nD τ).loc main_v0) = refOut (m ((c.tc : Thread nD τ).loc main_arg0))
        ∧ r.2.mem ((c.tc : Thread nD τ).loc main_arg0) = m ((c.tc : Thread nD τ).loc main_arg0) :=
  (θ_run defs _ _).mono (fun _ h c => ⟨(h c main_v0).trans (out_eq _), (h c main_arg0).trans (arg0_eq _)⟩)
    (run_seq scopedRefs_eq scopedSems_eq defs main (fun _ => ops) main_eq (fun _ => ops_sub) m ρ)

/-- Row `r` of slot `k` of the result is row `r` of the block of any device of chip `k`. -/
theorem refOut_block (d : Fin 8) (x : S139520x128.Idx → α) (h : Layout.TilesN GatherIdeal.S34880x128 S139520x128 (fun b => Layout.cutSize [2, 2, 2] (![[0, 1], []] b)))
    (i : S4x34880x128.Idx) (hd : d.val / 2 = (i 0).val) :
    Layout.blockN GatherIdeal.S34880x128 S139520x128 (Layout.meshBlock [2, 2, 2] ![[0, 1], []] d) x h (ix2 (i 1) (i 2)) = refOut x i := by
  rw [Layout.blockN_apply]
  unfold refOut
  idx_vars i
  have hm : Layout.meshLin [2, 2, 2] d.val [0, 1] = d.val / 2 := by clear hd; revert d; decide
  have e0 : (h.idx (Layout.meshBlock [2, 2, 2] ![[0, 1], []] d) (ix2 i1 i2) 0).val = i0.val * 34880 + i1.val := congrArg (· * 34880 + i1.val) (hm.trans hd)
  have e1 : (h.idx (Layout.meshBlock [2, 2, 2] ![[0, 1], []] d) (ix2 i1 i2) 1).val = i2.val := (congrArg (· * 128 + i2.val) (show Layout.meshLin [2, 2, 2] d.val [] = 0 from rfl)).trans (by simp)
  show x (h.idx (Layout.meshBlock [2, 2, 2] ![[0, 1], []] d) (ix2 i1 i2)) = _
  generalize h.idx (Layout.meshBlock [2, 2, 2] ![[0, 1], []] d) (ix2 i1 i2) = k at e0 e1 ⊢
  pointwise
  refine congrArg x (funext fun a => Fin.ext ?_)
  fin_cases a
  · show (k 0).val = i0.val * 34880 + i1.val
    exact e0
  · show (k 1).val = i2.val
    exact e1

end Cert.Gathering.Ref

end
-- ==== Proof.GatherClaims.lean ====
/-
The claims about the all-gather of the weights, from the run of the eight devices and that of the reference.
-/
module

public import proofs.«01_k».proof.Defs
public import proofs.«01_k».proof.Proof.GatherRef
public import proofs.«01_k».proof.Proof.Gen.Gather
public import proofs.«01_k».proof.Proof.Gen.GatherRef

@[expose] public section

noncomputable section

namespace Cert.Gathering

open Idealize.ShloMosaic Idealize.ShloMosaic.TcCoe Idealize.SL.Sem

variable {F : FTy → Type} [FloatOps F]

/-- The device a part came from belongs to the chip of its slot. -/
theorem src_chip (c : Fin 8) (k : Fin 4) (r : Fin 34880) : (src c k r).val / 2 = k.val := by
  unfold src
  split_ifs with h
  · rw [h]; rfl
  · show (2 * k.val + r.val / 17440) / 2 = k.val
    have := r.isLt
    omega

/-- Where the devices' arguments are their chips' blocks of `x`, what every device ends with is the reference's whole result. -/
theorem final_whole (m : (ℓ : Loc GatherIdeal.nD GatherIdeal.τ GatherIdeal.sig) → Buf (Elt F) ℓ) (x : GatherRefIdeal.S139520x128.Idx → F .bf16)
    (c : Fin 8) (h₁ : Layout.TilesN GatherIdeal.S34880x128 GatherRefIdeal.S139520x128 (fun b => Layout.cutSize [2, 2, 2] (![[0, 1], []] b)))
    (h : ∀ c : Fin 8, (given m c : GatherIdeal.S34880x128.Idx → F .bf16)
      = Layout.blockN GatherIdeal.S34880x128 GatherRefIdeal.S139520x128 (Layout.meshBlock [2, 2, 2] ![[0, 1], []] c) x h₁) :
    (final m c : GatherIdeal.S4x34880x128.Idx → F .bf16) = Ref.refOut x := by
  funext i
  exact (congrFun (h (src c (i 0) (i 1))) (ix2 (i 1) (i 2))).trans (Ref.refOut_block _ x h₁ i (src_chip c (i 0) (i 1)))

/-- The kernel's call runs, over the device's own arithmetic and over exact arithmetic, its argument unchanged. -/
theorem frame_kernel : Cert.quiescent_Gather := fun m ρ _ =>
  (θ_run Cert.GatherIdeal.defs _ _).mono (fun _ h => ⟨fun c => (h.1 c).1, h.2⟩) (run_main (F := Bits) m ρ)
theorem frame_ideal : Cert.quiescent_GatherIdeal := fun m ρ _ =>
  (θ_run Cert.GatherIdeal.defs _ _).mono (fun _ h => ⟨fun c => (h.1 c).1, h.2⟩) (run_main (F := Ideal) m ρ)

/-- So does the reference. -/
theorem frame_ref_ideal : Cert.quiescent_GatherRefIdeal := fun m ρ _ =>
  (θ_run Cert.GatherRefIdeal.defs _ _).mono (fun r h => ⟨fun c => (h c).2, sem_eq_zero_of_no_sems (by decide) r.2⟩) (Ref.run_main (F := Ideal) m ρ)
theorem frame_ref : Cert.quiescent_GatherRef := fun m ρ _ =>
  (θ_run Cert.GatherRefIdeal.defs _ _).mono (fun r h => ⟨fun c => (h c).2, sem_eq_zero_of_no_sems (by decide) r.2⟩) (Ref.run_main (F := Bits) m ρ)

/-- In exact arithmetic, every device's result is the reference's. -/
theorem algebraic : Cert.algebraic_GatherIdeal_GatherRefIdeal := fun m g m' g' _ hag =>
  ⟨Ref.refOut (m' (((0 : Dev Cert.GatherRefIdeal.nD).tc : Thread Cert.GatherRefIdeal.nD Cert.GatherRefIdeal.τ).loc Cert.GatherRefIdeal.main_arg0)),
    (θ_run Cert.GatherIdeal.defs _ _).mono (fun _ h c => ⟨(h.1 c).2.trans (final_whole m _ c _ hag), (h.1 c).1⟩) (run_main (F := Ideal) m g),
    (θ_run Cert.GatherRefIdeal.defs _ _).mono (fun _ h => h 0) (Ref.run_main (F := Ideal) m' g')⟩

/-- The same, bit for bit. -/
theorem bitexact : Cert.bitexact_Gather_GatherRef := fun m g m' g' _ hag =>
  ⟨Ref.refOut (m' (((0 : Dev Cert.GatherRef.nD).tc : Thread Cert.GatherRef.nD Cert.GatherRef.τ).loc Cert.GatherRef.main_arg0)),
    (θ_run Cert.GatherIdeal.defs _ _).mono (fun _ h c => ⟨(h.1 c).2.trans (final_whole m _ c _ hag), (h.1 c).1⟩) (run_main (F := Bits) m g),
    (θ_run Cert.GatherRefIdeal.defs _ _).mono (fun _ h => h 0) (Ref.run_main (F := Bits) m' g')⟩

end Cert.Gathering

end
-- ==== Proof.Join.lean ====
/-
The halves of a chip joined on both of its cores: every device copies its half into its own result array, sends it into its
sibling's, and waits for the sibling's. For any float values: the run of the eight devices, and what each result array holds.
-/
module

public import proofs.«01_k».proof.Proof.Parcel
public import proofs.«01_k».proof.Proof.Gen.JoinIdeal
public import proofs.«01_k».proof.Proof.Gen.JoinIdeal.Skeleton
public import proofs.«01_k».proof.Proof.Gen.JoinIdeal.Launch
public import proofs.«01_k».proof.Proof.Gen.JoinIdeal.Points
public import Idealize.ShloMosaic.Lib.PointwiseCore

@[expose] public section

noncomputable section

namespace Cert.Joining

open Cert.JoinIdeal Cert.JoinIdeal.Gen Cert.Mail
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

set_option Elab.async false

variable {F : FTy → Type} [FloatOps F]

local notation "𝕄" => MM nD τ sig (Elt F)

variable (m : (ℓ : Loc nD τ sig) → Buf (Elt F) ℓ) (ρ : Dev nD → PrngReg)

abbrev arg : Memref sig .tc .hbm S17440x128 .f32 := Memref.whole main_arg0
abbrev out : Memref sig .tc .hbm S2x17440x128 .f32 := Memref.whole main_v1

/-- The half of a result array that device `d` fills, and the other one as the kernel names it. -/
abbrev slot (d : Dev nD) : Memref sig .tc .hbm S17440x128 .f32 :=
  (out.slice (Rect.unit (s := S2x17440x128) (k0_off1 d) S1x17440x128.size (k0_off1_inb d)) (fun _ => rfl)).squeeze S17440x128 squeezes_S1x17440x128_S17440x128
abbrev other (d : Dev nD) : Memref sig .tc .hbm S17440x128 .f32 :=
  (out.slice (Rect.unit (s := S2x17440x128) (k0_off2 d) S1x17440x128.size (k0_off2_inb d)) (fun _ => rfl)).squeeze S17440x128 squeezes_S1x17440x128_S17440x128

/-- Core `s` of device `c`'s chip. -/
def mate (c : Fin 8) (s : Fin 2) : Fin 8 := ⟨2 * (c.val / 2) + s.val, by omega⟩

theorem mate_self (d : Fin 8) (s : Fin 2) (h : s.val = d.val % 2) : mate d s = d := Fin.ext (by unfold mate; simp only; omega)
theorem mate_sib (d : Fin 8) (s : Fin 2) : mate (sib d) s = mate d s := by revert d s; decide

theorem dev1_eq (c : Dev nD) : (⟨k0_dev1 c, k0_dev1_lt c⟩ : Dev nD) = sib c := Fin.ext (k0_dev1_eq c)

/-- The device's argument at the launch, and what its result array holds in the end: the two halves in the cores' order. -/
abbrev given (c : Dev nD) : Buf (Elt F) ((c.tc : Thread nD τ).loc main_arg0) := m ((c.tc : Thread nD τ).loc main_arg0)
def final (c : Dev nD) : Buf (Elt F) ((c.tc : Thread nD τ).loc main_v1) :=
  fun i : S2x17440x128.Idx => (given m (mate c (i 0)) : S17440x128.Idx → F .f32) (ix2 (i 1) (i 2))

/-- An element of a half is the one of the same row and lane. -/
theorem lift_eq (h : S17440x128.numel = S1x17440x128.numel) (a : Fin 17440) (b : Fin 128) : Shape.reshapeEquiv h (ix2 a b) = (ix3 0 a b : S1x17440x128.Idx) := by
  have e : shapeCast S17440x128 (fun i : S1x17440x128.Idx => i) h (ix2 a b) = ix3 0 a b := by pointwise
  exact e

/-- Where it lies in the result array. -/
theorem emb_slot (d : Dev nD) (a : Fin 17440) (b : Fin 128) :
    ((slot d).view.emb (ix2 a b) : S2x17440x128.Idx) = ix3 ⟨d.val % 2, Nat.mod_lt _ (by decide)⟩ a b := by
  have e : ((slot d).view.emb (ix2 a b) : S2x17440x128.Idx)
      = (Rect.unit (s := S2x17440x128) (k0_off1 d) S1x17440x128.size (k0_off1_inb d)).emb (Shape.reshapeEquiv (by decide) (ix2 a b) : S1x17440x128.Idx) := rfl
  rw [e, lift_eq]
  funext t
  apply Fin.ext
  rw [Rect.emb_apply, Rect.off_unit, Rect.stride_unit]
  refine (congrArg (· + 1 * ((ix3 0 a b : S1x17440x128.Idx) t).val) (congrFun (k0_off1_eq d) t)).trans ?_
  fin_cases t <;> simp

theorem mem_slot (d : Dev nD) (i : S2x17440x128.Idx) : i ∈ ((slot d).view.set : Finset S2x17440x128.Idx) ↔ (i 0).val = d.val % 2 := by
  rw [show ((slot d).view.set : Finset S2x17440x128.Idx) = (Rect.unit (s := S2x17440x128) (k0_off1 d) S1x17440x128.size (k0_off1_inb d)).set from
    (View.set_reshape ..).trans (View.set_slice_whole ..), Rect.mem_set_unit, k0_off1_eq]
  have h1 : (i 1).val < 17440 := (i 1).isLt
  have h2 : (i 2).val < 128 := (i 2).isLt
  refine ⟨fun hi => ?_, fun hi a => ?_⟩
  · have := hi 0
    simp at this
    omega
  · fin_cases a <;> simp <;> omega

theorem fin2 (Φ : Fin 2 → sProp 𝕄) : bigSep Finset.univ Φ = iprop(Φ 0 ∗ Φ 1) := bigSep_univ_eq_bigSepL [0, 1] (by decide) (by decide) Φ
theorem fin3 (Φ : Fin 3 → sProp 𝕄) : bigSep Finset.univ Φ = iprop(Φ 0 ∗ Φ 1 ∗ Φ 2) := bigSep_univ_eq_bigSepL [0, 1, 2] (by decide) (by decide) Φ

theorem sib_mod (c : Fin 8) : (sib c).val % 2 = 1 - c.val % 2 := by revert c; decide

/-- A whole result array is the half its device fills and the half its sibling fills. -/
theorem out_parts (c : Dev nD) {q : PosShare TreeShare} (f : Buf (Elt F) ((c.tc : Thread nD τ).loc main_v1)) :
    ((c.tc : Thread nD τ).loc main_v1 ↦{q} f : sProp 𝕄)
      = iprop(((slot c).view.loc (c : Thread nD τ) ↦[(slot c).view.set]{q} f) ∗ ((slot (sib c)).view.loc (c : Thread nD τ) ↦[(slot (sib c)).view.set]{q} f)) := by
  rw [pieces (T := Fin 2) (fun i : S2x17440x128.Idx => if (i 0).val = c.val % 2 then 0 else 1) ![(slot c).view.set, (slot (sib c)).view.set]
    (fun t i => ?_) f, fin2]
  · rfl
  have h0 : (i (0 : Fin 3)).val < 2 := (i (0 : Fin 3)).isLt
  fin_cases t
  · refine (mem_slot c i).trans ?_
    show _ ↔ (if (i (0 : Fin 3)).val = c.val % 2 then (0 : Fin 2) else 1) = 0
    split_ifs with h
    · simp [h]
    · simp [h]
  · refine (mem_slot (sib c) i).trans ?_
    rw [sib_mod]
    show _ ↔ (if (i (0 : Fin 3)).val = c.val % 2 then (0 : Fin 2) else 1) = 1
    split_ifs with h <;> simp <;> omega

/-- The deliveries: `0`, the half sent is free again; `1`, the sibling's half has come; `2`, the device's own copy is made. -/
def plan : Plan nD τ sig (Elt F) (Fin 3) where
  sem := ![.dma cc0_scratch0.sem, .dma cc0_scratch1.sem, .dma cc0_scratch2.sem]
  units := fun _ => RefSig.tileCredit S17440x128 .f32
  dest := ![Equiv.refl _, sib, Equiv.refl _]
  far := ![false, true, false]
  lvl := fun _ => 0
  pay c k := match k with
    | 0 => arg.view.loc (c : Thread nD τ) ↦[arg.view.set]{fullShare.left} given m c
    | 1 => (slot (sib c)).view.loc (c : Thread nD τ) ↦[(slot (sib c)).view.set]{fullShare} final m c
    | 2 => iprop(((slot c).view.loc (c : Thread nD τ) ↦[(slot c).view.set]{fullShare} final m c)
        ∗ (arg.view.loc (c : Thread nD τ) ↦[arg.view.set]{fullShare.right} given m c))
  sem_inj := by decide
  units_pos := fun _ => RefSig.tileCredit_pos _ _ (by decide)
  pay_storable c k := by fin_cases k <;> dsimp only <;> infer_instance

theorem sem_send : SemLoc.dma cc0_scratch0.sem = (plan m).sem 0 := rfl
theorem sem_recv : SemLoc.dma cc0_scratch1.sem = (plan m).sem 1 := rfl
theorem sem_copy : SemLoc.dma cc0_scratch2.sem = (plan m).sem 2 := rfl
theorem dest_send (c : Dev nD) : (plan m).dest 0 c = c := rfl
theorem dest_recv (c : Dev nD) : (plan m).dest 1 c = sib c := rfl
theorem dest_copy (c : Dev nD) : (plan m).dest 2 c = c := rfl
theorem units_arg (k : Fin 3) : arg.view.dmaCredit = (plan m).units k := rfl
theorem units_slot (k : Fin 3) (c : Dev nD) : (slot c).view.dmaCredit = (plan m).units k := rfl
theorem units_other (k : Fin 3) (c : Dev nD) : (other c).view.dmaCredit = (plan m).units k := rfl
theorem units_eq : (plan m).units 0 = (plan m).units 1 := rfl
theorem pay_send (c : Dev nD) : (plan m).pay c 0 = (arg.view.loc (c : Thread nD τ) ↦[arg.view.set]{fullShare.left} given m c) := rfl
theorem pay_recv (c : Dev nD) : (plan m).pay c 1 = ((slot (sib c)).view.loc (c : Thread nD τ) ↦[(slot (sib c)).view.set]{fullShare} final m c) := rfl
theorem pay_copy (c : Dev nD) : (plan m).pay c 2 = iprop(((slot c).view.loc (c : Thread nD τ) ↦[(slot c).view.set]{fullShare} final m c)
    ∗ (arg.view.loc (c : Thread nD τ) ↦[arg.view.set]{fullShare.right} given m c)) := rfl
theorem coin_send (c : Dev nD) : (plan m).coin0 c 0 = iprop(emp) := rfl
theorem coin_recv (c : Dev nD) : (plan m).coin0 c 1 = (plan m).coin c 1 := rfl
theorem coin_copy (c : Dev nD) : (plan m).coin0 c 2 = iprop(emp) := rfl

/-- What device `c` writes is what the result array, its own or its sibling's, holds there in the end. -/
theorem carries (c d : Dev nD) (h : mate d ⟨c.val % 2, Nat.mod_lt _ (by decide)⟩ = c) (i : S17440x128.Idx) :
    arg.view.read (Elt F) (given m c) i = (slot c).view.read (Elt F) (final m d) i := by
  obtain ⟨a, b, rfl⟩ : ∃ (a : Fin 17440) (b : Fin 128), i = ix2 a b := ⟨i 0, i 1, eq_ix2 i⟩
  show (given m c : S17440x128.Idx → F .f32) (ix2 a b) = (final m d : S2x17440x128.Idx → F .f32) ((slot c).view.emb (ix2 a b))
  rw [emb_slot]
  unfold final
  exact (congrArg (fun e : Fin 8 => (given m e : S17440x128.Idx → F .f32) (ix2 a b)) h).symm

theorem copies (c : Dev nD) (f : Buf (Elt F) ((slot c).view.loc (c : Thread nD τ))) :
    (iprop(((slot c).view.loc (c : Thread nD τ) ↦[(slot c).view.set]{fullShare} (slot c).view.write (Elt F) f (arg.view.read (Elt F) (given m c)) Finset.univ)
      ∗ (arg.view.loc (c : Thread nD τ) ↦[arg.view.set]{fullShare.right} given m c)) : sProp 𝕄) ⊢ (plan m).pay c 2 := by
  rw [pay_copy, landed (c := (c : Thread nD τ)) (slot c) f (final m c) _ (carries m c c (mate_self c _ rfl))]

theorem arrives (c : Dev nD) (f : Buf (Elt F) ((slot c).view.loc (sib c : Thread nD τ))) :
    ((slot c).view.loc (sib c : Thread nD τ) ↦[(slot c).view.set]{fullShare} (slot c).view.write (Elt F) f (arg.view.read (Elt F) (given m c)) Finset.univ : sProp 𝕄)
      ⊢ (plan m).pay (sib c) 1 := by
  rw [pay_recv, sib_sib, landed (c := (sib c : Thread nD τ)) (slot c) f (final m (sib c)) _ (carries m c (sib c) ((mate_sib c _).trans (mate_self c _ rfl)))]

theorem owed_eq (c : Dev nD) : (plan m).owed c = 0 + (plan m).due c 1 := by
  unfold Plan.owed
  rw [Fin.sum_univ_three]
  show 0 + (plan m).due c 1 + 0 = _
  rw [add_zero]

/-- What device `c` starts with: its own argument, and its half of its own and its sibling's result array. -/
def held (c : Dev nD) : sProp 𝕄 :=
  iprop((arg.view.loc (c : Thread nD τ) ↦[arg.view.set]{fullShare} given m c)
    ∗ ((slot c).view.loc (c : Thread nD τ) ↦[(slot c).view.set]{fullShare} m ((c : Thread nD τ).loc main_v1))
    ∗ ((slot c).view.loc (sib c : Thread nD τ) ↦[(slot c).view.set]{fullShare} m ((sib c : Thread nD τ).loc main_v1)))
/-- What it ends with: the argument as it was, and its own result array filled. -/
def done (c : Dev nD) : sProp 𝕄 :=
  iprop((arg.view.loc (c : Thread nD τ) ↦[arg.view.set]{fullShare} given m c)
    ∗ ((slot c).view.loc (c : Thread nD τ) ↦[(slot c).view.set]{fullShare} final m c)
    ∗ ((slot (sib c)).view.loc (c : Thread nD τ) ↦[(slot (sib c)).view.set]{fullShare} final m c))

theorem done_eq (c : Dev nD) : done m c = iprop((((c : Thread nD τ).loc main_arg0) ↦{fullShare} given m c) ∗ (((c : Thread nD τ).loc main_v1) ↦{fullShare} final m c)) := by
  unfold done; rw [whole_pts, out_parts]

theorem held_eq (c : Dev nD) : held m c = iprop((((c : Thread nD τ).loc main_arg0) ↦{fullShare} given m c)
    ∗ ((slot c).view.loc (c : Thread nD τ) ↦[(slot c).view.set]{fullShare} m ((c : Thread nD τ).loc main_v1))
    ∗ ((slot (sib (sib c))).view.loc (sib c : Thread nD τ) ↦[(slot (sib (sib c))).view.set]{fullShare} m ((sib c : Thread nD τ).loc main_v1))) := by
  unfold held; rw [whole_pts, sib_sib]

theorem deal : (bigSep Finset.univ fun c : Dev nD => Pipeline.unscopedRest (Ix := Unit) (Name := ℕ) (U := UU nD τ sig) (Lvl := ℕ) cfg0.spec c
      (fun b => m ((c : Thread nD τ).loc b)) : sProp 𝕄) ⊢ bigSep Finset.univ (held m) := by
  rw [show held m = fun c => _ from funext (held_eq m)]
  simp only [unscopedRest0_eq, out_parts, bigSep_sep']
  rw [bigSep_univ_equiv sib (fun c : Dev nD => ((slot (sib c)).view.loc (c : Thread nD τ) ↦[(slot (sib c)).view.set]{fullShare} m ((c : Thread nD τ).loc main_v1) : sProp 𝕄))]

theorem ownSemFacts : Pipeline.OwnSemFacts (cfgs 0).spec (plan m).sem :=
  show Pipeline.OwnSemFacts cfg0.spec ![.dma cc0_scratch0.sem, .dma cc0_scratch1.sem, .dma cc0_scratch2.sem] by decide

attribute [local irreducible] plan

/-- One device's run of the kernel. -/
theorem body (κ : Dev nD × Fin 3 → ℕ) (c : Dev nD) (W : Waits sig Unit) :
    iprop((plan m).records κ ∗ levAts Plan.L (plan m).lv ∗ (plan m).start c ∗ held m c ∗ owes (c : Thread nD τ) ((plan m).owed c) W)
      ⊢ wp frame (wpE (defs₀ (F := F)) Variants.none (c : Thread nD τ) none) Set.univ
          (cc0_join_halves arg (Memref.isWhole_whole _) out (Memref.isWhole_whole _) cc0_scratch0 cc0_scratch1 cc0_scratch2)
          fun _ => iprop((plan m).rest c ∗ done m c ∗ ∃ W', owes (c : Thread nD τ) 0 W') := by
  rw [cc0_join_halves_eq_skeleton]; unfold cc0_join_halves_skel
  rw [k0_part1_eq_skeleton]; unfold k0_part1_skel
  simp only [Prog.lift, Prog.bind_op, Prog.bind_ret, Prog.pure_eq_ret, wp_deviceId]
  unfold Plan.start held done Plan.rest
  rw [owed_eq]
  simp only [fin3, coin_send, coin_recv, coin_copy]
  iintro ⟨#HR, -, ⟨⟨HatS, HatR, HatL⟩, ⟨HtS, HtR, HtL⟩, -, HcR, -⟩, ⟨Ha, Ho, Hp⟩, HO⟩
  icases (pointsTo_share (PosShare.mem_left_op_right fullShare)).1 $$ Ha with ⟨Ha, Ha'⟩
  iapply ((plan m).wp_copy Variants.none κ c 2 (sem_copy m) (dest_copy m c) (src := arg) (dst := slot c) (units_slot m 2 c)
    (q := fullShare.right) (fs := given m c) (fd := m ((c : Thread nD τ).loc main_v1)) (copies m c _)) $$ [Ha' Ho HtL]
  · isplitr; · iexact HR
    isplitl [Ha']; · iexact Ha'
    isplitl [Ho]; · iexact Ho
    iexact HtL
  iintro HcL
  iapply ((plan m).wp_send Variants.none κ c (sib c) (dev1_eq c) 0 1 (sem_send m) (sem_recv m) (dest_send m c) (dest_recv m c)
    (src := arg) (dst := slot c) (units_slot m 1 c) (units_eq m) 0 rfl
    (q := fullShare.left) (fs := given m c) (fd := m ((sib c : Thread nD τ).loc main_v1))
    (Entails.of_eq (pay_send m c).symm) (arrives m c _) (hroute := by routes)) $$ [Ha Hp HO HtS HtR]
  · isplitr; · iexact HR
    isplitl [Ha]; · iexact Ha
    isplitl [Hp]; · iexact Hp
    isplitl [HO]; · iexact HO
    isplitl [HtS]; · iexact HtS
    iexact HtR
  iintro ⟨HcS, HO⟩
  iapply ((plan m).wp_waitDma Variants.none κ c 1 (sem_recv m) (units_other m 1 c)) $$ [HcR HO HatR]
  · isplitr; · iexact HR
    isplitl [HcR]; · iexact HcR
    isplitl [HO]; · iexact HO
    iexact HatR
  iintro ⟨HO, Hp, HzR⟩
  ihave Hp := (Entails.of_eq (pay_recv m c)) $$ Hp
  iapply ((plan m).wp_waitDma Variants.none κ c 0 (sem_send m) (units_arg m 0)) $$ [HcS HO HatS]
  · isplitr; · iexact HR
    isplitl [HcS]; · iexact HcS
    isplitl [HO]; · iexact HO
    iexact HatS
  iintro ⟨HO, Ha, HzS⟩
  ihave Ha := (Entails.of_eq (pay_send m c)) $$ Ha
  iapply ((plan m).wp_waitDma Variants.none κ c 2 (sem_copy m) (units_slot m 2 c)) $$ [HcL HO HatL]
  · isplitr; · iexact HR
    isplitl [HcL]; · iexact HcL
    isplitl [HO]; · iexact HO
    iexact HatL
  iintro ⟨HO, Hl, HzL⟩
  ihave Hl := (Entails.of_eq (pay_copy m c)) $$ Hl
  icases Hl with ⟨Ho, Ha'⟩
  rw [wp_ret]; imodintro
  isplitl [HzS HzR HzL]
  · isplitl [HzS]; · iexact HzS
    isplitl [HzR]; · iexact HzR
    iexact HzL
  isplitl [Ha Ha' Ho Hp]
  · isplitl [Ha Ha']
    · iapply (pointsTo_share (PosShare.mem_left_op_right fullShare)).2
      isplitl [Ha]; · iexact Ha
      iexact Ha'
    isplitl [Ho]; · iexact Ho
    iexact Hp
  iexists _
  iexact HO

/-- The run of the eight devices, from any memory, every counter at zero: every execution terminates with the arguments as
    they were, each result array holding the two halves of its chip, and every counter at zero. -/
theorem run_main : θ_run (defs (F := F)) (onTc (τ := τ) (main (F := F))) ⟨m, fun _ => 0, ρ⟩ fun r =>
    (∀ c : Dev nD, r.2.mem ((c.tc : Thread nD τ).loc main_arg0) = given m c ∧ r.2.mem ((c.tc : Thread nD τ).loc main_v1) = final m c)
      ∧ r.2.sem = fun _ => 0 :=
  launch cfgs (plan m) (defs₀ (F := F)) Variants.none launch0 (ownSemFacts m) (fun p => by fin_cases p; exact inferInstanceAs (IsEmpty (Fin 0))) N_0
    main (fun _ => rfl) m ρ (held m) (done m) (deal m)
    (fun t κ c W => body m κ c W)
    (fun c mem => mem.mem ((c.tc : Thread nD τ).loc main_arg0) = given m c ∧ mem.mem ((c.tc : Thread nD τ).loc main_v1) = final m c)
    (fun c s' => by rw [done_eq]; exact read_two _ _ s')
    (fun s h hs => ⟨h, sem_eq_zero_of_scoped (by decide) hs⟩)

end Cert.Joining

end
-- ==== Proof.JoinRef.lean ====
/-
The reference of the joining of the halves: its run, for any float values, and what one chip's block of its result is.
-/
module

public import proofs.«01_k».proof.Proof.Join
public import proofs.«01_k».proof.Proof.Gen.JoinRefIdeal
public import Idealize.ShloMosaic.Lib.StableHlo.Run
public import Idealize.ShloMosaic.Lib.PointwiseCore
public import Idealize.ShloMosaic.Lib.Layout

@[expose] public section

noncomputable section

namespace Cert.Joining.Ref

open Cert.JoinRefIdeal Cert.JoinRefIdeal.Gen
open Idealize.ShloMosaic Idealize.ShloMosaic.TcCoe Idealize.ShloMosaic.StableHlo Idealize.SL.Sem

variable {F : FTy → Type} [FloatOps F] {α : Type}

/-- The reference's result from its argument. -/
def refOut (x : S139520x128.Idx → α) : S8x17440x128.Idx → α := shapeCast S8x17440x128 x shapeCasts_S139520x128_S8x17440x128

/-- @main's one operation. -/
abbrev ops : List (HloOp τ sig (Elt F)) :=
  [ StableHlo.reshape main_arg0 main_v0 (rfl : (.f32 : EltTy) = .f32) shapeCasts_S139520x128_S8x17440x128 ]

theorem main_eq (c : Dev nD) : main (F := F) c = seq ops := rfl

theorem out_eq (V : Valuation τ sig (Elt F)) : after ops V (main_v0 : DevRef τ sig) = refOut (V (main_arg0 : DevRef τ sig)) := by
  after_results
  rfl

theorem arg0_eq (V : Valuation τ sig (Elt F)) : after ops V (main_arg0 : DevRef τ sig) = V (main_arg0 : DevRef τ sig) := by
  after_results

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := reshape_bufs_sub ..

/-- On its one device, from any memory: every execution terminates with the result array at `refOut` of the argument, the
    argument unchanged and every counter at zero. -/
theorem run_main (m : (ℓ : Loc nD τ sig) → Buf (Elt F) ℓ) (ρ : Dev nD → PrngReg) :
    θ_run defs (onTc (τ := τ) (main (F := F))) ⟨m, fun _ => 0, ρ⟩ fun r =>
      ∀ c : Dev nD, r.2.mem ((c.tc : Thread nD τ).loc main_v0) = refOut (m ((c.tc : Thread nD τ).loc main_arg0))
        ∧ r.2.mem ((c.tc : Thread nD τ).loc main_arg0) = m ((c.tc : Thread nD τ).loc main_arg0) :=
  (θ_run defs _ _).mono (fun _ h c => ⟨(h c main_v0).trans (out_eq _), (h c main_arg0).trans (arg0_eq _)⟩)
    (run_seq scopedRefs_eq scopedSems_eq defs main (fun _ => ops) main_eq (fun _ => ops_sub) m ρ)

/-- Of the block of device `c`'s chip, half `s` is the block of that chip's core `s`. -/
theorem block_refOut (c : Fin 8) (x : S139520x128.Idx → α) (h₁ : Layout.TilesN JoinIdeal.S2x17440x128 S8x17440x128 (fun b => Layout.cutSize [2, 2, 2] (![[0, 1], [], []] b)))
    (h₂ : Layout.Tiles JoinIdeal.S17440x128 S139520x128 0 8) (i : JoinIdeal.S2x17440x128.Idx) :
    Layout.blockN JoinIdeal.S2x17440x128 S8x17440x128 (Layout.meshBlock [2, 2, 2] ![[0, 1], [], []] c) (refOut x) h₁ i
      = Layout.block JoinIdeal.S17440x128 S139520x128 0 8 (mate c (i 0)) x h₂ (ix2 (i 1) (i 2)) := by
  rw [Layout.blockN_apply, Layout.block_apply]
  unfold refOut
  idx_vars i
  have hm : Layout.meshLin [2, 2, 2] c.val [0, 1] = c.val / 2 := by revert c; decide
  have e0 : (h₁.idx (Layout.meshBlock [2, 2, 2] ![[0, 1], [], []] c) (ix3 i0 i1 i2) 0).val = c.val / 2 * 2 + i0.val := congrArg (· * 2 + i0.val) hm
  have e1 : (h₁.idx (Layout.meshBlock [2, 2, 2] ![[0, 1], [], []] c) (ix3 i0 i1 i2) 1).val = i1.val := (congrArg (· * 17440 + i1.val) (show Layout.meshLin [2, 2, 2] c.val [] = 0 from rfl)).trans (by simp)
  have e2 : (h₁.idx (Layout.meshBlock [2, 2, 2] ![[0, 1], [], []] c) (ix3 i0 i1 i2) 2).val = i2.val := (congrArg (· * 128 + i2.val) (show Layout.meshLin [2, 2, 2] c.val [] = 0 from rfl)).trans (by simp)
  have f0 : (h₂.idx (mate c i0) (ix2 i1 i2) 0).val = (2 * (c.val / 2) + i0.val) * 17440 + i1.val := rfl
  have f1 : (h₂.idx (mate c i0) (ix2 i1 i2) 1).val = i2.val := rfl
  show _ = x (h₂.idx (mate c i0) (ix2 i1 i2))
  generalize h₂.idx (mate c i0) (ix2 i1 i2) = j at f0 f1 ⊢
  generalize h₁.idx (Layout.meshBlock [2, 2, 2] ![[0, 1], [], []] c) (ix3 i0 i1 i2) = k at e0 e1 e2 ⊢
  pointwise
  refine congrArg x (funext fun a => Fin.ext ?_)
  fin_cases a
  · show (k 0).val * 17440 + (k 1).val = (j 0).val
    rw [f0, e0, e1, Nat.mul_comm (c.val / 2)]
  · show (k 2).val = (j 1).val
    rw [f1, e2]

end Cert.Joining.Ref

end
-- ==== Proof.JoinClaims.lean ====
/-
The claims about the joining of the halves, from the run of the eight devices and that of the reference.
-/
module

public import proofs.«01_k».proof.Defs
public import proofs.«01_k».proof.Proof.JoinRef
public import proofs.«01_k».proof.Proof.Gen.Join
public import proofs.«01_k».proof.Proof.Gen.JoinRef

@[expose] public section

noncomputable section

namespace Cert.Joining

open Idealize.ShloMosaic Idealize.ShloMosaic.TcCoe Idealize.SL.Sem

variable {F : FTy → Type} [FloatOps F]

/-- Where the devices' arguments are the blocks of `x`, what device `c` ends with is the block of its chip of the reference's result. -/
theorem final_block (m : (ℓ : Loc JoinIdeal.nD JoinIdeal.τ JoinIdeal.sig) → Buf (Elt F) ℓ) (x : JoinRefIdeal.S139520x128.Idx → F .f32)
    (c : Fin 8) (h₁ : Layout.TilesN JoinIdeal.S2x17440x128 JoinRefIdeal.S8x17440x128 (fun b => Layout.cutSize [2, 2, 2] (![[0, 1], [], []] b)))
    (h₂ : Layout.Tiles JoinIdeal.S17440x128 JoinRefIdeal.S139520x128 0 8)
    (h : ∀ c : Fin 8, (given m c : JoinIdeal.S17440x128.Idx → F .f32) = Layout.block JoinIdeal.S17440x128 JoinRefIdeal.S139520x128 0 8 c x h₂) :
    (final m c : JoinIdeal.S2x17440x128.Idx → F .f32)
      = Layout.blockN JoinIdeal.S2x17440x128 JoinRefIdeal.S8x17440x128 (Layout.meshBlock [2, 2, 2] ![[0, 1], [], []] c) (Ref.refOut x) h₁ := by
  funext i
  rw [Ref.block_refOut c x h₁ h₂ i]
  exact congrFun (h (mate c (i 0))) (ix2 (i 1) (i 2))

/-- The kernel's call runs, over the device's own arithmetic and over exact arithmetic, its argument unchanged. -/
theorem frame_kernel : Cert.quiescent_Join := fun m ρ _ =>
  (θ_run Cert.JoinIdeal.defs _ _).mono (fun _ h => ⟨fun c => (h.1 c).1, h.2⟩) (run_main (F := Bits) m ρ)
theorem frame_ideal : Cert.quiescent_JoinIdeal := fun m ρ _ =>
  (θ_run Cert.JoinIdeal.defs _ _).mono (fun _ h => ⟨fun c => (h.1 c).1, h.2⟩) (run_main (F := Ideal) m ρ)

/-- So does the reference. -/
theorem frame_ref_ideal : Cert.quiescent_JoinRefIdeal := fun m ρ _ =>
  (θ_run Cert.JoinRefIdeal.defs _ _).mono (fun r h => ⟨fun c => (h c).2, sem_eq_zero_of_no_sems (by decide) r.2⟩) (Ref.run_main (F := Ideal) m ρ)
theorem frame_ref : Cert.quiescent_JoinRef := fun m ρ _ =>
  (θ_run Cert.JoinRefIdeal.defs _ _).mono (fun r h => ⟨fun c => (h c).2, sem_eq_zero_of_no_sems (by decide) r.2⟩) (Ref.run_main (F := Bits) m ρ)

/-- In exact arithmetic, device `c`'s result is the block of its chip of the reference's. -/
theorem algebraic : Cert.algebraic_JoinIdeal_JoinRefIdeal := fun m g m' g' _ hag =>
  ⟨Ref.refOut (m' (((0 : Dev Cert.JoinRefIdeal.nD).tc : Thread Cert.JoinRefIdeal.nD Cert.JoinRefIdeal.τ).loc Cert.JoinRefIdeal.main_arg0)),
    (θ_run Cert.JoinIdeal.defs _ _).mono (fun _ h c => ⟨(h.1 c).2.trans (final_block m _ c _ _ hag), (h.1 c).1⟩) (run_main (F := Ideal) m g),
    (θ_run Cert.JoinRefIdeal.defs _ _).mono (fun _ h => h 0) (Ref.run_main (F := Ideal) m' g')⟩

/-- The same, bit for bit. -/
theorem bitexact : Cert.bitexact_Join_JoinRef := fun m g m' g' _ hag =>
  ⟨Ref.refOut (m' (((0 : Dev Cert.JoinRef.nD).tc : Thread Cert.JoinRef.nD Cert.JoinRef.τ).loc Cert.JoinRef.main_arg0)),
    (θ_run Cert.JoinIdeal.defs _ _).mono (fun _ h c => ⟨(h.1 c).2.trans (final_block m _ c _ _ hag), (h.1 c).1⟩) (run_main (F := Bits) m g),
    (θ_run Cert.JoinRefIdeal.defs _ _).mono (fun _ h => h 0) (Ref.run_main (F := Bits) m' g')⟩

end Cert.Joining

end
-- ==== Proof.Exchange.lean ====
/-
The exchange of partial sums between the four chips: every device sends one part of its array to each of the other three
chips, and waits for theirs. For any float values: the run of the eight devices, and what each result array holds in the end.
-/
module

public import proofs.«01_k».proof.Proof.Parcel
public import proofs.«01_k».proof.Proof.Gen.ExchangeIdeal
public import proofs.«01_k».proof.Proof.Gen.ExchangeIdeal.Skeleton
public import proofs.«01_k».proof.Proof.Gen.ExchangeIdeal.Launch
public import proofs.«01_k».proof.Proof.Gen.ExchangeIdeal.Points

@[expose] public section

noncomputable section

namespace Cert.Exchanging

open Cert.ExchangeIdeal Cert.ExchangeIdeal.Gen Cert.Mail
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

set_option Elab.async false

variable {F : FTy → Type} [FloatOps F]

local notation "𝕄" => MM nD τ sig (Elt F)

variable (m : (ℓ : Loc nD τ sig) → Buf (Elt F) ℓ) (ρ : Dev nD → PrngReg)

abbrev arg : Memref sig .tc .hbm S3x17440x128 .bf16 := Memref.whole main_arg0
abbrev out : Memref sig .tc .hbm S3x17440x128 .bf16 := Memref.whole main_v1

/-- Where a part begins in the array. -/
abbrev At (o : ℕ) : Prop := ∀ a, (![o, 0, 0] : Fin 3 → ℕ) a + S1x17440x128.size a ≤ S3x17440x128.size a

/-- One part of the argument, and of the result array. -/
abbrev argRow (o : ℕ) (h : At o) : Memref sig .tc .hbm S17440x128 .bf16 :=
  (arg.slice (Rect.unit (s := S3x17440x128) ![o, 0, 0] S1x17440x128.size h) (fun _ => rfl)).squeeze S17440x128 squeezes_S1x17440x128_S17440x128
abbrev outRow (o : ℕ) (h : At o) : Memref sig .tc .hbm S17440x128 .bf16 :=
  (out.slice (Rect.unit (s := S3x17440x128) ![o, 0, 0] S1x17440x128.size h) (fun _ => rfl)).squeeze S17440x128 squeezes_S1x17440x128_S17440x128

/-- The counters of one part: at the sender, and at the receiver. -/
abbrev sndSem (j : ℕ) (h : ∀ a, (![j] : Fin 1 → ℕ) a + S1.size a ≤ S3.size a) :=
  ((cc0_scratch0.slice (Rect.unit (s := S3) ![j] S1.size h)).squeeze S_ squeezes_S1_S_).sem
abbrev rcvSem (j : ℕ) (h : ∀ a, (![j] : Fin 1 → ℕ) a + S1.size a ≤ S3.size a) :=
  ((cc0_scratch1.slice (Rect.unit (s := S3) ![j] S1.size h)).squeeze S_ squeezes_S1_S_).sem

theorem at0 : At 0 := inb_S3x17440x128_S1x17440x128_0_0_0
theorem at1 : At 1 := inb_S3x17440x128_S1x17440x128_1_0_0
theorem at2 : At 2 := inb_S3x17440x128_S1x17440x128_2_0_0

/-- The device of the same core, `k` chips further on. -/
def hop (k : Fin 4) : Equiv.Perm (Fin 8) where
  toFun c := ⟨2 * ((c.val / 2 + k.val) % 4) + c.val % 2, by omega⟩
  invFun c := ⟨2 * ((c.val / 2 + 4 - k.val) % 4) + c.val % 2, by omega⟩
  left_inv := by revert k; decide
  right_inv := by revert k; decide

theorem dev1_eq (c : Dev nD) : (⟨k0_dev1 c, k0_dev1_lt c⟩ : Dev nD) = hop 1 c := by revert c; decide +kernel
theorem dev2_eq (c : Dev nD) : (⟨k0_dev2 c, k0_dev2_lt c⟩ : Dev nD) = hop 2 c := by revert c; decide +kernel
theorem dev3_eq (c : Dev nD) : (⟨k0_dev3 c, k0_dev3_lt c⟩ : Dev nD) = hop 3 c := by revert c; decide +kernel

/-- The device's argument at the launch, and what its result array holds in the end: part `k - 1` from `k` chips back. -/
abbrev given (c : Dev nD) : Buf (Elt F) ((c.tc : Thread nD τ).loc main_arg0) := m ((c.tc : Thread nD τ).loc main_arg0)
def final (c : Dev nD) : Buf (Elt F) ((c.tc : Thread nD τ).loc main_v1) :=
  fun i : S3x17440x128.Idx => (given m ((hop (i 0).succ).symm c) : S3x17440x128.Idx → F .bf16) i

/-- The elements of a part are those of its row. -/
theorem mem_row (o : ℕ) (h : At o) (i : S3x17440x128.Idx) : i ∈ ((outRow o h).view.set : Finset S3x17440x128.Idx) ↔ (i 0).val = o := by
  rw [show ((outRow o h).view.set : Finset S3x17440x128.Idx) = (Rect.unit (s := S3x17440x128) ![o, 0, 0] S1x17440x128.size h).set from
    (View.set_reshape ..).trans (View.set_slice_whole ..), Rect.mem_set_unit]
  have h1 : (i 1).val < 17440 := (i 1).isLt
  have h2 : (i 2).val < 128 := (i 2).isLt
  refine ⟨fun hi => ?_, fun hi a => ?_⟩
  · have := hi 0
    simp at this
    omega
  · fin_cases a <;> simp <;> omega

theorem emb_row (o : ℕ) (h : At o) (i : S17440x128.Idx) : (((outRow o h).view.emb i : S3x17440x128.Idx) 0).val = o :=
  (mem_row o h _).mp (Finset.mem_map_of_mem _ (Finset.mem_univ i))

theorem fin3 (Φ : Fin 3 → sProp 𝕄) : bigSep Finset.univ Φ = iprop(Φ 0 ∗ Φ 1 ∗ Φ 2) := bigSep_univ_eq_bigSepL [0, 1, 2] (by decide) (by decide) Φ

/-- A whole result array is its three parts. -/
theorem out_parts (c : Dev nD) {q : PosShare TreeShare} (f : Buf (Elt F) ((c.tc : Thread nD τ).loc main_v1)) :
    ((c.tc : Thread nD τ).loc main_v1 ↦{q} f : sProp 𝕄)
      = iprop(((outRow 0 at0).view.loc (c : Thread nD τ) ↦[(outRow 0 at0).view.set]{q} f)
        ∗ ((outRow 1 at1).view.loc (c : Thread nD τ) ↦[(outRow 1 at1).view.set]{q} f)
        ∗ ((outRow 2 at2).view.loc (c : Thread nD τ) ↦[(outRow 2 at2).view.set]{q} f)) := by
  rw [pieces (T := Fin 3) (fun i : S3x17440x128.Idx => i 0) ![(outRow 0 at0).view.set, (outRow 1 at1).view.set, (outRow 2 at2).view.set]
    (fun t i => ?_) f, fin3]
  · rfl
  fin_cases t
  · exact (mem_row 0 at0 i).trans (Fin.ext_iff (a := i 0) (b := (0 : Fin 3))).symm
  · exact (mem_row 1 at1 i).trans (Fin.ext_iff (a := i 0) (b := (1 : Fin 3))).symm
  · exact (mem_row 2 at2 i).trans (Fin.ext_iff (a := i 0) (b := (2 : Fin 3))).symm

theorem arg_parts (c : Dev nD) {q : PosShare TreeShare} (f : Buf (Elt F) ((c.tc : Thread nD τ).loc main_arg0)) :
    ((c.tc : Thread nD τ).loc main_arg0 ↦{q} f : sProp 𝕄)
      = iprop(((argRow 0 at0).view.loc (c : Thread nD τ) ↦[(argRow 0 at0).view.set]{q} f)
        ∗ ((argRow 1 at1).view.loc (c : Thread nD τ) ↦[(argRow 1 at1).view.set]{q} f)
        ∗ ((argRow 2 at2).view.loc (c : Thread nD τ) ↦[(argRow 2 at2).view.set]{q} f)) := by
  rw [pieces (T := Fin 3) (fun i : S3x17440x128.Idx => i 0) ![(argRow 0 at0).view.set, (argRow 1 at1).view.set, (argRow 2 at2).view.set]
    (fun t i => ?_) f, fin3]
  · rfl
  fin_cases t
  · exact (mem_row 0 at0 i).trans (Fin.ext_iff (a := i 0) (b := (0 : Fin 3))).symm
  · exact (mem_row 1 at1 i).trans (Fin.ext_iff (a := i 0) (b := (1 : Fin 3))).symm
  · exact (mem_row 2 at2 i).trans (Fin.ext_iff (a := i 0) (b := (2 : Fin 3))).symm

/-- The deliveries: `0`, `1`, `2`, the part sent is free again; `3`, `4`, `5`, the part of another chip has come. -/
def plan : Plan nD τ sig (Elt F) (Fin 6) where
  sem := ![.dma (sndSem 0 inb_S3_S1_0), .dma (sndSem 1 inb_S3_S1_1), .dma (sndSem 2 inb_S3_S1_2),
    .dma (rcvSem 0 inb_S3_S1_0), .dma (rcvSem 1 inb_S3_S1_1), .dma (rcvSem 2 inb_S3_S1_2)]
  units := fun _ => RefSig.tileCredit S17440x128 .bf16
  dest := ![Equiv.refl _, Equiv.refl _, Equiv.refl _, hop 1, hop 2, hop 3]
  far := ![false, false, false, true, true, true]
  lvl := fun _ => 0
  pay c k := match k with
    | 0 => (argRow 0 at0).view.loc (c : Thread nD τ) ↦[(argRow 0 at0).view.set]{fullShare} given m c
    | 1 => (argRow 1 at1).view.loc (c : Thread nD τ) ↦[(argRow 1 at1).view.set]{fullShare} given m c
    | 2 => (argRow 2 at2).view.loc (c : Thread nD τ) ↦[(argRow 2 at2).view.set]{fullShare} given m c
    | 3 => (outRow 0 at0).view.loc (c : Thread nD τ) ↦[(outRow 0 at0).view.set]{fullShare} final m c
    | 4 => (outRow 1 at1).view.loc (c : Thread nD τ) ↦[(outRow 1 at1).view.set]{fullShare} final m c
    | 5 => (outRow 2 at2).view.loc (c : Thread nD τ) ↦[(outRow 2 at2).view.set]{fullShare} final m c
  sem_inj := by decide
  units_pos := fun _ => RefSig.tileCredit_pos _ _ (by decide)
  pay_storable c k := by fin_cases k <;> dsimp only <;> infer_instance

theorem sem_s0 : SemLoc.dma (sndSem 0 inb_S3_S1_0) = (plan m).sem 0 := rfl
theorem sem_r0 : SemLoc.dma (rcvSem 0 inb_S3_S1_0) = (plan m).sem 3 := rfl
theorem dest_s0 (c : Dev nD) : (plan m).dest 0 c = c := rfl
theorem dest_r0 (c : Dev nD) : (plan m).dest 3 c = hop 1 c := rfl
theorem pay_s0 (c : Dev nD) : (plan m).pay c 0 = ((argRow 0 at0).view.loc (c : Thread nD τ) ↦[(argRow 0 at0).view.set]{fullShare} given m c) := rfl
theorem pay_r0 (c : Dev nD) : (plan m).pay c 3 = ((outRow 0 at0).view.loc (c : Thread nD τ) ↦[(outRow 0 at0).view.set]{fullShare} final m c) := rfl
theorem coin_s0 (c : Dev nD) : (plan m).coin0 c 0 = iprop(emp) := rfl
theorem coin_r0 (c : Dev nD) : (plan m).coin0 c 3 = (plan m).coin c 3 := rfl
theorem units_e0 : (plan m).units 0 = (plan m).units 3 := rfl
theorem sem_s1 : SemLoc.dma (sndSem 1 inb_S3_S1_1) = (plan m).sem 1 := rfl
theorem sem_r1 : SemLoc.dma (rcvSem 1 inb_S3_S1_1) = (plan m).sem 4 := rfl
theorem dest_s1 (c : Dev nD) : (plan m).dest 1 c = c := rfl
theorem dest_r1 (c : Dev nD) : (plan m).dest 4 c = hop 2 c := rfl
theorem pay_s1 (c : Dev nD) : (plan m).pay c 1 = ((argRow 1 at1).view.loc (c : Thread nD τ) ↦[(argRow 1 at1).view.set]{fullShare} given m c) := rfl
theorem pay_r1 (c : Dev nD) : (plan m).pay c 4 = ((outRow 1 at1).view.loc (c : Thread nD τ) ↦[(outRow 1 at1).view.set]{fullShare} final m c) := rfl
theorem coin_s1 (c : Dev nD) : (plan m).coin0 c 1 = iprop(emp) := rfl
theorem coin_r1 (c : Dev nD) : (plan m).coin0 c 4 = (plan m).coin c 4 := rfl
theorem units_e1 : (plan m).units 1 = (plan m).units 4 := rfl
theorem sem_s2 : SemLoc.dma (sndSem 2 inb_S3_S1_2) = (plan m).sem 2 := rfl
theorem sem_r2 : SemLoc.dma (rcvSem 2 inb_S3_S1_2) = (plan m).sem 5 := rfl
theorem dest_s2 (c : Dev nD) : (plan m).dest 2 c = c := rfl
theorem dest_r2 (c : Dev nD) : (plan m).dest 5 c = hop 3 c := rfl
theorem pay_s2 (c : Dev nD) : (plan m).pay c 2 = ((argRow 2 at2).view.loc (c : Thread nD τ) ↦[(argRow 2 at2).view.set]{fullShare} given m c) := rfl
theorem pay_r2 (c : Dev nD) : (plan m).pay c 5 = ((outRow 2 at2).view.loc (c : Thread nD τ) ↦[(outRow 2 at2).view.set]{fullShare} final m c) := rfl
theorem coin_s2 (c : Dev nD) : (plan m).coin0 c 2 = iprop(emp) := rfl
theorem coin_r2 (c : Dev nD) : (plan m).coin0 c 5 = (plan m).coin c 5 := rfl
theorem units_e2 : (plan m).units 2 = (plan m).units 5 := rfl
theorem units_arg (k : Fin 6) (o : ℕ) (h : At o) : (argRow o h).view.dmaCredit = (plan m).units k := rfl
theorem units_out (k : Fin 6) (o : ℕ) (h : At o) : (outRow o h).view.dmaCredit = (plan m).units k := rfl

/-- What a part's transfer carries is what the receiver's result array holds there in the end. -/
theorem carries (c : Dev nD) (k : Fin 3) (h : At k.val) (i : S17440x128.Idx) :
    (argRow k.val h).view.read (Elt F) (given m c) i = (outRow k.val h).view.read (Elt F) (final m (hop k.succ c)) i := by
  show (given m c : S3x17440x128.Idx → F .bf16) ((outRow k.val h).view.emb i)
    = (given m ((hop ((((outRow k.val h).view.emb i : S3x17440x128.Idx) 0 : Fin 3)).succ).symm (hop k.succ c)) : S3x17440x128.Idx → F .bf16) ((outRow k.val h).view.emb i)
  rw [show ((((outRow k.val h).view.emb i : S3x17440x128.Idx) 0 : Fin 3)) = k from Fin.ext (emb_row k.val h i)]
  exact congrArg (fun d : Fin 8 => (given m d : S3x17440x128.Idx → F .bf16) ((outRow k.val h).view.emb i)) (Equiv.symm_apply_apply (hop k.succ) c).symm

theorem arrives0 (c : Dev nD) (f : Buf (Elt F) ((outRow 0 at0).view.loc (hop 1 c : Thread nD τ))) :
    ((outRow 0 at0).view.loc (hop 1 c : Thread nD τ) ↦[(outRow 0 at0).view.set]{fullShare}
        (outRow 0 at0).view.write (Elt F) f ((argRow 0 at0).view.read (Elt F) (given m c)) Finset.univ : sProp 𝕄) ⊢ (plan m).pay (hop 1 c) 3 := by
  rw [pay_r0]
  exact Entails.of_eq (landed (c := (hop 1 c : Thread nD τ)) (outRow 0 at0) f (final m (hop 1 c)) _ (carries m c 0 at0))
theorem arrives1 (c : Dev nD) (f : Buf (Elt F) ((outRow 1 at1).view.loc (hop 2 c : Thread nD τ))) :
    ((outRow 1 at1).view.loc (hop 2 c : Thread nD τ) ↦[(outRow 1 at1).view.set]{fullShare}
        (outRow 1 at1).view.write (Elt F) f ((argRow 1 at1).view.read (Elt F) (given m c)) Finset.univ : sProp 𝕄) ⊢ (plan m).pay (hop 2 c) 4 := by
  rw [pay_r1]
  exact Entails.of_eq (landed (c := (hop 2 c : Thread nD τ)) (outRow 1 at1) f (final m (hop 2 c)) _ (carries m c 1 at1))
theorem arrives2 (c : Dev nD) (f : Buf (Elt F) ((outRow 2 at2).view.loc (hop 3 c : Thread nD τ))) :
    ((outRow 2 at2).view.loc (hop 3 c : Thread nD τ) ↦[(outRow 2 at2).view.set]{fullShare}
        (outRow 2 at2).view.write (Elt F) f ((argRow 2 at2).view.read (Elt F) (given m c)) Finset.univ : sProp 𝕄) ⊢ (plan m).pay (hop 3 c) 5 := by
  rw [pay_r2]
  exact Entails.of_eq (landed (c := (hop 3 c : Thread nD τ)) (outRow 2 at2) f (final m (hop 3 c)) _ (carries m c 2 at2))

theorem owed_eq (c : Dev nD) : (plan m).owed c = 0 + (plan m).due c 5 + (plan m).due c 4 + (plan m).due c 3 := by
  unfold Plan.owed
  rw [Fin.sum_univ_six]
  show (0 + 0 + 0 + (plan m).due c 3 + (plan m).due c 4 + (plan m).due c 5) = _
  simp only [zero_add]
  rw [add_comm ((plan m).due c 3 + _), add_comm ((plan m).due c 3), add_assoc]

theorem fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

/-- The parts of an argument, and of a result array, in a device's hands. -/
def argOf (c : Dev nD) : sProp 𝕄 :=
  iprop(((argRow 0 at0).view.loc (c : Thread nD τ) ↦[(argRow 0 at0).view.set]{fullShare} given m c)
    ∗ ((argRow 1 at1).view.loc (c : Thread nD τ) ↦[(argRow 1 at1).view.set]{fullShare} given m c)
    ∗ ((argRow 2 at2).view.loc (c : Thread nD τ) ↦[(argRow 2 at2).view.set]{fullShare} given m c))
/-- What device `c` starts with: its own argument, and in each other chip's result array the part it fills. -/
def held (c : Dev nD) : sProp 𝕄 :=
  iprop(argOf m c
    ∗ ((outRow 0 at0).view.loc (hop 1 c : Thread nD τ) ↦[(outRow 0 at0).view.set]{fullShare} m ((hop 1 c : Thread nD τ).loc main_v1))
    ∗ ((outRow 1 at1).view.loc (hop 2 c : Thread nD τ) ↦[(outRow 1 at1).view.set]{fullShare} m ((hop 2 c : Thread nD τ).loc main_v1))
    ∗ ((outRow 2 at2).view.loc (hop 3 c : Thread nD τ) ↦[(outRow 2 at2).view.set]{fullShare} m ((hop 3 c : Thread nD τ).loc main_v1)))
/-- What it ends with: the argument as it was, and its own result array filled. -/
def done (c : Dev nD) : sProp 𝕄 :=
  iprop(argOf m c
    ∗ ((outRow 0 at0).view.loc (c : Thread nD τ) ↦[(outRow 0 at0).view.set]{fullShare} final m c)
    ∗ ((outRow 1 at1).view.loc (c : Thread nD τ) ↦[(outRow 1 at1).view.set]{fullShare} final m c)
    ∗ ((outRow 2 at2).view.loc (c : Thread nD τ) ↦[(outRow 2 at2).view.set]{fullShare} final m c))

theorem done_eq (c : Dev nD) : done m c = iprop((((c : Thread nD τ).loc main_arg0) ↦{fullShare} given m c) ∗ (((c : Thread nD τ).loc main_v1) ↦{fullShare} final m c)) := by
  unfold done argOf; rw [arg_parts, out_parts]

theorem deal : (bigSep Finset.univ fun c : Dev nD => Pipeline.unscopedRest (Ix := Unit) (Name := ℕ) (U := UU nD τ sig) (Lvl := ℕ) cfg0.spec c
      (fun b => m ((c : Thread nD τ).loc b)) : sProp 𝕄) ⊢ bigSep Finset.univ (held m) := by
  unfold held argOf
  simp only [unscopedRest0_eq, arg_parts, out_parts, bigSep_sep']
  rw [bigSep_univ_equiv (hop 1) (fun c : Dev nD => ((outRow 0 at0).view.loc (c : Thread nD τ) ↦[(outRow 0 at0).view.set]{fullShare} m ((c : Thread nD τ).loc main_v1) : sProp 𝕄))]
  rw [bigSep_univ_equiv (hop 2) (fun c : Dev nD => ((outRow 1 at1).view.loc (c : Thread nD τ) ↦[(outRow 1 at1).view.set]{fullShare} m ((c : Thread nD τ).loc main_v1) : sProp 𝕄))]
  rw [bigSep_univ_equiv (hop 3) (fun c : Dev nD => ((outRow 2 at2).view.loc (c : Thread nD τ) ↦[(outRow 2 at2).view.set]{fullShare} m ((c : Thread nD τ).loc main_v1) : sProp 𝕄))]

theorem ownSemFacts : Pipeline.OwnSemFacts (cfgs 0).spec (plan m).sem :=
  show Pipeline.OwnSemFacts cfg0.spec ![.dma (sndSem 0 inb_S3_S1_0), .dma (sndSem 1 inb_S3_S1_1), .dma (sndSem 2 inb_S3_S1_2),
    .dma (rcvSem 0 inb_S3_S1_0), .dma (rcvSem 1 inb_S3_S1_1), .dma (rcvSem 2 inb_S3_S1_2)] by decide

attribute [local irreducible] plan

/-- One device's run of the kernel. -/
theorem body (κ : Dev nD × Fin 6 → ℕ) (c : Dev nD) (W : Waits sig Unit) :
    iprop((plan m).records κ ∗ levAts Plan.L (plan m).lv ∗ (plan m).start c ∗ held m c ∗ owes (c : Thread nD τ) ((plan m).owed c) W)
      ⊢ wp frame (wpE (defs₀ (F := F)) Variants.none (c : Thread nD τ) none) Set.univ
          (cc0_exchange_partials arg (Memref.isWhole_whole _) out (Memref.isWhole_whole _) cc0_scratch0 cc0_scratch1)
          fun _ => iprop((plan m).rest c ∗ done m c ∗ ∃ W', owes (c : Thread nD τ) 0 W') := by
  rw [cc0_exchange_partials_eq_skeleton]; unfold cc0_exchange_partials_skel
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  simp only [Prog.lift, Prog.bind_op, Prog.bind_ret, Prog.pure_eq_ret, wp_deviceId]
  unfold Plan.start held done argOf Plan.rest
  rw [owed_eq]
  simp only [fin6, coin_s0, coin_s1, coin_s2, coin_r0, coin_r1, coin_r2]
  iintro ⟨#HR, -, ⟨⟨HatS0, HatS1, HatS2, HatR0, HatR1, HatR2⟩, ⟨HtS0, HtS1, HtS2, HtR0, HtR1, HtR2⟩, -, -, -, HcR0, HcR1, HcR2⟩, ⟨⟨Ha0, Ha1, Ha2⟩, Ho0, Ho1, Ho2⟩, HO⟩
  iapply ((plan m).wp_send Variants.none κ c (hop 1 c) (dev1_eq c) 0 3 (sem_s0 m) (sem_r0 m) (dest_s0 m c) (dest_r0 m c)
    (src := argRow 0 at0) (dst := outRow 0 at0) (units_out m 3 0 at0) (units_e0 m) (0 + (plan m).due c 5 + (plan m).due c 4) rfl
    (q := fullShare) (fs := given m c) (fd := m ((hop 1 c : Thread nD τ).loc main_v1))
    (Entails.of_eq (pay_s0 m c).symm) (arrives0 m c _) (hroute := by routes)) $$ [Ha0 Ho0 HO HtS0 HtR0]
  · isplitr; · iexact HR
    isplitl [Ha0]; · iexact Ha0
    isplitl [Ho0]; · iexact Ho0
    isplitl [HO]; · iexact HO
    isplitl [HtS0]; · iexact HtS0
    iexact HtR0
  iintro ⟨HcS0, HO⟩
  iapply ((plan m).wp_send Variants.none κ c (hop 2 c) (dev2_eq c) 1 4 (sem_s1 m) (sem_r1 m) (dest_s1 m c) (dest_r1 m c)
    (src := argRow 1 at1) (dst := outRow 1 at1) (units_out m 4 1 at1) (units_e1 m) (0 + (plan m).due c 5) rfl
    (q := fullShare) (fs := given m c) (fd := m ((hop 2 c : Thread nD τ).loc main_v1))
    (Entails.of_eq (pay_s1 m c).symm) (arrives1 m c _) (hroute := by routes)) $$ [Ha1 Ho1 HO HtS1 HtR1]
  · isplitr; · iexact HR
    isplitl [Ha1]; · iexact Ha1
    isplitl [Ho1]; · iexact Ho1
    isplitl [HO]; · iexact HO
    isplitl [HtS1]; · iexact HtS1
    iexact HtR1
  iintro ⟨HcS1, HO⟩
  iapply ((plan m).wp_send Variants.none κ c (hop 3 c) (dev3_eq c) 2 5 (sem_s2 m) (sem_r2 m) (dest_s2 m c) (dest_r2 m c)
    (src := argRow 2 at2) (dst := outRow 2 at2) (units_out m 5 2 at2) (units_e2 m) 0 rfl
    (q := fullShare) (fs := given m c) (fd := m ((hop 3 c : Thread nD τ).loc main_v1))
    (Entails.of_eq (pay_s2 m c).symm) (arrives2 m c _) (hroute := by routes)) $$ [Ha2 Ho2 HO HtS2 HtR2]
  · isplitr; · iexact HR
    isplitl [Ha2]; · iexact Ha2
    isplitl [Ho2]; · iexact Ho2
    isplitl [HO]; · iexact HO
    isplitl [HtS2]; · iexact HtS2
    iexact HtR2
  iintro ⟨HcS2, HO⟩
  iapply ((plan m).wp_waitDma Variants.none κ c 0 (sem_s0 m) (units_arg m 0 0 at0)) $$ [HcS0 HO HatS0]
  · isplitr; · iexact HR
    isplitl [HcS0]; · iexact HcS0
    isplitl [HO]; · iexact HO
    iexact HatS0
  iintro ⟨HO, Ha0, HzS0⟩
  ihave Ha0 := (Entails.of_eq (pay_s0 m c)) $$ Ha0
  iapply ((plan m).wp_waitDma Variants.none κ c 3 (sem_r0 m) (units_out m 3 0 at0)) $$ [HcR0 HO HatR0]
  · isplitr; · iexact HR
    isplitl [HcR0]; · iexact HcR0
    isplitl [HO]; · iexact HO
    iexact HatR0
  iintro ⟨HO, Ho0, HzR0⟩
  ihave Ho0 := (Entails.of_eq (pay_r0 m c)) $$ Ho0
  iapply ((plan m).wp_waitDma Variants.none κ c 1 (sem_s1 m) (units_arg m 1 1 at1)) $$ [HcS1 HO HatS1]
  · isplitr; · iexact HR
    isplitl [HcS1]; · iexact HcS1
    isplitl [HO]; · iexact HO
    iexact HatS1
  iintro ⟨HO, Ha1, HzS1⟩
  ihave Ha1 := (Entails.of_eq (pay_s1 m c)) $$ Ha1
  iapply ((plan m).wp_waitDma Variants.none κ c 4 (sem_r1 m) (units_out m 4 1 at1)) $$ [HcR1 HO HatR1]
  · isplitr; · iexact HR
    isplitl [HcR1]; · iexact HcR1
    isplitl [HO]; · iexact HO
    iexact HatR1
  iintro ⟨HO, Ho1, HzR1⟩
  ihave Ho1 := (Entails.of_eq (pay_r1 m c)) $$ Ho1
  iapply ((plan m).wp_waitDma Variants.none κ c 2 (sem_s2 m) (units_arg m 2 2 at2)) $$ [HcS2 HO HatS2]
  · isplitr; · iexact HR
    isplitl [HcS2]; · iexact HcS2
    isplitl [HO]; · iexact HO
    iexact HatS2
  iintro ⟨HO, Ha2, HzS2⟩
  ihave Ha2 := (Entails.of_eq (pay_s2 m c)) $$ Ha2
  iapply ((plan m).wp_waitDma Variants.none κ c 5 (sem_r2 m) (units_out m 5 2 at2)) $$ [HcR2 HO HatR2]
  · isplitr; · iexact HR
    isplitl [HcR2]; · iexact HcR2
    isplitl [HO]; · iexact HO
    iexact HatR2
  iintro ⟨HO, Ho2, HzR2⟩
  ihave Ho2 := (Entails.of_eq (pay_r2 m c)) $$ Ho2
  rw [wp_ret]; imodintro
  isplitl [HzS0 HzS1 HzS2 HzR0 HzR1 HzR2]
  · isplitl [HzS0]; · iexact HzS0
    isplitl [HzS1]; · iexact HzS1
    isplitl [HzS2]; · iexact HzS2
    isplitl [HzR0]; · iexact HzR0
    isplitl [HzR1]; · iexact HzR1
    iexact HzR2
  isplitl [Ha0 Ha1 Ha2 Ho0 Ho1 Ho2]
  · isplitl [Ha0 Ha1 Ha2]
    · isplitl [Ha0]; · iexact Ha0
      isplitl [Ha1]; · iexact Ha1
      iexact Ha2
    isplitl [Ho0]; · iexact Ho0
    isplitl [Ho1]; · iexact Ho1
    iexact Ho2
  iexists _
  iexact HO

/-- The run of the eight devices, from any memory, every counter at zero: every execution terminates with the arguments as
    they were, each result array holding the parts the other chips sent, and every counter at zero. -/
theorem run_main : θ_run (defs (F := F)) (onTc (τ := τ) (main (F := F))) ⟨m, fun _ => 0, ρ⟩ fun r =>
    (∀ c : Dev nD, r.2.mem ((c.tc : Thread nD τ).loc main_arg0) = given m c ∧ r.2.mem ((c.tc : Thread nD τ).loc main_v1) = final m c)
      ∧ r.2.sem = fun _ => 0 :=
  launch cfgs (plan m) (defs₀ (F := F)) Variants.none launch0 (ownSemFacts m) (fun p => by fin_cases p; exact inferInstanceAs (IsEmpty (Fin 0))) N_0
    main (fun _ => rfl) m ρ (held m) (done m) (deal m)
    (fun t κ c W => body m κ c W)
    (fun c mem => mem.mem ((c.tc : Thread nD τ).loc main_arg0) = given m c ∧ mem.mem ((c.tc : Thread nD τ).loc main_v1) = final m c)
    (fun c s' => by rw [done_eq]; exact read_two _ _ s')
    (fun s h hs => ⟨h, sem_eq_zero_of_scoped (by decide) hs⟩)

end Cert.Exchanging

end
-- ==== Proof.ExchangeRef.lean ====
/-
The reference of the exchange between the chips: its run, for any float values, and what one device's block of its result is.
-/
module

public import proofs.«01_k».proof.Proof.Exchange
public import proofs.«01_k».proof.Proof.Gen.ExchangeRefIdeal
public import Idealize.ShloMosaic.Lib.StableHlo.Run
public import Idealize.ShloMosaic.Lib.Pointwise
public import Idealize.ShloMosaic.Lib.Layout

@[expose] public section

noncomputable section

namespace Cert.Exchanging.Ref

open Cert.ExchangeRefIdeal Cert.ExchangeRefIdeal.Gen
open Idealize.ShloMosaic Idealize.ShloMosaic.TcCoe Idealize.ShloMosaic.StableHlo Idealize.SL.Sem

variable {F : FTy → Type} [FloatOps F] {α : Type}

/-- The array cut into chips, cores and parts. -/
def cut (x : S24x17440x128.Idx → α) : S4x2x3x17440x128.Idx → α := shapeCast S4x2x3x17440x128 x shapeCasts_S24x17440x128_S4x2x3x17440x128

/-- Each part of every device. -/
def part0 (x : S24x17440x128.Idx → α) : S4x2x17440x128.Idx → α :=
  shapeCast S4x2x17440x128 (extractStridedSlice S4x2x1x17440x128 ![0, 0, 0, 0, 0] (cut x) slices_S4x2x3x17440x128_S4x2x1x17440x128_0_0_0_0_0)
    shapeCasts_S4x2x1x17440x128_S4x2x17440x128
def part1 (x : S24x17440x128.Idx → α) : S4x2x17440x128.Idx → α :=
  shapeCast S4x2x17440x128 (extractStridedSlice S4x2x1x17440x128 ![0, 0, 1, 0, 0] (cut x) slices_S4x2x3x17440x128_S4x2x1x17440x128_0_0_1_0_0)
    shapeCasts_S4x2x1x17440x128_S4x2x17440x128
def part2 (x : S24x17440x128.Idx → α) : S4x2x17440x128.Idx → α :=
  shapeCast S4x2x17440x128 (extractStridedSlice S4x2x1x17440x128 ![0, 0, 2, 0, 0] (cut x) slices_S4x2x3x17440x128_S4x2x1x17440x128_0_0_2_0_0)
    shapeCasts_S4x2x1x17440x128_S4x2x17440x128

/-- Each part moved on by one, two and three chips. -/
def moved0 (y : S4x2x17440x128.Idx → α) : S4x2x17440x128.Idx → α :=
  concatenate S4x2x17440x128 0
    [⟨S1x2x17440x128, extractStridedSlice S1x2x17440x128 ![3, 0, 0, 0] y slices_S4x2x17440x128_S1x2x17440x128_3_0_0_0⟩,
     ⟨S3x2x17440x128, extractStridedSlice S3x2x17440x128 ![0, 0, 0, 0] y slices_S4x2x17440x128_S3x2x17440x128_0_0_0_0⟩]
    concatenates_S1x2x17440x128_S3x2x17440x128_S4x2x17440x128_d0
def moved1 (y : S4x2x17440x128.Idx → α) : S4x2x17440x128.Idx → α :=
  concatenate S4x2x17440x128 0
    [⟨S2x2x17440x128, extractStridedSlice S2x2x17440x128 ![2, 0, 0, 0] y slices_S4x2x17440x128_S2x2x17440x128_2_0_0_0⟩,
     ⟨S2x2x17440x128, extractStridedSlice S2x2x17440x128 ![0, 0, 0, 0] y slices_S4x2x17440x128_S2x2x17440x128_0_0_0_0⟩]
    concatenates_S2x2x17440x128_S2x2x17440x128_S4x2x17440x128_d0
def moved2 (y : S4x2x17440x128.Idx → α) : S4x2x17440x128.Idx → α :=
  concatenate S4x2x17440x128 0
    [⟨S3x2x17440x128, extractStridedSlice S3x2x17440x128 ![1, 0, 0, 0] y slices_S4x2x17440x128_S3x2x17440x128_1_0_0_0⟩,
     ⟨S1x2x17440x128, extractStridedSlice S1x2x17440x128 ![0, 0, 0, 0] y slices_S4x2x17440x128_S1x2x17440x128_0_0_0_0⟩]
    concatenates_S3x2x17440x128_S1x2x17440x128_S4x2x17440x128_d0

/-- The reference's result from its argument. -/
def refOut (x : S24x17440x128.Idx → α) : S24x17440x128.Idx → α :=
  shapeCast S24x17440x128 (concatenate S4x2x3x17440x128 2
    [⟨S4x2x1x17440x128, broadcastInDim S4x2x1x17440x128 ![0, 1, 3, 4] bcast_S4x2x17440x128_S4x2x1x17440x128_0_1_3_4 (moved0 (part0 x))⟩,
     ⟨S4x2x1x17440x128, broadcastInDim S4x2x1x17440x128 ![0, 1, 3, 4] bcast_S4x2x17440x128_S4x2x1x17440x128_0_1_3_4 (moved1 (part1 x))⟩,
     ⟨S4x2x1x17440x128, broadcastInDim S4x2x1x17440x128 ![0, 1, 3, 4] bcast_S4x2x17440x128_S4x2x1x17440x128_0_1_3_4 (moved2 (part2 x))⟩]
    concatenates_S4x2x1x17440x128_S4x2x1x17440x128_S4x2x1x17440x128_S4x2x3x17440x128_d2) shapeCasts_S4x2x3x17440x128_S24x17440x128

/-- @main's operations, in order, the three functions it calls written out. -/
abbrev ops : List (HloOp τ sig (Elt F)) :=
  [ StableHlo.reshape main_arg0 main_v0 (rfl : (.bf16 : EltTy) = .bf16) shapeCasts_S24x17440x128_S4x2x3x17440x128,
    unary main_v0 main_v1 (extractStridedSlice S4x2x1x17440x128 ![0, 0, 0, 0, 0] · slices_S4x2x3x17440x128_S4x2x1x17440x128_0_0_0_0_0),
    StableHlo.reshape main_v1 main_v2 (rfl : (.bf16 : EltTy) = .bf16) shapeCasts_S4x2x1x17440x128_S4x2x17440x128,
    unary main_v2 main_call0_v0 (extractStridedSlice S1x2x17440x128 ![3, 0, 0, 0] · slices_S4x2x17440x128_S1x2x17440x128_3_0_0_0),
    unary main_v2 main_call0_v1 (extractStridedSlice S3x2x17440x128 ![0, 0, 0, 0] · slices_S4x2x17440x128_S3x2x17440x128_0_0_0_0),
    binary main_call0_v0 main_call0_v1 main_v3 (fun a b => concatenate S4x2x17440x128 0 [⟨S1x2x17440x128, a⟩, ⟨S3x2x17440x128, b⟩] concatenates_S1x2x17440x128_S3x2x17440x128_S4x2x17440x128_d0),
    unary main_v0 main_v4 (extractStridedSlice S4x2x1x17440x128 ![0, 0, 1, 0, 0] · slices_S4x2x3x17440x128_S4x2x1x17440x128_0_0_1_0_0),
    StableHlo.reshape main_v4 main_v5 (rfl : (.bf16 : EltTy) = .bf16) shapeCasts_S4x2x1x17440x128_S4x2x17440x128,
    unary main_v5 main_call1_v0 (extractStridedSlice S2x2x17440x128 ![2, 0, 0, 0] · slices_S4x2x17440x128_S2x2x17440x128_2_0_0_0),
    unary main_v5 main_call1_v1 (extractStridedSlice S2x2x17440x128 ![0, 0, 0, 0] · slices_S4x2x17440x128_S2x2x17440x128_0_0_0_0),
    binary main_call1_v0 main_call1_v1 main_v6 (fun a b => concatenate S4x2x17440x128 0 [⟨S2x2x17440x128, a⟩, ⟨S2x2x17440x128, b⟩] concatenates_S2x2x17440x128_S2x2x17440x128_S4x2x17440x128_d0),
    unary main_v0 main_v7 (extractStridedSlice S4x2x1x17440x128 ![0, 0, 2, 0, 0] · slices_S4x2x3x17440x128_S4x2x1x17440x128_0_0_2_0_0),
    StableHlo.reshape main_v7 main_v8 (rfl : (.bf16 : EltTy) = .bf16) shapeCasts_S4x2x1x17440x128_S4x2x17440x128,
    unary main_v8 main_call2_v0 (extractStridedSlice S3x2x17440x128 ![1, 0, 0, 0] · slices_S4x2x17440x128_S3x2x17440x128_1_0_0_0),
    unary main_v8 main_call2_v1 (extractStridedSlice S1x2x17440x128 ![0, 0, 0, 0] · slices_S4x2x17440x128_S1x2x17440x128_0_0_0_0),
    binary main_call2_v0 main_call2_v1 main_v9 (fun a b => concatenate S4x2x17440x128 0 [⟨S3x2x17440x128, a⟩, ⟨S1x2x17440x128, b⟩] concatenates_S3x2x17440x128_S1x2x17440x128_S4x2x17440x128_d0),
    unary main_v3 main_v10 (broadcastInDim S4x2x1x17440x128 ![0, 1, 3, 4] bcast_S4x2x17440x128_S4x2x1x17440x128_0_1_3_4),
    unary main_v6 main_v11 (broadcastInDim S4x2x1x17440x128 ![0, 1, 3, 4] bcast_S4x2x17440x128_S4x2x1x17440x128_0_1_3_4),
    unary main_v9 main_v12 (broadcastInDim S4x2x1x17440x128 ![0, 1, 3, 4] bcast_S4x2x17440x128_S4x2x1x17440x128_0_1_3_4),
    nary ![main_v10, main_v11, main_v12] main_v13 (fun u => (concatenate S4x2x3x17440x128 2 [⟨S4x2x1x17440x128, (u 0 : (⟨S4x2x1x17440x128, .bf16⟩ : BufTy).Contents (Elt F))⟩, ⟨S4x2x1x17440x128, (u 1 : (⟨S4x2x1x17440x128, .bf16⟩ : BufTy).Contents (Elt F))⟩, ⟨S4x2x1x17440x128, (u 2 : (⟨S4x2x1x17440x128, .bf16⟩ : BufTy).Contents (Elt F))⟩]
      concatenates_S4x2x1x17440x128_S4x2x1x17440x128_S4x2x1x17440x128_S4x2x3x17440x128_d2 : (⟨S4x2x3x17440x128, .bf16⟩ : BufTy).Contents (Elt F))),
    StableHlo.reshape main_v13 main_v14 (rfl : (.bf16 : EltTy) = .bf16) shapeCasts_S4x2x3x17440x128_S24x17440x128 ]

/-- @main is that straight line. -/
theorem main_eq (c : Dev nD) : main (F := F) c = seq ops := rfl

theorem out_eq (V : Valuation τ sig (Elt F)) : after ops V (main_v14 : DevRef τ sig) = refOut (V (main_arg0 : DevRef τ sig)) := by
  after_results
  rfl

theorem arg0_eq (V : Valuation τ sig (Elt F)) : after ops V (main_arg0 : DevRef τ sig) = V (main_arg0 : DevRef τ sig) := by
  after_results

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨reshape_bufs_sub .., unary_bufs_sub .., reshape_bufs_sub .., unary_bufs_sub .., unary_bufs_sub .., binary_bufs_sub ..,
    unary_bufs_sub .., reshape_bufs_sub .., unary_bufs_sub .., unary_bufs_sub .., binary_bufs_sub .., unary_bufs_sub ..,
    reshape_bufs_sub .., unary_bufs_sub .., unary_bufs_sub .., binary_bufs_sub .., unary_bufs_sub .., unary_bufs_sub ..,
    unary_bufs_sub .., nary_bufs_sub .., reshape_bufs_sub ..⟩

/-- On its one device, from any memory: every execution terminates with the result array at `refOut` of the argument, the
    argument unchanged and every counter at zero. -/
theorem run_main (m : (ℓ : Loc nD τ sig) → Buf (Elt F) ℓ) (ρ : Dev nD → PrngReg) :
    θ_run defs (onTc (τ := τ) (main (F := F))) ⟨m, fun _ => 0, ρ⟩ fun r =>
      ∀ c : Dev nD, r.2.mem ((c.tc : Thread nD τ).loc main_v14) = refOut (m ((c.tc : Thread nD τ).loc main_arg0))
        ∧ r.2.mem ((c.tc : Thread nD τ).loc main_arg0) = m ((c.tc : Thread nD τ).loc main_arg0) :=
  (θ_run defs _ _).mono (fun _ h c => ⟨(h c main_v14).trans (out_eq _), (h c main_arg0).trans (arg0_eq _)⟩)
    (run_seq scopedRefs_eq scopedSems_eq defs main (fun _ => ops) main_eq (fun _ => ops_sub) m ρ)

/-- Block `c` of the result is, part by part, the block of the device so many chips back. -/
theorem block_refOut (c : Fin 8) (x : S24x17440x128.Idx → α) (h : Layout.Tiles ExchangeIdeal.S3x17440x128 S24x17440x128 0 8) (i : ExchangeIdeal.S3x17440x128.Idx) :
    Layout.block ExchangeIdeal.S3x17440x128 S24x17440x128 0 8 c (refOut x) h i
      = Layout.block ExchangeIdeal.S3x17440x128 S24x17440x128 0 8 ((hop (Fin.succ (i 0 : Fin 3))).symm c) x h i := by
  rw [Layout.block_apply, Layout.block_apply]
  unfold refOut moved0 moved1 moved2 part0 part1 part2 cut
  idx_vars i
  have hs : ((hop i0.succ).symm c).val = 2 * ((c.val / 2 + 3 - i0.val) % 4) + c.val % 2 := by revert c i0; decide
  have e0 : (h.idx c (ix3 i0 i1 i2) 0).val = c.val * 3 + i0.val := rfl
  have e1 : (h.idx c (ix3 i0 i1 i2) 1).val = i1.val := rfl
  have e2 : (h.idx c (ix3 i0 i1 i2) 2).val = i2.val := rfl
  have f0 : (h.idx ((hop i0.succ).symm c) (ix3 i0 i1 i2) 0).val = ((hop i0.succ).symm c).val * 3 + i0.val := rfl
  have f1 : (h.idx ((hop i0.succ).symm c) (ix3 i0 i1 i2) 1).val = i1.val := rfl
  have f2 : (h.idx ((hop i0.succ).symm c) (ix3 i0 i1 i2) 2).val = i2.val := rfl
  have hi0 := i0.isLt
  show _ = x (h.idx ((hop i0.succ).symm c) (ix3 i0 i1 i2))
  generalize h.idx ((hop i0.succ).symm c) (ix3 i0 i1 i2) = j at f0 f1 f2 ⊢
  pointwise
  simp only [e0]
  split_ifs
  all_goals
    refine congrArg x (funext fun a => Fin.ext ?_)
    fin_cases a
    · simp [f0, f1, f2, e0, e1, e2]; omega
    · simp [f0, f1, f2, e0, e1, e2]
    · simp [f0, f1, f2, e0, e1, e2]

end Cert.Exchanging.Ref

end
-- ==== Proof.ExchangeClaims.lean ====
/-
The claims about the exchange between the chips, from the run of the eight devices and that of the reference.
-/
module

public import proofs.«01_k».proof.Defs
public import proofs.«01_k».proof.Proof.ExchangeRef
public import proofs.«01_k».proof.Proof.Gen.Exchange
public import proofs.«01_k».proof.Proof.Gen.ExchangeRef

@[expose] public section

noncomputable section

namespace Cert.Exchanging

open Idealize.ShloMosaic Idealize.ShloMosaic.TcCoe Idealize.SL.Sem

variable {F : FTy → Type} [FloatOps F]

/-- Where the devices' arguments are the blocks of `x`, what device `c` ends with is block `c` of the reference's result. -/
theorem final_block (m : (ℓ : Loc ExchangeIdeal.nD ExchangeIdeal.τ ExchangeIdeal.sig) → Buf (Elt F) ℓ) (x : ExchangeRefIdeal.S24x17440x128.Idx → F .bf16)
    (h₁ : Layout.Tiles ExchangeIdeal.S3x17440x128 ExchangeRefIdeal.S24x17440x128 0 8)
    (h₂ : Layout.Tiles ExchangeIdeal.S3x17440x128 ExchangeRefIdeal.S24x17440x128 0 8)
    (h : ∀ c : Fin 8, (given m c : ExchangeIdeal.S3x17440x128.Idx → F .bf16) = Layout.block ExchangeIdeal.S3x17440x128 ExchangeRefIdeal.S24x17440x128 0 8 c x h₂) (c : Fin 8) :
    (final m c : ExchangeIdeal.S3x17440x128.Idx → F .bf16) = Layout.block ExchangeIdeal.S3x17440x128 ExchangeRefIdeal.S24x17440x128 0 8 c (Ref.refOut x) h₁ := by
  funext i
  rw [Ref.block_refOut c x h₁ i]
  exact congrFun (h ((hop (Fin.succ (i 0 : Fin 3))).symm c)) i

/-- The kernel's call runs, over the device's own arithmetic and over exact arithmetic, its argument unchanged. -/
theorem frame_kernel : Cert.quiescent_Exchange := fun m ρ _ =>
  (θ_run Cert.ExchangeIdeal.defs _ _).mono (fun _ h => ⟨fun c => (h.1 c).1, h.2⟩) (run_main (F := Bits) m ρ)
theorem frame_ideal : Cert.quiescent_ExchangeIdeal := fun m ρ _ =>
  (θ_run Cert.ExchangeIdeal.defs _ _).mono (fun _ h => ⟨fun c => (h.1 c).1, h.2⟩) (run_main (F := Ideal) m ρ)

/-- So does the reference. -/
theorem frame_ref_ideal : Cert.quiescent_ExchangeRefIdeal := fun m ρ _ =>
  (θ_run Cert.ExchangeRefIdeal.defs _ _).mono (fun r h => ⟨fun c => (h c).2, sem_eq_zero_of_no_sems (by decide) r.2⟩) (Ref.run_main (F := Ideal) m ρ)
theorem frame_ref : Cert.quiescent_ExchangeRef := fun m ρ _ =>
  (θ_run Cert.ExchangeRefIdeal.defs _ _).mono (fun r h => ⟨fun c => (h c).2, sem_eq_zero_of_no_sems (by decide) r.2⟩) (Ref.run_main (F := Bits) m ρ)

/-- In exact arithmetic, device `c`'s result is block `c` of the reference's. -/
theorem algebraic : Cert.algebraic_ExchangeIdeal_ExchangeRefIdeal := fun m g m' g' _ hag =>
  ⟨Ref.refOut (m' (((0 : Dev Cert.ExchangeRefIdeal.nD).tc : Thread Cert.ExchangeRefIdeal.nD Cert.ExchangeRefIdeal.τ).loc Cert.ExchangeRefIdeal.main_arg0)),
    (θ_run Cert.ExchangeIdeal.defs _ _).mono (fun _ h c => ⟨(h.1 c).2.trans (final_block m _ _ _ hag c), (h.1 c).1⟩) (run_main (F := Ideal) m g),
    (θ_run Cert.ExchangeRefIdeal.defs _ _).mono (fun _ h => h 0) (Ref.run_main (F := Ideal) m' g')⟩

/-- The same, bit for bit. -/
theorem bitexact : Cert.bitexact_Exchange_ExchangeRef := fun m g m' g' _ hag =>
  ⟨Ref.refOut (m' (((0 : Dev Cert.ExchangeRef.nD).tc : Thread Cert.ExchangeRef.nD Cert.ExchangeRef.τ).loc Cert.ExchangeRef.main_arg0)),
    (θ_run Cert.ExchangeIdeal.defs _ _).mono (fun _ h c => ⟨(h.1 c).2.trans (final_block m _ _ _ hag c), (h.1 c).1⟩) (run_main (F := Bits) m g),
    (θ_run Cert.ExchangeRefIdeal.defs _ _).mono (fun _ h => h 0) (Ref.run_main (F := Bits) m' g')⟩

end Cert.Exchanging

end
-- ==== Proof.Adam.lean ====
/-
One AdamW step, number by number: the two moments and the change of the weight. The moments' decay rates, the corrections
for the step, the learning rate and the rest are the binary32 constants of the step.
-/
module

public import Idealize.ShloMosaic.Lib.StableHlo.Run
public import Idealize.ShloMosaic.Lib.Pointwise

@[expose] public section

noncomputable section

namespace Cert.Adam

open Idealize.ShloMosaic

variable {F : FTy → Type} [FloatOps F] {S : Shape}

/-- The new first moment, of the gradient and the old one. -/
def mom (g m : S.Idx → F .f32) : S.Idx → F .f32 := fun i =>
  FloatOps.addf (FloatOps.mulf (Scalar.ofBits .f32 0x3F666666#32) (m i)) (FloatOps.mulf (Scalar.ofBits .f32 0x3DCCCCCD#32) (g i))

/-- The new second moment, of the gradient and the old one. -/
def vel (g v : S.Idx → F .f32) : S.Idx → F .f32 := fun i =>
  FloatOps.addf (FloatOps.mulf (Scalar.ofBits .f32 0x3F7FBE77#32) (v i)) (FloatOps.mulf (Scalar.ofBits .f32 0x3A83126F#32) (FloatOps.mulf (g i) (g i)))

/-- The change of the weight: the corrected first moment over the root of the corrected second, and the decay. -/
def delta (w g m v : S.Idx → F .f32) : S.Idx → F .f32 := fun i =>
  FloatOps.mulf (Scalar.ofBits .f32 0xBA83126F#32) (FloatOps.addf
    (FloatOps.divf (FloatOps.divf (mom g m i) (Scalar.ofBits .f32 0x3F26BD02#32))
      (FloatOps.addf (FloatOps.sqrt (FloatOps.divf (vel g v i) (Scalar.ofBits .f32 0x3C231ACC#32))) (Scalar.ofBits .f32 0x322BCC77#32)))
    (FloatOps.mulf (Scalar.ofBits .f32 0x3C23D70A#32) (w i)))

/-- A binary32 constant as an array of shape `S`. -/
abbrev all (h : Shape.BroadcastsInDim ⟨0, ![]⟩ S ![]) (b : BitVec 32) : S.Idx → F .f32 := broadcastInDim S ![] h (constant ⟨0, ![]⟩ .f32 b)

/-- The same step as whole arrays: the moments over any numbers, the change of the weight in exact arithmetic, where the two
    divisions and the two roots are one. -/
theorem mom_arrays (h : Shape.BroadcastsInDim ⟨0, ![]⟩ S ![]) (g m : S.Idx → F .f32) :
    addf (mulf (all h 0x3F666666#32) m) (mulf (all h 0x3DCCCCCD#32) g) = mom g m := rfl
theorem vel_arrays (h : Shape.BroadcastsInDim ⟨0, ![]⟩ S ![]) (g v : S.Idx → F .f32) :
    addf (mulf (all h 0x3F7FBE77#32) v) (mulf (all h 0x3A83126F#32) (mulf g g)) = vel g v := rfl
theorem delta_arrays (h : Shape.BroadcastsInDim ⟨0, ![]⟩ S ![]) (w g m v : S.Idx → Ideal .f32) :
    mulf (all h 0xBA83126F#32) (addf (Host.divf (Host.divf (mom g m) (all h 0x3F26BD02#32))
      (addf (Host.sqrt (Host.divf (vel g v) (all h 0x3C231ACC#32))) (all h 0x322BCC77#32))) (mulf (all h 0x3C23D70A#32) w)) = delta w g m v := rfl

end Cert.Adam

end
-- ==== Proof.AdamClaims.lean ====
/-
The claims about the AdamW step, at each shape the training step calls it on: every run ends with the step's numbers
(Adam.lean) in the three results, the reference's with the same.
-/
module

public import proofs.«01_k».proof.Defs
public import proofs.«01_k».proof.Proof.Adam
public import proofs.«01_k».proof.Proof.Gen.AdamIn.Frame
public import proofs.«01_k».proof.Proof.Gen.AdamInIdeal.Value
public import proofs.«01_k».proof.Proof.Gen.AdamInRefIdeal.Run
public import proofs.«01_k».proof.Proof.Gen.AdamBranch.Frame
public import proofs.«01_k».proof.Proof.Gen.AdamBranchIdeal.Value
public import proofs.«01_k».proof.Proof.Gen.AdamBranchRefIdeal.Run
public import proofs.«01_k».proof.Proof.Gen.AdamOut.Frame
public import proofs.«01_k».proof.Proof.Gen.AdamOutIdeal.Value
public import proofs.«01_k».proof.Proof.Gen.AdamOutRefIdeal.Run
public import proofs.«01_k».proof.Proof.Gen.AdamGateUp.Frame
public import proofs.«01_k».proof.Proof.Gen.AdamGateUpIdeal.Value
public import proofs.«01_k».proof.Proof.Gen.AdamGateUpRefIdeal.Run
public import proofs.«01_k».proof.Proof.Gen.AdamDown.Frame
public import proofs.«01_k».proof.Proof.Gen.AdamDownIdeal.Value
public import proofs.«01_k».proof.Proof.Gen.AdamDownRefIdeal.Run
public import proofs.«01_k».proof.Proof.Gen.AdamProj.Frame
public import proofs.«01_k».proof.Proof.Gen.AdamProjIdeal.Value
public import proofs.«01_k».proof.Proof.Gen.AdamProjRefIdeal.Run
public import proofs.«01_k».proof.Proof.Gen.AdamSmall.Frame
public import proofs.«01_k».proof.Proof.Gen.AdamSmallIdeal.Value
public import proofs.«01_k».proof.Proof.Gen.AdamSmallRefIdeal.Run

@[expose] public section

noncomputable section

open Idealize.ShloMosaic Idealize.ShloMosaic.TcCoe Idealize.SL.Sem

/-! ## `w_in` -/

namespace Cert.AdamInClaims

theorem frame_kernel : Cert.quiescent_AdamIn := fun m ρ _ =>
  Cert.AdamIn.Gen.frame (F := Bits) m ρ
theorem frame_ideal : Cert.quiescent_AdamInIdeal := fun m ρ _ => Cert.AdamInIdeal.Gen.frame (F := Ideal) m ρ
theorem frame_ref_ideal : Cert.quiescent_AdamInRefIdeal := fun m ρ _ =>
  (θ_run _ _ _).mono (fun r h => ⟨fun c => (h c).2.2.2, sem_eq_zero_of_no_sems (by decide) r.2⟩) (Cert.AdamInRefIdeal.Value.run (F := Ideal) m ρ)

/-- In exact arithmetic, the kernel's and the reference's results are the same change of the weight and the same moments. -/
theorem algebraic : Cert.algebraic_AdamInIdeal_AdamInRefIdeal := fun m ρ m' ρ' _ hag =>
  ⟨_, _, _, Cert.AdamInIdeal.Value.run (F := Ideal) m ρ, (θ_run _ _ _).mono (fun r h c => by
    obtain ⟨h0, h1, h2, hk⟩ := h c
    obtain ⟨a0, a1, a2, a3⟩ := hag c
    rw [a0, a1, a2, a3] at h0
    rw [a1, a2] at h1
    rw [a1, a3] at h2
    exact ⟨h0.trans (Cert.Adam.delta_arrays _ _ _ _ _), h1.trans (Cert.Adam.mom_arrays _ _ _), h2.trans (Cert.Adam.vel_arrays _ _ _), hk⟩)
    (Cert.AdamInRefIdeal.Value.run (F := Ideal) m' ρ')⟩

end Cert.AdamInClaims

/-! ## `w_branch_a` (and of `w_branch_b`, of the same shape) -/

namespace Cert.AdamBranchClaims

theorem frame_kernel : Cert.quiescent_AdamBranch := fun m ρ _ =>
  Cert.AdamBranch.Gen.frame (F := Bits) m ρ
theorem frame_ideal : Cert.quiescent_AdamBranchIdeal := fun m ρ _ => Cert.AdamBranchIdeal.Gen.frame (F := Ideal) m ρ
theorem frame_ref_ideal : Cert.quiescent_AdamBranchRefIdeal := fun m ρ _ =>
  (θ_run _ _ _).mono (fun r h => ⟨fun c => (h c).2.2.2, sem_eq_zero_of_no_sems (by decide) r.2⟩) (Cert.AdamBranchRefIdeal.Value.run (F := Ideal) m ρ)

/-- In exact arithmetic, the kernel's and the reference's results are the same change of the weight and the same moments. -/
theorem algebraic : Cert.algebraic_AdamBranchIdeal_AdamBranchRefIdeal := fun m ρ m' ρ' _ hag =>
  ⟨_, _, _, Cert.AdamBranchIdeal.Value.run (F := Ideal) m ρ, (θ_run _ _ _).mono (fun r h c => by
    obtain ⟨h0, h1, h2, hk⟩ := h c
    obtain ⟨a0, a1, a2, a3⟩ := hag c
    rw [a0, a1, a2, a3] at h0
    rw [a1, a2] at h1
    rw [a1, a3] at h2
    exact ⟨h0.trans (Cert.Adam.delta_arrays _ _ _ _ _), h1.trans (Cert.Adam.mom_arrays _ _ _), h2.trans (Cert.Adam.vel_arrays _ _ _), hk⟩)
    (Cert.AdamBranchRefIdeal.Value.run (F := Ideal) m' ρ')⟩

end Cert.AdamBranchClaims

/-! ## `w_out` (and of `w_ple_gate`, of the same shape) -/

namespace Cert.AdamOutClaims

theorem frame_kernel : Cert.quiescent_AdamOut := fun m ρ _ =>
  Cert.AdamOut.Gen.frame (F := Bits) m ρ
theorem frame_ideal : Cert.quiescent_AdamOutIdeal := fun m ρ _ => Cert.AdamOutIdeal.Gen.frame (F := Ideal) m ρ
theorem frame_ref_ideal : Cert.quiescent_AdamOutRefIdeal := fun m ρ _ =>
  (θ_run _ _ _).mono (fun r h => ⟨fun c => (h c).2.2.2, sem_eq_zero_of_no_sems (by decide) r.2⟩) (Cert.AdamOutRefIdeal.Value.run (F := Ideal) m ρ)

/-- In exact arithmetic, the kernel's and the reference's results are the same change of the weight and the same moments. -/
theorem algebraic : Cert.algebraic_AdamOutIdeal_AdamOutRefIdeal := fun m ρ m' ρ' _ hag =>
  ⟨_, _, _, Cert.AdamOutIdeal.Value.run (F := Ideal) m ρ, (θ_run _ _ _).mono (fun r h c => by
    obtain ⟨h0, h1, h2, hk⟩ := h c
    obtain ⟨a0, a1, a2, a3⟩ := hag c
    rw [a0, a1, a2, a3] at h0
    rw [a1, a2] at h1
    rw [a1, a3] at h2
    exact ⟨h0.trans (Cert.Adam.delta_arrays _ _ _ _ _), h1.trans (Cert.Adam.mom_arrays _ _ _), h2.trans (Cert.Adam.vel_arrays _ _ _), hk⟩)
    (Cert.AdamOutRefIdeal.Value.run (F := Ideal) m' ρ')⟩

end Cert.AdamOutClaims

/-! ## `w_gate_up` -/

namespace Cert.AdamGateUpClaims

theorem frame_kernel : Cert.quiescent_AdamGateUp := fun m ρ _ =>
  Cert.AdamGateUp.Gen.frame (F := Bits) m ρ
theorem frame_ideal : Cert.quiescent_AdamGateUpIdeal := fun m ρ _ => Cert.AdamGateUpIdeal.Gen.frame (F := Ideal) m ρ
theorem frame_ref_ideal : Cert.quiescent_AdamGateUpRefIdeal := fun m ρ _ =>
  (θ_run _ _ _).mono (fun r h => ⟨fun c => (h c).2.2.2, sem_eq_zero_of_no_sems (by decide) r.2⟩) (Cert.AdamGateUpRefIdeal.Value.run (F := Ideal) m ρ)

/-- In exact arithmetic, the kernel's and the reference's results are the same change of the weight and the same moments. -/
theorem algebraic : Cert.algebraic_AdamGateUpIdeal_AdamGateUpRefIdeal := fun m ρ m' ρ' _ hag =>
  ⟨_, _, _, Cert.AdamGateUpIdeal.Value.run (F := Ideal) m ρ, (θ_run _ _ _).mono (fun r h c => by
    obtain ⟨h0, h1, h2, hk⟩ := h c
    obtain ⟨a0, a1, a2, a3⟩ := hag c
    rw [a0, a1, a2, a3] at h0
    rw [a1, a2] at h1
    rw [a1, a3] at h2
    exact ⟨h0.trans (Cert.Adam.delta_arrays _ _ _ _ _), h1.trans (Cert.Adam.mom_arrays _ _ _), h2.trans (Cert.Adam.vel_arrays _ _ _), hk⟩)
    (Cert.AdamGateUpRefIdeal.Value.run (F := Ideal) m' ρ')⟩

end Cert.AdamGateUpClaims

/-! ## `w_down` -/

namespace Cert.AdamDownClaims

theorem frame_kernel : Cert.quiescent_AdamDown := fun m ρ _ =>
  Cert.AdamDown.Gen.frame (F := Bits) m ρ
theorem frame_ideal : Cert.quiescent_AdamDownIdeal := fun m ρ _ => Cert.AdamDownIdeal.Gen.frame (F := Ideal) m ρ
theorem frame_ref_ideal : Cert.quiescent_AdamDownRefIdeal := fun m ρ _ =>
  (θ_run _ _ _).mono (fun r h => ⟨fun c => (h c).2.2.2, sem_eq_zero_of_no_sems (by decide) r.2⟩) (Cert.AdamDownRefIdeal.Value.run (F := Ideal) m ρ)

/-- In exact arithmetic, the kernel's and the reference's results are the same change of the weight and the same moments. -/
theorem algebraic : Cert.algebraic_AdamDownIdeal_AdamDownRefIdeal := fun m ρ m' ρ' _ hag =>
  ⟨_, _, _, Cert.AdamDownIdeal.Value.run (F := Ideal) m ρ, (θ_run _ _ _).mono (fun r h c => by
    obtain ⟨h0, h1, h2, hk⟩ := h c
    obtain ⟨a0, a1, a2, a3⟩ := hag c
    rw [a0, a1, a2, a3] at h0
    rw [a1, a2] at h1
    rw [a1, a3] at h2
    exact ⟨h0.trans (Cert.Adam.delta_arrays _ _ _ _ _), h1.trans (Cert.Adam.mom_arrays _ _ _), h2.trans (Cert.Adam.vel_arrays _ _ _), hk⟩)
    (Cert.AdamDownRefIdeal.Value.run (F := Ideal) m' ρ')⟩

end Cert.AdamDownClaims

/-! ## `w_ple_proj` -/

namespace Cert.AdamProjClaims

theorem frame_kernel : Cert.quiescent_AdamProj := fun m ρ _ =>
  Cert.AdamProj.Gen.frame (F := Bits) m ρ
theorem frame_ideal : Cert.quiescent_AdamProjIdeal := fun m ρ _ => Cert.AdamProjIdeal.Gen.frame (F := Ideal) m ρ
theorem frame_ref_ideal : Cert.quiescent_AdamProjRefIdeal := fun m ρ _ =>
  (θ_run _ _ _).mono (fun r h => ⟨fun c => (h c).2.2.2, sem_eq_zero_of_no_sems (by decide) r.2⟩) (Cert.AdamProjRefIdeal.Value.run (F := Ideal) m ρ)

/-- In exact arithmetic, the kernel's and the reference's results are the same change of the weight and the same moments. -/
theorem algebraic : Cert.algebraic_AdamProjIdeal_AdamProjRefIdeal := fun m ρ m' ρ' _ hag =>
  ⟨_, _, _, Cert.AdamProjIdeal.Value.run (F := Ideal) m ρ, (θ_run _ _ _).mono (fun r h c => by
    obtain ⟨h0, h1, h2, hk⟩ := h c
    obtain ⟨a0, a1, a2, a3⟩ := hag c
    rw [a0, a1, a2, a3] at h0
    rw [a1, a2] at h1
    rw [a1, a3] at h2
    exact ⟨h0.trans (Cert.Adam.delta_arrays _ _ _ _ _), h1.trans (Cert.Adam.mom_arrays _ _ _), h2.trans (Cert.Adam.vel_arrays _ _ _), hk⟩)
    (Cert.AdamProjRefIdeal.Value.run (F := Ideal) m' ρ')⟩

end Cert.AdamProjClaims

/-! ## the nine small weights, packed in one array -/

namespace Cert.AdamSmallClaims

theorem frame_kernel : Cert.quiescent_AdamSmall := fun m ρ _ =>
  Cert.AdamSmall.Gen.frame (F := Bits) m ρ
theorem frame_ideal : Cert.quiescent_AdamSmallIdeal := fun m ρ _ => Cert.AdamSmallIdeal.Gen.frame (F := Ideal) m ρ
theorem frame_ref_ideal : Cert.quiescent_AdamSmallRefIdeal := fun m ρ _ =>
  (θ_run _ _ _).mono (fun r h => ⟨fun c => (h c).2.2.2, sem_eq_zero_of_no_sems (by decide) r.2⟩) (Cert.AdamSmallRefIdeal.Value.run (F := Ideal) m ρ)

/-- In exact arithmetic, the kernel's and the reference's results are the same change of the weight and the same moments. -/
theorem algebraic : Cert.algebraic_AdamSmallIdeal_AdamSmallRefIdeal := fun m ρ m' ρ' _ hag =>
  ⟨_, _, _, Cert.AdamSmallIdeal.Value.run (F := Ideal) m ρ, (θ_run _ _ _).mono (fun r h c => by
    obtain ⟨h0, h1, h2, hk⟩ := h c
    obtain ⟨a0, a1, a2, a3⟩ := hag c
    rw [a0, a1, a2, a3] at h0
    rw [a1, a2] at h1
    rw [a1, a3] at h2
    exact ⟨h0.trans (Cert.Adam.delta_arrays _ _ _ _ _), h1.trans (Cert.Adam.mom_arrays _ _ _), h2.trans (Cert.Adam.vel_arrays _ _ _), hk⟩)
    (Cert.AdamSmallRefIdeal.Value.run (F := Ideal) m' ρ')⟩

end Cert.AdamSmallClaims

end
-- ==== Proof.SumClaims.lean ====
/-
The claims about the sum of a chip's own part with the three that the other chips sent: every run ends with the four parts
added number by number, in the order in which the reference adds them.
-/
module

public import proofs.«01_k».proof.Defs
public import Idealize.ShloMosaic.Lib.Pointwise
public import proofs.«01_k».proof.Proof.Gen.Sum.Frame
public import proofs.«01_k».proof.Proof.Gen.SumIdeal.Value
public import proofs.«01_k».proof.Proof.Gen.SumRef
public import proofs.«01_k».proof.Proof.Gen.SumRefIdeal.Run

@[expose] public section

noncomputable section

open Idealize.ShloMosaic Idealize.ShloMosaic.TcCoe Idealize.SL.Sem

namespace Cert.Summing

variable {F : FTy → Type} [FloatOps F]

/-- The rows of a chip's own part, and of the three parts received. -/
abbrev SOwn : Shape := ⟨2, ![17440, 128]⟩
abbrev SGot : Shape := ⟨3, ![3, 17440, 128]⟩

/-- The own part plus the three received, one after the other. -/
def total (own : SOwn.Idx → F .f32) (got : SGot.Idx → F .bf16) : SOwn.Idx → F .f32 := fun i =>
  FloatOps.addf (FloatOps.addf (FloatOps.addf (own i) (FloatOps.extf .f32 (by decide) (got (ix3 0 (i 0) (i 1)))))
    (FloatOps.extf .f32 (by decide) (got (ix3 1 (i 0) (i 1))))) (FloatOps.extf .f32 (by decide) (got (ix3 2 (i 0) (i 1))))

end Cert.Summing

namespace Cert.SumIdeal.Whole

open Cert.SumIdeal Cert.SumIdeal.Gen Cert.SumIdeal.Value

variable {F : FTy → Type} [FloatOps F] (m : (ℓ : Loc nD τ sig) → Buf (Elt F) ℓ) (ρ : Dev nD → PrngReg)

/-- Block `t` of each window starts at row `1744 t`. -/
theorem places : ∀ t : Fin cfg0.N, win0_0.index t (0 : Fin 2) = t.val ∧ win0_0.index t (1 : Fin 2) = 0
    ∧ win0_1.index t (0 : Fin 3) = 0 ∧ win0_1.index t (1 : Fin 3) = t.val ∧ win0_1.index t (2 : Fin 3) = 0
    ∧ win0_2.index t (0 : Fin 2) = t.val ∧ win0_2.index t (1 : Fin 2) = 0 :=
  (by decide +kernel : ∀ t : Fin grid0.N, _)

/-- What point `t` writes back is block `t` of the sum. -/
theorem flushed_eq (c : Dev nD) (t : Fin cfg0.N) : (dats m 0 c).flushed 2 t
    = ((cfg0.win 2).blk t).view.read (Elt F) (Summing.total (V m c main_arg0) (V m c main_arg1)) := by
  obtain ⟨a0, a1, b0, b1, b2, c0, c1⟩ := places t
  rw [flushed2]
  funext j
  have h0 : (j 0).val < 1744 := (j 0).isLt
  have h1 : (j 1).val < 128 := (j 1).isLt
  have own : ((cfg0.win 0).blk t).view.emb (r0_0.idx (ix2_0 j)) = ((cfg0.win 2).blk t).view.emb j := by
    funext a; apply Fin.ext
    match a with
    | ⟨0, _⟩ => show win0_0.index t (0 : Fin 2) * 1744 + 1 * (0 + 1 * (j 0).val) = win0_2.index t (0 : Fin 2) * 1744 + 1 * (j 0).val; omega
    | ⟨1, _⟩ => show win0_0.index t (1 : Fin 2) * 128 + 1 * (0 + 1 * (j 1).val) = win0_2.index t (1 : Fin 2) * 128 + 1 * (j 1).val; omega
  have got : ∀ (k : Fin 3) (x : S3x1744x128.Idx), (x 0).val = k.val → (x 1).val = (j 0).val → (x 2).val = (j 1).val →
      ((cfg0.win 1).blk t).view.emb x = (ix3 k (((cfg0.win 2).blk t).view.emb j 0) (((cfg0.win 2).blk t).view.emb j 1) : Summing.SGot.Idx) := by
    intro k x x0 x1 x2
    funext a; apply Fin.ext
    match a with
    | ⟨0, _⟩ => show win0_1.index t (0 : Fin 3) * 3 + 1 * (x 0).val = k.val; omega
    | ⟨1, _⟩ => show win0_1.index t (1 : Fin 3) * 1744 + 1 * (x 1).val = win0_2.index t (0 : Fin 2) * 1744 + 1 * (j 0).val; omega
    | ⟨2, _⟩ => show win0_1.index t (2 : Fin 3) * 128 + 1 * (x 2).val = win0_2.index t (1 : Fin 2) * 128 + 1 * (j 1).val; omega
  have g0 := got 0 (r0_1.idx (ix2_1 j)) rfl (by show 0 + 1 * (j 0).val = _; omega) (by show 0 + 1 * (j 1).val = _; omega)
  have g1 := got 1 (r0_2.idx (ix2_2 j)) rfl (by show 0 + 1 * (j 0).val = _; omega) (by show 0 + 1 * (j 1).val = _; omega)
  have g2 := got 2 (r0_3.idx (ix2_3 j)) rfl (by show 0 + 1 * (j 0).val = _; omega) (by show 0 + 1 * (j 1).val = _; omega)
  refine (canon2_eq _ _ _ _ _).trans ?_
  show FloatOps.addf (FloatOps.addf (FloatOps.addf (V m c main_arg0 (((cfg0.win 0).blk t).view.emb (r0_0.idx (ix2_0 j))))
      (FloatOps.extf .f32 _ (V m c main_arg1 (((cfg0.win 1).blk t).view.emb (r0_1.idx (ix2_1 j))))))
      (FloatOps.extf .f32 _ (V m c main_arg1 (((cfg0.win 1).blk t).view.emb (r0_2.idx (ix2_2 j))))))
      (FloatOps.extf .f32 _ (V m c main_arg1 (((cfg0.win 1).blk t).view.emb (r0_3.idx (ix2_3 j))))) = _
  rw [own, g0, g1, g2]
  rfl

/-- Every row is in some point's block. -/
theorem covered (i : S17440x128.Idx) : ∃ t : Fin cfg0.N, (cfg0.win 2).flush t = true ∧ i ∈ ((cfg0.win 2).blk t).view.set := by
  have h0 : (i 0).val < 17440 := (i 0).isLt
  have h1 : (i 1).val < 128 := (i 1).isLt
  have hN : cfg0.N = 10 := N_0
  let t : Fin cfg0.N := ⟨(i 0).val / 1744, by omega⟩
  have ht : t.val = (i 0).val / 1744 := rfl
  obtain ⟨-, -, -, -, -, c0, c1⟩ := places t
  refine ⟨t, flush0_2 t, ?_⟩
  show i ∈ ((View.whole main_v0).slice (win0_2.rect t)).set
  rw [View.set_slice_whole, Rect.mem_set_unit]
  intro a
  match a with
  | ⟨0, _⟩ => show win0_2.index t (0 : Fin 2) * 1744 ≤ (i 0).val ∧ (i 0).val < win0_2.index t (0 : Fin 2) * 1744 + 1744; omega
  | ⟨1, _⟩ => show win0_2.index t (1 : Fin 2) * 128 ≤ (i 1).val ∧ (i 1).val < win0_2.index t (1 : Fin 2) * 128 + 128; omega

/-- Every run ends with the sum in the result, and the arguments as they were. -/
theorem run : θ_run defs (onTc (τ := τ) (main (F := F))) ⟨m, fun _ => 0, ρ⟩ fun r => ∀ c : Dev nD,
      r.2.mem ((c : Thread nD τ).loc main_v0) = Summing.total (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans
    ((dats m 0 c).arrAt_eq_of_cover 2 _ (fun t _ => flushed_eq m c t) covered), (h c).2⟩) (run_blocks m ρ)

end Cert.SumIdeal.Whole

namespace Cert.Summing

variable {F : FTy → Type} [FloatOps F]

open Cert.SumRefIdeal Cert.SumRefIdeal.Gen in
/-- The reference slices the parts out of the array that holds the three; its sum is the same. -/
theorem total_arrays (own : SOwn.Idx → F .f32) (got : SGot.Idx → F .bf16) :
    addf (addf (addf own
      (extf .f32 (shapeCast S17440x128 (extractStridedSlice S1x17440x128 ![0, 0, 0] got slices_S3x17440x128_S1x17440x128_0_0_0) shapeCasts_S1x17440x128_S17440x128) bitsLt_bf16_f32))
      (extf .f32 (shapeCast S17440x128 (extractStridedSlice S1x17440x128 ![1, 0, 0] got slices_S3x17440x128_S1x17440x128_1_0_0) shapeCasts_S1x17440x128_S17440x128) bitsLt_bf16_f32))
      (extf .f32 (shapeCast S17440x128 (extractStridedSlice S1x17440x128 ![2, 0, 0] got slices_S3x17440x128_S1x17440x128_2_0_0) shapeCasts_S1x17440x128_S17440x128) bitsLt_bf16_f32)
      = total own got := by
  funext i
  obtain ⟨r, l, rfl⟩ : ∃ (r : Fin 17440) (l : Fin 128), ix2 r l = i := ⟨i 0, i 1, by funext a; match a with | ⟨0, _⟩ => rfl | ⟨1, _⟩ => rfl⟩
  pointwise [total]

theorem frame_kernel : Cert.quiescent_Sum := fun m ρ _ => Cert.Sum.Gen.frame (F := Bits) m ρ
theorem frame_ideal : Cert.quiescent_SumIdeal := fun m ρ _ => Cert.SumIdeal.Gen.frame (F := Ideal) m ρ
theorem frame_ref_ideal : Cert.quiescent_SumRefIdeal := fun m ρ _ =>
  (θ_run _ _ _).mono (fun r h => ⟨fun c => (h c).2, sem_eq_zero_of_no_sems (by decide) r.2⟩) (Cert.SumRefIdeal.Value.run (F := Ideal) m ρ)
theorem frame_ref : Cert.quiescent_SumRef := fun m ρ _ =>
  (θ_run Cert.SumRefIdeal.defs _ _).mono (fun r h => ⟨fun c => (h c).2, sem_eq_zero_of_no_sems (by decide) r.2⟩) (Cert.SumRefIdeal.Value.run (F := Bits) m ρ)

/-- In exact arithmetic, the kernel's and the reference's results are the same sum. -/
theorem algebraic : Cert.algebraic_SumIdeal_SumRefIdeal := fun m ρ m' ρ' _ hag =>
  ⟨_, Cert.SumIdeal.Whole.run (F := Ideal) m ρ, (θ_run _ _ _).mono (fun r h c => by
    obtain ⟨h0, hk⟩ := h c
    obtain ⟨a0, a1⟩ := hag c
    rw [a0, a1] at h0
    exact ⟨h0.trans (total_arrays _ _), hk⟩)
    (Cert.SumRefIdeal.Value.run (F := Ideal) m' ρ')⟩

/-- The kernel and its idealization have the same text, so that over the device's own arithmetic they run alike. -/
theorem bodies : Cert.Sum.defs₀ (F := Bits) = Cert.SumIdeal.defs₀ (F := Bits) := by
  unfold Cert.Sum.defs₀ Cert.SumIdeal.defs₀
  refine congrArg Defs.onTc (funext fun l => funext fun a => ?_)
  match l, a with
  | 0, (t, s) => rfl
theorem runs (m : (ℓ : Loc Cert.Sum.nD Cert.Sum.τ Cert.Sum.sig) → Buf (Elt Bits) ℓ) (ρ : Dev Cert.Sum.nD → PrngReg) :
    θ_run (Cert.Sum.defs (F := Bits)) (onTc (τ := Cert.Sum.τ) (Cert.Sum.main (F := Bits))) ⟨m, fun _ => 0, ρ⟩
      = θ_run (Cert.SumIdeal.defs (F := Bits)) (onTc (τ := Cert.SumIdeal.τ) (Cert.SumIdeal.main (F := Bits))) ⟨m, fun _ => 0, ρ⟩ :=
  congrArg (fun d => θ_run (Pipeline.defs Cert.Sum.pcfgs d) (onTc (τ := Cert.Sum.τ) (Cert.Sum.main (F := Bits))) ⟨m, fun _ => 0, ρ⟩) bodies

/-- The same, bit for bit. -/
theorem bitexact : Cert.bitexact_Sum_SumRef := fun m ρ m' ρ' _ hag =>
  ⟨_, by rw [runs m ρ]; exact Cert.SumIdeal.Whole.run (F := Bits) m ρ,
    (θ_run Cert.SumRefIdeal.defs _ _).mono (fun r h c => by
      obtain ⟨h0, hk⟩ := h c
      obtain ⟨a0, a1⟩ := hag c
      exact ⟨h0.trans ((total_arrays _ _).trans (congr (congrArg total a0) a1)), hk⟩)
    (Cert.SumRefIdeal.Value.run (F := Bits) m' ρ')⟩

end Cert.Summing

end
-- ==== Proof.InputMath.lean ====
/-
The gradient through the input projection and the norm before it, entry by entry, and the reference's arrays read as those
entries. The gradient at the projection's input is a product over the 5760 columns of the projection, which come in seven
pieces; the gradients of the residual stream and of the norm's scale follow from it row by row.
-/
module

public import proofs.«01_k».proof.Defs
public import Idealize.ShloMosaic.Lib.Pointwise
public import proofs.«01_k».proof.Proof.Gen.InputRefIdeal.Run

@[expose] public section

set_option maxRecDepth 16384

noncomputable section

open Idealize.ShloMosaic Idealize.ShloMosaic.TcCoe Idealize.SL.Sem

namespace Cert.InputGrad

open Cert.InputRefIdeal Cert.InputRefIdeal.Gen

/-- The gradient at the projection's input: each piece's gradient times its columns of the weight, the seven added up. -/
def dh (p0 : FVec Ideal S4096x2048 .f32) (p1 p2 p3 : FVec Ideal S4096x512 .f32) (p4 : FVec Ideal S4096x1536 .f32)
    (p5 : FVec Ideal S4096x512 .f32) (p6 : FVec Ideal S4096x128 .f32) (w0 : FVec Ideal S1024x2048 .bf16)
    (w1 w2 w3 : FVec Ideal S1024x512 .bf16) (w4 : FVec Ideal S1024x1536 .bf16) (w5 : FVec Ideal S1024x512 .bf16)
    (w6 : FVec Ideal S1024x128 .bf16) : FVec Ideal S4096x1024 .f32 := fun i =>
  (∑ k : Fin 2048, p0 (ix2 (i 0) k) * w0 (ix2 (i 1) k)) + (∑ k : Fin 512, p1 (ix2 (i 0) k) * w1 (ix2 (i 1) k))
    + (∑ k : Fin 512, p2 (ix2 (i 0) k) * w2 (ix2 (i 1) k)) + (∑ k : Fin 512, p3 (ix2 (i 0) k) * w3 (ix2 (i 1) k))
    + (∑ k : Fin 1536, p4 (ix2 (i 0) k) * w4 (ix2 (i 1) k)) + (∑ k : Fin 512, p5 (ix2 (i 0) k) * w5 (ix2 (i 1) k))
    + (∑ k : Fin 128, p6 (ix2 (i 0) k) * w6 (ix2 (i 1) k))

/-- The number of columns, and the small number added to a mean square, as the programs write them. -/
abbrev cols : EReal := Ideal.ofBits .f32 0x44800000#32
abbrev small : EReal := Ideal.ofBits .f32 0x358637BD#32

/-- The reciprocal of the root mean square of a row of the residual stream. -/
def inv (x : FVec Ideal S4096x1024 .f32) (n : Fin 4096) : EReal :=
  Ideal.rsqrt (Ideal.div (∑ k : Fin 1024, x (ix2 n k) * x (ix2 n k)) cols + small)

/-- The gradient of the residual stream: the one already there plus what comes back through the norm. -/
def gradX (d x dx1 : FVec Ideal S4096x1024 .f32) (g : FVec Ideal S1x1024 .f32) : FVec Ideal S4096x1024 .f32 := fun i =>
  dx1 i + inv x (i 0) * (d i * g (ix2 0 (i 1)) - x i * inv x (i 0)
    * Ideal.div (∑ k : Fin 1024, d (ix2 (i 0) k) * g (ix2 0 k) * (x (ix2 (i 0) k) * inv x (i 0))) cols)

/-- The gradient of the norm's scale, summed over the rows, in each of eight equal rows. -/
def gradG (d x : FVec Ideal S4096x1024 .f32) : FVec Ideal S8x1024 .f32 := fun i =>
  ∑ n : Fin 4096, d (ix2 n (i 1)) * (x (ix2 n (i 1)) * inv x n)

/-- The reference multiplies the joined pieces by the joined columns of the weight. -/
theorem dh_arrays (p0 : FVec Ideal S4096x2048 .f32) (p1 p2 p3 : FVec Ideal S4096x512 .f32) (p4 : FVec Ideal S4096x1536 .f32)
    (p5 : FVec Ideal S4096x512 .f32) (p6 : FVec Ideal S4096x128 .f32) (w0 : FVec Ideal S1024x2048 .bf16)
    (w1 w2 w3 : FVec Ideal S1024x512 .bf16) (w4 : FVec Ideal S1024x1536 .bf16) (w5 : FVec Ideal S1024x512 .bf16)
    (w6 : FVec Ideal S1024x128 .bf16) :
    Host.dotGeneral (F := Ideal) (φ₁ := .f32) (φ₂ := .f32) dot_S4096x5760_S5760x1024_S4096x1024_1_0_0_1_n_n none
      (concatenate S4096x5760 1 [⟨S4096x2048, p0⟩, ⟨S4096x512, p1⟩, ⟨S4096x512, p2⟩, ⟨S4096x512, p3⟩, ⟨S4096x1536, p4⟩, ⟨S4096x512, p5⟩, ⟨S4096x128, p6⟩]
        concatenates_S4096x2048_S4096x512_S4096x512_S4096x512_S4096x1536_S4096x512_S4096x128_S4096x5760_d1 : FVec Ideal S4096x5760 .f32)
      (transpose S5760x1024 [1, 0] (extf .f32 (concatenate S1024x5760 1 [⟨S1024x2048, w0⟩, ⟨S1024x512, w1⟩, ⟨S1024x512, w2⟩, ⟨S1024x512, w3⟩, ⟨S1024x1536, w4⟩, ⟨S1024x512, w5⟩, ⟨S1024x128, w6⟩]
        concatenates_S1024x2048_S1024x512_S1024x512_S1024x512_S1024x1536_S1024x512_S1024x128_S1024x5760_d1 : FVec Ideal S1024x5760 .bf16) bitsLt_bf16_f32) transposes_S1024x5760_S5760x1024_1_0)
      = dh p0 p1 p2 p3 p4 p5 p6 w0 w1 w2 w3 w4 w5 w6 := by
  funext i
  obtain ⟨r, l, rfl⟩ : ∃ (r : Fin 4096) (l : Fin 1024), ix2 r l = i := ⟨i 0, i 1, by funext a; match a with | ⟨0, _⟩ => rfl | ⟨1, _⟩ => rfl⟩
  pointwise [dh]
  rw [Fin.sum_univ_two_halves 2048 3712 rfl, Fin.sum_univ_two_halves 512 3200 rfl, Fin.sum_univ_two_halves 512 2688 rfl,
    Fin.sum_univ_two_halves 512 2176 rfl, Fin.sum_univ_two_halves 1536 640 rfl, Fin.sum_univ_two_halves 512 128 rfl]
  simp [add_assoc]

/-- The reference's reciprocal root mean square, a column. -/
def invs (x : FVec Ideal S4096x1024 .f32) : FVec Ideal S4096x1 .f32 :=
  Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))

theorem invs_apply (x : FVec Ideal S4096x1024 .f32) (n : Fin 4096) (z : Fin 1) : invs x (ix2 n z) = inv x n := by
  pointwise [invs, inv]

/-- The reference's arrays are those entries. -/
theorem gradX_arrays (d x dx1 : FVec Ideal S4096x1024 .f32) (g : FVec Ideal S1x1024 .f32) :
    addf dx1 (mulf (broadcastInDim S4096x1024 ![0, 1] bcast_S4096x1_S4096x1024_0_1 (invs x))
      (subf (mulf d (broadcastInDim S4096x1024 ![0, 1] bcast_S1x1024_S4096x1024_0_1 g))
        (mulf (mulf x (broadcastInDim S4096x1024 ![0, 1] bcast_S4096x1_S4096x1024_0_1 (invs x)))
          (broadcastInDim S4096x1024 ![0, 1] bcast_S4096x1_S4096x1024_0_1 (Host.divf (broadcastInDim S4096x1 ![0] bcast_S4096_S4096x1_0
            (Host.reduceAdd (mulf (mulf d (broadcastInDim S4096x1024 ![0, 1] bcast_S1x1024_S4096x1024_0_1 g))
              (mulf x (broadcastInDim S4096x1024 ![0, 1] bcast_S4096x1_S4096x1024_0_1 (invs x)))) (constant S_ .f32 0x00000000#32) reducesTo_S4096x1024_S4096_d1 h_S_))
            (broadcastInDim S4096x1 ![] bcast_S_S4096x1 (constant S_ .f32 0x44800000#32)))))))
      = gradX d x dx1 g := by
  funext i
  obtain ⟨r, l, rfl⟩ : ∃ (r : Fin 4096) (l : Fin 1024), ix2 r l = i := ⟨i 0, i 1, by funext a; match a with | ⟨0, _⟩ => rfl | ⟨1, _⟩ => rfl⟩
  pointwise [gradX]
  simp only [invs_apply]

theorem gradG_arrays (d x : FVec Ideal S4096x1024 .f32) :
    broadcastInDim S8x1024 ![1] bcast_S1024_S8x1024_1 (Host.reduceAdd (mulf d
      (mulf x (broadcastInDim S4096x1024 ![0, 1] bcast_S4096x1_S4096x1024_0_1 (invs x)))) (constant S_ .f32 0x00000000#32) reducesTo_S4096x1024_S1024_d0 h_S_)
      = gradG d x := by
  funext i
  obtain ⟨r, l, rfl⟩ : ∃ (r : Fin 8) (l : Fin 1024), ix2 r l = i := ⟨i 0, i 1, by funext a; match a with | ⟨0, _⟩ => rfl | ⟨1, _⟩ => rfl⟩
  pointwise [gradG]
  simp only [invs_apply]

end Cert.InputGrad

end
-- ==== Proof.InputKernel.lean ====
/-
The kernel of the input projection's gradient: each point works on 256 rows, writes the residual stream's gradient of those
rows, and adds their part of the norm's gradient to a block that is written once, at the end.
-/
module

public import Idealize.ShloMosaic.Lib.Pipeline.ValueKit
public import proofs.«01_k».proof.Proof.Gen.InputIdeal.Value
public import proofs.«01_k».proof.Proof.InputMath

@[expose] public section

set_option maxRecDepth 16384

noncomputable section

open Idealize.ShloMosaic Idealize.ShloMosaic.TcCoe Idealize.SL.Sem

namespace Cert.InputIdeal.Whole

open Cert.InputIdeal Cert.InputIdeal.Gen

variable (m : (ℓ : Loc nD τ sig) → Buf (Elt Ideal) ℓ) (ρ : Dev nD → PrngReg) (c : Dev nD)

/-- Which windows advance with the point, and which stay. -/
theorem places : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0] ∧ win0_14.index t = ![t.val, 0]
    ∧ win0_15.index t = ![t.val, 0] ∧ win0_16.index t = ![0, 0] ∧ win0_17.index t = ![t.val, 0] ∧ win0_18.index t = ![0, 0] :=
  (by decide +kernel : ∀ t : Fin grid0.N, _)

/-- The gradient at the projection's input, of the arguments. -/
abbrev dh : FVec Ideal S4096x1024 .f32 :=
  InputGrad.dh (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) (m ((c : Thread nD τ).loc main_arg13))

/-- A point's part of the gradient at the projection's input, from its blocks. -/
abbrev tile (t : Fin cfg0.N) : FVec Ideal S256x1024 .f32 :=
  k0_pay5 (k0_pay3 (iblk m c 0 t) (iblk m c 7 t) (iblk m c 1 t) (iblk m c 8 t) (iblk m c 2 t) (iblk m c 9 t) (iblk m c 3 t)
    (iblk m c 10 t) (iblk m c 4 t) (iblk m c 11 t)) (k0_pay4 (iblk m c 5 t)) (iblk m c 12 t) (iblk m c 6 t) (iblk m c 13 t)

theorem tile_apply (t : Fin cfg0.N) (r : Fin 256) (l : Fin 1024) (n : Fin 4096) (hn : n.val = t.val * 256 + r.val) :
    tile m c t (ix2 r l) = dh m c (ix2 n l) := by
  pointwise [k0_pay5, k0_pay3, k0_pay4, InputGrad.dh]
  blk_point [iblk, V, places t]

theorem row_apply (t : Fin cfg0.N) (r : Fin 256) (l : Fin 1024) (n : Fin 4096) (hn : n.val = t.val * 256 + r.val) :
    iblk m c 14 t (ix2 r l : S256x1024.Idx) = m ((c : Thread nD τ).loc main_arg14) (ix2 n l : S4096x1024.Idx) := by
  blk_ext [iblk, V, places t]

theorem inv_apply (t : Fin cfg0.N) (r : Fin 256) (z : Fin 1) (n : Fin 4096) (hn : n.val = t.val * 256 + r.val) :
    k0_pay6 (F := Ideal) (iblk m c 14 t) (ix2 r z) = InputGrad.inv (m ((c : Thread nD τ).loc main_arg14)) n := by
  pointwise [k0_pay6, InputGrad.inv]
  blk_point [iblk, V, places t]

/-- The two payloads that are stored, entry by entry, over what their blocks give for the gradient at the projection's input. -/
theorem pay9_apply (v26 : FVec Ideal S256x1024 .f32) (v28 : FVec Ideal S256x512 .bf16) (v29 : FVec Ideal S1024x512 .bf16)
    (v32 : FVec Ideal S256x128 .f32) (v34 : FVec Ideal S1024x128 .bf16) (x : FVec Ideal S256x1024 .f32) (g : FVec Ideal S1x1024 .f32)
    (dx1 : FVec Ideal S256x1024 .f32) (r : Fin 256) (l : Fin 1024) :
    k0_pay9 v26 v28 v29 v32 v34 x g dx1 (ix2 r l) = dx1 (ix2 r l) + k0_pay6 (F := Ideal) x (ix2 r 0) * (k0_pay5 v26 v28 v29 v32 v34 (ix2 r l) * g (ix2 0 l)
      - x (ix2 r l) * k0_pay6 (F := Ideal) x (ix2 r 0) * Ideal.div (∑ k : Fin 1024, k0_pay5 v26 v28 v29 v32 v34 (ix2 r k) * g (ix2 0 k)
        * (x (ix2 r k) * k0_pay6 (F := Ideal) x (ix2 r 0))) InputGrad.cols) := by
  pointwise [k0_pay9, k0_pay7]

theorem pay1_apply (v26 : FVec Ideal S256x1024 .f32) (v28 : FVec Ideal S256x512 .bf16) (v29 : FVec Ideal S1024x512 .bf16)
    (v32 : FVec Ideal S256x128 .f32) (v34 : FVec Ideal S1024x128 .bf16) (x : FVec Ideal S256x1024 .f32) (acc : FVec Ideal S8x1024 .f32)
    (j : S8x1024.Idx) :
    k0_pay1 (k0_pay8 v26 v28 v29 v32 v34 x) acc j
      = acc j + ∑ r : Fin 256, k0_pay5 v26 v28 v29 v32 v34 (ix2 r (j 1)) * (x (ix2 r (j 1)) * k0_pay6 (F := Ideal) x (ix2 r 0)) := by
  pointwise [k0_pay1, k0_pay8, k0_pay7]

theorem zero_apply (j : S8x1024.Idx) : k0_pay2 (F := Ideal) j = 0 := by pointwise [k0_pay2]

/-- An entry of the residual stream's gradient that a point writes. -/
theorem point (t : Fin cfg0.N) (r : Fin 256) (l : Fin 1024) (n : Fin 4096) (hn : n.val = t.val * 256 + r.val) :
    k0_pay9 (k0_pay3 (iblk m c 0 t) (iblk m c 7 t) (iblk m c 1 t) (iblk m c 8 t) (iblk m c 2 t) (iblk m c 9 t) (iblk m c 3 t)
      (iblk m c 10 t) (iblk m c 4 t) (iblk m c 11 t)) (k0_pay4 (iblk m c 5 t)) (iblk m c 12 t) (iblk m c 6 t) (iblk m c 13 t)
      (iblk m c 14 t) (iblk m c 16 t) (iblk m c 15 t) (ix2 r l)
      = InputGrad.gradX (dh m c) (m ((c : Thread nD τ).loc main_arg14)) (m ((c : Thread nD τ).loc main_arg15))
        (m ((c : Thread nD τ).loc main_arg16)) (ix2 n l) := by
  refine (pay9_apply ..).trans ?_
  rw [inv_apply m c t r 0 n hn]
  pointwise [InputGrad.gradX]
  reads_congr
  all_goals first
    | exact tile_apply m c t r _ n hn
    | blk_ext [iblk, V, places t]

theorem stored (t : Fin cfg0.N) (y : S256x1024.Idx) :
    k0_pay9 (k0_pay3 (iblk m c 0 t) (iblk m c 7 t) (iblk m c 1 t) (iblk m c 8 t) (iblk m c 2 t) (iblk m c 9 t) (iblk m c 3 t)
      (iblk m c 10 t) (iblk m c 4 t) (iblk m c 11 t)) (k0_pay4 (iblk m c 5 t)) (iblk m c 12 t) (iblk m c 6 t) (iblk m c 13 t)
      (iblk m c 14 t) (iblk m c 16 t) (iblk m c 15 t) y
      = InputGrad.gradX (dh m c) (m ((c : Thread nD τ).loc main_arg14)) (m ((c : Thread nD τ).loc main_arg15))
        (m ((c : Thread nD τ).loc main_arg16)) (((cfg0.win 17).blk t).view.emb y) := by
  have hN : cfg0.N = 16 := N_0
  have ht := t.isLt
  obtain ⟨r, l, rfl⟩ : ∃ (r : Fin 256) (l : Fin 1024), ix2 r l = y := ⟨y 0, y 1, by funext a; match a with | ⟨0, _⟩ => rfl | ⟨1, _⟩ => rfl⟩
  have hr := r.isLt
  refine (point m c t r l ⟨t.val * 256 + r.val, by omega⟩ rfl).trans (congrArg _ ?_)
  blk_ext [places t]

/-- The residual stream's gradient after the run. -/
theorem final17 : (dats m 0 c).arrAt 17 cfg0.N
    = InputGrad.gradX (dh m c) (m ((c : Thread nD τ).loc main_arg14)) (m ((c : Thread nD τ).loc main_arg15)) (m ((c : Thread nD τ).loc main_arg16)) := by
  refine (dats m 0 c).arrAt_eq_of_covers 17 _ (by decide +kernel) fun t _ y => ?_
  blk_simp
  rw [after0_17]
  by_cases h : t.val % 16 = 0
  · rw [outsAt0_A m c t h]
    frame_out
    exact stored m c t y
  · rw [outsAt0_B m c t h]
    frame_out
    exact stored m c t y

/-- The norm's gradient after the run. -/
theorem final18 : (dats m 0 c).arrAt 18 cfg0.N = InputGrad.gradG (dh m c) (m ((c : Thread nD τ).loc main_arg14)) := by
  refine (dats m 0 c).arrAt_eq_of_covers 18 _ (by decide +kernel) fun t hf y => ?_
  blk_simp
  rw [after0_18, Pipeline.eq_sum_fin_of_reset_step_apply_of_flush (fun n h => (outsAt0 m c n h).2) 16 (fun _ => 0) _
    (fun t h j => by rw [outsAt0_A m c t h]; frame_out; rw [pay1_apply, zero_apply])
    (fun t h j => by rw [outsAt0_B m c t h]; frame_out; rw [pay1_apply])
    t ((flush0_18 t).mp hf) _, zero_add]
  have hN : cfg0.N = 16 := N_0
  have ht : t.val < 16 := lt_of_lt_of_eq t.isLt N_0
  unfold InputGrad.gradG
  refine Fin.sum_mul_add_congr fun s r hl => ?_
  have hs := s.isLt
  have hp : 16 * (t.val / 16) + s.val < cfg0.N := by omega
  have hn : s.val * 256 + r.val = (16 * (t.val / 16) + s.val) * 256 + r.val := by omega
  have hy : (((cfg0.win 18).blk t).view.emb y 1 : Fin 1024) = y 1 := by
    apply Fin.ext
    blk_simp [places t]
  rw [hy]
  exact congrArg₂ (fun a b : EReal => a * b) (tile_apply m c ⟨_, hp⟩ r (y 1) ⟨s.val * 256 + r.val, hl⟩ hn)
    (congrArg₂ (fun a b : EReal => a * b) (row_apply m c ⟨_, hp⟩ r (y 1) ⟨s.val * 256 + r.val, hl⟩ hn)
      (inv_apply m c ⟨_, hp⟩ r 0 ⟨s.val * 256 + r.val, hl⟩ hn))

end Cert.InputIdeal.Whole

end
-- ==== Proof.InputClaims.lean ====
/-
The claims about the gradient through the input projection.
-/
module

public import proofs.«01_k».proof.Defs
public import proofs.«01_k».proof.Proof.Gen.Input.Frame
public import proofs.«01_k».proof.Proof.InputKernel

@[expose] public section

set_option maxRecDepth 16384

noncomputable section

open Idealize.ShloMosaic Idealize.ShloMosaic.TcCoe Idealize.SL.Sem

namespace Cert.InputGrad

theorem frame_kernel : Cert.quiescent_Input := fun m ρ _ => Cert.Input.Gen.frame (F := Bits) m ρ
theorem frame_ideal : Cert.quiescent_InputIdeal := fun m ρ _ => Cert.InputIdeal.Gen.frame (F := Ideal) m ρ
theorem frame_ref_ideal : Cert.quiescent_InputRefIdeal := fun m ρ _ =>
  (θ_run _ _ _).mono (fun r h => ⟨fun c => (h c).2.2, sem_eq_zero_of_no_sems (by decide) r.2⟩) (Cert.InputRefIdeal.Value.run (F := Ideal) m ρ)

/-- In exact arithmetic, the kernel's and the reference's gradients are the same. -/
theorem algebraic : Cert.algebraic_InputIdeal_InputRefIdeal := fun m ρ m' ρ' _ hag =>
  ⟨_, _, (θ_run _ _ _).mono (fun r h c => ⟨(h c).1.trans (Cert.InputIdeal.Whole.final17 m c),
      (h c).2.1.trans (Cert.InputIdeal.Whole.final18 m c), (h c).2.2⟩) (Cert.InputIdeal.Value.run_blocks (F := Ideal) m ρ),
    (θ_run _ _ _).mono (fun r h c => by
      obtain ⟨hx, hg, hk⟩ := h c
      obtain ⟨a0, a1, a2, a3, a4, a5, a6, a7, a8, a9, a10, a11, a12, a13, a14, a15, a16⟩ := hag c
      refine ⟨hx.trans ?_, hg.trans ?_, hk⟩
      · unfold Cert.InputRefIdeal.Value.res_main_v29
        rw [a0, a1, a2, a3, a4, a5, a6, a7, a8, a9, a10, a11, a12, a13, a14, a15, a16]
        exact (gradX_arrays _ _ _ _).trans (congrArg (fun d => gradX d _ _ _) (dh_arrays _ _ _ _ _ _ _ _ _ _ _ _ _ _))
      · rw [a0, a1, a2, a3, a4, a5, a6, a7, a8, a9, a10, a11, a12, a13, a14]
        exact (gradG_arrays _ _).trans (congrArg (fun d => gradG d _) (dh_arrays _ _ _ _ _ _ _ _ _ _ _ _ _ _)))
    (Cert.InputRefIdeal.Value.run (F := Ideal) m' ρ')⟩

end Cert.InputGrad

end
-- ==== Proof.Contract.lean ====
/-
The product of two arrays contracted over the tokens, and the sum of the eight parts of 512 tokens that a run of grid
points adds up.
-/
module

public import Idealize.ShloMosaic.Lib.Pointwise
public import Idealize.ShloMosaic.Lib.Pipeline.Value

@[expose] public section

noncomputable section

open Idealize.ShloMosaic

namespace Cert.Contract

/-- What row `n` of two arrays adds to entry `i` of their product, contracted over the rows. -/
def term {φ₁ φ₂ : FTy} {M K N : ℕ} (a : (⟨2, ![M, K]⟩ : Shape).Idx → Ideal φ₁) (b : (⟨2, ![M, N]⟩ : Shape).Idx → Ideal φ₂) (n : Fin M)
    (i : (⟨2, ![K, N]⟩ : Shape).Idx) : EReal := a (ix2 n (i 0)) * b (ix2 n (i 1))

/-- The product of two arrays of 4096 rows, contracted over the rows. -/
def product {φ₁ φ₂ : FTy} {K N : ℕ} (a : (⟨2, ![4096, K]⟩ : Shape).Idx → Ideal φ₁) (b : (⟨2, ![4096, N]⟩ : Shape).Idx → Ideal φ₂) :
    (⟨2, ![K, N]⟩ : Shape).Idx → Ideal .f32 := fun i => ∑ n : Fin 4096, term a b n i

/-- Eight points, each of which adds the products over its 512 rows, the first to nothing, leave the sum over the 4096
rows. -/
theorem accumulated {T : ℕ} {ι : Type} (reset : (n : ℕ) → n < T → ι → EReal) (step : (n : ℕ) → n < T → (ι → EReal) → ι → EReal)
    (part : (n : ℕ) → n < T → Fin 512 → ι → EReal) (hr : ∀ n h j, reset n h j = ∑ k, part n h k j)
    (hs : ∀ n h acc j, step n h acc j = acc j + ∑ k, part n h k j) (g : ℕ) (h : 8 * g + 7 < T) (j : ι) (term : Fin 4096 → EReal)
    (ht : ∀ (s : Fin 8) (k : Fin 512) (hlt : 8 * g + s.val < T), part (8 * g + s.val) hlt k j = term ⟨s.val * 512 + k.val, by omega⟩) :
    Pipeline.accAt reset step (8 * g) 7 h j = ∑ n, term n := by
  refine (Pipeline.accAt_add_apply reset step (fun _ => 0) (fun n i => if hn : n < T then ∑ k, part n hn k i else 0)
    (8 * g) 7 ?_ ?_ 7 le_rfl h j).trans ?_
  · intro hb i
    rw [dif_pos hb, hr, zero_add]
  · intro n hn acc i _ _
    rw [dif_pos hn, hs]
  · rw [zero_add, Finset.sum_range, Fin.sum_univ_tiles 8 512 rfl]
    refine Finset.sum_congr rfl fun s _ => ?_
    have hlt : 8 * g + s.val < T := by omega
    rw [dif_pos hlt]
    exact Finset.sum_congr rfl fun k _ => ht s k hlt

end Cert.Contract

end
-- ==== Proof.DwClaims.lean ====
/-
The claims about the gradient of a weight, a matrix product whose contraction runs over the tokens, at each shape the
training step takes it: the kernel adds up eight products of 512 tokens each (Contract.lean), the reference contracts the
4096 tokens at once.
-/
module

public import proofs.«01_k».proof.Defs
public import proofs.«01_k».proof.Proof.Contract
public import proofs.«01_k».proof.Proof.Gen.DwDown.Frame
public import proofs.«01_k».proof.Proof.Gen.DwDownIdeal.Value
public import proofs.«01_k».proof.Proof.Gen.DwDownRefIdeal.Run
public import proofs.«01_k».proof.Proof.Gen.DwGate.Frame
public import proofs.«01_k».proof.Proof.Gen.DwGateIdeal.Value
public import proofs.«01_k».proof.Proof.Gen.DwGateRefIdeal.Run
public import proofs.«01_k».proof.Proof.Gen.DwIn2048.Frame
public import proofs.«01_k».proof.Proof.Gen.DwIn2048Ideal.Value
public import proofs.«01_k».proof.Proof.Gen.DwIn2048RefIdeal.Run
public import proofs.«01_k».proof.Proof.Gen.DwIn1536.Frame
public import proofs.«01_k».proof.Proof.Gen.DwIn1536Ideal.Value
public import proofs.«01_k».proof.Proof.Gen.DwIn1536RefIdeal.Run
public import proofs.«01_k».proof.Proof.Gen.DwIn512.Frame
public import proofs.«01_k».proof.Proof.Gen.DwIn512Ideal.Value
public import proofs.«01_k».proof.Proof.Gen.DwIn512RefIdeal.Run
public import proofs.«01_k».proof.Proof.Gen.DwIn128.Frame
public import proofs.«01_k».proof.Proof.Gen.DwIn128Ideal.Value
public import proofs.«01_k».proof.Proof.Gen.DwIn128RefIdeal.Run

@[expose] public section

noncomputable section

open Idealize.ShloMosaic Idealize.ShloMosaic.TcCoe Idealize.SL.Sem

/-! ## `w_down` -/

namespace Cert.DwDownIdeal.Whole

open Cert.DwDownIdeal Cert.DwDownIdeal.Gen Cert.DwDownIdeal.Value

variable (m : (ℓ : Loc nD τ sig) → Buf (Elt Ideal) ℓ) (c : Dev nD)

/-- Where the blocks of the two factors lie at each point. -/
theorem places : ∀ t : Fin cfg0.N, win0_0.index t (0 : Fin 2) = t.val % 8 ∧ win0_0.index t (1 : Fin 2) = t.val / 16
    ∧ win0_1.index t (0 : Fin 2) = t.val % 8 ∧ win0_1.index t (1 : Fin 2) = t.val / 8 % 2 :=
  (by decide +kernel : ∀ t : Fin grid0.N, _)

/-- One point's store: what was there plus the product of the point's blocks, contracted over their rows. -/
theorem pay_apply (acc : Vec Ideal S256x512 .f32) (a : Vec Ideal S512x256 .bf16) (b : Vec Ideal S512x512 .f32) (r : Fin 256) (l : Fin 512) :
    k0_pay2 acc a b (ix2 r l) = acc (ix2 r l) + ∑ k : Fin 512, a (ix2 k r) * b (ix2 k l) := by
  unfold k0_pay2
  pointwise

/-- What the program leaves in the result is the product. -/
theorem result : G2 m c = Contract.product (φ₁ := .bf16) (φ₂ := .f32) (V m c main_arg0) (V m c main_arg1) := by
  funext i
  have h0 : (i 0).val < 2816 := (i 0).isLt
  have h1 : (i 1).val < 1024 := (i 1).isLt
  have hN : cfg0.N = 176 := N_0
  have hq : run2Of i = 2 * ((i 0).val / 256 - 0) + 1 * ((i 1).val / 512 - 0) := rfl
  have hr : 8 * run2Of i + 7 < cfg0.N := by omega
  unfold G2
  rw [dif_pos hr]
  refine Contract.accumulated (ι := S256x512.Idx) (reset2 m c) (step2 m c)
    (fun n h => Contract.term (φ₁ := .bf16) (φ₂ := .f32) (M := 512) (K := 256) (N := 512) (iblk m c 0 ⟨n, h⟩) (iblk m c 1 ⟨n, h⟩))
    ?_ ?_ (run2Of i) hr (loc2Of i) (fun n => Contract.term (φ₁ := .bf16) (φ₂ := .f32) (M := 4096) (K := 2816) (N := 1024) (V m c main_arg0) (V m c main_arg1) n i) fun s k hlt => ?_
  · intro n h j
    obtain ⟨r, l, rfl⟩ : ∃ (r : Fin 256) (l : Fin 512), ix2 r l = j := ⟨j 0, j 1, by funext a; match a with | ⟨0, _⟩ => rfl | ⟨1, _⟩ => rfl⟩
    exact (pay_apply _ _ _ r l).trans (by unfold k0_pay1; pointwise; rfl)
  · intro n h acc j
    obtain ⟨r, l, rfl⟩ : ∃ (r : Fin 256) (l : Fin 512), ix2 r l = j := ⟨j 0, j 1, by funext a; match a with | ⟨0, _⟩ => rfl | ⟨1, _⟩ => rfl⟩
    exact pay_apply _ _ _ r l
  · obtain ⟨a0, a1, b0, b1⟩ := places ⟨8 * run2Of i + s.val, hlt⟩
    dsimp only at a0 a1 b0 b1
    refine congrArg₂ (fun x y : EReal => x * y) (congrArg (V m c main_arg0) (funext fun a => Fin.ext ?_)) (congrArg (V m c main_arg1) (funext fun a => Fin.ext ?_))
    · match a with
      | ⟨0, _⟩ => show win0_0.index _ (0 : Fin 2) * 512 + 1 * k.val = s.val * 512 + k.val; omega
      | ⟨1, _⟩ => show win0_0.index _ (1 : Fin 2) * 256 + 1 * ((i 0).val % 256) = (i 0).val; omega
    · match a with
      | ⟨0, _⟩ => show win0_1.index _ (0 : Fin 2) * 512 + 1 * k.val = s.val * 512 + k.val; omega
      | ⟨1, _⟩ => show win0_1.index _ (1 : Fin 2) * 512 + 1 * ((i 1).val % 512) = (i 1).val; omega

end Cert.DwDownIdeal.Whole

namespace Cert.DwDownClaims

open Cert.DwDownRefIdeal Cert.DwDownRefIdeal.Gen in
/-- The reference's product, entry by entry. -/
theorem product_arrays (a : S4096x2816.Idx → Ideal .bf16) (b : S4096x1024.Idx → Ideal .f32) :
    Host.dotGeneral (F := Ideal) (φ₁ := .f32) (φ₂ := .f32) dot_S2816x4096_S4096x1024_S2816x1024_1_0_0_1_n_n none (transpose S2816x4096 [1, 0] (extf .f32 a bitsLt_bf16_f32) transposes_S4096x2816_S2816x4096_1_0) b
      = Contract.product a b := by
  funext i
  obtain ⟨r, l, rfl⟩ : ∃ (r : Fin 2816) (l : Fin 1024), ix2 r l = i := ⟨i 0, i 1, by funext a; match a with | ⟨0, _⟩ => rfl | ⟨1, _⟩ => rfl⟩
  pointwise [Contract.product, Contract.term]

theorem frame_kernel : Cert.quiescent_DwDown := fun m ρ _ => Cert.DwDown.Gen.frame (F := Bits) m ρ
theorem frame_ideal : Cert.quiescent_DwDownIdeal := fun m ρ _ => Cert.DwDownIdeal.Gen.frame (F := Ideal) m ρ
theorem frame_ref_ideal : Cert.quiescent_DwDownRefIdeal := fun m ρ _ =>
  (θ_run _ _ _).mono (fun r h => ⟨fun c => (h c).2, sem_eq_zero_of_no_sems (by decide) r.2⟩) (Cert.DwDownRefIdeal.Value.run (F := Ideal) m ρ)

/-- In exact arithmetic, the kernel's and the reference's products are the same. -/
theorem algebraic : Cert.algebraic_DwDownIdeal_DwDownRefIdeal := fun m ρ m' ρ' _ hag =>
  ⟨_, (θ_run _ _ _).mono (fun r h c => ⟨((h c).1.trans (Cert.DwDownIdeal.Whole.result m c)), (h c).2⟩) (Cert.DwDownIdeal.Value.run (F := Ideal) m ρ),
    (θ_run _ _ _).mono (fun r h c => by
      obtain ⟨h0, hk⟩ := h c
      obtain ⟨a0, a1⟩ := hag c
      rw [a0, a1] at h0
      exact ⟨h0.trans (product_arrays _ _), hk⟩)
    (Cert.DwDownRefIdeal.Value.run (F := Ideal) m' ρ')⟩

end Cert.DwDownClaims

/-! ## The gate's half of `w_gate_up` (and of the other half, of the same shape) -/

namespace Cert.DwGateIdeal.Whole

open Cert.DwGateIdeal Cert.DwGateIdeal.Gen Cert.DwGateIdeal.Value

variable (m : (ℓ : Loc nD τ sig) → Buf (Elt Ideal) ℓ) (c : Dev nD)

/-- Where the blocks of the two factors lie at each point. -/
theorem places : ∀ t : Fin cfg0.N, win0_0.index t (0 : Fin 2) = t.val % 8 ∧ win0_0.index t (1 : Fin 2) = t.val / 88
    ∧ win0_1.index t (0 : Fin 2) = t.val % 8 ∧ win0_1.index t (1 : Fin 2) = t.val / 8 % 11 :=
  (by decide +kernel : ∀ t : Fin grid0.N, _)

/-- One point's store: what was there plus the product of the point's blocks, contracted over their rows. -/
theorem pay_apply (acc : Vec Ideal S1024x256 .f32) (a : Vec Ideal S512x1024 .bf16) (b : Vec Ideal S512x256 .bf16) (r : Fin 1024) (l : Fin 256) :
    k0_pay2 acc a b (ix2 r l) = acc (ix2 r l) + ∑ k : Fin 512, a (ix2 k r) * b (ix2 k l) := by
  unfold k0_pay2
  pointwise

/-- What the program leaves in the result is the product. -/
theorem result : G2 m c = Contract.product (φ₁ := .bf16) (φ₂ := .bf16) (V m c main_arg0) (V m c main_arg1) := by
  funext i
  have h0 : (i 0).val < 1024 := (i 0).isLt
  have h1 : (i 1).val < 2816 := (i 1).isLt
  have hN : cfg0.N = 88 := N_0
  have hq : run2Of i = 11 * ((i 0).val / 1024 - 0) + 1 * ((i 1).val / 256 - 0) := rfl
  have hr : 8 * run2Of i + 7 < cfg0.N := by omega
  unfold G2
  rw [dif_pos hr]
  refine Contract.accumulated (ι := S1024x256.Idx) (reset2 m c) (step2 m c)
    (fun n h => Contract.term (φ₁ := .bf16) (φ₂ := .bf16) (M := 512) (K := 1024) (N := 256) (iblk m c 0 ⟨n, h⟩) (iblk m c 1 ⟨n, h⟩))
    ?_ ?_ (run2Of i) hr (loc2Of i) (fun n => Contract.term (φ₁ := .bf16) (φ₂ := .bf16) (M := 4096) (K := 1024) (N := 2816) (V m c main_arg0) (V m c main_arg1) n i) fun s k hlt => ?_
  · intro n h j
    obtain ⟨r, l, rfl⟩ : ∃ (r : Fin 1024) (l : Fin 256), ix2 r l = j := ⟨j 0, j 1, by funext a; match a with | ⟨0, _⟩ => rfl | ⟨1, _⟩ => rfl⟩
    exact (pay_apply _ _ _ r l).trans (by unfold k0_pay1; pointwise; rfl)
  · intro n h acc j
    obtain ⟨r, l, rfl⟩ : ∃ (r : Fin 1024) (l : Fin 256), ix2 r l = j := ⟨j 0, j 1, by funext a; match a with | ⟨0, _⟩ => rfl | ⟨1, _⟩ => rfl⟩
    exact pay_apply _ _ _ r l
  · obtain ⟨a0, a1, b0, b1⟩ := places ⟨8 * run2Of i + s.val, hlt⟩
    dsimp only at a0 a1 b0 b1
    refine congrArg₂ (fun x y : EReal => x * y) (congrArg (V m c main_arg0) (funext fun a => Fin.ext ?_)) (congrArg (V m c main_arg1) (funext fun a => Fin.ext ?_))
    · match a with
      | ⟨0, _⟩ => show win0_0.index _ (0 : Fin 2) * 512 + 1 * k.val = s.val * 512 + k.val; omega
      | ⟨1, _⟩ => show win0_0.index _ (1 : Fin 2) * 1024 + 1 * ((i 0).val % 1024) = (i 0).val; omega
    · match a with
      | ⟨0, _⟩ => show win0_1.index _ (0 : Fin 2) * 512 + 1 * k.val = s.val * 512 + k.val; omega
      | ⟨1, _⟩ => show win0_1.index _ (1 : Fin 2) * 256 + 1 * ((i 1).val % 256) = (i 1).val; omega

end Cert.DwGateIdeal.Whole

namespace Cert.DwGateClaims

open Cert.DwGateRefIdeal Cert.DwGateRefIdeal.Gen in
/-- The reference's product, entry by entry. -/
theorem product_arrays (a : S4096x1024.Idx → Ideal .bf16) (b : S4096x2816.Idx → Ideal .bf16) :
    Host.dotGeneral (F := Ideal) (φ₁ := .f32) (φ₂ := .f32) dot_S1024x4096_S4096x2816_S1024x2816_1_0_0_1_n_n none (transpose S1024x4096 [1, 0] (extf .f32 a bitsLt_bf16_f32) transposes_S4096x1024_S1024x4096_1_0) (extf .f32 b bitsLt_bf16_f32)
      = Contract.product a b := by
  funext i
  obtain ⟨r, l, rfl⟩ : ∃ (r : Fin 1024) (l : Fin 2816), ix2 r l = i := ⟨i 0, i 1, by funext a; match a with | ⟨0, _⟩ => rfl | ⟨1, _⟩ => rfl⟩
  pointwise [Contract.product, Contract.term]

theorem frame_kernel : Cert.quiescent_DwGate := fun m ρ _ => Cert.DwGate.Gen.frame (F := Bits) m ρ
theorem frame_ideal : Cert.quiescent_DwGateIdeal := fun m ρ _ => Cert.DwGateIdeal.Gen.frame (F := Ideal) m ρ
theorem frame_ref_ideal : Cert.quiescent_DwGateRefIdeal := fun m ρ _ =>
  (θ_run _ _ _).mono (fun r h => ⟨fun c => (h c).2, sem_eq_zero_of_no_sems (by decide) r.2⟩) (Cert.DwGateRefIdeal.Value.run (F := Ideal) m ρ)

/-- In exact arithmetic, the kernel's and the reference's products are the same. -/
theorem algebraic : Cert.algebraic_DwGateIdeal_DwGateRefIdeal := fun m ρ m' ρ' _ hag =>
  ⟨_, (θ_run _ _ _).mono (fun r h c => ⟨((h c).1.trans (Cert.DwGateIdeal.Whole.result m c)), (h c).2⟩) (Cert.DwGateIdeal.Value.run (F := Ideal) m ρ),
    (θ_run _ _ _).mono (fun r h c => by
      obtain ⟨h0, hk⟩ := h c
      obtain ⟨a0, a1⟩ := hag c
      rw [a0, a1] at h0
      exact ⟨h0.trans (product_arrays _ _), hk⟩)
    (Cert.DwGateRefIdeal.Value.run (F := Ideal) m' ρ')⟩

end Cert.DwGateClaims

/-! ## The gates' columns of `w_in` -/

namespace Cert.DwIn2048Ideal.Whole

open Cert.DwIn2048Ideal Cert.DwIn2048Ideal.Gen Cert.DwIn2048Ideal.Value

variable (m : (ℓ : Loc nD τ sig) → Buf (Elt Ideal) ℓ) (c : Dev nD)

/-- Where the blocks of the two factors lie at each point. -/
theorem places : ∀ t : Fin cfg0.N, win0_0.index t (0 : Fin 2) = t.val % 8 ∧ win0_0.index t (1 : Fin 2) = t.val / 32
    ∧ win0_1.index t (0 : Fin 2) = t.val % 8 ∧ win0_1.index t (1 : Fin 2) = t.val / 8 % 4 :=
  (by decide +kernel : ∀ t : Fin grid0.N, _)

/-- One point's store: what was there plus the product of the point's blocks, contracted over their rows. -/
theorem pay_apply (acc : Vec Ideal S1024x512 .f32) (a : Vec Ideal S512x1024 .bf16) (b : Vec Ideal S512x512 .f32) (r : Fin 1024) (l : Fin 512) :
    k0_pay2 acc a b (ix2 r l) = acc (ix2 r l) + ∑ k : Fin 512, a (ix2 k r) * b (ix2 k l) := by
  unfold k0_pay2
  pointwise

/-- What the program leaves in the result is the product. -/
theorem result : G2 m c = Contract.product (φ₁ := .bf16) (φ₂ := .f32) (V m c main_arg0) (V m c main_arg1) := by
  funext i
  have h0 : (i 0).val < 1024 := (i 0).isLt
  have h1 : (i 1).val < 2048 := (i 1).isLt
  have hN : cfg0.N = 32 := N_0
  have hq : run2Of i = 4 * ((i 0).val / 1024 - 0) + 1 * ((i 1).val / 512 - 0) := rfl
  have hr : 8 * run2Of i + 7 < cfg0.N := by omega
  unfold G2
  rw [dif_pos hr]
  refine Contract.accumulated (ι := S1024x512.Idx) (reset2 m c) (step2 m c)
    (fun n h => Contract.term (φ₁ := .bf16) (φ₂ := .f32) (M := 512) (K := 1024) (N := 512) (iblk m c 0 ⟨n, h⟩) (iblk m c 1 ⟨n, h⟩))
    ?_ ?_ (run2Of i) hr (loc2Of i) (fun n => Contract.term (φ₁ := .bf16) (φ₂ := .f32) (M := 4096) (K := 1024) (N := 2048) (V m c main_arg0) (V m c main_arg1) n i) fun s k hlt => ?_
  · intro n h j
    obtain ⟨r, l, rfl⟩ : ∃ (r : Fin 1024) (l : Fin 512), ix2 r l = j := ⟨j 0, j 1, by funext a; match a with | ⟨0, _⟩ => rfl | ⟨1, _⟩ => rfl⟩
    exact (pay_apply _ _ _ r l).trans (by unfold k0_pay1; pointwise; rfl)
  · intro n h acc j
    obtain ⟨r, l, rfl⟩ : ∃ (r : Fin 1024) (l : Fin 512), ix2 r l = j := ⟨j 0, j 1, by funext a; match a with | ⟨0, _⟩ => rfl | ⟨1, _⟩ => rfl⟩
    exact pay_apply _ _ _ r l
  · obtain ⟨a0, a1, b0, b1⟩ := places ⟨8 * run2Of i + s.val, hlt⟩
    dsimp only at a0 a1 b0 b1
    refine congrArg₂ (fun x y : EReal => x * y) (congrArg (V m c main_arg0) (funext fun a => Fin.ext ?_)) (congrArg (V m c main_arg1) (funext fun a => Fin.ext ?_))
    · match a with
      | ⟨0, _⟩ => show win0_0.index _ (0 : Fin 2) * 512 + 1 * k.val = s.val * 512 + k.val; omega
      | ⟨1, _⟩ => show win0_0.index _ (1 : Fin 2) * 1024 + 1 * ((i 0).val % 1024) = (i 0).val; omega
    · match a with
      | ⟨0, _⟩ => show win0_1.index _ (0 : Fin 2) * 512 + 1 * k.val = s.val * 512 + k.val; omega
      | ⟨1, _⟩ => show win0_1.index _ (1 : Fin 2) * 512 + 1 * ((i 1).val % 512) = (i 1).val; omega

end Cert.DwIn2048Ideal.Whole

namespace Cert.DwIn2048Claims

open Cert.DwIn2048RefIdeal Cert.DwIn2048RefIdeal.Gen in
/-- The reference's product, entry by entry. -/
theorem product_arrays (a : S4096x1024.Idx → Ideal .bf16) (b : S4096x2048.Idx → Ideal .f32) :
    Host.dotGeneral (F := Ideal) (φ₁ := .f32) (φ₂ := .f32) dot_S1024x4096_S4096x2048_S1024x2048_1_0_0_1_n_n none (transpose S1024x4096 [1, 0] (extf .f32 a bitsLt_bf16_f32) transposes_S4096x1024_S1024x4096_1_0) b
      = Contract.product a b := by
  funext i
  obtain ⟨r, l, rfl⟩ : ∃ (r : Fin 1024) (l : Fin 2048), ix2 r l = i := ⟨i 0, i 1, by funext a; match a with | ⟨0, _⟩ => rfl | ⟨1, _⟩ => rfl⟩
  pointwise [Contract.product, Contract.term]

theorem frame_kernel : Cert.quiescent_DwIn2048 := fun m ρ _ => Cert.DwIn2048.Gen.frame (F := Bits) m ρ
theorem frame_ideal : Cert.quiescent_DwIn2048Ideal := fun m ρ _ => Cert.DwIn2048Ideal.Gen.frame (F := Ideal) m ρ
theorem frame_ref_ideal : Cert.quiescent_DwIn2048RefIdeal := fun m ρ _ =>
  (θ_run _ _ _).mono (fun r h => ⟨fun c => (h c).2, sem_eq_zero_of_no_sems (by decide) r.2⟩) (Cert.DwIn2048RefIdeal.Value.run (F := Ideal) m ρ)

/-- In exact arithmetic, the kernel's and the reference's products are the same. -/
theorem algebraic : Cert.algebraic_DwIn2048Ideal_DwIn2048RefIdeal := fun m ρ m' ρ' _ hag =>
  ⟨_, (θ_run _ _ _).mono (fun r h c => ⟨((h c).1.trans (Cert.DwIn2048Ideal.Whole.result m c)), (h c).2⟩) (Cert.DwIn2048Ideal.Value.run (F := Ideal) m ρ),
    (θ_run _ _ _).mono (fun r h c => by
      obtain ⟨h0, hk⟩ := h c
      obtain ⟨a0, a1⟩ := hag c
      rw [a0, a1] at h0
      exact ⟨h0.trans (product_arrays _ _), hk⟩)
    (Cert.DwIn2048RefIdeal.Value.run (F := Ideal) m' ρ')⟩

end Cert.DwIn2048Claims

/-! ## The convolution's columns of `w_in` -/

namespace Cert.DwIn1536Ideal.Whole

open Cert.DwIn1536Ideal Cert.DwIn1536Ideal.Gen Cert.DwIn1536Ideal.Value

variable (m : (ℓ : Loc nD τ sig) → Buf (Elt Ideal) ℓ) (c : Dev nD)

/-- Where the blocks of the two factors lie at each point. -/
theorem places : ∀ t : Fin cfg0.N, win0_0.index t (0 : Fin 2) = t.val % 8 ∧ win0_0.index t (1 : Fin 2) = t.val / 24
    ∧ win0_1.index t (0 : Fin 2) = t.val % 8 ∧ win0_1.index t (1 : Fin 2) = t.val / 8 % 3 :=
  (by decide +kernel : ∀ t : Fin grid0.N, _)

/-- One point's store: what was there plus the product of the point's blocks, contracted over their rows. -/
theorem pay_apply (acc : Vec Ideal S1024x512 .f32) (a : Vec Ideal S512x1024 .bf16) (b : Vec Ideal S512x512 .f32) (r : Fin 1024) (l : Fin 512) :
    k0_pay2 acc a b (ix2 r l) = acc (ix2 r l) + ∑ k : Fin 512, a (ix2 k r) * b (ix2 k l) := by
  unfold k0_pay2
  pointwise

/-- What the program leaves in the result is the product. -/
theorem result : G2 m c = Contract.product (φ₁ := .bf16) (φ₂ := .f32) (V m c main_arg0) (V m c main_arg1) := by
  funext i
  have h0 : (i 0).val < 1024 := (i 0).isLt
  have h1 : (i 1).val < 1536 := (i 1).isLt
  have hN : cfg0.N = 24 := N_0
  have hq : run2Of i = 3 * ((i 0).val / 1024 - 0) + 1 * ((i 1).val / 512 - 0) := rfl
  have hr : 8 * run2Of i + 7 < cfg0.N := by omega
  unfold G2
  rw [dif_pos hr]
  refine Contract.accumulated (ι := S1024x512.Idx) (reset2 m c) (step2 m c)
    (fun n h => Contract.term (φ₁ := .bf16) (φ₂ := .f32) (M := 512) (K := 1024) (N := 512) (iblk m c 0 ⟨n, h⟩) (iblk m c 1 ⟨n, h⟩))
    ?_ ?_ (run2Of i) hr (loc2Of i) (fun n => Contract.term (φ₁ := .bf16) (φ₂ := .f32) (M := 4096) (K := 1024) (N := 1536) (V m c main_arg0) (V m c main_arg1) n i) fun s k hlt => ?_
  · intro n h j
    obtain ⟨r, l, rfl⟩ : ∃ (r : Fin 1024) (l : Fin 512), ix2 r l = j := ⟨j 0, j 1, by funext a; match a with | ⟨0, _⟩ => rfl | ⟨1, _⟩ => rfl⟩
    exact (pay_apply _ _ _ r l).trans (by unfold k0_pay1; pointwise; rfl)
  · intro n h acc j
    obtain ⟨r, l, rfl⟩ : ∃ (r : Fin 1024) (l : Fin 512), ix2 r l = j := ⟨j 0, j 1, by funext a; match a with | ⟨0, _⟩ => rfl | ⟨1, _⟩ => rfl⟩
    exact pay_apply _ _ _ r l
  · obtain ⟨a0, a1, b0, b1⟩ := places ⟨8 * run2Of i + s.val, hlt⟩
    dsimp only at a0 a1 b0 b1
    refine congrArg₂ (fun x y : EReal => x * y) (congrArg (V m c main_arg0) (funext fun a => Fin.ext ?_)) (congrArg (V m c main_arg1) (funext fun a => Fin.ext ?_))
    · match a with
      | ⟨0, _⟩ => show win0_0.index _ (0 : Fin 2) * 512 + 1 * k.val = s.val * 512 + k.val; omega
      | ⟨1, _⟩ => show win0_0.index _ (1 : Fin 2) * 1024 + 1 * ((i 0).val % 1024) = (i 0).val; omega
    · match a with
      | ⟨0, _⟩ => show win0_1.index _ (0 : Fin 2) * 512 + 1 * k.val = s.val * 512 + k.val; omega
      | ⟨1, _⟩ => show win0_1.index _ (1 : Fin 2) * 512 + 1 * ((i 1).val % 512) = (i 1).val; omega

end Cert.DwIn1536Ideal.Whole

namespace Cert.DwIn1536Claims

open Cert.DwIn1536RefIdeal Cert.DwIn1536RefIdeal.Gen in
/-- The reference's product, entry by entry. -/
theorem product_arrays (a : S4096x1024.Idx → Ideal .bf16) (b : S4096x1536.Idx → Ideal .f32) :
    Host.dotGeneral (F := Ideal) (φ₁ := .f32) (φ₂ := .f32) dot_S1024x4096_S4096x1536_S1024x1536_1_0_0_1_n_n none (transpose S1024x4096 [1, 0] (extf .f32 a bitsLt_bf16_f32) transposes_S4096x1024_S1024x4096_1_0) b
      = Contract.product a b := by
  funext i
  obtain ⟨r, l, rfl⟩ : ∃ (r : Fin 1024) (l : Fin 1536), ix2 r l = i := ⟨i 0, i 1, by funext a; match a with | ⟨0, _⟩ => rfl | ⟨1, _⟩ => rfl⟩
  pointwise [Contract.product, Contract.term]

theorem frame_kernel : Cert.quiescent_DwIn1536 := fun m ρ _ => Cert.DwIn1536.Gen.frame (F := Bits) m ρ
theorem frame_ideal : Cert.quiescent_DwIn1536Ideal := fun m ρ _ => Cert.DwIn1536Ideal.Gen.frame (F := Ideal) m ρ
theorem frame_ref_ideal : Cert.quiescent_DwIn1536RefIdeal := fun m ρ _ =>
  (θ_run _ _ _).mono (fun r h => ⟨fun c => (h c).2, sem_eq_zero_of_no_sems (by decide) r.2⟩) (Cert.DwIn1536RefIdeal.Value.run (F := Ideal) m ρ)

/-- In exact arithmetic, the kernel's and the reference's products are the same. -/
theorem algebraic : Cert.algebraic_DwIn1536Ideal_DwIn1536RefIdeal := fun m ρ m' ρ' _ hag =>
  ⟨_, (θ_run _ _ _).mono (fun r h c => ⟨((h c).1.trans (Cert.DwIn1536Ideal.Whole.result m c)), (h c).2⟩) (Cert.DwIn1536Ideal.Value.run (F := Ideal) m ρ),
    (θ_run _ _ _).mono (fun r h c => by
      obtain ⟨h0, hk⟩ := h c
      obtain ⟨a0, a1⟩ := hag c
      rw [a0, a1] at h0
      exact ⟨h0.trans (product_arrays _ _), hk⟩)
    (Cert.DwIn1536RefIdeal.Value.run (F := Ideal) m' ρ')⟩

end Cert.DwIn1536Claims

/-! ## The columns of `w_in` of the first mixer's queries (and keys, values, and the second mixer's output gate) -/

namespace Cert.DwIn512Ideal.Whole

open Cert.DwIn512Ideal Cert.DwIn512Ideal.Gen Cert.DwIn512Ideal.Value

variable (m : (ℓ : Loc nD τ sig) → Buf (Elt Ideal) ℓ) (c : Dev nD)

/-- Where the blocks of the two factors lie at each point. -/
theorem places : ∀ t : Fin cfg0.N, win0_0.index t (0 : Fin 2) = t.val % 8 ∧ win0_0.index t (1 : Fin 2) = t.val / 8
    ∧ win0_1.index t (0 : Fin 2) = t.val % 8 ∧ win0_1.index t (1 : Fin 2) = t.val / 8 % 1 :=
  (by decide +kernel : ∀ t : Fin grid0.N, _)

/-- One point's store: what was there plus the product of the point's blocks, contracted over their rows. -/
theorem pay_apply (acc : Vec Ideal S1024x512 .f32) (a : Vec Ideal S512x1024 .bf16) (b : Vec Ideal S512x512 .f32) (r : Fin 1024) (l : Fin 512) :
    k0_pay2 acc a b (ix2 r l) = acc (ix2 r l) + ∑ k : Fin 512, a (ix2 k r) * b (ix2 k l) := by
  unfold k0_pay2
  pointwise

/-- What the program leaves in the result is the product. -/
theorem result : G2 m c = Contract.product (φ₁ := .bf16) (φ₂ := .f32) (V m c main_arg0) (V m c main_arg1) := by
  funext i
  have h0 : (i 0).val < 1024 := (i 0).isLt
  have h1 : (i 1).val < 512 := (i 1).isLt
  have hN : cfg0.N = 8 := N_0
  have hq : run2Of i = 1 * ((i 0).val / 1024 - 0) + 1 * ((i 1).val / 512 - 0) := rfl
  have hr : 8 * run2Of i + 7 < cfg0.N := by omega
  unfold G2
  rw [dif_pos hr]
  refine Contract.accumulated (ι := S1024x512.Idx) (reset2 m c) (step2 m c)
    (fun n h => Contract.term (φ₁ := .bf16) (φ₂ := .f32) (M := 512) (K := 1024) (N := 512) (iblk m c 0 ⟨n, h⟩) (iblk m c 1 ⟨n, h⟩))
    ?_ ?_ (run2Of i) hr (loc2Of i) (fun n => Contract.term (φ₁ := .bf16) (φ₂ := .f32) (M := 4096) (K := 1024) (N := 512) (V m c main_arg0) (V m c main_arg1) n i) fun s k hlt => ?_
  · intro n h j
    obtain ⟨r, l, rfl⟩ : ∃ (r : Fin 1024) (l : Fin 512), ix2 r l = j := ⟨j 0, j 1, by funext a; match a with | ⟨0, _⟩ => rfl | ⟨1, _⟩ => rfl⟩
    exact (pay_apply _ _ _ r l).trans (by unfold k0_pay1; pointwise; rfl)
  · intro n h acc j
    obtain ⟨r, l, rfl⟩ : ∃ (r : Fin 1024) (l : Fin 512), ix2 r l = j := ⟨j 0, j 1, by funext a; match a with | ⟨0, _⟩ => rfl | ⟨1, _⟩ => rfl⟩
    exact pay_apply _ _ _ r l
  · obtain ⟨a0, a1, b0, b1⟩ := places ⟨8 * run2Of i + s.val, hlt⟩
    dsimp only at a0 a1 b0 b1
    refine congrArg₂ (fun x y : EReal => x * y) (congrArg (V m c main_arg0) (funext fun a => Fin.ext ?_)) (congrArg (V m c main_arg1) (funext fun a => Fin.ext ?_))
    · match a with
      | ⟨0, _⟩ => show win0_0.index _ (0 : Fin 2) * 512 + 1 * k.val = s.val * 512 + k.val; omega
      | ⟨1, _⟩ => show win0_0.index _ (1 : Fin 2) * 1024 + 1 * ((i 0).val % 1024) = (i 0).val; omega
    · match a with
      | ⟨0, _⟩ => show win0_1.index _ (0 : Fin 2) * 512 + 1 * k.val = s.val * 512 + k.val; omega
      | ⟨1, _⟩ => show win0_1.index _ (1 : Fin 2) * 512 + 1 * ((i 1).val % 512) = (i 1).val; omega

end Cert.DwIn512Ideal.Whole

namespace Cert.DwIn512Claims

open Cert.DwIn512RefIdeal Cert.DwIn512RefIdeal.Gen in
/-- The reference's product, entry by entry. -/
theorem product_arrays (a : S4096x1024.Idx → Ideal .bf16) (b : S4096x512.Idx → Ideal .f32) :
    Host.dotGeneral (F := Ideal) (φ₁ := .f32) (φ₂ := .f32) dot_S1024x4096_S4096x512_S1024x512_1_0_0_1_n_n none (transpose S1024x4096 [1, 0] (extf .f32 a bitsLt_bf16_f32) transposes_S4096x1024_S1024x4096_1_0) b
      = Contract.product a b := by
  funext i
  obtain ⟨r, l, rfl⟩ : ∃ (r : Fin 1024) (l : Fin 512), ix2 r l = i := ⟨i 0, i 1, by funext a; match a with | ⟨0, _⟩ => rfl | ⟨1, _⟩ => rfl⟩
  pointwise [Contract.product, Contract.term]

theorem frame_kernel : Cert.quiescent_DwIn512 := fun m ρ _ => Cert.DwIn512.Gen.frame (F := Bits) m ρ
theorem frame_ideal : Cert.quiescent_DwIn512Ideal := fun m ρ _ => Cert.DwIn512Ideal.Gen.frame (F := Ideal) m ρ
theorem frame_ref_ideal : Cert.quiescent_DwIn512RefIdeal := fun m ρ _ =>
  (θ_run _ _ _).mono (fun r h => ⟨fun c => (h c).2, sem_eq_zero_of_no_sems (by decide) r.2⟩) (Cert.DwIn512RefIdeal.Value.run (F := Ideal) m ρ)

/-- In exact arithmetic, the kernel's and the reference's products are the same. -/
theorem algebraic : Cert.algebraic_DwIn512Ideal_DwIn512RefIdeal := fun m ρ m' ρ' _ hag =>
  ⟨_, (θ_run _ _ _).mono (fun r h c => ⟨((h c).1.trans (Cert.DwIn512Ideal.Whole.result m c)), (h c).2⟩) (Cert.DwIn512Ideal.Value.run (F := Ideal) m ρ),
    (θ_run _ _ _).mono (fun r h c => by
      obtain ⟨h0, hk⟩ := h c
      obtain ⟨a0, a1⟩ := hag c
      rw [a0, a1] at h0
      exact ⟨h0.trans (product_arrays _ _), hk⟩)
    (Cert.DwIn512RefIdeal.Value.run (F := Ideal) m' ρ')⟩

end Cert.DwIn512Claims

/-! ## The columns of `w_in` of the rates and decays -/

namespace Cert.DwIn128Ideal.Whole

open Cert.DwIn128Ideal Cert.DwIn128Ideal.Gen Cert.DwIn128Ideal.Value

variable (m : (ℓ : Loc nD τ sig) → Buf (Elt Ideal) ℓ) (c : Dev nD)

/-- Where the blocks of the two factors lie at each point. -/
theorem places : ∀ t : Fin cfg0.N, win0_0.index t (0 : Fin 2) = t.val % 8 ∧ win0_0.index t (1 : Fin 2) = t.val / 8
    ∧ win0_1.index t (0 : Fin 2) = t.val % 8 ∧ win0_1.index t (1 : Fin 2) = t.val / 8 % 1 :=
  (by decide +kernel : ∀ t : Fin grid0.N, _)

/-- One point's store: what was there plus the product of the point's blocks, contracted over their rows. -/
theorem pay_apply (acc : Vec Ideal S1024x128 .f32) (a : Vec Ideal S512x1024 .bf16) (b : Vec Ideal S512x128 .f32) (r : Fin 1024) (l : Fin 128) :
    k0_pay2 acc a b (ix2 r l) = acc (ix2 r l) + ∑ k : Fin 512, a (ix2 k r) * b (ix2 k l) := by
  unfold k0_pay2
  pointwise

/-- What the program leaves in the result is the product. -/
theorem result : G2 m c = Contract.product (φ₁ := .bf16) (φ₂ := .f32) (V m c main_arg0) (V m c main_arg1) := by
  funext i
  have h0 : (i 0).val < 1024 := (i 0).isLt
  have h1 : (i 1).val < 128 := (i 1).isLt
  have hN : cfg0.N = 8 := N_0
  have hq : run2Of i = 1 * ((i 0).val / 1024 - 0) + 1 * ((i 1).val / 128 - 0) := rfl
  have hr : 8 * run2Of i + 7 < cfg0.N := by omega
  unfold G2
  rw [dif_pos hr]
  refine Contract.accumulated (ι := S1024x128.Idx) (reset2 m c) (step2 m c)
    (fun n h => Contract.term (φ₁ := .bf16) (φ₂ := .f32) (M := 512) (K := 1024) (N := 128) (iblk m c 0 ⟨n, h⟩) (iblk m c 1 ⟨n, h⟩))
    ?_ ?_ (run2Of i) hr (loc2Of i) (fun n => Contract.term (φ₁ := .bf16) (φ₂ := .f32) (M := 4096) (K := 1024) (N := 128) (V m c main_arg0) (V m c main_arg1) n i) fun s k hlt => ?_
  · intro n h j
    obtain ⟨r, l, rfl⟩ : ∃ (r : Fin 1024) (l : Fin 128), ix2 r l = j := ⟨j 0, j 1, by funext a; match a with | ⟨0, _⟩ => rfl | ⟨1, _⟩ => rfl⟩
    exact (pay_apply _ _ _ r l).trans (by unfold k0_pay1; pointwise; rfl)
  · intro n h acc j
    obtain ⟨r, l, rfl⟩ : ∃ (r : Fin 1024) (l : Fin 128), ix2 r l = j := ⟨j 0, j 1, by funext a; match a with | ⟨0, _⟩ => rfl | ⟨1, _⟩ => rfl⟩
    exact pay_apply _ _ _ r l
  · obtain ⟨a0, a1, b0, b1⟩ := places ⟨8 * run2Of i + s.val, hlt⟩
    dsimp only at a0 a1 b0 b1
    refine congrArg₂ (fun x y : EReal => x * y) (congrArg (V m c main_arg0) (funext fun a => Fin.ext ?_)) (congrArg (V m c main_arg1) (funext fun a => Fin.ext ?_))
    · match a with
      | ⟨0, _⟩ => show win0_0.index _ (0 : Fin 2) * 512 + 1 * k.val = s.val * 512 + k.val; omega
      | ⟨1, _⟩ => show win0_0.index _ (1 : Fin 2) * 1024 + 1 * ((i 0).val % 1024) = (i 0).val; omega
    · match a with
      | ⟨0, _⟩ => show win0_1.index _ (0 : Fin 2) * 512 + 1 * k.val = s.val * 512 + k.val; omega
      | ⟨1, _⟩ => show win0_1.index _ (1 : Fin 2) * 128 + 1 * ((i 1).val % 128) = (i 1).val; omega

end Cert.DwIn128Ideal.Whole

namespace Cert.DwIn128Claims

open Cert.DwIn128RefIdeal Cert.DwIn128RefIdeal.Gen in
/-- The reference's product, entry by entry. -/
theorem product_arrays (a : S4096x1024.Idx → Ideal .bf16) (b : S4096x128.Idx → Ideal .f32) :
    Host.dotGeneral (F := Ideal) (φ₁ := .f32) (φ₂ := .f32) dot_S1024x4096_S4096x128_S1024x128_1_0_0_1_n_n none (transpose S1024x4096 [1, 0] (extf .f32 a bitsLt_bf16_f32) transposes_S4096x1024_S1024x4096_1_0) b
      = Contract.product a b := by
  funext i
  obtain ⟨r, l, rfl⟩ : ∃ (r : Fin 1024) (l : Fin 128), ix2 r l = i := ⟨i 0, i 1, by funext a; match a with | ⟨0, _⟩ => rfl | ⟨1, _⟩ => rfl⟩
  pointwise [Contract.product, Contract.term]

theorem frame_kernel : Cert.quiescent_DwIn128 := fun m ρ _ => Cert.DwIn128.Gen.frame (F := Bits) m ρ
theorem frame_ideal : Cert.quiescent_DwIn128Ideal := fun m ρ _ => Cert.DwIn128Ideal.Gen.frame (F := Ideal) m ρ
theorem frame_ref_ideal : Cert.quiescent_DwIn128RefIdeal := fun m ρ _ =>
  (θ_run _ _ _).mono (fun r h => ⟨fun c => (h c).2, sem_eq_zero_of_no_sems (by decide) r.2⟩) (Cert.DwIn128RefIdeal.Value.run (F := Ideal) m ρ)

/-- In exact arithmetic, the kernel's and the reference's products are the same. -/
theorem algebraic : Cert.algebraic_DwIn128Ideal_DwIn128RefIdeal := fun m ρ m' ρ' _ hag =>
  ⟨_, (θ_run _ _ _).mono (fun r h c => ⟨((h c).1.trans (Cert.DwIn128Ideal.Whole.result m c)), (h c).2⟩) (Cert.DwIn128Ideal.Value.run (F := Ideal) m ρ),
    (θ_run _ _ _).mono (fun r h c => by
      obtain ⟨h0, hk⟩ := h c
      obtain ⟨a0, a1⟩ := hag c
      rw [a0, a1] at h0
      exact ⟨h0.trans (product_arrays _ _), hk⟩)
    (Cert.DwIn128RefIdeal.Value.run (F := Ideal) m' ρ')⟩

end Cert.DwIn128Claims

end
-- ==== Proof.Rows.lean ====
/-
The arithmetic of one token: a row of an array, the RMS norm of a row and the gradient through it, a row times a matrix, and
the sigmoid. The layers of the forward and backward pass are stated in these terms, whatever rows a program works on at once.
-/
module

public import Idealize.ShloMosaic.Lib.Pipeline.ValueKit

@[expose] public section

noncomputable section

open Idealize.ShloMosaic

namespace Cert.Rows

/-- The numbers 1024, one millionth, one and zero, as the programs write them. -/
abbrev cols : EReal := Ideal.ofBits .f32 0x44800000#32
abbrev small : EReal := Ideal.ofBits .f32 0x358637BD#32
abbrev one : EReal := Ideal.ofBits .f32 0x3F800000#32

/-- The reciprocal of the root mean square of a row. -/
def rinv (x : Fin 1024 → EReal) : EReal := Ideal.rsqrt (Ideal.div (∑ k, x k * x k) cols + small)

/-- The RMS norm of a row, with a gain. -/
def normed (x g : Fin 1024 → EReal) (l : Fin 1024) : EReal := x l * rinv x * g l

/-- The gradient at the norm's input, from the gradient `d` at its output. -/
def normBack (d x g : Fin 1024 → EReal) (l : Fin 1024) : EReal :=
  rinv x * (d l * g l - x l * rinv x * Ideal.div (∑ k, d k * g k * (x k * rinv x)) cols)

/-- A row's part of the gradient of the gain. -/
def gainBack (d x : Fin 1024 → EReal) (l : Fin 1024) : EReal := d l * (x l * rinv x)

/-- A row times a matrix. -/
def times {K N : ℕ} (h : Fin K → EReal) (w : Fin K → Fin N → EReal) (l : Fin N) : EReal := ∑ k, h k * w k l

/-- The logistic function. -/
def sigmoid (v : EReal) : EReal := Ideal.div one (one + Ideal.exp (-v))

/-- A finite number that is not negative may be multiplied into a sum. -/
theorem scale_sum {ι : Type} (c : EReal) (h0 : 0 ≤ c) (ht : c ≠ ⊤) (s : Finset ι) (f : ι → EReal) :
    c * ∑ i ∈ s, f i = ∑ i ∈ s, c * f i := by
  classical
  induction s using Finset.induction_on with
  | empty => simp
  | insert a s ha ih => rw [Finset.sum_insert ha, Finset.sum_insert ha, EReal.left_distrib_of_nonneg_of_ne_top h0 ht, ih]

/-- The number 1024. -/
theorem cols_eq : cols = ((1024 : ℝ) : EReal) := by
  simp [cols, Ideal.ofBits, Ideal.ieee, -EReal.coe_mul]; norm_num

/-- Dividing by 1024 is multiplying by its reciprocal, a number that is finite and not negative. -/
theorem div_cols (x : EReal) : Ideal.div x cols = cols⁻¹ * x := by
  have h : cols ≠ 0 := by rw [cols_eq]; exact_mod_cast (by norm_num : (1024 : ℝ) ≠ 0)
  unfold Ideal.div
  rw [if_neg h, mul_comm]

theorem cols_inv_nonneg : 0 ≤ cols⁻¹ := by
  refine EReal.inv_nonneg_of_nonneg ?_
  rw [cols_eq]
  exact_mod_cast (by norm_num : (0 : ℝ) ≤ 1024)

theorem cols_inv_ne_top : cols⁻¹ ≠ ⊤ := (EReal.inv_lt_top _).ne

end Cert.Rows

end
-- ==== Proof.HeadMath.lean ====
/-
The last part of the network for one token: the embedding gate, the last norm and the loss, and their gradients.
-/
module

public import proofs.«01_k».proof.Proof.Rows

@[expose] public section

noncomputable section

open Idealize.ShloMosaic

namespace Cert.HeadRow

open Cert.Rows

/-- The numbers one half and 1/1024, as the programs write them. -/
abbrev half : EReal := Ideal.ofBits .f32 0x3F000000#32
abbrev share : EReal := Ideal.ofBits .f32 0x3A800000#32

/-- The embedding gate of a token. -/
def gate (x gp : Fin 1024 → EReal) (wg : Fin 1024 → Fin 1024 → EReal) (l : Fin 1024) : EReal :=
  sigmoid (times (normed x gp) wg l)

/-- The stream after the gated embedding is added. -/
def stream (x : Fin 1024 → EReal) (p : Fin 256 → EReal) (gp : Fin 1024 → EReal) (wg : Fin 1024 → Fin 1024 → EReal)
    (wp : Fin 256 → Fin 1024 → EReal) (l : Fin 1024) : EReal := x l + gate x gp wg l * times p wp l

/-- What the last norm's output misses the target by. -/
def err (x3 gf t : Fin 1024 → EReal) (l : Fin 1024) : EReal := normed x3 gf l - t l

/-- The gradient at the last norm's output. -/
def dy (x3 gf t : Fin 1024 → EReal) (l : Fin 1024) : EReal := err x3 gf t l * share

/-- The gradient at the stream before the last norm. -/
def dstream (x3 gf t : Fin 1024 → EReal) (l : Fin 1024) : EReal := normBack (dy x3 gf t) x3 gf l

/-- The gradient at the gate's argument, from the one at the stream, the projected embedding and the gate. -/
def dz (d emb gt : Fin 1024 → EReal) (l : Fin 1024) : EReal := d l * emb l * gt l * (one - gt l)

/-- The gradient at the output of the norm before the gate. -/
def dh (z : Fin 1024 → EReal) (wg : Fin 1024 → Fin 1024 → EReal) (l : Fin 1024) : EReal := ∑ k, z k * wg l k

section Token

variable (x : Fin 1024 → EReal) (p : Fin 256 → EReal) (t gp gf : Fin 1024 → EReal) (wg : Fin 1024 → Fin 1024 → EReal)
  (wp : Fin 256 → Fin 1024 → EReal)

/-- The same quantities of a token, all the way from the arguments: the gradient at the stream before the last norm, at the
gate's argument, at the output of the norm before the gate, and at the stream that comes in. -/
def tokStream : Fin 1024 → EReal := dstream (stream x p gp wg wp) gf t
def tokZ : Fin 1024 → EReal := dz (tokStream x p t gp gf wg wp) (times p wp) (gate x gp wg)
def tokHidden : Fin 1024 → EReal := dh (tokZ x p t gp gf wg wp) wg
def tokX (l : Fin 1024) : EReal := tokStream x p t gp gf wg wp l + normBack (tokHidden x p t gp gf wg wp) x gp l

/-- The gradient at the projected embedding. -/
def tokEmb (l : Fin 1024) : EReal := tokStream x p t gp gf wg wp l * gate x gp wg l

/-- The squared error of a token, and what the token adds to the gradients of the two gains. -/
def tokSquare : EReal := ∑ k, err (stream x p gp wg wp) gf t k * err (stream x p gp wg wp) gf t k
def tokGainLast (l : Fin 1024) : EReal := gainBack (dy (stream x p gp wg wp) gf t) (stream x p gp wg wp) l
def tokGainGate (l : Fin 1024) : EReal := gainBack (tokHidden x p t gp gf wg wp) x l

end Token

/-- The number one half is finite and not negative. -/
theorem half_eq : half = (((1 : ℝ) / 2 : ℝ) : EReal) := by
  simp [half, Ideal.ofBits, Ideal.ieee, -EReal.coe_mul]; norm_num

theorem half_nonneg : 0 ≤ half := by
  rw [half_eq]
  exact_mod_cast (by norm_num : (0 : ℝ) ≤ 1 / 2)

theorem half_ne_top : half ≠ ⊤ := by
  rw [half_eq]
  exact EReal.coe_ne_top _

/-- Half a sum over 1024 is the sum of the halves over 1024. -/
theorem half_mean {N : ℕ} (q : Fin N → EReal) : Ideal.div (half * ∑ r, q r) cols = ∑ r, half * Ideal.div (q r) cols := by
  rw [div_cols, scale_sum half half_nonneg half_ne_top, scale_sum _ cols_inv_nonneg cols_inv_ne_top]
  refine Finset.sum_congr rfl fun r _ => ?_
  rw [div_cols, mul_left_comm]

end Cert.HeadRow

end
-- ==== Proof.HeadArrays.lean ====
/-
The head's results as arrays of the arguments, token by token, and the reference's arrays read as those.
-/
module

public import proofs.«01_k».proof.Defs
public import Idealize.ShloMosaic.Lib.Pointwise
public import proofs.«01_k».proof.Proof.Gen.HeadRefIdeal.Run
public import proofs.«01_k».proof.Proof.HeadMath

@[expose] public section

set_option maxRecDepth 16384

noncomputable section

open Idealize.ShloMosaic Idealize.ShloMosaic.TcCoe Idealize.SL.Sem

namespace Cert.HeadGrad

open Cert.HeadRefIdeal Cert.HeadRefIdeal.Gen Cert.Rows

/-- A token's row of an array, a gain as a row, and a weight as a matrix. -/
abbrev row (x : FVec Ideal S4096x1024 .f32) (n : Fin 4096) (l : Fin 1024) : EReal := x (ix2 n l)
abbrev rowP (x : FVec Ideal S4096x256 .f32) (n : Fin 4096) (l : Fin 256) : EReal := x (ix2 n l)
abbrev gain (g : FVec Ideal S1x1024 .f32) (l : Fin 1024) : EReal := g (ix2 0 l)
abbrev mat (w : FVec Ideal S1024x1024 .bf16) (k l : Fin 1024) : EReal := w (ix2 k l)
abbrev matP (w : FVec Ideal S256x1024 .bf16) (k : Fin 256) (l : Fin 1024) : EReal := w (ix2 k l)

section Results

variable (x : FVec Ideal S4096x1024 .f32) (p : FVec Ideal S4096x256 .f32) (t : FVec Ideal S4096x1024 .f32)
  (gp gf : FVec Ideal S1x1024 .f32) (wg : FVec Ideal S1024x1024 .bf16) (wp : FVec Ideal S256x1024 .bf16)

/-- The gradient of the stream. -/
def outX : FVec Ideal S4096x1024 .f32 := fun i =>
  HeadRow.tokX (row x (i 0)) (rowP p (i 0)) (row t (i 0)) (gain gp) (gain gf) (mat wg) (matP wp) (i 1)

/-- The gradients of the gate's and of the projection's weights. -/
def outGate : FVec Ideal S1024x1024 .f32 := fun i =>
  ∑ n, normed (row x n) (gain gp) (i 0) * HeadRow.tokZ (row x n) (rowP p n) (row t n) (gain gp) (gain gf) (mat wg) (matP wp) (i 1)
def outEmb : FVec Ideal S256x1024 .f32 := fun i =>
  ∑ n, rowP p n (i 0) * HeadRow.tokEmb (row x n) (rowP p n) (row t n) (gain gp) (gain gf) (mat wg) (matP wp) (i 1)

/-- The gradients of the two gains, in each of eight equal rows. -/
def outGainGate : FVec Ideal S8x1024 .f32 := fun i =>
  ∑ n, HeadRow.tokGainGate (row x n) (rowP p n) (row t n) (gain gp) (gain gf) (mat wg) (matP wp) (i 1)
def outGainLast : FVec Ideal S8x1024 .f32 := fun i =>
  ∑ n, HeadRow.tokGainLast (row x n) (rowP p n) (row t n) (gain gp) (gain gf) (mat wg) (matP wp) (i 1)

/-- The loss, in every entry. -/
def outLoss : FVec Ideal S8x128 .f32 := fun _ =>
  HeadRow.half * ∑ n, Ideal.div (HeadRow.tokSquare (row x n) (rowP p n) (row t n) (gain gp) (gain gf) (mat wg) (matP wp)) cols

end Results

section Arrays

variable (x d y t emb gt : FVec Ideal S4096x1024 .f32) (p : FVec Ideal S4096x256 .f32) (g gp gf : FVec Ideal S1x1024 .f32)
  (wg : FVec Ideal S1024x1024 .bf16) (wp : FVec Ideal S256x1024 .bf16) (n : Fin 4096) (l : Fin 1024)

/-- The reference's arrays, in the order it computes them: the reciprocal root mean squares, a column spread over the row, a
gain spread over the rows, the row divided by its root mean square, the norm and the gradient through it. -/
abbrev spread (v : FVec Ideal S4096x1 .f32) : FVec Ideal S4096x1024 .f32 := broadcastInDim S4096x1024 ![0, 1] bcast_S4096x1_S4096x1024_0_1 v
abbrev gains : FVec Ideal S4096x1024 .f32 := broadcastInDim S4096x1024 ![0, 1] bcast_S1x1024_S4096x1024_0_1 g
abbrev means : FVec Ideal S4096x1 .f32 :=
  Host.divf (broadcastInDim S4096x1 ![0] bcast_S4096_S4096x1_0 (Host.reduceAdd x (constant S_ .f32 0x00000000#32) reducesTo_S4096x1024_S4096_d1 h_S_))
    (broadcastInDim S4096x1 ![] bcast_S_S4096x1 (constant S_ .f32 0x44800000#32))
def invs : FVec Ideal S4096x1 .f32 :=
  Host.rsqrt (addf (means (mulf x x)) (broadcastInDim S4096x1 ![] bcast_S_S4096x1 (constant S_ .f32 0x358637BD#32)))
def units : FVec Ideal S4096x1024 .f32 := mulf x (spread (invs x))
def norms : FVec Ideal S4096x1024 .f32 := mulf (units x) (gains g)
def backs : FVec Ideal S4096x1024 .f32 :=
  mulf (spread (invs x)) (subf (mulf d (gains g)) (mulf (units x) (spread (means (mulf (mulf d (gains g)) (units x))))))

theorem invs_apply (z : Fin 1) : invs x (ix2 n z) = rinv (row x n) := by
  pointwise [invs, rinv]

theorem units_apply : units x (ix2 n l) = x (ix2 n l) * rinv (row x n) := by
  pointwise [units, invs_apply]

theorem norms_apply : norms x g (ix2 n l) = normed (row x n) (gain g) l := by
  pointwise [norms, units_apply, normed]

theorem backs_apply : backs x d g (ix2 n l) = normBack (row d n) (row x n) (gain g) l := by
  pointwise [backs, units_apply, invs_apply, normBack]

/-- The gate, the projected embedding and the stream after it. -/
abbrev ones : FVec Ideal S4096x1024 .f32 := broadcastInDim S4096x1024 ![] bcast_S_S4096x1024 (constant S_ .f32 0x3F800000#32)
abbrev wide : FVec Ideal S1024x1024 .f32 := extf .f32 wg bitsLt_bf16_f32
def gates : FVec Ideal S4096x1024 .f32 := Host.divf ones (addf ones (Host.exp (Host.negf
  (Host.dotGeneral (F := Ideal) (φ₁ := .f32) (φ₂ := .f32) dot_S4096x1024_S1024x1024_S4096x1024_1_0_0_1_n_n none (norms x gp) (wide wg)))))
def embs : FVec Ideal S4096x1024 .f32 :=
  Host.dotGeneral (F := Ideal) (φ₁ := .f32) (φ₂ := .f32) dot_S4096x256_S256x1024_S4096x1024_1_0_0_1_n_n none p (extf .f32 wp bitsLt_bf16_f32)
def streams : FVec Ideal S4096x1024 .f32 := addf x (mulf (gates x gp wg) (embs p wp))
def errs : FVec Ideal S4096x1024 .f32 := subf (norms y gf) t
def dys : FVec Ideal S4096x1024 .f32 := mulf (errs y t gf) (broadcastInDim S4096x1024 ![] bcast_S_S4096x1024 (constant S_ .f32 0x3A800000#32))

theorem gates_apply : gates x gp wg (ix2 n l) = HeadRow.gate (row x n) (gain gp) (mat wg) l := by
  pointwise [gates, norms_apply, HeadRow.gate, times, sigmoid]

theorem embs_apply : embs p wp (ix2 n l) = times (rowP p n) (matP wp) l := by
  pointwise [embs, times]

theorem streams_apply : streams x p gp wg wp (ix2 n l)
    = HeadRow.stream (row x n) (rowP p n) (gain gp) (mat wg) (matP wp) l := by
  pointwise [streams, gates_apply, embs_apply, HeadRow.stream]

theorem errs_apply : errs y t gf (ix2 n l) = HeadRow.err (row y n) (gain gf) (row t n) l := by
  pointwise [errs, norms_apply, HeadRow.err]

theorem dys_apply : dys y t gf (ix2 n l) = HeadRow.dy (row y n) (gain gf) (row t n) l := by
  pointwise [dys, errs_apply, HeadRow.dy]

theorem gates_row : row (gates x gp wg) n = HeadRow.gate (row x n) (gain gp) (mat wg) := funext fun l => gates_apply x gp wg n l
theorem embs_row : row (embs p wp) n = times (rowP p n) (matP wp) := funext fun l => embs_apply p wp n l
theorem streams_row : row (streams x p gp wg wp) n = HeadRow.stream (row x n) (rowP p n) (gain gp) (mat wg) (matP wp) :=
  funext fun l => streams_apply x p gp wg wp n l
theorem dys_row : row (dys y t gf) n = HeadRow.dy (row y n) (gain gf) (row t n) := funext fun l => dys_apply y t gf n l

/-- The gradients at the gate's argument and at the output of the norm before it. -/
def zs : FVec Ideal S4096x1024 .f32 := mulf (mulf (mulf d emb) gt) (subf ones gt)
def hiddens : FVec Ideal S4096x1024 .f32 :=
  Host.dotGeneral (F := Ideal) (φ₁ := .f32) (φ₂ := .f32) dot_S4096x1024_S1024x1024_S4096x1024_1_0_0_1_n_n none d
    (transpose S1024x1024 [1, 0] (wide wg) transposes_S1024x1024_S1024x1024_1_0)

theorem zs_apply : zs d emb gt (ix2 n l) = HeadRow.dz (row d n) (row emb n) (row gt n) l := by
  pointwise [zs, HeadRow.dz]

theorem hiddens_apply : hiddens d wg (ix2 n l) = HeadRow.dh (row d n) (mat wg) l := by
  pointwise [hiddens, HeadRow.dh]

/-- The same, of the arguments. -/
abbrev dstreams : FVec Ideal S4096x1024 .f32 :=
  backs (streams x p gp wg wp) (dys (streams x p gp wg wp) t gf) gf
abbrev dzs : FVec Ideal S4096x1024 .f32 := zs (dstreams x t p gp gf wg wp) (embs p wp) (gates x gp wg)
abbrev dhs : FVec Ideal S4096x1024 .f32 := hiddens (dzs x t p gp gf wg wp) wg

theorem dstreams_row : row (dstreams x t p gp gf wg wp) n
    = HeadRow.tokStream (row x n) (rowP p n) (row t n) (gain gp) (gain gf) (mat wg) (matP wp) := by
  funext l
  refine (backs_apply ..).trans ?_
  rw [dys_row, streams_row]
  rfl

theorem dzs_row : row (dzs x t p gp gf wg wp) n
    = HeadRow.tokZ (row x n) (rowP p n) (row t n) (gain gp) (gain gf) (mat wg) (matP wp) := by
  funext l
  refine (zs_apply ..).trans ?_
  rw [dstreams_row, embs_row, gates_row]
  rfl

theorem dhs_row : row (dhs x t p gp gf wg wp) n
    = HeadRow.tokHidden (row x n) (rowP p n) (row t n) (gain gp) (gain gf) (mat wg) (matP wp) := by
  funext l
  refine (hiddens_apply ..).trans ?_
  rw [dzs_row]
  rfl

/-- The reference's results are the arrays above. -/
theorem outX_arrays : addf (dstreams x t p gp gf wg wp) (backs x (dhs x t p gp gf wg wp) gp) = outX x p t gp gf wg wp := by
  funext i
  obtain ⟨n, l, rfl⟩ : ∃ (n : Fin 4096) (l : Fin 1024), ix2 n l = i := ⟨i 0, i 1, by funext a; match a with | ⟨0, _⟩ => rfl | ⟨1, _⟩ => rfl⟩
  refine congrArg₂ (fun a b : EReal => a + b) (congrFun (dstreams_row x t p gp gf wg wp n) l) ((backs_apply ..).trans ?_)
  rw [dhs_row]
  rfl

theorem outGate_arrays : Host.dotGeneral (F := Ideal) (φ₁ := .f32) (φ₂ := .f32) dot_S1024x4096_S4096x1024_S1024x1024_1_0_0_1_n_n none
    (transpose S1024x4096 [1, 0] (norms x gp) transposes_S4096x1024_S1024x4096_1_0) (dzs x t p gp gf wg wp)
    = outGate x p t gp gf wg wp := by
  generalize hz : dzs x t p gp gf wg wp = z
  funext i
  pointwise [outGate, norms_apply]
  refine Finset.sum_congr rfl fun n _ => ?_
  rw [← dzs_row, hz]

theorem outEmb_arrays : Host.dotGeneral (F := Ideal) (φ₁ := .f32) (φ₂ := .f32) dot_S256x4096_S4096x1024_S256x1024_1_0_0_1_n_n none
    (transpose S256x4096 [1, 0] p transposes_S4096x256_S256x4096_1_0) (mulf (dstreams x t p gp gf wg wp) (gates x gp wg))
    = outEmb x p t gp gf wg wp := by
  generalize hd : dstreams x t p gp gf wg wp = d
  funext i
  pointwise [outEmb, gates_apply, HeadRow.tokEmb]
  refine Finset.sum_congr rfl fun n _ => ?_
  rw [← dstreams_row, hd]

theorem outGainGate_arrays : broadcastInDim S8x1024 ![1] bcast_S1024_S8x1024_1 (Host.reduceAdd
    (mulf (dhs x t p gp gf wg wp) (units x)) (constant S_ .f32 0x00000000#32) reducesTo_S4096x1024_S1024_d0 h_S_)
    = outGainGate x p t gp gf wg wp := by
  generalize hd : dhs x t p gp gf wg wp = d
  funext i
  pointwise [outGainGate, units_apply, HeadRow.tokGainGate, gainBack]
  refine Finset.sum_congr rfl fun n _ => ?_
  rw [← dhs_row, hd]

theorem outGainLast_arrays : broadcastInDim S8x1024 ![1] bcast_S1024_S8x1024_1 (Host.reduceAdd
    (mulf (dys (streams x p gp wg wp) t gf) (units (streams x p gp wg wp))) (constant S_ .f32 0x00000000#32) reducesTo_S4096x1024_S1024_d0 h_S_)
    = outGainLast x p t gp gf wg wp := by
  generalize hy : streams x p gp wg wp = y
  funext i
  pointwise [outGainLast, units_apply, dys_apply, HeadRow.tokGainLast, gainBack]
  refine Finset.sum_congr rfl fun n _ => ?_
  rw [← streams_row, hy]

theorem outLoss_arrays : broadcastInDim S8x128 ![] bcast_S_S8x128 (mulf (constant S_ .f32 0x3F000000#32) (Host.reduceAdd (Host.divf
    (Host.reduceAdd (mulf (errs (streams x p gp wg wp) t gf) (errs (streams x p gp wg wp) t gf)) (constant S_ .f32 0x00000000#32) reducesTo_S4096x1024_S4096_d1 h_S_)
    (broadcastInDim S4096 ![] bcast_S_S4096 (constant S_ .f32 0x44800000#32))) (constant S_ .f32 0x00000000#32) reducesTo_S4096_S_d0 h_S_))
    = outLoss x p t gp gf wg wp := by
  generalize hy : streams x p gp wg wp = y
  funext i
  pointwise [outLoss, errs_apply, HeadRow.tokSquare]
  refine congrArg (fun a : EReal => HeadRow.half * a) (Finset.sum_congr rfl fun n _ => ?_)
  rw [← streams_row, hy]

end Arrays

end Cert.HeadGrad

end
-- ==== Proof.HeadKernel.lean ====
/-
The kernel of the network's head: what its blocks hold row by row.
-/
module

public import Idealize.ShloMosaic.Lib.Pipeline.ValueKit
public import proofs.«01_k».proof.Proof.Gen.HeadIdeal.Value
public import proofs.«01_k».proof.Proof.HeadArrays

@[expose] public section

set_option maxRecDepth 16384

noncomputable section

open Idealize.ShloMosaic Idealize.ShloMosaic.TcCoe Idealize.SL.Sem

namespace Cert.HeadIdeal.Whole

open Cert.HeadIdeal Cert.HeadIdeal.Gen Cert.Rows

/-- A row of a block, and a weight as a matrix. -/
abbrev row (x : FVec Ideal S256x1024 .f32) (r : Fin 256) (l : Fin 1024) : EReal := x (ix2 r l)
abbrev rowP (x : FVec Ideal S256x256 .f32) (r : Fin 256) (l : Fin 256) : EReal := x (ix2 r l)
abbrev gain (g : FVec Ideal S1x1024 .f32) (l : Fin 1024) : EReal := g (ix2 0 l)
abbrev mat (w : FVec Ideal S1024x1024 .bf16) (k l : Fin 1024) : EReal := w (ix2 k l)
abbrev matP (w : FVec Ideal S256x1024 .bf16) (k : Fin 256) (l : Fin 1024) : EReal := w (ix2 k l)

section Payloads

variable (x : FVec Ideal S256x1024 .f32) (p : FVec Ideal S256x256 .f32) (t : FVec Ideal S256x1024 .f32)
  (gp gf : FVec Ideal S1x1024 .f32) (wg : FVec Ideal S1024x1024 .bf16) (wp : FVec Ideal S256x1024 .bf16)
  (r : Fin 256) (l : Fin 1024)

theorem inv_apply (z : Fin 1) : k0_pay8 (F := Ideal) x (ix2 r z) = rinv (row x r) := by
  pointwise [k0_pay8, rinv]

theorem unit_apply : k0_pay9 (F := Ideal) x (ix2 r l) = x (ix2 r l) * rinv (row x r) := by
  pointwise [k0_pay9, inv_apply]

theorem hidden_apply : k0_pay10 (F := Ideal) x gp (ix2 r l) = normed (row x r) (gain gp) l := by
  pointwise [k0_pay10, unit_apply, normed]

theorem gate_apply : k0_pay12 (F := Ideal) x gp wg (ix2 r l) = HeadRow.gate (row x r) (gain gp) (mat wg) l := by
  pointwise [k0_pay12, hidden_apply, HeadRow.gate, times, sigmoid, sub_eq_add_neg, zero_add]

theorem emb_apply : k0_pay13 (F := Ideal) p wp (ix2 r l) = times (rowP p r) (matP wp) l := by
  pointwise [k0_pay13, k0_pay11, times]

theorem stream_apply : k0_pay14 (F := Ideal) x gp p wg wp (ix2 r l)
    = HeadRow.stream (row x r) (rowP p r) (gain gp) (mat wg) (matP wp) l := by
  pointwise [k0_pay14, gate_apply, emb_apply, HeadRow.stream]

theorem sq (x : FVec Ideal S256x1024 .f32) (z : Fin 1) : k0_pay16 (F := Ideal) (mulf x x) (ix2 r z) = rinv (row x r) := by
  pointwise [k0_pay16, rinv]

theorem unit3_apply : k0_pay17 (F := Ideal) x (mulf x x) (ix2 r l) = x (ix2 r l) * rinv (row x r) := by
  pointwise [k0_pay17, sq]

theorem err_apply : k0_pay18 (F := Ideal) gf x (mulf x x) t (ix2 r l) = HeadRow.err (row x r) (gain gf) (row t r) l := by
  pointwise [k0_pay18, unit3_apply, HeadRow.err, normed]

theorem dy_apply : k0_pay20 (F := Ideal) gf x (mulf x x) t (ix2 r l) = HeadRow.dy (row x r) (gain gf) (row t r) l := by
  pointwise [k0_pay20, err_apply, HeadRow.dy]

theorem dstream_apply : k0_pay21 (F := Ideal) gf x (mulf x x) t (ix2 r l) = HeadRow.dstream (row x r) (gain gf) (row t r) l := by
  pointwise [k0_pay21, dy_apply, unit3_apply, sq, HeadRow.dstream, normBack]

variable (emb gt d dhid unit acc : FVec Ideal S256x1024 .f32) (hid : FVec Ideal S256x1024 .bf16)

theorem gainLast_apply : k0_pay22 (F := Ideal) gf x (mulf x x) t (ix2 r l)
    = gainBack (HeadRow.dy (row x r) (gain gf) (row t r)) (row x r) l := by
  pointwise [k0_pay22, dy_apply, unit3_apply, gainBack]

theorem dz_apply : k0_pay24 (F := Ideal) gt emb d (ix2 r l) = HeadRow.dz (row d r) (row emb r) (row gt r) l := by
  pointwise [k0_pay24, HeadRow.dz]

theorem dh_apply : k0_pay27 (F := Ideal) gt emb d wg (ix2 r l)
    = HeadRow.dh (HeadRow.dz (row d r) (row emb r) (row gt r)) (mat wg) l := by
  pointwise [k0_pay27, dz_apply, HeadRow.dh]

theorem dx_apply : k0_pay2 (F := Ideal) (k0_pay8 x) d (k0_pay28 gp gt emb d wg) (k0_pay29 gp (k0_pay9 x) gt emb d wg) (ix2 r l)
    = d (ix2 r l) + normBack (HeadRow.dh (HeadRow.dz (row d r) (row emb r) (row gt r)) (mat wg)) (row x r) (gain gp) l := by
  pointwise [k0_pay2, k0_pay28, k0_pay29, dh_apply, unit_apply, inv_apply, normBack]

/-- What each stored accumulator gains at a point. -/
theorem gateWeight_apply (acc : FVec Ideal S1024x1024 .f32) (j : S1024x1024.Idx) :
    k0_pay25 (F := Ideal) (k0_pay10 x gp) gt emb d acc j
      = acc j + ∑ r, normed (row x r) (gain gp) (j 0) * HeadRow.dz (row d r) (row emb r) (row gt r) (j 1) := by
  pointwise [k0_pay25, hidden_apply, dz_apply]

theorem embWeight_apply (acc : FVec Ideal S256x1024 .f32) (j : S256x1024.Idx) :
    k0_pay26 (F := Ideal) (k0_pay11 p) gt d acc j
      = acc j + ∑ r, rowP p r (j 0) * (row d r (j 1) * row gt r (j 1)) := by
  pointwise [k0_pay26, k0_pay11]

theorem gateGain_apply (acc : FVec Ideal S8x1024 .f32) (j : S8x1024.Idx) :
    k0_pay1 (F := Ideal) (k0_pay9 x) dhid acc j = acc j + ∑ r, gainBack (row dhid r) (row x r) (j 1) := by
  pointwise [k0_pay1, unit_apply, gainBack]

theorem lastGain_apply (acc : FVec Ideal S8x1024 .f32) (j : S8x1024.Idx) :
    k0_pay23 (F := Ideal) x acc j = acc j + ∑ r, row x r (j 1) := by
  pointwise [k0_pay23]

theorem loss_apply (acc : FVec Ideal S8x128 .f32) (j : S8x128.Idx) :
    k0_pay19 (F := Ideal) gf x (mulf x x) t acc j = acc j + Ideal.div (HeadRow.half *
      ∑ r, ∑ k, HeadRow.err (row x r) (gain gf) (row t r) k * HeadRow.err (row x r) (gain gf) (row t r) k) cols := by
  pointwise [k0_pay19, err_apply]

end Payloads

/-- The accumulators start at zero. -/
theorem zero8 (j : S1024x1024.Idx) : k0_pay3 (F := Ideal) j = 0 := by pointwise [k0_pay3]
theorem zero9 (j : S256x1024.Idx) : k0_pay4 (F := Ideal) j = 0 := by pointwise [k0_pay4]
theorem zero10 (j : S8x1024.Idx) : k0_pay5 (F := Ideal) j = 0 := by pointwise [k0_pay5]
theorem zero11 (j : S8x1024.Idx) : k0_pay6 (F := Ideal) j = 0 := by pointwise [k0_pay6]
theorem zero12 (j : S8x128.Idx) : k0_pay7 (F := Ideal) j = 0 := by pointwise [k0_pay7]

variable (m : (ℓ : Loc nD τ sig) → Buf (Elt Ideal) ℓ) (ρ : Dev nD → PrngReg) (c : Dev nD)

/-- Which windows advance with the point, and which stay. -/
theorem places : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![t.val, 0] ∧ win0_8.index t = ![0, 0] ∧ win0_9.index t = ![0, 0] ∧ win0_10.index t = ![0, 0]
    ∧ win0_11.index t = ![0, 0] ∧ win0_12.index t = ![0, 0] :=
  (by decide +kernel : ∀ t : Fin grid0.N, _)

/-- The arguments. -/
abbrev x : FVec Ideal S4096x1024 .f32 := m ((c : Thread nD τ).loc main_arg0)
abbrev p : FVec Ideal S4096x256 .f32 := m ((c : Thread nD τ).loc main_arg1)
abbrev tg : FVec Ideal S4096x1024 .f32 := m ((c : Thread nD τ).loc main_arg2)
abbrev gp : FVec Ideal S1x1024 .f32 := m ((c : Thread nD τ).loc main_arg3)
abbrev gf : FVec Ideal S1x1024 .f32 := m ((c : Thread nD τ).loc main_arg4)
abbrev wg : FVec Ideal S1024x1024 .bf16 := m ((c : Thread nD τ).loc main_arg5)
abbrev wp : FVec Ideal S256x1024 .bf16 := m ((c : Thread nD τ).loc main_arg6)

/-- The rows of a point's blocks are the arguments' rows, and the gains and weights are the arguments themselves. -/
theorem rows (t : Fin cfg0.N) (r : Fin 256) (n : Fin 4096) (hn : n.val = t.val * 256 + r.val) :
    row (iblk m c 0 t) r = HeadGrad.row (x m c) n ∧ rowP (iblk m c 1 t) r = HeadGrad.rowP (p m c) n
      ∧ row (iblk m c 2 t) r = HeadGrad.row (tg m c) n := by
  refine ⟨?_, ?_, ?_⟩
  all_goals
    funext l
    dsimp only [row, rowP, HeadGrad.row, HeadGrad.rowP]
    blk_ext [iblk, V, places t]

theorem consts (t : Fin cfg0.N) : gain (iblk m c 3 t) = HeadGrad.gain (gp m c) ∧ gain (iblk m c 4 t) = HeadGrad.gain (gf m c)
    ∧ mat (iblk m c 5 t) = HeadGrad.mat (wg m c) ∧ matP (iblk m c 6 t) = HeadGrad.matP (wp m c) := by
  refine ⟨funext fun l => ?_, funext fun l => ?_, funext fun k => funext fun l => ?_, funext fun k => funext fun l => ?_⟩
  all_goals
    dsimp only [gain, mat, matP, HeadGrad.gain, HeadGrad.mat, HeadGrad.matP]
    blk_ext [iblk, V, places t]

/-- What a point works out: the stream before the last norm, its gradient, the gate, the projected embedding, and the gradient
at the output of the norm before the gate. -/
abbrev tStream (t : Fin cfg0.N) : FVec Ideal S256x1024 .f32 :=
  k0_pay14 (iblk m c 0 t) (iblk m c 3 t) (iblk m c 1 t) (iblk m c 5 t) (iblk m c 6 t)
abbrev tGrad (t : Fin cfg0.N) : FVec Ideal S256x1024 .f32 :=
  k0_pay21 (iblk m c 4 t) (tStream m c t) (mulf (tStream m c t) (tStream m c t)) (iblk m c 2 t)
abbrev tGate (t : Fin cfg0.N) : FVec Ideal S256x1024 .f32 := k0_pay12 (iblk m c 0 t) (iblk m c 3 t) (iblk m c 5 t)
abbrev tEmb (t : Fin cfg0.N) : FVec Ideal S256x1024 .f32 := k0_pay13 (iblk m c 1 t) (iblk m c 6 t)
abbrev tHidden (t : Fin cfg0.N) : FVec Ideal S256x1024 .f32 := k0_pay27 (tGate m c t) (tEmb m c t) (tGrad m c t) (iblk m c 5 t)

section Rows

variable (t : Fin cfg0.N) (r : Fin 256) (n : Fin 4096) (hn : n.val = t.val * 256 + r.val)
include hn

theorem stream_row : row (tStream m c t) r = HeadRow.stream (HeadGrad.row (x m c) n) (HeadGrad.rowP (p m c) n)
    (HeadGrad.gain (gp m c)) (HeadGrad.mat (wg m c)) (HeadGrad.matP (wp m c)) := by
  obtain ⟨hx, hp, -⟩ := rows m c t r n hn
  obtain ⟨h3, -, h5, h6⟩ := consts m c t
  rw [← hx, ← hp, ← h3, ← h5, ← h6]
  exact funext fun l => stream_apply ..

theorem gate_row : row (tGate m c t) r = HeadRow.gate (HeadGrad.row (x m c) n) (HeadGrad.gain (gp m c)) (HeadGrad.mat (wg m c)) := by
  rw [← (rows m c t r n hn).1, ← (consts m c t).1, ← (consts m c t).2.2.1]
  exact funext fun l => gate_apply ..

theorem emb_row : row (tEmb m c t) r = times (HeadGrad.rowP (p m c) n) (HeadGrad.matP (wp m c)) := by
  rw [← (rows m c t r n hn).2.1, ← (consts m c t).2.2.2]
  exact funext fun l => emb_apply ..

theorem grad_row : row (tGrad m c t) r = HeadRow.tokStream (HeadGrad.row (x m c) n) (HeadGrad.rowP (p m c) n)
    (HeadGrad.row (tg m c) n) (HeadGrad.gain (gp m c)) (HeadGrad.gain (gf m c)) (HeadGrad.mat (wg m c)) (HeadGrad.matP (wp m c)) := by
  unfold HeadRow.tokStream
  rw [← stream_row m c t r n hn, ← (rows m c t r n hn).2.2, ← (consts m c t).2.1]
  exact funext fun l => dstream_apply ..

theorem z_row : HeadRow.dz (row (tGrad m c t) r) (row (tEmb m c t) r) (row (tGate m c t) r)
    = HeadRow.tokZ (HeadGrad.row (x m c) n) (HeadGrad.rowP (p m c) n)
    (HeadGrad.row (tg m c) n) (HeadGrad.gain (gp m c)) (HeadGrad.gain (gf m c)) (HeadGrad.mat (wg m c)) (HeadGrad.matP (wp m c)) := by
  rw [grad_row m c t r n hn, emb_row m c t r n hn, gate_row m c t r n hn]
  rfl

theorem hidden_row : row (tHidden m c t) r = HeadRow.tokHidden (HeadGrad.row (x m c) n) (HeadGrad.rowP (p m c) n)
    (HeadGrad.row (tg m c) n) (HeadGrad.gain (gp m c)) (HeadGrad.gain (gf m c)) (HeadGrad.mat (wg m c)) (HeadGrad.matP (wp m c)) := by
  unfold HeadRow.tokHidden
  rw [← z_row m c t r n hn, ← (consts m c t).2.2.1]
  exact funext fun l => dh_apply ..

end Rows

/-- An entry of the stream's gradient that a point writes. -/
theorem stored (t : Fin cfg0.N) (y : S256x1024.Idx) :
    k0_pay2 (k0_pay8 (iblk m c 0 t)) (tGrad m c t) (k0_pay28 (iblk m c 3 t) (tGate m c t) (tEmb m c t) (tGrad m c t) (iblk m c 5 t))
      (k0_pay29 (iblk m c 3 t) (k0_pay9 (iblk m c 0 t)) (tGate m c t) (tEmb m c t) (tGrad m c t) (iblk m c 5 t)) y
      = HeadGrad.outX (x m c) (p m c) (tg m c) (gp m c) (gf m c) (wg m c) (wp m c) (((cfg0.win 7).blk t).view.emb y) := by
  have ht : t.val < 16 := lt_of_lt_of_eq t.isLt N_0
  obtain ⟨r, l, rfl⟩ : ∃ (r : Fin 256) (l : Fin 1024), ix2 r l = y := ⟨y 0, y 1, by funext a; match a with | ⟨0, _⟩ => rfl | ⟨1, _⟩ => rfl⟩
  have hr := r.isLt
  have hn : (⟨t.val * 256 + r.val, by omega⟩ : Fin 4096).val = t.val * 256 + r.val := rfl
  refine (dx_apply ..).trans (Eq.trans ?_ (congrArg _ (?_ : ix2 (⟨t.val * 256 + r.val, by omega⟩ : Fin 4096) l = _)))
  · refine congrArg₂ (fun a b : EReal => a + b) (congrFun (grad_row m c t r _ hn) l) ?_
    rw [z_row m c t r _ hn, (consts m c t).2.2.1, (consts m c t).1, (rows m c t r _ hn).1]
    rfl
  · blk_ext [places t]

/-- The stream's gradient after the run. -/
theorem final7 : (dats m 0 c).arrAt 7 cfg0.N = HeadGrad.outX (x m c) (p m c) (tg m c) (gp m c) (gf m c) (wg m c) (wp m c) := by
  refine (dats m 0 c).arrAt_eq_of_covers 7 _ (by decide +kernel) fun t _ y => ?_
  blk_simp
  rw [after0_7]
  by_cases h : t.val % 16 = 0
  · rw [outsAt0_A m c t h]
    frame_out
    exact stored m c t y
  · rw [outsAt0_B m c t h]
    frame_out
    exact stored m c t y

/-- The point that a tile of the sum over all tokens belongs to, and the token of one of its rows. -/
theorem token {T : ℕ} (hT : T < 16) (s r : ℕ) (hs : s < 16) : 16 * (T / 16) + s < cfg0.N ∧ s * 256 + r = (16 * (T / 16) + s) * 256 + r := by
  have hN : cfg0.N = 16 := N_0
  omega

/-- The gradient of the gate's weights after the run. -/
theorem final8 : (dats m 0 c).arrAt 8 cfg0.N = HeadGrad.outGate (x m c) (p m c) (tg m c) (gp m c) (gf m c) (wg m c) (wp m c) := by
  refine (dats m 0 c).arrAt_eq_of_covers 8 _ (by decide +kernel) fun t hf y => ?_
  blk_simp
  rw [after0_8, Pipeline.eq_sum_fin_of_reset_step_apply_of_flush (fun n h => (outsAt0 m c n h).2.1) 16 (fun _ => 0)
    (fun t j => ∑ r, normed (row (iblk m c 0 t) r) (gain (iblk m c 3 t)) (j 0) * HeadRow.dz (row (tGrad m c t) r) (row (tEmb m c t) r) (row (tGate m c t) r) (j 1))
    (fun t h j => by rw [outsAt0_A m c t h]; frame_out; exact (gateWeight_apply ..).trans (congrArg (fun a : EReal => a + _) (zero8 j)))
    (fun t h j => by rw [outsAt0_B m c t h]; frame_out; exact gateWeight_apply ..)
    t ((flush0_8 t).mp hf) _, zero_add]
  have ht : t.val < 16 := lt_of_lt_of_eq t.isLt N_0
  have hy : ((cfg0.win 8).blk t).view.emb y = y := by blk_ext [places t]
  rw [hy]
  unfold HeadGrad.outGate
  refine Fin.sum_mul_add_congr fun s r hl => ?_
  obtain ⟨hp, hn⟩ := token ht s r s.isLt
  dsimp only
  rw [(rows m c ⟨_, hp⟩ r ⟨s.val * 256 + r.val, hl⟩ hn).1, (consts m c ⟨_, hp⟩).1, z_row m c ⟨_, hp⟩ r ⟨s.val * 256 + r.val, hl⟩ hn]

/-- The gradient of the projection's weights after the run. -/
theorem final9 : (dats m 0 c).arrAt 9 cfg0.N = HeadGrad.outEmb (x m c) (p m c) (tg m c) (gp m c) (gf m c) (wg m c) (wp m c) := by
  refine (dats m 0 c).arrAt_eq_of_covers 9 _ (by decide +kernel) fun t hf y => ?_
  blk_simp
  rw [after0_9, Pipeline.eq_sum_fin_of_reset_step_apply_of_flush (fun n h => (outsAt0 m c n h).2.2.1) 16 (fun _ => 0)
    (fun t j => ∑ r, rowP (iblk m c 1 t) r (j 0) * (row (tGrad m c t) r (j 1) * row (tGate m c t) r (j 1)))
    (fun t h j => by rw [outsAt0_A m c t h]; frame_out; exact (embWeight_apply ..).trans (congrArg (fun a : EReal => a + _) (zero9 j)))
    (fun t h j => by rw [outsAt0_B m c t h]; frame_out; exact embWeight_apply ..)
    t ((flush0_9 t).mp hf) _, zero_add]
  have ht : t.val < 16 := lt_of_lt_of_eq t.isLt N_0
  have hy : ((cfg0.win 9).blk t).view.emb y = y := by blk_ext [places t]
  rw [hy]
  unfold HeadGrad.outEmb
  refine Fin.sum_mul_add_congr fun s r hl => ?_
  obtain ⟨hp, hn⟩ := token ht s r s.isLt
  dsimp only
  rw [(rows m c ⟨_, hp⟩ r ⟨s.val * 256 + r.val, hl⟩ hn).2.1, grad_row m c ⟨_, hp⟩ r ⟨s.val * 256 + r.val, hl⟩ hn, gate_row m c ⟨_, hp⟩ r ⟨s.val * 256 + r.val, hl⟩ hn]
  rfl

/-- The gradient of the gain before the gate after the run. -/
theorem final10 : (dats m 0 c).arrAt 10 cfg0.N = HeadGrad.outGainGate (x m c) (p m c) (tg m c) (gp m c) (gf m c) (wg m c) (wp m c) := by
  refine (dats m 0 c).arrAt_eq_of_covers 10 _ (by decide +kernel) fun t hf y => ?_
  blk_simp
  rw [after0_10, Pipeline.eq_sum_fin_of_reset_step_apply_of_flush (fun n h => (outsAt0 m c n h).2.2.2.1) 16 (fun _ => 0)
    (fun t j => ∑ r, gainBack (row (tHidden m c t) r) (row (iblk m c 0 t) r) (j 1))
    (fun t h j => by rw [outsAt0_A m c t h]; frame_out; exact (gateGain_apply ..).trans (congrArg (fun a : EReal => a + _) (zero10 j)))
    (fun t h j => by rw [outsAt0_B m c t h]; frame_out; exact gateGain_apply ..)
    t ((flush0_10 t).mp hf) _, zero_add]
  have ht : t.val < 16 := lt_of_lt_of_eq t.isLt N_0
  have hy : ((cfg0.win 10).blk t).view.emb y = y := by blk_ext [places t]
  rw [hy]
  unfold HeadGrad.outGainGate
  refine Fin.sum_mul_add_congr fun s r hl => ?_
  obtain ⟨hp, hn⟩ := token ht s r s.isLt
  dsimp only
  rw [(rows m c ⟨_, hp⟩ r ⟨s.val * 256 + r.val, hl⟩ hn).1, hidden_row m c ⟨_, hp⟩ r ⟨s.val * 256 + r.val, hl⟩ hn]
  rfl

/-- The gradient of the last gain after the run. -/
theorem final11 : (dats m 0 c).arrAt 11 cfg0.N = HeadGrad.outGainLast (x m c) (p m c) (tg m c) (gp m c) (gf m c) (wg m c) (wp m c) := by
  refine (dats m 0 c).arrAt_eq_of_covers 11 _ (by decide +kernel) fun t hf y => ?_
  blk_simp
  rw [after0_11, Pipeline.eq_sum_fin_of_reset_step_apply_of_flush (fun n h => (outsAt0 m c n h).2.2.2.2.1) 16 (fun _ => 0)
    (fun t j => ∑ r, row (k0_pay22 (F := Ideal) (iblk m c 4 t) (tStream m c t) (mulf (tStream m c t) (tStream m c t)) (iblk m c 2 t)) r (j 1))
    (fun t h j => by rw [outsAt0_A m c t h]; frame_out; exact (lastGain_apply ..).trans (congrArg (fun a : EReal => a + _) (zero11 j)))
    (fun t h j => by rw [outsAt0_B m c t h]; frame_out; exact lastGain_apply ..)
    t ((flush0_11 t).mp hf) _, zero_add]
  have ht : t.val < 16 := lt_of_lt_of_eq t.isLt N_0
  have hy : ((cfg0.win 11).blk t).view.emb y = y := by blk_ext [places t]
  rw [hy]
  unfold HeadGrad.outGainLast
  refine Fin.sum_mul_add_congr fun s r hl => ?_
  obtain ⟨hp, hn⟩ := token ht s r s.isLt
  dsimp only
  refine (gainLast_apply ..).trans ?_
  rw [(rows m c ⟨_, hp⟩ r ⟨s.val * 256 + r.val, hl⟩ hn).2.2, (consts m c ⟨_, hp⟩).2.1, stream_row m c ⟨_, hp⟩ r ⟨s.val * 256 + r.val, hl⟩ hn]
  rfl

/-- The loss after the run. -/
theorem final12 : (dats m 0 c).arrAt 12 cfg0.N = HeadGrad.outLoss (x m c) (p m c) (tg m c) (gp m c) (gf m c) (wg m c) (wp m c) := by
  refine (dats m 0 c).arrAt_eq_of_covers 12 _ (by decide +kernel) fun t hf y => ?_
  blk_simp
  rw [after0_12, Pipeline.eq_sum_fin_of_reset_step_apply_of_flush (fun n h => (outsAt0 m c n h).2.2.2.2.2) 16 (fun _ => 0)
    (fun t j => Ideal.div (HeadRow.half * ∑ r, ∑ k, HeadRow.err (row (tStream m c t) r) (gain (iblk m c 4 t)) (row (iblk m c 2 t) r) k * HeadRow.err (row (tStream m c t) r) (gain (iblk m c 4 t)) (row (iblk m c 2 t) r) k) cols)
    (fun t h j => by rw [outsAt0_A m c t h]; frame_out; exact (loss_apply ..).trans (congrArg (fun a : EReal => a + _) (zero12 j)))
    (fun t h j => by rw [outsAt0_B m c t h]; frame_out; exact loss_apply ..)
    t ((flush0_12 t).mp hf) _, zero_add]
  have ht : t.val < 16 := lt_of_lt_of_eq t.isLt N_0
  simp only [HeadRow.half_mean]
  unfold HeadGrad.outLoss
  rw [scale_sum _ HeadRow.half_nonneg HeadRow.half_ne_top]
  refine Fin.sum_mul_add_congr fun s r hl => ?_
  obtain ⟨hp, hn⟩ := token ht s r s.isLt
  rw [(rows m c ⟨_, hp⟩ r ⟨s.val * 256 + r.val, hl⟩ hn).2.2, (consts m c ⟨_, hp⟩).2.1, stream_row m c ⟨_, hp⟩ r ⟨s.val * 256 + r.val, hl⟩ hn]
  rfl

end Cert.HeadIdeal.Whole

end
-- ==== Proof.HeadClaims.lean ====
/-
The claims about the network's head.
-/
module

public import proofs.«01_k».proof.Defs
public import proofs.«01_k».proof.Proof.Gen.Head.Frame
public import proofs.«01_k».proof.Proof.HeadKernel

@[expose] public section

set_option maxRecDepth 16384

noncomputable section

open Idealize.ShloMosaic Idealize.ShloMosaic.TcCoe Idealize.SL.Sem

namespace Cert.HeadGrad

theorem frame_kernel : Cert.quiescent_Head := fun m ρ _ => Cert.Head.Gen.frame (F := Bits) m ρ
theorem frame_ideal : Cert.quiescent_HeadIdeal := fun m ρ _ => Cert.HeadIdeal.Gen.frame (F := Ideal) m ρ
theorem frame_ref_ideal : Cert.quiescent_HeadRefIdeal := fun m ρ _ =>
  (θ_run _ _ _).mono (fun r h => ⟨fun c => (h c).2.2.2.2.2.2, sem_eq_zero_of_no_sems (by decide) r.2⟩) (Cert.HeadRefIdeal.Value.run (F := Ideal) m ρ)

/-- In exact arithmetic, the kernel's and the reference's results are the same. -/
theorem algebraic : Cert.algebraic_HeadIdeal_HeadRefIdeal := fun m ρ m' ρ' _ hag =>
  ⟨_, _, _, _, _, _, (θ_run _ _ _).mono (fun r h c => by
      obtain ⟨h7, h8, h9, h10, h11, h12, hk⟩ := h c
      exact ⟨h7.trans (Cert.HeadIdeal.Whole.final7 m c), h8.trans (Cert.HeadIdeal.Whole.final8 m c),
        h9.trans (Cert.HeadIdeal.Whole.final9 m c), h10.trans (Cert.HeadIdeal.Whole.final10 m c),
        h11.trans (Cert.HeadIdeal.Whole.final11 m c), h12.trans (Cert.HeadIdeal.Whole.final12 m c), hk⟩)
      (Cert.HeadIdeal.Value.run_blocks (F := Ideal) m ρ),
    (θ_run _ _ _).mono (fun r h c => by
      obtain ⟨h7, h8, h9, h10, h11, h12, hk⟩ := h c
      obtain ⟨a0, a1, a2, a3, a4, a5, a6⟩ := hag c
      refine ⟨h7.trans ?_, h8.trans ?_, h9.trans ?_, h10.trans ?_, h11.trans ?_, h12.trans ?_, hk⟩
      · unfold Cert.HeadRefIdeal.Value.res_main_v108
        rw [a0, a1, a2, a3, a4, a5, a6]
        exact outX_arrays ..
      · unfold Cert.HeadRefIdeal.Value.res_main_v110
        rw [a0, a1, a2, a3, a4, a5, a6]
        exact outGate_arrays ..
      · unfold Cert.HeadRefIdeal.Value.res_main_v113
        rw [a0, a1, a2, a3, a4, a5, a6]
        exact outEmb_arrays ..
      · unfold Cert.HeadRefIdeal.Value.res_main_v114
        rw [a0, a1, a2, a3, a4, a5, a6]
        exact outGainGate_arrays ..
      · unfold Cert.HeadRefIdeal.Value.res_main_v115
        rw [a0, a1, a2, a3, a4, a5, a6]
        exact outGainLast_arrays ..
      · unfold Cert.HeadRefIdeal.Value.res_main_v116
        rw [a0, a1, a2, a3, a4, a5, a6]
        exact outLoss_arrays ..)
    (Cert.HeadRefIdeal.Value.run (F := Ideal) m' ρ')⟩

end Cert.HeadGrad

end
-- ==== Proof.FfnMath.lean ====
/-
The backward pass of the feed-forward layer for one token.
-/
module

public import proofs.«01_k».proof.Proof.Rows

@[expose] public section

noncomputable section

open Idealize.ShloMosaic

namespace Cert.FfnRow

open Cert.Rows

/-- The layer's activation from its gate `g` and its up-projection `u`, and the gradients at the two from the gradient `a` at the
activation. -/
def act (g u : EReal) : EReal := g * sigmoid g * u
def dgate (a g u : EReal) : EReal := a * u * (sigmoid g * (one + g * (one - sigmoid g)))
def dup (a g : EReal) : EReal := a * (g * sigmoid g)

/-- The gradient at the activation. -/
def dact {N : ℕ} (d : Fin 1024 → EReal) (wd : Fin N → Fin 1024 → EReal) (f : Fin N) : EReal := ∑ k, d k * wd f k

/-- The gradient at the output of the norm before the layer: the gate's columns of the weight, then the up-projection's. -/
def hidden (dg du : Fin 2816 → EReal) (w : Fin 1024 → Fin 5632 → EReal) (l : Fin 1024) : EReal :=
  ∑ f : Fin 2816, (dg f * w l ⟨f.val, by omega⟩ + du f * w l ⟨2816 + f.val, by omega⟩)

section Token

variable (d x g : Fin 1024 → EReal) (gate up : Fin 2816 → EReal) (w : Fin 1024 → Fin 5632 → EReal)
  (wd : Fin 2816 → Fin 1024 → EReal)

/-- The same quantities of a token from the arguments: the gradients at the gate, at the up-projection, at the output of the norm
and at the stream, and what the token adds to the gradient of the gain. -/
def tokGate (f : Fin 2816) : EReal := dgate (dact d wd f) (gate f) (up f)
def tokUp (f : Fin 2816) : EReal := dup (dact d wd f) (gate f)
def tokHidden : Fin 1024 → EReal := hidden (tokGate d gate up wd) (tokUp d gate wd) w
def tokX (l : Fin 1024) : EReal := d l + normBack (tokHidden d gate up w wd) x g l
def tokGain (l : Fin 1024) : EReal := gainBack (tokHidden d gate up w wd) x l

end Token

end Cert.FfnRow

end
-- ==== Proof.FfnArrays.lean ====
/-
The feed-forward layer's gradients as arrays of the arguments, token by token, and the reference's arrays read as those.
-/
module

public import proofs.«01_k».proof.Proof.Gen.FfnBackRefIdeal.Run
public import proofs.«01_k».proof.Proof.HeadArrays
public import proofs.«01_k».proof.Proof.FfnMath

@[expose] public section

set_option maxRecDepth 16384

noncomputable section

open Idealize.ShloMosaic Idealize.ShloMosaic.TcCoe Idealize.SL.Sem

namespace Cert.FfnGrad

open Cert.FfnBackRefIdeal Cert.FfnBackRefIdeal.Gen Cert.Rows Cert.HeadGrad

/-- A token's row of the gate or of the up-projection, and the weights as matrices. -/
abbrev rowF (x : FVec Ideal S4096x2816 .f32) (n : Fin 4096) (f : Fin 2816) : EReal := x (ix2 n f)
abbrev matIn (w : FVec Ideal S1024x5632 .bf16) (l : Fin 1024) (f : Fin 5632) : EReal := w (ix2 l f)
abbrev matOut (w : FVec Ideal S2816x1024 .bf16) (f : Fin 2816) (k : Fin 1024) : EReal := w (ix2 f k)

variable (d x : FVec Ideal S4096x1024 .f32) (g : FVec Ideal S1x1024 .f32) (gate up : FVec Ideal S4096x2816 .f32)
  (w : FVec Ideal S1024x5632 .bf16) (wd : FVec Ideal S2816x1024 .bf16)

/-- The gradient of the stream, the activation, the gradients at the gate and at the up-projection, and the gradient of the gain
in each of eight equal rows. -/
def outX : FVec Ideal S4096x1024 .f32 := fun i =>
  FfnRow.tokX (row d (i 0)) (row x (i 0)) (gain g) (rowF gate (i 0)) (rowF up (i 0)) (matIn w) (matOut wd) (i 1)
def outAct : FVec Ideal S4096x2816 .bf16 := fun i => FfnRow.act (rowF gate (i 0) (i 1)) (rowF up (i 0) (i 1))
def outGate : FVec Ideal S4096x2816 .bf16 := fun i =>
  FfnRow.tokGate (row d (i 0)) (rowF gate (i 0)) (rowF up (i 0)) (matOut wd) (i 1)
def outUp : FVec Ideal S4096x2816 .bf16 := fun i => FfnRow.tokUp (row d (i 0)) (rowF gate (i 0)) (matOut wd) (i 1)
def outGain : FVec Ideal S8x1024 .f32 := fun i =>
  ∑ n, FfnRow.tokGain (row d n) (row x n) (rowF gate n) (rowF up n) (matIn w) (matOut wd) (i 1)

section Arrays

variable (n : Fin 4096) (f : Fin 2816)

/-- The reference's arrays, in the order it computes them: the gradient at the activation, the sigmoid of the gate, and the
gradients at the gate, at the up-projection and at the output of the norm. -/
abbrev onesF : FVec Ideal S4096x2816 .f32 := broadcastInDim S4096x2816 ![] bcast_S_S4096x2816 (constant S_ .f32 0x3F800000#32)
def acts : FVec Ideal S4096x2816 .f32 :=
  Host.dotGeneral (F := Ideal) (φ₁ := .f32) (φ₂ := .f32) dot_S4096x1024_S1024x2816_S4096x2816_1_0_0_1_n_n none d
    (transpose S1024x2816 [1, 0] (extf .f32 wd bitsLt_bf16_f32) transposes_S2816x1024_S1024x2816_1_0)
def sigmoids : FVec Ideal S4096x2816 .f32 := Host.divf onesF (addf onesF (Host.exp (Host.negf gate)))
def dgates : FVec Ideal S4096x2816 .f32 :=
  mulf (mulf (acts d wd) up) (mulf (sigmoids gate) (addf onesF (mulf gate (subf onesF (sigmoids gate)))))
def dups : FVec Ideal S4096x2816 .f32 := mulf (acts d wd) (mulf gate (sigmoids gate))
def hiddens : FVec Ideal S4096x1024 .f32 :=
  Host.dotGeneral (F := Ideal) (φ₁ := .f32) (φ₂ := .f32) dot_S4096x5632_S5632x1024_S4096x1024_1_0_0_1_n_n none
    (concatenate S4096x5632 1 [⟨S4096x2816, dgates d gate up wd⟩, ⟨S4096x2816, dups d gate wd⟩] concatenates_S4096x2816_S4096x2816_S4096x5632_d1 : FVec Ideal S4096x5632 .f32)
    (transpose S5632x1024 [1, 0] (extf .f32 w bitsLt_bf16_f32) transposes_S1024x5632_S5632x1024_1_0)

theorem acts_apply : acts d wd (ix2 n f) = FfnRow.dact (row d n) (matOut wd) f := by
  pointwise [acts, FfnRow.dact]

theorem sigmoids_apply : sigmoids gate (ix2 n f) = sigmoid (gate (ix2 n f)) := by
  pointwise [sigmoids, sigmoid]

theorem dgates_apply : dgates d gate up wd (ix2 n f) = FfnRow.tokGate (row d n) (rowF gate n) (rowF up n) (matOut wd) f := by
  pointwise [dgates, acts_apply, sigmoids_apply, FfnRow.tokGate, FfnRow.dgate]

theorem dups_apply : dups d gate wd (ix2 n f) = FfnRow.tokUp (row d n) (rowF gate n) (matOut wd) f := by
  pointwise [dups, acts_apply, sigmoids_apply, FfnRow.tokUp, FfnRow.dup]

theorem hiddens_apply (l : Fin 1024) : hiddens d gate up w wd (ix2 n l)
    = FfnRow.tokHidden (row d n) (rowF gate n) (rowF up n) (matIn w) (matOut wd) l := by
  pointwise [hiddens, FfnRow.tokHidden, FfnRow.hidden]
  simp only [dgates_apply, dups_apply, Finset.sum_add_distrib]

theorem hiddens_row : row (hiddens d gate up w wd) n
    = FfnRow.tokHidden (row d n) (rowF gate n) (rowF up n) (matIn w) (matOut wd) := funext fun l => hiddens_apply d gate up w wd n l

/-- The reference's results are the arrays above. -/
theorem outX_arrays : addf d (backs x (hiddens d gate up w wd) g) = outX d x g gate up w wd := by
  funext i
  obtain ⟨n, l, rfl⟩ : ∃ (n : Fin 4096) (l : Fin 1024), ix2 n l = i := ⟨i 0, i 1, by funext a; match a with | ⟨0, _⟩ => rfl | ⟨1, _⟩ => rfl⟩
  refine congrArg (fun a : EReal => d (ix2 n l) + a) ((backs_apply ..).trans ?_)
  rw [hiddens_row]
  rfl

theorem outAct_arrays : truncf .bf16 (mulf (mulf gate (sigmoids gate)) up) bitsLt_bf16_f32 = outAct gate up := by
  funext i
  obtain ⟨n, f, rfl⟩ : ∃ (n : Fin 4096) (f : Fin 2816), ix2 n f = i := ⟨i 0, i 1, by funext a; match a with | ⟨0, _⟩ => rfl | ⟨1, _⟩ => rfl⟩
  pointwise [outAct, sigmoids_apply, FfnRow.act]

theorem outGate_arrays : truncf .bf16 (dgates d gate up wd) bitsLt_bf16_f32 = outGate d gate up wd := by
  funext i
  obtain ⟨n, f, rfl⟩ : ∃ (n : Fin 4096) (f : Fin 2816), ix2 n f = i := ⟨i 0, i 1, by funext a; match a with | ⟨0, _⟩ => rfl | ⟨1, _⟩ => rfl⟩
  pointwise [outGate, dgates_apply]

theorem outUp_arrays : truncf .bf16 (dups d gate wd) bitsLt_bf16_f32 = outUp d gate wd := by
  funext i
  obtain ⟨n, f, rfl⟩ : ∃ (n : Fin 4096) (f : Fin 2816), ix2 n f = i := ⟨i 0, i 1, by funext a; match a with | ⟨0, _⟩ => rfl | ⟨1, _⟩ => rfl⟩
  pointwise [outUp, dups_apply]

theorem outGain_arrays : broadcastInDim S8x1024 ![1] bcast_S1024_S8x1024_1 (Host.reduceAdd
    (mulf (hiddens d gate up w wd) (units x)) (constant S_ .f32 0x00000000#32) reducesTo_S4096x1024_S1024_d0 h_S_)
    = outGain d x gate up w wd := by
  generalize hd : hiddens d gate up w wd = z
  funext i
  pointwise [outGain, units_apply, FfnRow.tokGain, gainBack]
  refine Finset.sum_congr rfl fun n _ => ?_
  rw [← hiddens_row, hd]

end Arrays

end Cert.FfnGrad

end
-- ==== Proof.FfnKernel.lean ====
/-
The kernel of the feed-forward layer's backward pass: what its blocks and its two scratch buffers hold row by row.
-/
module

public import Idealize.ShloMosaic.Lib.Pipeline.ValueKit
public import Idealize.ShloMosaic.Lib.Pipeline.ReadBack
public import proofs.«01_k».proof.Proof.Gen.FfnBackIdeal.Value
public import proofs.«01_k».proof.Proof.FfnArrays

@[expose] public section

set_option maxRecDepth 16384

noncomputable section

open Idealize.ShloMosaic Idealize.ShloMosaic.TcCoe Idealize.SL.Sem

namespace Cert.FfnBackIdeal.Whole

open Cert.FfnBackIdeal Cert.FfnBackIdeal.Gen Cert.Rows

/-- A row of a block, and a piece of a weight as a matrix. -/
abbrev row (x : FVec Ideal S512x1024 .f32) (r : Fin 512) (l : Fin 1024) : EReal := x (ix2 r l)
abbrev rowB (x : FVec Ideal S512x1024 .bf16) (r : Fin 512) (l : Fin 1024) : EReal := x (ix2 r l)
abbrev gain (g : FVec Ideal S1x1024 .f32) (l : Fin 1024) : EReal := g (ix2 0 l)
abbrev matOut (w : FVec Ideal S256x1024 .bf16) (f : Fin 256) (k : Fin 1024) : EReal := w (ix2 f k)

section Payloads

variable (d x : FVec Ideal S512x1024 .f32) (g : FVec Ideal S1x1024 .f32) (db : FVec Ideal S512x1024 .bf16)
  (gate up : FVec Ideal S512x256 .f32) (wd : FVec Ideal S256x1024 .bf16) (dg : FVec Ideal S512x256 .bf16)
  (du : FVec Ideal S512x256 .f32) (wg wu : FVec Ideal S1024x256 .bf16) (r : Fin 512) (f : Fin 256) (l : Fin 1024)

theorem inv_apply (z : Fin 1) : k0_pay3 (F := Ideal) x (ix2 r z) = rinv (row x r) := by
  pointwise [k0_pay3, rinv]

theorem unit_apply : k0_pay4 (F := Ideal) x (ix2 r l) = x (ix2 r l) * rinv (row x r) := by
  pointwise [k0_pay4, inv_apply]

theorem back_apply (dh : FVec Ideal S512x1024 .f32) : k0_pay5 (F := Ideal) x dh g d (ix2 r l)
    = d (ix2 r l) + normBack (row dh r) (row x r) (gain g) l := by
  pointwise [k0_pay5, unit_apply, inv_apply, normBack]

theorem half_apply : k0_pay8 (F := Ideal) d (ix2 r l) = d (ix2 r l) := by
  pointwise [k0_pay8]

theorem dact_apply : k0_pay10 (F := Ideal) db wd (ix2 r f) = FfnRow.dact (rowB db r) (matOut wd) f := by
  pointwise [k0_pay10, FfnRow.dact]

theorem sigmoid_apply : k0_pay11 (F := Ideal) gate (ix2 r f) = sigmoid (gate (ix2 r f)) := by
  pointwise [k0_pay11, sigmoid, sub_eq_add_neg, zero_add]

theorem act_apply : k0_pay13 (F := Ideal) gate up (ix2 r f) = FfnRow.act (gate (ix2 r f)) (up (ix2 r f)) := by
  pointwise [k0_pay13, k0_pay12, sigmoid_apply, FfnRow.act]

theorem dgate_apply : k0_pay14 (F := Ideal) db wd gate up (ix2 r f)
    = FfnRow.dgate (FfnRow.dact (rowB db r) (matOut wd) f) (gate (ix2 r f)) (up (ix2 r f)) := by
  pointwise [k0_pay14, dact_apply, sigmoid_apply, FfnRow.dgate]

theorem dup_apply : k0_pay15 (F := Ideal) db wd gate (ix2 r f)
    = FfnRow.dup (FfnRow.dact (rowB db r) (matOut wd) f) (gate (ix2 r f)) := by
  pointwise [k0_pay15, k0_pay12, dact_apply, sigmoid_apply, FfnRow.dup]

theorem cut_apply : k0_pay1 (F := Ideal) du (ix2 r f) = du (ix2 r f) := by
  pointwise [k0_pay1]

/-- What the two accumulators gain at a point. -/
theorem hidden_apply (acc : FVec Ideal S512x1024 .f32) (j : S512x1024.Idx) : k0_pay2 (F := Ideal) dg du acc wg wu j
    = acc j + ∑ f : Fin 256, (dg (ix2 (j 0) f) * wg (ix2 (j 1) f) + du (ix2 (j 0) f) * wu (ix2 (j 1) f)) := by
  rw [Finset.sum_add_distrib]
  pointwise [k0_pay2, k0_pay1]

theorem gain_apply (dh : FVec Ideal S512x1024 .f32) (acc : FVec Ideal S8x1024 .f32) (j : S8x1024.Idx) :
    k0_pay6 (F := Ideal) x dh acc j = acc j + ∑ r, gainBack (row dh r) (row x r) (j 1) := by
  pointwise [k0_pay6, unit_apply, gainBack]

end Payloads

/-- The accumulators start at zero. -/
theorem zeroHidden (j : S512x1024.Idx) : k0_pay9 (F := Ideal) j = 0 := by pointwise [k0_pay9]
theorem zeroGain (j : S8x1024.Idx) : k0_pay7 (F := Ideal) j = 0 := by pointwise [k0_pay7]

variable (m : (ℓ : Loc nD τ sig) → Buf (Elt Ideal) ℓ) (c : Dev nD)

/-- Where each window is at a point: eleven pieces of the layer's width for each block of tokens. -/
theorem places : ∀ t : Fin cfg0.N, win0_0.index t = ![t.val / 11, 0] ∧ win0_1.index t = ![t.val / 11, 0] ∧ win0_2.index t = ![0, 0]
    ∧ win0_3.index t = ![t.val / 11, t.val % 11] ∧ win0_4.index t = ![t.val / 11, t.val % 11] ∧ win0_5.index t = ![0, t.val % 11]
    ∧ win0_6.index t = ![0, 11 + t.val % 11] ∧ win0_7.index t = ![t.val % 11, 0] ∧ win0_8.index t = ![t.val / 11, 0]
    ∧ win0_9.index t = ![t.val / 11, t.val % 11] ∧ win0_10.index t = ![t.val / 11, t.val % 11]
    ∧ win0_11.index t = ![t.val / 11, t.val % 11] ∧ win0_12.index t = ![0, 0] :=
  (by decide +kernel : ∀ t : Fin grid0.N, _)

/-- The arguments. -/
abbrev d : FVec Ideal S4096x1024 .f32 := m ((c : Thread nD τ).loc main_arg0)
abbrev x : FVec Ideal S4096x1024 .f32 := m ((c : Thread nD τ).loc main_arg1)
abbrev g : FVec Ideal S1x1024 .f32 := m ((c : Thread nD τ).loc main_arg2)
abbrev gate : FVec Ideal S4096x2816 .f32 := m ((c : Thread nD τ).loc main_arg3)
abbrev up : FVec Ideal S4096x2816 .f32 := m ((c : Thread nD τ).loc main_arg4)
abbrev w : FVec Ideal S1024x5632 .bf16 := m ((c : Thread nD τ).loc main_arg5)
abbrev wd : FVec Ideal S2816x1024 .bf16 := m ((c : Thread nD τ).loc main_arg6)

/-- The rows of a point's blocks of tokens are the arguments' rows. -/
theorem rows (t : Fin cfg0.N) (r : Fin 512) (n : Fin 4096) (hn : n.val = t.val / 11 * 512 + r.val) :
    row (iblk m c 0 t) r = HeadGrad.row (d m c) n ∧ row (iblk m c 1 t) r = HeadGrad.row (x m c) n := by
  refine ⟨?_, ?_⟩
  all_goals
    funext l
    dsimp only [row, HeadGrad.row]
    blk_ext [iblk, V, places t]

theorem gains (t : Fin cfg0.N) : gain (iblk m c 2 t) = HeadGrad.gain (g m c) := by
  funext l
  dsimp only [gain, HeadGrad.gain]
  blk_ext [iblk, V, places t]

/-- A piece of the layer's width at a point: of the gate and the up-projection of a token, and of the weights. -/
theorem pieces (t : Fin cfg0.N) (r : Fin 512) (n : Fin 4096) (hn : n.val = t.val / 11 * 512 + r.val)
    (p : Fin 256) (f : Fin 2816) (hf : f.val = t.val % 11 * 256 + p.val) :
    iblk m c 3 t (ix2 r p) = gate m c (ix2 n f) ∧ iblk m c 4 t (ix2 r p) = up m c (ix2 n f) := by
  refine ⟨?_, ?_⟩
  all_goals
    blk_ext [iblk, V, places t]

theorem weights (t : Fin cfg0.N) (p : Fin 256) (f : Fin 2816) (hf : f.val = t.val % 11 * 256 + p.val) (l : Fin 1024) :
    iblk m c 5 t (ix2 l p) = w m c (ix2 l ⟨f.val, by omega⟩) ∧ iblk m c 6 t (ix2 l p) = w m c (ix2 l ⟨2816 + f.val, by omega⟩)
      ∧ iblk m c 7 t (ix2 p l) = wd m c (ix2 f l) := by
  refine ⟨?_, ?_, ?_⟩
  all_goals
    blk_ext [iblk, V, places t]

/-- What a point works with: the narrowed gradient of the stream, the gradients at the gate and at the up-projection. -/
abbrev tGrad (t : Fin cfg0.N) : FVec Ideal S512x1024 .bf16 := k0_pay8 (iblk m c 0 t)
abbrev tGate (t : Fin cfg0.N) : FVec Ideal S512x256 .bf16 := k0_pay14 (tGrad m c t) (iblk m c 7 t) (iblk m c 3 t) (iblk m c 4 t)
abbrev tUp (t : Fin cfg0.N) : FVec Ideal S512x256 .f32 := k0_pay15 (tGrad m c t) (iblk m c 7 t) (iblk m c 3 t)

section Rows

variable (t : Fin cfg0.N) (r : Fin 512) (n : Fin 4096) (hn : n.val = t.val / 11 * 512 + r.val)
include hn

theorem grad_row : rowB (tGrad m c t) r = HeadGrad.row (d m c) n := by
  rw [← (rows m c t r n hn).1]
  exact funext fun l => half_apply ..

variable (p : Fin 256) (f : Fin 2816) (hf : f.val = t.val % 11 * 256 + p.val)
include hf

theorem dact_piece : FfnRow.dact (rowB (tGrad m c t) r) (matOut (iblk m c 7 t)) p
    = FfnRow.dact (HeadGrad.row (d m c) n) (FfnGrad.matOut (wd m c)) f := by
  rw [grad_row m c t r n hn]
  exact Finset.sum_congr rfl fun k _ => congrArg (fun a : EReal => HeadGrad.row (d m c) n k * a) (weights m c t p f hf k).2.2

theorem gate_piece : tGate m c t (ix2 r p)
    = FfnRow.tokGate (HeadGrad.row (d m c) n) (FfnGrad.rowF (gate m c) n) (FfnGrad.rowF (up m c) n) (FfnGrad.matOut (wd m c)) f := by
  refine (dgate_apply ..).trans ?_
  rw [dact_piece m c t r n hn p f hf, (pieces m c t r n hn p f hf).1, (pieces m c t r n hn p f hf).2]
  rfl

theorem up_piece : tUp m c t (ix2 r p)
    = FfnRow.tokUp (HeadGrad.row (d m c) n) (FfnGrad.rowF (gate m c) n) (FfnGrad.matOut (wd m c)) f := by
  refine (dup_apply ..).trans ?_
  rw [dact_piece m c t r n hn p f hf, (pieces m c t r n hn p f hf).1]
  rfl

end Rows

/-- The blocks of a token's gradient are one for the eleven points of a block of tokens. -/
theorem grad_same (t u : Fin cfg0.N) (h : u.val / 11 = t.val / 11) : tGrad m c u = tGrad m c t := by
  have ht : t.val < 88 := lt_of_lt_of_eq t.isLt N_0
  funext y
  obtain ⟨r, l, rfl⟩ : ∃ (r : Fin 512) (l : Fin 1024), ix2 r l = y := ⟨y 0, y 1, by funext a; match a with | ⟨0, _⟩ => rfl | ⟨1, _⟩ => rfl⟩
  have hr := r.isLt
  have hn : (⟨t.val / 11 * 512 + r.val, by omega⟩ : Fin 4096).val = t.val / 11 * 512 + r.val := rfl
  exact (congrFun (grad_row m c u r _ (hn.trans (by rw [h]))) l).trans (congrFun (grad_row m c t r _ hn) l).symm

/-- The second scratch holds the narrowed gradient of the point's block of tokens. -/
theorem held (n : ℕ) (hn : n < cfg0.N) : (outsAt0 m c n hn).2.2.2.2.2.2 = tGrad m c ⟨n, hn⟩ := by
  induction n with
  | zero =>
    rw [outsAt0_A m c ⟨0, hn⟩ rfl rfl (by dsimp only; omega)]
    frame_out
  | succ n ih =>
    by_cases h1 : (n + 1) % 11 = 0
    · by_cases h0 : (n + 1) % 88 = 0
      · rw [outsAt0_A m c ⟨n + 1, hn⟩ h0 h1 (by dsimp only; omega)]
        frame_out
      · rw [outsAt0_D m c ⟨n + 1, hn⟩ h0 h1 (by dsimp only; omega)]
        frame_out
    · have h0 : ¬(n + 1) % 88 = 0 := by omega
      have hs := grad_same m c ⟨n + 1, hn⟩ ⟨n, Nat.lt_of_succ_lt hn⟩ (by dsimp only; omega)
      by_cases h2 : (n + 1) % 11 = 10
      · rw [outsAt0_C m c ⟨n + 1, hn⟩ h0 h1 h2]
        frame_out
        exact (ih _).trans hs
      · rw [outsAt0_B m c ⟨n + 1, hn⟩ h0 h1 h2]
        frame_out
        exact (ih _).trans hs

theorem kept (t : Fin cfg0.N) (h : ¬t.val % 11 = 0) :
    (outsAt0 m c (t.val - 1) (Nat.lt_of_le_of_lt (Nat.sub_le _ _) t.isLt)).2.2.2.2.2.2 = tGrad m c t :=
  (held m c _ _).trans (grad_same m c _ _ (by dsimp only; omega))

/-- What a point writes of the layer's width: the activation and the gradients at the gate and at the up-projection. -/
theorem written (t : Fin cfg0.N) : (outsAt0 m c t.val t.isLt).2.1 = k0_pay13 (F := Ideal) (iblk m c 3 t) (iblk m c 4 t)
    ∧ (outsAt0 m c t.val t.isLt).2.2.1 = tGate m c t ∧ (outsAt0 m c t.val t.isLt).2.2.2.1 = k0_pay1 (tUp m c t) := by
  by_cases h1 : t.val % 11 = 0
  · by_cases h0 : t.val % 88 = 0
    · rw [outsAt0_A m c t h0 h1 (by omega)]
      refine ⟨?_, ?_, ?_⟩ <;> frame_out
    · rw [outsAt0_D m c t h0 h1 (by omega)]
      refine ⟨?_, ?_, ?_⟩ <;> frame_out
  · by_cases h2 : t.val % 11 = 10
    · rw [outsAt0_C m c t (by omega) h1 h2, kept m c t h1]
      refine ⟨?_, ?_, ?_⟩ <;> frame_out <;> rw [read_unread_whole]
    · rw [outsAt0_B m c t (by omega) h1 h2, kept m c t h1]
      refine ⟨?_, ?_, ?_⟩ <;> frame_out <;> rw [read_unread_whole]

/-- The first scratch at the last of a block's eleven points: the gradient at the output of the norm. -/
theorem hidden_row (t : Fin cfg0.N) (h : t.val % 11 = 10) (r : Fin 512) (n : Fin 4096) (hn : n.val = t.val / 11 * 512 + r.val) :
    row (outsAt0 m c t.val t.isLt).2.2.2.2.2.1 r = FfnRow.tokHidden (HeadGrad.row (d m c) n) (FfnGrad.rowF (gate m c) n)
      (FfnGrad.rowF (up m c) n) (FfnGrad.matIn (w m c)) (FfnGrad.matOut (wd m c)) := by
  funext l
  refine (Pipeline.eq_sum_fin_of_reset_step_apply_of_flush (fun n h => (outsAt0 m c n h).2.2.2.2.2.1) 11 (fun _ => 0)
    (fun t j => ∑ f : Fin 256, (tGate m c t (ix2 (j 0) f) * (iblk m c 5 t : FVec Ideal S1024x256 .bf16) (ix2 (j 1) f)
      + tUp m c t (ix2 (j 0) f) * (iblk m c 6 t : FVec Ideal S1024x256 .bf16) (ix2 (j 1) f)))
    (fun t h1 j => ?_) (fun t h1 j => ?_) t h (ix2 r l)).trans ?_
  · by_cases h0 : t.val % 88 = 0
    · rw [outsAt0_A m c t h0 h1 (by omega)]
      frame_out
      exact (hidden_apply ..).trans (congrArg (fun a : EReal => a + _) (zeroHidden j))
    · rw [outsAt0_D m c t h0 h1 (by omega)]
      frame_out
      exact (hidden_apply ..).trans (congrArg (fun a : EReal => a + _) (zeroHidden j))
  · by_cases h2 : t.val % 11 = 10
    · rw [outsAt0_C m c t (by omega) h1 h2, kept m c t h1]
      frame_out
      simp only [read_unread_whole]
      exact hidden_apply ..
    · rw [outsAt0_B m c t (by omega) h1 h2, kept m c t h1]
      frame_out
      simp only [read_unread_whole]
      exact hidden_apply ..
  · rw [zero_add]
    refine Fin.sum_mul_add_congr fun s p hl => ?_
    have hs := s.isLt
    have hN : cfg0.N = 88 := N_0
    have ht := t.isLt
    have hp : 11 * (t.val / 11) + s.val < cfg0.N := by omega
    have hn' : n.val = (⟨11 * (t.val / 11) + s.val, hp⟩ : Fin cfg0.N).val / 11 * 512 + r.val := by dsimp only; omega
    have hf : (⟨s.val * 256 + p.val, hl⟩ : Fin 2816).val = (⟨11 * (t.val / 11) + s.val, hp⟩ : Fin cfg0.N).val % 11 * 256 + p.val := by
      dsimp only; omega
    refine congrArg₂ (fun a b : EReal => a + b) (congrArg₂ (fun a b : EReal => a * b) ?_ ?_) (congrArg₂ (fun a b : EReal => a * b) ?_ ?_)
    · exact gate_piece m c _ r n hn' p _ hf
    · exact (weights m c _ p _ hf l).1
    · exact up_piece m c _ r n hn' p _ hf
    · exact (weights m c _ p _ hf l).2.1

/-- The gradient of the stream after the run. -/
theorem final8 : (dats m 0 c).arrAt 8 cfg0.N = FfnGrad.outX (d m c) (x m c) (g m c) (gate m c) (up m c) (w m c) (wd m c) := by
  refine (dats m 0 c).arrAt_eq_of_covers 8 _ (by decide +kernel) fun t hf y => ?_
  have h2 := (flush0_8 t).mp hf
  have hsc := hidden_row m c t h2
  blk_simp
  rw [after0_8]
  rw [outsAt0_C m c t (by omega) (by omega) h2] at hsc ⊢
  frame_out at hsc ⊢
  have ht : t.val < 88 := lt_of_lt_of_eq t.isLt N_0
  obtain ⟨r, l, rfl⟩ : ∃ (r : Fin 512) (l : Fin 1024), ix2 r l = y := ⟨y 0, y 1, by funext a; match a with | ⟨0, _⟩ => rfl | ⟨1, _⟩ => rfl⟩
  have hr := r.isLt
  have hn : (⟨t.val / 11 * 512 + r.val, by omega⟩ : Fin 4096).val = t.val / 11 * 512 + r.val := rfl
  refine (back_apply ..).trans (Eq.trans ?_ (congrArg _ (?_ : ix2 (⟨t.val / 11 * 512 + r.val, by omega⟩ : Fin 4096) l = _)))
  · rw [hsc r _ hn, (rows m c t r _ hn).2, gains m c t]
    exact congrArg (fun a : EReal => a + _) (congrFun (rows m c t r _ hn).1 l)
  · blk_ext [places t]

section Width

variable (t : Fin cfg0.N) (r : Fin 512) (p : Fin 256)

theorem token : t.val / 11 * 512 + r.val < 4096 := by
  have ht : t.val < 88 := lt_of_lt_of_eq t.isLt N_0
  omega

theorem column : t.val % 11 * 256 + p.val < 2816 := by omega

end Width

/-- The activation, and the gradients at the gate and at the up-projection, after the run. -/
theorem final9 : (dats m 0 c).arrAt 9 cfg0.N = FfnGrad.outAct (gate m c) (up m c) := by
  refine (dats m 0 c).arrAt_eq_of_covers 9 _ (by decide +kernel) fun t hf y => ?_
  blk_simp
  rw [after0_9, (written m c t).1]
  obtain ⟨r, p, rfl⟩ : ∃ (r : Fin 512) (p : Fin 256), ix2 r p = y := ⟨y 0, y 1, by funext a; match a with | ⟨0, _⟩ => rfl | ⟨1, _⟩ => rfl⟩
  obtain ⟨hg, hu⟩ := pieces m c t r ⟨_, token t r⟩ rfl p ⟨_, column t p⟩ rfl
  refine (act_apply ..).trans (Eq.trans ?_ (congrArg _ (?_ : ix2 (⟨_, token t r⟩ : Fin 4096) (⟨_, column t p⟩ : Fin 2816) = _)))
  · rw [hg, hu]
    rfl
  · blk_ext [places t]

theorem final10 : (dats m 0 c).arrAt 10 cfg0.N = FfnGrad.outGate (d m c) (gate m c) (up m c) (wd m c) := by
  refine (dats m 0 c).arrAt_eq_of_covers 10 _ (by decide +kernel) fun t hf y => ?_
  blk_simp
  rw [after0_10, (written m c t).2.1]
  obtain ⟨r, p, rfl⟩ : ∃ (r : Fin 512) (p : Fin 256), ix2 r p = y := ⟨y 0, y 1, by funext a; match a with | ⟨0, _⟩ => rfl | ⟨1, _⟩ => rfl⟩
  refine (gate_piece m c t r ⟨_, token t r⟩ rfl p ⟨_, column t p⟩ rfl).trans
    (congrArg (FfnGrad.outGate (d m c) (gate m c) (up m c) (wd m c)) (?_ : ix2 (⟨_, token t r⟩ : Fin 4096) (⟨_, column t p⟩ : Fin 2816) = _))
  blk_ext [places t]

theorem final11 : (dats m 0 c).arrAt 11 cfg0.N = FfnGrad.outUp (d m c) (gate m c) (wd m c) := by
  refine (dats m 0 c).arrAt_eq_of_covers 11 _ (by decide +kernel) fun t hf y => ?_
  blk_simp
  rw [after0_11, (written m c t).2.2]
  obtain ⟨r, p, rfl⟩ : ∃ (r : Fin 512) (p : Fin 256), ix2 r p = y := ⟨y 0, y 1, by funext a; match a with | ⟨0, _⟩ => rfl | ⟨1, _⟩ => rfl⟩
  refine (cut_apply ..).trans ((up_piece m c t r ⟨_, token t r⟩ rfl p ⟨_, column t p⟩ rfl).trans
    (congrArg (FfnGrad.outUp (d m c) (gate m c) (wd m c)) (?_ : ix2 (⟨_, token t r⟩ : Fin 4096) (⟨_, column t p⟩ : Fin 2816) = _)))
  blk_ext [places t]

/-- The gradient of the gain after the run: a block of tokens adds to it at the last of its eleven points only. -/
theorem final12 : (dats m 0 c).arrAt 12 cfg0.N = FfnGrad.outGain (d m c) (x m c) (gate m c) (up m c) (w m c) (wd m c) := by
  refine (dats m 0 c).arrAt_eq_of_covers 12 _ (by decide +kernel) fun t hf y => ?_
  blk_simp
  have hy : ((cfg0.win 12).blk t).view.emb y = y := by blk_ext [places t]
  have ht : t.val < 88 := lt_of_lt_of_eq t.isLt N_0
  rw [after0_12, hy]
  refine (Pipeline.eq_sum_fin_of_reset_step_apply_of_flush (fun n h => (outsAt0 m c n h).2.2.2.2.1) 88 (fun _ => 0)
    (fun t j => if t.val % 11 = 10 then ∑ r, gainBack (row (outsAt0 m c t.val t.isLt).2.2.2.2.2.1 r) (row (iblk m c 1 t) r) (j 1) else 0)
    (fun t h0 j => ?_) (fun t h0 j => ?_) t ((flush0_12 t).mp hf) y).trans ?_
  · rw [if_neg (by omega), add_zero, outsAt0_A m c t h0 (by omega) (by omega)]
    frame_out
    exact zeroGain j
  · by_cases h2 : t.val % 11 = 10
    · rw [if_pos h2, outsAt0_C m c t h0 (by omega) h2]
      frame_out
      exact gain_apply ..
    · rw [if_neg h2, add_zero]
      by_cases h1 : t.val % 11 = 0
      · rw [outsAt0_D m c t h0 h1 h2]
        rfl
      · rw [outsAt0_B m c t h0 h1 h2]
        rfl
  · rw [zero_add]
    let tok (n : Fin 4096) : EReal := FfnRow.tokGain (HeadGrad.row (d m c) n) (HeadGrad.row (x m c) n) (FfnGrad.rowF (gate m c) n)
      (FfnGrad.rowF (up m c) n) (FfnGrad.matIn (w m c)) (FfnGrad.matOut (wd m c)) (y 1)
    refine (Fin.sum_divmod_congr (S := 11) (A := 8)
      (f := fun a s => if s = (10 : Fin 11) then ∑ r : Fin 512, tok ⟨a.val * 512 + r.val, by omega⟩ else 0) fun s ha hs => ?_).trans ?_
    · have hN : cfg0.N = 88 := N_0
      have hsl := s.isLt
      have hp : 88 * (t.val / 88) + s.val < cfg0.N := by omega
      dsimp only
      by_cases h2 : s.val % 11 = 10
      · rw [if_pos (by omega), if_pos (Fin.ext h2)]
        refine Finset.sum_congr rfl fun r _ => ?_
        have hr := r.isLt
        have hn : (⟨s.val / 11 * 512 + r.val, by omega⟩ : Fin 4096).val
            = (⟨88 * (t.val / 88) + s.val, hp⟩ : Fin cfg0.N).val / 11 * 512 + r.val := by dsimp only; omega
        rw [hidden_row m c ⟨88 * (t.val / 88) + s.val, hp⟩ (by dsimp only; omega) r _ hn, (rows m c ⟨88 * (t.val / 88) + s.val, hp⟩ r _ hn).2]
        rfl
      · rw [if_neg (by omega), if_neg fun h => h2 (congrArg Fin.val h)]
    · simp only [Finset.sum_ite_eq', Finset.mem_univ, if_true]
      exact Fin.sum_mul_add_congr fun a r hl => rfl

end Cert.FfnBackIdeal.Whole

end
-- ==== Proof.FfnBackClaims.lean ====
/-
The claims about the feed-forward layer's backward pass.
-/
module

public import proofs.«01_k».proof.Defs
public import proofs.«01_k».proof.Proof.Gen.FfnBack.Frame
public import proofs.«01_k».proof.Proof.FfnKernel

@[expose] public section

set_option maxRecDepth 16384

noncomputable section

open Idealize.ShloMosaic Idealize.ShloMosaic.TcCoe Idealize.SL.Sem

namespace Cert.FfnGrad

theorem frame_kernel : Cert.quiescent_FfnBack := fun m ρ _ => Cert.FfnBack.Gen.frame (F := Bits) m ρ
theorem frame_ideal : Cert.quiescent_FfnBackIdeal := fun m ρ _ => Cert.FfnBackIdeal.Gen.frame (F := Ideal) m ρ
theorem frame_ref_ideal : Cert.quiescent_FfnBackRefIdeal := fun m ρ _ =>
  (θ_run _ _ _).mono (fun r h => ⟨fun c => (h c).2.2.2.2.2, sem_eq_zero_of_no_sems (by decide) r.2⟩) (Cert.FfnBackRefIdeal.Value.run (F := Ideal) m ρ)

/-- In exact arithmetic, the kernel's and the reference's results are the same. -/
theorem algebraic : Cert.algebraic_FfnBackIdeal_FfnBackRefIdeal := fun m ρ m' ρ' _ hag =>
  ⟨_, _, _, _, _, (θ_run _ _ _).mono (fun r h c => by
      obtain ⟨h8, h9, h10, h11, h12, hk⟩ := h c
      exact ⟨h8.trans (Cert.FfnBackIdeal.Whole.final8 m c), h9.trans (Cert.FfnBackIdeal.Whole.final9 m c),
        h10.trans (Cert.FfnBackIdeal.Whole.final10 m c), h11.trans (Cert.FfnBackIdeal.Whole.final11 m c),
        h12.trans (Cert.FfnBackIdeal.Whole.final12 m c), hk⟩)
      (Cert.FfnBackIdeal.Value.run_blocks (F := Ideal) m ρ),
    (θ_run _ _ _).mono (fun r h c => by
      obtain ⟨h8, h9, h10, h11, h12, hk⟩ := h c
      obtain ⟨a0, a1, a2, a3, a4, a5, a6⟩ := hag c
      refine ⟨h8.trans ?_, h9.trans ?_, h10.trans ?_, h11.trans ?_, h12.trans ?_, hk⟩
      · unfold Cert.FfnBackRefIdeal.Value.res_main_v51
        rw [a0, a1, a2, a3, a4, a5, a6]
        exact outX_arrays ..
      · rw [a3, a4]
        exact outAct_arrays ..
      · rw [a0, a3, a4, a6]
        exact outGate_arrays ..
      · rw [a0, a3, a6]
        exact outUp_arrays ..
      · rw [a0, a1, a3, a4, a5, a6]
        exact outGain_arrays ..)
    (Cert.FfnBackRefIdeal.Value.run (F := Ideal) m' ρ')⟩

end Cert.FfnGrad

end
-- ==== Proof.MidMath.lean ====
/-
The merge of the two mixers for one token, forwards and backwards. The second mixer's row is four heads of 128 columns, each with
its own RMS norm.
-/
module

public import proofs.«01_k».proof.Proof.Rows

@[expose] public section

noncomputable section

open Idealize.ShloMosaic

namespace Cert.MidRow

open Cert.Rows

/-- The number 128, as the programs write it. -/
abbrev dim : EReal := Ideal.ofBits .f32 0x43000000#32

/-- The column of a head's entry, and what a function of head and entry is at a column. -/
def col (h : Fin 4) (k : Fin 128) : Fin 512 := ⟨h.val * 128 + k.val, by omega⟩
def heads {α : Type} (f : Fin 4 → Fin 128 → α) (q : Fin 512) : α := f ⟨q.val / 128, by omega⟩ ⟨q.val % 128, by omega⟩

/-- A head's reciprocal root mean square, and its entries divided by the root mean square. -/
def inv (o : Fin 512 → EReal) (h : Fin 4) : EReal := Ideal.rsqrt (Ideal.div (∑ k, o (col h k) * o (col h k)) dim + small)
def unit (o : Fin 512 → EReal) (h : Fin 4) (k : Fin 128) : EReal := o (col h k) * inv o h

/-- The normed heads, and the second mixer's row after its gate `z`. -/
def normed (o : Fin 512 → EReal) (w : Fin 128 → EReal) : Fin 512 → EReal := heads fun h k => unit o h k * w k
def gated (o z : Fin 512 → EReal) (w : Fin 128 → EReal) (q : Fin 512) : EReal := normed o w q * (z q * sigmoid (z q))

/-- Four pieces of 128 columns side by side are a function of head and entry. -/
theorem four {α : Type} (f : Fin 4 → Fin 128 → α) (q : Fin 512) :
    (if h : q.val < 128 then f 0 ⟨q.val, h⟩ else if h : q.val - 128 < 128 then f 1 ⟨q.val - 128, h⟩
      else if h : q.val - 128 - 128 < 128 then f 2 ⟨q.val - 128 - 128, h⟩
      else f 3 ⟨q.val - 128 - 128 - 128, by omega⟩) = heads f q := by
  unfold heads
  split_ifs with h0 h1 h2
  · exact congrArg₂ f (Fin.ext (by show 0 = q.val / 128; omega)) (Fin.ext (by show _ = q.val % 128; dsimp only; omega))
  · exact congrArg₂ f (Fin.ext (by show 1 = q.val / 128; omega)) (Fin.ext (by show _ = q.val % 128; dsimp only; omega))
  · exact congrArg₂ f (Fin.ext (by show 2 = q.val / 128; omega)) (Fin.ext (by show _ = q.val % 128; dsimp only; omega))
  · exact congrArg₂ f (Fin.ext (by show 3 = q.val / 128; omega)) (Fin.ext (by show _ = q.val % 128; dsimp only; omega))

/-- At a head's own column the function has that head's entry. -/
theorem heads_col {α : Type} (f : Fin 4 → Fin 128 → α) (h : Fin 4) (k : Fin 128) : heads f (col h k) = f h k := by
  unfold heads col
  have hh := h.isLt
  exact congrArg₂ f (Fin.ext (by show (h.val * 128 + k.val) / 128 = h.val; omega))
    (Fin.ext (by show (h.val * 128 + k.val) % 128 = k.val; omega))

section Token

variable (x : Fin 1024 → EReal) (ya o z : Fin 512 → EReal) (ga gb : Fin 1024 → EReal) (w : Fin 128 → EReal)
  (wa wb : Fin 512 → Fin 1024 → EReal) (wo : Fin 1024 → Fin 1024 → EReal)

/-- The merged row, and the stream after it. -/
def merged (l : Fin 1024) : EReal := sigmoid (ga l) * times ya wa l + sigmoid (gb l) * times (gated o z w) wb l
def stream (l : Fin 1024) : EReal := x l + times (merged ya o z ga gb w wa wb) wo l

variable (d : Fin 1024 → EReal)

/-- The gradients, from the gradient `d` of the stream: at the merged row, at the two products before their gates, at the two
gates, at the two mixers' rows, at the second mixer's gate `z` and at its heads. -/
def dmerged (k : Fin 1024) : EReal := ∑ l, d l * wo k l
def dprod (g : Fin 1024 → EReal) (l : Fin 1024) : EReal := dmerged wo d l * sigmoid (g l)
def dgate (g : Fin 1024 → EReal) (u : Fin 1024 → EReal) (l : Fin 1024) : EReal :=
  dmerged wo d l * u l * sigmoid (g l) * (one - sigmoid (g l))
def drow (g : Fin 1024 → EReal) (v : Fin 512 → Fin 1024 → EReal) (q : Fin 512) : EReal := ∑ l, dprod wo d g l * v q l
def dz (q : Fin 512) : EReal :=
  drow wo d gb wb q * normed o w q * (sigmoid (z q) * (one + z q * (one - sigmoid (z q))))
def dnorm (q : Fin 512) : EReal := drow wo d gb wb q * (z q * sigmoid (z q))
def dhead (h : Fin 4) (k : Fin 128) : EReal := inv o h * (dnorm z gb wb wo d (col h k) * w k
  - unit o h k * Ideal.div (∑ j, dnorm z gb wb wo d (col h j) * w j * unit o h j) dim)

/-- A token's part of the gradient of the heads' gain. -/
def dgain (k : Fin 128) : EReal := ∑ h, dnorm z gb wb wo d (col h k) * unit o h k

end Token

end Cert.MidRow

end
-- ==== Proof.MidArrays.lean ====
/-
The merge's results as arrays of the arguments, token by token, and the reference's arrays read as those.
-/
module

public import proofs.«01_k».proof.Defs
public import Idealize.ShloMosaic.Lib.Pointwise
public import proofs.«01_k».proof.Proof.Gen.MidRefIdeal.Run
public import proofs.«01_k».proof.Proof.MidMath

@[expose] public section

set_option maxRecDepth 16384

noncomputable section

open Idealize.ShloMosaic Idealize.ShloMosaic.TcCoe Idealize.SL.Sem

namespace Cert.Merge

open Cert.MidRefIdeal Cert.MidRefIdeal.Gen Cert.Rows

/-- A token's row of an array, the three pieces of the projection that the merge reads, the gain and the weights. -/
abbrev row (x : FVec Ideal S4096x1024 .f32) (n : Fin 4096) (l : Fin 1024) : EReal := x (ix2 n l)
abbrev rowH (x : FVec Ideal S4096x512 .f32) (n : Fin 4096) (q : Fin 512) : EReal := x (ix2 n q)
abbrev gateA (p : FVec Ideal S4096x5760 .f32) (n : Fin 4096) (l : Fin 1024) : EReal := p (ix2 n ⟨l.val, by omega⟩)
abbrev gateB (p : FVec Ideal S4096x5760 .f32) (n : Fin 4096) (l : Fin 1024) : EReal := p (ix2 n ⟨1024 + l.val, by omega⟩)
abbrev gateZ (p : FVec Ideal S4096x5760 .f32) (n : Fin 4096) (q : Fin 512) : EReal := p (ix2 n ⟨5120 + q.val, by omega⟩)
abbrev gain (g : FVec Ideal S1x128 .f32) (k : Fin 128) : EReal := g (ix2 0 k)
abbrev matH (w : FVec Ideal S512x1024 .bf16) (q : Fin 512) (l : Fin 1024) : EReal := w (ix2 q l)
abbrev mat (w : FVec Ideal S1024x1024 .bf16) (k l : Fin 1024) : EReal := w (ix2 k l)

variable (x : FVec Ideal S4096x1024 .f32) (ya o : FVec Ideal S4096x512 .f32) (p : FVec Ideal S4096x5760 .f32)
  (w : FVec Ideal S1x128 .f32) (wa wb : FVec Ideal S512x1024 .bf16) (wo : FVec Ideal S1024x1024 .bf16)

/-- The merged rows, and the stream after them. -/
def outMerged : FVec Ideal S4096x1024 .bf16 := fun i =>
  MidRow.merged (rowH ya (i 0)) (rowH o (i 0)) (gateZ p (i 0)) (gateA p (i 0)) (gateB p (i 0)) (gain w) (matH wa) (matH wb) (i 1)
def outStream : FVec Ideal S4096x1024 .f32 := fun i =>
  MidRow.stream (row x (i 0)) (rowH ya (i 0)) (rowH o (i 0)) (gateZ p (i 0)) (gateA p (i 0)) (gateB p (i 0)) (gain w)
    (matH wa) (matH wb) (mat wo) (i 1)

section Arrays

variable (n : Fin 4096) (h : Fin 4) (k : Fin 128) (q : Fin 512) (l : Fin 1024)

/-- The reference's arrays, in the order it computes them: the heads, their reciprocal root mean squares, the heads divided by
their root mean squares, the normed heads as rows, the second mixer's gate, its gated rows. -/
abbrev split : FVec Ideal S4096x4x128 .f32 := shapeCast S4096x4x128 o shapeCasts_S4096x512_S4096x4x128
abbrev spread (v : FVec Ideal S4096x4x1 .f32) : FVec Ideal S4096x4x128 .f32 :=
  broadcastInDim S4096x4x128 ![0, 1, 2] bcast_S4096x4x1_S4096x4x128_0_1_2 v
abbrev means (y : FVec Ideal S4096x4x128 .f32) : FVec Ideal S4096x4x1 .f32 :=
  Host.divf (broadcastInDim S4096x4x1 ![0, 1] bcast_S4096x4_S4096x4x1_0_1 (Host.reduceAdd y (constant S_ .f32 0x00000000#32) reducesTo_S4096x4x128_S4096x4_d2 h_S_))
    (broadcastInDim S4096x4x1 ![] bcast_S_S4096x4x1 (constant S_ .f32 0x43000000#32))
abbrev gains : FVec Ideal S4096x4x128 .f32 :=
  broadcastInDim S4096x4x128 ![0, 1, 2] bcast_S1x1x128_S4096x4x128_0_1_2 (broadcastInDim S1x1x128 ![1, 2] bcast_S1x128_S1x1x128_1_2 w)
def invs : FVec Ideal S4096x4x1 .f32 :=
  Host.rsqrt (addf (means (mulf (split o) (split o))) (broadcastInDim S4096x4x1 ![] bcast_S_S4096x4x1 (constant S_ .f32 0x358637BD#32)))
def units : FVec Ideal S4096x4x128 .f32 := mulf (split o) (spread (invs o))
def norms : FVec Ideal S4096x512 .f32 := shapeCast S4096x512 (mulf (units o) (gains w)) shapeCasts_S4096x4x128_S4096x512
abbrev onesH : FVec Ideal S4096x512 .f32 := broadcastInDim S4096x512 ![] bcast_S_S4096x512 (constant S_ .f32 0x3F800000#32)
abbrev ones : FVec Ideal S4096x1024 .f32 := broadcastInDim S4096x1024 ![] bcast_S_S4096x1024 (constant S_ .f32 0x3F800000#32)
abbrev cutZ : FVec Ideal S4096x512 .f32 := extractStridedSlice S4096x512 ![0, 5120] p slices_S4096x5760_S4096x512_0_5120
abbrev cutA : FVec Ideal S4096x1024 .f32 := extractStridedSlice S4096x1024 ![0, 0] p slices_S4096x5760_S4096x1024_0_0
abbrev cutB : FVec Ideal S4096x1024 .f32 := extractStridedSlice S4096x1024 ![0, 1024] p slices_S4096x5760_S4096x1024_0_1024
def sigH (v : FVec Ideal S4096x512 .f32) : FVec Ideal S4096x512 .f32 := Host.divf onesH (addf onesH (Host.exp (Host.negf v)))
def sig (v : FVec Ideal S4096x1024 .f32) : FVec Ideal S4096x1024 .f32 := Host.divf ones (addf ones (Host.exp (Host.negf v)))
def gateds : FVec Ideal S4096x512 .f32 := mulf (norms o w) (mulf (cutZ p) (sigH (cutZ p)))
def prod (v : FVec Ideal S4096x512 .f32) : FVec Ideal S4096x1024 .f32 :=
  Host.dotGeneral (F := Ideal) (φ₁ := .f32) (φ₂ := .f32) dot_S4096x512_S512x1024_S4096x1024_1_0_0_1_n_n none v (extf .f32 wa bitsLt_bf16_f32)
def mergeds : FVec Ideal S4096x1024 .f32 := addf (mulf (sig (cutA p)) (prod wa ya)) (mulf (sig (cutB p)) (prod wb (gateds o p w)))

theorem invs_apply (z : Fin 1) : invs o (ix3 n h z) = MidRow.inv (rowH o n) h := by
  pointwise [invs, MidRow.inv, MidRow.col]

theorem units_apply : units o (ix3 n h k) = MidRow.unit (rowH o n) h k := by
  pointwise [units, invs_apply, MidRow.unit, MidRow.col]

theorem norms_apply : norms o w (ix2 n q) = MidRow.normed (rowH o n) (gain w) q := by
  pointwise [norms, units_apply, MidRow.normed, MidRow.heads]

theorem sigH_apply (v : FVec Ideal S4096x512 .f32) : sigH v (ix2 n q) = sigmoid (v (ix2 n q)) := by
  pointwise [sigH, sigmoid]

theorem sig_apply (v : FVec Ideal S4096x1024 .f32) : sig v (ix2 n l) = sigmoid (v (ix2 n l)) := by
  pointwise [sig, sigmoid]

theorem gateds_apply : gateds o p w (ix2 n q) = MidRow.gated (rowH o n) (gateZ p n) (gain w) q := by
  pointwise [gateds, norms_apply, sigH_apply, MidRow.gated]

theorem gateds_row : rowH (gateds o p w) n = MidRow.gated (rowH o n) (gateZ p n) (gain w) := funext fun q => gateds_apply o p w n q

theorem prod_apply (v : FVec Ideal S4096x512 .f32) : prod wa v (ix2 n l) = times (rowH v n) (matH wa) l := by
  pointwise [prod, times]

theorem mergeds_apply : mergeds ya o p w wa wb (ix2 n l)
    = MidRow.merged (rowH ya n) (rowH o n) (gateZ p n) (gateA p n) (gateB p n) (gain w) (matH wa) (matH wb) l := by
  pointwise [mergeds, prod_apply, sig_apply, gateds_row, MidRow.merged]

/-- The reference's results are the arrays above. -/
theorem outMerged_arrays : truncf .bf16 (mergeds ya o p w wa wb) bitsLt_bf16_f32 = outMerged ya o p w wa wb := by
  funext i
  obtain ⟨n, l, rfl⟩ : ∃ (n : Fin 4096) (l : Fin 1024), ix2 n l = i := ⟨i 0, i 1, by funext a; match a with | ⟨0, _⟩ => rfl | ⟨1, _⟩ => rfl⟩
  pointwise [outMerged, mergeds_apply]

theorem outStream_arrays : addf x (Host.dotGeneral (F := Ideal) (φ₁ := .f32) (φ₂ := .f32) dot_S4096x1024_S1024x1024_S4096x1024_1_0_0_1_n_n none
    (mergeds ya o p w wa wb) (extf .f32 wo bitsLt_bf16_f32)) = outStream x ya o p w wa wb wo := by
  funext i
  obtain ⟨n, l, rfl⟩ : ∃ (n : Fin 4096) (l : Fin 1024), ix2 n l = i := ⟨i 0, i 1, by funext a; match a with | ⟨0, _⟩ => rfl | ⟨1, _⟩ => rfl⟩
  pointwise [outStream, mergeds_apply, MidRow.stream, times]

end Arrays

end Cert.Merge

end
-- ==== Proof.MidKernel.lean ====
/-
The kernel of the merge of the two mixers: what its blocks hold row by row.
-/
module

public import Idealize.ShloMosaic.Lib.Pipeline.ValueKit
public import proofs.«01_k».proof.Proof.Gen.MidIdeal.Value
public import proofs.«01_k».proof.Proof.MidArrays

@[expose] public section

set_option maxRecDepth 16384

noncomputable section

open Idealize.ShloMosaic Idealize.ShloMosaic.TcCoe Idealize.SL.Sem

namespace Cert.MidIdeal.Whole

open Cert.MidIdeal Cert.MidIdeal.Gen Cert.Rows

/-- A row of a block. -/
abbrev row (x : FVec Ideal S256x1024 .f32) (r : Fin 256) (l : Fin 1024) : EReal := x (ix2 r l)
abbrev rowH (x : FVec Ideal S256x512 .f32) (r : Fin 256) (q : Fin 512) : EReal := x (ix2 r q)

section Payloads

variable (x ga gb : FVec Ideal S256x1024 .f32) (ya o z : FVec Ideal S256x512 .f32) (w : FVec Ideal S1x128 .f32)
  (wa wb : FVec Ideal S512x1024 .bf16) (wo : FVec Ideal S1024x1024 .bf16) (r : Fin 256) (k : Fin 128) (l : Fin 1024)

theorem unit0_apply : k0_pay3 (F := Ideal) o (ix2 r k) = MidRow.unit (rowH o r) 0 k := by
  pointwise [k0_pay3, MidRow.unit, MidRow.inv, MidRow.col]

theorem unit1_apply : k0_pay4 (F := Ideal) o (ix2 r k) = MidRow.unit (rowH o r) 1 k := by
  pointwise [k0_pay4, MidRow.unit, MidRow.inv, MidRow.col]

theorem unit2_apply : k0_pay5 (F := Ideal) o (ix2 r k) = MidRow.unit (rowH o r) 2 k := by
  pointwise [k0_pay5, MidRow.unit, MidRow.inv, MidRow.col]

theorem head3_apply : k0_pay6 (F := Ideal) o (ix2 r k) = rowH o r (MidRow.col 3 k) := by
  pointwise [k0_pay6, MidRow.col]

theorem mean3_apply (y : Fin 1) : k0_pay7 (F := Ideal) o (ix2 r y)
    = Ideal.div (∑ k, rowH o r (MidRow.col 3 k) * rowH o r (MidRow.col 3 k)) MidRow.dim := by
  pointwise [k0_pay7, head3_apply, MidRow.col]

theorem prodB_apply : k0_pay8 (F := Ideal) z w (k0_pay3 o) (k0_pay4 o) (k0_pay5 o) (k0_pay6 o) (k0_pay7 o) wb (ix2 r l)
    = times (MidRow.gated (rowH o r) (rowH z r) (Merge.gain w)) (Merge.matH wb) l := by
  pointwise [k0_pay8, unit0_apply, unit1_apply, unit2_apply, head3_apply, mean3_apply, times, MidRow.gated, sigmoid, sub_eq_add_neg, zero_add]
  refine Finset.sum_congr rfl fun q _ => congrArg (fun a : EReal => a * _) (congrArg (fun a : EReal => a * _) ?_)
  exact (congrArg₂ (fun a b : EReal => a * b) (MidRow.four (MidRow.unit (rowH o r)) q)
    (MidRow.four (fun _ k => Merge.gain w k) q))

theorem prodA_apply : k0_pay9 (F := Ideal) ya wa ga (ix2 r l) = sigmoid (ga (ix2 r l)) * times (rowH ya r) (Merge.matH wa) l := by
  pointwise [k0_pay9, times, sigmoid, sub_eq_add_neg, zero_add]

theorem merged_apply : k0_pay1 (F := Ideal) (k0_pay8 z w (k0_pay3 o) (k0_pay4 o) (k0_pay5 o) (k0_pay6 o) (k0_pay7 o) wb) (k0_pay9 ya wa ga)
      (k0_pay10 gb) k0_pay11 (ix2 r l)
    = MidRow.merged (rowH ya r) (rowH o r) (rowH z r) (row ga r) (row gb r) (Merge.gain w) (Merge.matH wa) (Merge.matH wb) l := by
  pointwise [k0_pay1, k0_pay10, k0_pay11, prodA_apply, prodB_apply, MidRow.merged, sigmoid, sub_eq_add_neg, zero_add]

theorem stream_apply : k0_pay2 (F := Ideal) (k0_pay8 z w (k0_pay3 o) (k0_pay4 o) (k0_pay5 o) (k0_pay6 o) (k0_pay7 o) wb) (k0_pay9 ya wa ga)
      (k0_pay10 gb) k0_pay11 x wo (ix2 r l)
    = MidRow.stream (row x r) (rowH ya r) (rowH o r) (rowH z r) (row ga r) (row gb r) (Merge.gain w) (Merge.matH wa) (Merge.matH wb) (Merge.mat wo) l := by
  pointwise [k0_pay2, merged_apply, MidRow.stream, times]

end Payloads

variable (m : (ℓ : Loc nD τ sig) → Buf (Elt Ideal) ℓ) (ρ : Dev nD → PrngReg) (c : Dev nD)

/-- Which windows advance with the point, and which stay. -/
theorem places : ∀ t : Fin cfg0.N, win0_0.index t = ![t.val, 0] ∧ win0_1.index t = ![t.val, 0] ∧ win0_2.index t = ![t.val, 0]
    ∧ win0_3.index t = ![t.val, 10] ∧ win0_4.index t = ![t.val, 0] ∧ win0_5.index t = ![t.val, 1] ∧ win0_6.index t = ![0, 0]
    ∧ win0_7.index t = ![0, 0] ∧ win0_8.index t = ![0, 0] ∧ win0_9.index t = ![0, 0] ∧ win0_10.index t = ![t.val, 0]
    ∧ win0_11.index t = ![t.val, 0] :=
  (by decide +kernel : ∀ t : Fin grid0.N, _)

/-- The arguments. -/
abbrev x : FVec Ideal S4096x1024 .f32 := m ((c : Thread nD τ).loc main_arg0)
abbrev ya : FVec Ideal S4096x512 .f32 := m ((c : Thread nD τ).loc main_arg1)
abbrev o : FVec Ideal S4096x512 .f32 := m ((c : Thread nD τ).loc main_arg2)
abbrev p : FVec Ideal S4096x5760 .f32 := m ((c : Thread nD τ).loc main_arg3)
abbrev w : FVec Ideal S1x128 .f32 := m ((c : Thread nD τ).loc main_arg4)
abbrev wa : FVec Ideal S512x1024 .bf16 := m ((c : Thread nD τ).loc main_arg5)
abbrev wb : FVec Ideal S512x1024 .bf16 := m ((c : Thread nD τ).loc main_arg6)
abbrev wo : FVec Ideal S1024x1024 .bf16 := m ((c : Thread nD τ).loc main_arg7)

/-- The rows of a point's blocks are the arguments' rows. -/
theorem rows (t : Fin cfg0.N) (r : Fin 256) (n : Fin 4096) (hn : n.val = t.val * 256 + r.val) :
    row (iblk m c 0 t) r = Merge.row (x m c) n ∧ rowH (iblk m c 1 t) r = Merge.rowH (ya m c) n
      ∧ rowH (iblk m c 2 t) r = Merge.rowH (o m c) n := by
  refine ⟨?_, ?_, ?_⟩
  all_goals
    funext l
    dsimp only [row, rowH, Merge.row, Merge.rowH]
    blk_ext [iblk, V, places t]

/-- The pieces of the projection's row that a point reads. -/
theorem pieces (t : Fin cfg0.N) (r : Fin 256) (n : Fin 4096) (hn : n.val = t.val * 256 + r.val) :
    rowH (X0_3 m c t) r = Merge.gateZ (p m c) n ∧ row (X0_4 m c t) r = Merge.gateA (p m c) n
      ∧ row (X0_5 m c t) r = Merge.gateB (p m c) n := by
  refine ⟨funext fun l => ?_, funext fun l => ?_, funext fun l => ?_⟩
  · refine (dif_pos (moved0_3 t (ix2 r l))).trans ?_
    dsimp only [Merge.gateZ]
    blk_ext [iblk, V, places t]
  · refine (dif_pos (moved0_4 t (ix2 r l))).trans ?_
    dsimp only [Merge.gateA]
    blk_ext [iblk, V, places t]
  · refine (dif_pos (moved0_5 t (ix2 r l))).trans ?_
    dsimp only [Merge.gateB]
    blk_ext [iblk, V, places t]

/-- The gain and the weights are the arguments themselves. -/
theorem consts (t : Fin cfg0.N) : Merge.gain (iblk m c 6 t) = Merge.gain (w m c) ∧ Merge.matH (iblk m c 7 t) = Merge.matH (wa m c)
    ∧ Merge.matH (iblk m c 8 t) = Merge.matH (wb m c) ∧ Merge.mat (iblk m c 9 t) = Merge.mat (wo m c) := by
  refine ⟨funext fun l => ?_, funext fun k => funext fun l => ?_, funext fun k => funext fun l => ?_, funext fun k => funext fun l => ?_⟩
  all_goals
    dsimp only [Merge.gain, Merge.matH, Merge.mat]
    blk_ext [iblk, V, places t]

/-- The stream after the run. -/
theorem final10 : (dats m 0 c).arrAt 10 cfg0.N = Merge.outStream (x m c) (ya m c) (o m c) (p m c) (w m c) (wa m c) (wb m c) (wo m c) := by
  refine (dats m 0 c).arrAt_eq_of_covers 10 _ (by decide +kernel) fun t _ y => ?_
  blk_simp
  rw [after0_10]
  unfold outsAt0
  frame_out
  have ht : t.val < 16 := lt_of_lt_of_eq t.isLt N_0
  obtain ⟨r, l, rfl⟩ : ∃ (r : Fin 256) (l : Fin 1024), ix2 r l = y := ⟨y 0, y 1, by funext a; match a with | ⟨0, _⟩ => rfl | ⟨1, _⟩ => rfl⟩
  have hr := r.isLt
  have hn : (⟨t.val * 256 + r.val, by omega⟩ : Fin 4096).val = t.val * 256 + r.val := rfl
  refine (stream_apply ..).trans (Eq.trans ?_ (congrArg _ (?_ : ix2 (⟨t.val * 256 + r.val, by omega⟩ : Fin 4096) l = _)))
  · obtain ⟨h0, h1, h2⟩ := rows m c t r _ hn
    obtain ⟨h3, h4, h5⟩ := pieces m c t r _ hn
    obtain ⟨h6, h7, h8, h9⟩ := consts m c t
    rw [h0, h1, h2, h3, h4, h5, h6, h7, h8, h9]
    rfl
  · blk_ext [places t]

/-- The merged rows after the run. -/
theorem final11 : (dats m 0 c).arrAt 11 cfg0.N = Merge.outMerged (ya m c) (o m c) (p m c) (w m c) (wa m c) (wb m c) := by
  refine (dats m 0 c).arrAt_eq_of_covers 11 _ (by decide +kernel) fun t _ y => ?_
  blk_simp
  rw [after0_11]
  unfold outsAt0
  frame_out
  have ht : t.val < 16 := lt_of_lt_of_eq t.isLt N_0
  obtain ⟨r, l, rfl⟩ : ∃ (r : Fin 256) (l : Fin 1024), ix2 r l = y := ⟨y 0, y 1, by funext a; match a with | ⟨0, _⟩ => rfl | ⟨1, _⟩ => rfl⟩
  have hr := r.isLt
  have hn : (⟨t.val * 256 + r.val, by omega⟩ : Fin 4096).val = t.val * 256 + r.val := rfl
  refine (merged_apply ..).trans (Eq.trans ?_ (congrArg _ (?_ : ix2 (⟨t.val * 256 + r.val, by omega⟩ : Fin 4096) l = _)))
  · obtain ⟨h0, h1, h2⟩ := rows m c t r _ hn
    obtain ⟨h3, h4, h5⟩ := pieces m c t r _ hn
    obtain ⟨h6, h7, h8, -⟩ := consts m c t
    rw [h1, h2, h3, h4, h5, h6, h7, h8]
    rfl
  · blk_ext [places t]

end Cert.MidIdeal.Whole

end
-- ==== Proof.MidClaims.lean ====
/-
The claims about the merge of the two mixers.
-/
module

public import proofs.«01_k».proof.Defs
public import proofs.«01_k».proof.Proof.Gen.Mid.Frame
public import proofs.«01_k».proof.Proof.MidKernel

@[expose] public section

set_option maxRecDepth 16384

noncomputable section

open Idealize.ShloMosaic Idealize.ShloMosaic.TcCoe Idealize.SL.Sem

namespace Cert.Merge

theorem frame_kernel : Cert.quiescent_Mid := fun m ρ _ => Cert.Mid.Gen.frame (F := Bits) m ρ
theorem frame_ideal : Cert.quiescent_MidIdeal := fun m ρ _ => Cert.MidIdeal.Gen.frame (F := Ideal) m ρ
theorem frame_ref_ideal : Cert.quiescent_MidRefIdeal := fun m ρ _ =>
  (θ_run _ _ _).mono (fun r h => ⟨fun c => (h c).2.2, sem_eq_zero_of_no_sems (by decide) r.2⟩) (Cert.MidRefIdeal.Value.run (F := Ideal) m ρ)

/-- In exact arithmetic, the kernel's and the reference's results are the same. -/
theorem algebraic : Cert.algebraic_MidIdeal_MidRefIdeal := fun m ρ m' ρ' _ hag =>
  ⟨_, _, (θ_run _ _ _).mono (fun r h c => by
      obtain ⟨h10, h11, hk⟩ := h c
      exact ⟨h10.trans (Cert.MidIdeal.Whole.final10 m c), h11.trans (Cert.MidIdeal.Whole.final11 m c), hk⟩)
      (Cert.MidIdeal.Value.run_blocks (F := Ideal) m ρ),
    (θ_run _ _ _).mono (fun r h c => by
      obtain ⟨h10, h11, hk⟩ := h c
      obtain ⟨a0, a1, a2, a3, a4, a5, a6, a7⟩ := hag c
      refine ⟨h10.trans ?_, h11.trans ?_, hk⟩
      · rw [a0, a1, a2, a3, a4, a5, a6, a7]
        exact outStream_arrays ..
      · rw [a1, a2, a3, a4, a5, a6]
        exact outMerged_arrays ..)
    (Cert.MidRefIdeal.Value.run (F := Ideal) m' ρ')⟩

end Cert.Merge

end
-- ==== Proof.MidBackArrays.lean ====
/-
The merge's gradients as arrays of the arguments, token by token, and the reference's arrays read as those.
-/
module

public import proofs.«01_k».proof.Defs
public import Idealize.ShloMosaic.Lib.Pointwise
public import proofs.«01_k».proof.Proof.Gen.MidBackRefIdeal.Run
public import proofs.«01_k».proof.Proof.MidArrays

@[expose] public section

set_option maxRecDepth 16384

noncomputable section

open Idealize.ShloMosaic Idealize.ShloMosaic.TcCoe Idealize.SL.Sem

namespace Cert.MergeGrad

open Cert.MidBackRefIdeal Cert.MidBackRefIdeal.Gen Cert.Rows Cert.Merge

/-- A token's row of the merged rows. -/
abbrev rowM (x : FVec Ideal S4096x1024 .bf16) (n : Fin 4096) (l : Fin 1024) : EReal := x (ix2 n l)

variable (d : FVec Ideal S4096x1024 .f32) (mg : FVec Ideal S4096x1024 .bf16) (ya o : FVec Ideal S4096x512 .f32)
  (p : FVec Ideal S4096x5760 .f32) (w : FVec Ideal S1x128 .f32) (wa wb : FVec Ideal S512x1024 .bf16)
  (wo : FVec Ideal S1024x1024 .bf16)

/-- The gradients at the two mixers' rows, at the second mixer's gate, at the two gates side by side, of the three weights, and
of the heads' gain, in 8 equal rows. -/
def outYa : FVec Ideal S4096x512 .f32 := fun i => MidRow.drow (mat wo) (row d (i 0)) (gateA p (i 0)) (matH wa) (i 1)
def outO : FVec Ideal S4096x512 .f32 := fun i =>
  MidRow.heads (MidRow.dhead (rowH o (i 0)) (gateZ p (i 0)) (gateB p (i 0)) (gain w) (matH wb) (mat wo) (row d (i 0))) (i 1)
def outZ : FVec Ideal S4096x512 .f32 := fun i =>
  MidRow.dz (rowH o (i 0)) (gateZ p (i 0)) (gateB p (i 0)) (gain w) (matH wb) (mat wo) (row d (i 0)) (i 1)
def tokGates (n : Fin 4096) (l : Fin 2048) : EReal :=
  if h : l.val < 1024 then MidRow.dgate (mat wo) (row d n) (gateA p n) (times (rowH ya n) (matH wa)) ⟨l.val, h⟩
  else MidRow.dgate (mat wo) (row d n) (gateB p n) (times (MidRow.gated (rowH o n) (gateZ p n) (gain w)) (matH wb)) ⟨l.val - 1024, by omega⟩
def outGates : FVec Ideal S4096x2048 .f32 := fun i => tokGates d ya o p w wa wb wo (i 0) (i 1)
def outWo : FVec Ideal S1024x1024 .f32 := fun i => ∑ n, rowM mg n (i 0) * row d n (i 1)
def outWa : FVec Ideal S512x1024 .f32 := fun i => ∑ n, rowH ya n (i 0) * MidRow.dprod (mat wo) (row d n) (gateA p n) (i 1)
def outWb : FVec Ideal S512x1024 .f32 := fun i =>
  ∑ n, MidRow.gated (rowH o n) (gateZ p n) (gain w) (i 0) * MidRow.dprod (mat wo) (row d n) (gateB p n) (i 1)
def outGain : FVec Ideal S8x128 .f32 := fun i =>
  ∑ n, MidRow.dgain (rowH o n) (gateZ p n) (gateB p n) (matH wb) (mat wo) (row d n) (i 1)

section Arrays

variable (n : Fin 4096) (h : Fin 4) (k : Fin 128) (q : Fin 512) (l : Fin 1024) (g : FVec Ideal S4096x1024 .f32)

/-- The reference's arrays, in the order it computes them: the gradients at the merged rows, at a product before its gate `g`, at
the gate, at a mixer's rows, at the second mixer's gate, at its normed heads, and at its heads. -/
def dmergeds : FVec Ideal S4096x1024 .f32 :=
  Host.dotGeneral (F := Ideal) (φ₁ := .f32) (φ₂ := .f32) dot_S4096x1024_S1024x1024_S4096x1024_1_0_0_1_n_n none d (transpose S1024x1024 [1, 0] (extf .f32 wo bitsLt_bf16_f32) transposes_S1024x1024_S1024x1024_1_0)
def dprods : FVec Ideal S4096x1024 .f32 := mulf (dmergeds d wo) (sig g)
def dgates (u : FVec Ideal S4096x1024 .f32) : FVec Ideal S4096x1024 .f32 :=
  mulf (mulf (mulf (dmergeds d wo) u) (sig g)) (subf ones (sig g))
def drows : FVec Ideal S4096x512 .f32 :=
  Host.dotGeneral (F := Ideal) (φ₁ := .f32) (φ₂ := .f32) dot_S4096x1024_S1024x512_S4096x512_1_0_0_1_n_n none (dprods d wo g) (transpose S1024x512 [1, 0] (extf .f32 wa bitsLt_bf16_f32) transposes_S512x1024_S1024x512_1_0)
def dzs : FVec Ideal S4096x512 .f32 :=
  mulf (mulf (drows d wb wo (cutB p)) (norms o w)) (mulf (sigH (cutZ p)) (addf onesH (mulf (cutZ p) (subf onesH (sigH (cutZ p))))))
def dnorms : FVec Ideal S4096x4x128 .f32 :=
  shapeCast S4096x4x128 (mulf (drows d wb wo (cutB p)) (mulf (cutZ p) (sigH (cutZ p)))) shapeCasts_S4096x512_S4096x4x128
def dheads : FVec Ideal S4096x4x128 .f32 :=
  mulf (spread (invs o)) (subf (mulf (dnorms d p wb wo) (gains w))
    (mulf (units o) (spread (means (mulf (mulf (dnorms d p wb wo) (gains w)) (units o))))))

theorem dmergeds_apply : dmergeds d wo (ix2 n l) = MidRow.dmerged (mat wo) (row d n) l := by
  pointwise [dmergeds, MidRow.dmerged]

theorem dprods_apply : dprods d wo g (ix2 n l) = MidRow.dprod (mat wo) (row d n) (row g n) l := by
  pointwise [dprods, dmergeds_apply, sig_apply, MidRow.dprod]

theorem dgates_apply (u : FVec Ideal S4096x1024 .f32) : dgates d wo g u (ix2 n l)
    = MidRow.dgate (mat wo) (row d n) (row g n) (row u n) l := by
  pointwise [dgates, dmergeds_apply, sig_apply, MidRow.dgate]

theorem drows_apply : drows d wa wo g (ix2 n q) = MidRow.drow (mat wo) (row d n) (row g n) (matH wa) q := by
  pointwise [drows, dprods_apply, MidRow.drow]

theorem cutA_row : row (cutA p) n = gateA p n := funext fun l => by pointwise []
theorem cutB_row : row (cutB p) n = gateB p n := funext fun l => by pointwise []

theorem prod_row (v : FVec Ideal S4096x512 .f32) : row (prod wa v) n = times (rowH v n) (matH wa) := funext fun l => prod_apply wa n l v

theorem dzs_apply : dzs d o p w wb wo (ix2 n q)
    = MidRow.dz (rowH o n) (gateZ p n) (gateB p n) (gain w) (matH wb) (mat wo) (row d n) q := by
  pointwise [dzs, drows_apply, norms_apply, sigH_apply, cutB_row, MidRow.dz]

theorem dnorms_apply : dnorms d p wb wo (ix3 n h k)
    = MidRow.dnorm (gateZ p n) (gateB p n) (matH wb) (mat wo) (row d n) (MidRow.col h k) := by
  pointwise [dnorms, drows_apply, sigH_apply, cutB_row, MidRow.dnorm, MidRow.col]

theorem dheads_apply : dheads d o p w wb wo (ix3 n h k)
    = MidRow.dhead (rowH o n) (gateZ p n) (gateB p n) (gain w) (matH wb) (mat wo) (row d n) h k := by
  pointwise [dheads, dnorms_apply, units_apply, invs_apply, MidRow.dhead]

/-- The reference's results are the arrays above. -/
theorem outYa_arrays : drows d wa wo (cutA p) = outYa d p wa wo := by
  funext i
  obtain ⟨n, q, rfl⟩ : ∃ (n : Fin 4096) (q : Fin 512), ix2 n q = i := ⟨i 0, i 1, by funext a; match a with | ⟨0, _⟩ => rfl | ⟨1, _⟩ => rfl⟩
  pointwise [outYa, drows_apply, cutA_row]

theorem outO_arrays : shapeCast S4096x512 (dheads d o p w wb wo) shapeCasts_S4096x4x128_S4096x512 = outO d o p w wb wo := by
  funext i
  obtain ⟨n, q, rfl⟩ : ∃ (n : Fin 4096) (q : Fin 512), ix2 n q = i := ⟨i 0, i 1, by funext a; match a with | ⟨0, _⟩ => rfl | ⟨1, _⟩ => rfl⟩
  pointwise [outO, dheads_apply, MidRow.heads]

theorem outZ_arrays : dzs d o p w wb wo = outZ d o p w wb wo := by
  funext i
  obtain ⟨n, q, rfl⟩ : ∃ (n : Fin 4096) (q : Fin 512), ix2 n q = i := ⟨i 0, i 1, by funext a; match a with | ⟨0, _⟩ => rfl | ⟨1, _⟩ => rfl⟩
  pointwise [outZ, dzs_apply]

theorem outGates_arrays : concatenate S4096x2048 1 [⟨S4096x1024, dgates d wo (cutA p) (prod wa ya)⟩,
    ⟨S4096x1024, dgates d wo (cutB p) (prod wb (gateds o p w))⟩] concatenates_S4096x1024_S4096x1024_S4096x2048_d1
    = outGates d ya o p w wa wb wo := by
  funext i
  obtain ⟨n, l, rfl⟩ : ∃ (n : Fin 4096) (l : Fin 2048), ix2 n l = i := ⟨i 0, i 1, by funext a; match a with | ⟨0, _⟩ => rfl | ⟨1, _⟩ => rfl⟩
  pointwise [outGates, dgates_apply, cutA_row, cutB_row, prod_row, gateds_row, tokGates]

theorem outWo_arrays : Host.dotGeneral (F := Ideal) (φ₁ := .f32) (φ₂ := .f32) dot_S1024x4096_S4096x1024_S1024x1024_1_0_0_1_n_n none
    (transpose S1024x4096 [1, 0] (extf .f32 mg bitsLt_bf16_f32) transposes_S4096x1024_S1024x4096_1_0) d = outWo d mg := by
  funext i
  obtain ⟨k, l, rfl⟩ : ∃ (k : Fin 1024) (l : Fin 1024), ix2 k l = i := ⟨i 0, i 1, by funext a; match a with | ⟨0, _⟩ => rfl | ⟨1, _⟩ => rfl⟩
  pointwise [outWo]

theorem outWa_arrays : Host.dotGeneral (F := Ideal) (φ₁ := .f32) (φ₂ := .f32) dot_S512x4096_S4096x1024_S512x1024_1_0_0_1_n_n none
    (transpose S512x4096 [1, 0] ya transposes_S4096x512_S512x4096_1_0) (dprods d wo (cutA p)) = outWa d ya p wo := by
  funext i
  obtain ⟨k, l, rfl⟩ : ∃ (k : Fin 512) (l : Fin 1024), ix2 k l = i := ⟨i 0, i 1, by funext a; match a with | ⟨0, _⟩ => rfl | ⟨1, _⟩ => rfl⟩
  pointwise [outWa, dprods_apply, cutA_row]

theorem outWb_arrays : Host.dotGeneral (F := Ideal) (φ₁ := .f32) (φ₂ := .f32) dot_S512x4096_S4096x1024_S512x1024_1_0_0_1_n_n none
    (transpose S512x4096 [1, 0] (gateds o p w) transposes_S4096x512_S512x4096_1_0) (dprods d wo (cutB p)) = outWb d o p w wo := by
  funext i
  obtain ⟨k, l, rfl⟩ : ∃ (k : Fin 512) (l : Fin 1024), ix2 k l = i := ⟨i 0, i 1, by funext a; match a with | ⟨0, _⟩ => rfl | ⟨1, _⟩ => rfl⟩
  pointwise [outWb, dprods_apply, gateds_apply, cutB_row]

/-- The sum over tokens and heads of the entries in a column, as a sum over tokens of sums over heads. -/
theorem sum_tokens_heads {N H K : ℕ} (hr : (⟨3, ![N, H, K]⟩ : Shape).ReducesTo [0, 1] ⟨1, ![K]⟩)
    (v : (⟨3, ![N, H, K]⟩ : Shape).Idx → EReal) (init : EReal) (k : Fin K) :
    Ideal.hostReduceAdd hr v init (ix1 k) = init + ∑ n, ∑ h, v (ix3 n h k) := by
  refine congrArg (fun a : EReal => init + a) ?_
  rw [← Fintype.sum_prod_type' fun n h => v (ix3 n h k)]
  have back : ∀ i : (⟨3, ![N, H, K]⟩ : Shape).Idx, hr.drop i = ix1 k → ix3 (i 0) (i 1) k = i := fun i e => by
    funext a
    match a with
    | ⟨0, _⟩ => rfl
    | ⟨1, _⟩ => rfl
    | ⟨2, _⟩ => exact Fin.ext (congrArg Fin.val (congrFun e 0)).symm
  refine Finset.sum_nbij' (fun i : (⟨3, ![N, H, K]⟩ : Shape).Idx => ((i 0, i 1) : Fin N × Fin H)) (fun x => ix3 x.1 x.2 k)
    (fun _ _ => Finset.mem_univ _) (fun x _ => Finset.mem_filter.mpr ⟨Finset.mem_univ _, ?_⟩)
    (fun i hi => back i (Finset.mem_filter.mp hi).2) (fun _ _ => Prod.ext (Fin.ext rfl) (Fin.ext rfl)) (fun i hi => (congrArg v (back i (Finset.mem_filter.mp hi).2)).symm)
  funext b
  apply Fin.ext
  match b with
  | ⟨0, _⟩ => rfl

theorem outGain_arrays : broadcastInDim S8x128 ![1] bcast_S128_S8x128_1 (Host.reduceAdd (mulf (dnorms d p wb wo) (units o))
    (constant S_ .f32 0x00000000#32) reducesTo_S4096x4x128_S128_d0_1 h_S_) = outGain d o p wb wo := by
  funext i
  obtain ⟨r, k, rfl⟩ : ∃ (r : Fin 8) (k : Fin 128), ix2 r k = i := ⟨i 0, i 1, by funext a; match a with | ⟨0, _⟩ => rfl | ⟨1, _⟩ => rfl⟩
  pointwise [outGain, sum_tokens_heads, dnorms_apply, units_apply, MidRow.dgain]

end Arrays

end Cert.MergeGrad

end
-- ==== Proof.MidBackKernel.lean ====
/-
The kernel of the merge's gradients: what its blocks hold row by row.
-/
module

public import Idealize.ShloMosaic.Lib.Pipeline.ValueKit
public import proofs.«01_k».proof.Proof.Gen.MidBackIdeal.Value
public import proofs.«01_k».proof.Proof.MidBackArrays

@[expose] public section

set_option maxRecDepth 16384

noncomputable section

open Idealize.ShloMosaic Idealize.ShloMosaic.TcCoe Idealize.SL.Sem

namespace Cert.MidBackIdeal.Whole

open Cert.MidBackIdeal Cert.MidBackIdeal.Gen Cert.Rows

/-- A row of a block. -/
abbrev row (x : FVec Ideal S256x1024 .f32) (r : Fin 256) (l : Fin 1024) : EReal := x (ix2 r l)
abbrev rowM (x : FVec Ideal S256x1024 .bf16) (r : Fin 256) (l : Fin 1024) : EReal := x (ix2 r l)
abbrev rowH (x : FVec Ideal S256x512 .f32) (r : Fin 256) (q : Fin 512) : EReal := x (ix2 r q)

section Payloads

variable (d ga gb : FVec Ideal S256x1024 .f32) (mg : FVec Ideal S256x1024 .bf16) (ya o z : FVec Ideal S256x512 .f32)
  (w : FVec Ideal S1x128 .f32) (wa wb : FVec Ideal S512x1024 .bf16) (wo : FVec Ideal S1024x1024 .bf16)
  (r : Fin 256) (k : Fin 128) (q : Fin 512) (l : Fin 1024) (y : Fin 1) (h : Fin 4)

/-- What the kernel works out on a block: the heads divided by their root mean squares, the gated rows, the gradients at the two
products before their gates, and the gradient at the normed heads. -/
abbrev units : FVec Ideal S256x512 .f32 := k0_pay24 o (k0_pay15 o) (k0_pay16 o) (k0_pay17 o) k0_pay18
abbrev gateds : FVec Ideal S256x512 .bf16 := k0_pay29 o z w (k0_pay15 o) (k0_pay16 o) (k0_pay17 o) k0_pay18
abbrev dprodA : FVec Ideal S256x1024 .bf16 := k0_pay32 (k0_pay11 d wo) ga
abbrev dprodB : FVec Ideal S256x1024 .bf16 := k0_pay33 (k0_pay11 d wo) gb
abbrev dnorms : FVec Ideal S256x512 .f32 := k0_pay42 (k0_pay27 z) (dprodB d gb wo) wb

theorem head0_apply : k0_pay13 (F := Ideal) o (ix2 r k) = o (ix2 r (MidRow.col 0 k)) := by pointwise [k0_pay13, MidRow.col]
theorem head1_apply : k0_pay16 (F := Ideal) o (ix2 r k) = o (ix2 r (MidRow.col 1 k)) := by pointwise [k0_pay16, MidRow.col]
theorem head2_apply : k0_pay20 (F := Ideal) o (ix2 r k) = o (ix2 r (MidRow.col 2 k)) := by pointwise [k0_pay20, MidRow.col]
theorem head3_apply : k0_pay22 (F := Ideal) o (ix2 r k) = o (ix2 r (MidRow.col 3 k)) := by pointwise [k0_pay22, MidRow.col]

theorem inv0_apply : k0_pay14 (F := Ideal) o (ix2 r y) = MidRow.inv (rowH o r) 0 := by
  pointwise [k0_pay14, head0_apply, MidRow.inv]
theorem inv1_apply : k0_pay19 (F := Ideal) (k0_pay17 o) k0_pay18 (ix2 r y) = MidRow.inv (rowH o r) 1 := by
  pointwise [k0_pay19, k0_pay17, k0_pay18, head1_apply, MidRow.inv]
theorem inv2_apply : k0_pay21 (F := Ideal) o (ix2 r y) = MidRow.inv (rowH o r) 2 := by
  pointwise [k0_pay21, head2_apply, MidRow.inv]
theorem inv3_apply : k0_pay23 (F := Ideal) o (ix2 r y) = MidRow.inv (rowH o r) 3 := by
  pointwise [k0_pay23, head3_apply, MidRow.inv]

theorem units_apply : units o (ix2 r q) = MidRow.heads (MidRow.unit (rowH o r)) q := by
  pointwise [k0_pay24, k0_pay15, head0_apply, head1_apply, head2_apply, head3_apply, inv0_apply, inv1_apply, inv2_apply, inv3_apply]
  exact MidRow.four (MidRow.unit (rowH o r)) q

theorem gains_apply : k0_pay25 (F := Ideal) w (ix2 y q) = MidRow.heads (fun _ k => Merge.gain w k) q := by
  obtain rfl : y = 0 := Subsingleton.elim _ _
  pointwise [k0_pay25]
  exact MidRow.four (fun _ k => Merge.gain w k) q

theorem sigmoidZ_apply : k0_pay26 (F := Ideal) z (ix2 r q) = sigmoid (z (ix2 r q)) := by
  pointwise [k0_pay26, sigmoid, sub_eq_add_neg, zero_add]
theorem silu_apply : k0_pay27 (F := Ideal) z (ix2 r q) = z (ix2 r q) * sigmoid (z (ix2 r q)) := by
  pointwise [k0_pay27, sigmoidZ_apply]
theorem sigmoidA_apply : k0_pay30 (F := Ideal) ga (ix2 r l) = sigmoid (ga (ix2 r l)) := by
  pointwise [k0_pay30, sigmoid, sub_eq_add_neg, zero_add]
theorem sigmoidB_apply : k0_pay31 (F := Ideal) gb (ix2 r l) = sigmoid (gb (ix2 r l)) := by
  pointwise [k0_pay31, sigmoid, sub_eq_add_neg, zero_add]

theorem gateds_apply : gateds o z w (ix2 r q) = MidRow.gated (rowH o r) (rowH z r) (Merge.gain w) q := by
  have hu := units_apply o r q
  dsimp only [units] at hu
  pointwise [k0_pay29, hu, gains_apply, silu_apply, MidRow.gated, MidRow.normed, MidRow.heads]

theorem dmerged_apply : k0_pay11 (F := Ideal) d wo (ix2 r l) = MidRow.dmerged (Merge.mat wo) (row d r) l := by
  pointwise [k0_pay11, k0_pay10, MidRow.dmerged]

theorem dprodA_apply : dprodA d ga wo (ix2 r l) = MidRow.dprod (Merge.mat wo) (row d r) (row ga r) l := by
  pointwise [k0_pay32, dmerged_apply, sigmoidA_apply, MidRow.dprod]
theorem dprodB_apply : dprodB d gb wo (ix2 r l) = MidRow.dprod (Merge.mat wo) (row d r) (row gb r) l := by
  pointwise [k0_pay33, dmerged_apply, sigmoidB_apply, MidRow.dprod]

theorem dgateA_apply : k0_pay34 (F := Ideal) (k0_pay11 d wo) (k0_pay28 ya) wa (constant S256x1024 .f32 0x00000000#32) ga (ix2 r l)
    = MidRow.dgate (Merge.mat wo) (row d r) (row ga r) (times (rowH ya r) (Merge.matH wa)) l := by
  pointwise [k0_pay34, k0_pay28, dmerged_apply, sigmoidA_apply, MidRow.dgate, times]
theorem dgateB_apply : k0_pay35 (F := Ideal) (k0_pay11 d wo) (gateds o z w) wb gb (ix2 r l)
    = MidRow.dgate (Merge.mat wo) (row d r) (row gb r) (times (MidRow.gated (rowH o r) (rowH z r) (Merge.gain w)) (Merge.matH wb)) l := by
  pointwise [k0_pay35, dmerged_apply, gateds_apply, sigmoidB_apply, MidRow.dgate, times]

theorem drowA_apply : k0_pay39 (F := Ideal) (dprodA d ga wo) wa (ix2 r q) = MidRow.drow (Merge.mat wo) (row d r) (row ga r) (Merge.matH wa) q := by
  pointwise [k0_pay39, dprodA_apply, MidRow.drow]
theorem drowB_apply : k0_pay40 (F := Ideal) (dprodB d gb wo) wb (ix2 r q) = MidRow.drow (Merge.mat wo) (row d r) (row gb r) (Merge.matH wb) q := by
  pointwise [k0_pay40, dprodB_apply, MidRow.drow]

theorem dz_apply : k0_pay41 (F := Ideal) z (units o) (k0_pay25 w) (k0_pay26 z) (dprodB d gb wo) wb (ix2 r q)
    = MidRow.dz (rowH o r) (rowH z r) (row gb r) (Merge.gain w) (Merge.matH wb) (Merge.mat wo) (row d r) q := by
  pointwise [k0_pay41, drowB_apply, units_apply, gains_apply, sigmoidZ_apply, MidRow.dz, MidRow.normed, MidRow.heads]

theorem dnorms_apply : dnorms d gb z wb wo (ix2 r q)
    = MidRow.dnorm (rowH z r) (row gb r) (Merge.matH wb) (Merge.mat wo) (row d r) q := by
  pointwise [k0_pay42, drowB_apply, silu_apply, MidRow.dnorm]

theorem dn0_apply : k0_pay44 (F := Ideal) (k0_pay27 z) (dprodB d gb wo) wb (ix2 r k) = dnorms d gb z wb wo (ix2 r (MidRow.col 0 k)) := by
  pointwise [k0_pay44, MidRow.col]
theorem dn1_apply (v : FVec Ideal S256x512 .f32) : k0_pay49 (F := Ideal) v (ix2 r k) = v (ix2 r (MidRow.col 1 k)) := by
  pointwise [k0_pay49, MidRow.col]
theorem dn2_apply (v : FVec Ideal S256x512 .f32) : k0_pay53 (F := Ideal) v (ix2 r k) = v (ix2 r (MidRow.col 2 k)) := by
  pointwise [k0_pay53, MidRow.col]
theorem dn3_apply (v : FVec Ideal S256x512 .f32) : k0_pay2 (F := Ideal) v (ix2 r k) = v (ix2 r (MidRow.col 3 k)) := by
  pointwise [k0_pay2, MidRow.col]
theorem u0_apply (v : FVec Ideal S256x512 .f32) : k0_pay45 (F := Ideal) v (ix2 r k) = v (ix2 r (MidRow.col 0 k)) := by
  pointwise [k0_pay45, MidRow.col]
theorem u1_apply (v : FVec Ideal S256x512 .f32) : k0_pay50 (F := Ideal) v (ix2 r k) = v (ix2 r (MidRow.col 1 k)) := by
  pointwise [k0_pay50, MidRow.col]
theorem u2_apply (v : FVec Ideal S256x512 .f32) : k0_pay54 (F := Ideal) v (ix2 r k) = v (ix2 r (MidRow.col 2 k)) := by
  pointwise [k0_pay54, MidRow.col]
theorem u3_apply (v : FVec Ideal S256x512 .f32) : k0_pay3 (F := Ideal) v (ix2 r k) = v (ix2 r (MidRow.col 3 k)) := by
  pointwise [k0_pay3, MidRow.col]

theorem unit_col : units o (ix2 r (MidRow.col h k)) = MidRow.unit (rowH o r) h k := by
  rw [units_apply, MidRow.heads_col]

theorem dhead0_apply : k0_pay48 (F := Ideal) (k0_pay14 o) (k0_pay45 (units o)) (k0_pay46 (k0_pay27 z) (dprodB d gb wo) wb w)
      (k0_pay47 (units o) (k0_pay27 z) (dprodB d gb wo) wb w) (ix2 r k)
    = MidRow.dhead (rowH o r) (rowH z r) (row gb r) (Merge.gain w) (Merge.matH wb) (Merge.mat wo) (row d r) 0 k := by
  pointwise [k0_pay48, k0_pay47, k0_pay46, dn0_apply, u0_apply, dnorms_apply, unit_col, inv0_apply, MidRow.dhead]
theorem dhead1_apply : k0_pay51 (F := Ideal) (k0_pay19 (k0_pay17 o) k0_pay18) (units o) (dnorms d gb z wb wo) w (ix2 r k)
    = MidRow.dhead (rowH o r) (rowH z r) (row gb r) (Merge.gain w) (Merge.matH wb) (Merge.mat wo) (row d r) 1 k := by
  pointwise [k0_pay51, dn1_apply, u1_apply, dnorms_apply, unit_col, inv1_apply, MidRow.dhead]
theorem dhead2_apply : k0_pay1 (F := Ideal) (k0_pay21 o) (k0_pay54 (units o)) (k0_pay55 (dnorms d gb z wb wo) w)
      (k0_pay56 (units o) (dnorms d gb z wb wo) w) k0_pay57 (ix2 r k)
    = MidRow.dhead (rowH o r) (rowH z r) (row gb r) (Merge.gain w) (Merge.matH wb) (Merge.mat wo) (row d r) 2 k := by
  pointwise [k0_pay1, k0_pay55, k0_pay56, k0_pay57, dn2_apply, u2_apply, dnorms_apply, unit_col, inv2_apply, MidRow.dhead]
theorem dhead3_apply : k0_pay4 (F := Ideal) (k0_pay23 o) (units o) (dnorms d gb z wb wo) w (ix2 r k)
    = MidRow.dhead (rowH o r) (rowH z r) (row gb r) (Merge.gain w) (Merge.matH wb) (Merge.mat wo) (row d r) 3 k := by
  pointwise [k0_pay4, dn3_apply, u3_apply, dnorms_apply, unit_col, inv3_apply, MidRow.dhead]

/-- What each stored accumulator gains at a point. -/
theorem weightO_apply (acc : FVec Ideal S1024x1024 .f32) (j : S1024x1024.Idx) :
    k0_pay12 (F := Ideal) d acc mg j = acc j + ∑ r, rowM mg r (j 0) * row d r (j 1) := by
  pointwise [k0_pay12, k0_pay10]
theorem weightA_apply (acc : FVec Ideal S512x1024 .f32) (j : S512x1024.Idx) :
    k0_pay37 (F := Ideal) (k0_pay28 ya) (dprodA d ga wo) (k0_pay36 acc) j
      = acc j + ∑ r, rowH ya r (j 0) * MidRow.dprod (Merge.mat wo) (row d r) (row ga r) (j 1) := by
  pointwise [k0_pay37, k0_pay36, k0_pay28, dprodA_apply]
theorem weightB_apply (acc : FVec Ideal S512x1024 .f32) (j : S512x1024.Idx) :
    k0_pay38 (F := Ideal) (gateds o z w) (dprodB d gb wo) acc j
      = acc j + ∑ r, MidRow.gated (rowH o r) (rowH z r) (Merge.gain w) (j 0) * MidRow.dprod (Merge.mat wo) (row d r) (row gb r) (j 1) := by
  pointwise [k0_pay38, gateds_apply, dprodB_apply]
theorem gain_apply (acc : FVec Ideal S8x128 .f32) (j : S8x128.Idx) :
    k0_pay5 (F := Ideal) (units o) (dnorms d gb z wb wo) (k0_pay52 (units o) (dnorms d gb z wb wo) k0_pay43
        (k0_pay44 (k0_pay27 z) (dprodB d gb wo) wb) (k0_pay45 (units o))) (k0_pay53 (dnorms d gb z wb wo)) (k0_pay54 (units o)) acc j
      = acc j + ∑ r, MidRow.dgain (rowH o r) (rowH z r) (row gb r) (Merge.matH wb) (Merge.mat wo) (row d r) (j 1) := by
  pointwise [k0_pay5, k0_pay52, k0_pay43, dn0_apply, dn1_apply, dn2_apply, dn3_apply, u0_apply, u1_apply, u2_apply, u3_apply,
    dnorms_apply, unit_col, MidRow.dgain, Fin.sum_univ_four, Finset.sum_add_distrib]

end Payloads

/-- The accumulators start at zero. -/
theorem zero15 (j : S1024x1024.Idx) : k0_pay6 (F := Ideal) j = 0 := by pointwise [k0_pay6]
theorem zero16 (j : S512x1024.Idx) : k0_pay7 (F := Ideal) j = 0 := by pointwise [k0_pay7]
theorem zero17 (j : S512x1024.Idx) : k0_pay8 (F := Ideal) j = 0 := by pointwise [k0_pay8]
theorem zero18 (j : S8x128.Idx) : k0_pay9 (F := Ideal) j = 0 := by pointwise [k0_pay9]

variable (m : (ℓ : Loc nD τ sig) → Buf (Elt Ideal) ℓ) (ρ : Dev nD → PrngReg) (c : Dev nD)

/-- Which windows advance with the point, and which stay. -/
theorem places : ∀ t : Fin cfg0.N, win0_0.index t = ![t.val, 0] ∧ win0_1.index t = ![t.val, 0] ∧ win0_2.index t = ![t.val, 0]
    ∧ win0_3.index t = ![t.val, 0] ∧ win0_4.index t = ![t.val, 10] ∧ win0_5.index t = ![t.val, 0] ∧ win0_6.index t = ![t.val, 1]
    ∧ win0_7.index t = ![0, 0] ∧ win0_8.index t = ![0, 0] ∧ win0_9.index t = ![0, 0] ∧ win0_10.index t = ![0, 0]
    ∧ win0_11.index t = ![t.val, 0] ∧ win0_12.index t = ![t.val, 0] ∧ win0_13.index t = ![t.val, 0] ∧ win0_14.index t = ![t.val, 0]
    ∧ win0_15.index t = ![0, 0] ∧ win0_16.index t = ![0, 0] ∧ win0_17.index t = ![0, 0] ∧ win0_18.index t = ![0, 0] :=
  (by decide +kernel : ∀ t : Fin grid0.N, _)

/-- The arguments. -/
abbrev d : FVec Ideal S4096x1024 .f32 := m ((c : Thread nD τ).loc main_arg0)
abbrev mg : FVec Ideal S4096x1024 .bf16 := m ((c : Thread nD τ).loc main_arg1)
abbrev ya : FVec Ideal S4096x512 .f32 := m ((c : Thread nD τ).loc main_arg2)
abbrev o : FVec Ideal S4096x512 .f32 := m ((c : Thread nD τ).loc main_arg3)
abbrev p : FVec Ideal S4096x5760 .f32 := m ((c : Thread nD τ).loc main_arg4)
abbrev w : FVec Ideal S1x128 .f32 := m ((c : Thread nD τ).loc main_arg5)
abbrev wa : FVec Ideal S512x1024 .bf16 := m ((c : Thread nD τ).loc main_arg6)
abbrev wb : FVec Ideal S512x1024 .bf16 := m ((c : Thread nD τ).loc main_arg7)
abbrev wo : FVec Ideal S1024x1024 .bf16 := m ((c : Thread nD τ).loc main_arg8)

/-- The rows of a point's blocks are the arguments' rows. -/
theorem rows (t : Fin cfg0.N) (r : Fin 256) (n : Fin 4096) (hn : n.val = t.val * 256 + r.val) :
    row (iblk m c 0 t) r = Merge.row (d m c) n ∧ rowM (iblk m c 1 t) r = MergeGrad.rowM (mg m c) n
      ∧ rowH (iblk m c 2 t) r = Merge.rowH (ya m c) n ∧ rowH (iblk m c 3 t) r = Merge.rowH (o m c) n := by
  refine ⟨?_, ?_, ?_, ?_⟩
  all_goals
    funext l
    dsimp only [row, rowM, rowH, Merge.row, Merge.rowH, MergeGrad.rowM]
    blk_ext [iblk, V, places t]

/-- The pieces of the projection's row that a point reads. -/
theorem pieces (t : Fin cfg0.N) (r : Fin 256) (n : Fin 4096) (hn : n.val = t.val * 256 + r.val) :
    rowH (X0_4 m c t) r = Merge.gateZ (p m c) n ∧ row (X0_5 m c t) r = Merge.gateA (p m c) n
      ∧ row (X0_6 m c t) r = Merge.gateB (p m c) n := by
  refine ⟨funext fun l => ?_, funext fun l => ?_, funext fun l => ?_⟩
  · refine (dif_pos (moved0_4 t (ix2 r l))).trans ?_
    dsimp only [Merge.gateZ]
    blk_ext [iblk, V, places t]
  · refine (dif_pos (moved0_5 t (ix2 r l))).trans ?_
    dsimp only [Merge.gateA]
    blk_ext [iblk, V, places t]
  · refine (dif_pos (moved0_6 t (ix2 r l))).trans ?_
    dsimp only [Merge.gateB]
    blk_ext [iblk, V, places t]

/-- The gain and the weights are the arguments themselves. -/
theorem consts (t : Fin cfg0.N) : Merge.gain (iblk m c 7 t) = Merge.gain (w m c) ∧ Merge.matH (iblk m c 8 t) = Merge.matH (wa m c)
    ∧ Merge.matH (iblk m c 9 t) = Merge.matH (wb m c) ∧ Merge.mat (iblk m c 10 t) = Merge.mat (wo m c) := by
  refine ⟨funext fun l => ?_, funext fun k => funext fun l => ?_, funext fun k => funext fun l => ?_, funext fun k => funext fun l => ?_⟩
  all_goals
    dsimp only [Merge.gain, Merge.matH, Merge.mat]
    blk_ext [iblk, V, places t]

/-- The token of a point's row. -/
def tok (t : Fin cfg0.N) (r : Fin 256) : Fin 4096 :=
  ⟨t.val * 256 + r.val, by have ht : t.val < 16 := lt_of_lt_of_eq t.isLt N_0; have hr := r.isLt; omega⟩

/-- A point's entries of the gradients that it stores are the arguments' token's. -/
theorem stored11 (t : Fin cfg0.N) (y : S256x512.Idx) :
    k0_pay39 (dprodA (iblk m c 0 t) (X0_5 m c t) (iblk m c 10 t)) (iblk m c 8 t) y
      = MergeGrad.outYa (d m c) (p m c) (wa m c) (wo m c) (((cfg0.win 11).blk t).view.emb y) := by
  obtain ⟨r, q, rfl⟩ : ∃ (r : Fin 256) (q : Fin 512), ix2 r q = y := ⟨y 0, y 1, by funext a; match a with | ⟨0, _⟩ => rfl | ⟨1, _⟩ => rfl⟩
  refine (drowA_apply ..).trans (Eq.trans ?_ (congrArg _ (?_ : ix2 (tok t r) q = _)))
  · rw [(rows m c t r (tok t r) rfl).1, (pieces m c t r (tok t r) rfl).2.1, (consts m c t).2.1, (consts m c t).2.2.2]
    rfl
  · unfold tok; blk_ext [places t]

theorem stored13 (t : Fin cfg0.N) (y : S256x512.Idx) :
    k0_pay41 (X0_4 m c t) (units (iblk m c 3 t)) (k0_pay25 (iblk m c 7 t)) (k0_pay26 (X0_4 m c t))
      (dprodB (iblk m c 0 t) (X0_6 m c t) (iblk m c 10 t)) (iblk m c 9 t) y
      = MergeGrad.outZ (d m c) (o m c) (p m c) (w m c) (wb m c) (wo m c) (((cfg0.win 13).blk t).view.emb y) := by
  obtain ⟨r, q, rfl⟩ : ∃ (r : Fin 256) (q : Fin 512), ix2 r q = y := ⟨y 0, y 1, by funext a; match a with | ⟨0, _⟩ => rfl | ⟨1, _⟩ => rfl⟩
  refine (dz_apply ..).trans (Eq.trans ?_ (congrArg _ (?_ : ix2 (tok t r) q = _)))
  · rw [(rows m c t r (tok t r) rfl).1, (rows m c t r (tok t r) rfl).2.2.2, (pieces m c t r (tok t r) rfl).1, (pieces m c t r (tok t r) rfl).2.2, (consts m c t).1,
      (consts m c t).2.2.1, (consts m c t).2.2.2]
    rfl
  · unfold tok; blk_ext [places t]

/-- A head's entry, at its place in the block. -/
theorem stored12 (t : Fin cfg0.N) (y : S256x512.Idx) (h : Fin 4) (r : Fin 256) (k : Fin 128) (off : ℕ) (h0 : (y 0).val = r.val)
    (h1 : (y 1).val = off + k.val) (ho : off = h.val * 128) :
    MidRow.dhead (rowH (iblk m c 3 t) r) (rowH (X0_4 m c t) r) (row (X0_6 m c t) r) (Merge.gain (iblk m c 7 t))
      (Merge.matH (iblk m c 9 t)) (Merge.mat (iblk m c 10 t)) (row (iblk m c 0 t) r) h k
      = MergeGrad.outO (d m c) (o m c) (p m c) (w m c) (wb m c) (wo m c) (((cfg0.win 12).blk t).view.emb y) := by
  subst ho
  obtain rfl : y = ix2 r (MidRow.col h k) := by
    funext a
    match a with
    | ⟨0, _⟩ => exact Fin.ext h0
    | ⟨1, _⟩ => exact Fin.ext h1
  refine Eq.trans ?_ (congrArg _ (?_ : ix2 (tok t r) (MidRow.col h k) = _))
  · refine Eq.trans ?_ (MidRow.heads_col _ h k).symm
    rw [(rows m c t r (tok t r) rfl).1, (rows m c t r (tok t r) rfl).2.2.2, (pieces m c t r (tok t r) rfl).1,
      (pieces m c t r (tok t r) rfl).2.2, (consts m c t).1, (consts m c t).2.2.1, (consts m c t).2.2.2]
    rfl
  · unfold tok; blk_ext [places t]

/-- The two gates' entries, at their places in the block. -/
theorem stored14 (t : Fin cfg0.N) (y : S256x2048.Idx) (r : Fin 256) (l : Fin 2048) (h0 : (y 0).val = r.val) (h1 : (y 1).val = l.val) :
    MergeGrad.tokGates (d m c) (ya m c) (o m c) (p m c) (w m c) (wa m c) (wb m c) (wo m c) (tok t r) l
      = MergeGrad.outGates (d m c) (ya m c) (o m c) (p m c) (w m c) (wa m c) (wb m c) (wo m c) (((cfg0.win 14).blk t).view.emb y) := by
  obtain rfl : y = ix2 r l := by
    funext a
    match a with
    | ⟨0, _⟩ => exact Fin.ext h0
    | ⟨1, _⟩ => exact Fin.ext h1
  refine Eq.trans ?_ (congrArg _ (?_ : ix2 (tok t r) l = _))
  · rfl
  · unfold tok; blk_ext [places t]

theorem storedA (t : Fin cfg0.N) (y : S256x2048.Idx) (r : Fin 256) (l : Fin 1024) (h0 : (y 0).val = r.val) (h1 : (y 1).val = l.val) :
    MidRow.dgate (Merge.mat (iblk m c 10 t)) (row (iblk m c 0 t) r) (row (X0_5 m c t) r) (times (rowH (iblk m c 2 t) r) (Merge.matH (iblk m c 8 t))) l
      = MergeGrad.outGates (d m c) (ya m c) (o m c) (p m c) (w m c) (wa m c) (wb m c) (wo m c) (((cfg0.win 14).blk t).view.emb y) := by
  refine Eq.trans ?_ (stored14 m c t y r ⟨l.val, by omega⟩ h0 h1)
  rw [MergeGrad.tokGates, dif_pos l.isLt, (rows m c t r (tok t r) rfl).1, (rows m c t r (tok t r) rfl).2.2.1,
    (pieces m c t r (tok t r) rfl).2.1, (consts m c t).2.1, (consts m c t).2.2.2]

theorem storedB (t : Fin cfg0.N) (y : S256x2048.Idx) (r : Fin 256) (l : Fin 1024) (h0 : (y 0).val = r.val) (h1 : (y 1).val = 1024 + l.val) :
    MidRow.dgate (Merge.mat (iblk m c 10 t)) (row (iblk m c 0 t) r) (row (X0_6 m c t) r)
      (times (MidRow.gated (rowH (iblk m c 3 t) r) (rowH (X0_4 m c t) r) (Merge.gain (iblk m c 7 t))) (Merge.matH (iblk m c 9 t))) l
      = MergeGrad.outGates (d m c) (ya m c) (o m c) (p m c) (w m c) (wa m c) (wb m c) (wo m c) (((cfg0.win 14).blk t).view.emb y) := by
  refine Eq.trans ?_ (stored14 m c t y r ⟨1024 + l.val, by omega⟩ h0 h1)
  rw [MergeGrad.tokGates, dif_neg (by dsimp only; omega), (rows m c t r (tok t r) rfl).1, (rows m c t r (tok t r) rfl).2.2.2,
    (pieces m c t r (tok t r) rfl).1, (pieces m c t r (tok t r) rfl).2.2, (consts m c t).1, (consts m c t).2.2.1, (consts m c t).2.2.2]
  exact congrArg _ (Fin.ext (Nat.add_sub_cancel_left ..).symm)

/-- The gradient at the first mixer's rows after the run. -/
theorem final11 : (dats m 0 c).arrAt 11 cfg0.N = MergeGrad.outYa (d m c) (p m c) (wa m c) (wo m c) := by
  refine (dats m 0 c).arrAt_eq_of_covers 11 _ (by decide +kernel) fun t _ y => ?_
  blk_simp
  rw [after0_11]
  by_cases h : t.val % 16 = 0
  · rw [outsAt0_A m c t h]
    frame_out
    exact stored11 m c t y
  · rw [outsAt0_B m c t h]
    frame_out
    exact stored11 m c t y

/-- The gradient at the second mixer's heads after the run. -/
theorem final12 : (dats m 0 c).arrAt 12 cfg0.N = MergeGrad.outO (d m c) (o m c) (p m c) (w m c) (wb m c) (wo m c) := by
  refine (dats m 0 c).arrAt_eq_of_covers 12 _ (by decide +kernel) fun t _ y => ?_
  blk_simp
  rw [after0_12]
  rcases em (t.val % 16 = 0) with h | h
  on_goal 1 => rw [outsAt0_A m c t h]
  on_goal 2 => rw [outsAt0_B m c t h]
  all_goals
    frame_out
    canon_tiles x e
    all_goals obtain ⟨r, k, rfl⟩ : ∃ (r : Fin 256) (k : Fin 128), ix2 r k = x := ⟨x 0, x 1, by funext a; match a with | ⟨0, _⟩ => rfl | ⟨1, _⟩ => rfl⟩
    · exact (dhead3_apply ..).trans (stored12 m c t y 3 r k 384 e0 e1 rfl)
    · exact (dhead2_apply ..).trans (stored12 m c t y 2 r k 256 e0 e1 rfl)
    · exact (dhead1_apply ..).trans (stored12 m c t y 1 r k 128 e0 e1 rfl)
    · exact (dhead0_apply ..).trans (stored12 m c t y 0 r k 0 e0 (e1.trans (Nat.zero_add _).symm) rfl)

/-- The gradients at the two gates after the run. -/
theorem final14 : (dats m 0 c).arrAt 14 cfg0.N
    = MergeGrad.outGates (d m c) (ya m c) (o m c) (p m c) (w m c) (wa m c) (wb m c) (wo m c) := by
  refine (dats m 0 c).arrAt_eq_of_covers 14 _ (by decide +kernel) fun t _ y => ?_
  blk_simp
  rw [after0_14]
  rcases em (t.val % 16 = 0) with h | h
  on_goal 1 => rw [outsAt0_A m c t h]
  on_goal 2 => rw [outsAt0_B m c t h]
  all_goals
    frame_out
    canon_tiles x e
    all_goals obtain ⟨r, l, rfl⟩ : ∃ (r : Fin 256) (l : Fin 1024), ix2 r l = x := ⟨x 0, x 1, by funext a; match a with | ⟨0, _⟩ => rfl | ⟨1, _⟩ => rfl⟩
    · exact (dgateB_apply ..).trans (storedB m c t y r l e0 e1)
    · exact (dgateA_apply ..).trans (storedA m c t y r l e0 e1)

/-- The gradient at the second mixer's gate after the run. -/
theorem final13 : (dats m 0 c).arrAt 13 cfg0.N = MergeGrad.outZ (d m c) (o m c) (p m c) (w m c) (wb m c) (wo m c) := by
  refine (dats m 0 c).arrAt_eq_of_covers 13 _ (by decide +kernel) fun t _ y => ?_
  blk_simp
  rw [after0_13]
  by_cases h : t.val % 16 = 0
  · rw [outsAt0_A m c t h]
    frame_out
    exact stored13 m c t y
  · rw [outsAt0_B m c t h]
    frame_out
    exact stored13 m c t y

/-- The point that a tile of the sum over all tokens belongs to, and the token of one of its rows. -/
theorem token {T : ℕ} (hT : T < 16) (s r : ℕ) (hs : s < 16) : 16 * (T / 16) + s < cfg0.N ∧ s * 256 + r = (16 * (T / 16) + s) * 256 + r := by
  have hN : cfg0.N = 16 := N_0
  omega

/-- The gradient of the output weight after the run. -/
theorem final15 : (dats m 0 c).arrAt 15 cfg0.N = MergeGrad.outWo (d m c) (mg m c) := by
  refine (dats m 0 c).arrAt_eq_of_covers 15 _ (by decide +kernel) fun t hf y => ?_
  blk_simp
  rw [after0_15, Pipeline.eq_sum_fin_of_reset_step_apply_of_flush (fun n h => (outsAt0 m c n h).2.2.2.2.1) 16 (fun _ => 0)
    (fun t j => ∑ r, rowM (iblk m c 1 t) r (j 0) * row (iblk m c 0 t) r (j 1))
    (fun t h j => by rw [outsAt0_A m c t h]; frame_out; exact (weightO_apply ..).trans (congrArg (fun a : EReal => a + _) (zero15 j)))
    (fun t h j => by rw [outsAt0_B m c t h]; frame_out; exact weightO_apply ..)
    t ((flush0_15 t).mp hf) _, zero_add]
  have ht : t.val < 16 := lt_of_lt_of_eq t.isLt N_0
  have hy : ((cfg0.win 15).blk t).view.emb y = y := by blk_ext [places t]
  rw [hy]
  unfold MergeGrad.outWo
  refine Fin.sum_mul_add_congr fun s r hl => ?_
  obtain ⟨hp, hn⟩ := token ht s r s.isLt
  dsimp only
  rw [(rows m c ⟨_, hp⟩ r ⟨s.val * 256 + r.val, hl⟩ hn).1, (rows m c ⟨_, hp⟩ r ⟨s.val * 256 + r.val, hl⟩ hn).2.1]

/-- The gradient of the first mixer's weight after the run. -/
theorem final16 : (dats m 0 c).arrAt 16 cfg0.N = MergeGrad.outWa (d m c) (ya m c) (p m c) (wo m c) := by
  refine (dats m 0 c).arrAt_eq_of_covers 16 _ (by decide +kernel) fun t hf y => ?_
  blk_simp
  rw [after0_16, Pipeline.eq_sum_fin_of_reset_step_apply_of_flush (fun n h => (outsAt0 m c n h).2.2.2.2.2.1) 16 (fun _ => 0)
    (fun t j => ∑ r, rowH (iblk m c 2 t) r (j 0) * MidRow.dprod (Merge.mat (iblk m c 10 t)) (row (iblk m c 0 t) r) (row (X0_5 m c t) r) (j 1))
    (fun t h j => by rw [outsAt0_A m c t h]; frame_out; exact (weightA_apply ..).trans (congrArg (fun a : EReal => a + _) (zero16 j)))
    (fun t h j => by rw [outsAt0_B m c t h]; frame_out; exact weightA_apply ..)
    t ((flush0_16 t).mp hf) _, zero_add]
  have ht : t.val < 16 := lt_of_lt_of_eq t.isLt N_0
  have hy : ((cfg0.win 16).blk t).view.emb y = y := by blk_ext [places t]
  rw [hy]
  unfold MergeGrad.outWa
  refine Fin.sum_mul_add_congr fun s r hl => ?_
  obtain ⟨hp, hn⟩ := token ht s r s.isLt
  dsimp only
  rw [(rows m c ⟨_, hp⟩ r ⟨s.val * 256 + r.val, hl⟩ hn).1, (rows m c ⟨_, hp⟩ r ⟨s.val * 256 + r.val, hl⟩ hn).2.2.1, (pieces m c ⟨_, hp⟩ r ⟨s.val * 256 + r.val, hl⟩ hn).2.1, (consts m c ⟨_, hp⟩).2.2.2]

/-- The gradient of the second mixer's weight after the run. -/
theorem final17 : (dats m 0 c).arrAt 17 cfg0.N = MergeGrad.outWb (d m c) (o m c) (p m c) (w m c) (wo m c) := by
  refine (dats m 0 c).arrAt_eq_of_covers 17 _ (by decide +kernel) fun t hf y => ?_
  blk_simp
  rw [after0_17, Pipeline.eq_sum_fin_of_reset_step_apply_of_flush (fun n h => (outsAt0 m c n h).2.2.2.2.2.2.1) 16 (fun _ => 0)
    (fun t j => ∑ r, MidRow.gated (rowH (iblk m c 3 t) r) (rowH (X0_4 m c t) r) (Merge.gain (iblk m c 7 t)) (j 0) * MidRow.dprod (Merge.mat (iblk m c 10 t)) (row (iblk m c 0 t) r) (row (X0_6 m c t) r) (j 1))
    (fun t h j => by rw [outsAt0_A m c t h]; frame_out; exact (weightB_apply ..).trans (congrArg (fun a : EReal => a + _) (zero17 j)))
    (fun t h j => by rw [outsAt0_B m c t h]; frame_out; exact weightB_apply ..)
    t ((flush0_17 t).mp hf) _, zero_add]
  have ht : t.val < 16 := lt_of_lt_of_eq t.isLt N_0
  have hy : ((cfg0.win 17).blk t).view.emb y = y := by blk_ext [places t]
  rw [hy]
  unfold MergeGrad.outWb
  refine Fin.sum_mul_add_congr fun s r hl => ?_
  obtain ⟨hp, hn⟩ := token ht s r s.isLt
  dsimp only
  rw [(rows m c ⟨_, hp⟩ r ⟨s.val * 256 + r.val, hl⟩ hn).1, (rows m c ⟨_, hp⟩ r ⟨s.val * 256 + r.val, hl⟩ hn).2.2.2, (pieces m c ⟨_, hp⟩ r ⟨s.val * 256 + r.val, hl⟩ hn).1, (pieces m c ⟨_, hp⟩ r ⟨s.val * 256 + r.val, hl⟩ hn).2.2, (consts m c ⟨_, hp⟩).1, (consts m c ⟨_, hp⟩).2.2.2]

/-- The gradient of the heads' gain after the run. -/
theorem final18 : (dats m 0 c).arrAt 18 cfg0.N = MergeGrad.outGain (d m c) (o m c) (p m c) (wb m c) (wo m c) := by
  refine (dats m 0 c).arrAt_eq_of_covers 18 _ (by decide +kernel) fun t hf y => ?_
  blk_simp
  rw [after0_18, Pipeline.eq_sum_fin_of_reset_step_apply_of_flush (fun n h => (outsAt0 m c n h).2.2.2.2.2.2.2) 16 (fun _ => 0)
    (fun t j => ∑ r, MidRow.dgain (rowH (iblk m c 3 t) r) (rowH (X0_4 m c t) r) (row (X0_6 m c t) r) (Merge.matH (iblk m c 9 t)) (Merge.mat (iblk m c 10 t)) (row (iblk m c 0 t) r) (j 1))
    (fun t h j => by rw [outsAt0_A m c t h]; frame_out; exact (gain_apply ..).trans (congrArg (fun a : EReal => a + _) (zero18 j)))
    (fun t h j => by rw [outsAt0_B m c t h]; frame_out; exact gain_apply ..)
    t ((flush0_18 t).mp hf) _, zero_add]
  have ht : t.val < 16 := lt_of_lt_of_eq t.isLt N_0
  have hy : ((cfg0.win 18).blk t).view.emb y = y := by blk_ext [places t]
  rw [hy]
  unfold MergeGrad.outGain
  refine Fin.sum_mul_add_congr fun s r hl => ?_
  obtain ⟨hp, hn⟩ := token ht s r s.isLt
  dsimp only
  rw [(rows m c ⟨_, hp⟩ r ⟨s.val * 256 + r.val, hl⟩ hn).1, (rows m c ⟨_, hp⟩ r ⟨s.val * 256 + r.val, hl⟩ hn).2.2.2, (pieces m c ⟨_, hp⟩ r ⟨s.val * 256 + r.val, hl⟩ hn).1, (pieces m c ⟨_, hp⟩ r ⟨s.val * 256 + r.val, hl⟩ hn).2.2, (consts m c ⟨_, hp⟩).2.2.1, (consts m c ⟨_, hp⟩).2.2.2]

end Cert.MidBackIdeal.Whole

end
-- ==== Proof.MidBackClaims.lean ====
/-
The claims about the merge's gradients.
-/
module

public import proofs.«01_k».proof.Defs
public import proofs.«01_k».proof.Proof.Gen.MidBack.Frame
public import proofs.«01_k».proof.Proof.MidBackKernel

@[expose] public section

set_option maxRecDepth 16384

noncomputable section

open Idealize.ShloMosaic Idealize.ShloMosaic.TcCoe Idealize.SL.Sem

namespace Cert.MergeGrad

theorem frame_kernel : Cert.quiescent_MidBack := fun m ρ _ => Cert.MidBack.Gen.frame (F := Bits) m ρ
theorem frame_ideal : Cert.quiescent_MidBackIdeal := fun m ρ _ => Cert.MidBackIdeal.Gen.frame (F := Ideal) m ρ
theorem frame_ref_ideal : Cert.quiescent_MidBackRefIdeal := fun m ρ _ =>
  (θ_run _ _ _).mono (fun r h => ⟨fun c => (h c).2.2.2.2.2.2.2.2, sem_eq_zero_of_no_sems (by decide) r.2⟩) (Cert.MidBackRefIdeal.Value.run (F := Ideal) m ρ)

set_option maxHeartbeats 2000000 in
/-- In exact arithmetic, the kernel's and the reference's results are the same. -/
theorem algebraic : Cert.algebraic_MidBackIdeal_MidBackRefIdeal := fun m ρ m' ρ' _ hag =>
  ⟨_, _, _, _, _, _, _, _, (θ_run _ _ _).mono (fun r h c => by
      obtain ⟨h11, h12, h13, h14, h15, h16, h17, h18, hk⟩ := h c
      exact ⟨h11.trans (Cert.MidBackIdeal.Whole.final11 m c), h12.trans (Cert.MidBackIdeal.Whole.final12 m c),
        h13.trans (Cert.MidBackIdeal.Whole.final13 m c), h14.trans (Cert.MidBackIdeal.Whole.final14 m c),
        h15.trans (Cert.MidBackIdeal.Whole.final15 m c), h16.trans (Cert.MidBackIdeal.Whole.final16 m c),
        h17.trans (Cert.MidBackIdeal.Whole.final17 m c), h18.trans (Cert.MidBackIdeal.Whole.final18 m c), hk⟩)
      (Cert.MidBackIdeal.Value.run_blocks (F := Ideal) m ρ),
    (θ_run _ _ _).mono (fun r h c => by
      obtain ⟨h11, h12, h13, h14, h15, h16, h17, h18, hk⟩ := h c
      obtain ⟨a0, a1, a2, a3, a4, a5, a6, a7, a8⟩ := hag c
      refine ⟨h11.trans ?_, h12.trans ?_, h13.trans ?_, h14.trans ?_, h15.trans ?_, h16.trans ?_, h17.trans ?_, h18.trans ?_, hk⟩
      · rw [a0, a4, a6, a8]
        exact outYa_arrays ..
      · unfold Cert.MidBackRefIdeal.Value.res_main_v94
        rw [a0, a3, a4, a5, a7, a8]
        exact outO_arrays ..
      · rw [a0, a3, a4, a5, a7, a8]
        exact outZ_arrays ..
      · rw [a0, a2, a3, a4, a5, a6, a7, a8]
        exact outGates_arrays ..
      · rw [a0, a1]
        exact outWo_arrays ..
      · rw [a0, a2, a4, a8]
        exact outWa_arrays ..
      · rw [a0, a3, a4, a5, a8]
        exact outWb_arrays ..
      · rw [a0, a3, a4, a7, a8]
        exact outGain_arrays ..)
    (Cert.MidBackRefIdeal.Value.run (F := Ideal) m' ρ')⟩

end Cert.MergeGrad

end
-- ==== Proof.ConvMath.lean ====
/-
The causal convolution over four rows of one column of a sequence, with SiLU, and its gradients.
-/
module

public import proofs.«01_k».proof.Proof.Rows

@[expose] public section

noncomputable section

open Idealize.ShloMosaic

namespace Cert.ConvRow

open Cert.Rows

/-- A column `i` rows earlier, and `i` rows later: zero beyond its ends. -/
def back (x : Fin 2048 → EReal) (i : ℕ) (s : Fin 2048) : EReal := if h : i ≤ s.val then x ⟨s.val - i, by omega⟩ else 0
def ahead (x : Fin 2048 → EReal) (i : ℕ) (s : Fin 2048) : EReal := if h : s.val + i < 2048 then x ⟨s.val + i, h⟩ else 0

variable (x : Fin 2048 → EReal) (w : Fin 8 → EReal) (d : Fin 2048 → EReal) (s : Fin 2048)

/-- The convolution with the taps `w`, and SiLU of it. -/
def conv : EReal := x s * w 3 + back x 1 s * w 2 + back x 2 s * w 1 + back x 3 s * w 0
def out : EReal := conv x w s * sigmoid (conv x w s)

/-- The gradient at the convolution, from the gradient `d` at the output. -/
def dconv : EReal := d s * (sigmoid (conv x w s) * (one + conv x w s * (one - sigmoid (conv x w s))))

/-- The gradient at the column. -/
def dcol : EReal := dconv x w d s * w 3 + ahead (dconv x w d) 1 s * w 2 + ahead (dconv x w d) 2 s * w 1 + ahead (dconv x w d) 3 s * w 0

/-- A sequence's part of the gradient of the taps, of which there are four. -/
def dtap (k : Fin 8) : EReal := if k.val < 4 then ∑ s, dconv x w d s * back x (3 - k.val) s else 0

theorem back_zero : back x 0 s = x s := dif_pos (Nat.zero_le _)

/-- One of four terms, chosen by the tap. -/
theorem chosen (f : ℕ → EReal) (k : Fin 8) :
    (if k.val = 3 then f 0 else 0) + (if k.val = 2 then f 1 else 0) + (if k.val = 1 then f 2 else 0) + (if k.val = 0 then f 3 else 0)
      = if k.val < 4 then f (3 - k.val) else 0 := by
  rcases (by omega : k.val = 0 ∨ k.val = 1 ∨ k.val = 2 ∨ k.val = 3 ∨ 4 ≤ k.val) with h | h | h | h | h
  · simp [h]
  · simp [h]
  · simp [h]
  · simp [h]
  · rw [if_neg (by omega), if_neg (by omega), if_neg (by omega), if_neg (by omega), if_neg (by omega)]
    simp

end Cert.ConvRow

end
-- ==== Proof.ConvArrays.lean ====
/-
The convolution and its gradients as arrays of the arguments, column by column, and the references' arrays read as those.
-/
module

public import proofs.«01_k».proof.Defs
public import Idealize.ShloMosaic.Lib.Pointwise
public import proofs.«01_k».proof.Proof.Gen.ConvRefIdeal.Run
public import proofs.«01_k».proof.Proof.Gen.ConvBackRefIdeal.Run
public import proofs.«01_k».proof.Proof.ConvMath

@[expose] public section

set_option maxRecDepth 16384

noncomputable section

open Idealize.ShloMosaic Idealize.ShloMosaic.TcCoe Idealize.SL.Sem

namespace Cert.Convolution

open Cert.ConvBackRefIdeal Cert.ConvBackRefIdeal.Gen Cert.Rows Cert.ConvRow

/-- The row of a sequence among all tokens, and the sequence and the row of a token. -/
def tok (b : Fin 2) (s : Fin 2048) : Fin 4096 := ⟨b.val * 2048 + s.val, by omega⟩
def half (n : Fin 4096) : Fin 2 := ⟨n.val / 2048, by omega⟩
def pos (n : Fin 4096) : Fin 2048 := ⟨n.val % 2048, by omega⟩

theorem half_tok (b : Fin 2) (s : Fin 2048) : half (tok b s) = b := Fin.ext (by dsimp only [half, tok]; omega)
theorem pos_tok (b : Fin 2) (s : Fin 2048) : pos (tok b s) = s := Fin.ext (by dsimp only [pos, tok]; omega)

variable (p : FVec Ideal S4096x5760 .f32) (w : FVec Ideal S8x1536 .f32) (d : FVec Ideal S3x4096x512 .f32)

/-- A column of a sequence: of the projection, of the taps, and of the gradient, which comes in three pieces. -/
def seqX (b : Fin 2) (q : Fin 1536) (s : Fin 2048) : EReal := p (ix2 (tok b s) ⟨3584 + q.val, by omega⟩)
def taps (q : Fin 1536) (k : Fin 8) : EReal := w (ix2 k q)
def seqD (b : Fin 2) (q : Fin 1536) (s : Fin 2048) : EReal := d (ix3 ⟨q.val / 512, by omega⟩ (tok b s) ⟨q.val % 512, by omega⟩)

/-- The convolution with SiLU, the gradient at the columns, and the gradient of the taps. -/
def outs : FVec Ideal S4096x1536 .f32 := fun i => out (seqX p (half (i 0)) (i 1)) (taps w (i 1)) (pos (i 0))
def dcols : FVec Ideal S4096x1536 .f32 := fun i => dcol (seqX p (half (i 0)) (i 1)) (taps w (i 1)) (seqD d (half (i 0)) (i 1)) (pos (i 0))
def dtaps : FVec Ideal S8x1536 .f32 := fun i => ∑ b, dtap (seqX p b (i 1)) (taps w (i 1)) (seqD d b (i 1)) (i 0)

section Arrays

variable (b : Fin 2) (s : Fin 2048) (q : Fin 1536) (k : Fin 8)

/-- The references' arrays: the columns after three rows of zeros, a tap along them, the convolution, a one everywhere, the logistic
function, and the gradient at the convolution. -/
def padded : FVec Ideal S2x2051x1536 .f32 :=
  pad S2x2051x1536 ![0, 3, 0] ![0, 0, 0] ![0, 0, 0] (shapeCast S2x2048x1536 (extractStridedSlice S4096x1536 ![0, 3584] p slices_S4096x5760_S4096x1536_0_3584) shapeCasts_S4096x1536_S2x2048x1536) (sitofp .f32 (constantI S_ 32 0#32)) pads_S2x2048x1536_S2x2051x1536_000_300_000 h_S_
def along (r : FVec Ideal S1x1536 .f32) : FVec Ideal S2x2048x1536 .f32 :=
  broadcastInDim S2x2048x1536 ![0, 1, 2] bcast_S1x1x1536_S2x2048x1536_0_1_2 (broadcastInDim S1x1x1536 ![2] bcast_S1536_S1x1x1536_2 (shapeCast S1536 r shapeCasts_S1x1536_S1536))
def convs : FVec Ideal S2x2048x1536 .f32 :=
  addf (addf (addf (mulf (extractStridedSlice S2x2048x1536 ![0, 0, 0] (padded p) slices_S2x2051x1536_S2x2048x1536_0_0_0) (along (extractStridedSlice S1x1536 ![0, 0] w slices_S8x1536_S1x1536_0_0)))
    (mulf (extractStridedSlice S2x2048x1536 ![0, 1, 0] (padded p) slices_S2x2051x1536_S2x2048x1536_0_1_0) (along (extractStridedSlice S1x1536 ![1, 0] w slices_S8x1536_S1x1536_1_0))))
    (mulf (extractStridedSlice S2x2048x1536 ![0, 2, 0] (padded p) slices_S2x2051x1536_S2x2048x1536_0_2_0) (along (extractStridedSlice S1x1536 ![2, 0] w slices_S8x1536_S1x1536_2_0))))
    (mulf (extractStridedSlice S2x2048x1536 ![0, 3, 0] (padded p) slices_S2x2051x1536_S2x2048x1536_0_3_0) (along (extractStridedSlice S1x1536 ![3, 0] w slices_S8x1536_S1x1536_3_0)))
def ones : FVec Ideal S2x2048x1536 .f32 := broadcastInDim S2x2048x1536 ![] bcast_S_S2x2048x1536 (constant S_ .f32 0x3F800000#32)
def sigs : FVec Ideal S2x2048x1536 .f32 := Host.divf ones (addf ones (Host.exp (Host.negf (convs p w))))
def dconvs : FVec Ideal S2x2048x1536 .f32 :=
  mulf (shapeCast S2x2048x1536 (transpose S4096x3x512 [1, 0, 2] d transposes_S3x4096x512_S4096x3x512_1_0_2) shapeCasts_S4096x3x512_S2x2048x1536)
    (mulf (sigs p w) (addf ones (mulf (convs p w) (subf ones (sigs p w)))))
def trailed : FVec Ideal S2x2051x1536 .f32 :=
  pad S2x2051x1536 ![0, 0, 0] ![0, 3, 0] ![0, 0, 0] (dconvs p w d) (sitofp .f32 (constantI S_ 32 0#32)) pads_S2x2048x1536_S2x2051x1536_000_030_000 h_S_

/-- An integer's zero is zero. -/
theorem zero_f : (FloatOps.sitofp (F := Ideal) .f32 (0#32 : BitVec 32) : EReal) = 0 := by
  change (((0#32 : BitVec 32).toInt : ℝ) : EReal) = 0
  simp

/-- A sum of four, backwards. -/
theorem reversed (a b c d : EReal) : a + b + c + d = d + c + b + a := by
  rw [add_comm (a + b + c) d, add_comm (a + b) c, add_comm a b, ← add_assoc, ← add_assoc]

theorem padded_apply (i : ℕ) (hi : i ≤ 3) (j : Fin 2051) (hj : j.val = i + s.val) :
    padded p (ix3 b j q) = back (seqX p b q) (3 - i) s := by
  pointwise [padded]
  unfold back
  by_cases h : 3 - i ≤ s.val
  · rw [dif_pos h, dif_pos (by omega)]
    exact congrArg (seqX p b q) (Fin.ext (by dsimp only; omega) : (⟨j.val - 3, by omega⟩ : Fin 2048) = ⟨s.val - (3 - i), by omega⟩)
  · rw [dif_neg h, dif_neg (by omega)]
    exact zero_f

theorem convs_apply : convs p w (ix3 b s q) = conv (seqX p b q) (taps w q) s := by
  pointwise [convs, along]
  rw [padded_apply p b s q 0 (by omega) _ (Nat.zero_add _).symm, padded_apply p b s q 1 (by omega) _ rfl,
    padded_apply p b s q 2 (by omega) _ rfl, padded_apply p b s q 3 (by omega) _ rfl]
  have h : back (seqX p b q) (3 - 3) s = seqX p b q s := dif_pos (Nat.zero_le _)
  rw [h]
  exact reversed ..

theorem sigs_apply : sigs p w (ix3 b s q) = sigmoid (conv (seqX p b q) (taps w q) s) := by
  pointwise [sigs, ones, convs_apply, sigmoid]

theorem dconvs_apply : dconvs p w d (ix3 b s q) = dconv (seqX p b q) (taps w q) (seqD d b q) s := by
  pointwise [dconvs, ones, convs_apply, sigs_apply, dconv]
  rfl

theorem trailed_apply (i : ℕ) (j : Fin 2051) (hj : j.val = i + s.val) :
    trailed p w d (ix3 b j q) = ahead (dconv (seqX p b q) (taps w q) (seqD d b q)) i s := by
  pointwise [trailed, dconvs_apply]
  unfold ahead
  by_cases h : s.val + i < 2048
  · rw [dif_pos h, dif_pos (by omega)]
    exact congrArg _ (Fin.ext (by dsimp only; omega))
  · rw [dif_neg h, dif_neg (by omega)]
    exact zero_f

/-- The references' results. -/
theorem outs_arrays : shapeCast S4096x1536 (mulf (convs p w) (sigs p w)) shapeCasts_S2x2048x1536_S4096x1536 = outs p w := by
  funext i
  obtain ⟨n, q, rfl⟩ : ∃ (n : Fin 4096) (q : Fin 1536), ix2 n q = i := ⟨i 0, i 1, by funext a; match a with | ⟨0, _⟩ => rfl | ⟨1, _⟩ => rfl⟩
  pointwise [convs_apply, sigs_apply]
  rfl

theorem dcols_arrays : shapeCast S4096x1536
    (addf (addf (addf (mulf (extractStridedSlice S2x2048x1536 ![0, 0, 0] (trailed p w d) slices_S2x2051x1536_S2x2048x1536_0_0_0) (along (extractStridedSlice S1x1536 ![3, 0] w slices_S8x1536_S1x1536_3_0)))
      (mulf (extractStridedSlice S2x2048x1536 ![0, 1, 0] (trailed p w d) slices_S2x2051x1536_S2x2048x1536_0_1_0) (along (extractStridedSlice S1x1536 ![2, 0] w slices_S8x1536_S1x1536_2_0))))
      (mulf (extractStridedSlice S2x2048x1536 ![0, 2, 0] (trailed p w d) slices_S2x2051x1536_S2x2048x1536_0_2_0) (along (extractStridedSlice S1x1536 ![1, 0] w slices_S8x1536_S1x1536_1_0))))
      (mulf (extractStridedSlice S2x2048x1536 ![0, 3, 0] (trailed p w d) slices_S2x2051x1536_S2x2048x1536_0_3_0) (along (extractStridedSlice S1x1536 ![0, 0] w slices_S8x1536_S1x1536_0_0))))
    shapeCasts_S2x2048x1536_S4096x1536 = dcols p w d := by
  funext i
  obtain ⟨n, q, rfl⟩ : ∃ (n : Fin 4096) (q : Fin 1536), ix2 n q = i := ⟨i 0, i 1, by funext a; match a with | ⟨0, _⟩ => rfl | ⟨1, _⟩ => rfl⟩
  pointwise [along]
  exact congrArg₂ (fun x y : EReal => x + y) (congrArg₂ (fun x y : EReal => x + y) (congrArg₂ (fun x y : EReal => x + y)
    (congrArg (fun x : EReal => x * w (ix2 3 q)) ((trailed_apply p w d (half n) (pos n) q 0 _ (Nat.zero_add _).symm).trans (dif_pos (pos n).isLt)))
    (congrArg (fun x : EReal => x * w (ix2 2 q)) (trailed_apply p w d (half n) (pos n) q 1 _ rfl)))
    (congrArg (fun x : EReal => x * w (ix2 1 q)) (trailed_apply p w d (half n) (pos n) q 2 _ rfl)))
    (congrArg (fun x : EReal => x * w (ix2 0 q)) (trailed_apply p w d (half n) (pos n) q 3 _ rfl))

/-- The sum over both sequences of the gradient at the convolution times the columns, `i` rows of padding in. -/
def summed (y : FVec Ideal S2x2048x1536 .f32) : FVec Ideal S1x1536 .f32 :=
  broadcastInDim S1x1536 ![1] bcast_S1536_S1x1536_1
    (Host.reduceAdd (Host.reduceAdd (mulf (dconvs p w d) y) (constant S_ .f32 0x00000000#32) reducesTo_S2x2048x1536_S2x1536_d1 h_S_)
      (constant S_ .f32 0x00000000#32) reducesTo_S2x1536_S1536_d0 h_S_)

theorem summed_apply (y : FVec Ideal S2x2048x1536 .f32) (r : Fin 1) :
    summed p w d y (ix2 r q) = ∑ b, ∑ s, dconv (seqX p b q) (taps w q) (seqD d b q) s * (y (ix3 b s q) : EReal) := by
  pointwise [summed, dconvs_apply]

theorem dtaps_arrays : concatenate S8x1536 0
    [⟨S1x1536, summed p w d (extractStridedSlice S2x2048x1536 ![0, 0, 0] (padded p) slices_S2x2051x1536_S2x2048x1536_0_0_0)⟩,
      ⟨S1x1536, summed p w d (extractStridedSlice S2x2048x1536 ![0, 1, 0] (padded p) slices_S2x2051x1536_S2x2048x1536_0_1_0)⟩,
      ⟨S1x1536, summed p w d (extractStridedSlice S2x2048x1536 ![0, 2, 0] (padded p) slices_S2x2051x1536_S2x2048x1536_0_2_0)⟩,
      ⟨S1x1536, summed p w d (extractStridedSlice S2x2048x1536 ![0, 3, 0] (padded p) slices_S2x2051x1536_S2x2048x1536_0_3_0)⟩,
      ⟨S4x1536, broadcastInDim S4x1536 ![] bcast_S_S4x1536 (constant S_ .f32 0x00000000#32)⟩]
    concatenates_S1x1536_S1x1536_S1x1536_S1x1536_S4x1536_S8x1536_d0 = dtaps p w d := by
  funext i
  obtain ⟨k, q, rfl⟩ : ∃ (k : Fin 8) (q : Fin 1536), ix2 k q = i := ⟨i 0, i 1, by funext a; match a with | ⟨0, _⟩ => rfl | ⟨1, _⟩ => rfl⟩
  pointwise [summed_apply]
  have h (i : ℕ) (hi : i ≤ 3) (e : 3 - k.val = 3 - i) (hk : k.val < 4) (b : Fin 2) :
      ∑ s, dconv (seqX p b q) (taps w q) (seqD d b q) s * (padded p (ix3 b ⟨i + s.val, by omega⟩ q) : EReal) = dtap (seqX p b q) (taps w q) (seqD d b q) k := by
    rw [dtap, if_pos hk, e]
    exact Finset.sum_congr rfl fun s _ => congrArg _ (padded_apply p b s q i hi _ rfl)
  unfold dtaps
  split_ifs
  · exact Finset.sum_congr rfl fun b _ => (Finset.sum_congr rfl fun s _ => congrArg _ (congrArg (fun j => padded p (ix3 b j q)) (Fin.ext (Nat.zero_add _).symm))).trans (h 0 (by omega) (by omega) (by omega) b)
  · exact Finset.sum_congr rfl fun b _ => h 1 (by omega) (by omega) (by omega) b
  · exact Finset.sum_congr rfl fun b _ => h 2 (by omega) (by omega) (by omega) b
  · exact Finset.sum_congr rfl fun b _ => h 3 (by omega) (by omega) (by omega) b
  · refine (Finset.sum_eq_zero fun b _ => if_neg ?_).symm
    show ¬ k.val < 4
    omega

variable (m : (ℓ : Loc nD τ sig) → Buf (Elt Ideal) ℓ) (c : Dev nD)

theorem back_cols (h0 : p = m ((c.tc : Thread nD τ).loc main_arg0)) (h1 : w = m ((c.tc : Thread nD τ).loc main_arg1)) (h2 : d = m ((c.tc : Thread nD τ).loc main_arg2)) :
    Cert.ConvBackRefIdeal.Value.res_main_v93 m c = dcols p w d := by
  subst h0 h1 h2
  exact dcols_arrays ..

theorem back_taps (h0 : p = m ((c.tc : Thread nD τ).loc main_arg0)) (h1 : w = m ((c.tc : Thread nD τ).loc main_arg1)) (h2 : d = m ((c.tc : Thread nD τ).loc main_arg2)) :
    Cert.ConvBackRefIdeal.Value.res_main_v95 m c = dtaps p w d := by
  subst h0 h1 h2
  exact dtaps_arrays ..

end Arrays

end Cert.Convolution

end
-- ==== Proof.ConvKernel.lean ====
/-
The kernels of the convolution and of its gradients: what their blocks hold column by column.
-/
module

public import Idealize.ShloMosaic.Lib.Pipeline.ValueKit
public import Idealize.ShloMosaic.Lib.WordCmp
public import proofs.«01_k».proof.Proof.Gen.ConvIdeal.Value
public import proofs.«01_k».proof.Proof.Gen.ConvBackIdeal.Value
public import proofs.«01_k».proof.Proof.ConvArrays

@[expose] public section

set_option maxRecDepth 16384

noncomputable section

open Idealize.ShloMosaic Idealize.ShloMosaic.TcCoe Idealize.SL.Sem

namespace Cert.Convolution

open Cert.ConvBackIdeal Cert.ConvBackIdeal.Gen Cert.Rows Cert.ConvRow

/-- A choice by a comparison of small numbers. -/
theorem select_ge {r i : ℕ} (hr : r < 2 ^ 31) (hi : i < 2 ^ 31) (a b : EReal) :
    Scalar.select (IntOp.cmpi .sge (BitVec.ofNat 32 r) (BitVec.ofNat 32 i)) a b = if i ≤ r then a else b :=
  if_congr (WordCmp.cmpi_sge_ofNat_eq_one_iff hr hi) rfl rfl
theorem select_lt {r i : ℕ} (hr : r < 2 ^ 31) (hi : i < 2 ^ 31) (a b : EReal) :
    Scalar.select (IntOp.cmpi .slt (BitVec.ofNat 32 r) (BitVec.ofNat 32 i)) a b = if r < i then a else b :=
  if_congr (WordCmp.cmpi_slt_ofNat_eq_one_iff hr hi) rfl rfl
theorem select_eq {r i : ℕ} (hr : r < 2 ^ 32) (hi : i < 2 ^ 32) (a b : EReal) :
    Scalar.select (IntOp.cmpi .eq (BitVec.ofNat 32 r) (BitVec.ofNat 32 i)) a b = if r = i then a else b :=
  if_congr (WordCmp.cmpi_eq_ofNat_eq_one_iff hr hi) rfl rfl

/-- A column of a block, and of the taps' block. -/
abbrev colX (x : FVec Ideal S2048x512 .f32) (l : Fin 512) (s : Fin 2048) : EReal := x (ix2 s l)
abbrev colW (w : FVec Ideal S8x512 .f32) (l : Fin 512) (k : Fin 8) : EReal := w (ix2 k l)
abbrev colD (d : Vec Ideal S1x2048x512 .f32) (l : Fin 512) (s : Fin 2048) : EReal := d (ix3 0 s l)

/-- A column rotated down and cleared at its first `i` rows, or rotated up and cleared at its last `i` rows, times a number. -/
theorem rotated_back (x : Fin 2048 → EReal) (i : ℕ) (hi : i < 2048) (s j : Fin 2048) (hj : j.val = (s.val + 2048 - i) % 2048) :
    Scalar.select (IntOp.cmpi .sge (BitVec.ofNat 32 s.val) (BitVec.ofNat 32 i)) (x j) 0 = back x i s := by
  rw [select_ge (by omega) (by omega), back]
  by_cases h : i ≤ s.val
  · rw [if_pos h, dif_pos h]
    exact congrArg x (Fin.ext (by dsimp only; omega))
  · rw [if_neg h, dif_neg h]
theorem rotated_ahead (x : Fin 2048 → EReal) (v : EReal) (i u : ℕ) (hi : 0 < i) (hu : u + i = 2048) (s j : Fin 2048) (hj : j.val = (s.val + 2048 - u) % 2048) :
    Scalar.select (IntOp.cmpi .slt (BitVec.ofNat 32 s.val) (BitVec.ofNat 32 u)) (x j * v) 0 = ahead x i s * v := by
  rw [select_lt (by omega) (by omega), ahead]
  by_cases h : s.val + i < 2048
  · rw [if_pos (by omega), dif_pos h]
    exact congrArg (fun n => x n * v) (Fin.ext (by dsimp only; omega))
  · rw [if_neg (by omega), dif_neg h, zero_mul]

section Payloads

variable (x g : FVec Ideal S2048x512 .f32) (w : FVec Ideal S8x512 .f32) (d : Vec Ideal S1x2048x512 .f32) (r : Fin 2048) (l : Fin 512) (k : Fin 8)

theorem back1_apply : k0_pay3 (F := Ideal) x (ix2 r l) = back (colX x l) 1 r := by
  pointwise [k0_pay3]
  exact rotated_back (colX x l) 1 (by omega) r _ rfl
theorem back2_apply : k0_pay4 (F := Ideal) x (ix2 r l) = back (colX x l) 2 r := by
  pointwise [k0_pay4]
  exact rotated_back (colX x l) 2 (by omega) r _ rfl
theorem back3_apply : k0_pay5 (F := Ideal) x (ix2 r l) = back (colX x l) 3 r := by
  pointwise [k0_pay5]
  exact rotated_back (colX x l) 3 (by omega) r _ rfl

theorem conv_apply : k0_pay6 (F := Ideal) w x (ix2 r l) = conv (colX x l) (colW w l) r := by
  pointwise [k0_pay6, back1_apply, back2_apply, back3_apply, conv]

theorem dconv_apply : k0_pay9 (F := Ideal) (k0_pay6 w x) (k0_pay7 w x) k0_pay8 d (ix2 r l) = dconv (colX x l) (colW w l) (colD d l) r := by
  pointwise [k0_pay9, k0_pay7, k0_pay8, conv_apply, dconv, sigmoid, sub_eq_add_neg, zero_add]

theorem dcol_apply : k0_pay10 (F := Ideal) w (k0_pay6 w x) (k0_pay7 w x) k0_pay8 d (ix2 r l) = dcol (colX x l) (colW w l) (colD d l) r := by
  pointwise [k0_pay10, dconv_apply]
  rw [rotated_ahead _ _ 1 2047 (by omega) rfl r _ rfl, rotated_ahead _ _ 2 2046 (by omega) rfl r _ rfl, rotated_ahead _ _ 3 2045 (by omega) rfl r _ rfl]
  rfl

theorem dtap_apply : k0_pay11 (F := Ideal) x (k0_pay3 x) (k0_pay4 x) (k0_pay5 x) (k0_pay9 (k0_pay6 w x) (k0_pay7 w x) k0_pay8 d) (ix2 k l)
    = dtap (colX x l) (colW w l) (colD d l) k := by
  pointwise [k0_pay11, dconv_apply, back1_apply, back2_apply, back3_apply]
  rw [select_eq (by omega) (by omega), select_eq (by omega) (by omega), select_eq (by omega) (by omega), select_eq (by omega) (by omega)]
  refine Eq.trans ?_ (chosen (fun i => ∑ s, dconv (colX x l) (colW w l) (colD d l) s * back (colX x l) i s) k)
  simp only [back_zero]

theorem out_apply : Cert.ConvIdeal.Gen.k0_pay1 (F := Ideal) x w (ix2 r l) = out (colX x l) (colW w l) r := by
  refine Eq.trans (congrFun (?_ : _ = mulf (k0_pay6 w x) (divf k0_pay8 (addf k0_pay8 (k0_pay7 w x)))) (ix2 r l)) ?_
  · rfl
  · pointwise [k0_pay7, k0_pay8, conv_apply, out, sigmoid, sub_eq_add_neg, zero_add]

end Payloads

/-- The taps' gradient starts at zero, and gains at each point. -/
theorem zero4 (j : S8x512.Idx) : k0_pay2 (F := Ideal) j = 0 := by pointwise [k0_pay2]
theorem gain_apply (a acc : FVec Ideal S8x512 .f32) (j : S8x512.Idx) : k0_pay1 (F := Ideal) a acc j = acc j + a j := by
  pointwise [k0_pay1]

end Cert.Convolution

namespace Cert.ConvIdeal.Whole

open Cert.ConvIdeal Cert.ConvIdeal.Gen Cert.ConvRow Cert.Convolution

variable (m : (ℓ : Loc nD τ sig) → Buf (Elt Ideal) ℓ) (c : Dev nD)

theorem places : ∀ t : Fin cfg0.N, win0_0.index t = ![t.val / 3, 7 + t.val % 3] ∧ win0_1.index t = ![0, t.val % 3]
    ∧ win0_2.index t = ![t.val / 3, t.val % 3] :=
  (by decide +kernel : ∀ t : Fin grid0.N, _)

/-- The arguments. -/
abbrev p : FVec Ideal S4096x5760 .f32 := m ((c : Thread nD τ).loc main_arg0)
abbrev w : FVec Ideal S8x1536 .f32 := m ((c : Thread nD τ).loc main_arg1)

/-- The columns of a point's blocks are the arguments' columns. -/
theorem cols (t : Fin cfg0.N) (l : Fin 512) (b : Fin 2) (q : Fin 1536) (hb : b.val = t.val / 3) (hq : q.val = t.val % 3 * 512 + l.val) :
    colX (X0_0 m c t) l = seqX (p m c) b q ∧ colW (iblk m c 1 t) l = taps (w m c) q := by
  refine ⟨funext fun s => ?_, funext fun k => ?_⟩
  · refine (dif_pos (moved0_0 t (ix2 s l))).trans ?_
    dsimp only [seqX, tok]
    blk_ext [iblk, V, places t]
  · dsimp only [colW, taps]
    blk_ext [iblk, V, places t]

/-- A point's entries of the result. -/
theorem stored (t : Fin cfg0.N) (y : S2048x512.Idx) :
    k0_pay1 (X0_0 m c t) (iblk m c 1 t) y = outs (p m c) (w m c) (((cfg0.win 2).blk t).view.emb y) := by
  obtain ⟨r, l, rfl⟩ : ∃ (r : Fin 2048) (l : Fin 512), ix2 r l = y := ⟨y 0, y 1, by funext a; match a with | ⟨0, _⟩ => rfl | ⟨1, _⟩ => rfl⟩
  have ht : t.val < 6 := lt_of_lt_of_eq t.isLt N_0
  obtain ⟨b, hb⟩ : ∃ b : Fin 2, b.val = t.val / 3 := ⟨⟨t.val / 3, by omega⟩, rfl⟩
  obtain ⟨q, hq⟩ : ∃ q : Fin 1536, q.val = t.val % 3 * 512 + l.val := ⟨⟨t.val % 3 * 512 + l.val, by omega⟩, rfl⟩
  refine (out_apply ..).trans (Eq.trans ?_ (congrArg _ (?_ : ix2 (tok b r) q = _)))
  · obtain ⟨h0, h1⟩ := cols m c t l b q hb hq
    show _ = out (seqX (p m c) (half (tok b r)) q) (taps (w m c) q) (pos (tok b r))
    rw [half_tok, pos_tok, h0, h1]
  · dsimp only [tok]
    blk_ext [places t]

/-- The result after the run. -/
theorem final : (dats m 0 c).arrAt 2 cfg0.N = outs (p m c) (w m c) := by
  refine (dats m 0 c).arrAt_eq_of_covers 2 _ (by decide +kernel) fun t _ y => ?_
  blk_simp
  rw [after0_2]
  unfold outsAt0
  frame_out
  exact stored m c t y

end Cert.ConvIdeal.Whole

namespace Cert.ConvBackIdeal.Whole

open Cert.ConvBackIdeal Cert.ConvBackIdeal.Gen Cert.ConvRow Cert.Convolution

variable (m : (ℓ : Loc nD τ sig) → Buf (Elt Ideal) ℓ) (c : Dev nD)

theorem places : ∀ t : Fin cfg0.N, win0_0.index t = ![t.val % 2, 7 + t.val / 2] ∧ win0_1.index t = ![0, t.val / 2]
    ∧ win0_2.index t = ![t.val / 2, t.val % 2, 0] ∧ win0_3.index t = ![t.val % 2, t.val / 2] ∧ win0_4.index t = ![0, t.val / 2] :=
  (by decide +kernel : ∀ t : Fin grid0.N, _)

/-- The arguments. -/
abbrev p : FVec Ideal S4096x5760 .f32 := m ((c : Thread nD τ).loc main_arg0)
abbrev w : FVec Ideal S8x1536 .f32 := m ((c : Thread nD τ).loc main_arg1)
abbrev d : FVec Ideal S3x4096x512 .f32 := m ((c : Thread nD τ).loc main_arg2)

/-- The columns of a point's blocks are the arguments' columns. -/
theorem cols (t : Fin cfg0.N) (l : Fin 512) (b : Fin 2) (q : Fin 1536) (hb : b.val = t.val % 2) (hq : q.val = t.val / 2 * 512 + l.val) :
    colX (X0_0 m c t) l = seqX (p m c) b q ∧ colW (iblk m c 1 t) l = taps (w m c) q ∧ colD (iblk m c 2 t) l = seqD (d m c) b q := by
  refine ⟨funext fun s => ?_, funext fun k => ?_, funext fun s => ?_⟩
  · refine (dif_pos (moved0_0 t (ix2 s l))).trans ?_
    dsimp only [seqX, tok]
    blk_ext [iblk, V, places t]
  · dsimp only [colW, taps]
    blk_ext [iblk, V, places t]
  · dsimp only [colD, seqD, tok]
    blk_ext [iblk, V, places t]

/-- A point's entries of the gradient at the columns. -/
theorem stored (t : Fin cfg0.N) (y : S2048x512.Idx) :
    k0_pay10 (iblk m c 1 t) (k0_pay6 (iblk m c 1 t) (X0_0 m c t)) (k0_pay7 (iblk m c 1 t) (X0_0 m c t)) k0_pay8 (iblk m c 2 t) y
      = dcols (p m c) (w m c) (d m c) (((cfg0.win 3).blk t).view.emb y) := by
  obtain ⟨r, l, rfl⟩ : ∃ (r : Fin 2048) (l : Fin 512), ix2 r l = y := ⟨y 0, y 1, by funext a; match a with | ⟨0, _⟩ => rfl | ⟨1, _⟩ => rfl⟩
  have ht : t.val < 6 := lt_of_lt_of_eq t.isLt N_0
  obtain ⟨b, hb⟩ : ∃ b : Fin 2, b.val = t.val % 2 := ⟨⟨t.val % 2, by omega⟩, rfl⟩
  obtain ⟨q, hq⟩ : ∃ q : Fin 1536, q.val = t.val / 2 * 512 + l.val := ⟨⟨t.val / 2 * 512 + l.val, by omega⟩, rfl⟩
  refine (dcol_apply ..).trans (Eq.trans ?_ (congrArg _ (?_ : ix2 (tok b r) q = _)))
  · obtain ⟨h0, h1, h2⟩ := cols m c t l b q hb hq
    show _ = dcol (seqX (p m c) (half (tok b r)) q) (taps (w m c) q) (seqD (d m c) (half (tok b r)) q) (pos (tok b r))
    rw [half_tok, pos_tok, h0, h1, h2]
  · dsimp only [tok]
    blk_ext [places t]

/-- The gradient at the columns after the run. -/
theorem final3 : (dats m 0 c).arrAt 3 cfg0.N = dcols (p m c) (w m c) (d m c) := by
  refine (dats m 0 c).arrAt_eq_of_covers 3 _ (by decide +kernel) fun t _ y => ?_
  blk_simp
  rw [after0_3]
  rcases em (t.val % 2 = 0) with h | h
  on_goal 1 => rw [outsAt0_A m c t h]
  on_goal 2 => rw [outsAt0_B m c t h]
  all_goals
    frame_out
    exact stored m c t y

/-- What a point adds to the gradient of the taps. -/
def gained (t : Fin cfg0.N) (j : S8x512.Idx) : EReal :=
  dtap (colX (X0_0 m c t) (j 1)) (colW (iblk m c 1 t) (j 1)) (colD (iblk m c 2 t) (j 1)) (j 0)

theorem gains (t : Fin cfg0.N) (acc : FVec Ideal S8x512 .f32) (j : S8x512.Idx) :
    k0_pay1 (F := Ideal) (k0_pay11 (X0_0 m c t) (k0_pay3 (X0_0 m c t)) (k0_pay4 (X0_0 m c t)) (k0_pay5 (X0_0 m c t))
      (k0_pay9 (k0_pay6 (iblk m c 1 t) (X0_0 m c t)) (k0_pay7 (iblk m c 1 t) (X0_0 m c t)) k0_pay8 (iblk m c 2 t))) acc j = acc j + gained m c t j := by
  obtain ⟨k, l, rfl⟩ : ∃ (k : Fin 8) (l : Fin 512), ix2 k l = j := ⟨j 0, j 1, by funext a; match a with | ⟨0, _⟩ => rfl | ⟨1, _⟩ => rfl⟩
  exact (gain_apply ..).trans (congrArg (fun a : EReal => (acc (ix2 k l) : EReal) + a) (dtap_apply ..))

/-- The gradient of the taps after the run. -/
theorem final4 : (dats m 0 c).arrAt 4 cfg0.N = dtaps (p m c) (w m c) (d m c) := by
  refine (dats m 0 c).arrAt_eq_of_covers 4 _ (by decide +kernel) fun t hf y => ?_
  blk_simp
  rw [after0_4, Pipeline.eq_sum_fin_of_reset_step_apply_of_flush (fun n h => (outsAt0 m c n h).2) 2 (fun _ => 0) (gained m c)
    (fun t h j => by rw [outsAt0_A m c t h]; frame_out; exact (gains ..).trans (congrArg (fun a : EReal => a + _) (zero4 j)))
    (fun t h j => by rw [outsAt0_B m c t h]; frame_out; exact gains ..)
    t ((flush0_4 t).mp hf) _, zero_add]
  obtain ⟨k, l, rfl⟩ : ∃ (k : Fin 8) (l : Fin 512), ix2 k l = y := ⟨y 0, y 1, by funext a; match a with | ⟨0, _⟩ => rfl | ⟨1, _⟩ => rfl⟩
  have ht : t.val < 6 := lt_of_lt_of_eq t.isLt N_0
  obtain ⟨q, hq⟩ : ∃ q : Fin 1536, q.val = t.val / 2 * 512 + l.val := ⟨⟨t.val / 2 * 512 + l.val, by omega⟩, rfl⟩
  have hy : ix2 k q = ((cfg0.win 4).blk t).view.emb (ix2 k l) := by blk_ext [places t]
  rw [← hy]
  have hb (b : Fin 2) : 2 * (t.val / 2) + b.val < cfg0.N := lt_of_lt_of_eq (by omega) N_0.symm
  have h (b : Fin 2) : gained m c ⟨2 * (t.val / 2) + b.val, hb b⟩ (ix2 k l) = dtap (seqX (p m c) b q) (taps (w m c) q) (seqD (d m c) b q) k := by
    obtain ⟨h0, h1, h2⟩ := cols m c ⟨2 * (t.val / 2) + b.val, hb b⟩ l b q (by dsimp only; omega) (by dsimp only; omega)
    show dtap (colX _ l) (colW _ l) (colD _ l) k = _
    rw [h0, h1, h2]
  exact (Finset.sum_congr rfl fun b _ => h b : (∑ b : Fin 2, gained m c ⟨2 * (t.val / 2) + b.val, hb b⟩ (ix2 k l))
    = ∑ b : Fin 2, dtap (seqX (p m c) b q) (taps (w m c) q) (seqD (d m c) b q) k)

end Cert.ConvBackIdeal.Whole

end
-- ==== Proof.ConvClaims.lean ====
/-
The claims about the convolution and its gradients.
-/
module

public import proofs.«01_k».proof.Defs
public import proofs.«01_k».proof.Proof.Gen.Conv.Frame
public import proofs.«01_k».proof.Proof.Gen.ConvBack.Frame
public import proofs.«01_k».proof.Proof.ConvKernel

@[expose] public section

set_option maxRecDepth 16384

noncomputable section

open Idealize.ShloMosaic Idealize.ShloMosaic.TcCoe Idealize.SL.Sem

namespace Cert.Convolution

theorem frame_kernel : Cert.quiescent_Conv := fun m ρ _ => Cert.Conv.Gen.frame (F := Bits) m ρ
theorem frame_ideal : Cert.quiescent_ConvIdeal := fun m ρ _ => Cert.ConvIdeal.Gen.frame (F := Ideal) m ρ
theorem frame_ref_ideal : Cert.quiescent_ConvRefIdeal := fun m ρ _ =>
  (θ_run _ _ _).mono (fun r h => ⟨fun c => (h c).2, sem_eq_zero_of_no_sems (by decide) r.2⟩) (Cert.ConvRefIdeal.Value.run (F := Ideal) m ρ)

/-- In exact arithmetic, the kernel's and the reference's results are the same. -/
theorem algebraic : Cert.algebraic_ConvIdeal_ConvRefIdeal := fun m ρ m' ρ' _ hag =>
  ⟨_, (θ_run _ _ _).mono (fun r h c => ⟨(h c).1.trans (Cert.ConvIdeal.Whole.final m c), (h c).2⟩) (Cert.ConvIdeal.Value.run_blocks (F := Ideal) m ρ),
    (θ_run _ _ _).mono (fun r h c => by
      obtain ⟨a0, a1⟩ := hag c
      refine ⟨(h c).1.trans ?_, (h c).2⟩
      unfold Cert.ConvRefIdeal.Value.res_main_v31
      rw [a0, a1]
      exact outs_arrays ..)
    (Cert.ConvRefIdeal.Value.run (F := Ideal) m' ρ')⟩

end Cert.Convolution

namespace Cert.ConvolutionBack

theorem frame_kernel : Cert.quiescent_ConvBack := fun m ρ _ => Cert.ConvBack.Gen.frame (F := Bits) m ρ
theorem frame_ideal : Cert.quiescent_ConvBackIdeal := fun m ρ _ => Cert.ConvBackIdeal.Gen.frame (F := Ideal) m ρ
theorem frame_ref_ideal : Cert.quiescent_ConvBackRefIdeal := fun m ρ _ =>
  (θ_run _ _ _).mono (fun r h => ⟨fun c => (h c).2.2, sem_eq_zero_of_no_sems (by decide) r.2⟩) (Cert.ConvBackRefIdeal.Value.run (F := Ideal) m ρ)

/-- In exact arithmetic, the kernel's and the reference's results are the same. -/
theorem algebraic : Cert.algebraic_ConvBackIdeal_ConvBackRefIdeal := fun m ρ m' ρ' _ hag =>
  ⟨_, _, (θ_run _ _ _).mono (fun r h c => ⟨(h c).1.trans (Cert.ConvBackIdeal.Whole.final3 m c), (h c).2.1.trans (Cert.ConvBackIdeal.Whole.final4 m c), (h c).2.2⟩)
      (Cert.ConvBackIdeal.Value.run_blocks (F := Ideal) m ρ),
    (θ_run _ _ _).mono (fun r h c => by
      obtain ⟨a0, a1, a2⟩ := hag c
      exact ⟨(h c).1.trans (Convolution.back_cols _ _ _ m' c a0.symm a1.symm a2.symm), (h c).2.1.trans (Convolution.back_taps _ _ _ m' c a0.symm a1.symm a2.symm), (h c).2.2⟩)
    (Cert.ConvBackRefIdeal.Value.run (F := Ideal) m' ρ')⟩

end Cert.ConvolutionBack

end
-- ==== Proof.AttMath.lean ====
/-
The arithmetic of one query of banded attention: its scores over the 576 keys of its band, the weights those give, the weighted mean of
the values, and the logarithm of the sum of the exponentials.
-/
module

public import Idealize.ShloMosaic.Lib.Pipeline.ValueKit
public import Idealize.ShloMosaic.Lib.WordCmp

@[expose] public section

noncomputable section

open Idealize.ShloMosaic

namespace Cert.AttRow

/-- The score of a masked key, one eighth, and the least number, as the programs write them. -/
abbrev masked : EReal := Ideal.ofBits .f32 0xF149F2CA#32
abbrev eighth : EReal := Ideal.ofBits .f32 0x3E000000#32
abbrev least : EReal := Ideal.ofBits .f32 0xFF800000#32

/-- The scores of a query in chunk `n`: the product with each key plus a bias, where the key is not before the sequence's start. -/
def score (q : Fin 64 → EReal) (k : Fin 576 → Fin 64 → EReal) (b : Fin 576 → EReal) (n : ℕ) (j : Fin 576) : EReal :=
  if (8 - n) * 64 ≤ j.val then ∑ l, q l * eighth * k j l + b j else masked

/-- The greatest score, the weights, their sum, the mean of the values, and the logarithm of the sum of the exponentials. -/
def top (s : Fin 576 → EReal) : EReal := Finset.univ.fold max least s
def weight (s : Fin 576 → EReal) (j : Fin 576) : EReal := Ideal.exp (s j - top s)
def total (s : Fin 576 → EReal) : EReal := ∑ j, weight s j
def mean (s v : Fin 576 → EReal) : EReal := Ideal.div (∑ j, weight s j * v j) (total s)
def logTotal (s : Fin 576 → EReal) : EReal := top s + Ideal.log (total s)

/-- Whether a key is masked, on words. -/
theorem valid_iff : ∀ (n : Fin 32) (j : Fin 576),
    IntOp.cmpi .sge (BitVec.ofNat 32 j.val) (IntOp.muli (IntOp.subi 8#32 (BitVec.ofNat 32 n.val)) 64#32) = 1#1 ↔ (8 - n.val) * 64 ≤ j.val := by
  decide +kernel

theorem select_valid (n : Fin 32) (j : Fin 576) (a b : EReal) :
    Scalar.select (IntOp.cmpi .sge (BitVec.ofNat 32 j.val) (IntOp.muli (IntOp.subi 8#32 (BitVec.ofNat 32 n.val)) 64#32)) a b
      = if (8 - n.val) * 64 ≤ j.val then a else b :=
  if_congr (valid_iff n j) rfl rfl

/-- A sum over 128 columns of which only one head's 64 count. -/
theorem half_sum (h : Fin 2) (f : Fin 128 → EReal) (h0 : ∀ l : Fin 128, l.val / 64 ≠ h.val → f l = 0) :
    ∑ l, f l = ∑ l : Fin 64, f ⟨h.val * 64 + l.val, by omega⟩ := by
  refine (Finset.sum_of_injOn (fun l : Fin 64 => (⟨h.val * 64 + l.val, by omega⟩ : Fin 128)) ?_ (fun _ _ => Finset.mem_coe.2 (Finset.mem_univ _)) ?_ (fun _ _ => rfl)).symm
  · intro a _ b _ e
    have := congrArg Fin.val e
    exact Fin.ext (by dsimp only at this; omega)
  · intro l _ hl
    refine h0 l fun e => hl ⟨⟨l.val % 64, by omega⟩, Finset.mem_coe.2 (Finset.mem_univ _), Fin.ext ?_⟩
    dsimp only
    omega

end Cert.AttRow

end
-- ==== Proof.AttArrays.lean ====
/-
Banded attention as arrays of the arguments, query by query, and the reference's arrays read as those.
-/
module

public import proofs.«01_k».proof.Defs
public import Idealize.ShloMosaic.Lib.Pointwise
public import proofs.«01_k».proof.Proof.Gen.AttRefIdeal.Run
public import proofs.«01_k».proof.Proof.AttMath

@[expose] public section

set_option maxRecDepth 16384

noncomputable section

open Idealize.ShloMosaic Idealize.ShloMosaic.TcCoe Idealize.SL.Sem

namespace Cert.Attention

open Cert.AttRefIdeal Cert.AttRefIdeal.Gen Cert.AttRow

/-- A row among all tokens, and the sequence, the chunk and the row in the chunk of a token; the head of a column. -/
def tok (b : Fin 2) (n : Fin 32) (r : Fin 64) : Fin 4096 := ⟨b.val * 2048 + n.val * 64 + r.val, by omega⟩
def seqOf (t : Fin 4096) : Fin 2 := ⟨t.val / 2048, by omega⟩
def chunkOf (t : Fin 4096) : Fin 32 := ⟨t.val / 64 % 32, by omega⟩
def rowOf (t : Fin 4096) : Fin 64 := ⟨t.val % 64, by omega⟩
def headOf (q : Fin 512) : Fin 8 := ⟨q.val / 64, by omega⟩

variable (p : FVec Ideal S4096x5760 .f32) (w : FVec Ideal S8x64x576 .f32)

/-- A head's query of a token. A column of the keys and values of a sequence, after 512 rows of zeros. -/
def query (t : Fin 4096) (h : Fin 8) (l : Fin 64) : EReal := p (ix2 t ⟨2048 + h.val * 64 + l.val, by omega⟩)
def rows (b : Fin 2) (u : Fin 2560) (x : Fin 1024) : EReal :=
  if _ : 512 ≤ u.val then p (ix2 ⟨b.val * 2048 + (u.val - 512), by omega⟩ ⟨2560 + x.val, by omega⟩) else 0

/-- A chunk's band of those rows: 512 rows before the chunk and the chunk. -/
def band (b : Fin 2) (n : Fin 32) (j : Fin 576) (x : Fin 1024) : EReal := rows p b ⟨n.val * 64 + j.val, by omega⟩ x

/-- The scores of a query, and the results at a token and a column. -/
def scores (b : Fin 2) (n : Fin 32) (r : Fin 64) (h : Fin 8) : Fin 576 → EReal :=
  score (query p (tok b n r) h) (fun j l => band p b n j ⟨h.val * 64 + l.val, by omega⟩) (fun j => w (ix3 h r j)) n.val
def outAt (b : Fin 2) (n : Fin 32) (r : Fin 64) (q : Fin 512) : EReal :=
  mean (scores p w b n r (headOf q)) fun j => band p b n j ⟨512 + q.val, by omega⟩
def lseAt (b : Fin 2) (n : Fin 32) (r : Fin 64) (q : Fin 512) : EReal := logTotal (scores p w b n r (headOf q))
def outs : FVec Ideal S4096x512 .f32 := fun i => outAt p w (seqOf (i 0)) (chunkOf (i 0)) (rowOf (i 0)) (i 1)
def lses : FVec Ideal S4096x512 .f32 := fun i => lseAt p w (seqOf (i 0)) (chunkOf (i 0)) (rowOf (i 0)) (i 1)

section Arrays

variable (b : Fin 2) (n : Fin 32) (r : Fin 64) (h : Fin 8) (j : Fin 576) (l : Fin 64)

/-- The reference's arrays: the queries, the rows after the zeros, their bands, the scores, the weights and their sums. -/
def queries : FVec Ideal S2x8x32x64x64 .f32 :=
  mulf (transpose S2x8x32x64x64 [0, 3, 1, 2, 4] (shapeCast S2x32x64x8x64 (extractStridedSlice S4096x512 ![0, 2048] p slices_S4096x5760_S4096x512_0_2048) shapeCasts_S4096x512_S2x32x64x8x64) transposes_S2x32x64x8x64_S2x8x32x64x64_0_3_1_2_4)
    (broadcastInDim S2x8x32x64x64 ![] bcast_S_S2x8x32x64x64 (constant S_ .f32 0x3E000000#32))
def padded : FVec Ideal S2x16x40x64x64 .f32 :=
  pad S2x16x40x64x64 ![0, 0, 8, 0, 0] ![0, 0, 0, 0, 0] ![0, 0, 0, 0, 0] (transpose S2x16x32x64x64 [0, 3, 1, 2, 4] (shapeCast S2x32x64x16x64 (extractStridedSlice S4096x1024 ![0, 2560] p slices_S4096x5760_S4096x1024_0_2560) shapeCasts_S4096x1024_S2x32x64x16x64) transposes_S2x32x64x16x64_S2x16x32x64x64_0_3_1_2_4)
    (sitofp .f32 (constantI S_ 32 0#32)) pads_S2x16x32x64x64_S2x16x40x64x64_000_000_800_000_000 h_S_
def bands : FVec Ideal S2x16x32x576x64 .f32 :=
  concatenate S2x16x32x576x64 3
    [⟨S2x16x32x64x64, extractStridedSlice S2x16x32x64x64 ![0, 0, 0, 0, 0] (padded p) slices_S2x16x40x64x64_S2x16x32x64x64_0_0_0_0_0⟩,
      ⟨S2x16x32x64x64, extractStridedSlice S2x16x32x64x64 ![0, 0, 1, 0, 0] (padded p) slices_S2x16x40x64x64_S2x16x32x64x64_0_0_1_0_0⟩,
      ⟨S2x16x32x64x64, extractStridedSlice S2x16x32x64x64 ![0, 0, 2, 0, 0] (padded p) slices_S2x16x40x64x64_S2x16x32x64x64_0_0_2_0_0⟩,
      ⟨S2x16x32x64x64, extractStridedSlice S2x16x32x64x64 ![0, 0, 3, 0, 0] (padded p) slices_S2x16x40x64x64_S2x16x32x64x64_0_0_3_0_0⟩,
      ⟨S2x16x32x64x64, extractStridedSlice S2x16x32x64x64 ![0, 0, 4, 0, 0] (padded p) slices_S2x16x40x64x64_S2x16x32x64x64_0_0_4_0_0⟩,
      ⟨S2x16x32x64x64, extractStridedSlice S2x16x32x64x64 ![0, 0, 5, 0, 0] (padded p) slices_S2x16x40x64x64_S2x16x32x64x64_0_0_5_0_0⟩,
      ⟨S2x16x32x64x64, extractStridedSlice S2x16x32x64x64 ![0, 0, 6, 0, 0] (padded p) slices_S2x16x40x64x64_S2x16x32x64x64_0_0_6_0_0⟩,
      ⟨S2x16x32x64x64, extractStridedSlice S2x16x32x64x64 ![0, 0, 7, 0, 0] (padded p) slices_S2x16x40x64x64_S2x16x32x64x64_0_0_7_0_0⟩,
      ⟨S2x16x32x64x64, extractStridedSlice S2x16x32x64x64 ![0, 0, 8, 0, 0] (padded p) slices_S2x16x40x64x64_S2x16x32x64x64_0_0_8_0_0⟩]
    concatenates_S2x16x32x64x64_S2x16x32x64x64_S2x16x32x64x64_S2x16x32x64x64_S2x16x32x64x64_S2x16x32x64x64_S2x16x32x64x64_S2x16x32x64x64_S2x16x32x64x64_S2x16x32x576x64_d3
def scored : FVec Ideal S2x8x32x64x576 .f32 :=
  select (broadcastInDim S2x8x32x64x576 ![0, 1, 2, 3, 4] bcast_S1x1x32x1x576_S2x8x32x64x576_0_1_2_3_4 (broadcastInDim S1x1x32x1x576 ![2, 4] bcast_S32x576_S1x1x32x1x576_2_4
      (cmpi .sge (broadcastInDim S32x576 ![0, 1] bcast_S1x576_S32x576_0_1 (broadcastInDim S1x576 ![1] bcast_S576_S1x576_1 (iotaInDim S576 32 0)))
        (broadcastInDim S32x576 ![0, 1] bcast_S32x1_S32x576_0_1 (muli (subi (broadcastInDim S32x1 ![] bcast_S_S32x1 (constantI S_ 32 8#32)) (broadcastInDim S32x1 ![0] bcast_S32_S32x1_0 (iotaInDim S32 32 0))) (broadcastInDim S32x1 ![] bcast_S_S32x1 (constantI S_ 32 64#32)))))))
    (addf (Host.dotGeneral dot_S2x8x32x64x64_S2x8x32x576x64_S2x8x32x64x576_4_4_3_3_012_012 none (queries p) (extractStridedSlice S2x8x32x576x64 ![0, 0, 0, 0, 0] (bands p) slices_S2x16x32x576x64_S2x8x32x576x64_0_0_0_0_0))
      (broadcastInDim S2x8x32x64x576 ![0, 1, 2, 3, 4] bcast_S1x8x1x64x576_S2x8x32x64x576_0_1_2_3_4 (broadcastInDim S1x8x1x64x576 ![1, 3, 4] bcast_S8x64x576_S1x8x1x64x576_1_3_4 w)))
    (broadcastInDim S2x8x32x64x576 ![] bcast_S_S2x8x32x64x576 (id (constant S_ .f32 0xF149F2CA#32)))
def tops : FVec Ideal S2x8x32x64x1 .f32 :=
  broadcastInDim S2x8x32x64x1 ![0, 1, 2, 3] bcast_S2x8x32x64_S2x8x32x64x1_0_1_2_3 (Host.reduce FloatOps.maximumf (scored p w) (constant S_ .f32 0xFF800000#32) reducesTo_S2x8x32x64x576_S2x8x32x64_d4 h_S_)
def weights : FVec Ideal S2x8x32x64x576 .f32 :=
  Host.exp (subf (scored p w) (broadcastInDim S2x8x32x64x576 ![0, 1, 2, 3, 4] bcast_S2x8x32x64x1_S2x8x32x64x576_0_1_2_3_4 (tops p w)))
def totals : FVec Ideal S2x8x32x64x1 .f32 :=
  broadcastInDim S2x8x32x64x1 ![0, 1, 2, 3] bcast_S2x8x32x64_S2x8x32x64x1_0_1_2_3 (Host.reduceAdd (weights p w) (constant S_ .f32 0x00000000#32) reducesTo_S2x8x32x64x576_S2x8x32x64_d4 h_S_)

/-- An integer's zero is zero. -/
theorem zero_f : (FloatOps.sitofp (F := Ideal) .f32 (0#32 : BitVec 32) : EReal) = 0 := by
  change (((0#32 : BitVec 32).toInt : ℝ) : EReal) = 0
  simp

theorem queries_apply : queries p (ix5 b h n r l) = query p (tok b n r) h l * eighth := by
  pointwise [queries]
  exact congrArg (fun y => p y * eighth) (congrArg (ix2 _) (Fin.ext (by dsimp only; omega)))

theorem padded_apply (g : Fin 16) (c : Fin 40) : padded p (ix5 b g c r l) = rows p b ⟨c.val * 64 + r.val, by omega⟩ ⟨g.val * 64 + l.val, by omega⟩ := by
  pointwise [padded]
  rw [rows]
  by_cases hc : 8 ≤ c.val
  · rw [dif_pos ⟨hc, by omega⟩, dif_pos (show 512 ≤ c.val * 64 + r.val by omega)]
    exact congrArg (fun t => p (ix2 t _)) (Fin.ext (by dsimp only; omega))
  · rw [dif_neg fun e => hc e.1, dif_neg (show ¬ 512 ≤ c.val * 64 + r.val by omega), zero_f]

theorem bands_apply (g : Fin 16) : bands p (ix5 b g n j l) = band p b n j ⟨g.val * 64 + l.val, by omega⟩ := by
  pointwise [bands, padded_apply]
  rw [band]
  split_ifs <;> exact congrArg (fun u => rows p b u _) (Fin.ext (by dsimp only <;> omega))

theorem scored_apply : scored p w (ix5 b h n r j) = scores p w b n r h j := by
  pointwise [scored, bands_apply, queries_apply]
  exact select_valid n j _ _

theorem tops_apply (z : Fin 1) : tops p w (ix5 b h n r z) = top (scores p w b n r h) := by
  pointwise [tops, scored_apply]
  rfl

theorem weights_apply : weights p w (ix5 b h n r j) = weight (scores p w b n r h) j := by
  pointwise [weights, scored_apply, tops_apply, weight]

theorem totals_apply (z : Fin 1) : totals p w (ix5 b h n r z) = total (scores p w b n r h) := by
  pointwise [totals, weights_apply, total]

/-- An array by head, laid out again by token and column. -/
def flat (x : FVec Ideal S2x8x32x64x64 .f32) : FVec Ideal S4096x512 .f32 :=
  shapeCast S4096x512 (transpose S2x32x64x8x64 [0, 2, 3, 1, 4] x transposes_S2x8x32x64x64_S2x32x64x8x64_0_2_3_1_4) shapeCasts_S2x32x64x8x64_S4096x512
theorem flat_apply (x : FVec Ideal S2x8x32x64x64 .f32) (t : Fin 4096) (q : Fin 512) :
    flat x (ix2 t q) = x (ix5 (seqOf t) (headOf q) (chunkOf t) (rowOf t) ⟨q.val % 64, by omega⟩) := by
  pointwise [flat]
  rfl

/-- The reference's two results by head. -/
def means : FVec Ideal S2x8x32x64x64 .f32 :=
  Host.divf (Host.dotGeneral dot_S2x8x32x64x576_S2x8x32x576x64_S2x8x32x64x64_4_3_3_4_012_012 none (weights p w) (extractStridedSlice S2x8x32x576x64 ![0, 8, 0, 0, 0] (bands p) slices_S2x16x32x576x64_S2x8x32x576x64_0_8_0_0_0))
    (broadcastInDim S2x8x32x64x64 ![0, 1, 2, 3, 4] bcast_S2x8x32x64x1_S2x8x32x64x64_0_1_2_3_4 (totals p w))
def logSum (x y : FVec Ideal S2x8x32x64x1 .f32) : FVec Ideal S2x8x32x64x64 .f32 :=
  broadcastInDim S2x8x32x64x64 ![0, 1, 2, 3, 4] bcast_S2x8x32x64x1_S2x8x32x64x64_0_1_2_3_4 (addf x (Host.log y))
def logs : FVec Ideal S2x8x32x64x64 .f32 := logSum (tops p w) (totals p w)

theorem means_apply : means p w (ix5 b h n r l) = mean (scores p w b n r h) fun j => band p b n j ⟨(8 + h.val) * 64 + l.val, by omega⟩ := by
  pointwise [means, weights_apply, totals_apply, bands_apply, mean]
theorem logSum_apply (x y : FVec Ideal S2x8x32x64x1 .f32) : logSum x y (ix5 b h n r l) = x (ix5 b h n r 0) + Ideal.log (y (ix5 b h n r 0)) := by
  pointwise [logSum]
theorem logs_apply : logs p w (ix5 b h n r l) = logTotal (scores p w b n r h) := by
  refine (logSum_apply ..).trans ?_
  rw [tops_apply, totals_apply]
  rfl

/-- Laid out again, they are the means and the logarithms. -/
theorem outs_eq : flat (means p w) = outs p w := by
  refine funext fun i => ?_
  obtain ⟨t, q, rfl⟩ : ∃ (t : Fin 4096) (q : Fin 512), ix2 t q = i := ⟨i 0, i 1, by funext a; match a with | ⟨0, _⟩ => rfl | ⟨1, _⟩ => rfl⟩
  rw [flat_apply, means_apply]
  exact congrArg (mean _) (funext fun j => congrArg (band p _ _ j) (Fin.ext (show (8 + q.val / 64) * 64 + q.val % 64 = 512 + q.val by omega)))
theorem lses_eq : flat (logs p w) = lses p w := by
  refine funext fun i => ?_
  obtain ⟨t, q, rfl⟩ : ∃ (t : Fin 4096) (q : Fin 512), ix2 t q = i := ⟨i 0, i 1, by funext a; match a with | ⟨0, _⟩ => rfl | ⟨1, _⟩ => rfl⟩
  rw [flat_apply, logs_apply]
  rfl

end Arrays

end Cert.Attention

end
-- ==== Proof.AttKernel.lean ====
/-
The kernel of banded attention: what a point computes for each query, what its scratch holds, and its blocks of the results.
-/
module

public import Idealize.ShloMosaic.Lib.Pipeline.ValueKit
public import Idealize.ShloMosaic.Lib.Pipeline.ValueKit.Held
public import Idealize.ShloMosaic.Lib.Pipeline.RowLoads
public import Idealize.ShloMosaic.Lib.Pipeline.ReadBack
public import Idealize.ShloMosaic.Lib.WordCmp
public import proofs.«01_k».proof.Proof.Gen.AttIdeal.Value
public import proofs.«01_k».proof.Proof.ConvKernel
public import proofs.«01_k».proof.Proof.AttArrays

@[expose] public section

set_option maxRecDepth 16384

noncomputable section

open Idealize.ShloMosaic Idealize.ShloMosaic.TcCoe Idealize.SL.Sem

namespace Cert.Attention

open Cert.AttIdeal Cert.AttIdeal.Gen Cert.AttRow

section Payloads

variable (i : grid0.Coords) (k v : Vec Ideal S576x128 .bf16) (q : Vec Ideal S64x128 .f32) (w0 w1 : Vec Ideal S1x64x576 .f32)
  (r : Fin 64) (j : Fin 576) (l : Fin 128)

/-- The columns' numbers. -/
abbrev lanes : IVec S64x128 32 := iota .tc S64x128 32 [1] iota_S64x128_d1_w32

/-- A block's scores of a query for one of its two heads. -/
def blockScores (n : ℕ) (h : Fin 2) (w : Vec Ideal S1x64x576 .f32) : Fin 576 → EReal :=
  score (fun l => q (ix2 r ⟨h.val * 64 + l.val, by omega⟩)) (fun j l => k (ix2 j ⟨h.val * 64 + l.val, by omega⟩)) (fun j => w (ix3 0 r j)) n

theorem scaled_apply : k0_pay6 (F := Ideal) q (ix2 r l) = q (ix2 r l) * eighth := by pointwise [k0_pay6]

theorem scores0_apply : k0_pay8 (F := Ideal) i k q w0 (ix2 r j) = blockScores k q r (i 2).val 0 w0 j := by
  pointwise [k0_pay8, k0_pay7, scaled_apply]
  refine (select_valid ⟨(i 2).val, (i 2).isLt⟩ j _ _).trans (congrArg (fun a => if (8 - (i 2).val) * 64 ≤ j.val then a + w0 (ix3 0 r j) else masked) ?_)
  refine (half_sum 0 _ fun x hx => ?_).trans (Finset.sum_congr rfl fun x _ => ?_)
  · exact (Convolution.select_lt (by omega) (by omega) _ _).trans (if_neg (by have : x.val / 64 ≠ 0 := hx; omega))
  · exact (Convolution.select_lt (by dsimp only; omega) (by omega) _ _).trans (if_pos (by show 0 * 64 + x.val < 64; omega))
theorem scores1_apply : k0_pay13 (F := Ideal) k (k0_pay6 q) lanes (k0_pay7 i) w1 (ix2 r j) = blockScores k q r (i 2).val 1 w1 j := by
  pointwise [k0_pay13, k0_pay7, scaled_apply]
  refine (select_valid ⟨(i 2).val, (i 2).isLt⟩ j _ _).trans (congrArg (fun a => if (8 - (i 2).val) * 64 ≤ j.val then a + w1 (ix3 0 r j) else masked) ?_)
  refine (half_sum 1 _ fun x hx => ?_).trans (Finset.sum_congr rfl fun x _ => ?_)
  · exact (Convolution.select_ge (by omega) (by omega) _ _).trans (if_neg (by have : x.val / 64 ≠ 1 := hx; omega))
  · exact (Convolution.select_ge (by dsimp only; omega) (by omega) _ _).trans (if_pos (by show 64 ≤ 1 * 64 + x.val; omega))

theorem top0_apply (z : Fin 1) : k0_pay9 (F := Ideal) i k q w0 (ix2 r z) = top (blockScores k q r (i 2).val 0 w0) := by
  pointwise [k0_pay9, scores0_apply]
  rfl
theorem top1_apply (z : Fin 1) : k0_pay14 (F := Ideal) k (k0_pay6 q) lanes (k0_pay7 i) w1 (ix2 r z) = top (blockScores k q r (i 2).val 1 w1) := by
  pointwise [k0_pay14, scores1_apply]
  rfl
theorem weight0_apply : k0_pay10 (F := Ideal) i k q w0 (ix2 r j) = weight (blockScores k q r (i 2).val 0 w0) j := by
  pointwise [k0_pay10, scores0_apply, top0_apply, weight]
theorem weight1_apply : k0_pay15 (F := Ideal) k (k0_pay6 q) lanes (k0_pay7 i) w1 (ix2 r j) = weight (blockScores k q r (i 2).val 1 w1) j := by
  pointwise [k0_pay15, scores1_apply, top1_apply, weight]
theorem total0_apply (z : Fin 1) : k0_pay11 (F := Ideal) i k q w0 (ix2 r z) = total (blockScores k q r (i 2).val 0 w0) := by
  pointwise [k0_pay11, weight0_apply, total]
theorem total1_apply (z : Fin 1) : k0_pay16 (F := Ideal) k (k0_pay6 q) lanes (k0_pay7 i) w1 (ix2 r z) = total (blockScores k q r (i 2).val 1 w1) := by
  pointwise [k0_pay16, weight1_apply, total]

theorem out_apply : k0_pay17 (F := Ideal) k v (k0_pay6 q) lanes (k0_pay7 i) (k0_pay11 i k q w0) (k0_pay12 i k q w0) w1 (ix2 r l)
    = if l.val < 64 then mean (blockScores k q r (i 2).val 0 w0) (fun j => v (ix2 j l)) else mean (blockScores k q r (i 2).val 1 w1) (fun j => v (ix2 j l)) := by
  pointwise [k0_pay17, k0_pay12, weight0_apply, weight1_apply, total0_apply, total1_apply]
  exact Convolution.select_lt (by omega) (by omega) _ _
theorem lse_apply : k0_pay18 (F := Ideal) k (k0_pay6 q) lanes (k0_pay7 i) (k0_pay9 i k q w0) (k0_pay11 i k q w0) w1 (ix2 r l)
    = if l.val < 64 then logTotal (blockScores k q r (i 2).val 0 w0) else logTotal (blockScores k q r (i 2).val 1 w1) := by
  pointwise [k0_pay18, total0_apply, total1_apply, top0_apply, top1_apply]
  exact Convolution.select_lt (by omega) (by omega) _ _

end Payloads

end Cert.Attention

namespace Cert.AttIdeal.Whole

open Cert.AttIdeal Cert.AttIdeal.Gen Cert.AttRow Cert.Attention

variable (m : (ℓ : Loc nD τ sig) → Buf (Elt Ideal) ℓ) (c : Dev nD)

theorem places : ∀ t : Fin cfg0.N, win0_0.index t = ![t.val / 128 * 32 + t.val % 32, 16 + t.val / 32 % 4] ∧ win0_1.index t = ![t.val / 128, 20 + t.val / 32 % 4]
    ∧ win0_2.index t = ![t.val / 128, 24 + t.val / 32 % 4] ∧ win0_3.index t = ![t.val / 32 % 4, 0, 0]
    ∧ win0_4.index t = ![t.val / 128 * 32 + t.val % 32, t.val / 32 % 4] ∧ win0_5.index t = ![t.val / 128 * 32 + t.val % 32, t.val / 32 % 4]
    ∧ (grid0.coords t 2).val = t.val % 32 :=
  (by decide +kernel : ∀ t : Fin grid0.N, _)

/-- The arguments. -/
abbrev p : FVec Ideal S4096x5760 .f32 := m ((c : Thread nD τ).loc main_arg0)
abbrev w : FVec Ideal S8x64x576 .f32 := m ((c : Thread nD τ).loc main_arg1)

/-- A point's sequence and chunk, its two heads, and its columns among a result's. -/
def seqT (t : Fin cfg0.N) : Fin 2 := ⟨t.val / 128, by have := lt_of_lt_of_eq t.isLt N_0; omega⟩
def chunkT (t : Fin cfg0.N) : Fin 32 := ⟨t.val % 32, by omega⟩
def headT (t : Fin cfg0.N) (h : Fin 2) : Fin 8 := ⟨t.val / 32 % 4 * 2 + h.val, by omega⟩
def colT (t : Fin cfg0.N) (l : Fin 128) : Fin 512 := ⟨t.val / 32 % 4 * 128 + l.val, by omega⟩

/-- What the two scratch arrays hold through a run of a sequence's chunks: the keys and the values of two heads after 512 rows of zeros. -/
def held (x : FVec Ideal S4096x5760 .f32) (o : ℕ) (ho : o ≤ 512) (t : Fin cfg0.N) : Vec Ideal S2560x128 .bf16 := fun y =>
  rows x (seqT t) (y 0) ⟨o + (colT t (y 1)).val, by omega⟩

theorem held_run (x : FVec Ideal S4096x5760 .f32) (o : ℕ) (ho : o ≤ 512) (t s : Fin cfg0.N) (h : s.val / 32 = t.val / 32) : held x o ho s = held x o ho t := by
  have e : seqT s = seqT t := Fin.ext (show s.val / 128 = t.val / 128 by omega)
  funext y
  show rows x (seqT s) (y 0) _ = rows x (seqT t) (y 0) _
  rw [e]
  exact congrArg (rows x (seqT t) (y 0)) (Fin.ext (show o + (s.val / 32 % 4 * 128 + (y 1 : Fin 128).val) = o + (t.val / 32 % 4 * 128 + (y 1 : Fin 128).val) by rw [h]))

/-- Rows stored after 512 others. -/
theorem stacked (a : Vec Ideal S2048x128 .bf16) (b : Vec Ideal S512x128 .bf16) (u : Fin 2560) (l : Fin 128) :
    View.canon (Val := Elt Ideal) (s := S2560x128) (e := .bf16) [⟨Rect.unit ![512, 0] ![2048, 128] inb_S2560x128_S2048x128_512_0, a⟩, ⟨Rect.unit ![0, 0] ![512, 128] inb_S2560x128_S512x128_0_0, b⟩] (ix2 u l)
      = if h : 512 ≤ u.val then a (ix2 ⟨u.val - 512, by omega⟩ l) else b (ix2 ⟨u.val, by omega⟩ l) := by
  by_cases h : 512 ≤ u.val
  · have e : (Rect.unit (s := S2560x128) ![512, 0] ![2048, 128] inb_S2560x128_S2048x128_512_0).emb (ix2 (⟨u.val - 512, by omega⟩ : Fin 2048) l) = ix2 u l := by
      funext d
      refine Fin.ext ?_
      rw [Rect.emb_apply]
      match d with
      | ⟨0, _⟩ => show 512 + 1 * (u.val - 512) = u.val; omega
      | ⟨1, _⟩ => show 0 + 1 * l.val = l.val; omega
    rw [dif_pos h, ← e]
    exact View.canon_cons_emb _ _ _ _
  · have e : (Rect.unit (s := S2560x128) ![0, 0] ![512, 128] inb_S2560x128_S512x128_0_0).emb (ix2 (⟨u.val, by omega⟩ : Fin 512) l) = ix2 u l := by
      funext d
      refine Fin.ext ?_
      rw [Rect.emb_apply]
      match d with
      | ⟨0, _⟩ => show 0 + 1 * u.val = u.val; omega
      | ⟨1, _⟩ => show 0 + 1 * l.val = l.val; omega
    have hm : ix2 u l ∉ (Rect.unit (s := S2560x128) ![512, 0] ![2048, 128] inb_S2560x128_S2048x128_512_0).set := fun hm => by
      have h0 : 512 ≤ u.val := (Rect.mem_set_unit (s := S2560x128) (off := ![512, 0]) (size := ![2048, 128]) (i := ix2 u l) |>.1 hm (0 : Fin 2)).1
      exact h h0
    rw [dif_neg h, ← e]
    rw [← e] at hm
    exact (View.canon_cons_of_not_mem (Val := Elt Ideal) (e := .bf16) ⟨Rect.unit (s := S2560x128) ![512, 0] ![2048, 128] inb_S2560x128_S2048x128_512_0, a⟩ _ hm).trans (View.canon_cons_emb _ _ _ _)

/-- A run's first point fills the scratch. -/
theorem filled (t : Fin cfg0.N) (o : ℕ) (ho : o ≤ 512) (a : Vec Ideal S2048x128 .bf16) (b : Vec Ideal S512x128 .bf16)
    (ha : ∀ (s : Fin 2048) (l : Fin 128), a (ix2 s l) = p m c (ix2 ⟨t.val / 128 * 2048 + s.val, by have := lt_of_lt_of_eq t.isLt N_0; omega⟩ ⟨2560 + (o + (colT t l).val), by omega⟩))
    (hb : ∀ y, b y = (0 : EReal)) :
    View.canon (Val := Elt Ideal) (s := S2560x128) (e := .bf16) [⟨Rect.unit ![512, 0] ![2048, 128] inb_S2560x128_S2048x128_512_0, a⟩, ⟨Rect.unit ![0, 0] ![512, 128] inb_S2560x128_S512x128_0_0, b⟩]
      = held (p m c) o ho t := by
  funext y
  obtain ⟨u, l, rfl⟩ : ∃ (u : Fin 2560) (l : Fin 128), ix2 u l = y := ⟨y 0, y 1, by funext a; match a with | ⟨0, _⟩ => rfl | ⟨1, _⟩ => rfl⟩
  refine (stacked a b u l).trans ?_
  show _ = rows (p m c) (seqT t) u ⟨o + (colT t l).val, _⟩
  rw [rows]
  by_cases h : 512 ≤ u.val
  · rw [dif_pos h, dif_pos h]
    exact ha _ l
  · rw [dif_neg h, dif_neg h]
    exact hb _

theorem keys_filled (t : Fin cfg0.N) : View.canon (Val := Elt Ideal) (s := S2560x128) (e := .bf16) [⟨Rect.unit ![512, 0] ![2048, 128] inb_S2560x128_S2048x128_512_0, k0_pay4 (F := Ideal) (iblk m c 1 t)⟩, ⟨Rect.unit ![0, 0] ![512, 128] inb_S2560x128_S512x128_0_0, k0_pay2 (F := Ideal)⟩]
    = held (p m c) 0 (by omega) t := by
  refine filled m c t 0 _ _ _ (fun s l => ?_) fun y => by pointwise [k0_pay2, k0_pay1]
  pointwise [k0_pay4]
  dsimp only [colT]
  blk_ext [iblk, V, places t]
theorem values_filled (t : Fin cfg0.N) : View.canon (Val := Elt Ideal) (s := S2560x128) (e := .bf16) [⟨Rect.unit ![512, 0] ![2048, 128] inb_S2560x128_S2048x128_512_0, k0_pay5 (F := Ideal) (iblk m c 2 t)⟩, ⟨Rect.unit ![0, 0] ![512, 128] inb_S2560x128_S512x128_0_0, k0_pay3 (F := Ideal)⟩]
    = held (p m c) 512 (by omega) t := by
  refine filled m c t 512 _ _ _ (fun s l => ?_) fun y => by pointwise [k0_pay3, k0_pay1]
  pointwise [k0_pay5]
  dsimp only [colT]
  blk_ext [iblk, V, places t]

/-- The scratch after any point. -/
theorem scratch (t : Fin cfg0.N) : (outsAt0 m c t.val t.isLt).2.2.1 = held (p m c) 0 (by omega) t
    ∧ (outsAt0 m c t.val t.isLt).2.2.2 = held (p m c) 512 (by omega) t := by
  have hrun : (⟨32 * (t.val / 32), Pipeline.run_start_lt t⟩ : Fin cfg0.N).val / 32 = t.val / 32 := by dsimp only; omega
  constructor
  · refine (Pipeline.eq_of_write_hold (fun n h => (outsAt0 m c n h).2.2.1) 32 (fun s => held (p m c) 0 (by omega) s) (fun s h => ?_) (fun s h => ?_) t).trans (held_run _ _ _ _ _ hrun)
    · refine Eq.trans ?_ (keys_filled m c s)
      rw [outsAt0_A m c s h]
      frame_out
    · rw [outsAt0_B m c s h]
      rfl
  · refine (Pipeline.eq_of_write_hold (fun n h => (outsAt0 m c n h).2.2.2) 32 (fun s => held (p m c) 512 (by omega) s) (fun s h => ?_) (fun s h => ?_) t).trans (held_run _ _ _ _ _ hrun)
    · refine Eq.trans ?_ (values_filled m c s)
      rw [outsAt0_A m c s h]
      frame_out
    · rw [outsAt0_B m c s h]
      rfl

/-- The scratch left by the point before, inside a run. -/
theorem before (t : Fin cfg0.N) (h : ¬t.val % 32 = 0) (hn : t.val - 1 < cfg0.N) : (outsAt0 m c (t.val - 1) hn).2.2.1 = held (p m c) 0 (by omega) t
    ∧ (outsAt0 m c (t.val - 1) hn).2.2.2 = held (p m c) 512 (by omega) t := by
  obtain ⟨h0, h1⟩ := scratch m c ⟨t.val - 1, hn⟩
  have e : (⟨t.val - 1, hn⟩ : Fin cfg0.N).val / 32 = t.val / 32 := by dsimp only; omega
  exact ⟨h0.trans (held_run _ _ _ _ _ e), h1.trans (held_run _ _ _ _ _ e)⟩

/-- The rows that a point loads of its scratch, its queries, and the bias of one of its heads. -/
abbrev loaded (t : Fin cfg0.N) (x : Vec Ideal S2560x128 .bf16) : Vec Ideal S576x128 .bf16 :=
  View.ld x (Rect.unit (s := S2560x128) (k0_off1 (grid0.coords t)) ![576, 128] (k0_off1_inb (grid0.coords t)))
abbrev q (t : Fin cfg0.N) : Vec Ideal S64x128 .f32 := iblk m c 0 t
abbrev bias0 (t : Fin cfg0.N) : Vec Ideal S1x64x576 .f32 := View.ld (iblk m c 3 t) (Rect.unit (s := S2x64x576) ![0, 0, 0] ![1, 64, 576] inb_S2x64x576_S1x64x576_0_0_0)
abbrev bias1 (t : Fin cfg0.N) : Vec Ideal S1x64x576 .f32 := View.ld (iblk m c 3 t) (Rect.unit (s := S2x64x576) ![1, 0, 0] ![1, 64, 576] inb_S2x64x576_S1x64x576_1_0_0)

theorem loaded_apply (t : Fin cfg0.N) (o : ℕ) (ho : o ≤ 512) (j : Fin 576) (l : Fin 128) :
    loaded t (held (p m c) o ho t) (ix2 j l) = band (p m c) (seqT t) (chunkT t) j ⟨o + (colT t l).val, by omega⟩ := by
  refine (View.ld_unit_apply_of _ _ _ _ _ (ix2 (⟨(chunkT t).val * 64 + j.val, by omega⟩ : Fin 2560) l) fun a => ?_).trans rfl
  refine Eq.trans ?_ (congrArg (· + (ix2 j l a).val) (congrFun (k0_off1_eq (grid0.coords t)) a).symm)
  have hc := (places t).2.2.2.2.2.2
  match a with
  | ⟨0, _⟩ => show t.val % 32 * 64 + j.val = 64 * (grid0.coords t 2).val + j.val; omega
  | ⟨1, _⟩ => show l.val = 0 + l.val; omega

theorem scores_at (t : Fin cfg0.N) (r : Fin 64) (h : Fin 2) (b : Vec Ideal S1x64x576 .f32) (hb : ∀ j, b (ix3 0 r j) = w m c (ix3 (headT t h) r j)) :
    blockScores (loaded t (held (p m c) 0 (by omega) t)) (q m c t) r (grid0.coords t 2).val h b = scores (p m c) (w m c) (seqT t) (chunkT t) r (headT t h) := by
  rw [blockScores, scores, (places t).2.2.2.2.2.2, funext hb]
  congr 1
  · funext l
    dsimp only [query, q, tok, seqT, chunkT, headT]
    blk_ext [iblk, V, places t]
  · funext j l
    refine (loaded_apply m c t 0 _ j _).trans (congrArg (band _ _ _ j) (Fin.ext ?_))
    dsimp only [colT, headT]
    omega

theorem bias_at (t : Fin cfg0.N) (r : Fin 64) (j : Fin 576) : bias0 m c t (ix3 0 r j) = w m c (ix3 (headT t 0) r j) ∧ bias1 m c t (ix3 0 r j) = w m c (ix3 (headT t 1) r j) := by
  constructor
  · refine (View.ld_unit_apply_of _ _ _ _ _ (ix3 (0 : Fin 2) r j) fun a => ?_).trans ?_
    · match a with
      | ⟨0, _⟩ => rfl
      | ⟨1, _⟩ => show r.val = 0 + r.val; omega
      | ⟨2, _⟩ => show j.val = 0 + j.val; omega
    · dsimp only [headT]
      blk_ext [iblk, V, places t]
  · refine (View.ld_unit_apply_of _ _ _ _ _ (ix3 (1 : Fin 2) r j) fun a => ?_).trans ?_
    · match a with
      | ⟨0, _⟩ => rfl
      | ⟨1, _⟩ => show r.val = 0 + r.val; omega
      | ⟨2, _⟩ => show j.val = 0 + j.val; omega
    · dsimp only [headT]
      blk_ext [iblk, V, places t]

/-- A point's token and column, taken apart again. -/
theorem split_tok (b : Fin 2) (n : Fin 32) (r : Fin 64) : seqOf (tok b n r) = b ∧ chunkOf (tok b n r) = n ∧ rowOf (tok b n r) = r :=
  ⟨Fin.ext (show (b.val * 2048 + n.val * 64 + r.val) / 2048 = b.val by omega), Fin.ext (show (b.val * 2048 + n.val * 64 + r.val) / 64 % 32 = n.val by omega),
    Fin.ext (show (b.val * 2048 + n.val * 64 + r.val) % 64 = r.val by omega)⟩
theorem head_col (t : Fin cfg0.N) (l : Fin 128) (h : Fin 2) (hl : l.val / 64 = h.val) : headOf (colT t l) = headT t h :=
  Fin.ext (show (t.val / 32 % 4 * 128 + l.val) / 64 = t.val / 32 % 4 * 2 + h.val by omega)

/-- A point's entries of the two results. -/
theorem stored4 (t : Fin cfg0.N) (y : S64x128.Idx) :
    k0_pay17 (F := Ideal) (loaded t (held (p m c) 0 (by omega) t)) (loaded t (held (p m c) 512 (by omega) t)) (k0_pay6 (q m c t)) lanes (k0_pay7 (grid0.coords t))
      (k0_pay11 (grid0.coords t) (loaded t (held (p m c) 0 (by omega) t)) (q m c t) (bias0 m c t)) (k0_pay12 (grid0.coords t) (loaded t (held (p m c) 0 (by omega) t)) (q m c t) (bias0 m c t)) (bias1 m c t) y
      = outs (p m c) (w m c) (((cfg0.win 4).blk t).view.emb y) := by
  obtain ⟨r, l, rfl⟩ : ∃ (r : Fin 64) (l : Fin 128), ix2 r l = y := ⟨y 0, y 1, by funext a; match a with | ⟨0, _⟩ => rfl | ⟨1, _⟩ => rfl⟩
  refine (out_apply ..).trans (Eq.trans ?_ (congrArg (outs (p m c) (w m c)) (?_ : ix2 (tok (seqT t) (chunkT t) r) (colT t l) = _)))
  · show _ = outAt (p m c) (w m c) (seqOf (tok (seqT t) (chunkT t) r)) (chunkOf (tok (seqT t) (chunkT t) r)) (rowOf (tok (seqT t) (chunkT t) r)) (colT t l)
    obtain ⟨e0, e1, e2⟩ := split_tok (seqT t) (chunkT t) r
    rw [e0, e1, e2, outAt, scores_at m c t r 0 _ fun j => (bias_at m c t r j).1, scores_at m c t r 1 _ fun j => (bias_at m c t r j).2,
      funext fun j => loaded_apply m c t 512 (by omega) j l]
    by_cases h : l.val < 64
    · rw [if_pos h, head_col t l 0 (by show l.val / 64 = 0; omega)]
    · rw [if_neg h, head_col t l 1 (by show l.val / 64 = 1; omega)]
  · dsimp only [tok, seqT, chunkT, colT]
    blk_ext [places t]
theorem stored5 (t : Fin cfg0.N) (y : S64x128.Idx) :
    k0_pay18 (F := Ideal) (loaded t (held (p m c) 0 (by omega) t)) (k0_pay6 (q m c t)) lanes (k0_pay7 (grid0.coords t))
      (k0_pay9 (grid0.coords t) (loaded t (held (p m c) 0 (by omega) t)) (q m c t) (bias0 m c t)) (k0_pay11 (grid0.coords t) (loaded t (held (p m c) 0 (by omega) t)) (q m c t) (bias0 m c t)) (bias1 m c t) y
      = lses (p m c) (w m c) (((cfg0.win 5).blk t).view.emb y) := by
  obtain ⟨r, l, rfl⟩ : ∃ (r : Fin 64) (l : Fin 128), ix2 r l = y := ⟨y 0, y 1, by funext a; match a with | ⟨0, _⟩ => rfl | ⟨1, _⟩ => rfl⟩
  refine (lse_apply ..).trans (Eq.trans ?_ (congrArg (lses (p m c) (w m c)) (?_ : ix2 (tok (seqT t) (chunkT t) r) (colT t l) = _)))
  · show _ = lseAt (p m c) (w m c) (seqOf (tok (seqT t) (chunkT t) r)) (chunkOf (tok (seqT t) (chunkT t) r)) (rowOf (tok (seqT t) (chunkT t) r)) (colT t l)
    obtain ⟨e0, e1, e2⟩ := split_tok (seqT t) (chunkT t) r
    rw [e0, e1, e2, lseAt, scores_at m c t r 0 _ fun j => (bias_at m c t r j).1, scores_at m c t r 1 _ fun j => (bias_at m c t r j).2]
    by_cases h : l.val < 64
    · rw [if_pos h, head_col t l 0 (by show l.val / 64 = 0; omega)]
    · rw [if_neg h, head_col t l 1 (by show l.val / 64 = 1; omega)]
  · dsimp only [tok, seqT, chunkT, colT]
    blk_ext [places t]

/-- The results after the run. -/
theorem final4 : (dats m 0 c).arrAt 4 cfg0.N = outs (p m c) (w m c) := by
  refine (dats m 0 c).arrAt_eq_of_covers 4 _ (by decide +kernel) fun t _ y => ?_
  blk_simp
  rw [after0_4]
  refine Eq.trans ?_ (stored4 m c t y)
  by_cases h : t.val % 32 = 0
  · rw [outsAt0_A m c t h]
    frame_out
    rw [keys_filled, values_filled]
    rfl
  · rw [outsAt0_B m c t h]
    frame_out
    simp only [read_unread_whole]
    rw [(before m c t h _).1, (before m c t h _).2]
    rfl
theorem final5 : (dats m 0 c).arrAt 5 cfg0.N = lses (p m c) (w m c) := by
  refine (dats m 0 c).arrAt_eq_of_covers 5 _ (by decide +kernel) fun t _ y => ?_
  blk_simp
  rw [after0_5]
  refine Eq.trans ?_ (stored5 m c t y)
  by_cases h : t.val % 32 = 0
  · rw [outsAt0_A m c t h]
    frame_out
    rw [keys_filled]
    rfl
  · rw [outsAt0_B m c t h]
    frame_out
    simp only [read_unread_whole]
    rw [(before m c t h _).1]
    rfl

end Cert.AttIdeal.Whole

end
-- ==== Proof.AttClaims.lean ====
/-
The claims about banded attention.
-/
module

public import proofs.«01_k».proof.Defs
public import proofs.«01_k».proof.Proof.Gen.Att.Frame
public import proofs.«01_k».proof.Proof.AttKernel

@[expose] public section

set_option maxRecDepth 16384

noncomputable section

open Idealize.ShloMosaic Idealize.ShloMosaic.TcCoe Idealize.SL.Sem

namespace Cert.Attention

theorem frame_kernel : Cert.quiescent_Att := fun m ρ _ => Cert.Att.Gen.frame (F := Bits) m ρ
theorem frame_ideal : Cert.quiescent_AttIdeal := fun m ρ _ => Cert.AttIdeal.Gen.frame (F := Ideal) m ρ
theorem frame_ref_ideal : Cert.quiescent_AttRefIdeal := fun m ρ _ =>
  (θ_run _ _ _).mono (fun r h => ⟨fun c => (h c).2.2, sem_eq_zero_of_no_sems (by decide) r.2⟩) (Cert.AttRefIdeal.Value.run (F := Ideal) m ρ)

/-- In exact arithmetic, the kernel's and the reference's results are the same. -/
theorem algebraic : Cert.algebraic_AttIdeal_AttRefIdeal := fun m ρ m' ρ' _ hag =>
  ⟨_, _, (θ_run _ _ _).mono (fun r h c => ⟨(h c).1.trans (Cert.AttIdeal.Whole.final4 m c), (h c).2.1.trans (Cert.AttIdeal.Whole.final5 m c), (h c).2.2⟩)
      (Cert.AttIdeal.Value.run_blocks (F := Ideal) m ρ),
    (θ_run _ _ _).mono (fun r h c => by
      obtain ⟨a0, a1⟩ := hag c
      refine ⟨(h c).1.trans ?_, (h c).2.1.trans ?_, (h c).2.2⟩
      · refine Eq.trans ?_ (outs_eq (Cert.AttIdeal.Whole.p m c) (Cert.AttIdeal.Whole.w m c))
        unfold Cert.AttRefIdeal.Value.res_main_v52
        rw [a0, a1]
        rfl
      · refine Eq.trans ?_ (lses_eq (Cert.AttIdeal.Whole.p m c) (Cert.AttIdeal.Whole.w m c))
        unfold Cert.AttRefIdeal.Value.res_main_v54
        rw [a0, a1]
        rfl)
    (Cert.AttRefIdeal.Value.run (F := Ideal) m' ρ')⟩

end Cert.Attention

end
-- ==== Proof.lean ====
/-
The proof of `Cert.Claim`: the collectives, the sum of the parts that they carry, the gradient through the
input projection, the gradients of weights, the network's head, the feed-forward layer's gradient, the merge of the two mixers and
its gradient, the convolution and its gradients, banded attention, and the AdamW steps of the training step, each by its own modules (Proof/).
-/
module

public import proofs.«01_k».proof.Defs
public import proofs.«01_k».proof.Proof.SwapClaims
public import proofs.«01_k».proof.Proof.GatherClaims
public import proofs.«01_k».proof.Proof.JoinClaims
public import proofs.«01_k».proof.Proof.ExchangeClaims
public import proofs.«01_k».proof.Proof.AdamClaims
public import proofs.«01_k».proof.Proof.SumClaims
public import proofs.«01_k».proof.Proof.InputClaims
public import proofs.«01_k».proof.Proof.DwClaims
public import proofs.«01_k».proof.Proof.HeadClaims
public import proofs.«01_k».proof.Proof.FfnBackClaims
public import proofs.«01_k».proof.Proof.MidClaims
public import proofs.«01_k».proof.Proof.MidBackClaims
public import proofs.«01_k».proof.Proof.ConvClaims
public import proofs.«01_k».proof.Proof.AttClaims

@[expose] public section

/-- Every claim: the programs' facts, the frames, then the values. -/
theorem Cert.Proof.claim : Cert.Claim :=
  ⟨Cert.Swap.Gen.facts, Cert.SwapIdeal.Gen.facts, Cert.SwapRefIdeal.Gen.facts, Cert.SwapRef.Gen.facts,
    Cert.Exchange.Gen.facts, Cert.ExchangeIdeal.Gen.facts, Cert.ExchangeRefIdeal.Gen.facts, Cert.ExchangeRef.Gen.facts,
    Cert.Join.Gen.facts, Cert.JoinIdeal.Gen.facts, Cert.JoinRefIdeal.Gen.facts, Cert.JoinRef.Gen.facts,
    Cert.Gather.Gen.facts, Cert.GatherIdeal.Gen.facts, Cert.GatherRefIdeal.Gen.facts, Cert.GatherRef.Gen.facts,
    Cert.AdamIn.Gen.facts, Cert.AdamInIdeal.Gen.facts, Cert.AdamInRefIdeal.Gen.facts,
    Cert.AdamBranch.Gen.facts, Cert.AdamBranchIdeal.Gen.facts, Cert.AdamBranchRefIdeal.Gen.facts,
    Cert.AdamOut.Gen.facts, Cert.AdamOutIdeal.Gen.facts, Cert.AdamOutRefIdeal.Gen.facts,
    Cert.AdamGateUp.Gen.facts, Cert.AdamGateUpIdeal.Gen.facts, Cert.AdamGateUpRefIdeal.Gen.facts,
    Cert.AdamDown.Gen.facts, Cert.AdamDownIdeal.Gen.facts, Cert.AdamDownRefIdeal.Gen.facts,
    Cert.AdamProj.Gen.facts, Cert.AdamProjIdeal.Gen.facts, Cert.AdamProjRefIdeal.Gen.facts,
    Cert.AdamSmall.Gen.facts, Cert.AdamSmallIdeal.Gen.facts, Cert.AdamSmallRefIdeal.Gen.facts,
    Cert.Sum.Gen.facts, Cert.SumIdeal.Gen.facts, Cert.SumRefIdeal.Gen.facts, Cert.SumRef.Gen.facts,
    Cert.Input.Gen.facts, Cert.InputIdeal.Gen.facts, Cert.InputRefIdeal.Gen.facts,
    Cert.DwDown.Gen.facts, Cert.DwDownIdeal.Gen.facts, Cert.DwDownRefIdeal.Gen.facts,
    Cert.Head.Gen.facts, Cert.HeadIdeal.Gen.facts, Cert.HeadRefIdeal.Gen.facts,
    Cert.FfnBack.Gen.facts, Cert.FfnBackIdeal.Gen.facts, Cert.FfnBackRefIdeal.Gen.facts,
    Cert.Mid.Gen.facts, Cert.MidIdeal.Gen.facts, Cert.MidRefIdeal.Gen.facts,
    Cert.MidBack.Gen.facts, Cert.MidBackIdeal.Gen.facts, Cert.MidBackRefIdeal.Gen.facts,
    Cert.DwGate.Gen.facts, Cert.DwGateIdeal.Gen.facts, Cert.DwGateRefIdeal.Gen.facts,
    Cert.DwIn2048.Gen.facts, Cert.DwIn2048Ideal.Gen.facts, Cert.DwIn2048RefIdeal.Gen.facts,
    Cert.DwIn1536.Gen.facts, Cert.DwIn1536Ideal.Gen.facts, Cert.DwIn1536RefIdeal.Gen.facts,
    Cert.DwIn512.Gen.facts, Cert.DwIn512Ideal.Gen.facts, Cert.DwIn512RefIdeal.Gen.facts,
    Cert.DwIn128.Gen.facts, Cert.DwIn128Ideal.Gen.facts, Cert.DwIn128RefIdeal.Gen.facts,
    Cert.Conv.Gen.facts, Cert.ConvIdeal.Gen.facts, Cert.ConvRefIdeal.Gen.facts,
    Cert.ConvBack.Gen.facts, Cert.ConvBackIdeal.Gen.facts, Cert.ConvBackRefIdeal.Gen.facts,
    Cert.Att.Gen.facts, Cert.AttIdeal.Gen.facts, Cert.AttRefIdeal.Gen.facts,
    Cert.Swapping.frame_kernel, Cert.Swapping.frame_ideal, Cert.Swapping.frame_ref_ideal, Cert.Swapping.frame_ref,
    Cert.Exchanging.frame_kernel, Cert.Exchanging.frame_ideal, Cert.Exchanging.frame_ref_ideal, Cert.Exchanging.frame_ref,
    Cert.Joining.frame_kernel, Cert.Joining.frame_ideal, Cert.Joining.frame_ref_ideal, Cert.Joining.frame_ref,
    Cert.Gathering.frame_kernel, Cert.Gathering.frame_ideal, Cert.Gathering.frame_ref_ideal, Cert.Gathering.frame_ref,
    Cert.AdamInClaims.frame_kernel, Cert.AdamInClaims.frame_ideal, Cert.AdamInClaims.frame_ref_ideal,
    Cert.AdamBranchClaims.frame_kernel, Cert.AdamBranchClaims.frame_ideal, Cert.AdamBranchClaims.frame_ref_ideal,
    Cert.AdamOutClaims.frame_kernel, Cert.AdamOutClaims.frame_ideal, Cert.AdamOutClaims.frame_ref_ideal,
    Cert.AdamGateUpClaims.frame_kernel, Cert.AdamGateUpClaims.frame_ideal, Cert.AdamGateUpClaims.frame_ref_ideal,
    Cert.AdamDownClaims.frame_kernel, Cert.AdamDownClaims.frame_ideal, Cert.AdamDownClaims.frame_ref_ideal,
    Cert.AdamProjClaims.frame_kernel, Cert.AdamProjClaims.frame_ideal, Cert.AdamProjClaims.frame_ref_ideal,
    Cert.AdamSmallClaims.frame_kernel, Cert.AdamSmallClaims.frame_ideal, Cert.AdamSmallClaims.frame_ref_ideal,
    Cert.Summing.frame_kernel, Cert.Summing.frame_ideal, Cert.Summing.frame_ref_ideal, Cert.Summing.frame_ref,
    Cert.InputGrad.frame_kernel, Cert.InputGrad.frame_ideal, Cert.InputGrad.frame_ref_ideal,
    Cert.DwDownClaims.frame_kernel, Cert.DwDownClaims.frame_ideal, Cert.DwDownClaims.frame_ref_ideal,
    Cert.HeadGrad.frame_kernel, Cert.HeadGrad.frame_ideal, Cert.HeadGrad.frame_ref_ideal,
    Cert.FfnGrad.frame_kernel, Cert.FfnGrad.frame_ideal, Cert.FfnGrad.frame_ref_ideal,
    Cert.Merge.frame_kernel, Cert.Merge.frame_ideal, Cert.Merge.frame_ref_ideal,
    Cert.MergeGrad.frame_kernel, Cert.MergeGrad.frame_ideal, Cert.MergeGrad.frame_ref_ideal,
    Cert.DwGateClaims.frame_kernel, Cert.DwGateClaims.frame_ideal, Cert.DwGateClaims.frame_ref_ideal,
    Cert.DwIn2048Claims.frame_kernel, Cert.DwIn2048Claims.frame_ideal, Cert.DwIn2048Claims.frame_ref_ideal,
    Cert.DwIn1536Claims.frame_kernel, Cert.DwIn1536Claims.frame_ideal, Cert.DwIn1536Claims.frame_ref_ideal,
    Cert.DwIn512Claims.frame_kernel, Cert.DwIn512Claims.frame_ideal, Cert.DwIn512Claims.frame_ref_ideal,
    Cert.DwIn128Claims.frame_kernel, Cert.DwIn128Claims.frame_ideal, Cert.DwIn128Claims.frame_ref_ideal,
    Cert.Convolution.frame_kernel, Cert.Convolution.frame_ideal, Cert.Convolution.frame_ref_ideal,
    Cert.ConvolutionBack.frame_kernel, Cert.ConvolutionBack.frame_ideal, Cert.ConvolutionBack.frame_ref_ideal,
    Cert.Attention.frame_kernel, Cert.Attention.frame_ideal, Cert.Attention.frame_ref_ideal,
    trivial, Cert.Swapping.algebraic, Cert.Swapping.bitexact,
    trivial, Cert.Exchanging.algebraic, Cert.Exchanging.bitexact,
    trivial, Cert.Joining.algebraic, Cert.Joining.bitexact,
    trivial, Cert.Gathering.algebraic, Cert.Gathering.bitexact,
    trivial, Cert.AdamInClaims.algebraic,
    trivial, Cert.AdamBranchClaims.algebraic,
    trivial, Cert.AdamOutClaims.algebraic,
    trivial, Cert.AdamGateUpClaims.algebraic,
    trivial, Cert.AdamDownClaims.algebraic,
    trivial, Cert.AdamProjClaims.algebraic,
    trivial, Cert.AdamSmallClaims.algebraic,
    trivial, Cert.Summing.algebraic, Cert.Summing.bitexact,
    trivial, Cert.InputGrad.algebraic,
    trivial, Cert.DwDownClaims.algebraic,
    trivial, Cert.HeadGrad.algebraic,
    trivial, Cert.FfnGrad.algebraic,
    trivial, Cert.Merge.algebraic,
    trivial, Cert.MergeGrad.algebraic,
    trivial, Cert.DwGateClaims.algebraic,
    trivial, Cert.DwIn2048Claims.algebraic,
    trivial, Cert.DwIn1536Claims.algebraic,
    trivial, Cert.DwIn512Claims.algebraic,
    trivial, Cert.DwIn128Claims.algebraic,
    trivial, Cert.Convolution.algebraic,
    trivial, Cert.ConvolutionBack.algebraic,
    trivial, Cert.Attention.algebraic⟩

end
